-- ==== Defs.lean ====
def Pre_Rms2 (m : (ℓ : Loc Cert.Rms2.nD Cert.Rms2.τ Cert.Rms2.sig) → Buf (Elt Bits) ℓ) : Prop :=
  True

def Pre_Rms2Ideal (m : (ℓ : Loc Cert.Rms2Ideal.nD Cert.Rms2Ideal.τ Cert.Rms2Ideal.sig) → Buf (Elt Ideal) ℓ) : Prop :=
  True

def Pre_Rms2Ideal_rms2_finite [hPre_rms2_finite : Cert.Pre_rms2_finite.Facts] (m : (ℓ : Loc Cert.Rms2Ideal.nD Cert.Rms2Ideal.τ Cert.Rms2Ideal.sig) → Buf (Elt Ideal) ℓ) : Prop :=
  ∀ c : Dev Cert.Rms2Ideal.nD,
    (Cert.Pre_rms2_finite.fn (F := Ideal) (m ((c.tc : Thread Cert.Rms2Ideal.nD Cert.Rms2Ideal.τ).loc Cert.Rms2Ideal.main_arg0)) (m ((c.tc : Thread Cert.Rms2Ideal.nD Cert.Rms2Ideal.τ).loc Cert.Rms2Ideal.main_arg1)) (m ((c.tc : Thread Cert.Rms2Ideal.nD Cert.Rms2Ideal.τ).loc Cert.Rms2Ideal.main_arg2)) (m ((c.tc : Thread Cert.Rms2Ideal.nD Cert.Rms2Ideal.τ).loc Cert.Rms2Ideal.main_arg3))).1 = (fun _ => 1#1)
    ∧ (Cert.Pre_rms2_finite.fn (F := Ideal) (m ((c.tc : Thread Cert.Rms2Ideal.nD Cert.Rms2Ideal.τ).loc Cert.Rms2Ideal.main_arg0)) (m ((c.tc : Thread Cert.Rms2Ideal.nD Cert.Rms2Ideal.τ).loc Cert.Rms2Ideal.main_arg1)) (m ((c.tc : Thread Cert.Rms2Ideal.nD Cert.Rms2Ideal.τ).loc Cert.Rms2Ideal.main_arg2)) (m ((c.tc : Thread Cert.Rms2Ideal.nD Cert.Rms2Ideal.τ).loc Cert.Rms2Ideal.main_arg3))).2.1 = (fun _ => 1#1)
    ∧ (Cert.Pre_rms2_finite.fn (F := Ideal) (m ((c.tc : Thread Cert.Rms2Ideal.nD Cert.Rms2Ideal.τ).loc Cert.Rms2Ideal.main_arg0)) (m ((c.tc : Thread Cert.Rms2Ideal.nD Cert.Rms2Ideal.τ).loc Cert.Rms2Ideal.main_arg1)) (m ((c.tc : Thread Cert.Rms2Ideal.nD Cert.Rms2Ideal.τ).loc Cert.Rms2Ideal.main_arg2)) (m ((c.tc : Thread Cert.Rms2Ideal.nD Cert.Rms2Ideal.τ).loc Cert.Rms2Ideal.main_arg3))).2.2 = (fun _ => 1#1)

def Pre_Rms2RefIdeal (m : (ℓ : Loc Cert.Rms2RefIdeal.nD Cert.Rms2RefIdeal.τ Cert.Rms2RefIdeal.sig) → Buf (Elt Ideal) ℓ) : Prop :=
  True

def Pre_Rms2RefIdeal_rms2_finite [hPre_rms2_finite : Cert.Pre_rms2_finite.Facts] (m : (ℓ : Loc Cert.Rms2RefIdeal.nD Cert.Rms2RefIdeal.τ Cert.Rms2RefIdeal.sig) → Buf (Elt Ideal) ℓ) : Prop :=
  ∀ c : Dev Cert.Rms2RefIdeal.nD,
    (Cert.Pre_rms2_finite.fn (F := Ideal) (m ((c.tc : Thread Cert.Rms2RefIdeal.nD Cert.Rms2RefIdeal.τ).loc Cert.Rms2RefIdeal.main_arg0)) (m ((c.tc : Thread Cert.Rms2RefIdeal.nD Cert.Rms2RefIdeal.τ).loc Cert.Rms2RefIdeal.main_arg1)) (m ((c.tc : Thread Cert.Rms2RefIdeal.nD Cert.Rms2RefIdeal.τ).loc Cert.Rms2RefIdeal.main_arg2)) (m ((c.tc : Thread Cert.Rms2RefIdeal.nD Cert.Rms2RefIdeal.τ).loc Cert.Rms2RefIdeal.main_arg3))).1 = (fun _ => 1#1)
    ∧ (Cert.Pre_rms2_finite.fn (F := Ideal) (m ((c.tc : Thread Cert.Rms2RefIdeal.nD Cert.Rms2RefIdeal.τ).loc Cert.Rms2RefIdeal.main_arg0)) (m ((c.tc : Thread Cert.Rms2RefIdeal.nD Cert.Rms2RefIdeal.τ).loc Cert.Rms2RefIdeal.main_arg1)) (m ((c.tc : Thread Cert.Rms2RefIdeal.nD Cert.Rms2RefIdeal.τ).loc Cert.Rms2RefIdeal.main_arg2)) (m ((c.tc : Thread Cert.Rms2RefIdeal.nD Cert.Rms2RefIdeal.τ).loc Cert.Rms2RefIdeal.main_arg3))).2.1 = (fun _ => 1#1)
    ∧ (Cert.Pre_rms2_finite.fn (F := Ideal) (m ((c.tc : Thread Cert.Rms2RefIdeal.nD Cert.Rms2RefIdeal.τ).loc Cert.Rms2RefIdeal.main_arg0)) (m ((c.tc : Thread Cert.Rms2RefIdeal.nD Cert.Rms2RefIdeal.τ).loc Cert.Rms2RefIdeal.main_arg1)) (m ((c.tc : Thread Cert.Rms2RefIdeal.nD Cert.Rms2RefIdeal.τ).loc Cert.Rms2RefIdeal.main_arg2)) (m ((c.tc : Thread Cert.Rms2RefIdeal.nD Cert.Rms2RefIdeal.τ).loc Cert.Rms2RefIdeal.main_arg3))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_Rms1 (m : (ℓ : Loc Cert.Rms1.nD Cert.Rms1.τ Cert.Rms1.sig) → Buf (Elt Bits) ℓ) : Prop :=
  True

def Pre_Rms1Ideal (m : (ℓ : Loc Cert.Rms1Ideal.nD Cert.Rms1Ideal.τ Cert.Rms1Ideal.sig) → Buf (Elt Ideal) ℓ) : Prop :=
  True

def Pre_Rms1Ideal_rms1_finite [hPre_rms1_finite : Cert.Pre_rms1_finite.Facts] (m : (ℓ : Loc Cert.Rms1Ideal.nD Cert.Rms1Ideal.τ Cert.Rms1Ideal.sig) → Buf (Elt Ideal) ℓ) : Prop :=
  ∀ c : Dev Cert.Rms1Ideal.nD,
    (Cert.Pre_rms1_finite.fn (F := Ideal) (m ((c.tc : Thread Cert.Rms1Ideal.nD Cert.Rms1Ideal.τ).loc Cert.Rms1Ideal.main_arg0)) (m ((c.tc : Thread Cert.Rms1Ideal.nD Cert.Rms1Ideal.τ).loc Cert.Rms1Ideal.main_arg1)) (m ((c.tc : Thread Cert.Rms1Ideal.nD Cert.Rms1Ideal.τ).loc Cert.Rms1Ideal.main_arg2)) (m ((c.tc : Thread Cert.Rms1Ideal.nD Cert.Rms1Ideal.τ).loc Cert.Rms1Ideal.main_arg3))).1 = (fun _ => 1#1)
    ∧ (Cert.Pre_rms1_finite.fn (F := Ideal) (m ((c.tc : Thread Cert.Rms1Ideal.nD Cert.Rms1Ideal.τ).loc Cert.Rms1Ideal.main_arg0)) (m ((c.tc : Thread Cert.Rms1Ideal.nD Cert.Rms1Ideal.τ).loc Cert.Rms1Ideal.main_arg1)) (m ((c.tc : Thread Cert.Rms1Ideal.nD Cert.Rms1Ideal.τ).loc Cert.Rms1Ideal.main_arg2)) (m ((c.tc : Thread Cert.Rms1Ideal.nD Cert.Rms1Ideal.τ).loc Cert.Rms1Ideal.main_arg3))).2.1 = (fun _ => 1#1)
    ∧ (Cert.Pre_rms1_finite.fn (F := Ideal) (m ((c.tc : Thread Cert.Rms1Ideal.nD Cert.Rms1Ideal.τ).loc Cert.Rms1Ideal.main_arg0)) (m ((c.tc : Thread Cert.Rms1Ideal.nD Cert.Rms1Ideal.τ).loc Cert.Rms1Ideal.main_arg1)) (m ((c.tc : Thread Cert.Rms1Ideal.nD Cert.Rms1Ideal.τ).loc Cert.Rms1Ideal.main_arg2)) (m ((c.tc : Thread Cert.Rms1Ideal.nD Cert.Rms1Ideal.τ).loc Cert.Rms1Ideal.main_arg3))).2.2 = (fun _ => 1#1)

def Pre_Rms1RefIdeal (m : (ℓ : Loc Cert.Rms1RefIdeal.nD Cert.Rms1RefIdeal.τ Cert.Rms1RefIdeal.sig) → Buf (Elt Ideal) ℓ) : Prop :=
  True

def Pre_Rms1RefIdeal_rms1_finite [hPre_rms1_finite : Cert.Pre_rms1_finite.Facts] (m : (ℓ : Loc Cert.Rms1RefIdeal.nD Cert.Rms1RefIdeal.τ Cert.Rms1RefIdeal.sig) → Buf (Elt Ideal) ℓ) : Prop :=
  ∀ c : Dev Cert.Rms1RefIdeal.nD,
    (Cert.Pre_rms1_finite.fn (F := Ideal) (m ((c.tc : Thread Cert.Rms1RefIdeal.nD Cert.Rms1RefIdeal.τ).loc Cert.Rms1RefIdeal.main_arg0)) (m ((c.tc : Thread Cert.Rms1RefIdeal.nD Cert.Rms1RefIdeal.τ).loc Cert.Rms1RefIdeal.main_arg1)) (m ((c.tc : Thread Cert.Rms1RefIdeal.nD Cert.Rms1RefIdeal.τ).loc Cert.Rms1RefIdeal.main_arg2)) (m ((c.tc : Thread Cert.Rms1RefIdeal.nD Cert.Rms1RefIdeal.τ).loc Cert.Rms1RefIdeal.main_arg3))).1 = (fun _ => 1#1)
    ∧ (Cert.Pre_rms1_finite.fn (F := Ideal) (m ((c.tc : Thread Cert.Rms1RefIdeal.nD Cert.Rms1RefIdeal.τ).loc Cert.Rms1RefIdeal.main_arg0)) (m ((c.tc : Thread Cert.Rms1RefIdeal.nD Cert.Rms1RefIdeal.τ).loc Cert.Rms1RefIdeal.main_arg1)) (m ((c.tc : Thread Cert.Rms1RefIdeal.nD Cert.Rms1RefIdeal.τ).loc Cert.Rms1RefIdeal.main_arg2)) (m ((c.tc : Thread Cert.Rms1RefIdeal.nD Cert.Rms1RefIdeal.τ).loc Cert.Rms1RefIdeal.main_arg3))).2.1 = (fun _ => 1#1)
    ∧ (Cert.Pre_rms1_finite.fn (F := Ideal) (m ((c.tc : Thread Cert.Rms1RefIdeal.nD Cert.Rms1RefIdeal.τ).loc Cert.Rms1RefIdeal.main_arg0)) (m ((c.tc : Thread Cert.Rms1RefIdeal.nD Cert.Rms1RefIdeal.τ).loc Cert.Rms1RefIdeal.main_arg1)) (m ((c.tc : Thread Cert.Rms1RefIdeal.nD Cert.Rms1RefIdeal.τ).loc Cert.Rms1RefIdeal.main_arg2)) (m ((c.tc : Thread Cert.Rms1RefIdeal.nD Cert.Rms1RefIdeal.τ).loc Cert.Rms1RefIdeal.main_arg3))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def Pre_Trail (m : (ℓ : Loc Cert.Trail.nD Cert.Trail.τ Cert.Trail.sig) → Buf (Elt Bits) ℓ) : Prop :=
  True

def Pre_TrailIdeal (m : (ℓ : Loc Cert.TrailIdeal.nD Cert.TrailIdeal.τ Cert.TrailIdeal.sig) → Buf (Elt Ideal) ℓ) : Prop :=
  True

def Pre_TrailIdeal_trail_finite [hPre_trail_finite : Cert.Pre_trail_finite.Facts] (m : (ℓ : Loc Cert.TrailIdeal.nD Cert.TrailIdeal.τ Cert.TrailIdeal.sig) → Buf (Elt Ideal) ℓ) : Prop :=
  ∀ c : Dev Cert.TrailIdeal.nD,
    (Cert.Pre_trail_finite.fn (F := Ideal) (m ((c.tc : Thread Cert.TrailIdeal.nD Cert.TrailIdeal.τ).loc Cert.TrailIdeal.main_arg0))) = (fun _ => 1#1)

def Pre_TrailRefIdeal (m : (ℓ : Loc Cert.TrailRefIdeal.nD Cert.TrailRefIdeal.τ Cert.TrailRefIdeal.sig) → Buf (Elt Ideal) ℓ) : Prop :=
  True

def Pre_TrailRefIdeal_trail_finite [hPre_trail_finite : Cert.Pre_trail_finite.Facts] (m : (ℓ : Loc Cert.TrailRefIdeal.nD Cert.TrailRefIdeal.τ Cert.TrailRefIdeal.sig) → Buf (Elt Ideal) ℓ) : Prop :=
  ∀ c : Dev Cert.TrailRefIdeal.nD,
    (Cert.Pre_trail_finite.fn (F := Ideal) (m ((c.tc : Thread Cert.TrailRefIdeal.nD Cert.TrailRefIdeal.τ).loc Cert.TrailRefIdeal.main_arg0))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Rowgrad (m : (ℓ : Loc Cert.Rowgrad.nD Cert.Rowgrad.τ Cert.Rowgrad.sig) → Buf (Elt Bits) ℓ) : Prop :=
  True

def Pre_RowgradIdeal (m : (ℓ : Loc Cert.RowgradIdeal.nD Cert.RowgradIdeal.τ Cert.RowgradIdeal.sig) → Buf (Elt Ideal) ℓ) : Prop :=
  True

def Pre_RowgradRefIdeal (m : (ℓ : Loc Cert.RowgradRefIdeal.nD Cert.RowgradRefIdeal.τ Cert.RowgradRefIdeal.sig) → Buf (Elt Ideal) ℓ) : Prop :=
  True

def Pre_Colgrad (m : (ℓ : Loc Cert.Colgrad.nD Cert.Colgrad.τ Cert.Colgrad.sig) → Buf (Elt Bits) ℓ) : Prop :=
  True

def Pre_ColgradIdeal (m : (ℓ : Loc Cert.ColgradIdeal.nD Cert.ColgradIdeal.τ Cert.ColgradIdeal.sig) → Buf (Elt Ideal) ℓ) : Prop :=
  True

def Pre_ColgradRefIdeal (m : (ℓ : Loc Cert.ColgradRefIdeal.nD Cert.ColgradRefIdeal.τ Cert.ColgradRefIdeal.sig) → Buf (Elt Ideal) ℓ) : Prop :=
  True

def Pre_Fullgrad (m : (ℓ : Loc Cert.Fullgrad.nD Cert.Fullgrad.τ Cert.Fullgrad.sig) → Buf (Elt Bits) ℓ) : Prop :=
  True

def Pre_FullgradIdeal (m : (ℓ : Loc Cert.FullgradIdeal.nD Cert.FullgradIdeal.τ Cert.FullgradIdeal.sig) → Buf (Elt Ideal) ℓ) : Prop :=
  True

def Pre_FullgradRefIdeal (m : (ℓ : Loc Cert.FullgradRefIdeal.nD Cert.FullgradRefIdeal.τ Cert.FullgradRefIdeal.sig) → Buf (Elt Ideal) ℓ) : Prop :=
  True

def Pre_Poolgrad (m : (ℓ : Loc Cert.Poolgrad.nD Cert.Poolgrad.τ Cert.Poolgrad.sig) → Buf (Elt Bits) ℓ) : Prop :=
  True

def Pre_PoolgradIdeal (m : (ℓ : Loc Cert.PoolgradIdeal.nD Cert.PoolgradIdeal.τ Cert.PoolgradIdeal.sig) → Buf (Elt Ideal) ℓ) : Prop :=
  True

def Pre_PoolgradRefIdeal (m : (ℓ : Loc Cert.PoolgradRefIdeal.nD Cert.PoolgradRefIdeal.τ Cert.PoolgradRefIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryRefIdeal (m : (ℓ : Loc Cert.EntryRefIdeal.nD Cert.EntryRefIdeal.τ Cert.EntryRefIdeal.sig) → Buf (Elt Ideal) ℓ) : Prop :=
  True

def Pre_Chipsum [hPre_chipsum_owned : Cert.Pre_chipsum_owned.Facts] (m : (ℓ : Loc Cert.Chipsum.nD Cert.Chipsum.τ Cert.Chipsum.sig) → Buf (Elt Bits) ℓ) : Prop :=
  ∀ c : Dev Cert.Chipsum.nD,
    (Cert.Pre_chipsum_owned.fn (F := Bits) (m ((c.tc : Thread Cert.Chipsum.nD Cert.Chipsum.τ).loc Cert.Chipsum.main_arg0)) (m ((c.tc : Thread Cert.Chipsum.nD Cert.Chipsum.τ).loc Cert.Chipsum.main_arg1)) (m ((c.tc : Thread Cert.Chipsum.nD Cert.Chipsum.τ).loc Cert.Chipsum.main_arg2)) (m ((c.tc : Thread Cert.Chipsum.nD Cert.Chipsum.τ).loc Cert.Chipsum.main_arg3))).1 = (fun _ => 1#1)
    ∧ (Cert.Pre_chipsum_owned.fn (F := Bits) (m ((c.tc : Thread Cert.Chipsum.nD Cert.Chipsum.τ).loc Cert.Chipsum.main_arg0)) (m ((c.tc : Thread Cert.Chipsum.nD Cert.Chipsum.τ).loc Cert.Chipsum.main_arg1)) (m ((c.tc : Thread Cert.Chipsum.nD Cert.Chipsum.τ).loc Cert.Chipsum.main_arg2)) (m ((c.tc : Thread Cert.Chipsum.nD Cert.Chipsum.τ).loc Cert.Chipsum.main_arg3))).2 = (fun _ => 1#1)

def Pre_ChipsumIdeal [hPre_chipsum_owned : Cert.Pre_chipsum_owned.Facts] (m : (ℓ : Loc Cert.ChipsumIdeal.nD Cert.ChipsumIdeal.τ Cert.ChipsumIdeal.sig) → Buf (Elt Ideal) ℓ) : Prop :=
  ∀ c : Dev Cert.ChipsumIdeal.nD,
    (Cert.Pre_chipsum_owned.fn (F := Ideal) (m ((c.tc : Thread Cert.ChipsumIdeal.nD Cert.ChipsumIdeal.τ).loc Cert.ChipsumIdeal.main_arg0)) (m ((c.tc : Thread Cert.ChipsumIdeal.nD Cert.ChipsumIdeal.τ).loc Cert.ChipsumIdeal.main_arg1)) (m ((c.tc : Thread Cert.ChipsumIdeal.nD Cert.ChipsumIdeal.τ).loc Cert.ChipsumIdeal.main_arg2)) (m ((c.tc : Thread Cert.ChipsumIdeal.nD Cert.ChipsumIdeal.τ).loc Cert.ChipsumIdeal.main_arg3))).1 = (fun _ => 1#1)
    ∧ (Cert.Pre_chipsum_owned.fn (F := Ideal) (m ((c.tc : Thread Cert.ChipsumIdeal.nD Cert.ChipsumIdeal.τ).loc Cert.ChipsumIdeal.main_arg0)) (m ((c.tc : Thread Cert.ChipsumIdeal.nD Cert.ChipsumIdeal.τ).loc Cert.ChipsumIdeal.main_arg1)) (m ((c.tc : Thread Cert.ChipsumIdeal.nD Cert.ChipsumIdeal.τ).loc Cert.ChipsumIdeal.main_arg2)) (m ((c.tc : Thread Cert.ChipsumIdeal.nD Cert.ChipsumIdeal.τ).loc Cert.ChipsumIdeal.main_arg3))).2 = (fun _ => 1#1)

def Pre_ChipsumRefIdeal (m : (ℓ : Loc Cert.ChipsumRefIdeal.nD Cert.ChipsumRefIdeal.τ Cert.ChipsumRefIdeal.sig) → Buf (Elt Ideal) ℓ) : Prop :=
  True

def Pre_ChipsumRefIdeal_chipsum_owned [hPre_chipsum_owned : Cert.Pre_chipsum_owned.Facts] (m : (ℓ : Loc Cert.ChipsumRefIdeal.nD Cert.ChipsumRefIdeal.τ Cert.ChipsumRefIdeal.sig) → Buf (Elt Ideal) ℓ) : Prop :=
  ∀ c : Dev Cert.ChipsumRefIdeal.nD,
    (Cert.Pre_chipsum_owned.fn (F := Ideal) (m ((c.tc : Thread Cert.ChipsumRefIdeal.nD Cert.ChipsumRefIdeal.τ).loc Cert.ChipsumRefIdeal.main_arg0)) (m ((c.tc : Thread Cert.ChipsumRefIdeal.nD Cert.ChipsumRefIdeal.τ).loc Cert.ChipsumRefIdeal.main_arg1)) (m ((c.tc : Thread Cert.ChipsumRefIdeal.nD Cert.ChipsumRefIdeal.τ).loc Cert.ChipsumRefIdeal.main_arg2)) (m ((c.tc : Thread Cert.ChipsumRefIdeal.nD Cert.ChipsumRefIdeal.τ).loc Cert.ChipsumRefIdeal.main_arg3))).1 = (fun _ => 1#1)
    ∧ (Cert.Pre_chipsum_owned.fn (F := Ideal) (m ((c.tc : Thread Cert.ChipsumRefIdeal.nD Cert.ChipsumRefIdeal.τ).loc Cert.ChipsumRefIdeal.main_arg0)) (m ((c.tc : Thread Cert.ChipsumRefIdeal.nD Cert.ChipsumRefIdeal.τ).loc Cert.ChipsumRefIdeal.main_arg1)) (m ((c.tc : Thread Cert.ChipsumRefIdeal.nD Cert.ChipsumRefIdeal.τ).loc Cert.ChipsumRefIdeal.main_arg2)) (m ((c.tc : Thread Cert.ChipsumRefIdeal.nD Cert.ChipsumRefIdeal.τ).loc Cert.ChipsumRefIdeal.main_arg3))).2 = (fun _ => 1#1)

def Pre_Stepin [hPre_stepin_owned : Cert.Pre_stepin_owned.Facts] (m : (ℓ : Loc Cert.Stepin.nD Cert.Stepin.τ Cert.Stepin.sig) → Buf (Elt Bits) ℓ) : Prop :=
  ∀ c : Dev Cert.Stepin.nD,
    (Cert.Pre_stepin_owned.fn (F := Bits) (m ((c.tc : Thread Cert.Stepin.nD Cert.Stepin.τ).loc Cert.Stepin.main_arg0)) (m ((c.tc : Thread Cert.Stepin.nD Cert.Stepin.τ).loc Cert.Stepin.main_arg1)) (m ((c.tc : Thread Cert.Stepin.nD Cert.Stepin.τ).loc Cert.Stepin.main_arg2)) (m ((c.tc : Thread Cert.Stepin.nD Cert.Stepin.τ).loc Cert.Stepin.main_arg3)) (m ((c.tc : Thread Cert.Stepin.nD Cert.Stepin.τ).loc Cert.Stepin.main_arg4)) (m ((c.tc : Thread Cert.Stepin.nD Cert.Stepin.τ).loc Cert.Stepin.main_arg5)) (m ((c.tc : Thread Cert.Stepin.nD Cert.Stepin.τ).loc Cert.Stepin.main_arg6))) = (fun _ => 1#1)

def Pre_StepinIdeal [hPre_stepin_owned : Cert.Pre_stepin_owned.Facts] (m : (ℓ : Loc Cert.StepinIdeal.nD Cert.StepinIdeal.τ Cert.StepinIdeal.sig) → Buf (Elt Ideal) ℓ) : Prop :=
  ∀ c : Dev Cert.StepinIdeal.nD,
    (Cert.Pre_stepin_owned.fn (F := Ideal) (m ((c.tc : Thread Cert.StepinIdeal.nD Cert.StepinIdeal.τ).loc Cert.StepinIdeal.main_arg0)) (m ((c.tc : Thread Cert.StepinIdeal.nD Cert.StepinIdeal.τ).loc Cert.StepinIdeal.main_arg1)) (m ((c.tc : Thread Cert.StepinIdeal.nD Cert.StepinIdeal.τ).loc Cert.StepinIdeal.main_arg2)) (m ((c.tc : Thread Cert.StepinIdeal.nD Cert.StepinIdeal.τ).loc Cert.StepinIdeal.main_arg3)) (m ((c.tc : Thread Cert.StepinIdeal.nD Cert.StepinIdeal.τ).loc Cert.StepinIdeal.main_arg4)) (m ((c.tc : Thread Cert.StepinIdeal.nD Cert.StepinIdeal.τ).loc Cert.StepinIdeal.main_arg5)) (m ((c.tc : Thread Cert.StepinIdeal.nD Cert.StepinIdeal.τ).loc Cert.StepinIdeal.main_arg6))) = (fun _ => 1#1)

def Pre_StepinRefIdeal (m : (ℓ : Loc Cert.StepinRefIdeal.nD Cert.StepinRefIdeal.τ Cert.StepinRefIdeal.sig) → Buf (Elt Ideal) ℓ) : Prop :=
  True

def Pre_StepinRefIdeal_stepin_owned [hPre_stepin_owned : Cert.Pre_stepin_owned.Facts] (m : (ℓ : Loc Cert.StepinRefIdeal.nD Cert.StepinRefIdeal.τ Cert.StepinRefIdeal.sig) → Buf (Elt Ideal) ℓ) : Prop :=
  ∀ c : Dev Cert.StepinRefIdeal.nD,
    (Cert.Pre_stepin_owned.fn (F := Ideal) (m ((c.tc : Thread Cert.StepinRefIdeal.nD Cert.StepinRefIdeal.τ).loc Cert.StepinRefIdeal.main_arg0)) (m ((c.tc : Thread Cert.StepinRefIdeal.nD Cert.StepinRefIdeal.τ).loc Cert.StepinRefIdeal.main_arg1)) (m ((c.tc : Thread Cert.StepinRefIdeal.nD Cert.StepinRefIdeal.τ).loc Cert.StepinRefIdeal.main_arg2)) (m ((c.tc : Thread Cert.StepinRefIdeal.nD Cert.StepinRefIdeal.τ).loc Cert.StepinRefIdeal.main_arg3)) (m ((c.tc : Thread Cert.StepinRefIdeal.nD Cert.StepinRefIdeal.τ).loc Cert.StepinRefIdeal.main_arg4)) (m ((c.tc : Thread Cert.StepinRefIdeal.nD Cert.StepinRefIdeal.τ).loc Cert.StepinRefIdeal.main_arg5)) (m ((c.tc : Thread Cert.StepinRefIdeal.nD Cert.StepinRefIdeal.τ).loc Cert.StepinRefIdeal.main_arg6))) = (fun _ => 1#1)

def Pre_Taps (m : (ℓ : Loc Cert.Taps.nD Cert.Taps.τ Cert.Taps.sig) → Buf (Elt Bits) ℓ) : Prop :=
  True

def Pre_TapsIdeal (m : (ℓ : Loc Cert.TapsIdeal.nD Cert.TapsIdeal.τ Cert.TapsIdeal.sig) → Buf (Elt Ideal) ℓ) : Prop :=
  True

def Pre_TapsRefIdeal (m : (ℓ : Loc Cert.TapsRefIdeal.nD Cert.TapsRefIdeal.τ Cert.TapsRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def quiescent_Rms2 [hRms2 : Cert.Rms2.Facts] : Prop :=
  ∀ (m : (ℓ : Loc Cert.Rms2.nD Cert.Rms2.τ Cert.Rms2.sig) → Buf (Elt Bits) ℓ) (g : Dev Cert.Rms2.nD → PrngReg), Pre_Rms2 m →
    θ_run (Cert.Rms2.defs (F := Bits)) (onTc (τ := Cert.Rms2.τ) (Cert.Rms2.main (F := Bits))) ⟨m, fun _ => 0, g⟩ (fun r => (∀ c : Dev Cert.Rms2.nD,
      r.2.mem ((c.tc : Thread Cert.Rms2.nD Cert.Rms2.τ).loc Cert.Rms2.main_arg0) = m ((c.tc : Thread Cert.Rms2.nD Cert.Rms2.τ).loc Cert.Rms2.main_arg0)
      ∧ r.2.mem ((c.tc : Thread Cert.Rms2.nD Cert.Rms2.τ).loc Cert.Rms2.main_arg1) = m ((c.tc : Thread Cert.Rms2.nD Cert.Rms2.τ).loc Cert.Rms2.main_arg1)
      ∧ r.2.mem ((c.tc : Thread Cert.Rms2.nD Cert.Rms2.τ).loc Cert.Rms2.main_arg2) = m ((c.tc : Thread Cert.Rms2.nD Cert.Rms2.τ).loc Cert.Rms2.main_arg2)
      ∧ r.2.mem ((c.tc : Thread Cert.Rms2.nD Cert.Rms2.τ).loc Cert.Rms2.main_arg3) = m ((c.tc : Thread Cert.Rms2.nD Cert.Rms2.τ).loc Cert.Rms2.main_arg3))
      ∧ r.2.sem = fun _ => 0)

def quiescent_Rms2Ideal [hRms2Ideal : Cert.Rms2Ideal.Facts] : Prop :=
  ∀ (m : (ℓ : Loc Cert.Rms2Ideal.nD Cert.Rms2Ideal.τ Cert.Rms2Ideal.sig) → Buf (Elt Ideal) ℓ) (g : Dev Cert.Rms2Ideal.nD → PrngReg), Pre_Rms2Ideal m →
    θ_run (Cert.Rms2Ideal.defs (F := Ideal)) (onTc (τ := Cert.Rms2Ideal.τ) (Cert.Rms2Ideal.main (F := Ideal))) ⟨m, fun _ => 0, g⟩ (fun r => (∀ c : Dev Cert.Rms2Ideal.nD,
      r.2.mem ((c.tc : Thread Cert.Rms2Ideal.nD Cert.Rms2Ideal.τ).loc Cert.Rms2Ideal.main_arg0) = m ((c.tc : Thread Cert.Rms2Ideal.nD Cert.Rms2Ideal.τ).loc Cert.Rms2Ideal.main_arg0)
      ∧ r.2.mem ((c.tc : Thread Cert.Rms2Ideal.nD Cert.Rms2Ideal.τ).loc Cert.Rms2Ideal.main_arg1) = m ((c.tc : Thread Cert.Rms2Ideal.nD Cert.Rms2Ideal.τ).loc Cert.Rms2Ideal.main_arg1)
      ∧ r.2.mem ((c.tc : Thread Cert.Rms2Ideal.nD Cert.Rms2Ideal.τ).loc Cert.Rms2Ideal.main_arg2) = m ((c.tc : Thread Cert.Rms2Ideal.nD Cert.Rms2Ideal.τ).loc Cert.Rms2Ideal.main_arg2)
      ∧ r.2.mem ((c.tc : Thread Cert.Rms2Ideal.nD Cert.Rms2Ideal.τ).loc Cert.Rms2Ideal.main_arg3) = m ((c.tc : Thread Cert.Rms2Ideal.nD Cert.Rms2Ideal.τ).loc Cert.Rms2Ideal.main_arg3))
      ∧ r.2.sem = fun _ => 0)

def quiescent_Rms2Ideal_pre_rms2_finite [hRms2Ideal : Cert.Rms2Ideal.Facts] [hPre_rms2_finite : Cert.Pre_rms2_finite.Facts] : Prop :=
  ∀ (m : (ℓ : Loc Cert.Rms2Ideal.nD Cert.Rms2Ideal.τ Cert.Rms2Ideal.sig) → Buf (Elt Ideal) ℓ) (g : Dev Cert.Rms2Ideal.nD → PrngReg), Pre_Rms2Ideal_rms2_finite m →
    θ_run (Cert.Rms2Ideal.defs (F := Ideal)) (onTc (τ := Cert.Rms2Ideal.τ) (Cert.Rms2Ideal.main (F := Ideal))) ⟨m, fun _ => 0, g⟩ (fun r => (∀ c : Dev Cert.Rms2Ideal.nD,
      r.2.mem ((c.tc : Thread Cert.Rms2Ideal.nD Cert.Rms2Ideal.τ).loc Cert.Rms2Ideal.main_arg0) = m ((c.tc : Thread Cert.Rms2Ideal.nD Cert.Rms2Ideal.τ).loc Cert.Rms2Ideal.main_arg0)
      ∧ r.2.mem ((c.tc : Thread Cert.Rms2Ideal.nD Cert.Rms2Ideal.τ).loc Cert.Rms2Ideal.main_arg1) = m ((c.tc : Thread Cert.Rms2Ideal.nD Cert.Rms2Ideal.τ).loc Cert.Rms2Ideal.main_arg1)
      ∧ r.2.mem ((c.tc : Thread Cert.Rms2Ideal.nD Cert.Rms2Ideal.τ).loc Cert.Rms2Ideal.main_arg2) = m ((c.tc : Thread Cert.Rms2Ideal.nD Cert.Rms2Ideal.τ).loc Cert.Rms2Ideal.main_arg2)
      ∧ r.2.mem ((c.tc : Thread Cert.Rms2Ideal.nD Cert.Rms2Ideal.τ).loc Cert.Rms2Ideal.main_arg3) = m ((c.tc : Thread Cert.Rms2Ideal.nD Cert.Rms2Ideal.τ).loc Cert.Rms2Ideal.main_arg3))
      ∧ r.2.sem = fun _ => 0)

def quiescent_Rms2RefIdeal [hRms2RefIdeal : Cert.Rms2RefIdeal.Facts] : Prop :=
  ∀ (m : (ℓ : Loc Cert.Rms2RefIdeal.nD Cert.Rms2RefIdeal.τ Cert.Rms2RefIdeal.sig) → Buf (Elt Ideal) ℓ) (g : Dev Cert.Rms2RefIdeal.nD → PrngReg), Pre_Rms2RefIdeal m →
    θ_run (Cert.Rms2RefIdeal.defs (F := Ideal)) (onTc (τ := Cert.Rms2RefIdeal.τ) (Cert.Rms2RefIdeal.main (F := Ideal))) ⟨m, fun _ => 0, g⟩ (fun r => (∀ c : Dev Cert.Rms2RefIdeal.nD,
      r.2.mem ((c.tc : Thread Cert.Rms2RefIdeal.nD Cert.Rms2RefIdeal.τ).loc Cert.Rms2RefIdeal.main_arg0) = m ((c.tc : Thread Cert.Rms2RefIdeal.nD Cert.Rms2RefIdeal.τ).loc Cert.Rms2RefIdeal.main_arg0)
      ∧ r.2.mem ((c.tc : Thread Cert.Rms2RefIdeal.nD Cert.Rms2RefIdeal.τ).loc Cert.Rms2RefIdeal.main_arg1) = m ((c.tc : Thread Cert.Rms2RefIdeal.nD Cert.Rms2RefIdeal.τ).loc Cert.Rms2RefIdeal.main_arg1)
      ∧ r.2.mem ((c.tc : Thread Cert.Rms2RefIdeal.nD Cert.Rms2RefIdeal.τ).loc Cert.Rms2RefIdeal.main_arg2) = m ((c.tc : Thread Cert.Rms2RefIdeal.nD Cert.Rms2RefIdeal.τ).loc Cert.Rms2RefIdeal.main_arg2)
      ∧ r.2.mem ((c.tc : Thread Cert.Rms2RefIdeal.nD Cert.Rms2RefIdeal.τ).loc Cert.Rms2RefIdeal.main_arg3) = m ((c.tc : Thread Cert.Rms2RefIdeal.nD Cert.Rms2RefIdeal.τ).loc Cert.Rms2RefIdeal.main_arg3))
      ∧ r.2.sem = fun _ => 0)

def quiescent_Rms2RefIdeal_pre_rms2_finite [hRms2RefIdeal : Cert.Rms2RefIdeal.Facts] [hPre_rms2_finite : Cert.Pre_rms2_finite.Facts] : Prop :=
  ∀ (m : (ℓ : Loc Cert.Rms2RefIdeal.nD Cert.Rms2RefIdeal.τ Cert.Rms2RefIdeal.sig) → Buf (Elt Ideal) ℓ) (g : Dev Cert.Rms2RefIdeal.nD → PrngReg), Pre_Rms2RefIdeal_rms2_finite m →
    θ_run (Cert.Rms2RefIdeal.defs (F := Ideal)) (onTc (τ := Cert.Rms2RefIdeal.τ) (Cert.Rms2RefIdeal.main (F := Ideal))) ⟨m, fun _ => 0, g⟩ (fun r => (∀ c : Dev Cert.Rms2RefIdeal.nD,
      r.2.mem ((c.tc : Thread Cert.Rms2RefIdeal.nD Cert.Rms2RefIdeal.τ).loc Cert.Rms2RefIdeal.main_arg0) = m ((c.tc : Thread Cert.Rms2RefIdeal.nD Cert.Rms2RefIdeal.τ).loc Cert.Rms2RefIdeal.main_arg0)
      ∧ r.2.mem ((c.tc : Thread Cert.Rms2RefIdeal.nD Cert.Rms2RefIdeal.τ).loc Cert.Rms2RefIdeal.main_arg1) = m ((c.tc : Thread Cert.Rms2RefIdeal.nD Cert.Rms2RefIdeal.τ).loc Cert.Rms2RefIdeal.main_arg1)
      ∧ r.2.mem ((c.tc : Thread Cert.Rms2RefIdeal.nD Cert.Rms2RefIdeal.τ).loc Cert.Rms2RefIdeal.main_arg2) = m ((c.tc : Thread Cert.Rms2RefIdeal.nD Cert.Rms2RefIdeal.τ).loc Cert.Rms2RefIdeal.main_arg2)
      ∧ r.2.mem ((c.tc : Thread Cert.Rms2RefIdeal.nD Cert.Rms2RefIdeal.τ).loc Cert.Rms2RefIdeal.main_arg3) = m ((c.tc : Thread Cert.Rms2RefIdeal.nD Cert.Rms2RefIdeal.τ).loc Cert.Rms2RefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Rms1 [hRms1 : Cert.Rms1.Facts] : Prop :=
  ∀ (m : (ℓ : Loc Cert.Rms1.nD Cert.Rms1.τ Cert.Rms1.sig) → Buf (Elt Bits) ℓ) (g : Dev Cert.Rms1.nD → PrngReg), Pre_Rms1 m →
    θ_run (Cert.Rms1.defs (F := Bits)) (onTc (τ := Cert.Rms1.τ) (Cert.Rms1.main (F := Bits))) ⟨m, fun _ => 0, g⟩ (fun r => (∀ c : Dev Cert.Rms1.nD,
      r.2.mem ((c.tc : Thread Cert.Rms1.nD Cert.Rms1.τ).loc Cert.Rms1.main_arg0) = m ((c.tc : Thread Cert.Rms1.nD Cert.Rms1.τ).loc Cert.Rms1.main_arg0)
      ∧ r.2.mem ((c.tc : Thread Cert.Rms1.nD Cert.Rms1.τ).loc Cert.Rms1.main_arg1) = m ((c.tc : Thread Cert.Rms1.nD Cert.Rms1.τ).loc Cert.Rms1.main_arg1)
      ∧ r.2.mem ((c.tc : Thread Cert.Rms1.nD Cert.Rms1.τ).loc Cert.Rms1.main_arg2) = m ((c.tc : Thread Cert.Rms1.nD Cert.Rms1.τ).loc Cert.Rms1.main_arg2)
      ∧ r.2.mem ((c.tc : Thread Cert.Rms1.nD Cert.Rms1.τ).loc Cert.Rms1.main_arg3) = m ((c.tc : Thread Cert.Rms1.nD Cert.Rms1.τ).loc Cert.Rms1.main_arg3))
      ∧ r.2.sem = fun _ => 0)

def quiescent_Rms1Ideal [hRms1Ideal : Cert.Rms1Ideal.Facts] : Prop :=
  ∀ (m : (ℓ : Loc Cert.Rms1Ideal.nD Cert.Rms1Ideal.τ Cert.Rms1Ideal.sig) → Buf (Elt Ideal) ℓ) (g : Dev Cert.Rms1Ideal.nD → PrngReg), Pre_Rms1Ideal m →
    θ_run (Cert.Rms1Ideal.defs (F := Ideal)) (onTc (τ := Cert.Rms1Ideal.τ) (Cert.Rms1Ideal.main (F := Ideal))) ⟨m, fun _ => 0, g⟩ (fun r => (∀ c : Dev Cert.Rms1Ideal.nD,
      r.2.mem ((c.tc : Thread Cert.Rms1Ideal.nD Cert.Rms1Ideal.τ).loc Cert.Rms1Ideal.main_arg0) = m ((c.tc : Thread Cert.Rms1Ideal.nD Cert.Rms1Ideal.τ).loc Cert.Rms1Ideal.main_arg0)
      ∧ r.2.mem ((c.tc : Thread Cert.Rms1Ideal.nD Cert.Rms1Ideal.τ).loc Cert.Rms1Ideal.main_arg1) = m ((c.tc : Thread Cert.Rms1Ideal.nD Cert.Rms1Ideal.τ).loc Cert.Rms1Ideal.main_arg1)
      ∧ r.2.mem ((c.tc : Thread Cert.Rms1Ideal.nD Cert.Rms1Ideal.τ).loc Cert.Rms1Ideal.main_arg2) = m ((c.tc : Thread Cert.Rms1Ideal.nD Cert.Rms1Ideal.τ).loc Cert.Rms1Ideal.main_arg2)
      ∧ r.2.mem ((c.tc : Thread Cert.Rms1Ideal.nD Cert.Rms1Ideal.τ).loc Cert.Rms1Ideal.main_arg3) = m ((c.tc : Thread Cert.Rms1Ideal.nD Cert.Rms1Ideal.τ).loc Cert.Rms1Ideal.main_arg3))
      ∧ r.2.sem = fun _ => 0)

def quiescent_Rms1Ideal_pre_rms1_finite [hRms1Ideal : Cert.Rms1Ideal.Facts] [hPre_rms1_finite : Cert.Pre_rms1_finite.Facts] : Prop :=
  ∀ (m : (ℓ : Loc Cert.Rms1Ideal.nD Cert.Rms1Ideal.τ Cert.Rms1Ideal.sig) → Buf (Elt Ideal) ℓ) (g : Dev Cert.Rms1Ideal.nD → PrngReg), Pre_Rms1Ideal_rms1_finite m →
    θ_run (Cert.Rms1Ideal.defs (F := Ideal)) (onTc (τ := Cert.Rms1Ideal.τ) (Cert.Rms1Ideal.main (F := Ideal))) ⟨m, fun _ => 0, g⟩ (fun r => (∀ c : Dev Cert.Rms1Ideal.nD,
      r.2.mem ((c.tc : Thread Cert.Rms1Ideal.nD Cert.Rms1Ideal.τ).loc Cert.Rms1Ideal.main_arg0) = m ((c.tc : Thread Cert.Rms1Ideal.nD Cert.Rms1Ideal.τ).loc Cert.Rms1Ideal.main_arg0)
      ∧ r.2.mem ((c.tc : Thread Cert.Rms1Ideal.nD Cert.Rms1Ideal.τ).loc Cert.Rms1Ideal.main_arg1) = m ((c.tc : Thread Cert.Rms1Ideal.nD Cert.Rms1Ideal.τ).loc Cert.Rms1Ideal.main_arg1)
      ∧ r.2.mem ((c.tc : Thread Cert.Rms1Ideal.nD Cert.Rms1Ideal.τ).loc Cert.Rms1Ideal.main_arg2) = m ((c.tc : Thread Cert.Rms1Ideal.nD Cert.Rms1Ideal.τ).loc Cert.Rms1Ideal.main_arg2)
      ∧ r.2.mem ((c.tc : Thread Cert.Rms1Ideal.nD Cert.Rms1Ideal.τ).loc Cert.Rms1Ideal.main_arg3) = m ((c.tc : Thread Cert.Rms1Ideal.nD Cert.Rms1Ideal.τ).loc Cert.Rms1Ideal.main_arg3))
      ∧ r.2.sem = fun _ => 0)

def quiescent_Rms1RefIdeal [hRms1RefIdeal : Cert.Rms1RefIdeal.Facts] : Prop :=
  ∀ (m : (ℓ : Loc Cert.Rms1RefIdeal.nD Cert.Rms1RefIdeal.τ Cert.Rms1RefIdeal.sig) → Buf (Elt Ideal) ℓ) (g : Dev Cert.Rms1RefIdeal.nD → PrngReg), Pre_Rms1RefIdeal m →
    θ_run (Cert.Rms1RefIdeal.defs (F := Ideal)) (onTc (τ := Cert.Rms1RefIdeal.τ) (Cert.Rms1RefIdeal.main (F := Ideal))) ⟨m, fun _ => 0, g⟩ (fun r => (∀ c : Dev Cert.Rms1RefIdeal.nD,
      r.2.mem ((c.tc : Thread Cert.Rms1RefIdeal.nD Cert.Rms1RefIdeal.τ).loc Cert.Rms1RefIdeal.main_arg0) = m ((c.tc : Thread Cert.Rms1RefIdeal.nD Cert.Rms1RefIdeal.τ).loc Cert.Rms1RefIdeal.main_arg0)
      ∧ r.2.mem ((c.tc : Thread Cert.Rms1RefIdeal.nD Cert.Rms1RefIdeal.τ).loc Cert.Rms1RefIdeal.main_arg1) = m ((c.tc : Thread Cert.Rms1RefIdeal.nD Cert.Rms1RefIdeal.τ).loc Cert.Rms1RefIdeal.main_arg1)
      ∧ r.2.mem ((c.tc : Thread Cert.Rms1RefIdeal.nD Cert.Rms1RefIdeal.τ).loc Cert.Rms1RefIdeal.main_arg2) = m ((c.tc : Thread Cert.Rms1RefIdeal.nD Cert.Rms1RefIdeal.τ).loc Cert.Rms1RefIdeal.main_arg2)
      ∧ r.2.mem ((c.tc : Thread Cert.Rms1RefIdeal.nD Cert.Rms1RefIdeal.τ).loc Cert.Rms1RefIdeal.main_arg3) = m ((c.tc : Thread Cert.Rms1RefIdeal.nD Cert.Rms1RefIdeal.τ).loc Cert.Rms1RefIdeal.main_arg3))
      ∧ r.2.sem = fun _ => 0)

def quiescent_Rms1RefIdeal_pre_rms1_finite [hRms1RefIdeal : Cert.Rms1RefIdeal.Facts] [hPre_rms1_finite : Cert.Pre_rms1_finite.Facts] : Prop :=
  ∀ (m : (ℓ : Loc Cert.Rms1RefIdeal.nD Cert.Rms1RefIdeal.τ Cert.Rms1RefIdeal.sig) → Buf (Elt Ideal) ℓ) (g : Dev Cert.Rms1RefIdeal.nD → PrngReg), Pre_Rms1RefIdeal_rms1_finite m →
    θ_run (Cert.Rms1RefIdeal.defs (F := Ideal)) (onTc (τ := Cert.Rms1RefIdeal.τ) (Cert.Rms1RefIdeal.main (F := Ideal))) ⟨m, fun _ => 0, g⟩ (fun r => (∀ c : Dev Cert.Rms1RefIdeal.nD,
      r.2.mem ((c.tc : Thread Cert.Rms1RefIdeal.nD Cert.Rms1RefIdeal.τ).loc Cert.Rms1RefIdeal.main_arg0) = m ((c.tc : Thread Cert.Rms1RefIdeal.nD Cert.Rms1RefIdeal.τ).loc Cert.Rms1RefIdeal.main_arg0)
      ∧ r.2.mem ((c.tc : Thread Cert.Rms1RefIdeal.nD Cert.Rms1RefIdeal.τ).loc Cert.Rms1RefIdeal.main_arg1) = m ((c.tc : Thread Cert.Rms1RefIdeal.nD Cert.Rms1RefIdeal.τ).loc Cert.Rms1RefIdeal.main_arg1)
      ∧ r.2.mem ((c.tc : Thread Cert.Rms1RefIdeal.nD Cert.Rms1RefIdeal.τ).loc Cert.Rms1RefIdeal.main_arg2) = m ((c.tc : Thread Cert.Rms1RefIdeal.nD Cert.Rms1RefIdeal.τ).loc Cert.Rms1RefIdeal.main_arg2)
      ∧ r.2.mem ((c.tc : Thread Cert.Rms1RefIdeal.nD Cert.Rms1RefIdeal.τ).loc Cert.Rms1RefIdeal.main_arg3) = m ((c.tc : Thread Cert.Rms1RefIdeal.nD Cert.Rms1RefIdeal.τ).loc Cert.Rms1RefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1)
      ∧ r.2.mem ((c.tc : Thread Cert.ShortRefIdeal.nD Cert.ShortRefIdeal.τ).loc Cert.ShortRefIdeal.main_arg2) = m ((c.tc : Thread Cert.ShortRefIdeal.nD Cert.ShortRefIdeal.τ).loc Cert.ShortRefIdeal.main_arg2))
      ∧ r.2.sem = fun _ => 0)

def quiescent_Trail [hTrail : Cert.Trail.Facts] : Prop :=
  ∀ (m : (ℓ : Loc Cert.Trail.nD Cert.Trail.τ Cert.Trail.sig) → Buf (Elt Bits) ℓ) (g : Dev Cert.Trail.nD → PrngReg), Pre_Trail m →
    θ_run (Cert.Trail.defs (F := Bits)) (onTc (τ := Cert.Trail.τ) (Cert.Trail.main (F := Bits))) ⟨m, fun _ => 0, g⟩ (fun r => (∀ c : Dev Cert.Trail.nD,
      r.2.mem ((c.tc : Thread Cert.Trail.nD Cert.Trail.τ).loc Cert.Trail.main_arg0) = m ((c.tc : Thread Cert.Trail.nD Cert.Trail.τ).loc Cert.Trail.main_arg0))
      ∧ r.2.sem = fun _ => 0)

def quiescent_TrailIdeal [hTrailIdeal : Cert.TrailIdeal.Facts] : Prop :=
  ∀ (m : (ℓ : Loc Cert.TrailIdeal.nD Cert.TrailIdeal.τ Cert.TrailIdeal.sig) → Buf (Elt Ideal) ℓ) (g : Dev Cert.TrailIdeal.nD → PrngReg), Pre_TrailIdeal m →
    θ_run (Cert.TrailIdeal.defs (F := Ideal)) (onTc (τ := Cert.TrailIdeal.τ) (Cert.TrailIdeal.main (F := Ideal))) ⟨m, fun _ => 0, g⟩ (fun r => (∀ c : Dev Cert.TrailIdeal.nD,
      r.2.mem ((c.tc : Thread Cert.TrailIdeal.nD Cert.TrailIdeal.τ).loc Cert.TrailIdeal.main_arg0) = m ((c.tc : Thread Cert.TrailIdeal.nD Cert.TrailIdeal.τ).loc Cert.TrailIdeal.main_arg0))
      ∧ r.2.sem = fun _ => 0)

def quiescent_TrailIdeal_pre_trail_finite [hTrailIdeal : Cert.TrailIdeal.Facts] [hPre_trail_finite : Cert.Pre_trail_finite.Facts] : Prop :=
  ∀ (m : (ℓ : Loc Cert.TrailIdeal.nD Cert.TrailIdeal.τ Cert.TrailIdeal.sig) → Buf (Elt Ideal) ℓ) (g : Dev Cert.TrailIdeal.nD → PrngReg), Pre_TrailIdeal_trail_finite m →
    θ_run (Cert.TrailIdeal.defs (F := Ideal)) (onTc (τ := Cert.TrailIdeal.τ) (Cert.TrailIdeal.main (F := Ideal))) ⟨m, fun _ => 0, g⟩ (fun r => (∀ c : Dev Cert.TrailIdeal.nD,
      r.2.mem ((c.tc : Thread Cert.TrailIdeal.nD Cert.TrailIdeal.τ).loc Cert.TrailIdeal.main_arg0) = m ((c.tc : Thread Cert.TrailIdeal.nD Cert.TrailIdeal.τ).loc Cert.TrailIdeal.main_arg0))
      ∧ r.2.sem = fun _ => 0)

def quiescent_TrailRefIdeal [hTrailRefIdeal : Cert.TrailRefIdeal.Facts] : Prop :=
  ∀ (m : (ℓ : Loc Cert.TrailRefIdeal.nD Cert.TrailRefIdeal.τ Cert.TrailRefIdeal.sig) → Buf (Elt Ideal) ℓ) (g : Dev Cert.TrailRefIdeal.nD → PrngReg), Pre_TrailRefIdeal m →
    θ_run (Cert.TrailRefIdeal.defs (F := Ideal)) (onTc (τ := Cert.TrailRefIdeal.τ) (Cert.TrailRefIdeal.main (F := Ideal))) ⟨m, fun _ => 0, g⟩ (fun r => (∀ c : Dev Cert.TrailRefIdeal.nD,
      r.2.mem ((c.tc : Thread Cert.TrailRefIdeal.nD Cert.TrailRefIdeal.τ).loc Cert.TrailRefIdeal.main_arg0) = m ((c.tc : Thread Cert.TrailRefIdeal.nD Cert.TrailRefIdeal.τ).loc Cert.TrailRefIdeal.main_arg0))
      ∧ r.2.sem = fun _ => 0)

def quiescent_TrailRefIdeal_pre_trail_finite [hTrailRefIdeal : Cert.TrailRefIdeal.Facts] [hPre_trail_finite : Cert.Pre_trail_finite.Facts] : Prop :=
  ∀ (m : (ℓ : Loc Cert.TrailRefIdeal.nD Cert.TrailRefIdeal.τ Cert.TrailRefIdeal.sig) → Buf (Elt Ideal) ℓ) (g : Dev Cert.TrailRefIdeal.nD → PrngReg), Pre_TrailRefIdeal_trail_finite m →
    θ_run (Cert.TrailRefIdeal.defs (F := Ideal)) (onTc (τ := Cert.TrailRefIdeal.τ) (Cert.TrailRefIdeal.main (F := Ideal))) ⟨m, fun _ => 0, g⟩ (fun r => (∀ c : Dev Cert.TrailRefIdeal.nD,
      r.2.mem ((c.tc : Thread Cert.TrailRefIdeal.nD Cert.TrailRefIdeal.τ).loc Cert.TrailRefIdeal.main_arg0) = m ((c.tc : Thread Cert.TrailRefIdeal.nD Cert.TrailRefIdeal.τ).loc Cert.TrailRefIdeal.main_arg0))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Rowgrad [hRowgrad : Cert.Rowgrad.Facts] : Prop :=
  ∀ (m : (ℓ : Loc Cert.Rowgrad.nD Cert.Rowgrad.τ Cert.Rowgrad.sig) → Buf (Elt Bits) ℓ) (g : Dev Cert.Rowgrad.nD → PrngReg), Pre_Rowgrad m →
    θ_run (Cert.Rowgrad.defs (F := Bits)) (onTc (τ := Cert.Rowgrad.τ) (Cert.Rowgrad.main (F := Bits))) ⟨m, fun _ => 0, g⟩ (fun r => (∀ c : Dev Cert.Rowgrad.nD,
      r.2.mem ((c.tc : Thread Cert.Rowgrad.nD Cert.Rowgrad.τ).loc Cert.Rowgrad.main_arg0) = m ((c.tc : Thread Cert.Rowgrad.nD Cert.Rowgrad.τ).loc Cert.Rowgrad.main_arg0)
      ∧ r.2.mem ((c.tc : Thread Cert.Rowgrad.nD Cert.Rowgrad.τ).loc Cert.Rowgrad.main_arg1) = m ((c.tc : Thread Cert.Rowgrad.nD Cert.Rowgrad.τ).loc Cert.Rowgrad.main_arg1))
      ∧ r.2.sem = fun _ => 0)

def quiescent_RowgradIdeal [hRowgradIdeal : Cert.RowgradIdeal.Facts] : Prop :=
  ∀ (m : (ℓ : Loc Cert.RowgradIdeal.nD Cert.RowgradIdeal.τ Cert.RowgradIdeal.sig) → Buf (Elt Ideal) ℓ) (g : Dev Cert.RowgradIdeal.nD → PrngReg), Pre_RowgradIdeal m →
    θ_run (Cert.RowgradIdeal.defs (F := Ideal)) (onTc (τ := Cert.RowgradIdeal.τ) (Cert.RowgradIdeal.main (F := Ideal))) ⟨m, fun _ => 0, g⟩ (fun r => (∀ c : Dev Cert.RowgradIdeal.nD,
      r.2.mem ((c.tc : Thread Cert.RowgradIdeal.nD Cert.RowgradIdeal.τ).loc Cert.RowgradIdeal.main_arg0) = m ((c.tc : Thread Cert.RowgradIdeal.nD Cert.RowgradIdeal.τ).loc Cert.RowgradIdeal.main_arg0)
      ∧ r.2.mem ((c.tc : Thread Cert.RowgradIdeal.nD Cert.RowgradIdeal.τ).loc Cert.RowgradIdeal.main_arg1) = m ((c.tc : Thread Cert.RowgradIdeal.nD Cert.RowgradIdeal.τ).loc Cert.RowgradIdeal.main_arg1))
      ∧ r.2.sem = fun _ => 0)

def quiescent_RowgradRefIdeal [hRowgradRefIdeal : Cert.RowgradRefIdeal.Facts] : Prop :=
  ∀ (m : (ℓ : Loc Cert.RowgradRefIdeal.nD Cert.RowgradRefIdeal.τ Cert.RowgradRefIdeal.sig) → Buf (Elt Ideal) ℓ) (g : Dev Cert.RowgradRefIdeal.nD → PrngReg), Pre_RowgradRefIdeal m →
    θ_run (Cert.RowgradRefIdeal.defs (F := Ideal)) (onTc (τ := Cert.RowgradRefIdeal.τ) (Cert.RowgradRefIdeal.main (F := Ideal))) ⟨m, fun _ => 0, g⟩ (fun r => (∀ c : Dev Cert.RowgradRefIdeal.nD,
      r.2.mem ((c.tc : Thread Cert.RowgradRefIdeal.nD Cert.RowgradRefIdeal.τ).loc Cert.RowgradRefIdeal.main_arg0) = m ((c.tc : Thread Cert.RowgradRefIdeal.nD Cert.RowgradRefIdeal.τ).loc Cert.RowgradRefIdeal.main_arg0)
      ∧ r.2.mem ((c.tc : Thread Cert.RowgradRefIdeal.nD Cert.RowgradRefIdeal.τ).loc Cert.RowgradRefIdeal.main_arg1) = m ((c.tc : Thread Cert.RowgradRefIdeal.nD Cert.RowgradRefIdeal.τ).loc Cert.RowgradRefIdeal.main_arg1))
      ∧ r.2.sem = fun _ => 0)

def quiescent_Colgrad [hColgrad : Cert.Colgrad.Facts] : Prop :=
  ∀ (m : (ℓ : Loc Cert.Colgrad.nD Cert.Colgrad.τ Cert.Colgrad.sig) → Buf (Elt Bits) ℓ) (g : Dev Cert.Colgrad.nD → PrngReg), Pre_Colgrad m →
    θ_run (Cert.Colgrad.defs (F := Bits)) (onTc (τ := Cert.Colgrad.τ) (Cert.Colgrad.main (F := Bits))) ⟨m, fun _ => 0, g⟩ (fun r => (∀ c : Dev Cert.Colgrad.nD,
      r.2.mem ((c.tc : Thread Cert.Colgrad.nD Cert.Colgrad.τ).loc Cert.Colgrad.main_arg0) = m ((c.tc : Thread Cert.Colgrad.nD Cert.Colgrad.τ).loc Cert.Colgrad.main_arg0)
      ∧ r.2.mem ((c.tc : Thread Cert.Colgrad.nD Cert.Colgrad.τ).loc Cert.Colgrad.main_arg1) = m ((c.tc : Thread Cert.Colgrad.nD Cert.Colgrad.τ).loc Cert.Colgrad.main_arg1))
      ∧ r.2.sem = fun _ => 0)

def quiescent_ColgradIdeal [hColgradIdeal : Cert.ColgradIdeal.Facts] : Prop :=
  ∀ (m : (ℓ : Loc Cert.ColgradIdeal.nD Cert.ColgradIdeal.τ Cert.ColgradIdeal.sig) → Buf (Elt Ideal) ℓ) (g : Dev Cert.ColgradIdeal.nD → PrngReg), Pre_ColgradIdeal m →
    θ_run (Cert.ColgradIdeal.defs (F := Ideal)) (onTc (τ := Cert.ColgradIdeal.τ) (Cert.ColgradIdeal.main (F := Ideal))) ⟨m, fun _ => 0, g⟩ (fun r => (∀ c : Dev Cert.ColgradIdeal.nD,
      r.2.mem ((c.tc : Thread Cert.ColgradIdeal.nD Cert.ColgradIdeal.τ).loc Cert.ColgradIdeal.main_arg0) = m ((c.tc : Thread Cert.ColgradIdeal.nD Cert.ColgradIdeal.τ).loc Cert.ColgradIdeal.main_arg0)
      ∧ r.2.mem ((c.tc : Thread Cert.ColgradIdeal.nD Cert.ColgradIdeal.τ).loc Cert.ColgradIdeal.main_arg1) = m ((c.tc : Thread Cert.ColgradIdeal.nD Cert.ColgradIdeal.τ).loc Cert.ColgradIdeal.main_arg1))
      ∧ r.2.sem = fun _ => 0)

def quiescent_ColgradRefIdeal [hColgradRefIdeal : Cert.ColgradRefIdeal.Facts] : Prop :=
  ∀ (m : (ℓ : Loc Cert.ColgradRefIdeal.nD Cert.ColgradRefIdeal.τ Cert.ColgradRefIdeal.sig) → Buf (Elt Ideal) ℓ) (g : Dev Cert.ColgradRefIdeal.nD → PrngReg), Pre_ColgradRefIdeal m →
    θ_run (Cert.ColgradRefIdeal.defs (F := Ideal)) (onTc (τ := Cert.ColgradRefIdeal.τ) (Cert.ColgradRefIdeal.main (F := Ideal))) ⟨m, fun _ => 0, g⟩ (fun r => (∀ c : Dev Cert.ColgradRefIdeal.nD,
      r.2.mem ((c.tc : Thread Cert.ColgradRefIdeal.nD Cert.ColgradRefIdeal.τ).loc Cert.ColgradRefIdeal.main_arg0) = m ((c.tc : Thread Cert.ColgradRefIdeal.nD Cert.ColgradRefIdeal.τ).loc Cert.ColgradRefIdeal.main_arg0)
      ∧ r.2.mem ((c.tc : Thread Cert.ColgradRefIdeal.nD Cert.ColgradRefIdeal.τ).loc Cert.ColgradRefIdeal.main_arg1) = m ((c.tc : Thread Cert.ColgradRefIdeal.nD Cert.ColgradRefIdeal.τ).loc Cert.ColgradRefIdeal.main_arg1))
      ∧ r.2.sem = fun _ => 0)

def quiescent_Fullgrad [hFullgrad : Cert.Fullgrad.Facts] : Prop :=
  ∀ (m : (ℓ : Loc Cert.Fullgrad.nD Cert.Fullgrad.τ Cert.Fullgrad.sig) → Buf (Elt Bits) ℓ) (g : Dev Cert.Fullgrad.nD → PrngReg), Pre_Fullgrad m →
    θ_run (Cert.Fullgrad.defs (F := Bits)) (onTc (τ := Cert.Fullgrad.τ) (Cert.Fullgrad.main (F := Bits))) ⟨m, fun _ => 0, g⟩ (fun r => (∀ c : Dev Cert.Fullgrad.nD,
      r.2.mem ((c.tc : Thread Cert.Fullgrad.nD Cert.Fullgrad.τ).loc Cert.Fullgrad.main_arg0) = m ((c.tc : Thread Cert.Fullgrad.nD Cert.Fullgrad.τ).loc Cert.Fullgrad.main_arg0)
      ∧ r.2.mem ((c.tc : Thread Cert.Fullgrad.nD Cert.Fullgrad.τ).loc Cert.Fullgrad.main_arg1) = m ((c.tc : Thread Cert.Fullgrad.nD Cert.Fullgrad.τ).loc Cert.Fullgrad.main_arg1))
      ∧ r.2.sem = fun _ => 0)

def quiescent_FullgradIdeal [hFullgradIdeal : Cert.FullgradIdeal.Facts] : Prop :=
  ∀ (m : (ℓ : Loc Cert.FullgradIdeal.nD Cert.FullgradIdeal.τ Cert.FullgradIdeal.sig) → Buf (Elt Ideal) ℓ) (g : Dev Cert.FullgradIdeal.nD → PrngReg), Pre_FullgradIdeal m →
    θ_run (Cert.FullgradIdeal.defs (F := Ideal)) (onTc (τ := Cert.FullgradIdeal.τ) (Cert.FullgradIdeal.main (F := Ideal))) ⟨m, fun _ => 0, g⟩ (fun r => (∀ c : Dev Cert.FullgradIdeal.nD,
      r.2.mem ((c.tc : Thread Cert.FullgradIdeal.nD Cert.FullgradIdeal.τ).loc Cert.FullgradIdeal.main_arg0) = m ((c.tc : Thread Cert.FullgradIdeal.nD Cert.FullgradIdeal.τ).loc Cert.FullgradIdeal.main_arg0)
      ∧ r.2.mem ((c.tc : Thread Cert.FullgradIdeal.nD Cert.FullgradIdeal.τ).loc Cert.FullgradIdeal.main_arg1) = m ((c.tc : Thread Cert.FullgradIdeal.nD Cert.FullgradIdeal.τ).loc Cert.FullgradIdeal.main_arg1))
      ∧ r.2.sem = fun _ => 0)

def quiescent_FullgradRefIdeal [hFullgradRefIdeal : Cert.FullgradRefIdeal.Facts] : Prop :=
  ∀ (m : (ℓ : Loc Cert.FullgradRefIdeal.nD Cert.FullgradRefIdeal.τ Cert.FullgradRefIdeal.sig) → Buf (Elt Ideal) ℓ) (g : Dev Cert.FullgradRefIdeal.nD → PrngReg), Pre_FullgradRefIdeal m →
    θ_run (Cert.FullgradRefIdeal.defs (F := Ideal)) (onTc (τ := Cert.FullgradRefIdeal.τ) (Cert.FullgradRefIdeal.main (F := Ideal))) ⟨m, fun _ => 0, g⟩ (fun r => (∀ c : Dev Cert.FullgradRefIdeal.nD,
      r.2.mem ((c.tc : Thread Cert.FullgradRefIdeal.nD Cert.FullgradRefIdeal.τ).loc Cert.FullgradRefIdeal.main_arg0) = m ((c.tc : Thread Cert.FullgradRefIdeal.nD Cert.FullgradRefIdeal.τ).loc Cert.FullgradRefIdeal.main_arg0)
      ∧ r.2.mem ((c.tc : Thread Cert.FullgradRefIdeal.nD Cert.FullgradRefIdeal.τ).loc Cert.FullgradRefIdeal.main_arg1) = m ((c.tc : Thread Cert.FullgradRefIdeal.nD Cert.FullgradRefIdeal.τ).loc Cert.FullgradRefIdeal.main_arg1))
      ∧ r.2.sem = fun _ => 0)

def quiescent_Poolgrad [hPoolgrad : Cert.Poolgrad.Facts] : Prop :=
  ∀ (m : (ℓ : Loc Cert.Poolgrad.nD Cert.Poolgrad.τ Cert.Poolgrad.sig) → Buf (Elt Bits) ℓ) (g : Dev Cert.Poolgrad.nD → PrngReg), Pre_Poolgrad m →
    θ_run (Cert.Poolgrad.defs (F := Bits)) (onTc (τ := Cert.Poolgrad.τ) (Cert.Poolgrad.main (F := Bits))) ⟨m, fun _ => 0, g⟩ (fun r => (∀ c : Dev Cert.Poolgrad.nD,
      r.2.mem ((c.tc : Thread Cert.Poolgrad.nD Cert.Poolgrad.τ).loc Cert.Poolgrad.main_arg0) = m ((c.tc : Thread Cert.Poolgrad.nD Cert.Poolgrad.τ).loc Cert.Poolgrad.main_arg0)
      ∧ r.2.mem ((c.tc : Thread Cert.Poolgrad.nD Cert.Poolgrad.τ).loc Cert.Poolgrad.main_arg1) = m ((c.tc : Thread Cert.Poolgrad.nD Cert.Poolgrad.τ).loc Cert.Poolgrad.main_arg1))
      ∧ r.2.sem = fun _ => 0)

def quiescent_PoolgradIdeal [hPoolgradIdeal : Cert.PoolgradIdeal.Facts] : Prop :=
  ∀ (m : (ℓ : Loc Cert.PoolgradIdeal.nD Cert.PoolgradIdeal.τ Cert.PoolgradIdeal.sig) → Buf (Elt Ideal) ℓ) (g : Dev Cert.PoolgradIdeal.nD → PrngReg), Pre_PoolgradIdeal m →
    θ_run (Cert.PoolgradIdeal.defs (F := Ideal)) (onTc (τ := Cert.PoolgradIdeal.τ) (Cert.PoolgradIdeal.main (F := Ideal))) ⟨m, fun _ => 0, g⟩ (fun r => (∀ c : Dev Cert.PoolgradIdeal.nD,
      r.2.mem ((c.tc : Thread Cert.PoolgradIdeal.nD Cert.PoolgradIdeal.τ).loc Cert.PoolgradIdeal.main_arg0) = m ((c.tc : Thread Cert.PoolgradIdeal.nD Cert.PoolgradIdeal.τ).loc Cert.PoolgradIdeal.main_arg0)
      ∧ r.2.mem ((c.tc : Thread Cert.PoolgradIdeal.nD Cert.PoolgradIdeal.τ).loc Cert.PoolgradIdeal.main_arg1) = m ((c.tc : Thread Cert.PoolgradIdeal.nD Cert.PoolgradIdeal.τ).loc Cert.PoolgradIdeal.main_arg1))
      ∧ r.2.sem = fun _ => 0)

def quiescent_PoolgradRefIdeal [hPoolgradRefIdeal : Cert.PoolgradRefIdeal.Facts] : Prop :=
  ∀ (m : (ℓ : Loc Cert.PoolgradRefIdeal.nD Cert.PoolgradRefIdeal.τ Cert.PoolgradRefIdeal.sig) → Buf (Elt Ideal) ℓ) (g : Dev Cert.PoolgradRefIdeal.nD → PrngReg), Pre_PoolgradRefIdeal m →
    θ_run (Cert.PoolgradRefIdeal.defs (F := Ideal)) (onTc (τ := Cert.PoolgradRefIdeal.τ) (Cert.PoolgradRefIdeal.main (F := Ideal))) ⟨m, fun _ => 0, g⟩ (fun r => (∀ c : Dev Cert.PoolgradRefIdeal.nD,
      r.2.mem ((c.tc : Thread Cert.PoolgradRefIdeal.nD Cert.PoolgradRefIdeal.τ).loc Cert.PoolgradRefIdeal.main_arg0) = m ((c.tc : Thread Cert.PoolgradRefIdeal.nD Cert.PoolgradRefIdeal.τ).loc Cert.PoolgradRefIdeal.main_arg0)
      ∧ r.2.mem ((c.tc : Thread Cert.PoolgradRefIdeal.nD Cert.PoolgradRefIdeal.τ).loc Cert.PoolgradRefIdeal.main_arg1) = m ((c.tc : Thread Cert.PoolgradRefIdeal.nD Cert.PoolgradRefIdeal.τ).loc Cert.PoolgradRefIdeal.main_arg1))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2)
      ∧ r.2.mem ((c.tc : Thread Cert.Entry.nD Cert.Entry.τ).loc Cert.Entry.main_arg3) = m ((c.tc : Thread Cert.Entry.nD Cert.Entry.τ).loc Cert.Entry.main_arg3))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3))
      ∧ r.2.sem = fun _ => 0)

def quiescent_EntryRefIdeal [hEntryRefIdeal : Cert.EntryRefIdeal.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1)
      ∧ r.2.mem ((c.tc : Thread Cert.EntryRefIdeal.nD Cert.EntryRefIdeal.τ).loc Cert.EntryRefIdeal.main_arg2) = m ((c.tc : Thread Cert.EntryRefIdeal.nD Cert.EntryRefIdeal.τ).loc Cert.EntryRefIdeal.main_arg2)
      ∧ r.2.mem ((c.tc : Thread Cert.EntryRefIdeal.nD Cert.EntryRefIdeal.τ).loc Cert.EntryRefIdeal.main_arg3) = m ((c.tc : Thread Cert.EntryRefIdeal.nD Cert.EntryRefIdeal.τ).loc Cert.EntryRefIdeal.main_arg3))
      ∧ r.2.sem = fun _ => 0)

def quiescent_Chipsum [hChipsum : Cert.Chipsum.Facts] [hPre_chipsum_owned : Cert.Pre_chipsum_owned.Facts] : Prop :=
  ∀ (m : (ℓ : Loc Cert.Chipsum.nD Cert.Chipsum.τ Cert.Chipsum.sig) → Buf (Elt Bits) ℓ) (g : Dev Cert.Chipsum.nD → PrngReg), Pre_Chipsum m →
    θ_run (Cert.Chipsum.defs (F := Bits)) (onTc (τ := Cert.Chipsum.τ) (Cert.Chipsum.main (F := Bits))) ⟨m, fun _ => 0, g⟩ (fun r => (∀ c : Dev Cert.Chipsum.nD,
      r.2.mem ((c.tc : Thread Cert.Chipsum.nD Cert.Chipsum.τ).loc Cert.Chipsum.main_arg0) = m ((c.tc : Thread Cert.Chipsum.nD Cert.Chipsum.τ).loc Cert.Chipsum.main_arg0)
      ∧ r.2.mem ((c.tc : Thread Cert.Chipsum.nD Cert.Chipsum.τ).loc Cert.Chipsum.main_arg1) = m ((c.tc : Thread Cert.Chipsum.nD Cert.Chipsum.τ).loc Cert.Chipsum.main_arg1)
      ∧ r.2.mem ((c.tc : Thread Cert.Chipsum.nD Cert.Chipsum.τ).loc Cert.Chipsum.main_arg2) = m ((c.tc : Thread Cert.Chipsum.nD Cert.Chipsum.τ).loc Cert.Chipsum.main_arg2)
      ∧ r.2.mem ((c.tc : Thread Cert.Chipsum.nD Cert.Chipsum.τ).loc Cert.Chipsum.main_arg3) = m ((c.tc : Thread Cert.Chipsum.nD Cert.Chipsum.τ).loc Cert.Chipsum.main_arg3))
      ∧ r.2.sem = fun _ => 0)

def quiescent_ChipsumIdeal [hChipsumIdeal : Cert.ChipsumIdeal.Facts] [hPre_chipsum_owned : Cert.Pre_chipsum_owned.Facts] : Prop :=
  ∀ (m : (ℓ : Loc Cert.ChipsumIdeal.nD Cert.ChipsumIdeal.τ Cert.ChipsumIdeal.sig) → Buf (Elt Ideal) ℓ) (g : Dev Cert.ChipsumIdeal.nD → PrngReg), Pre_ChipsumIdeal m →
    θ_run (Cert.ChipsumIdeal.defs (F := Ideal)) (onTc (τ := Cert.ChipsumIdeal.τ) (Cert.ChipsumIdeal.main (F := Ideal))) ⟨m, fun _ => 0, g⟩ (fun r => (∀ c : Dev Cert.ChipsumIdeal.nD,
      r.2.mem ((c.tc : Thread Cert.ChipsumIdeal.nD Cert.ChipsumIdeal.τ).loc Cert.ChipsumIdeal.main_arg0) = m ((c.tc : Thread Cert.ChipsumIdeal.nD Cert.ChipsumIdeal.τ).loc Cert.ChipsumIdeal.main_arg0)
      ∧ r.2.mem ((c.tc : Thread Cert.ChipsumIdeal.nD Cert.ChipsumIdeal.τ).loc Cert.ChipsumIdeal.main_arg1) = m ((c.tc : Thread Cert.ChipsumIdeal.nD Cert.ChipsumIdeal.τ).loc Cert.ChipsumIdeal.main_arg1)
      ∧ r.2.mem ((c.tc : Thread Cert.ChipsumIdeal.nD Cert.ChipsumIdeal.τ).loc Cert.ChipsumIdeal.main_arg2) = m ((c.tc : Thread Cert.ChipsumIdeal.nD Cert.ChipsumIdeal.τ).loc Cert.ChipsumIdeal.main_arg2)
      ∧ r.2.mem ((c.tc : Thread Cert.ChipsumIdeal.nD Cert.ChipsumIdeal.τ).loc Cert.ChipsumIdeal.main_arg3) = m ((c.tc : Thread Cert.ChipsumIdeal.nD Cert.ChipsumIdeal.τ).loc Cert.ChipsumIdeal.main_arg3))
      ∧ r.2.sem = fun _ => 0)

def quiescent_ChipsumRefIdeal [hChipsumRefIdeal : Cert.ChipsumRefIdeal.Facts] : Prop :=
  ∀ (m : (ℓ : Loc Cert.ChipsumRefIdeal.nD Cert.ChipsumRefIdeal.τ Cert.ChipsumRefIdeal.sig) → Buf (Elt Ideal) ℓ) (g : Dev Cert.ChipsumRefIdeal.nD → PrngReg), Pre_ChipsumRefIdeal m →
    θ_run (Cert.ChipsumRefIdeal.defs (F := Ideal)) (onTc (τ := Cert.ChipsumRefIdeal.τ) (Cert.ChipsumRefIdeal.main (F := Ideal))) ⟨m, fun _ => 0, g⟩ (fun r => (∀ c : Dev Cert.ChipsumRefIdeal.nD,
      r.2.mem ((c.tc : Thread Cert.ChipsumRefIdeal.nD Cert.ChipsumRefIdeal.τ).loc Cert.ChipsumRefIdeal.main_arg0) = m ((c.tc : Thread Cert.ChipsumRefIdeal.nD Cert.ChipsumRefIdeal.τ).loc Cert.ChipsumRefIdeal.main_arg0)
      ∧ r.2.mem ((c.tc : Thread Cert.ChipsumRefIdeal.nD Cert.ChipsumRefIdeal.τ).loc Cert.ChipsumRefIdeal.main_arg1) = m ((c.tc : Thread Cert.ChipsumRefIdeal.nD Cert.ChipsumRefIdeal.τ).loc Cert.ChipsumRefIdeal.main_arg1)
      ∧ r.2.mem ((c.tc : Thread Cert.ChipsumRefIdeal.nD Cert.ChipsumRefIdeal.τ).loc Cert.ChipsumRefIdeal.main_arg2) = m ((c.tc : Thread Cert.ChipsumRefIdeal.nD Cert.ChipsumRefIdeal.τ).loc Cert.ChipsumRefIdeal.main_arg2)
      ∧ r.2.mem ((c.tc : Thread Cert.ChipsumRefIdeal.nD Cert.ChipsumRefIdeal.τ).loc Cert.ChipsumRefIdeal.main_arg3) = m ((c.tc : Thread Cert.ChipsumRefIdeal.nD Cert.ChipsumRefIdeal.τ).loc Cert.ChipsumRefIdeal.main_arg3))
      ∧ r.2.sem = fun _ => 0)

def quiescent_ChipsumRefIdeal_pre_chipsum_owned [hChipsumRefIdeal : Cert.ChipsumRefIdeal.Facts] [hPre_chipsum_owned : Cert.Pre_chipsum_owned.Facts] : Prop :=
  ∀ (m : (ℓ : Loc Cert.ChipsumRefIdeal.nD Cert.ChipsumRefIdeal.τ Cert.ChipsumRefIdeal.sig) → Buf (Elt Ideal) ℓ) (g : Dev Cert.ChipsumRefIdeal.nD → PrngReg), Pre_ChipsumRefIdeal_chipsum_owned m →
    θ_run (Cert.ChipsumRefIdeal.defs (F := Ideal)) (onTc (τ := Cert.ChipsumRefIdeal.τ) (Cert.ChipsumRefIdeal.main (F := Ideal))) ⟨m, fun _ => 0, g⟩ (fun r => (∀ c : Dev Cert.ChipsumRefIdeal.nD,
      r.2.mem ((c.tc : Thread Cert.ChipsumRefIdeal.nD Cert.ChipsumRefIdeal.τ).loc Cert.ChipsumRefIdeal.main_arg0) = m ((c.tc : Thread Cert.ChipsumRefIdeal.nD Cert.ChipsumRefIdeal.τ).loc Cert.ChipsumRefIdeal.main_arg0)
      ∧ r.2.mem ((c.tc : Thread Cert.ChipsumRefIdeal.nD Cert.ChipsumRefIdeal.τ).loc Cert.ChipsumRefIdeal.main_arg1) = m ((c.tc : Thread Cert.ChipsumRefIdeal.nD Cert.ChipsumRefIdeal.τ).loc Cert.ChipsumRefIdeal.main_arg1)
      ∧ r.2.mem ((c.tc : Thread Cert.ChipsumRefIdeal.nD Cert.ChipsumRefIdeal.τ).loc Cert.ChipsumRefIdeal.main_arg2) = m ((c.tc : Thread Cert.ChipsumRefIdeal.nD Cert.ChipsumRefIdeal.τ).loc Cert.ChipsumRefIdeal.main_arg2)
      ∧ r.2.mem ((c.tc : Thread Cert.ChipsumRefIdeal.nD Cert.ChipsumRefIdeal.τ).loc Cert.ChipsumRefIdeal.main_arg3) = m ((c.tc : Thread Cert.ChipsumRefIdeal.nD Cert.ChipsumRefIdeal.τ).loc Cert.ChipsumRefIdeal.main_arg3))
      ∧ r.2.sem = fun _ => 0)

def quiescent_Stepin [hStepin : Cert.Stepin.Facts] [hPre_stepin_owned : Cert.Pre_stepin_owned.Facts] : Prop :=
  ∀ (m : (ℓ : Loc Cert.Stepin.nD Cert.Stepin.τ Cert.Stepin.sig) → Buf (Elt Bits) ℓ) (g : Dev Cert.Stepin.nD → PrngReg), Pre_Stepin m →
    θ_run (Cert.Stepin.defs (F := Bits)) (onTc (τ := Cert.Stepin.τ) (Cert.Stepin.main (F := Bits))) ⟨m, fun _ => 0, g⟩ (fun r => (∀ c : Dev Cert.Stepin.nD,
      r.2.mem ((c.tc : Thread Cert.Stepin.nD Cert.Stepin.τ).loc Cert.Stepin.main_arg0) = m ((c.tc : Thread Cert.Stepin.nD Cert.Stepin.τ).loc Cert.Stepin.main_arg0)
      ∧ r.2.mem ((c.tc : Thread Cert.Stepin.nD Cert.Stepin.τ).loc Cert.Stepin.main_arg1) = m ((c.tc : Thread Cert.Stepin.nD Cert.Stepin.τ).loc Cert.Stepin.main_arg1)
      ∧ r.2.mem ((c.tc : Thread Cert.Stepin.nD Cert.Stepin.τ).loc Cert.Stepin.main_arg2) = m ((c.tc : Thread Cert.Stepin.nD Cert.Stepin.τ).loc Cert.Stepin.main_arg2)
      ∧ r.2.mem ((c.tc : Thread Cert.Stepin.nD Cert.Stepin.τ).loc Cert.Stepin.main_arg3) = m ((c.tc : Thread Cert.Stepin.nD Cert.Stepin.τ).loc Cert.Stepin.main_arg3)
      ∧ r.2.mem ((c.tc : Thread Cert.Stepin.nD Cert.Stepin.τ).loc Cert.Stepin.main_arg4) = m ((c.tc : Thread Cert.Stepin.nD Cert.Stepin.τ).loc Cert.Stepin.main_arg4)
      ∧ r.2.mem ((c.tc : Thread Cert.Stepin.nD Cert.Stepin.τ).loc Cert.Stepin.main_arg5) = m ((c.tc : Thread Cert.Stepin.nD Cert.Stepin.τ).loc Cert.Stepin.main_arg5)
      ∧ r.2.mem ((c.tc : Thread Cert.Stepin.nD Cert.Stepin.τ).loc Cert.Stepin.main_arg6) = m ((c.tc : Thread Cert.Stepin.nD Cert.Stepin.τ).loc Cert.Stepin.main_arg6))
      ∧ r.2.sem = fun _ => 0)

def quiescent_StepinIdeal [hStepinIdeal : Cert.StepinIdeal.Facts] [hPre_stepin_owned : Cert.Pre_stepin_owned.Facts] : Prop :=
  ∀ (m : (ℓ : Loc Cert.StepinIdeal.nD Cert.StepinIdeal.τ Cert.StepinIdeal.sig) → Buf (Elt Ideal) ℓ) (g : Dev Cert.StepinIdeal.nD → PrngReg), Pre_StepinIdeal m →
    θ_run (Cert.StepinIdeal.defs (F := Ideal)) (onTc (τ := Cert.StepinIdeal.τ) (Cert.StepinIdeal.main (F := Ideal))) ⟨m, fun _ => 0, g⟩ (fun r => (∀ c : Dev Cert.StepinIdeal.nD,
      r.2.mem ((c.tc : Thread Cert.StepinIdeal.nD Cert.StepinIdeal.τ).loc Cert.StepinIdeal.main_arg0) = m ((c.tc : Thread Cert.StepinIdeal.nD Cert.StepinIdeal.τ).loc Cert.StepinIdeal.main_arg0)
      ∧ r.2.mem ((c.tc : Thread Cert.StepinIdeal.nD Cert.StepinIdeal.τ).loc Cert.StepinIdeal.main_arg1) = m ((c.tc : Thread Cert.StepinIdeal.nD Cert.StepinIdeal.τ).loc Cert.StepinIdeal.main_arg1)
      ∧ r.2.mem ((c.tc : Thread Cert.StepinIdeal.nD Cert.StepinIdeal.τ).loc Cert.StepinIdeal.main_arg2) = m ((c.tc : Thread Cert.StepinIdeal.nD Cert.StepinIdeal.τ).loc Cert.StepinIdeal.main_arg2)
      ∧ r.2.mem ((c.tc : Thread Cert.StepinIdeal.nD Cert.StepinIdeal.τ).loc Cert.StepinIdeal.main_arg3) = m ((c.tc : Thread Cert.StepinIdeal.nD Cert.StepinIdeal.τ).loc Cert.StepinIdeal.main_arg3)
      ∧ r.2.mem ((c.tc : Thread Cert.StepinIdeal.nD Cert.StepinIdeal.τ).loc Cert.StepinIdeal.main_arg4) = m ((c.tc : Thread Cert.StepinIdeal.nD Cert.StepinIdeal.τ).loc Cert.StepinIdeal.main_arg4)
      ∧ r.2.mem ((c.tc : Thread Cert.StepinIdeal.nD Cert.StepinIdeal.τ).loc Cert.StepinIdeal.main_arg5) = m ((c.tc : Thread Cert.StepinIdeal.nD Cert.StepinIdeal.τ).loc Cert.StepinIdeal.main_arg5)
      ∧ r.2.mem ((c.tc : Thread Cert.StepinIdeal.nD Cert.StepinIdeal.τ).loc Cert.StepinIdeal.main_arg6) = m ((c.tc : Thread Cert.StepinIdeal.nD Cert.StepinIdeal.τ).loc Cert.StepinIdeal.main_arg6))
      ∧ r.2.sem = fun _ => 0)

def quiescent_StepinRefIdeal [hStepinRefIdeal : Cert.StepinRefIdeal.Facts] : Prop :=
  ∀ (m : (ℓ : Loc Cert.StepinRefIdeal.nD Cert.StepinRefIdeal.τ Cert.StepinRefIdeal.sig) → Buf (Elt Ideal) ℓ) (g : Dev Cert.StepinRefIdeal.nD → PrngReg), Pre_StepinRefIdeal m →
    θ_run (Cert.StepinRefIdeal.defs (F := Ideal)) (onTc (τ := Cert.StepinRefIdeal.τ) (Cert.StepinRefIdeal.main (F := Ideal))) ⟨m, fun _ => 0, g⟩ (fun r => (∀ c : Dev Cert.StepinRefIdeal.nD,
      r.2.mem ((c.tc : Thread Cert.StepinRefIdeal.nD Cert.StepinRefIdeal.τ).loc Cert.StepinRefIdeal.main_arg0) = m ((c.tc : Thread Cert.StepinRefIdeal.nD Cert.StepinRefIdeal.τ).loc Cert.StepinRefIdeal.main_arg0)
      ∧ r.2.mem ((c.tc : Thread Cert.StepinRefIdeal.nD Cert.StepinRefIdeal.τ).loc Cert.StepinRefIdeal.main_arg1) = m ((c.tc : Thread Cert.StepinRefIdeal.nD Cert.StepinRefIdeal.τ).loc Cert.StepinRefIdeal.main_arg1)
      ∧ r.2.mem ((c.tc : Thread Cert.StepinRefIdeal.nD Cert.StepinRefIdeal.τ).loc Cert.StepinRefIdeal.main_arg2) = m ((c.tc : Thread Cert.StepinRefIdeal.nD Cert.StepinRefIdeal.τ).loc Cert.StepinRefIdeal.main_arg2)
      ∧ r.2.mem ((c.tc : Thread Cert.StepinRefIdeal.nD Cert.StepinRefIdeal.τ).loc Cert.StepinRefIdeal.main_arg3) = m ((c.tc : Thread Cert.StepinRefIdeal.nD Cert.StepinRefIdeal.τ).loc Cert.StepinRefIdeal.main_arg3)
      ∧ r.2.mem ((c.tc : Thread Cert.StepinRefIdeal.nD Cert.StepinRefIdeal.τ).loc Cert.StepinRefIdeal.main_arg4) = m ((c.tc : Thread Cert.StepinRefIdeal.nD Cert.StepinRefIdeal.τ).loc Cert.StepinRefIdeal.main_arg4)
      ∧ r.2.mem ((c.tc : Thread Cert.StepinRefIdeal.nD Cert.StepinRefIdeal.τ).loc Cert.StepinRefIdeal.main_arg5) = m ((c.tc : Thread Cert.StepinRefIdeal.nD Cert.StepinRefIdeal.τ).loc Cert.StepinRefIdeal.main_arg5)
      ∧ r.2.mem ((c.tc : Thread Cert.StepinRefIdeal.nD Cert.StepinRefIdeal.τ).loc Cert.StepinRefIdeal.main_arg6) = m ((c.tc : Thread Cert.StepinRefIdeal.nD Cert.StepinRefIdeal.τ).loc Cert.StepinRefIdeal.main_arg6))
      ∧ r.2.sem = fun _ => 0)

def quiescent_StepinRefIdeal_pre_stepin_owned [hStepinRefIdeal : Cert.StepinRefIdeal.Facts] [hPre_stepin_owned : Cert.Pre_stepin_owned.Facts] : Prop :=
  ∀ (m : (ℓ : Loc Cert.StepinRefIdeal.nD Cert.StepinRefIdeal.τ Cert.StepinRefIdeal.sig) → Buf (Elt Ideal) ℓ) (g : Dev Cert.StepinRefIdeal.nD → PrngReg), Pre_StepinRefIdeal_stepin_owned m →
    θ_run (Cert.StepinRefIdeal.defs (F := Ideal)) (onTc (τ := Cert.StepinRefIdeal.τ) (Cert.StepinRefIdeal.main (F := Ideal))) ⟨m, fun _ => 0, g⟩ (fun r => (∀ c : Dev Cert.StepinRefIdeal.nD,
      r.2.mem ((c.tc : Thread Cert.StepinRefIdeal.nD Cert.StepinRefIdeal.τ).loc Cert.StepinRefIdeal.main_arg0) = m ((c.tc : Thread Cert.StepinRefIdeal.nD Cert.StepinRefIdeal.τ).loc Cert.StepinRefIdeal.main_arg0)
      ∧ r.2.mem ((c.tc : Thread Cert.StepinRefIdeal.nD Cert.StepinRefIdeal.τ).loc Cert.StepinRefIdeal.main_arg1) = m ((c.tc : Thread Cert.StepinRefIdeal.nD Cert.StepinRefIdeal.τ).loc Cert.StepinRefIdeal.main_arg1)
      ∧ r.2.mem ((c.tc : Thread Cert.StepinRefIdeal.nD Cert.StepinRefIdeal.τ).loc Cert.StepinRefIdeal.main_arg2) = m ((c.tc : Thread Cert.StepinRefIdeal.nD Cert.StepinRefIdeal.τ).loc Cert.StepinRefIdeal.main_arg2)
      ∧ r.2.mem ((c.tc : Thread Cert.StepinRefIdeal.nD Cert.StepinRefIdeal.τ).loc Cert.StepinRefIdeal.main_arg3) = m ((c.tc : Thread Cert.StepinRefIdeal.nD Cert.StepinRefIdeal.τ).loc Cert.StepinRefIdeal.main_arg3)
      ∧ r.2.mem ((c.tc : Thread Cert.StepinRefIdeal.nD Cert.StepinRefIdeal.τ).loc Cert.StepinRefIdeal.main_arg4) = m ((c.tc : Thread Cert.StepinRefIdeal.nD Cert.StepinRefIdeal.τ).loc Cert.StepinRefIdeal.main_arg4)
      ∧ r.2.mem ((c.tc : Thread Cert.StepinRefIdeal.nD Cert.StepinRefIdeal.τ).loc Cert.StepinRefIdeal.main_arg5) = m ((c.tc : Thread Cert.StepinRefIdeal.nD Cert.StepinRefIdeal.τ).loc Cert.StepinRefIdeal.main_arg5)
      ∧ r.2.mem ((c.tc : Thread Cert.StepinRefIdeal.nD Cert.StepinRefIdeal.τ).loc Cert.StepinRefIdeal.main_arg6) = m ((c.tc : Thread Cert.StepinRefIdeal.nD Cert.StepinRefIdeal.τ).loc Cert.StepinRefIdeal.main_arg6))
      ∧ r.2.sem = fun _ => 0)

def quiescent_Taps [hTaps : Cert.Taps.Facts] : Prop :=
  ∀ (m : (ℓ : Loc Cert.Taps.nD Cert.Taps.τ Cert.Taps.sig) → Buf (Elt Bits) ℓ) (g : Dev Cert.Taps.nD → PrngReg), Pre_Taps m →
    θ_run (Cert.Taps.defs (F := Bits)) (onTc (τ := Cert.Taps.τ) (Cert.Taps.main (F := Bits))) ⟨m, fun _ => 0, g⟩ (fun r => (∀ c : Dev Cert.Taps.nD,
      r.2.mem ((c.tc : Thread Cert.Taps.nD Cert.Taps.τ).loc Cert.Taps.main_arg0) = m ((c.tc : Thread Cert.Taps.nD Cert.Taps.τ).loc Cert.Taps.main_arg0)
      ∧ r.2.mem ((c.tc : Thread Cert.Taps.nD Cert.Taps.τ).loc Cert.Taps.main_arg1) = m ((c.tc : Thread Cert.Taps.nD Cert.Taps.τ).loc Cert.Taps.main_arg1)
      ∧ r.2.mem ((c.tc : Thread Cert.Taps.nD Cert.Taps.τ).loc Cert.Taps.main_arg2) = m ((c.tc : Thread Cert.Taps.nD Cert.Taps.τ).loc Cert.Taps.main_arg2)
      ∧ r.2.mem ((c.tc : Thread Cert.Taps.nD Cert.Taps.τ).loc Cert.Taps.main_arg3) = m ((c.tc : Thread Cert.Taps.nD Cert.Taps.τ).loc Cert.Taps.main_arg3))
      ∧ r.2.sem = fun _ => 0)

def quiescent_TapsIdeal [hTapsIdeal : Cert.TapsIdeal.Facts] : Prop :=
  ∀ (m : (ℓ : Loc Cert.TapsIdeal.nD Cert.TapsIdeal.τ Cert.TapsIdeal.sig) → Buf (Elt Ideal) ℓ) (g : Dev Cert.TapsIdeal.nD → PrngReg), Pre_TapsIdeal m →
    θ_run (Cert.TapsIdeal.defs (F := Ideal)) (onTc (τ := Cert.TapsIdeal.τ) (Cert.TapsIdeal.main (F := Ideal))) ⟨m, fun _ => 0, g⟩ (fun r => (∀ c : Dev Cert.TapsIdeal.nD,
      r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
      ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
      ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
      ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3))
      ∧ r.2.sem = fun _ => 0)

def quiescent_TapsRefIdeal [hTapsRefIdeal : Cert.TapsRefIdeal.Facts] : Prop :=
  ∀ (m : (ℓ : Loc Cert.TapsRefIdeal.nD Cert.TapsRefIdeal.τ Cert.TapsRefIdeal.sig) → Buf (Elt Ideal) ℓ) (g : Dev Cert.TapsRefIdeal.nD → PrngReg), Pre_TapsRefIdeal m →
    θ_run (Cert.TapsRefIdeal.defs (F := Ideal)) (onTc (τ := Cert.TapsRefIdeal.τ) (Cert.TapsRefIdeal.main (F := Ideal))) ⟨m, fun _ => 0, g⟩ (fun r => (∀ c : Dev Cert.TapsRefIdeal.nD,
      r.2.mem ((c.tc : Thread Cert.TapsRefIdeal.nD Cert.TapsRefIdeal.τ).loc Cert.TapsRefIdeal.main_arg0) = m ((c.tc : Thread Cert.TapsRefIdeal.nD Cert.TapsRefIdeal.τ).loc Cert.TapsRefIdeal.main_arg0)
      ∧ r.2.mem ((c.tc : Thread Cert.TapsRefIdeal.nD Cert.TapsRefIdeal.τ).loc Cert.TapsRefIdeal.main_arg1) = m ((c.tc : Thread Cert.TapsRefIdeal.nD Cert.TapsRefIdeal.τ).loc Cert.TapsRefIdeal.main_arg1)
      ∧ r.2.mem ((c.tc : Thread Cert.TapsRefIdeal.nD Cert.TapsRefIdeal.τ).loc Cert.TapsRefIdeal.main_arg2) = m ((c.tc : Thread Cert.TapsRefIdeal.nD Cert.TapsRefIdeal.τ).loc Cert.TapsRefIdeal.main_arg2)
      ∧ r.2.mem ((c.tc : Thread Cert.TapsRefIdeal.nD Cert.TapsRefIdeal.τ).loc Cert.TapsRefIdeal.main_arg3) = m ((c.tc : Thread Cert.TapsRefIdeal.nD Cert.TapsRefIdeal.τ).loc Cert.TapsRefIdeal.main_arg3))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def preserves_Rms2_Rms2Ideal : Prop :=
  True

def algebraic_Rms2Ideal_Rms2RefIdeal_pre_rms2_finite [hRms2Ideal : Cert.Rms2Ideal.Facts] [hRms2RefIdeal : Cert.Rms2RefIdeal.Facts] [hPre_rms2_finite : Cert.Pre_rms2_finite.Facts] : Prop :=
  ∀ (m : (ℓ : Loc Cert.Rms2Ideal.nD Cert.Rms2Ideal.τ Cert.Rms2Ideal.sig) → Buf (Elt Ideal) ℓ) (g : Dev Cert.Rms2Ideal.nD → PrngReg)
    (m' : (ℓ : Loc Cert.Rms2RefIdeal.nD Cert.Rms2RefIdeal.τ Cert.Rms2RefIdeal.sig) → Buf (Elt Ideal) ℓ) (g' : Dev Cert.Rms2RefIdeal.nD → PrngReg), Pre_Rms2Ideal_rms2_finite m →
    (∀ c : Dev Cert.Rms2Ideal.nD,
      m' ((c.tc : Thread Cert.Rms2RefIdeal.nD Cert.Rms2RefIdeal.τ).loc Cert.Rms2RefIdeal.main_arg0) = m ((c.tc : Thread Cert.Rms2Ideal.nD Cert.Rms2Ideal.τ).loc Cert.Rms2Ideal.main_arg0)
      ∧ m' ((c.tc : Thread Cert.Rms2RefIdeal.nD Cert.Rms2RefIdeal.τ).loc Cert.Rms2RefIdeal.main_arg1) = m ((c.tc : Thread Cert.Rms2Ideal.nD Cert.Rms2Ideal.τ).loc Cert.Rms2Ideal.main_arg1)
      ∧ m' ((c.tc : Thread Cert.Rms2RefIdeal.nD Cert.Rms2RefIdeal.τ).loc Cert.Rms2RefIdeal.main_arg2) = m ((c.tc : Thread Cert.Rms2Ideal.nD Cert.Rms2Ideal.τ).loc Cert.Rms2Ideal.main_arg2)
      ∧ m' ((c.tc : Thread Cert.Rms2RefIdeal.nD Cert.Rms2RefIdeal.τ).loc Cert.Rms2RefIdeal.main_arg3) = m ((c.tc : Thread Cert.Rms2Ideal.nD Cert.Rms2Ideal.τ).loc Cert.Rms2Ideal.main_arg3)) →
    ∃ (v0 : (c : Dev Cert.Rms2Ideal.nD) → Buf (Elt Ideal) ((c.tc : Thread Cert.Rms2Ideal.nD Cert.Rms2Ideal.τ).loc Cert.Rms2Ideal.main_v3_0)) (v1 : (c : Dev Cert.Rms2Ideal.nD) → Buf (Elt Ideal) ((c.tc : Thread Cert.Rms2Ideal.nD Cert.Rms2Ideal.τ).loc Cert.Rms2Ideal.main_v3_1)) (v2 : (c : Dev Cert.Rms2Ideal.nD) → Buf (Elt Ideal) ((c.tc : Thread Cert.Rms2Ideal.nD Cert.Rms2Ideal.τ).loc Cert.Rms2Ideal.main_v3_2)),
      θ_run (Cert.Rms2Ideal.defs (F := Ideal)) (onTc (τ := Cert.Rms2Ideal.τ) (Cert.Rms2Ideal.main (F := Ideal))) ⟨m, fun _ => 0, g⟩ (fun r => ∀ c : Dev Cert.Rms2Ideal.nD,
          r.2.mem ((c.tc : Thread Cert.Rms2Ideal.nD Cert.Rms2Ideal.τ).loc Cert.Rms2Ideal.main_v3_0) = v0 c
          ∧ r.2.mem ((c.tc : Thread Cert.Rms2Ideal.nD Cert.Rms2Ideal.τ).loc Cert.Rms2Ideal.main_v3_1) = v1 c
          ∧ r.2.mem ((c.tc : Thread Cert.Rms2Ideal.nD Cert.Rms2Ideal.τ).loc Cert.Rms2Ideal.main_v3_2) = v2 c
          ∧ r.2.mem ((c.tc : Thread Cert.Rms2Ideal.nD Cert.Rms2Ideal.τ).loc Cert.Rms2Ideal.main_arg0) = m ((c.tc : Thread Cert.Rms2Ideal.nD Cert.Rms2Ideal.τ).loc Cert.Rms2Ideal.main_arg0)
          ∧ r.2.mem ((c.tc : Thread Cert.Rms2Ideal.nD Cert.Rms2Ideal.τ).loc Cert.Rms2Ideal.main_arg1) = m ((c.tc : Thread Cert.Rms2Ideal.nD Cert.Rms2Ideal.τ).loc Cert.Rms2Ideal.main_arg1)
          ∧ r.2.mem ((c.tc : Thread Cert.Rms2Ideal.nD Cert.Rms2Ideal.τ).loc Cert.Rms2Ideal.main_arg2) = m ((c.tc : Thread Cert.Rms2Ideal.nD Cert.Rms2Ideal.τ).loc Cert.Rms2Ideal.main_arg2)
          ∧ r.2.mem ((c.tc : Thread Cert.Rms2Ideal.nD Cert.Rms2Ideal.τ).loc Cert.Rms2Ideal.main_arg3) = m ((c.tc : Thread Cert.Rms2Ideal.nD Cert.Rms2Ideal.τ).loc Cert.Rms2Ideal.main_arg3))
      ∧ θ_run (Cert.Rms2RefIdeal.defs (F := Ideal)) (onTc (τ := Cert.Rms2RefIdeal.τ) (Cert.Rms2RefIdeal.main (F := Ideal))) ⟨m', fun _ => 0, g'⟩ (fun r => ∀ c : Dev Cert.Rms2RefIdeal.nD,
          r.2.mem ((c.tc : Thread Cert.Rms2RefIdeal.nD Cert.Rms2RefIdeal.τ).loc Cert.Rms2RefIdeal.main_v42) = v0 c
          ∧ r.2.mem ((c.tc : Thread Cert.Rms2RefIdeal.nD Cert.Rms2RefIdeal.τ).loc Cert.Rms2RefIdeal.main_v44) = v1 c
          ∧ r.2.mem ((c.tc : Thread Cert.Rms2RefIdeal.nD Cert.Rms2RefIdeal.τ).loc Cert.Rms2RefIdeal.main_v41) = v2 c
          ∧ r.2.mem ((c.tc : Thread Cert.Rms2RefIdeal.nD Cert.Rms2RefIdeal.τ).loc Cert.Rms2RefIdeal.main_arg0) = m' ((c.tc : Thread Cert.Rms2RefIdeal.nD Cert.Rms2RefIdeal.τ).loc Cert.Rms2RefIdeal.main_arg0)
          ∧ r.2.mem ((c.tc : Thread Cert.Rms2RefIdeal.nD Cert.Rms2RefIdeal.τ).loc Cert.Rms2RefIdeal.main_arg1) = m' ((c.tc : Thread Cert.Rms2RefIdeal.nD Cert.Rms2RefIdeal.τ).loc Cert.Rms2RefIdeal.main_arg1)
          ∧ r.2.mem ((c.tc : Thread Cert.Rms2RefIdeal.nD Cert.Rms2RefIdeal.τ).loc Cert.Rms2RefIdeal.main_arg2) = m' ((c.tc : Thread Cert.Rms2RefIdeal.nD Cert.Rms2RefIdeal.τ).loc Cert.Rms2RefIdeal.main_arg2)
          ∧ r.2.mem ((c.tc : Thread Cert.Rms2RefIdeal.nD Cert.Rms2RefIdeal.τ).loc Cert.Rms2RefIdeal.main_arg3) = m' ((c.tc : Thread Cert.Rms2RefIdeal.nD Cert.Rms2RefIdeal.τ).loc Cert.Rms2RefIdeal.main_arg3))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v56) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v7)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v7) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v69) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v14_0)) (v1 : (c : Dev Cert.ConvIdeal.nD) → Buf (Elt Ideal) ((c.tc : Thread Cert.ConvIdeal.nD Cert.ConvIdeal.τ).loc Cert.ConvIdeal.main_v14_1)) (v2 : (c : Dev Cert.ConvIdeal.nD) → Buf (Elt Ideal) ((c.tc : Thread Cert.ConvIdeal.nD Cert.ConvIdeal.τ).loc Cert.ConvIdeal.main_v14_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v14_0) = v0 c
          ∧ r.2.mem ((c.tc : Thread Cert.ConvIdeal.nD Cert.ConvIdeal.τ).loc Cert.ConvIdeal.main_v14_1) = v1 c
          ∧ r.2.mem ((c.tc : Thread Cert.ConvIdeal.nD Cert.ConvIdeal.τ).loc Cert.ConvIdeal.main_v14_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v83) = v0 c
          ∧ r.2.mem ((c.tc : Thread Cert.ConvRefIdeal.nD Cert.ConvRefIdeal.τ).loc Cert.ConvRefIdeal.main_v84) = v1 c
          ∧ r.2.mem ((c.tc : Thread Cert.ConvRefIdeal.nD Cert.ConvRefIdeal.τ).loc Cert.ConvRefIdeal.main_v75) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Merge_MergeIdeal : Prop :=
  True

def algebraic_MergeIdeal_MergeRefIdeal_on_gates_written [hMergeIdeal : Cert.MergeIdeal.Facts] [hMergeRefIdeal : Cert.MergeRefIdeal.Facts] [hOn_gates_written : Cert.On_gates_written.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v15_0)) (v2 : (c : Dev Cert.MergeIdeal.nD) → Buf (Elt Ideal) ((c.tc : Thread Cert.MergeIdeal.nD Cert.MergeIdeal.τ).loc Cert.MergeIdeal.main_v15_1)) (v3 : (c : Dev Cert.MergeIdeal.nD) → Buf (Elt Ideal) ((c.tc : Thread Cert.MergeIdeal.nD Cert.MergeIdeal.τ).loc Cert.MergeIdeal.main_v15_2)) (v4 : (c : Dev Cert.MergeIdeal.nD) → Buf (Elt Ideal) ((c.tc : Thread Cert.MergeIdeal.nD Cert.MergeIdeal.τ).loc Cert.MergeIdeal.main_v15_3)) (v5 : (c : Dev Cert.MergeIdeal.nD) → Buf (Elt Ideal) ((c.tc : Thread Cert.MergeIdeal.nD Cert.MergeIdeal.τ).loc Cert.MergeIdeal.main_v15_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![2048, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).1 i = 1#1 → r.2.mem ((c.tc : Thread Cert.MergeIdeal.nD Cert.MergeIdeal.τ).loc Cert.MergeIdeal.main_v11_0) i = v0 c i)
          ∧ (∀ i : (⟨2, ![2048, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.1 i = 1#1 → r.2.mem ((c.tc : Thread Cert.MergeIdeal.nD Cert.MergeIdeal.τ).loc Cert.MergeIdeal.main_v15_0) i = v1 c i)
          ∧ (∀ i : (⟨2, ![2048, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.1 i = 1#1 → r.2.mem ((c.tc : Thread Cert.MergeIdeal.nD Cert.MergeIdeal.τ).loc Cert.MergeIdeal.main_v15_1) i = v2 c i)
          ∧ (∀ i : (⟨4, ![4, 2, 2048, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.1 i = 1#1 → r.2.mem ((c.tc : Thread Cert.MergeIdeal.nD Cert.MergeIdeal.τ).loc Cert.MergeIdeal.main_v15_2) i = v3 c i)
          ∧ (∀ i : (⟨2, ![2, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.1 i = 1#1 → r.2.mem ((c.tc : Thread Cert.MergeIdeal.nD Cert.MergeIdeal.τ).loc Cert.MergeIdeal.main_v15_3) i = v4 c i)
          ∧ (∀ i : (⟨2, ![1, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2 i = 1#1 → r.2.mem ((c.tc : Thread Cert.MergeIdeal.nD Cert.MergeIdeal.τ).loc Cert.MergeIdeal.main_v15_4) i = v5 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![2048, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).1 i = 1#1 → r.2.mem ((c.tc : Thread Cert.MergeRefIdeal.nD Cert.MergeRefIdeal.τ).loc Cert.MergeRefIdeal.main_v86) i = v0 c i)
          ∧ (∀ i : (⟨2, ![2048, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.1 i = 1#1 → r.2.mem ((c.tc : Thread Cert.MergeRefIdeal.nD Cert.MergeRefIdeal.τ).loc Cert.MergeRefIdeal.main_v88) i = v1 c i)
          ∧ (∀ i : (⟨2, ![2048, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.1 i = 1#1 → r.2.mem ((c.tc : Thread Cert.MergeRefIdeal.nD Cert.MergeRefIdeal.τ).loc Cert.MergeRefIdeal.main_v90) i = v2 c i)
          ∧ (∀ i : (⟨4, ![4, 2, 2048, 1024]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.1 i = 1#1 → r.2.mem ((c.tc : Thread Cert.MergeRefIdeal.nD Cert.MergeRefIdeal.τ).loc Cert.MergeRefIdeal.main_v84) i = v3 c i)
          ∧ (∀ i : (⟨2, ![2, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.1 i = 1#1 → r.2.mem ((c.tc : Thread Cert.MergeRefIdeal.nD Cert.MergeRefIdeal.τ).loc Cert.MergeRefIdeal.main_v91) i = v4 c i)
          ∧ (∀ i : (⟨2, ![1, 2048]⟩ : Shape).Idx, (Cert.On_gates_written.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2 i = 1#1 → r.2.mem ((c.tc : Thread Cert.MergeRefIdeal.nD Cert.MergeRefIdeal.τ).loc Cert.MergeRefIdeal.main_v71) i = v5 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v10_2)) (v1 : (c : Dev Cert.FfnIdeal.nD) → Buf (Elt Ideal) ((c.tc : Thread Cert.FfnIdeal.nD Cert.FfnIdeal.τ).loc Cert.FfnIdeal.main_v14_0)) (v2 : (c : Dev Cert.FfnIdeal.nD) → Buf (Elt Ideal) ((c.tc : Thread Cert.FfnIdeal.nD Cert.FfnIdeal.τ).loc Cert.FfnIdeal.main_v14_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_2) = v0 c
          ∧ r.2.mem ((c.tc : Thread Cert.FfnIdeal.nD Cert.FfnIdeal.τ).loc Cert.FfnIdeal.main_v14_0) = v1 c
          ∧ r.2.mem ((c.tc : Thread Cert.FfnIdeal.nD Cert.FfnIdeal.τ).loc Cert.FfnIdeal.main_v14_1) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v15) = v0 c
          ∧ r.2.mem ((c.tc : Thread Cert.FfnRefIdeal.nD Cert.FfnRefIdeal.τ).loc Cert.FfnRefIdeal.main_v18) = v1 c
          ∧ r.2.mem ((c.tc : Thread Cert.FfnRefIdeal.nD Cert.FfnRefIdeal.τ).loc Cert.FfnRefIdeal.main_v21) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Rms1_Rms1Ideal : Prop :=
  True

def algebraic_Rms1Ideal_Rms1RefIdeal_pre_rms1_finite [hRms1Ideal : Cert.Rms1Ideal.Facts] [hRms1RefIdeal : Cert.Rms1RefIdeal.Facts] [hPre_rms1_finite : Cert.Pre_rms1_finite.Facts] : Prop :=
  ∀ (m : (ℓ : Loc Cert.Rms1Ideal.nD Cert.Rms1Ideal.τ Cert.Rms1Ideal.sig) → Buf (Elt Ideal) ℓ) (g : Dev Cert.Rms1Ideal.nD → PrngReg)
    (m' : (ℓ : Loc Cert.Rms1RefIdeal.nD Cert.Rms1RefIdeal.τ Cert.Rms1RefIdeal.sig) → Buf (Elt Ideal) ℓ) (g' : Dev Cert.Rms1RefIdeal.nD → PrngReg), Pre_Rms1Ideal_rms1_finite m →
    (∀ c : Dev Cert.Rms1Ideal.nD,
      m' ((c.tc : Thread Cert.Rms1RefIdeal.nD Cert.Rms1RefIdeal.τ).loc Cert.Rms1RefIdeal.main_arg0) = m ((c.tc : Thread Cert.Rms1Ideal.nD Cert.Rms1Ideal.τ).loc Cert.Rms1Ideal.main_arg0)
      ∧ m' ((c.tc : Thread Cert.Rms1RefIdeal.nD Cert.Rms1RefIdeal.τ).loc Cert.Rms1RefIdeal.main_arg1) = m ((c.tc : Thread Cert.Rms1Ideal.nD Cert.Rms1Ideal.τ).loc Cert.Rms1Ideal.main_arg1)
      ∧ m' ((c.tc : Thread Cert.Rms1RefIdeal.nD Cert.Rms1RefIdeal.τ).loc Cert.Rms1RefIdeal.main_arg2) = m ((c.tc : Thread Cert.Rms1Ideal.nD Cert.Rms1Ideal.τ).loc Cert.Rms1Ideal.main_arg2)
      ∧ m' ((c.tc : Thread Cert.Rms1RefIdeal.nD Cert.Rms1RefIdeal.τ).loc Cert.Rms1RefIdeal.main_arg3) = m ((c.tc : Thread Cert.Rms1Ideal.nD Cert.Rms1Ideal.τ).loc Cert.Rms1Ideal.main_arg3)) →
    ∃ (v0 : (c : Dev Cert.Rms1Ideal.nD) → Buf (Elt Ideal) ((c.tc : Thread Cert.Rms1Ideal.nD Cert.Rms1Ideal.τ).loc Cert.Rms1Ideal.main_v2_0)) (v1 : (c : Dev Cert.Rms1Ideal.nD) → Buf (Elt Ideal) ((c.tc : Thread Cert.Rms1Ideal.nD Cert.Rms1Ideal.τ).loc Cert.Rms1Ideal.main_v2_1)),
      θ_run (Cert.Rms1Ideal.defs (F := Ideal)) (onTc (τ := Cert.Rms1Ideal.τ) (Cert.Rms1Ideal.main (F := Ideal))) ⟨m, fun _ => 0, g⟩ (fun r => ∀ c : Dev Cert.Rms1Ideal.nD,
          r.2.mem ((c.tc : Thread Cert.Rms1Ideal.nD Cert.Rms1Ideal.τ).loc Cert.Rms1Ideal.main_v2_0) = v0 c
          ∧ r.2.mem ((c.tc : Thread Cert.Rms1Ideal.nD Cert.Rms1Ideal.τ).loc Cert.Rms1Ideal.main_v2_1) = v1 c
          ∧ r.2.mem ((c.tc : Thread Cert.Rms1Ideal.nD Cert.Rms1Ideal.τ).loc Cert.Rms1Ideal.main_arg0) = m ((c.tc : Thread Cert.Rms1Ideal.nD Cert.Rms1Ideal.τ).loc Cert.Rms1Ideal.main_arg0)
          ∧ r.2.mem ((c.tc : Thread Cert.Rms1Ideal.nD Cert.Rms1Ideal.τ).loc Cert.Rms1Ideal.main_arg1) = m ((c.tc : Thread Cert.Rms1Ideal.nD Cert.Rms1Ideal.τ).loc Cert.Rms1Ideal.main_arg1)
          ∧ r.2.mem ((c.tc : Thread Cert.Rms1Ideal.nD Cert.Rms1Ideal.τ).loc Cert.Rms1Ideal.main_arg2) = m ((c.tc : Thread Cert.Rms1Ideal.nD Cert.Rms1Ideal.τ).loc Cert.Rms1Ideal.main_arg2)
          ∧ r.2.mem ((c.tc : Thread Cert.Rms1Ideal.nD Cert.Rms1Ideal.τ).loc Cert.Rms1Ideal.main_arg3) = m ((c.tc : Thread Cert.Rms1Ideal.nD Cert.Rms1Ideal.τ).loc Cert.Rms1Ideal.main_arg3))
      ∧ θ_run (Cert.Rms1RefIdeal.defs (F := Ideal)) (onTc (τ := Cert.Rms1RefIdeal.τ) (Cert.Rms1RefIdeal.main (F := Ideal))) ⟨m', fun _ => 0, g'⟩ (fun r => ∀ c : Dev Cert.Rms1RefIdeal.nD,
          r.2.mem ((c.tc : Thread Cert.Rms1RefIdeal.nD Cert.Rms1RefIdeal.τ).loc Cert.Rms1RefIdeal.main_v42) = v0 c
          ∧ r.2.mem ((c.tc : Thread Cert.Rms1RefIdeal.nD Cert.Rms1RefIdeal.τ).loc Cert.Rms1RefIdeal.main_v41) = v1 c
          ∧ r.2.mem ((c.tc : Thread Cert.Rms1RefIdeal.nD Cert.Rms1RefIdeal.τ).loc Cert.Rms1RefIdeal.main_arg0) = m' ((c.tc : Thread Cert.Rms1RefIdeal.nD Cert.Rms1RefIdeal.τ).loc Cert.Rms1RefIdeal.main_arg0)
          ∧ r.2.mem ((c.tc : Thread Cert.Rms1RefIdeal.nD Cert.Rms1RefIdeal.τ).loc Cert.Rms1RefIdeal.main_arg1) = m' ((c.tc : Thread Cert.Rms1RefIdeal.nD Cert.Rms1RefIdeal.τ).loc Cert.Rms1RefIdeal.main_arg1)
          ∧ r.2.mem ((c.tc : Thread Cert.Rms1RefIdeal.nD Cert.Rms1RefIdeal.τ).loc Cert.Rms1RefIdeal.main_arg2) = m' ((c.tc : Thread Cert.Rms1RefIdeal.nD Cert.Rms1RefIdeal.τ).loc Cert.Rms1RefIdeal.main_arg2)
          ∧ r.2.mem ((c.tc : Thread Cert.Rms1RefIdeal.nD Cert.Rms1RefIdeal.τ).loc Cert.Rms1RefIdeal.main_arg3) = m' ((c.tc : Thread Cert.Rms1RefIdeal.nD Cert.Rms1RefIdeal.τ).loc Cert.Rms1RefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)
      ∧ m' ((c.tc : Thread Cert.ShortRefIdeal.nD Cert.ShortRefIdeal.τ).loc Cert.ShortRefIdeal.main_arg2) = m ((c.tc : Thread Cert.ShortIdeal.nD Cert.ShortIdeal.τ).loc Cert.ShortIdeal.main_arg2)) →
    ∃ (v0 : (c : Dev Cert.ShortIdeal.nD) → Buf (Elt Ideal) ((c.tc : Thread Cert.ShortIdeal.nD Cert.ShortIdeal.τ).loc Cert.ShortIdeal.main_v9)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v9) = v0 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v33) = v0 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1)
          ∧ r.2.mem ((c.tc : Thread Cert.ShortRefIdeal.nD Cert.ShortRefIdeal.τ).loc Cert.ShortRefIdeal.main_arg2) = m' ((c.tc : Thread Cert.ShortRefIdeal.nD Cert.ShortRefIdeal.τ).loc Cert.ShortRefIdeal.main_arg2))

def preserves_Trail_TrailIdeal : Prop :=
  True

def algebraic_TrailIdeal_TrailRefIdeal_pre_trail_finite [hTrailIdeal : Cert.TrailIdeal.Facts] [hTrailRefIdeal : Cert.TrailRefIdeal.Facts] [hPre_trail_finite : Cert.Pre_trail_finite.Facts] : Prop :=
  ∀ (m : (ℓ : Loc Cert.TrailIdeal.nD Cert.TrailIdeal.τ Cert.TrailIdeal.sig) → Buf (Elt Ideal) ℓ) (g : Dev Cert.TrailIdeal.nD → PrngReg)
    (m' : (ℓ : Loc Cert.TrailRefIdeal.nD Cert.TrailRefIdeal.τ Cert.TrailRefIdeal.sig) → Buf (Elt Ideal) ℓ) (g' : Dev Cert.TrailRefIdeal.nD → PrngReg), Pre_TrailIdeal_trail_finite m →
    (∀ c : Dev Cert.TrailIdeal.nD,
      m' ((c.tc : Thread Cert.TrailRefIdeal.nD Cert.TrailRefIdeal.τ).loc Cert.TrailRefIdeal.main_arg0) = m ((c.tc : Thread Cert.TrailIdeal.nD Cert.TrailIdeal.τ).loc Cert.TrailIdeal.main_arg0)) →
    ∃ (v0 : (c : Dev Cert.TrailIdeal.nD) → Buf (Elt Ideal) ((c.tc : Thread Cert.TrailIdeal.nD Cert.TrailIdeal.τ).loc Cert.TrailIdeal.main_v2)),
      θ_run (Cert.TrailIdeal.defs (F := Ideal)) (onTc (τ := Cert.TrailIdeal.τ) (Cert.TrailIdeal.main (F := Ideal))) ⟨m, fun _ => 0, g⟩ (fun r => ∀ c : Dev Cert.TrailIdeal.nD,
          r.2.mem ((c.tc : Thread Cert.TrailIdeal.nD Cert.TrailIdeal.τ).loc Cert.TrailIdeal.main_v2) = v0 c
          ∧ r.2.mem ((c.tc : Thread Cert.TrailIdeal.nD Cert.TrailIdeal.τ).loc Cert.TrailIdeal.main_arg0) = m ((c.tc : Thread Cert.TrailIdeal.nD Cert.TrailIdeal.τ).loc Cert.TrailIdeal.main_arg0))
      ∧ θ_run (Cert.TrailRefIdeal.defs (F := Ideal)) (onTc (τ := Cert.TrailRefIdeal.τ) (Cert.TrailRefIdeal.main (F := Ideal))) ⟨m', fun _ => 0, g'⟩ (fun r => ∀ c : Dev Cert.TrailRefIdeal.nD,
          r.2.mem ((c.tc : Thread Cert.TrailRefIdeal.nD Cert.TrailRefIdeal.τ).loc Cert.TrailRefIdeal.main_v45) = v0 c
          ∧ r.2.mem ((c.tc : Thread Cert.TrailRefIdeal.nD Cert.TrailRefIdeal.τ).loc Cert.TrailRefIdeal.main_arg0) = m' ((c.tc : Thread Cert.TrailRefIdeal.nD Cert.TrailRefIdeal.τ).loc Cert.TrailRefIdeal.main_arg0))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_v20) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v5) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v6) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Rowgrad_RowgradIdeal : Prop :=
  True

def algebraic_RowgradIdeal_RowgradRefIdeal [hRowgradIdeal : Cert.RowgradIdeal.Facts] [hRowgradRefIdeal : Cert.RowgradRefIdeal.Facts] : Prop :=
  ∀ (m : (ℓ : Loc Cert.RowgradIdeal.nD Cert.RowgradIdeal.τ Cert.RowgradIdeal.sig) → Buf (Elt Ideal) ℓ) (g : Dev Cert.RowgradIdeal.nD → PrngReg)
    (m' : (ℓ : Loc Cert.RowgradRefIdeal.nD Cert.RowgradRefIdeal.τ Cert.RowgradRefIdeal.sig) → Buf (Elt Ideal) ℓ) (g' : Dev Cert.RowgradRefIdeal.nD → PrngReg), Pre_RowgradIdeal m →
    (∀ c : Dev Cert.RowgradIdeal.nD,
      m' ((c.tc : Thread Cert.RowgradRefIdeal.nD Cert.RowgradRefIdeal.τ).loc Cert.RowgradRefIdeal.main_arg0) = m ((c.tc : Thread Cert.RowgradIdeal.nD Cert.RowgradIdeal.τ).loc Cert.RowgradIdeal.main_arg0)
      ∧ m' ((c.tc : Thread Cert.RowgradRefIdeal.nD Cert.RowgradRefIdeal.τ).loc Cert.RowgradRefIdeal.main_arg1) = m ((c.tc : Thread Cert.RowgradIdeal.nD Cert.RowgradIdeal.τ).loc Cert.RowgradIdeal.main_arg1)) →
    ∃ (v0 : (c : Dev Cert.RowgradIdeal.nD) → Buf (Elt Ideal) ((c.tc : Thread Cert.RowgradIdeal.nD Cert.RowgradIdeal.τ).loc Cert.RowgradIdeal.main_v3)),
      θ_run (Cert.RowgradIdeal.defs (F := Ideal)) (onTc (τ := Cert.RowgradIdeal.τ) (Cert.RowgradIdeal.main (F := Ideal))) ⟨m, fun _ => 0, g⟩ (fun r => ∀ c : Dev Cert.RowgradIdeal.nD,
          r.2.mem ((c.tc : Thread Cert.RowgradIdeal.nD Cert.RowgradIdeal.τ).loc Cert.RowgradIdeal.main_v3) = v0 c
          ∧ r.2.mem ((c.tc : Thread Cert.RowgradIdeal.nD Cert.RowgradIdeal.τ).loc Cert.RowgradIdeal.main_arg0) = m ((c.tc : Thread Cert.RowgradIdeal.nD Cert.RowgradIdeal.τ).loc Cert.RowgradIdeal.main_arg0)
          ∧ r.2.mem ((c.tc : Thread Cert.RowgradIdeal.nD Cert.RowgradIdeal.τ).loc Cert.RowgradIdeal.main_arg1) = m ((c.tc : Thread Cert.RowgradIdeal.nD Cert.RowgradIdeal.τ).loc Cert.RowgradIdeal.main_arg1))
      ∧ θ_run (Cert.RowgradRefIdeal.defs (F := Ideal)) (onTc (τ := Cert.RowgradRefIdeal.τ) (Cert.RowgradRefIdeal.main (F := Ideal))) ⟨m', fun _ => 0, g'⟩ (fun r => ∀ c : Dev Cert.RowgradRefIdeal.nD,
          r.2.mem ((c.tc : Thread Cert.RowgradRefIdeal.nD Cert.RowgradRefIdeal.τ).loc Cert.RowgradRefIdeal.main_v7) = v0 c
          ∧ r.2.mem ((c.tc : Thread Cert.RowgradRefIdeal.nD Cert.RowgradRefIdeal.τ).loc Cert.RowgradRefIdeal.main_arg0) = m' ((c.tc : Thread Cert.RowgradRefIdeal.nD Cert.RowgradRefIdeal.τ).loc Cert.RowgradRefIdeal.main_arg0)
          ∧ r.2.mem ((c.tc : Thread Cert.RowgradRefIdeal.nD Cert.RowgradRefIdeal.τ).loc Cert.RowgradRefIdeal.main_arg1) = m' ((c.tc : Thread Cert.RowgradRefIdeal.nD Cert.RowgradRefIdeal.τ).loc Cert.RowgradRefIdeal.main_arg1))

def preserves_Colgrad_ColgradIdeal : Prop :=
  True

def algebraic_ColgradIdeal_ColgradRefIdeal [hColgradIdeal : Cert.ColgradIdeal.Facts] [hColgradRefIdeal : Cert.ColgradRefIdeal.Facts] : Prop :=
  ∀ (m : (ℓ : Loc Cert.ColgradIdeal.nD Cert.ColgradIdeal.τ Cert.ColgradIdeal.sig) → Buf (Elt Ideal) ℓ) (g : Dev Cert.ColgradIdeal.nD → PrngReg)
    (m' : (ℓ : Loc Cert.ColgradRefIdeal.nD Cert.ColgradRefIdeal.τ Cert.ColgradRefIdeal.sig) → Buf (Elt Ideal) ℓ) (g' : Dev Cert.ColgradRefIdeal.nD → PrngReg), Pre_ColgradIdeal m →
    (∀ c : Dev Cert.ColgradIdeal.nD,
      m' ((c.tc : Thread Cert.ColgradRefIdeal.nD Cert.ColgradRefIdeal.τ).loc Cert.ColgradRefIdeal.main_arg0) = m ((c.tc : Thread Cert.ColgradIdeal.nD Cert.ColgradIdeal.τ).loc Cert.ColgradIdeal.main_arg0)
      ∧ m' ((c.tc : Thread Cert.ColgradRefIdeal.nD Cert.ColgradRefIdeal.τ).loc Cert.ColgradRefIdeal.main_arg1) = m ((c.tc : Thread Cert.ColgradIdeal.nD Cert.ColgradIdeal.τ).loc Cert.ColgradIdeal.main_arg1)) →
    ∃ (v0 : (c : Dev Cert.ColgradIdeal.nD) → Buf (Elt Ideal) ((c.tc : Thread Cert.ColgradIdeal.nD Cert.ColgradIdeal.τ).loc Cert.ColgradIdeal.main_v3)),
      θ_run (Cert.ColgradIdeal.defs (F := Ideal)) (onTc (τ := Cert.ColgradIdeal.τ) (Cert.ColgradIdeal.main (F := Ideal))) ⟨m, fun _ => 0, g⟩ (fun r => ∀ c : Dev Cert.ColgradIdeal.nD,
          r.2.mem ((c.tc : Thread Cert.ColgradIdeal.nD Cert.ColgradIdeal.τ).loc Cert.ColgradIdeal.main_v3) = v0 c
          ∧ r.2.mem ((c.tc : Thread Cert.ColgradIdeal.nD Cert.ColgradIdeal.τ).loc Cert.ColgradIdeal.main_arg0) = m ((c.tc : Thread Cert.ColgradIdeal.nD Cert.ColgradIdeal.τ).loc Cert.ColgradIdeal.main_arg0)
          ∧ r.2.mem ((c.tc : Thread Cert.ColgradIdeal.nD Cert.ColgradIdeal.τ).loc Cert.ColgradIdeal.main_arg1) = m ((c.tc : Thread Cert.ColgradIdeal.nD Cert.ColgradIdeal.τ).loc Cert.ColgradIdeal.main_arg1))
      ∧ θ_run (Cert.ColgradRefIdeal.defs (F := Ideal)) (onTc (τ := Cert.ColgradRefIdeal.τ) (Cert.ColgradRefIdeal.main (F := Ideal))) ⟨m', fun _ => 0, g'⟩ (fun r => ∀ c : Dev Cert.ColgradRefIdeal.nD,
          r.2.mem ((c.tc : Thread Cert.ColgradRefIdeal.nD Cert.ColgradRefIdeal.τ).loc Cert.ColgradRefIdeal.main_v8) = v0 c
          ∧ r.2.mem ((c.tc : Thread Cert.ColgradRefIdeal.nD Cert.ColgradRefIdeal.τ).loc Cert.ColgradRefIdeal.main_arg0) = m' ((c.tc : Thread Cert.ColgradRefIdeal.nD Cert.ColgradRefIdeal.τ).loc Cert.ColgradRefIdeal.main_arg0)
          ∧ r.2.mem ((c.tc : Thread Cert.ColgradRefIdeal.nD Cert.ColgradRefIdeal.τ).loc Cert.ColgradRefIdeal.main_arg1) = m' ((c.tc : Thread Cert.ColgradRefIdeal.nD Cert.ColgradRefIdeal.τ).loc Cert.ColgradRefIdeal.main_arg1))

def preserves_Fullgrad_FullgradIdeal : Prop :=
  True

def algebraic_FullgradIdeal_FullgradRefIdeal [hFullgradIdeal : Cert.FullgradIdeal.Facts] [hFullgradRefIdeal : Cert.FullgradRefIdeal.Facts] : Prop :=
  ∀ (m : (ℓ : Loc Cert.FullgradIdeal.nD Cert.FullgradIdeal.τ Cert.FullgradIdeal.sig) → Buf (Elt Ideal) ℓ) (g : Dev Cert.FullgradIdeal.nD → PrngReg)
    (m' : (ℓ : Loc Cert.FullgradRefIdeal.nD Cert.FullgradRefIdeal.τ Cert.FullgradRefIdeal.sig) → Buf (Elt Ideal) ℓ) (g' : Dev Cert.FullgradRefIdeal.nD → PrngReg), Pre_FullgradIdeal m →
    (∀ c : Dev Cert.FullgradIdeal.nD,
      m' ((c.tc : Thread Cert.FullgradRefIdeal.nD Cert.FullgradRefIdeal.τ).loc Cert.FullgradRefIdeal.main_arg0) = m ((c.tc : Thread Cert.FullgradIdeal.nD Cert.FullgradIdeal.τ).loc Cert.FullgradIdeal.main_arg0)
      ∧ m' ((c.tc : Thread Cert.FullgradRefIdeal.nD Cert.FullgradRefIdeal.τ).loc Cert.FullgradRefIdeal.main_arg1) = m ((c.tc : Thread Cert.FullgradIdeal.nD Cert.FullgradIdeal.τ).loc Cert.FullgradIdeal.main_arg1)) →
    ∃ (v0 : (c : Dev Cert.FullgradIdeal.nD) → Buf (Elt Ideal) ((c.tc : Thread Cert.FullgradIdeal.nD Cert.FullgradIdeal.τ).loc Cert.FullgradIdeal.main_v2)),
      θ_run (Cert.FullgradIdeal.defs (F := Ideal)) (onTc (τ := Cert.FullgradIdeal.τ) (Cert.FullgradIdeal.main (F := Ideal))) ⟨m, fun _ => 0, g⟩ (fun r => ∀ c : Dev Cert.FullgradIdeal.nD,
          r.2.mem ((c.tc : Thread Cert.FullgradIdeal.nD Cert.FullgradIdeal.τ).loc Cert.FullgradIdeal.main_v2) = v0 c
          ∧ r.2.mem ((c.tc : Thread Cert.FullgradIdeal.nD Cert.FullgradIdeal.τ).loc Cert.FullgradIdeal.main_arg0) = m ((c.tc : Thread Cert.FullgradIdeal.nD Cert.FullgradIdeal.τ).loc Cert.FullgradIdeal.main_arg0)
          ∧ r.2.mem ((c.tc : Thread Cert.FullgradIdeal.nD Cert.FullgradIdeal.τ).loc Cert.FullgradIdeal.main_arg1) = m ((c.tc : Thread Cert.FullgradIdeal.nD Cert.FullgradIdeal.τ).loc Cert.FullgradIdeal.main_arg1))
      ∧ θ_run (Cert.FullgradRefIdeal.defs (F := Ideal)) (onTc (τ := Cert.FullgradRefIdeal.τ) (Cert.FullgradRefIdeal.main (F := Ideal))) ⟨m', fun _ => 0, g'⟩ (fun r => ∀ c : Dev Cert.FullgradRefIdeal.nD,
          r.2.mem ((c.tc : Thread Cert.FullgradRefIdeal.nD Cert.FullgradRefIdeal.τ).loc Cert.FullgradRefIdeal.main_v6) = v0 c
          ∧ r.2.mem ((c.tc : Thread Cert.FullgradRefIdeal.nD Cert.FullgradRefIdeal.τ).loc Cert.FullgradRefIdeal.main_arg0) = m' ((c.tc : Thread Cert.FullgradRefIdeal.nD Cert.FullgradRefIdeal.τ).loc Cert.FullgradRefIdeal.main_arg0)
          ∧ r.2.mem ((c.tc : Thread Cert.FullgradRefIdeal.nD Cert.FullgradRefIdeal.τ).loc Cert.FullgradRefIdeal.main_arg1) = m' ((c.tc : Thread Cert.FullgradRefIdeal.nD Cert.FullgradRefIdeal.τ).loc Cert.FullgradRefIdeal.main_arg1))

def preserves_Poolgrad_PoolgradIdeal : Prop :=
  True

def algebraic_PoolgradIdeal_PoolgradRefIdeal [hPoolgradIdeal : Cert.PoolgradIdeal.Facts] [hPoolgradRefIdeal : Cert.PoolgradRefIdeal.Facts] : Prop :=
  ∀ (m : (ℓ : Loc Cert.PoolgradIdeal.nD Cert.PoolgradIdeal.τ Cert.PoolgradIdeal.sig) → Buf (Elt Ideal) ℓ) (g : Dev Cert.PoolgradIdeal.nD → PrngReg)
    (m' : (ℓ : Loc Cert.PoolgradRefIdeal.nD Cert.PoolgradRefIdeal.τ Cert.PoolgradRefIdeal.sig) → Buf (Elt Ideal) ℓ) (g' : Dev Cert.PoolgradRefIdeal.nD → PrngReg), Pre_PoolgradIdeal m →
    (∀ c : Dev Cert.PoolgradIdeal.nD,
      m' ((c.tc : Thread Cert.PoolgradRefIdeal.nD Cert.PoolgradRefIdeal.τ).loc Cert.PoolgradRefIdeal.main_arg0) = m ((c.tc : Thread Cert.PoolgradIdeal.nD Cert.PoolgradIdeal.τ).loc Cert.PoolgradIdeal.main_arg0)
      ∧ m' ((c.tc : Thread Cert.PoolgradRefIdeal.nD Cert.PoolgradRefIdeal.τ).loc Cert.PoolgradRefIdeal.main_arg1) = m ((c.tc : Thread Cert.PoolgradIdeal.nD Cert.PoolgradIdeal.τ).loc Cert.PoolgradIdeal.main_arg1)) →
    ∃ (v0 : (c : Dev Cert.PoolgradIdeal.nD) → Buf (Elt Ideal) ((c.tc : Thread Cert.PoolgradIdeal.nD Cert.PoolgradIdeal.τ).loc Cert.PoolgradIdeal.main_v2)),
      θ_run (Cert.PoolgradIdeal.defs (F := Ideal)) (onTc (τ := Cert.PoolgradIdeal.τ) (Cert.PoolgradIdeal.main (F := Ideal))) ⟨m, fun _ => 0, g⟩ (fun r => ∀ c : Dev Cert.PoolgradIdeal.nD,
          r.2.mem ((c.tc : Thread Cert.PoolgradIdeal.nD Cert.PoolgradIdeal.τ).loc Cert.PoolgradIdeal.main_v2) = v0 c
          ∧ r.2.mem ((c.tc : Thread Cert.PoolgradIdeal.nD Cert.PoolgradIdeal.τ).loc Cert.PoolgradIdeal.main_arg0) = m ((c.tc : Thread Cert.PoolgradIdeal.nD Cert.PoolgradIdeal.τ).loc Cert.PoolgradIdeal.main_arg0)
          ∧ r.2.mem ((c.tc : Thread Cert.PoolgradIdeal.nD Cert.PoolgradIdeal.τ).loc Cert.PoolgradIdeal.main_arg1) = m ((c.tc : Thread Cert.PoolgradIdeal.nD Cert.PoolgradIdeal.τ).loc Cert.PoolgradIdeal.main_arg1))
      ∧ θ_run (Cert.PoolgradRefIdeal.defs (F := Ideal)) (onTc (τ := Cert.PoolgradRefIdeal.τ) (Cert.PoolgradRefIdeal.main (F := Ideal))) ⟨m', fun _ => 0, g'⟩ (fun r => ∀ c : Dev Cert.PoolgradRefIdeal.nD,
          r.2.mem ((c.tc : Thread Cert.PoolgradRefIdeal.nD Cert.PoolgradRefIdeal.τ).loc Cert.PoolgradRefIdeal.main_v11) = v0 c
          ∧ r.2.mem ((c.tc : Thread Cert.PoolgradRefIdeal.nD Cert.PoolgradRefIdeal.τ).loc Cert.PoolgradRefIdeal.main_arg0) = m' ((c.tc : Thread Cert.PoolgradRefIdeal.nD Cert.PoolgradRefIdeal.τ).loc Cert.PoolgradRefIdeal.main_arg0)
          ∧ r.2.mem ((c.tc : Thread Cert.PoolgradRefIdeal.nD Cert.PoolgradRefIdeal.τ).loc Cert.PoolgradRefIdeal.main_arg1) = m' ((c.tc : Thread Cert.PoolgradRefIdeal.nD Cert.PoolgradRefIdeal.τ).loc Cert.PoolgradRefIdeal.main_arg1))

def preserves_Entry_EntryIdeal : Prop :=
  True

def algebraic_EntryIdeal_EntryRefIdeal [hEntryIdeal : Cert.EntryIdeal.Facts] [hEntryRefIdeal : Cert.EntryRefIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryRefIdeal.nD Cert.EntryRefIdeal.τ Cert.EntryRefIdeal.sig) → Buf (Elt Ideal) ℓ) (g' : Dev Cert.EntryRefIdeal.nD → PrngReg), Pre_EntryIdeal m →
    (∀ c : Dev Cert.EntryIdeal.nD,
      m' ((c.tc : Thread Cert.EntryRefIdeal.nD Cert.EntryRefIdeal.τ).loc Cert.EntryRefIdeal.main_arg0) = m ((c.tc : Thread Cert.EntryIdeal.nD Cert.EntryIdeal.τ).loc Cert.EntryIdeal.main_arg0)
      ∧ m' ((c.tc : Thread Cert.EntryRefIdeal.nD Cert.EntryRefIdeal.τ).loc Cert.EntryRefIdeal.main_arg1) = m ((c.tc : Thread Cert.EntryIdeal.nD Cert.EntryIdeal.τ).loc Cert.EntryIdeal.main_arg1)
      ∧ m' ((c.tc : Thread Cert.EntryRefIdeal.nD Cert.EntryRefIdeal.τ).loc Cert.EntryRefIdeal.main_arg2) = m ((c.tc : Thread Cert.EntryIdeal.nD Cert.EntryIdeal.τ).loc Cert.EntryIdeal.main_arg2)
      ∧ m' ((c.tc : Thread Cert.EntryRefIdeal.nD Cert.EntryRefIdeal.τ).loc Cert.EntryRefIdeal.main_arg3) = m ((c.tc : Thread Cert.EntryIdeal.nD Cert.EntryIdeal.τ).loc Cert.EntryIdeal.main_arg3)) →
    ∃ (v0 : (c : Dev Cert.EntryIdeal.nD) → Buf (Elt Ideal) ((c.tc : Thread Cert.EntryIdeal.nD Cert.EntryIdeal.τ).loc Cert.EntryIdeal.main_v14)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v14) = v0 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
          ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3))
      ∧ θ_run (Cert.EntryRefIdeal.defs (F := Ideal)) (onTc (τ := Cert.EntryRefIdeal.τ) (Cert.EntryRefIdeal.main (F := Ideal))) ⟨m', fun _ => 0, g'⟩ (fun r => ∀ c : Dev Cert.EntryRefIdeal.nD,
          r.2.mem ((c.tc : Thread Cert.EntryRefIdeal.nD Cert.EntryRefIdeal.τ).loc Cert.EntryRefIdeal.main_v11) = v0 c
          ∧ r.2.mem ((c.tc : Thread Cert.EntryRefIdeal.nD Cert.EntryRefIdeal.τ).loc Cert.EntryRefIdeal.main_arg0) = m' ((c.tc : Thread Cert.EntryRefIdeal.nD Cert.EntryRefIdeal.τ).loc Cert.EntryRefIdeal.main_arg0)
          ∧ r.2.mem ((c.tc : Thread Cert.EntryRefIdeal.nD Cert.EntryRefIdeal.τ).loc Cert.EntryRefIdeal.main_arg1) = m' ((c.tc : Thread Cert.EntryRefIdeal.nD Cert.EntryRefIdeal.τ).loc Cert.EntryRefIdeal.main_arg1)
          ∧ r.2.mem ((c.tc : Thread Cert.EntryRefIdeal.nD Cert.EntryRefIdeal.τ).loc Cert.EntryRefIdeal.main_arg2) = m' ((c.tc : Thread Cert.EntryRefIdeal.nD Cert.EntryRefIdeal.τ).loc Cert.EntryRefIdeal.main_arg2)
          ∧ r.2.mem ((c.tc : Thread Cert.EntryRefIdeal.nD Cert.EntryRefIdeal.τ).loc Cert.EntryRefIdeal.main_arg3) = m' ((c.tc : Thread Cert.EntryRefIdeal.nD Cert.EntryRefIdeal.τ).loc Cert.EntryRefIdeal.main_arg3))

def preserves_Chipsum_ChipsumIdeal : Prop :=
  True

def algebraic_ChipsumIdeal_ChipsumRefIdeal_on_chips_written [hChipsumIdeal : Cert.ChipsumIdeal.Facts] [hChipsumRefIdeal : Cert.ChipsumRefIdeal.Facts] [hPre_chipsum_owned : Cert.Pre_chipsum_owned.Facts] [hOn_chips_written : Cert.On_chips_written.Facts] : Prop :=
  ∀ (m : (ℓ : Loc Cert.ChipsumIdeal.nD Cert.ChipsumIdeal.τ Cert.ChipsumIdeal.sig) → Buf (Elt Ideal) ℓ) (g : Dev Cert.ChipsumIdeal.nD → PrngReg)
    (m' : (ℓ : Loc Cert.ChipsumRefIdeal.nD Cert.ChipsumRefIdeal.τ Cert.ChipsumRefIdeal.sig) → Buf (Elt Ideal) ℓ) (g' : Dev Cert.ChipsumRefIdeal.nD → PrngReg), Pre_ChipsumIdeal m →
    (∀ c : Dev Cert.ChipsumIdeal.nD,
      m' ((c.tc : Thread Cert.ChipsumRefIdeal.nD Cert.ChipsumRefIdeal.τ).loc Cert.ChipsumRefIdeal.main_arg0) = m ((c.tc : Thread Cert.ChipsumIdeal.nD Cert.ChipsumIdeal.τ).loc Cert.ChipsumIdeal.main_arg0)
      ∧ m' ((c.tc : Thread Cert.ChipsumRefIdeal.nD Cert.ChipsumRefIdeal.τ).loc Cert.ChipsumRefIdeal.main_arg1) = m ((c.tc : Thread Cert.ChipsumIdeal.nD Cert.ChipsumIdeal.τ).loc Cert.ChipsumIdeal.main_arg1)
      ∧ m' ((c.tc : Thread Cert.ChipsumRefIdeal.nD Cert.ChipsumRefIdeal.τ).loc Cert.ChipsumRefIdeal.main_arg2) = m ((c.tc : Thread Cert.ChipsumIdeal.nD Cert.ChipsumIdeal.τ).loc Cert.ChipsumIdeal.main_arg2)
      ∧ m' ((c.tc : Thread Cert.ChipsumRefIdeal.nD Cert.ChipsumRefIdeal.τ).loc Cert.ChipsumRefIdeal.main_arg3) = m ((c.tc : Thread Cert.ChipsumIdeal.nD Cert.ChipsumIdeal.τ).loc Cert.ChipsumIdeal.main_arg3)) →
    ∃ (v0 : (c : Dev Cert.ChipsumIdeal.nD) → Buf (Elt Ideal) ((c.tc : Thread Cert.ChipsumIdeal.nD Cert.ChipsumIdeal.τ).loc Cert.ChipsumIdeal.main_v5)),
      θ_run (Cert.ChipsumIdeal.defs (F := Ideal)) (onTc (τ := Cert.ChipsumIdeal.τ) (Cert.ChipsumIdeal.main (F := Ideal))) ⟨m, fun _ => 0, g⟩ (fun r => ∀ c : Dev Cert.ChipsumIdeal.nD,
          (∀ i : (⟨3, ![4, 2048, 1024]⟩ : Shape).Idx, (Cert.On_chips_written.fn (F := Ideal) (m ((c.tc : Thread Cert.ChipsumIdeal.nD Cert.ChipsumIdeal.τ).loc Cert.ChipsumIdeal.main_arg0)) (m ((c.tc : Thread Cert.ChipsumIdeal.nD Cert.ChipsumIdeal.τ).loc Cert.ChipsumIdeal.main_arg1)) (m ((c.tc : Thread Cert.ChipsumIdeal.nD Cert.ChipsumIdeal.τ).loc Cert.ChipsumIdeal.main_arg2)) (m ((c.tc : Thread Cert.ChipsumIdeal.nD Cert.ChipsumIdeal.τ).loc Cert.ChipsumIdeal.main_arg3))) i = 1#1 → r.2.mem ((c.tc : Thread Cert.ChipsumIdeal.nD Cert.ChipsumIdeal.τ).loc Cert.ChipsumIdeal.main_v5) i = v0 c i)
          ∧ r.2.mem ((c.tc : Thread Cert.ChipsumIdeal.nD Cert.ChipsumIdeal.τ).loc Cert.ChipsumIdeal.main_arg0) = m ((c.tc : Thread Cert.ChipsumIdeal.nD Cert.ChipsumIdeal.τ).loc Cert.ChipsumIdeal.main_arg0)
          ∧ r.2.mem ((c.tc : Thread Cert.ChipsumIdeal.nD Cert.ChipsumIdeal.τ).loc Cert.ChipsumIdeal.main_arg1) = m ((c.tc : Thread Cert.ChipsumIdeal.nD Cert.ChipsumIdeal.τ).loc Cert.ChipsumIdeal.main_arg1)
          ∧ r.2.mem ((c.tc : Thread Cert.ChipsumIdeal.nD Cert.ChipsumIdeal.τ).loc Cert.ChipsumIdeal.main_arg2) = m ((c.tc : Thread Cert.ChipsumIdeal.nD Cert.ChipsumIdeal.τ).loc Cert.ChipsumIdeal.main_arg2)
          ∧ r.2.mem ((c.tc : Thread Cert.ChipsumIdeal.nD Cert.ChipsumIdeal.τ).loc Cert.ChipsumIdeal.main_arg3) = m ((c.tc : Thread Cert.ChipsumIdeal.nD Cert.ChipsumIdeal.τ).loc Cert.ChipsumIdeal.main_arg3))
      ∧ θ_run (Cert.ChipsumRefIdeal.defs (F := Ideal)) (onTc (τ := Cert.ChipsumRefIdeal.τ) (Cert.ChipsumRefIdeal.main (F := Ideal))) ⟨m', fun _ => 0, g'⟩ (fun r => ∀ c : Dev Cert.ChipsumRefIdeal.nD,
          (∀ i : (⟨3, ![4, 2048, 1024]⟩ : Shape).Idx, (Cert.On_chips_written.fn (F := Ideal) (m ((c.tc : Thread Cert.ChipsumIdeal.nD Cert.ChipsumIdeal.τ).loc Cert.ChipsumIdeal.main_arg0)) (m ((c.tc : Thread Cert.ChipsumIdeal.nD Cert.ChipsumIdeal.τ).loc Cert.ChipsumIdeal.main_arg1)) (m ((c.tc : Thread Cert.ChipsumIdeal.nD Cert.ChipsumIdeal.τ).loc Cert.ChipsumIdeal.main_arg2)) (m ((c.tc : Thread Cert.ChipsumIdeal.nD Cert.ChipsumIdeal.τ).loc Cert.ChipsumIdeal.main_arg3))) i = 1#1 → r.2.mem ((c.tc : Thread Cert.ChipsumRefIdeal.nD Cert.ChipsumRefIdeal.τ).loc Cert.ChipsumRefIdeal.main_v6) i = v0 c i)
          ∧ r.2.mem ((c.tc : Thread Cert.ChipsumRefIdeal.nD Cert.ChipsumRefIdeal.τ).loc Cert.ChipsumRefIdeal.main_arg0) = m' ((c.tc : Thread Cert.ChipsumRefIdeal.nD Cert.ChipsumRefIdeal.τ).loc Cert.ChipsumRefIdeal.main_arg0)
          ∧ r.2.mem ((c.tc : Thread Cert.ChipsumRefIdeal.nD Cert.ChipsumRefIdeal.τ).loc Cert.ChipsumRefIdeal.main_arg1) = m' ((c.tc : Thread Cert.ChipsumRefIdeal.nD Cert.ChipsumRefIdeal.τ).loc Cert.ChipsumRefIdeal.main_arg1)
          ∧ r.2.mem ((c.tc : Thread Cert.ChipsumRefIdeal.nD Cert.ChipsumRefIdeal.τ).loc Cert.ChipsumRefIdeal.main_arg2) = m' ((c.tc : Thread Cert.ChipsumRefIdeal.nD Cert.ChipsumRefIdeal.τ).loc Cert.ChipsumRefIdeal.main_arg2)
          ∧ r.2.mem ((c.tc : Thread Cert.ChipsumRefIdeal.nD Cert.ChipsumRefIdeal.τ).loc Cert.ChipsumRefIdeal.main_arg3) = m' ((c.tc : Thread Cert.ChipsumRefIdeal.nD Cert.ChipsumRefIdeal.τ).loc Cert.ChipsumRefIdeal.main_arg3))

def preserves_Stepin_StepinIdeal : Prop :=
  True

def algebraic_StepinIdeal_StepinRefIdeal [hStepinIdeal : Cert.StepinIdeal.Facts] [hStepinRefIdeal : Cert.StepinRefIdeal.Facts] [hPre_stepin_owned : Cert.Pre_stepin_owned.Facts] : Prop :=
  ∀ (m : (ℓ : Loc Cert.StepinIdeal.nD Cert.StepinIdeal.τ Cert.StepinIdeal.sig) → Buf (Elt Ideal) ℓ) (g : Dev Cert.StepinIdeal.nD → PrngReg)
    (m' : (ℓ : Loc Cert.StepinRefIdeal.nD Cert.StepinRefIdeal.τ Cert.StepinRefIdeal.sig) → Buf (Elt Ideal) ℓ) (g' : Dev Cert.StepinRefIdeal.nD → PrngReg), Pre_StepinIdeal m →
    (∀ c : Dev Cert.StepinIdeal.nD,
      m' ((c.tc : Thread Cert.StepinRefIdeal.nD Cert.StepinRefIdeal.τ).loc Cert.StepinRefIdeal.main_arg0) = m ((c.tc : Thread Cert.StepinIdeal.nD Cert.StepinIdeal.τ).loc Cert.StepinIdeal.main_arg0)
      ∧ m' ((c.tc : Thread Cert.StepinRefIdeal.nD Cert.StepinRefIdeal.τ).loc Cert.StepinRefIdeal.main_arg1) = m ((c.tc : Thread Cert.StepinIdeal.nD Cert.StepinIdeal.τ).loc Cert.StepinIdeal.main_arg1)
      ∧ m' ((c.tc : Thread Cert.StepinRefIdeal.nD Cert.StepinRefIdeal.τ).loc Cert.StepinRefIdeal.main_arg2) = m ((c.tc : Thread Cert.StepinIdeal.nD Cert.StepinIdeal.τ).loc Cert.StepinIdeal.main_arg2)
      ∧ m' ((c.tc : Thread Cert.StepinRefIdeal.nD Cert.StepinRefIdeal.τ).loc Cert.StepinRefIdeal.main_arg3) = m ((c.tc : Thread Cert.StepinIdeal.nD Cert.StepinIdeal.τ).loc Cert.StepinIdeal.main_arg3)
      ∧ m' ((c.tc : Thread Cert.StepinRefIdeal.nD Cert.StepinRefIdeal.τ).loc Cert.StepinRefIdeal.main_arg4) = m ((c.tc : Thread Cert.StepinIdeal.nD Cert.StepinIdeal.τ).loc Cert.StepinIdeal.main_arg4)
      ∧ m' ((c.tc : Thread Cert.StepinRefIdeal.nD Cert.StepinRefIdeal.τ).loc Cert.StepinRefIdeal.main_arg5) = m ((c.tc : Thread Cert.StepinIdeal.nD Cert.StepinIdeal.τ).loc Cert.StepinIdeal.main_arg5)
      ∧ m' ((c.tc : Thread Cert.StepinRefIdeal.nD Cert.StepinRefIdeal.τ).loc Cert.StepinRefIdeal.main_arg6) = m ((c.tc : Thread Cert.StepinIdeal.nD Cert.StepinIdeal.τ).loc Cert.StepinIdeal.main_arg6)) →
    ∃ (v0 : (c : Dev Cert.StepinIdeal.nD) → Buf (Elt Ideal) ((c.tc : Thread Cert.StepinIdeal.nD Cert.StepinIdeal.τ).loc Cert.StepinIdeal.main_v3_0)) (v1 : (c : Dev Cert.StepinIdeal.nD) → Buf (Elt Ideal) ((c.tc : Thread Cert.StepinIdeal.nD Cert.StepinIdeal.τ).loc Cert.StepinIdeal.main_v3_1)) (v2 : (c : Dev Cert.StepinIdeal.nD) → Buf (Elt Ideal) ((c.tc : Thread Cert.StepinIdeal.nD Cert.StepinIdeal.τ).loc Cert.StepinIdeal.main_v3_2)) (v3 : (c : Dev Cert.StepinIdeal.nD) → Buf (Elt Ideal) ((c.tc : Thread Cert.StepinIdeal.nD Cert.StepinIdeal.τ).loc Cert.StepinIdeal.main_v3_3)),
      θ_run (Cert.StepinIdeal.defs (F := Ideal)) (onTc (τ := Cert.StepinIdeal.τ) (Cert.StepinIdeal.main (F := Ideal))) ⟨m, fun _ => 0, g⟩ (fun r => ∀ c : Dev Cert.StepinIdeal.nD,
          r.2.mem ((c.tc : Thread Cert.StepinIdeal.nD Cert.StepinIdeal.τ).loc Cert.StepinIdeal.main_v3_0) = v0 c
          ∧ r.2.mem ((c.tc : Thread Cert.StepinIdeal.nD Cert.StepinIdeal.τ).loc Cert.StepinIdeal.main_v3_1) = v1 c
          ∧ r.2.mem ((c.tc : Thread Cert.StepinIdeal.nD Cert.StepinIdeal.τ).loc Cert.StepinIdeal.main_v3_2) = v2 c
          ∧ r.2.mem ((c.tc : Thread Cert.StepinIdeal.nD Cert.StepinIdeal.τ).loc Cert.StepinIdeal.main_v3_3) = v3 c
          ∧ r.2.mem ((c.tc : Thread Cert.StepinIdeal.nD Cert.StepinIdeal.τ).loc Cert.StepinIdeal.main_arg0) = m ((c.tc : Thread Cert.StepinIdeal.nD Cert.StepinIdeal.τ).loc Cert.StepinIdeal.main_arg0)
          ∧ r.2.mem ((c.tc : Thread Cert.StepinIdeal.nD Cert.StepinIdeal.τ).loc Cert.StepinIdeal.main_arg1) = m ((c.tc : Thread Cert.StepinIdeal.nD Cert.StepinIdeal.τ).loc Cert.StepinIdeal.main_arg1)
          ∧ r.2.mem ((c.tc : Thread Cert.StepinIdeal.nD Cert.StepinIdeal.τ).loc Cert.StepinIdeal.main_arg2) = m ((c.tc : Thread Cert.StepinIdeal.nD Cert.StepinIdeal.τ).loc Cert.StepinIdeal.main_arg2)
          ∧ r.2.mem ((c.tc : Thread Cert.StepinIdeal.nD Cert.StepinIdeal.τ).loc Cert.StepinIdeal.main_arg3) = m ((c.tc : Thread Cert.StepinIdeal.nD Cert.StepinIdeal.τ).loc Cert.StepinIdeal.main_arg3)
          ∧ r.2.mem ((c.tc : Thread Cert.StepinIdeal.nD Cert.StepinIdeal.τ).loc Cert.StepinIdeal.main_arg4) = m ((c.tc : Thread Cert.StepinIdeal.nD Cert.StepinIdeal.τ).loc Cert.StepinIdeal.main_arg4)
          ∧ r.2.mem ((c.tc : Thread Cert.StepinIdeal.nD Cert.StepinIdeal.τ).loc Cert.StepinIdeal.main_arg5) = m ((c.tc : Thread Cert.StepinIdeal.nD Cert.StepinIdeal.τ).loc Cert.StepinIdeal.main_arg5)
          ∧ r.2.mem ((c.tc : Thread Cert.StepinIdeal.nD Cert.StepinIdeal.τ).loc Cert.StepinIdeal.main_arg6) = m ((c.tc : Thread Cert.StepinIdeal.nD Cert.StepinIdeal.τ).loc Cert.StepinIdeal.main_arg6))
      ∧ θ_run (Cert.StepinRefIdeal.defs (F := Ideal)) (onTc (τ := Cert.StepinRefIdeal.τ) (Cert.StepinRefIdeal.main (F := Ideal))) ⟨m', fun _ => 0, g'⟩ (fun r => ∀ c : Dev Cert.StepinRefIdeal.nD,
          r.2.mem ((c.tc : Thread Cert.StepinRefIdeal.nD Cert.StepinRefIdeal.τ).loc Cert.StepinRefIdeal.main_v38) = v0 c
          ∧ r.2.mem ((c.tc : Thread Cert.StepinRefIdeal.nD Cert.StepinRefIdeal.τ).loc Cert.StepinRefIdeal.main_v39) = v1 c
          ∧ r.2.mem ((c.tc : Thread Cert.StepinRefIdeal.nD Cert.StepinRefIdeal.τ).loc Cert.StepinRefIdeal.main_v40) = v2 c
          ∧ r.2.mem ((c.tc : Thread Cert.StepinRefIdeal.nD Cert.StepinRefIdeal.τ).loc Cert.StepinRefIdeal.main_v41) = v3 c
          ∧ r.2.mem ((c.tc : Thread Cert.StepinRefIdeal.nD Cert.StepinRefIdeal.τ).loc Cert.StepinRefIdeal.main_arg0) = m' ((c.tc : Thread Cert.StepinRefIdeal.nD Cert.StepinRefIdeal.τ).loc Cert.StepinRefIdeal.main_arg0)
          ∧ r.2.mem ((c.tc : Thread Cert.StepinRefIdeal.nD Cert.StepinRefIdeal.τ).loc Cert.StepinRefIdeal.main_arg1) = m' ((c.tc : Thread Cert.StepinRefIdeal.nD Cert.StepinRefIdeal.τ).loc Cert.StepinRefIdeal.main_arg1)
          ∧ r.2.mem ((c.tc : Thread Cert.StepinRefIdeal.nD Cert.StepinRefIdeal.τ).loc Cert.StepinRefIdeal.main_arg2) = m' ((c.tc : Thread Cert.StepinRefIdeal.nD Cert.StepinRefIdeal.τ).loc Cert.StepinRefIdeal.main_arg2)
          ∧ r.2.mem ((c.tc : Thread Cert.StepinRefIdeal.nD Cert.StepinRefIdeal.τ).loc Cert.StepinRefIdeal.main_arg3) = m' ((c.tc : Thread Cert.StepinRefIdeal.nD Cert.StepinRefIdeal.τ).loc Cert.StepinRefIdeal.main_arg3)
          ∧ r.2.mem ((c.tc : Thread Cert.StepinRefIdeal.nD Cert.StepinRefIdeal.τ).loc Cert.StepinRefIdeal.main_arg4) = m' ((c.tc : Thread Cert.StepinRefIdeal.nD Cert.StepinRefIdeal.τ).loc Cert.StepinRefIdeal.main_arg4)
          ∧ r.2.mem ((c.tc : Thread Cert.StepinRefIdeal.nD Cert.StepinRefIdeal.τ).loc Cert.StepinRefIdeal.main_arg5) = m' ((c.tc : Thread Cert.StepinRefIdeal.nD Cert.StepinRefIdeal.τ).loc Cert.StepinRefIdeal.main_arg5)
          ∧ r.2.mem ((c.tc : Thread Cert.StepinRefIdeal.nD Cert.StepinRefIdeal.τ).loc Cert.StepinRefIdeal.main_arg6) = m' ((c.tc : Thread Cert.StepinRefIdeal.nD Cert.StepinRefIdeal.τ).loc Cert.StepinRefIdeal.main_arg6))

def preserves_Taps_TapsIdeal : Prop :=
  True

def algebraic_TapsIdeal_TapsRefIdeal [hTapsIdeal : Cert.TapsIdeal.Facts] [hTapsRefIdeal : Cert.TapsRefIdeal.Facts] : Prop :=
  ∀ (m : (ℓ : Loc Cert.TapsIdeal.nD Cert.TapsIdeal.τ Cert.TapsIdeal.sig) → Buf (Elt Ideal) ℓ) (g : Dev Cert.TapsIdeal.nD → PrngReg)
    (m' : (ℓ : Loc Cert.TapsRefIdeal.nD Cert.TapsRefIdeal.τ Cert.TapsRefIdeal.sig) → Buf (Elt Ideal) ℓ) (g' : Dev Cert.TapsRefIdeal.nD → PrngReg), Pre_TapsIdeal m →
    (∀ c : Dev Cert.TapsIdeal.nD,
      m' ((c.tc : Thread Cert.TapsRefIdeal.nD Cert.TapsRefIdeal.τ).loc Cert.TapsRefIdeal.main_arg0) = m ((c.tc : Thread Cert.TapsIdeal.nD Cert.TapsIdeal.τ).loc Cert.TapsIdeal.main_arg0)
      ∧ m' ((c.tc : Thread Cert.TapsRefIdeal.nD Cert.TapsRefIdeal.τ).loc Cert.TapsRefIdeal.main_arg1) = m ((c.tc : Thread Cert.TapsIdeal.nD Cert.TapsIdeal.τ).loc Cert.TapsIdeal.main_arg1)
      ∧ m' ((c.tc : Thread Cert.TapsRefIdeal.nD Cert.TapsRefIdeal.τ).loc Cert.TapsRefIdeal.main_arg2) = m ((c.tc : Thread Cert.TapsIdeal.nD Cert.TapsIdeal.τ).loc Cert.TapsIdeal.main_arg2)
      ∧ m' ((c.tc : Thread Cert.TapsRefIdeal.nD Cert.TapsRefIdeal.τ).loc Cert.TapsRefIdeal.main_arg3) = m ((c.tc : Thread Cert.TapsIdeal.nD Cert.TapsIdeal.τ).loc Cert.TapsIdeal.main_arg3)) →
    ∃ (v0 : (c : Dev Cert.TapsIdeal.nD) → Buf (Elt Ideal) ((c.tc : Thread Cert.TapsIdeal.nD Cert.TapsIdeal.τ).loc Cert.TapsIdeal.main_v3_0)) (v1 : (c : Dev Cert.TapsIdeal.nD) → Buf (Elt Ideal) ((c.tc : Thread Cert.TapsIdeal.nD Cert.TapsIdeal.τ).loc Cert.TapsIdeal.main_v3_1)) (v2 : (c : Dev Cert.TapsIdeal.nD) → Buf (Elt Ideal) ((c.tc : Thread Cert.TapsIdeal.nD Cert.TapsIdeal.τ).loc Cert.TapsIdeal.main_v3_2)),
      θ_run (Cert.TapsIdeal.defs (F := Ideal)) (onTc (τ := Cert.TapsIdeal.τ) (Cert.TapsIdeal.main (F := Ideal))) ⟨m, fun _ => 0, g⟩ (fun r => ∀ c : Dev Cert.TapsIdeal.nD,
          r.2.mem ((c.tc : Thread Cert.TapsIdeal.nD Cert.TapsIdeal.τ).loc Cert.TapsIdeal.main_v3_0) = v0 c
          ∧ r.2.mem ((c.tc : Thread Cert.TapsIdeal.nD Cert.TapsIdeal.τ).loc Cert.TapsIdeal.main_v3_1) = v1 c
          ∧ r.2.mem ((c.tc : Thread Cert.TapsIdeal.nD Cert.TapsIdeal.τ).loc Cert.TapsIdeal.main_v3_2) = v2 c
          ∧ r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
          ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
          ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
          ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3))
      ∧ θ_run (Cert.TapsRefIdeal.defs (F := Ideal)) (onTc (τ := Cert.TapsRefIdeal.τ) (Cert.TapsRefIdeal.main (F := Ideal))) ⟨m', fun _ => 0, g'⟩ (fun r => ∀ c : Dev Cert.TapsRefIdeal.nD,
          r.2.mem ((c.tc : Thread Cert.TapsRefIdeal.nD Cert.TapsRefIdeal.τ).loc Cert.TapsRefIdeal.main_v25) = v0 c
          ∧ r.2.mem ((c.tc : Thread Cert.TapsRefIdeal.nD Cert.TapsRefIdeal.τ).loc Cert.TapsRefIdeal.main_v26) = v1 c
          ∧ r.2.mem ((c.tc : Thread Cert.TapsRefIdeal.nD Cert.TapsRefIdeal.τ).loc Cert.TapsRefIdeal.main_v27) = v2 c
          ∧ r.2.mem ((c.tc : Thread Cert.TapsRefIdeal.nD Cert.TapsRefIdeal.τ).loc Cert.TapsRefIdeal.main_arg0) = m' ((c.tc : Thread Cert.TapsRefIdeal.nD Cert.TapsRefIdeal.τ).loc Cert.TapsRefIdeal.main_arg0)
          ∧ r.2.mem ((c.tc : Thread Cert.TapsRefIdeal.nD Cert.TapsRefIdeal.τ).loc Cert.TapsRefIdeal.main_arg1) = m' ((c.tc : Thread Cert.TapsRefIdeal.nD Cert.TapsRefIdeal.τ).loc Cert.TapsRefIdeal.main_arg1)
          ∧ r.2.mem ((c.tc : Thread Cert.TapsRefIdeal.nD Cert.TapsRefIdeal.τ).loc Cert.TapsRefIdeal.main_arg2) = m' ((c.tc : Thread Cert.TapsRefIdeal.nD Cert.TapsRefIdeal.τ).loc Cert.TapsRefIdeal.main_arg2)
          ∧ r.2.mem ((c.tc : Thread Cert.TapsRefIdeal.nD Cert.TapsRefIdeal.τ).loc Cert.TapsRefIdeal.main_arg3) = m' ((c.tc : Thread Cert.TapsRefIdeal.nD Cert.TapsRefIdeal.τ).loc Cert.TapsRefIdeal.main_arg3))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v1_0)) (v1 : (c : Dev Cert.CastIdeal.nD) → Buf (Elt Ideal) ((c.tc : Thread Cert.CastIdeal.nD Cert.CastIdeal.τ).loc Cert.CastIdeal.main_v1_1)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v1_0) = v0 c
          ∧ r.2.mem ((c.tc : Thread Cert.CastIdeal.nD Cert.CastIdeal.τ).loc Cert.CastIdeal.main_v1_1) = v1 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v2) = v0 c
          ∧ r.2.mem ((c.tc : Thread Cert.CastRefIdeal.nD Cert.CastRefIdeal.τ).loc Cert.CastRefIdeal.main_v3) = v1 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def Claim : Prop :=
  ∃ (hRms2 : Cert.Rms2.Facts) (hRms2Ideal : Cert.Rms2Ideal.Facts) (hRms2RefIdeal : Cert.Rms2RefIdeal.Facts) (hLoss : Cert.Loss.Facts) (hLossIdeal : Cert.LossIdeal.Facts) (hLossRefIdeal : Cert.LossRefIdeal.Facts) (hPool : Cert.Pool.Facts) (hPoolIdeal : Cert.PoolIdeal.Facts) (hPoolRefIdeal : Cert.PoolRefIdeal.Facts) (hConv : Cert.Conv.Facts) (hConvIdeal : Cert.ConvIdeal.Facts) (hConvRefIdeal : Cert.ConvRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hRms1 : Cert.Rms1.Facts) (hRms1Ideal : Cert.Rms1Ideal.Facts) (hRms1RefIdeal : Cert.Rms1RefIdeal.Facts) (hNorm : Cert.Norm.Facts) (hNormIdeal : Cert.NormIdeal.Facts) (hNormRefIdeal : Cert.NormRefIdeal.Facts) (hShort : Cert.Short.Facts) (hShortIdeal : Cert.ShortIdeal.Facts) (hShortRefIdeal : Cert.ShortRefIdeal.Facts) (hTrail : Cert.Trail.Facts) (hTrailIdeal : Cert.TrailIdeal.Facts) (hTrailRefIdeal : Cert.TrailRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hRowgrad : Cert.Rowgrad.Facts) (hRowgradIdeal : Cert.RowgradIdeal.Facts) (hRowgradRefIdeal : Cert.RowgradRefIdeal.Facts) (hColgrad : Cert.Colgrad.Facts) (hColgradIdeal : Cert.ColgradIdeal.Facts) (hColgradRefIdeal : Cert.ColgradRefIdeal.Facts) (hFullgrad : Cert.Fullgrad.Facts) (hFullgradIdeal : Cert.FullgradIdeal.Facts) (hFullgradRefIdeal : Cert.FullgradRefIdeal.Facts) (hPoolgrad : Cert.Poolgrad.Facts) (hPoolgradIdeal : Cert.PoolgradIdeal.Facts) (hPoolgradRefIdeal : Cert.PoolgradRefIdeal.Facts) (hEntry : Cert.Entry.Facts) (hEntryIdeal : Cert.EntryIdeal.Facts) (hEntryRefIdeal : Cert.EntryRefIdeal.Facts) (hChipsum : Cert.Chipsum.Facts) (hChipsumIdeal : Cert.ChipsumIdeal.Facts) (hChipsumRefIdeal : Cert.ChipsumRefIdeal.Facts) (hStepin : Cert.Stepin.Facts) (hStepinIdeal : Cert.StepinIdeal.Facts) (hStepinRefIdeal : Cert.StepinRefIdeal.Facts) (hTaps : Cert.Taps.Facts) (hTapsIdeal : Cert.TapsIdeal.Facts) (hTapsRefIdeal : Cert.TapsRefIdeal.Facts) (hCast : Cert.Cast.Facts) (hCastIdeal : Cert.CastIdeal.Facts) (hCastRefIdeal : Cert.CastRefIdeal.Facts) (hPre_rms2_finite : Cert.Pre_rms2_finite.Facts) (hPre_loss_finite : Cert.Pre_loss_finite.Facts) (hPre_pool_finite : Cert.Pre_pool_finite.Facts) (hPre_ffn_finite : Cert.Pre_ffn_finite.Facts) (hPre_rms1_finite : Cert.Pre_rms1_finite.Facts) (hPre_trail_finite : Cert.Pre_trail_finite.Facts) (hPre_chipsum_owned : Cert.Pre_chipsum_owned.Facts) (hPre_stepin_owned : Cert.Pre_stepin_owned.Facts) (hOn_gates_written : Cert.On_gates_written.Facts) (hOn_chips_written : Cert.On_chips_written.Facts),
    quiescent_Rms2 (hRms2 := hRms2)
    ∧ quiescent_Rms2Ideal (hRms2Ideal := hRms2Ideal)
    ∧ quiescent_Rms2Ideal_pre_rms2_finite (hRms2Ideal := hRms2Ideal) (hPre_rms2_finite := hPre_rms2_finite)
    ∧ quiescent_Rms2RefIdeal (hRms2RefIdeal := hRms2RefIdeal)
    ∧ quiescent_Rms2RefIdeal_pre_rms2_finite (hRms2RefIdeal := hRms2RefIdeal) (hPre_rms2_finite := hPre_rms2_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Conv (hConv := hConv)
    ∧ quiescent_ConvIdeal (hConvIdeal := hConvIdeal)
    ∧ quiescent_ConvRefIdeal (hConvRefIdeal := hConvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Rms1 (hRms1 := hRms1)
    ∧ quiescent_Rms1Ideal (hRms1Ideal := hRms1Ideal)
    ∧ quiescent_Rms1Ideal_pre_rms1_finite (hRms1Ideal := hRms1Ideal) (hPre_rms1_finite := hPre_rms1_finite)
    ∧ quiescent_Rms1RefIdeal (hRms1RefIdeal := hRms1RefIdeal)
    ∧ quiescent_Rms1RefIdeal_pre_rms1_finite (hRms1RefIdeal := hRms1RefIdeal) (hPre_rms1_finite := hPre_rms1_finite)
    ∧ quiescent_Norm (hNorm := hNorm)
    ∧ quiescent_NormIdeal (hNormIdeal := hNormIdeal)
    ∧ quiescent_NormRefIdeal (hNormRefIdeal := hNormRefIdeal)
    ∧ quiescent_Short (hShort := hShort)
    ∧ quiescent_ShortIdeal (hShortIdeal := hShortIdeal)
    ∧ quiescent_ShortRefIdeal (hShortRefIdeal := hShortRefIdeal)
    ∧ quiescent_Trail (hTrail := hTrail)
    ∧ quiescent_TrailIdeal (hTrailIdeal := hTrailIdeal)
    ∧ quiescent_TrailIdeal_pre_trail_finite (hTrailIdeal := hTrailIdeal) (hPre_trail_finite := hPre_trail_finite)
    ∧ quiescent_TrailRefIdeal (hTrailRefIdeal := hTrailRefIdeal)
    ∧ quiescent_TrailRefIdeal_pre_trail_finite (hTrailRefIdeal := hTrailRefIdeal) (hPre_trail_finite := hPre_trail_finite)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateRefIdeal (hGateRefIdeal := hGateRefIdeal)
    ∧ quiescent_Down (hDown := hDown)
    ∧ quiescent_DownIdeal (hDownIdeal := hDownIdeal)
    ∧ quiescent_DownRefIdeal (hDownRefIdeal := hDownRefIdeal)
    ∧ quiescent_Rowgrad (hRowgrad := hRowgrad)
    ∧ quiescent_RowgradIdeal (hRowgradIdeal := hRowgradIdeal)
    ∧ quiescent_RowgradRefIdeal (hRowgradRefIdeal := hRowgradRefIdeal)
    ∧ quiescent_Colgrad (hColgrad := hColgrad)
    ∧ quiescent_ColgradIdeal (hColgradIdeal := hColgradIdeal)
    ∧ quiescent_ColgradRefIdeal (hColgradRefIdeal := hColgradRefIdeal)
    ∧ quiescent_Fullgrad (hFullgrad := hFullgrad)
    ∧ quiescent_FullgradIdeal (hFullgradIdeal := hFullgradIdeal)
    ∧ quiescent_FullgradRefIdeal (hFullgradRefIdeal := hFullgradRefIdeal)
    ∧ quiescent_Poolgrad (hPoolgrad := hPoolgrad)
    ∧ quiescent_PoolgradIdeal (hPoolgradIdeal := hPoolgradIdeal)
    ∧ quiescent_PoolgradRefIdeal (hPoolgradRefIdeal := hPoolgradRefIdeal)
    ∧ quiescent_Entry (hEntry := hEntry)
    ∧ quiescent_EntryIdeal (hEntryIdeal := hEntryIdeal)
    ∧ quiescent_EntryRefIdeal (hEntryRefIdeal := hEntryRefIdeal)
    ∧ quiescent_Chipsum (hChipsum := hChipsum) (hPre_chipsum_owned := hPre_chipsum_owned)
    ∧ quiescent_ChipsumIdeal (hChipsumIdeal := hChipsumIdeal) (hPre_chipsum_owned := hPre_chipsum_owned)
    ∧ quiescent_ChipsumRefIdeal (hChipsumRefIdeal := hChipsumRefIdeal)
    ∧ quiescent_ChipsumRefIdeal_pre_chipsum_owned (hChipsumRefIdeal := hChipsumRefIdeal) (hPre_chipsum_owned := hPre_chipsum_owned)
    ∧ quiescent_Stepin (hStepin := hStepin) (hPre_stepin_owned := hPre_stepin_owned)
    ∧ quiescent_StepinIdeal (hStepinIdeal := hStepinIdeal) (hPre_stepin_owned := hPre_stepin_owned)
    ∧ quiescent_StepinRefIdeal (hStepinRefIdeal := hStepinRefIdeal)
    ∧ quiescent_StepinRefIdeal_pre_stepin_owned (hStepinRefIdeal := hStepinRefIdeal) (hPre_stepin_owned := hPre_stepin_owned)
    ∧ quiescent_Taps (hTaps := hTaps)
    ∧ quiescent_TapsIdeal (hTapsIdeal := hTapsIdeal)
    ∧ quiescent_TapsRefIdeal (hTapsRefIdeal := hTapsRefIdeal)
    ∧ quiescent_Cast (hCast := hCast)
    ∧ quiescent_CastIdeal (hCastIdeal := hCastIdeal)
    ∧ quiescent_CastRefIdeal (hCastRefIdeal := hCastRefIdeal)
    ∧ preserves_Rms2_Rms2Ideal
    ∧ algebraic_Rms2Ideal_Rms2RefIdeal_pre_rms2_finite (hRms2Ideal := hRms2Ideal) (hRms2RefIdeal := hRms2RefIdeal) (hPre_rms2_finite := hPre_rms2_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Conv_ConvIdeal
    ∧ algebraic_ConvIdeal_ConvRefIdeal (hConvIdeal := hConvIdeal) (hConvRefIdeal := hConvRefIdeal)
    ∧ preserves_Merge_MergeIdeal
    ∧ algebraic_MergeIdeal_MergeRefIdeal_on_gates_written (hMergeIdeal := hMergeIdeal) (hMergeRefIdeal := hMergeRefIdeal) (hOn_gates_written := hOn_gates_written)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Rms1_Rms1Ideal
    ∧ algebraic_Rms1Ideal_Rms1RefIdeal_pre_rms1_finite (hRms1Ideal := hRms1Ideal) (hRms1RefIdeal := hRms1RefIdeal) (hPre_rms1_finite := hPre_rms1_finite)
    ∧ preserves_Norm_NormIdeal
    ∧ algebraic_NormIdeal_NormRefIdeal (hNormIdeal := hNormIdeal) (hNormRefIdeal := hNormRefIdeal)
    ∧ preserves_Short_ShortIdeal
    ∧ algebraic_ShortIdeal_ShortRefIdeal (hShortIdeal := hShortIdeal) (hShortRefIdeal := hShortRefIdeal)
    ∧ preserves_Trail_TrailIdeal
    ∧ algebraic_TrailIdeal_TrailRefIdeal_pre_trail_finite (hTrailIdeal := hTrailIdeal) (hTrailRefIdeal := hTrailRefIdeal) (hPre_trail_finite := hPre_trail_finite)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal (hGateIdeal := hGateIdeal) (hGateRefIdeal := hGateRefIdeal)
    ∧ preserves_Down_DownIdeal
    ∧ algebraic_DownIdeal_DownRefIdeal (hDownIdeal := hDownIdeal) (hDownRefIdeal := hDownRefIdeal)
    ∧ preserves_Rowgrad_RowgradIdeal
    ∧ algebraic_RowgradIdeal_RowgradRefIdeal (hRowgradIdeal := hRowgradIdeal) (hRowgradRefIdeal := hRowgradRefIdeal)
    ∧ preserves_Colgrad_ColgradIdeal
    ∧ algebraic_ColgradIdeal_ColgradRefIdeal (hColgradIdeal := hColgradIdeal) (hColgradRefIdeal := hColgradRefIdeal)
    ∧ preserves_Fullgrad_FullgradIdeal
    ∧ algebraic_FullgradIdeal_FullgradRefIdeal (hFullgradIdeal := hFullgradIdeal) (hFullgradRefIdeal := hFullgradRefIdeal)
    ∧ preserves_Poolgrad_PoolgradIdeal
    ∧ algebraic_PoolgradIdeal_PoolgradRefIdeal (hPoolgradIdeal := hPoolgradIdeal) (hPoolgradRefIdeal := hPoolgradRefIdeal)
    ∧ preserves_Entry_EntryIdeal
    ∧ algebraic_EntryIdeal_EntryRefIdeal (hEntryIdeal := hEntryIdeal) (hEntryRefIdeal := hEntryRefIdeal)
    ∧ preserves_Chipsum_ChipsumIdeal
    ∧ algebraic_ChipsumIdeal_ChipsumRefIdeal_on_chips_written (hChipsumIdeal := hChipsumIdeal) (hChipsumRefIdeal := hChipsumRefIdeal) (hPre_chipsum_owned := hPre_chipsum_owned) (hOn_chips_written := hOn_chips_written)
    ∧ preserves_Stepin_StepinIdeal
    ∧ algebraic_StepinIdeal_StepinRefIdeal (hStepinIdeal := hStepinIdeal) (hStepinRefIdeal := hStepinRefIdeal) (hPre_stepin_owned := hPre_stepin_owned)
    ∧ preserves_Taps_TapsIdeal
    ∧ algebraic_TapsIdeal_TapsRefIdeal (hTapsIdeal := hTapsIdeal) (hTapsRefIdeal := hTapsRefIdeal)
    ∧ preserves_Cast_CastIdeal
    ∧ algebraic_CastIdeal_CastRefIdeal (hCastIdeal := hCastIdeal) (hCastRefIdeal := hCastRefIdeal)
-- ==== On_chips_written.lean ====
abbrev S3 : Shape := ⟨1, ![3]⟩
abbrev S1 : Shape := ⟨1, ![1]⟩
abbrev S8x2048x1024 : Shape := ⟨3, ![8, 2048, 1024]⟩
abbrev S4x2048x1024 : Shape := ⟨3, ![4, 2048, 1024]⟩
abbrev S_ : Shape := ⟨0, ![]⟩

class Facts : Prop where
  slices_S3_S1_0 : S3.Slices ![0] S1
  shapeCasts_S1_S_ : S1.ShapeCasts S_
  bcast_S_S4x2048x1024 : S_.BroadcastsInDim S4x2048x1024 (![] : Fin 0 → Fin S4x2048x1024.rank)
  slices_S3_S1_1 : S3.Slices ![1] S1
  slices_S3_S1_2 : S3.Slices ![2] S1

variable [Facts]

def fn {F : FTy → Type} [FloatOps F] (main_arg0 : IVec S3 32) (main_arg1 : IVec S1 32) (main_arg2 : FVec F S8x2048x1024 .bf16) (main_arg3 : FVec F S4x2048x1024 .bf16) : IVec S4x2048x1024 1 :=
  let main_v0 : IVec S4x2048x1024 32 := iotaInDim S4x2048x1024 32 0
  let main_v1 : IVec S1 32 := (extractStridedSlice S1 ![0] · slices_S3_S1_0) main_arg0
  let main_v2 : IVec S_ 32 := shapeCast S_ main_v1 shapeCasts_S1_S_
  let main_v3 : IVec S4x2048x1024 32 := broadcastInDim S4x2048x1024 ![] bcast_S_S4x2048x1024 main_v2
  let main_v4 : IVec S4x2048x1024 1 := cmpi .eq main_v0 main_v3
  let main_v5 : IVec S1 32 := (extractStridedSlice S1 ![1] · slices_S3_S1_1) main_arg0
  let main_v6 : IVec S_ 32 := shapeCast S_ main_v5 shapeCasts_S1_S_
  let main_v7 : IVec S4x2048x1024 32 := broadcastInDim S4x2048x1024 ![] bcast_S_S4x2048x1024 main_v6
  let main_v8 : IVec S4x2048x1024 1 := cmpi .eq main_v0 main_v7
  let main_v9 : IVec S4x2048x1024 1 := ori main_v4 main_v8
  let main_v10 : IVec S1 32 := (extractStridedSlice S1 ![2] · slices_S3_S1_2) main_arg0
  let main_v11 : IVec S_ 32 := shapeCast S_ main_v10 shapeCasts_S1_S_
  let main_v12 : IVec S4x2048x1024 32 := broadcastInDim S4x2048x1024 ![] bcast_S_S4x2048x1024 main_v11
  let main_v13 : IVec S4x2048x1024 1 := cmpi .eq main_v0 main_v12
  let main_v14 : IVec S4x2048x1024 1 := ori main_v9 main_v13
  main_v14
-- ==== On_gates_written.lean ====
abbrev S1x2048x1024 : Shape := ⟨3, ![1, 2048, 1024]⟩
abbrev S1x1024x2048 : Shape := ⟨3, ![1, 1024, 2048]⟩
abbrev S1x4x256x512 : Shape := ⟨4, ![1, 4, 256, 512]⟩
abbrev S1x2048x8192 : Shape := ⟨3, ![1, 2048, 8192]⟩
abbrev S1x4096 : Shape := ⟨2, ![1, 4096]⟩
abbrev S1x2048 : Shape := ⟨2, ![1, 2048]⟩
abbrev S1x2048x2048 : Shape := ⟨3, ![1, 2048, 2048]⟩
abbrev S4x2x2048x1024 : Shape := ⟨4, ![4, 2, 2048, 1024]⟩
abbrev S_ : Shape := ⟨0, ![]⟩
abbrev S2048x2048 : Shape := ⟨2, ![2048, 2048]⟩
abbrev S2x2048 : Shape := ⟨2, ![2, 2048]⟩

class Facts : Prop where
  bcast_S_S2048x2048 : S_.BroadcastsInDim S2048x2048 (![] : Fin 0 → Fin S2048x2048.rank)
  bcast_S_S4x2x2048x1024 : S_.BroadcastsInDim S4x2x2048x1024 (![] : Fin 0 → Fin S4x2x2048x1024.rank)
  bcast_S_S2x2048 : S_.BroadcastsInDim S2x2048 (![] : Fin 0 → Fin S2x2048.rank)
  bcast_S_S1x2048 : S_.BroadcastsInDim S1x2048 (![] : Fin 0 → Fin S1x2048.rank)

variable [Facts]

def fn {F : FTy → Type} [FloatOps F] (main_arg0 : FVec F S1x2048x1024 .bf16) (main_arg1 : FVec F S1x1024x2048 .f32) (main_arg2 : FVec F S1x2048x1024 .bf16) (main_arg3 : FVec F S1x4x256x512 .f32) (main_arg4 : FVec F S1x2048x8192 .f32) (main_arg5 : FVec F S1x4096 .f32) (main_arg6 : FVec F S1x2048 .f32) (main_arg7 : FVec F S1x2048x2048 .f32) (main_arg8 : FVec F S1x2048x2048 .bf16) : IVec S2048x2048 1 × IVec S2048x2048 1 × IVec S2048x2048 1 × IVec S4x2x2048x1024 1 × IVec S2x2048 1 × IVec S1x2048 1 :=
  let main_v0 : IVec S4x2x2048x1024 32 := iotaInDim S4x2x2048x1024 32 0
  let main_c : IVec S_ 1 := constantI S_ 1 1#1
  let main_v1 : IVec S2048x2048 1 := broadcastInDim S2048x2048 ![] bcast_S_S2048x2048 main_c
  let main_c_0 : IVec S_ 32 := constantI S_ 32 2#32
  let main_v2 : IVec S4x2x2048x1024 32 := broadcastInDim S4x2x2048x1024 ![] bcast_S_S4x2x2048x1024 main_c_0
  let main_v3 : IVec S4x2x2048x1024 1 := cmpi .sge main_v0 main_v2
  let main_c_1 : IVec S_ 1 := constantI S_ 1 1#1
  let main_v4 : IVec S2x2048 1 := broadcastInDim S2x2048 ![] bcast_S_S2x2048 main_c_1
  let main_c_2 : IVec S_ 1 := constantI S_ 1 1#1
  let main_v5 : IVec S1x2048 1 := broadcastInDim S1x2048 ![] bcast_S_S1x2048 main_c_2
  (main_v1, main_v1, main_v1, main_v3, main_v4, main_v5)
-- ==== Pre_chipsum_owned.lean ====
abbrev S3 : Shape := ⟨1, ![3]⟩
abbrev S1 : Shape := ⟨1, ![1]⟩
abbrev S8x2048x1024 : Shape := ⟨3, ![8, 2048, 1024]⟩
abbrev S4x2048x1024 : Shape := ⟨3, ![4, 2048, 1024]⟩
abbrev S_ : Shape := ⟨0, ![]⟩

class Facts : Prop where
  bcast_S_S3 : S_.BroadcastsInDim S3 (![] : Fin 0 → Fin S3.rank)
  bcast_S_S1 : S_.BroadcastsInDim S1 (![] : Fin 0 → Fin S1.rank)

variable [Facts]

def fn {F : FTy → Type} [FloatOps F] (main_arg0 : IVec S3 32) (main_arg1 : IVec S1 32) (main_arg2 : FVec F S8x2048x1024 .bf16) (main_arg3 : FVec F S4x2048x1024 .bf16) : IVec S3 1 × IVec S1 1 :=
  let main_c : IVec S_ 32 := constantI S_ 32 0#32
  let main_v0 : IVec S3 32 := broadcastInDim S3 ![] bcast_S_S3 main_c
  let main_v1 : IVec S3 1 := cmpi .sge main_arg0 main_v0
  let main_c_0 : IVec S_ 32 := constantI S_ 32 4#32
  let main_v2 : IVec S3 32 := broadcastInDim S3 ![] bcast_S_S3 main_c_0
  let main_v3 : IVec S3 1 := cmpi .slt main_arg0 main_v2
  let main_v4 : IVec S3 1 := andi main_v1 main_v3
  let main_c_1 : IVec S_ 32 := constantI S_ 32 0#32
  let main_v5 : IVec S1 32 := broadcastInDim S1 ![] bcast_S_S1 main_c_1
  let main_v6 : IVec S1 1 := cmpi .sge main_arg1 main_v5
  let main_c_2 : IVec S_ 32 := constantI S_ 32 2#32
  let main_v7 : IVec S1 32 := broadcastInDim S1 ![] bcast_S_S1 main_c_2
  let main_v8 : IVec S1 1 := cmpi .slt main_arg1 main_v7
  let main_v9 : IVec S1 1 := andi main_v6 main_v8
  (main_v4, main_v9)
-- ==== Pre_ffn_finite.lean ====
abbrev S1x2048x2048 : Shape := ⟨3, ![1, 2048, 2048]⟩
abbrev S1x2048x5632 : Shape := ⟨3, ![1, 2048, 5632]⟩
abbrev S1x5632x2048 : Shape := ⟨3, ![1, 5632, 2048]⟩
abbrev S_ : Shape := ⟨0, ![]⟩

class Facts : Prop where
  bitsLt_bf16_f32 : FTy.bits .bf16 < FTy.bits .f32
  bcast_S_S1x2048x2048 : S_.BroadcastsInDim S1x2048x2048 (![] : Fin 0 → Fin S1x2048x2048.rank)
  bcast_S_S1x2048x5632 : S_.BroadcastsInDim S1x2048x5632 (![] : Fin 0 → Fin S1x2048x5632.rank)
  bcast_S_S1x5632x2048 : S_.BroadcastsInDim S1x5632x2048 (![] : Fin 0 → Fin S1x5632x2048.rank)

variable [Facts]

def fn {F : FTy → Type} [FloatOps F] (main_arg0 : FVec F S1x2048x2048 .bf16) (main_arg1 : FVec F S1x2048x5632 .f32) (main_arg2 : FVec F S1x2048x5632 .bf16) (main_arg3 : FVec F S1x5632x2048 .f32) (main_arg4 : FVec F S1x2048x2048 .bf16) : IVec S1x2048x2048 1 × IVec S1x2048x5632 1 × IVec S1x2048x5632 1 × IVec S1x5632x2048 1 × IVec S1x2048x2048 1 :=
  let main_v0 : FVec F S1x2048x2048 .f32 := (extf .f32 · bitsLt_bf16_f32) main_arg0
  let main_v1 : FVec F S1x2048x2048 .f32 := Host.absf main_v0
  let main_cst : FVec F S_ .f32 := constant S_ .f32 0x7F800000#32
  let main_v2 : FVec F S1x2048x2048 .f32 := broadcastInDim S1x2048x2048 ![] bcast_S_S1x2048x2048 main_cst
  let main_v3 : IVec S1x2048x2048 1 := cmpf .olt main_v1 main_v2
  let main_v4 : FVec F S1x2048x5632 .f32 := Host.absf main_arg1
  let main_cst_0 : FVec F S_ .f32 := constant S_ .f32 0x7F800000#32
  let main_v5 : FVec F S1x2048x5632 .f32 := broadcastInDim S1x2048x5632 ![] bcast_S_S1x2048x5632 main_cst_0
  let main_v6 : IVec S1x2048x5632 1 := cmpf .olt main_v4 main_v5
  let main_v7 : FVec F S1x2048x5632 .f32 := (extf .f32 · bitsLt_bf16_f32) main_arg2
  let main_v8 : FVec F S1x2048x5632 .f32 := Host.absf main_v7
  let main_cst_1 : FVec F S_ .f32 := constant S_ .f32 0x7F800000#32
  let main_v9 : FVec F S1x2048x5632 .f32 := broadcastInDim S1x2048x5632 ![] bcast_S_S1x2048x5632 main_cst_1
  let main_v10 : IVec S1x2048x5632 1 := cmpf .olt main_v8 main_v9
  let main_v11 : FVec F S1x5632x2048 .f32 := Host.absf main_arg3
  let main_cst_2 : FVec F S_ .f32 := constant S_ .f32 0x7F800000#32
  let main_v12 : FVec F S1x5632x2048 .f32 := broadcastInDim S1x5632x2048 ![] bcast_S_S1x5632x2048 main_cst_2
  let main_v13 : IVec S1x5632x2048 1 := cmpf .olt main_v11 main_v12
  let main_v14 : FVec F S1x2048x2048 .f32 := (extf .f32 · bitsLt_bf16_f32) main_arg4
  let main_v15 : FVec F S1x2048x2048 .f32 := Host.absf main_v14
  let main_cst_3 : FVec F S_ .f32 := constant S_ .f32 0x7F800000#32
  let main_v16 : FVec F S1x2048x2048 .f32 := broadcastInDim S1x2048x2048 ![] bcast_S_S1x2048x2048 main_cst_3
  let main_v17 : IVec S1x2048x2048 1 := cmpf .olt main_v15 main_v16
  (main_v3, main_v6, main_v10, main_v13, main_v17)
-- ==== Pre_loss_finite.lean ====
abbrev S1x2048x2048 : Shape := ⟨3, ![1, 2048, 2048]⟩
abbrev S2048 : Shape := ⟨1, ![2048]⟩
abbrev S_ : Shape := ⟨0, ![]⟩

class Facts : Prop where
  bcast_S_S1x2048x2048 : S_.BroadcastsInDim S1x2048x2048 (![] : Fin 0 → Fin S1x2048x2048.rank)
  bcast_S_S2048 : S_.BroadcastsInDim S2048 (![] : Fin 0 → Fin S2048.rank)

variable [Facts]

def fn {F : FTy → Type} [FloatOps F] (main_arg0 : FVec F S1x2048x2048 .f32) (main_arg1 : FVec F S1x2048x2048 .f32) (main_arg2 : FVec F S2048 .f32) (main_arg3 : FVec F S1x2048x2048 .f32) : IVec S1x2048x2048 1 × IVec S1x2048x2048 1 × IVec S2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x2048 .f32 := Host.absf main_arg1
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S1x2048x2048 .f32 := Host.absf main_arg3
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  (main_v2, main_v5, main_v8, main_v11)
-- ==== Pre_pool_finite.lean ====
abbrev S8x2048x1024 : Shape := ⟨3, ![8, 2048, 1024]⟩
abbrev S1x2048x1024 : Shape := ⟨3, ![1, 2048, 1024]⟩
abbrev S1x2048x2048 : Shape := ⟨3, ![1, 2048, 2048]⟩
abbrev S1x4x256x512 : Shape := ⟨4, ![1, 4, 256, 512]⟩
abbrev S_ : Shape := ⟨0, ![]⟩

class Facts : Prop where
  bitsLt_bf16_f32 : FTy.bits .bf16 < FTy.bits .f32
  bcast_S_S1x2048x2048 : S_.BroadcastsInDim S1x2048x2048 (![] : Fin 0 → Fin S1x2048x2048.rank)
  bcast_S_S1x4x256x512 : S_.BroadcastsInDim S1x4x256x512 (![] : Fin 0 → Fin S1x4x256x512.rank)

variable [Facts]

def fn {F : FTy → Type} [FloatOps F] (main_arg0 : FVec F S8x2048x1024 .bf16) (main_arg1 : FVec F S1x2048x1024 .f32) (main_arg2 : FVec F S1x2048x2048 .bf16) (main_arg3 : FVec F S1x4x256x512 .f32) : IVec S1x2048x2048 1 × IVec S1x4x256x512 1 :=
  let main_v0 : FVec F S1x2048x2048 .f32 := (extf .f32 · bitsLt_bf16_f32) main_arg2
  let main_v1 : FVec F S1x2048x2048 .f32 := Host.absf main_v0
  let main_cst : FVec F S_ .f32 := constant S_ .f32 0x7F800000#32
  let main_v2 : FVec F S1x2048x2048 .f32 := broadcastInDim S1x2048x2048 ![] bcast_S_S1x2048x2048 main_cst
  let main_v3 : IVec S1x2048x2048 1 := cmpf .olt main_v1 main_v2
  let main_v4 : FVec F S1x4x256x512 .f32 := Host.absf main_arg3
  let main_cst_0 : FVec F S_ .f32 := constant S_ .f32 0x7F800000#32
  let main_v5 : FVec F S1x4x256x512 .f32 := broadcastInDim S1x4x256x512 ![] bcast_S_S1x4x256x512 main_cst_0
  let main_v6 : IVec S1x4x256x512 1 := cmpf .olt main_v4 main_v5
  (main_v3, main_v6)
-- ==== Pre_rms1_finite.lean ====
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩

class Facts : Prop where
  bitsLt_bf16_f32 : FTy.bits .bf16 < FTy.bits .f32
  bcast_S_S1x2048x2048 : S_.BroadcastsInDim S1x2048x2048 (![] : Fin 0 → Fin S1x2048x2048.rank)
  bcast_S_S1x2048 : S_.BroadcastsInDim S1x2048 (![] : Fin 0 → Fin S1x2048.rank)

variable [Facts]

def fn {F : FTy → Type} [FloatOps F] (main_arg0 : FVec F S1x2048x2048 .bf16) (main_arg1 : FVec F S1x2048x2048 .f32) (main_arg2 : FVec F S1x2048 .f32) (main_arg3 : FVec F S2048x2048 .f32) : IVec S1x2048x2048 1 × IVec S1x2048x2048 1 × IVec S1x2048 1 :=
  let main_v0 : FVec F S1x2048x2048 .f32 := (extf .f32 · bitsLt_bf16_f32) main_arg0
  let main_v1 : FVec F S1x2048x2048 .f32 := Host.absf main_v0
  let main_cst : FVec F S_ .f32 := constant S_ .f32 0x7F800000#32
  let main_v2 : FVec F S1x2048x2048 .f32 := broadcastInDim S1x2048x2048 ![] bcast_S_S1x2048x2048 main_cst
  let main_v3 : IVec S1x2048x2048 1 := cmpf .olt main_v1 main_v2
  let main_v4 : FVec F S1x2048x2048 .f32 := Host.absf main_arg1
  let main_cst_0 : FVec F S_ .f32 := constant S_ .f32 0x7F800000#32
  let main_v5 : FVec F S1x2048x2048 .f32 := broadcastInDim S1x2048x2048 ![] bcast_S_S1x2048x2048 main_cst_0
  let main_v6 : IVec S1x2048x2048 1 := cmpf .olt main_v4 main_v5
  let main_v7 : FVec F S1x2048 .f32 := Host.absf main_arg2
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  (main_v3, main_v6, main_v9)
-- ==== Pre_rms2_finite.lean ====
abbrev S1x2048x2048 : Shape := ⟨3, ![1, 2048, 2048]⟩
abbrev S1x2048 : Shape := ⟨2, ![1, 2048]⟩
abbrev S_ : Shape := ⟨0, ![]⟩

class Facts : Prop where
  bitsLt_bf16_f32 : FTy.bits .bf16 < FTy.bits .f32
  bcast_S_S1x2048x2048 : S_.BroadcastsInDim S1x2048x2048 (![] : Fin 0 → Fin S1x2048x2048.rank)
  bcast_S_S1x2048 : S_.BroadcastsInDim S1x2048 (![] : Fin 0 → Fin S1x2048.rank)

variable [Facts]

def fn {F : FTy → Type} [FloatOps F] (main_arg0 : FVec F S1x2048x2048 .bf16) (main_arg1 : FVec F S1x2048x2048 .f32) (main_arg2 : FVec F S1x2048 .f32) (main_arg3 : FVec F S1x2048x2048 .bf16) : IVec S1x2048x2048 1 × IVec S1x2048x2048 1 × IVec S1x2048 1 :=
  let main_v0 : FVec F S1x2048x2048 .f32 := (extf .f32 · bitsLt_bf16_f32) main_arg0
  let main_v1 : FVec F S1x2048x2048 .f32 := Host.absf main_v0
  let main_cst : FVec F S_ .f32 := constant S_ .f32 0x7F800000#32
  let main_v2 : FVec F S1x2048x2048 .f32 := broadcastInDim S1x2048x2048 ![] bcast_S_S1x2048x2048 main_cst
  let main_v3 : IVec S1x2048x2048 1 := cmpf .olt main_v1 main_v2
  let main_v4 : FVec F S1x2048x2048 .f32 := Host.absf main_arg1
  let main_cst_0 : FVec F S_ .f32 := constant S_ .f32 0x7F800000#32
  let main_v5 : FVec F S1x2048x2048 .f32 := broadcastInDim S1x2048x2048 ![] bcast_S_S1x2048x2048 main_cst_0
  let main_v6 : IVec S1x2048x2048 1 := cmpf .olt main_v4 main_v5
  let main_v7 : FVec F S1x2048 .f32 := Host.absf main_arg2
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  (main_v3, main_v6, main_v9)
-- ==== Pre_stepin_owned.lean ====
abbrev S2 : Shape := ⟨1, ![2]⟩
abbrev S1x2048x1024 : Shape := ⟨3, ![1, 2048, 1024]⟩
abbrev S8x2048x1024 : Shape := ⟨3, ![8, 2048, 1024]⟩
abbrev S4x2048x1024 : Shape := ⟨3, ![4, 2048, 1024]⟩
abbrev S3x2048x1024 : Shape := ⟨3, ![3, 2048, 1024]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 8#32 | 1 => 4#32
  | _ => 0#32

def fn {F : FTy → Type} [FloatOps F] (main_arg0 : IVec S2 32) (main_arg1 : FVec F S1x2048x1024 .f32) (main_arg2 : FVec F S1x2048x1024 .f32) (main_arg3 : FVec F S1x2048x1024 .f32) (main_arg4 : FVec F S8x2048x1024 .bf16) (main_arg5 : FVec F S4x2048x1024 .bf16) (main_arg6 : FVec F S3x2048x1024 .bf16) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg0 main_v0
  let main_v2 : IVec S2 1 := cmpi .slt main_arg0 main_c
  let main_v3 : IVec S2 1 := andi main_v1 main_v2
  main_v3
-- ==== Pre_trail_finite.lean ====
abbrev S1x2048x8192 : Shape := ⟨3, ![1, 2048, 8192]⟩
abbrev S_ : Shape := ⟨0, ![]⟩

class Facts : Prop where
  bcast_S_S1x2048x8192 : S_.BroadcastsInDim S1x2048x8192 (![] : Fin 0 → Fin S1x2048x8192.rank)

variable [Facts]

def fn {F : FTy → Type} [FloatOps F] (main_arg0 : FVec F S1x2048x8192 .f32) : IVec S1x2048x8192 1 :=
  let main_v0 : FVec F S1x2048x8192 .f32 := Host.absf main_arg0
  let main_cst : FVec F S_ .f32 := constant S_ .f32 0x7F800000#32
  let main_v1 : FVec F S1x2048x8192 .f32 := broadcastInDim S1x2048x8192 ![] bcast_S_S1x2048x8192 main_cst
  let main_v2 : IVec S1x2048x8192 1 := cmpf .olt main_v0 main_v1
  main_v2
-- ==== Rms2.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .f32⟩
  | .hbm, ⟨2, _⟩ => ⟨S1x2048, .f32⟩
  | .hbm, ⟨3, _⟩ => ⟨S1x2048x2048, .bf16⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x2048, .bf16⟩
  | .hbm, ⟨9, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Rms2RefIdeal.lean ====
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .f32⟩
  | .hbm, ⟨2, _⟩ => ⟨S1x2048, .f32⟩
  | .hbm, ⟨3, _⟩ => ⟨S1x2048x2048, .bf16⟩
  | .hbm, ⟨4, _⟩ => ⟨S2048, .f32⟩
  | .hbm, ⟨5, _⟩ => ⟨S1x2048x2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x2048, .f32⟩
  | .hbm, ⟨21, _⟩ => ⟨S1x2048x2048, .f32⟩
  | .hbm, ⟨22, _⟩ => ⟨S1x1x2048, .f32⟩
  | .hbm, ⟨23, _⟩ => ⟨S1x2048x2048, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S1x2048x2048, .f32⟩
  | .hbm, ⟨28, _⟩ => ⟨S_, .f32⟩
  | .hbm, ⟨29, _⟩ => ⟨S1x2048, .f32⟩
  | .hbm, ⟨30, _⟩ => ⟨S1x1x2048, .f32⟩
  | .hbm, ⟨31, _⟩ => ⟨S1x2048x2048, .f32⟩
  | .hbm, ⟨32, _⟩ => ⟨S1x2048x2048, .f32⟩
  | .hbm, ⟨33, _⟩ => ⟨S_, .f32⟩
  | .hbm, ⟨34, _⟩ => ⟨S2048, .f32⟩
  | .hbm, ⟨35, _⟩ => ⟨S1x2048x2048, .f32⟩
  | .hbm, ⟨36, _⟩ => ⟨S_, .f32⟩
  | .hbm, ⟨37, _⟩ => ⟨S1x2048, .f32⟩
  | .hbm, ⟨38, _⟩ => ⟨S1x2048x1, .f32⟩
  | .hbm, ⟨39, _⟩ => ⟨S1x2048x2048, .f32⟩
  | .hbm, ⟨40, _⟩ => ⟨S1x2048x2048, .f32⟩
  | .hbm, ⟨41, _⟩ => ⟨S1x2048x2048, .f32⟩
  | .hbm, ⟨42, _⟩ => ⟨S1x2048x1, .f32⟩
  | .hbm, ⟨43, _⟩ => ⟨S_, .f32⟩
  | .hbm, ⟨44, _⟩ => ⟨S1x2048x1, .f32⟩
  | .hbm, ⟨45, _⟩ => ⟨S1x2048x1, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S1x2048x2048, .f32⟩
  | .hbm, ⟨50, _⟩ => ⟨S1x2048x2048, .f32⟩
  | .hbm, ⟨51, _⟩ => ⟨S1x2048x2048, .f32⟩
  | .hbm, ⟨52, _⟩ => ⟨S1x2048x2048, .f32⟩
  | .hbm, ⟨53, _⟩ => ⟨S1x2048x2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S2048x2048, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Loss.lean ====
abbrev S1x2048x2048 : Shape := ⟨3, ![1, 2048, 2048]⟩
abbrev S2048 : Shape := ⟨1, ![2048]⟩
abbrev S2048x2048 : Shape := ⟨2, ![2048, 2048]⟩
abbrev S2048x1024 : Shape := ⟨2, ![2048, 1024]⟩
abbrev S1x2048 : Shape := ⟨2, ![1, 2048]⟩
abbrev S8x128 : Shape := ⟨2, ![8, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 13
  | .vmem => 13
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S2048, .f32⟩
  | .hbm, ⟨3, _⟩ => ⟨S1x2048x2048, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S2048x2048, .bf16⟩
  | .hbm, ⟨11, _⟩ => ⟨S1x2048, .f32⟩
  | .hbm, ⟨12, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S8x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S1x2048x2048 : Shape := ⟨3, ![1, 2048, 2048]⟩
abbrev S2048 : Shape := ⟨1, ![2048]⟩
abbrev S_ : Shape := ⟨0, ![]⟩
abbrev S1x2048 : Shape := ⟨2, ![1, 2048]⟩
abbrev S1x2048x1 : Shape := ⟨3, ![1, 2048, 1]⟩
abbrev S1x1x2048 : Shape := ⟨3, ![1, 1, 2048]⟩
abbrev S2048x2048 : Shape := ⟨2, ![2048, 2048]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S2048, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x2048, .f32⟩
  | .hbm, ⟨21, _⟩ => ⟨S1x2048x2048, .f32⟩
  | .hbm, ⟨22, _⟩ => ⟨S1x1x2048, .f32⟩
  | .hbm, ⟨23, _⟩ => ⟨S1x2048x2048, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S_, .f32⟩
  | .hbm, ⟨28, _⟩ => ⟨S1x2048x2048, .f32⟩
  | .hbm, ⟨29, _⟩ => ⟨S1x2048x2048, .f32⟩
  | .hbm, ⟨30, _⟩ => ⟨S_, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x2048, .f32⟩
  | .hbm, ⟨43, _⟩ => ⟨S_, .f32⟩
  | .hbm, ⟨44, _⟩ => ⟨S1x2048, .f32⟩
  | .hbm, ⟨45, _⟩ => ⟨S1x2048, .f32⟩
  | .hbm, ⟨46, _⟩ => ⟨S1x2048x2048, .f32⟩
  | .hbm, ⟨47, _⟩ => ⟨S1x2048x2048, .f32⟩
  | .hbm, ⟨48, _⟩ => ⟨S1x2048x2048, .f32⟩
  | .hbm, ⟨49, _⟩ => ⟨S_, .f32⟩
  | .hbm, ⟨50, _⟩ => ⟨S1x2048, .f32⟩
  | .hbm, ⟨51, _⟩ => ⟨S1x1x2048, .f32⟩
  | .hbm, ⟨52, _⟩ => ⟨S1x2048x2048, .f32⟩
  | .hbm, ⟨53, _⟩ => ⟨S1x2048x2048, .f32⟩
  | .hbm, ⟨54, _⟩ => ⟨S_, .f32⟩
  | .hbm, ⟨55, _⟩ => ⟨S2048, .f32⟩
  | .hbm, ⟨56, _⟩ => ⟨S1x2048x2048, .f32⟩
  | .hbm, ⟨57, _⟩ => ⟨S_, .f32⟩
  | .hbm, ⟨58, _⟩ => ⟨S1x2048, .f32⟩
  | .hbm, ⟨59, _⟩ => ⟨S1x2048x1, .f32⟩
  | .hbm, ⟨60, _⟩ => ⟨S1x2048x2048, .f32⟩
  | .hbm, ⟨61, _⟩ => ⟨S1x2048x2048, .f32⟩
  | .hbm, ⟨62, _⟩ => ⟨S1x2048x1, .f32⟩
  | .hbm, ⟨63, _⟩ => ⟨S_, .f32⟩
  | .hbm, ⟨64, _⟩ => ⟨S1x2048x1, .f32⟩
  | .hbm, ⟨65, _⟩ => ⟨S1x2048x1, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S1x2048x2048, .f32⟩
  | .hbm, ⟨70, _⟩ => ⟨S1x2048x2048, .f32⟩
  | .hbm, ⟨71, _⟩ => ⟨S1x2048x2048, .f32⟩
  | .hbm, ⟨72, _⟩ => ⟨S1x2048x2048, .f32⟩
  | .hbm, ⟨73, _⟩ => ⟨S1x2048x2048, .f32⟩
  | .hbm, ⟨74, _⟩ => ⟨S2048x2048, .f32⟩
  | .hbm, ⟨75, _⟩ => ⟨S2048x2048, .bf16⟩
  | .hbm, ⟨76, _⟩ => ⟨S1x2048, .f32⟩
  | .hbm, ⟨77, _⟩ => ⟨S8x128, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Pool.lean ====
abbrev S8x2048x1024 : Shape := ⟨3, ![8, 2048, 1024]⟩
abbrev S1x2048x1024 : Shape := ⟨3, ![1, 2048, 1024]⟩
abbrev S1x2048x2048 : Shape := ⟨3, ![1, 2048, 2048]⟩
abbrev S1x4x256x512 : Shape := ⟨4, ![1, 4, 256, 512]⟩
abbrev S4x256x512 : Shape := ⟨3, ![4, 256, 512]⟩
abbrev S4x256x8x64 : Shape := ⟨4, ![4, 256, 8, 64]⟩
abbrev S8x4x256x64 : Shape := ⟨4, ![8, 4, 256, 64]⟩
abbrev S2048x2048 : Shape := ⟨2, ![2048, 2048]⟩
abbrev S2048x512 : Shape := ⟨2, ![2048, 512]⟩
abbrev S1x256x512 : Shape := ⟨3, ![1, 256, 512]⟩
abbrev S1x2048x256 : Shape := ⟨3, ![1, 2048, 256]⟩
abbrev S256x512 : Shape := ⟨2, ![256, 512]⟩
abbrev S2048x256 : Shape := ⟨2, ![2048, 256]⟩

abbrev nBuf : Space → Nat
  | .hbm => 12
  | .vmem => 6
  | .smem => 0
  | _ => 0

abbrev bufTy : (tb : Table) → Fin (tcTables nBuf tb) → BufTy
  | .hbm, ⟨0, _⟩ => ⟨S8x2048x1024, .bf16⟩
  | .hbm, ⟨1, _⟩ => ⟨S1x2048x1024, .f32⟩
  | .hbm, ⟨2, _⟩ => ⟨S1x2048x2048, .bf16⟩
  | .hbm, ⟨3, _⟩ => ⟨S1x4x256x512, .f32⟩
  | .hbm, ⟨4, _⟩ => ⟨S4x256x512, .f32⟩
  | .hbm, ⟨5, _⟩ => ⟨S4x256x512, .bf16⟩
  | .hbm, ⟨6, _⟩ => ⟨S4x256x8x64, .bf16⟩
  | .hbm, ⟨7, _⟩ => ⟨S8x4x256x64, .bf16⟩
  | .hbm, ⟨8, _⟩ => ⟨S4x256x8x64, .bf16⟩
  | .hbm, ⟨9, _⟩ => ⟨S4x256x512, .bf16⟩
  | .hbm, ⟨10, _⟩ => ⟨S2048x2048, .bf16⟩
  | .hbm, ⟨11, _⟩ => ⟨S8x2048x1024, .bf16⟩
  | .local _ .vmem, ⟨0, _⟩ => ⟨S2048x512, .bf16⟩
  | .local _ .vmem, ⟨1, _⟩ => ⟨S2048x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x2048x256, .bf16⟩
  | .local _ .vmem, ⟨5, _⟩ => ⟨S1x2048x256, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolRefIdeal.lean ====
abbrev S8x2048x1024 : Shape := ⟨3, ![8, 2048, 1024]⟩
abbrev S1x2048x1024 : Shape := ⟨3, ![1, 2048, 1024]⟩
abbrev S1x2048x2048 : Shape := ⟨3, ![1, 2048, 2048]⟩
abbrev S1x4x256x512 : Shape := ⟨4, ![1, 4, 256, 512]⟩
abbrev S4 : Shape := ⟨1, ![4]⟩
abbrev S1x2048x4x256 : Shape := ⟨4, ![1, 2048, 4, 256]⟩
abbrev S_ : Shape := ⟨0, ![]⟩
abbrev S1x1x4x256 : Shape := ⟨4, ![1, 1, 4, 256]⟩
abbrev S1x2049x4x256 : Shape := ⟨4, ![1, 2049, 4, 256]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S4x256x512 : Shape := ⟨3, ![4, 256, 512]⟩
abbrev S4x512x1x2048 : Shape := ⟨4, ![4, 512, 1, 2048]⟩
abbrev S1x2048x4x512 : Shape := ⟨4, ![1, 2048, 4, 512]⟩
abbrev S4x1x2048x256 : Shape := ⟨4, ![4, 1, 2048, 256]⟩
abbrev S3x2048x1024 : Shape := ⟨3, ![3, 2048, 1024]⟩
abbrev S4x2048x1024 : Shape := ⟨3, ![4, 2048, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S1x2048x1024, .f32⟩
  | .hbm, ⟨2, _⟩ => ⟨S1x2048x2048, .bf16⟩
  | .hbm, ⟨3, _⟩ => ⟨S1x4x256x512, .f32⟩
  | .hbm, ⟨4, _⟩ => ⟨S4, .i32⟩
  | .hbm, ⟨5, _⟩ => ⟨S1x2048x4x256, .f32⟩
  | .hbm, ⟨6, _⟩ => ⟨S_, .f32⟩
  | .hbm, ⟨7, _⟩ => ⟨S_, .f32⟩
  | .hbm, ⟨8, _⟩ => ⟨S1x2048x4x256, .f32⟩
  | .hbm, ⟨9, _⟩ => ⟨S1x1x4x256, .f32⟩
  | .hbm, ⟨10, _⟩ => ⟨S_, .f32⟩
  | .hbm, ⟨11, _⟩ => ⟨S1x1x4x256, .f32⟩
  | .hbm, ⟨12, _⟩ => ⟨S1x2049x4x256, .f32⟩
  | .hbm, ⟨13, _⟩ => ⟨S_, .f32⟩
  | .hbm, ⟨14, _⟩ => ⟨S1x1x4x256, .f32⟩
  | .hbm, ⟨15, _⟩ => ⟨S2048, .i32⟩
  | .hbm, ⟨16, _⟩ => ⟨S2048x1, .i32⟩
  | .hbm, ⟨17, _⟩ => ⟨S1x4, .i32⟩
  | .hbm, ⟨18, _⟩ => ⟨S_, .i32⟩
  | .hbm, ⟨19, _⟩ => ⟨S2048x1, .i32⟩
  | .hbm, ⟨20, _⟩ => ⟨S2048x1, .i32⟩
  | .hbm, ⟨21, _⟩ => ⟨S2048x4, .i32⟩
  | .hbm, ⟨22, _⟩ => ⟨S2048x4, .i32⟩
  | .hbm, ⟨23, _⟩ => ⟨S2048x4, .i32⟩
  | .hbm, ⟨24, _⟩ => ⟨S_, .i32⟩
  | .hbm, ⟨25, _⟩ => ⟨S2048x4, .i32⟩
  | .hbm, ⟨26, _⟩ => ⟨S2048x4, .i32⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x4, .i32⟩
  | .hbm, ⟨31, _⟩ => ⟨S2048x4, .i32⟩
  | .hbm, ⟨32, _⟩ => ⟨S2048x4, .f32⟩
  | .hbm, ⟨33, _⟩ => ⟨S4, .i32⟩
  | .hbm, ⟨34, _⟩ => ⟨S1x4, .i32⟩
  | .hbm, ⟨35, _⟩ => ⟨S1x2048x4x256, .f32⟩
  | .hbm, ⟨36, _⟩ => ⟨S_, .i32⟩
  | .hbm, ⟨37, _⟩ => ⟨S2048x4, .i32⟩
  | .hbm, ⟨38, _⟩ => ⟨S2048x4, .i1⟩
  | .hbm, ⟨39, _⟩ => ⟨S_, .i32⟩
  | .hbm, ⟨40, _⟩ => ⟨S2048x4, .i32⟩
  | .hbm, ⟨41, _⟩ => ⟨S2048x4, .i32⟩
  | .hbm, ⟨42, _⟩ => ⟨S2048x4, .i32⟩
  | .hbm, ⟨43, _⟩ => ⟨S_, .i32⟩
  | .hbm, ⟨44, _⟩ => ⟨S1x4, .i32⟩
  | .hbm, ⟨45, _⟩ => ⟨S1x4, .i1⟩
  | .hbm, ⟨46, _⟩ => ⟨S_, .i32⟩
  | .hbm, ⟨47, _⟩ => ⟨S1x4, .i32⟩
  | .hbm, ⟨48, _⟩ => ⟨S1x4, .i32⟩
  | .hbm, ⟨49, _⟩ => ⟨S1x4, .i32⟩
  | .hbm, ⟨50, _⟩ => ⟨S2048x4, .i32⟩
  | .hbm, ⟨51, _⟩ => ⟨S2048x4x1, .i32⟩
  | .hbm, ⟨52, _⟩ => ⟨S2048x4x1, .i32⟩
  | .hbm, ⟨53, _⟩ => ⟨S2048x4x2, .i32⟩
  | .hbm, ⟨54, _⟩ => ⟨S1x2048x4x256, .f32⟩
  | .hbm, ⟨55, _⟩ => ⟨S1x2048x4x256, .f32⟩
  | .hbm, ⟨56, _⟩ => ⟨S1x2048x4x1, .f32⟩
  | .hbm, ⟨57, _⟩ => ⟨S1x2048x4x256, .f32⟩
  | .hbm, ⟨58, _⟩ => ⟨S1x2048x4x256, .f32⟩
  | .hbm, ⟨59, _⟩ => ⟨S1x2048x4x256, .f32⟩
  | .hbm, ⟨60, _⟩ => ⟨S4x256x512, .f32⟩
  | .hbm, ⟨61, _⟩ => ⟨S4x512x1x2048, .f32⟩
  | .hbm, ⟨62, _⟩ => ⟨S1x2048x4x512, .f32⟩
  | .hbm, ⟨63, _⟩ => ⟨S1x2048x2048, .f32⟩
  | .hbm, ⟨64, _⟩ => ⟨S1x2048x2048, .f32⟩
  | .hbm, ⟨65, _⟩ => ⟨S1x2048x4x512, .f32⟩
  | .hbm, ⟨66, _⟩ => ⟨S4x512x1x2048, .f32⟩
  | .hbm, ⟨67, _⟩ => ⟨S4x1x2048x256, .f32⟩
  | .hbm, ⟨68, _⟩ => ⟨S1x2048x4x256, .f32⟩
  | .hbm, ⟨69, _⟩ => ⟨S1x2048x4x256, .f32⟩
  | .hbm, ⟨70, _⟩ => ⟨S1x2048x4x256, .f32⟩
  | .hbm, ⟨71, _⟩ => ⟨S1x2048x4x256, .f32⟩
  | .hbm, ⟨72, _⟩ => ⟨S1x2048x4x256, .f32⟩
  | .hbm, ⟨73, _⟩ => ⟨S_, .f32⟩
  | .hbm, ⟨74, _⟩ => ⟨S1x2049x4x256, .f32⟩
  | .hbm, ⟨75, _⟩ => ⟨S1x2049x4x256, .f32⟩
  | .hbm, ⟨76, _⟩ => ⟨S_, .f32⟩
  | .hbm, ⟨77, _⟩ => ⟨S1x2049x4x256, .f32⟩
  | .hbm, ⟨78, _⟩ => ⟨S1x2049x4x256, .f32⟩
  | .hbm, ⟨79, _⟩ => ⟨S1x1x4x256, .f32⟩
  | .hbm, ⟨80, _⟩ => ⟨S1x2048x4x256, .f32⟩
  | .hbm, ⟨81, _⟩ => ⟨S_, .f32⟩
  | .hbm, ⟨82, _⟩ => ⟨S_, .f32⟩
  | .hbm, ⟨83, _⟩ => ⟨S1x2048x4x256, .f32⟩
  | .hbm, ⟨84, _⟩ => ⟨S1x2048x4x256, .f32⟩
  | .hbm, ⟨85, _⟩ => ⟨S1x2048x1024, .f32⟩
  | .hbm, ⟨86, _⟩ => ⟨S3x2048x1024, .bf16⟩
  | .hbm, ⟨87, _⟩ => ⟨S1x2048x1024, .bf16⟩
  | .hbm, ⟨88, _⟩ => ⟨S4x2048x1024, .bf16⟩
  | .hbm, ⟨89, _⟩ => ⟨S8x2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call1_call0_cst : Ref sig .tc := ⟨.hbm, 81, rfl⟩
abbrev main_call1_call0_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Conv.lean ====
abbrev S8x2048x1024 : Shape := ⟨3, ![8, 2048, 1024]⟩
abbrev S1x2048x2048 : Shape := ⟨3, ![1, 2048, 2048]⟩
abbrev S1x1024x2048 : Shape := ⟨3, ![1, 1024, 2048]⟩
abbrev S1x2048x8192 : Shape := ⟨3, ![1, 2048, 8192]⟩
abbrev S1x3x1024 : Shape := ⟨3, ![1, 3, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S2048x8x1024 : Shape := ⟨3, ![2048, 8, 1024]⟩
abbrev S3x1024 : Shape := ⟨2, ![3, 1024]⟩
abbrev S3x8x128 : Shape := ⟨3, ![3, 8, 128]⟩
abbrev S8x3x128 : Shape := ⟨3, ![8, 3, 128]⟩
abbrev S_ : Shape := ⟨0, ![]⟩
abbrev S8x8x128 : Shape := ⟨3, ![8, 8, 128]⟩
abbrev S2048x2048 : Shape := ⟨2, ![2048, 2048]⟩
abbrev S8x128x256 : Shape := ⟨3, ![8, 128, 256]⟩
abbrev S1x2048x128 : Shape := ⟨3, ![1, 2048, 128]⟩
abbrev S3x128 : Shape := ⟨2, ![3, 128]⟩
abbrev S1x128 : Shape := ⟨2, ![1, 128]⟩
abbrev S3x2048x128 : Shape := ⟨3, ![3, 2048, 128]⟩
abbrev S2048x128 : Shape := ⟨2, ![2048, 128]⟩
abbrev S512x256 : Shape := ⟨2, ![512, 256]⟩
abbrev S1x128x256 : Shape := ⟨3, ![1, 128, 256]⟩
abbrev S128x256 : Shape := ⟨2, ![128, 256]⟩
abbrev S512x128 : Shape := ⟨2, ![512, 128]⟩
abbrev S128 : Shape := ⟨1, ![128]⟩

abbrev nBuf : Space → Nat
  | .hbm => 25
  | .vmem => 20
  | .smem => 0
  | _ => 0

abbrev bufTy : (tb : Table) → Fin (tcTables nBuf tb) → BufTy
  | .hbm, ⟨0, _⟩ => ⟨S8x2048x1024, .bf16⟩
  | .hbm, ⟨1, _⟩ => ⟨S1x2048x2048, .bf16⟩
  | .hbm, ⟨2, _⟩ => ⟨S1x1024x2048, .f32⟩
  | .hbm, ⟨3, _⟩ => ⟨S1x2048x8192, .f32⟩
  | .hbm, ⟨4, _⟩ => ⟨S1x3x1024, .f32⟩
  | .hbm, ⟨5, _⟩ => ⟨S1x1024, .f32⟩
  | .hbm, ⟨6, _⟩ => ⟨S1024x2048, .f32⟩
  | .hbm, ⟨7, _⟩ => ⟨S1024x2048, .bf16⟩
  | .hbm, ⟨8, _⟩ => ⟨S1024x8x256, .bf16⟩
  | .hbm, ⟨9, _⟩ => ⟨S8x1024x256, .bf16⟩
  | .hbm, ⟨10, _⟩ => ⟨S2048x8x1024, .f32⟩
  | .hbm, ⟨11, _⟩ => ⟨S8x2048x1024, .f32⟩
  | .hbm, ⟨12, _⟩ => ⟨S3x1024, .f32⟩
  | .hbm, ⟨13, _⟩ => ⟨S3x8x128, .f32⟩
  | .hbm, ⟨14, _⟩ => ⟨S8x3x128, .f32⟩
  | .hbm, ⟨15, _⟩ => ⟨S_, .i32⟩
  | .hbm, ⟨16, _⟩ => ⟨S_, .f32⟩
  | .hbm, ⟨17, _⟩ => ⟨S8x8x128, .f32⟩
  | .hbm, ⟨18, _⟩ => ⟨S8x3x128, .f32⟩
  | .hbm, ⟨19, _⟩ => ⟨S3x8x128, .f32⟩
  | .hbm, ⟨20, _⟩ => ⟨S3x1024, .f32⟩
  | .hbm, ⟨21, _⟩ => ⟨S2048x2048, .bf16⟩
  | .hbm, ⟨22, _⟩ => ⟨S8x2048x1024, .bf16⟩
  | .hbm, ⟨23, _⟩ => ⟨S3x1024, .f32⟩
  | .hbm, ⟨24, _⟩ => ⟨S1x1024, .f32⟩
  | .local _ .vmem, ⟨0, _⟩ => ⟨S2048x2048, .bf16⟩
  | .local _ .vmem, ⟨1, _⟩ => ⟨S8x128x256, .bf16⟩
  | .local _ .vmem, ⟨2, _⟩ => ⟨S8x128x256, .bf16⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S3x128, .f32⟩
  | .local _ .vmem, ⟨10, _⟩ => ⟨S3x128, .f32⟩
  | .local _ .vmem, ⟨11, _⟩ => ⟨S1x128, .f32⟩
  | .local _ .vmem, ⟨12, _⟩ => ⟨S1x128, .f32⟩
  | .local _ .vmem, ⟨13, _⟩ => ⟨S3x2048x128, .bf16⟩
  | .local _ .vmem, ⟨14, _⟩ => ⟨S3x2048x128, .bf16⟩
  | .local _ .vmem, ⟨15, _⟩ => ⟨S3x128, .f32⟩
  | .local _ .vmem, ⟨16, _⟩ => ⟨S3x128, .f32⟩
  | .local _ .vmem, ⟨17, _⟩ => ⟨S1x128, .f32⟩
  | .local _ .vmem, ⟨18, _⟩ => ⟨S1x128, .f32⟩
  | .local _ .vmem, ⟨19, _⟩ => ⟨S2048x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvRefIdeal.lean ====
abbrev S8x2048x1024 : Shape := ⟨3, ![8, 2048, 1024]⟩
abbrev S1x2048x2048 : Shape := ⟨3, ![1, 2048, 2048]⟩
abbrev S1x1024x2048 : Shape := ⟨3, ![1, 1024, 2048]⟩
abbrev S1x2048x8192 : Shape := ⟨3, ![1, 2048, 8192]⟩
abbrev S1x3x1024 : Shape := ⟨3, ![1, 3, 1024]⟩
abbrev S1x1024 : Shape := ⟨2, ![1, 1024]⟩
abbrev S1x2048x1024 : Shape := ⟨3, ![1, 2048, 1024]⟩
abbrev S3x1024 : Shape := ⟨2, ![3, 1024]⟩
abbrev S1024 : Shape := ⟨1, ![1024]⟩
abbrev S_ : Shape := ⟨0, ![]⟩
abbrev S1x2x1024 : Shape := ⟨3, ![1, 2, 1024]⟩
abbrev S1x2050x1024 : Shape := ⟨3, ![1, 2050, 1024]⟩
abbrev S1x1x1024 : Shape := ⟨3, ![1, 1, 1024]⟩
abbrev S1024x2048 : Shape := ⟨2, ![1024, 2048]⟩
abbrev S5x2048x1024 : Shape := ⟨3, ![5, 2048, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S1x2048x2048, .bf16⟩
  | .hbm, ⟨2, _⟩ => ⟨S1x1024x2048, .f32⟩
  | .hbm, ⟨3, _⟩ => ⟨S1x2048x8192, .f32⟩
  | .hbm, ⟨4, _⟩ => ⟨S1x3x1024, .f32⟩
  | .hbm, ⟨5, _⟩ => ⟨S1x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S3x1024, .f32⟩
  | .hbm, ⟨11, _⟩ => ⟨S1024, .f32⟩
  | .hbm, ⟨12, _⟩ => ⟨S_, .f32⟩
  | .hbm, ⟨13, _⟩ => ⟨S1x2x1024, .f32⟩
  | .hbm, ⟨14, _⟩ => ⟨S1x2050x1024, .f32⟩
  | .hbm, ⟨15, _⟩ => ⟨S_, .f32⟩
  | .hbm, ⟨16, _⟩ => ⟨S1x2x1024, .f32⟩
  | .hbm, ⟨17, _⟩ => ⟨S1x1024, .f32⟩
  | .hbm, ⟨18, _⟩ => ⟨S1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1x1024, .f32⟩
  | .hbm, ⟨27, _⟩ => ⟨S1024, .f32⟩
  | .hbm, ⟨28, _⟩ => ⟨S1x2048x1024, .f32⟩
  | .hbm, ⟨29, _⟩ => ⟨S1x1x1024, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S1x1024, .f32⟩
  | .hbm, ⟨34, _⟩ => ⟨S1024, .f32⟩
  | .hbm, ⟨35, _⟩ => ⟨S1x2048x1024, .f32⟩
  | .hbm, ⟨36, _⟩ => ⟨S1x1x1024, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S1024x2048, .f32⟩
  | .hbm, ⟨42, _⟩ => ⟨S1x2048x2048, .f32⟩
  | .hbm, ⟨43, _⟩ => ⟨S1x2048x2048, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S_, .f32⟩
  | .hbm, ⟨54, _⟩ => ⟨S1024, .f32⟩
  | .hbm, ⟨55, _⟩ => ⟨S_, .f32⟩
  | .hbm, ⟨56, _⟩ => ⟨S1x2050x1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S1x2048x1024, .f32⟩
  | .hbm, ⟨61, _⟩ => ⟨S1x2048x1024, .f32⟩
  | .hbm, ⟨62, _⟩ => ⟨S1x2048x1024, .f32⟩
  | .hbm, ⟨63, _⟩ => ⟨S_, .f32⟩
  | .hbm, ⟨64, _⟩ => ⟨S1x1024, .f32⟩
  | .hbm, ⟨65, _⟩ => ⟨S1x1x1024, .f32⟩
  | .hbm, ⟨66, _⟩ => ⟨S_, .f32⟩
  | .hbm, ⟨67, _⟩ => ⟨S1024, .f32⟩
  | .hbm, ⟨68, _⟩ => ⟨S_, .f32⟩
  | .hbm, ⟨69, _⟩ => ⟨S1x2050x1024, .f32⟩
  | .hbm, ⟨70, _⟩ => ⟨S1x2050x1024, .f32⟩
  | .hbm, ⟨71, _⟩ => ⟨S1x1024, .f32⟩
  | .hbm, ⟨72, _⟩ => ⟨S_, .f32⟩
  | .hbm, ⟨73, _⟩ => ⟨S3x1024, .f32⟩
  | .hbm, ⟨74, _⟩ => ⟨S3x1024, .f32⟩
  | .hbm, ⟨75, _⟩ => ⟨S_, .f32⟩
  | .hbm, ⟨76, _⟩ => ⟨S1x1024, .f32⟩
  | .hbm, ⟨77, _⟩ => ⟨S1x1x1024, .f32⟩
  | .hbm, ⟨78, _⟩ => ⟨S_, .f32⟩
  | .hbm, ⟨79, _⟩ => ⟨S1024, .f32⟩
  | .hbm, ⟨80, _⟩ => ⟨S1x2048x1024, .f32⟩
  | .hbm, ⟨81, _⟩ => ⟨S1x2048x1024, .f32⟩
  | .hbm, ⟨82, _⟩ => ⟨S1x2048x1024, .f32⟩
  | .hbm, ⟨83, _⟩ => ⟨S_, .f32⟩
  | .hbm, ⟨84, _⟩ => ⟨S1x1024, .f32⟩
  | .hbm, ⟨85, _⟩ => ⟨S1x1x1024, .f32⟩
  | .hbm, ⟨86, _⟩ => ⟨S_, .f32⟩
  | .hbm, ⟨87, _⟩ => ⟨S1024, .f32⟩
  | .hbm, ⟨88, _⟩ => ⟨S_, .f32⟩
  | .hbm, ⟨89, _⟩ => ⟨S1x2050x1024, .f32⟩
  | .hbm, ⟨90, _⟩ => ⟨S1x2050x1024, .f32⟩
  | .hbm, ⟨91, _⟩ => ⟨S1x1024, .f32⟩
  | .hbm, ⟨92, _⟩ => ⟨S_, .f32⟩
  | .hbm, ⟨93, _⟩ => ⟨S3x1024, .f32⟩
  | .hbm, ⟨94, _⟩ => ⟨S3x1024, .f32⟩
  | .hbm, ⟨95, _⟩ => ⟨S1x2x1024, .f32⟩
  | .hbm, ⟨96, _⟩ => ⟨S1x2048x1024, .f32⟩
  | .hbm, ⟨97, _⟩ => ⟨S1x1024, .f32⟩
  | .hbm, ⟨98, _⟩ => ⟨S1x3x1024, .f32⟩
  | .hbm, ⟨99, _⟩ => ⟨S1x2048x1024, .f32⟩
  | .hbm, ⟨100, _⟩ => ⟨S1x2048x1024, .f32⟩
  | .hbm, ⟨101, _⟩ => ⟨S1x2048x1024, .bf16⟩
  | .hbm, ⟨102, _⟩ => ⟨S1x2048x1024, .bf16⟩
  | .hbm, ⟨103, _⟩ => ⟨S1x2048x1024, .bf16⟩
  | .hbm, ⟨104, _⟩ => ⟨S5x2048x1024, .bf16⟩
  | .hbm, ⟨105, _⟩ => ⟨S8x2048x1024, .bf16⟩
  | .hbm, ⟨106, _⟩ => ⟨S3x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_1 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Merge.lean ====
abbrev S1x2048x1024 : Shape := ⟨3, ![1, 2048, 1024]⟩
abbrev S1x1024x2048 : Shape := ⟨3, ![1, 1024, 2048]⟩
abbrev S1x4x256x512 : Shape := ⟨4, ![1, 4, 256, 512]⟩
abbrev S1x2048x8192 : Shape := ⟨3, ![1, 2048, 8192]⟩
abbrev S1x4096 : Shape := ⟨2, ![1, 4096]⟩
abbrev S1x2048 : Shape := ⟨2, ![1, 2048]⟩
abbrev S1x2048x2048 : Shape := ⟨3, ![1, 2048, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S2048x8x1024 : Shape := ⟨3, ![2048, 8, 1024]⟩
abbrev S8x2048x1024 : Shape := ⟨3, ![8, 2048, 1024]⟩
abbrev S2048x1024 : Shape := ⟨2, ![2048, 1024]⟩
abbrev S4x256x512 : Shape := ⟨3, ![4, 256, 512]⟩
abbrev S2x2048 : Shape := ⟨2, ![2, 2048]⟩
abbrev S2048x2048 : Shape := ⟨2, ![2048, 2048]⟩
abbrev S1x1024x256 : Shape := ⟨3, ![1, 1024, 256]⟩
abbrev S2048x256 : Shape := ⟨2, ![2048, 256]⟩
abbrev S1x256x256 : Shape := ⟨3, ![1, 256, 256]⟩
abbrev S1x2048x256 : Shape := ⟨3, ![1, 2048, 256]⟩
abbrev S2x256 : Shape := ⟨2, ![2, 256]⟩
abbrev S1x256 : Shape := ⟨2, ![1, 256]⟩
abbrev S512x1024 : Shape := ⟨2, ![512, 1024]⟩
abbrev S1024x256 : Shape := ⟨2, ![1024, 256]⟩
abbrev S512x256 : Shape := ⟨2, ![512, 256]⟩
abbrev S256x256 : Shape := ⟨2, ![256, 256]⟩
abbrev S1x512x256 : Shape := ⟨3, ![1, 512, 256]⟩
abbrev S4x2x2048x1024 : Shape := ⟨4, ![4, 2, 2048, 1024]⟩
abbrev S256x2048 : Shape := ⟨2, ![256, 2048]⟩
abbrev S2x1x2048x256 : Shape := ⟨4, ![2, 1, 2048, 256]⟩
abbrev S256 : Shape := ⟨1, ![256]⟩
abbrev S1x1x256x256 : Shape := ⟨4, ![1, 1, 256, 256]⟩

abbrev nBuf : Space → Nat
  | .hbm => 34
  | .vmem => 51
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x2048, .f32⟩
  | .hbm, ⟨2, _⟩ => ⟨S1x2048x1024, .bf16⟩
  | .hbm, ⟨3, _⟩ => ⟨S1x4x256x512, .f32⟩
  | .hbm, ⟨4, _⟩ => ⟨S1x2048x8192, .f32⟩
  | .hbm, ⟨5, _⟩ => ⟨S1x4096, .f32⟩
  | .hbm, ⟨6, _⟩ => ⟨S1x2048, .f32⟩
  | .hbm, ⟨7, _⟩ => ⟨S1x2048x2048, .f32⟩
  | .hbm, ⟨8, _⟩ => ⟨S1x2048x2048, .bf16⟩
  | .hbm, ⟨9, _⟩ => ⟨S1024x2048, .f32⟩
  | .hbm, ⟨10, _⟩ => ⟨S1024x2048, .bf16⟩
  | .hbm, ⟨11, _⟩ => ⟨S1024x8x256, .bf16⟩
  | .hbm, ⟨12, _⟩ => ⟨S8x1024x256, .bf16⟩
  | .hbm, ⟨13, _⟩ => ⟨S2048x8x1024, .f32⟩
  | .hbm, ⟨14, _⟩ => ⟨S8x2048x1024, .f32⟩
  | .hbm, ⟨15, _⟩ => ⟨S2048x1024, .bf16⟩
  | .hbm, ⟨16, _⟩ => ⟨S2048x1024, .bf16⟩
  | .hbm, ⟨17, _⟩ => ⟨S4x256x512, .f32⟩
  | .hbm, ⟨18, _⟩ => ⟨S4x256x512, .bf16⟩
  | .hbm, ⟨19, _⟩ => ⟨S2x2048, .f32⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .f32⟩
  | .hbm, ⟨28, _⟩ => ⟨S2048x2048, .bf16⟩
  | .hbm, ⟨29, _⟩ => ⟨S2048x2048, .bf16⟩
  | .hbm, ⟨30, _⟩ => ⟨S2048x2048, .bf16⟩
  | .hbm, ⟨31, _⟩ => ⟨S4x2x2048x1024, .bf16⟩
  | .hbm, ⟨32, _⟩ => ⟨S2x2048, .f32⟩
  | .hbm, ⟨33, _⟩ => ⟨S1x2048, .f32⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S2048x256, .bf16⟩
  | .local _ .vmem, ⟨4, _⟩ => ⟨S2048x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S2x256, .f32⟩
  | .local _ .vmem, ⟨12, _⟩ => ⟨S2x256, .f32⟩
  | .local _ .vmem, ⟨13, _⟩ => ⟨S1x256, .f32⟩
  | .local _ .vmem, ⟨14, _⟩ => ⟨S1x256, .f32⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x2048, .bf16⟩
  | .local _ .vmem, ⟨28, _⟩ => ⟨S256x2048, .bf16⟩
  | .local _ .vmem, ⟨29, _⟩ => ⟨S256x2048, .bf16⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S2048x256, .bf16⟩
  | .local _ .vmem, ⟨36, _⟩ => ⟨S2048x256, .bf16⟩
  | .local _ .vmem, ⟨37, _⟩ => ⟨S2048x256, .bf16⟩
  | .local _ .vmem, ⟨38, _⟩ => ⟨S2048x256, .bf16⟩
  | .local _ .vmem, ⟨39, _⟩ => ⟨S2048x256, .bf16⟩
  | .local _ .vmem, ⟨40, _⟩ => ⟨S2048x256, .bf16⟩
  | .local _ .vmem, ⟨41, _⟩ => ⟨S2048x256, .bf16⟩
  | .local _ .vmem, ⟨42, _⟩ => ⟨S2048x256, .bf16⟩
  | .local _ .vmem, ⟨43, _⟩ => ⟨S2048x256, .bf16⟩
  | .local _ .vmem, ⟨44, _⟩ => ⟨S2x1x2048x256, .bf16⟩
  | .local _ .vmem, ⟨45, _⟩ => ⟨S2x1x2048x256, .bf16⟩
  | .local _ .vmem, ⟨46, _⟩ => ⟨S2x256, .f32⟩
  | .local _ .vmem, ⟨47, _⟩ => ⟨S2x256, .f32⟩
  | .local _ .vmem, ⟨48, _⟩ => ⟨S1x256, .f32⟩
  | .local _ .vmem, ⟨49, _⟩ => ⟨S1x256, .f32⟩
  | .local _ .vmem, ⟨50, _⟩ => ⟨S2048x256, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc1_stg0_0 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg9_1 : Ref sig .tc := ⟨.vmem, 45, rfl⟩
abbrev cc1_stg10_0 : Ref sig .tc := ⟨.vmem, 46, rfl⟩
abbrev cc1_stg10_1 : Ref sig .tc := ⟨.vmem, 47, rfl⟩
abbrev cc1_stg11_0 : Ref sig .tc := ⟨.vmem, 48, rfl⟩
abbrev cc1_stg11_1 : Ref sig .tc := ⟨.vmem, 49, rfl⟩
abbrev cc1_scratch0 : Ref sig .tc := ⟨.vmem, 50, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc1_sem0_0 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem8_1 : DmaSem sig := 43
abbrev cc1_sem9_0 : DmaSem sig := 44
abbrev cc1_sem9_1 : DmaSem sig := 45
abbrev cc1_sem10_0 : DmaSem sig := 46
abbrev cc1_sem10_1 : DmaSem sig := 47
abbrev cc1_sem11_0 : DmaSem sig := 48
abbrev cc1_sem11_1 : DmaSem sig := 49

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x1x2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== MergeRefIdeal.lean ====
abbrev S1x2048x1024 : Shape := ⟨3, ![1, 2048, 1024]⟩
abbrev S1x1024x2048 : Shape := ⟨3, ![1, 1024, 2048]⟩
abbrev S1x4x256x512 : Shape := ⟨4, ![1, 4, 256, 512]⟩
abbrev S1x2048x8192 : Shape := ⟨3, ![1, 2048, 8192]⟩
abbrev S1x4096 : Shape := ⟨2, ![1, 4096]⟩
abbrev S1x2048 : Shape := ⟨2, ![1, 2048]⟩
abbrev S1x2048x2048 : Shape := ⟨3, ![1, 2048, 2048]⟩
abbrev S1024x2048 : Shape := ⟨2, ![1024, 2048]⟩
abbrev S1x2048x4x256 : Shape := ⟨4, ![1, 2048, 4, 256]⟩
abbrev S4x256x512 : Shape := ⟨3, ![4, 256, 512]⟩
abbrev S4x512x1x2048 : Shape := ⟨4, ![4, 512, 1, 2048]⟩
abbrev S1x2048x4x512 : Shape := ⟨4, ![1, 2048, 4, 512]⟩
abbrev S2048 : Shape := ⟨1, ![2048]⟩
abbrev S1x1x2048 : Shape := ⟨3, ![1, 1, 2048]⟩
abbrev S4096 : Shape := ⟨1, ![4096]⟩
abbrev S_ : Shape := ⟨0, ![]⟩
abbrev S2048x2048 : Shape := ⟨2, ![2048, 2048]⟩
abbrev S2x2048x1024 : Shape := ⟨3, ![2, 2048, 1024]⟩
abbrev S2048x2x1024 : Shape := ⟨3, ![2048, 2, 1024]⟩
abbrev S1x2x2048x1024 : Shape := ⟨4, ![1, 2, 2048, 1024]⟩
abbrev S4x2x2048x1024 : Shape := ⟨4, ![4, 2, 2048, 1024]⟩
abbrev S2x2048 : Shape := ⟨2, ![2, 2048]⟩

abbrev nBuf : Space → Nat
  | .hbm => 117
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x1024x2048, .f32⟩
  | .hbm, ⟨2, _⟩ => ⟨S1x2048x1024, .bf16⟩
  | .hbm, ⟨3, _⟩ => ⟨S1x4x256x512, .f32⟩
  | .hbm, ⟨4, _⟩ => ⟨S1x2048x8192, .f32⟩
  | .hbm, ⟨5, _⟩ => ⟨S1x4096, .f32⟩
  | .hbm, ⟨6, _⟩ => ⟨S1x2048, .f32⟩
  | .hbm, ⟨7, _⟩ => ⟨S1x2048x2048, .f32⟩
  | .hbm, ⟨8, _⟩ => ⟨S1x2048x2048, .bf16⟩
  | .hbm, ⟨9, _⟩ => ⟨S1x2048x1024, .f32⟩
  | .hbm, ⟨10, _⟩ => ⟨S1024x2048, .f32⟩
  | .hbm, ⟨11, _⟩ => ⟨S1x2048x2048, .f32⟩
  | .hbm, ⟨12, _⟩ => ⟨S1x2048x1024, .f32⟩
  | .hbm, ⟨13, _⟩ => ⟨S1x2048x4x256, .f32⟩
  | .hbm, ⟨14, _⟩ => ⟨S4x256x512, .f32⟩
  | .hbm, ⟨15, _⟩ => ⟨S4x512x1x2048, .f32⟩
  | .hbm, ⟨16, _⟩ => ⟨S1x2048x4x512, .f32⟩
  | .hbm, ⟨17, _⟩ => ⟨S1x2048x2048, .f32⟩
  | .hbm, ⟨18, _⟩ => ⟨S1x2048x2048, .f32⟩
  | .hbm, ⟨19, _⟩ => ⟨S1x2048x2048, .f32⟩
  | .hbm, ⟨20, _⟩ => ⟨S2048, .f32⟩
  | .hbm, ⟨21, _⟩ => ⟨S1x1x2048, .f32⟩
  | .hbm, ⟨22, _⟩ => ⟨S1x2048x2048, .f32⟩
  | .hbm, ⟨23, _⟩ => ⟨S1x2048x2048, .f32⟩
  | .hbm, ⟨24, _⟩ => ⟨S4096, .f32⟩
  | .hbm, ⟨25, _⟩ => ⟨S2048, .f32⟩
  | .hbm, ⟨26, _⟩ => ⟨S1x1x2048, .f32⟩
  | .hbm, ⟨27, _⟩ => ⟨S1x2048x2048, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S_, .f32⟩
  | .hbm, ⟨32, _⟩ => ⟨S1x2048x2048, .f32⟩
  | .hbm, ⟨33, _⟩ => ⟨S1x2048x2048, .f32⟩
  | .hbm, ⟨34, _⟩ => ⟨S_, .f32⟩
  | .hbm, ⟨35, _⟩ => ⟨S1x2048x2048, .f32⟩
  | .hbm, ⟨36, _⟩ => ⟨S1x2048x2048, .f32⟩
  | .hbm, ⟨37, _⟩ => ⟨S_, .f32⟩
  | .hbm, ⟨38, _⟩ => ⟨S1x2048x2048, .f32⟩
  | .hbm, ⟨39, _⟩ => ⟨S1x2048x2048, .f32⟩
  | .hbm, ⟨40, _⟩ => ⟨S1x2048x2048, .f32⟩
  | .hbm, ⟨41, _⟩ => ⟨S1x2048x2048, .f32⟩
  | .hbm, ⟨42, _⟩ => ⟨S2048, .f32⟩
  | .hbm, ⟨43, _⟩ => ⟨S1x1x2048, .f32⟩
  | .hbm, ⟨44, _⟩ => ⟨S1x2048x2048, .f32⟩
  | .hbm, ⟨45, _⟩ => ⟨S1x2048x2048, .f32⟩
  | .hbm, ⟨46, _⟩ => ⟨S1x2048x2048, .f32⟩
  | .hbm, ⟨47, _⟩ => ⟨S1x2048x2048, .f32⟩
  | .hbm, ⟨48, _⟩ => ⟨S_, .f32⟩
  | .hbm, ⟨49, _⟩ => ⟨S1x2048x2048, .f32⟩
  | .hbm, ⟨50, _⟩ => ⟨S1x2048x2048, .f32⟩
  | .hbm, ⟨51, _⟩ => ⟨S_, .f32⟩
  | .hbm, ⟨52, _⟩ => ⟨S1x2048x2048, .f32⟩
  | .hbm, ⟨53, _⟩ => ⟨S1x2048x2048, .f32⟩
  | .hbm, ⟨54, _⟩ => ⟨S_, .f32⟩
  | .hbm, ⟨55, _⟩ => ⟨S1x2048x2048, .f32⟩
  | .hbm, ⟨56, _⟩ => ⟨S1x2048x2048, .f32⟩
  | .hbm, ⟨57, _⟩ => ⟨S1x2048x2048, .f32⟩
  | .hbm, ⟨58, _⟩ => ⟨S1x2048x2048, .f32⟩
  | .hbm, ⟨59, _⟩ => ⟨S1x2048x2048, .f32⟩
  | .hbm, ⟨60, _⟩ => ⟨S2048x2048, .f32⟩
  | .hbm, ⟨61, _⟩ => ⟨S1x2048x2048, .f32⟩
  | .hbm, ⟨62, _⟩ => ⟨S1x2048x2048, .f32⟩
  | .hbm, ⟨63, _⟩ => ⟨S1x2048x2048, .f32⟩
  | .hbm, ⟨64, _⟩ => ⟨S1x2048x2048, .f32⟩
  | .hbm, ⟨65, _⟩ => ⟨S1x2048x2048, .f32⟩
  | .hbm, ⟨66, _⟩ => ⟨S1x2048x2048, .f32⟩
  | .hbm, ⟨67, _⟩ => ⟨S_, .f32⟩
  | .hbm, ⟨68, _⟩ => ⟨S1x2048, .f32⟩
  | .hbm, ⟨69, _⟩ => ⟨S1x1x2048, .f32⟩
  | .hbm, ⟨70, _⟩ => ⟨S_, .f32⟩
  | .hbm, ⟨71, _⟩ => ⟨S2048, .f32⟩
  | .hbm, ⟨72, _⟩ => ⟨S_, .f32⟩
  | .hbm, ⟨73, _⟩ => ⟨S4096, .f32⟩
  | .hbm, ⟨74, _⟩ => ⟨S1x2048x2048, .f32⟩
  | .hbm, ⟨75, _⟩ => ⟨S1x2048x2048, .f32⟩
  | .hbm, ⟨76, _⟩ => ⟨S1x2048x2048, .f32⟩
  | .hbm, ⟨77, _⟩ => ⟨S_, .f32⟩
  | .hbm, ⟨78, _⟩ => ⟨S1x2048, .f32⟩
  | .hbm, ⟨79, _⟩ => ⟨S1x1x2048, .f32⟩
  | .hbm, ⟨80, _⟩ => ⟨S_, .f32⟩
  | .hbm, ⟨81, _⟩ => ⟨S2048, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S1x4096, .f32⟩
  | .hbm, ⟨86, _⟩ => ⟨S1x2048x2048, .f32⟩
  | .hbm, ⟨87, _⟩ => ⟨S_, .f32⟩
  | .hbm, ⟨88, _⟩ => ⟨S1x2048, .f32⟩
  | .hbm, ⟨89, _⟩ => ⟨S1x1x2048, .f32⟩
  | .hbm, ⟨90, _⟩ => ⟨S1x2048x2048, .f32⟩
  | .hbm, ⟨91, _⟩ => ⟨S1x2048x2048, .f32⟩
  | .hbm, ⟨92, _⟩ => ⟨S_, .f32⟩
  | .hbm, ⟨93, _⟩ => ⟨S2048, .f32⟩
  | .hbm, ⟨94, _⟩ => ⟨S1x2048, .f32⟩
  | .hbm, ⟨95, _⟩ => ⟨S_, .bf16⟩
  | .hbm, ⟨96, _⟩ => ⟨S2x2048x1024, .bf16⟩
  | .hbm, ⟨97, _⟩ => ⟨S_, .bf16⟩
  | .hbm, ⟨98, _⟩ => ⟨S2x2048x1024, .bf16⟩
  | .hbm, ⟨99, _⟩ => ⟨S2048x2x1024, .f32⟩
  | .hbm, ⟨100, _⟩ => ⟨S2x2048x1024, .f32⟩
  | .hbm, ⟨101, _⟩ => ⟨S2x2048x1024, .bf16⟩
  | .hbm, ⟨102, _⟩ => ⟨S2048x2x1024, .f32⟩
  | .hbm, ⟨103, _⟩ => ⟨S2x2048x1024, .f32⟩
  | .hbm, ⟨104, _⟩ => ⟨S2x2048x1024, .bf16⟩
  | .hbm, ⟨105, _⟩ => ⟨S1x2x2048x1024, .bf16⟩
  | .hbm, ⟨106, _⟩ => ⟨S1x2x2048x1024, .bf16⟩
  | .hbm, ⟨107, _⟩ => ⟨S1x2x2048x1024, .bf16⟩
  | .hbm, ⟨108, _⟩ => ⟨S1x2x2048x1024, .bf16⟩
  | .hbm, ⟨109, _⟩ => ⟨S4x2x2048x1024, .bf16⟩
  | .hbm, ⟨110, _⟩ => ⟨S2048x2048, .f32⟩
  | .hbm, ⟨111, _⟩ => ⟨S2048x2048, .bf16⟩
  | .hbm, ⟨112, _⟩ => ⟨S2048x2048, .f32⟩
  | .hbm, ⟨113, _⟩ => ⟨S2048x2048, .bf16⟩
  | .hbm, ⟨114, _⟩ => ⟨S2048x2048, .f32⟩
  | .hbm, ⟨115, _⟩ => ⟨S2048x2048, .bf16⟩
  | .hbm, ⟨116, _⟩ => ⟨S2x2048, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== Ffn.lean ====
abbrev S1x2048x2048 : Shape := ⟨3, ![1, 2048, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S5632x2048 : Shape := ⟨2, ![5632, 2048]⟩
abbrev S8x704x2048 : Shape := ⟨3, ![8, 704, 2048]⟩
abbrev S2048x2048 : Shape := ⟨2, ![2048, 2048]⟩
abbrev S1x2048x704 : Shape := ⟨3, ![1, 2048, 704]⟩
abbrev S1x1024x704 : Shape := ⟨3, ![1, 1024, 704]⟩
abbrev S1024x704 : Shape := ⟨2, ![1024, 704]⟩
abbrev S256x2048 : Shape := ⟨2, ![256, 2048]⟩
abbrev S2048x704 : Shape := ⟨2, ![2048, 704]⟩
abbrev S256x704 : Shape := ⟨2, ![256, 704]⟩
abbrev S1x256x704 : Shape := ⟨3, ![1, 256, 704]⟩
abbrev S8x704x1024 : Shape := ⟨3, ![8, 704, 1024]⟩
abbrev S1x704x1024 : Shape := ⟨3, ![1, 704, 1024]⟩
abbrev S256x1024 : Shape := ⟨2, ![256, 1024]⟩
abbrev S704x1024 : Shape := ⟨2, ![704, 1024]⟩

abbrev nBuf : Space → Nat
  | .hbm => 23
  | .vmem => 26
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x5632, .f32⟩
  | .hbm, ⟨2, _⟩ => ⟨S1x2048x5632, .bf16⟩
  | .hbm, ⟨3, _⟩ => ⟨S1x5632x2048, .f32⟩
  | .hbm, ⟨4, _⟩ => ⟨S1x2048x2048, .bf16⟩
  | .hbm, ⟨5, _⟩ => ⟨S2048x5632, .f32⟩
  | .hbm, ⟨6, _⟩ => ⟨S2048x5632, .bf16⟩
  | .hbm, ⟨7, _⟩ => ⟨S2048x8x704, .bf16⟩
  | .hbm, ⟨8, _⟩ => ⟨S8x2048x704, .bf16⟩
  | .hbm, ⟨9, _⟩ => ⟨S2048x8x704, .bf16⟩
  | .hbm, ⟨10, _⟩ => ⟨S8x2048x704, .bf16⟩
  | .hbm, ⟨11, _⟩ => ⟨S5632x2048, .f32⟩
  | .hbm, ⟨12, _⟩ => ⟨S5632x2048, .bf16⟩
  | .hbm, ⟨13, _⟩ => ⟨S8x704x2048, .bf16⟩
  | .hbm, ⟨14, _⟩ => ⟨S2048x2048, .bf16⟩
  | .hbm, ⟨15, _⟩ => ⟨S8x2048x704, .bf16⟩
  | .hbm, ⟨16, _⟩ => ⟨S8x2048x704, .bf16⟩
  | .hbm, ⟨17, _⟩ => ⟨S8x2048x704, .bf16⟩
  | .hbm, ⟨18, _⟩ => ⟨S2048x2048, .bf16⟩
  | .hbm, ⟨19, _⟩ => ⟨S8x704x1024, .bf16⟩
  | .hbm, ⟨20, _⟩ => ⟨S8x704x1024, .bf16⟩
  | .hbm, ⟨21, _⟩ => ⟨S8x2048x704, .bf16⟩
  | .hbm, ⟨22, _⟩ => ⟨S8x2048x704, .bf16⟩
  | .local _ .vmem, ⟨0, _⟩ => ⟨S2048x2048, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1024x704, .f32⟩
  | .local _ .vmem, ⟨12, _⟩ => ⟨S2048x2048, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S1x1024x704, .bf16⟩
  | .local _ .vmem, ⟨25, _⟩ => ⟨S1024x704, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v3 : Index := Scalar.indexCast v2
  let c0 : Index := 0#32
  ![v3.toNat, 0]
def k0_mult2 (i : grid0.Coords) : BitVec 32 :=
  let arg1 : BitVec 32 := BitVec.ofNat 32 (i 1).val
  let c1024_i32_5 : BitVec 32 := 1024#32
  let v12 : BitVec 32 := Scalar.muli arg1 c1024_i32_5
  let c256_i32 : BitVec 32 := 256#32
  let v13 : BitVec 32 := Scalar.addi v12 c256_i32
  v13
def k0_mult3 (i : grid0.Coords) : BitVec 32 :=
  let arg1 : BitVec 32 := BitVec.ofNat 32 (i 1).val
  let c1024_i32_28 : BitVec 32 := 1024#32
  let v50 : BitVec 32 := Scalar.muli arg1 c1024_i32_28
  let c512_i32 : BitVec 32 := 512#32
  let v51 : BitVec 32 := Scalar.addi v50 c512_i32
  v51
def k0_mult4 (i : grid0.Coords) : BitVec 32 :=
  let arg1 : BitVec 32 := BitVec.ofNat 32 (i 1).val
  let c1024_i32_51 : BitVec 32 := 1024#32
  let v88 : BitVec 32 := Scalar.muli arg1 c1024_i32_51
  let c768_i32 : BitVec 32 := 768#32
  let v89 : BitVec 32 := Scalar.addi v88 c768_i32
  v89
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 2], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k1_off1 (i : grid1.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v3 : Index := Scalar.indexCast v2
  let c0 : Index := 0#32
  ![v3.toNat, 0]
def k1_off2 (i : grid1.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v9 : Index := Scalar.indexCast v2
  let c1024 : Index := 1024#32
  ![v9.toNat, 1024]
def k1_mult2 (i : grid1.Coords) : BitVec 32 :=
  let arg1 : BitVec 32 := BitVec.ofNat 32 (i 1).val
  let c1024_i32_9 : BitVec 32 := 1024#32
  let v20 : BitVec 32 := Scalar.muli arg1 c1024_i32_9
  let c256_i32 : BitVec 32 := 256#32
  let v21 : BitVec 32 := Scalar.addi v20 c256_i32
  v21
def k1_mult3 (i : grid1.Coords) : BitVec 32 :=
  let arg1 : BitVec 32 := BitVec.ofNat 32 (i 1).val
  let c1024_i32_35 : BitVec 32 := 1024#32
  let v53 : BitVec 32 := Scalar.muli arg1 c1024_i32_35
  let c512_i32 : BitVec 32 := 512#32
  let v54 : BitVec 32 := Scalar.addi v53 c512_i32
  v54
def k1_mult4 (i : grid1.Coords) : BitVec 32 :=
  let arg1 : BitVec 32 := BitVec.ofNat 32 (i 1).val
  let c1024_i32_61 : BitVec 32 := 1024#32
  let v86 : BitVec 32 := Scalar.muli arg1 c1024_i32_61
  let c768_i32 : BitVec 32 := 768#32
  let v87 : BitVec 32 := Scalar.addi v86 c768_i32
  v87
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x704x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x704 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== FfnRefIdeal.lean ====
abbrev S1x2048x2048 : Shape := ⟨3, ![1, 2048, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S_ : Shape := ⟨0, ![]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 42
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x5632, .f32⟩
  | .hbm, ⟨2, _⟩ => ⟨S1x2048x5632, .bf16⟩
  | .hbm, ⟨3, _⟩ => ⟨S1x5632x2048, .f32⟩
  | .hbm, ⟨4, _⟩ => ⟨S1x2048x2048, .bf16⟩
  | .hbm, ⟨5, _⟩ => ⟨S1x2048x5632, .f32⟩
  | .hbm, ⟨6, _⟩ => ⟨S1x2048x2048, .f32⟩
  | .hbm, ⟨7, _⟩ => ⟨S2048x5632, .f32⟩
  | .hbm, ⟨8, _⟩ => ⟨S1x2048x5632, .f32⟩
  | .hbm, ⟨9, _⟩ => ⟨S1x2048x5632, .f32⟩
  | .hbm, ⟨10, _⟩ => ⟨S1x2048x5632, .f32⟩
  | .hbm, ⟨11, _⟩ => ⟨S_, .f32⟩
  | .hbm, ⟨12, _⟩ => ⟨S1x2048x5632, .f32⟩
  | .hbm, ⟨13, _⟩ => ⟨S1x2048x5632, .f32⟩
  | .hbm, ⟨14, _⟩ => ⟨S_, .f32⟩
  | .hbm, ⟨15, _⟩ => ⟨S1x2048x5632, .f32⟩
  | .hbm, ⟨16, _⟩ => ⟨S1x2048x5632, .f32⟩
  | .hbm, ⟨17, _⟩ => ⟨S_, .f32⟩
  | .hbm, ⟨18, _⟩ => ⟨S1x2048x5632, .f32⟩
  | .hbm, ⟨19, _⟩ => ⟨S1x2048x5632, .f32⟩
  | .hbm, ⟨20, _⟩ => ⟨S1x2048x5632, .f32⟩
  | .hbm, ⟨21, _⟩ => ⟨S1x2048x5632, .f32⟩
  | .hbm, ⟨22, _⟩ => ⟨S1x2048x5632, .f32⟩
  | .hbm, ⟨23, _⟩ => ⟨S5632x2048, .f32⟩
  | .hbm, ⟨24, _⟩ => ⟨S1x2048x2048, .f32⟩
  | .hbm, ⟨25, _⟩ => ⟨S1x2048x2048, .f32⟩
  | .hbm, ⟨26, _⟩ => ⟨S1x2048x5632, .f32⟩
  | .hbm, ⟨27, _⟩ => ⟨S1x2048x5632, .f32⟩
  | .hbm, ⟨28, _⟩ => ⟨S1x2048x5632, .f32⟩
  | .hbm, ⟨29, _⟩ => ⟨S1x2048x5632, .f32⟩
  | .hbm, ⟨30, _⟩ => ⟨S1x2048x5632, .f32⟩
  | .hbm, ⟨31, _⟩ => ⟨S1x2048x5632, .f32⟩
  | .hbm, ⟨32, _⟩ => ⟨S1x2048x5632, .f32⟩
  | .hbm, ⟨33, _⟩ => ⟨S2048x8x704, .f32⟩
  | .hbm, ⟨34, _⟩ => ⟨S8x2048x704, .f32⟩
  | .hbm, ⟨35, _⟩ => ⟨S8x2048x704, .bf16⟩
  | .hbm, ⟨36, _⟩ => ⟨S2048x8x704, .f32⟩
  | .hbm, ⟨37, _⟩ => ⟨S8x2048x704, .f32⟩
  | .hbm, ⟨38, _⟩ => ⟨S8x2048x704, .bf16⟩
  | .hbm, ⟨39, _⟩ => ⟨S2048x8x704, .f32⟩
  | .hbm, ⟨40, _⟩ => ⟨S8x2048x704, .f32⟩
  | .hbm, ⟨41, _⟩ => ⟨S8x2048x704, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Rms1.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 10
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Rms1RefIdeal.lean ====
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S1x2048x2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x2048, .f32⟩
  | .hbm, ⟨21, _⟩ => ⟨S1x2048x2048, .f32⟩
  | .hbm, ⟨22, _⟩ => ⟨S1x1x2048, .f32⟩
  | .hbm, ⟨23, _⟩ => ⟨S1x2048x2048, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S1x2048x2048, .f32⟩
  | .hbm, ⟨28, _⟩ => ⟨S_, .f32⟩
  | .hbm, ⟨29, _⟩ => ⟨S1x2048, .f32⟩
  | .hbm, ⟨30, _⟩ => ⟨S1x1x2048, .f32⟩
  | .hbm, ⟨31, _⟩ => ⟨S1x2048x2048, .f32⟩
  | .hbm, ⟨32, _⟩ => ⟨S1x2048x2048, .f32⟩
  | .hbm, ⟨33, _⟩ => ⟨S_, .f32⟩
  | .hbm, ⟨34, _⟩ => ⟨S2048, .f32⟩
  | .hbm, ⟨35, _⟩ => ⟨S1x2048x2048, .f32⟩
  | .hbm, ⟨36, _⟩ => ⟨S_, .f32⟩
  | .hbm, ⟨37, _⟩ => ⟨S1x2048, .f32⟩
  | .hbm, ⟨38, _⟩ => ⟨S1x2048x1, .f32⟩
  | .hbm, ⟨39, _⟩ => ⟨S1x2048x2048, .f32⟩
  | .hbm, ⟨40, _⟩ => ⟨S1x2048x2048, .f32⟩
  | .hbm, ⟨41, _⟩ => ⟨S1x2048x2048, .f32⟩
  | .hbm, ⟨42, _⟩ => ⟨S1x2048x1, .f32⟩
  | .hbm, ⟨43, _⟩ => ⟨S_, .f32⟩
  | .hbm, ⟨44, _⟩ => ⟨S1x2048x1, .f32⟩
  | .hbm, ⟨45, _⟩ => ⟨S1x2048x1, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S1x2048x2048, .f32⟩
  | .hbm, ⟨50, _⟩ => ⟨S1x2048x2048, .f32⟩
  | .hbm, ⟨51, _⟩ => ⟨S1x2048x2048, .f32⟩
  | .hbm, ⟨52, _⟩ => ⟨S1x2048x2048, .f32⟩
  | .hbm, ⟨53, _⟩ => ⟨S1x2048x2048, .f32⟩
  | .hbm, ⟨54, _⟩ => ⟨S1x2048, .f32⟩
  | .hbm, ⟨55, _⟩ => ⟨S2048x2048, .f32⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Norm.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S2048x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S2048, .f32⟩
  | .hbm, ⟨3, _⟩ => ⟨S1x2048x2048, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x2048, .f32⟩
  | .hbm, ⟨15, _⟩ => ⟨S1x2048x2048, .f32⟩
  | .hbm, ⟨16, _⟩ => ⟨S1x1x2048, .f32⟩
  | .hbm, ⟨17, _⟩ => ⟨S1x2048x2048, .f32⟩
  | .hbm, ⟨18, _⟩ => ⟨S1x2048x2048, .f32⟩
  | .hbm, ⟨19, _⟩ => ⟨S2048x2048, .f32⟩
  | .hbm, ⟨20, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Short.lean ====
abbrev S1x2048x8192 : Shape := ⟨3, ![1, 2048, 8192]⟩
abbrev S1x3x1024 : Shape := ⟨3, ![1, 3, 1024]⟩
abbrev S1x1024 : Shape := ⟨2, ![1, 1024]⟩
abbrev S2048x8x1024 : Shape := ⟨3, ![2048, 8, 1024]⟩
abbrev S8x2048x1024 : Shape := ⟨3, ![8, 2048, 1024]⟩
abbrev S3x1024 : Shape := ⟨2, ![3, 1024]⟩
abbrev S3x8x128 : Shape := ⟨3, ![3, 8, 128]⟩
abbrev S8x3x128 : Shape := ⟨3, ![8, 3, 128]⟩
abbrev S_ : Shape := ⟨0, ![]⟩
abbrev S8x8x128 : Shape := ⟨3, ![8, 8, 128]⟩
abbrev S2048x1024 : Shape := ⟨2, ![2048, 1024]⟩
abbrev S1x2048x128 : Shape := ⟨3, ![1, 2048, 128]⟩
abbrev S3x128 : Shape := ⟨2, ![3, 128]⟩
abbrev S1x128 : Shape := ⟨2, ![1, 128]⟩
abbrev S2048x128 : Shape := ⟨2, ![2048, 128]⟩

abbrev nBuf : Space → Nat
  | .hbm => 15
  | .vmem => 12
  | .smem => 0
  | _ => 0

abbrev bufTy : (tb : Table) → Fin (tcTables nBuf tb) → BufTy
  | .hbm, ⟨0, _⟩ => ⟨S1x2048x8192, .f32⟩
  | .hbm, ⟨1, _⟩ => ⟨S1x3x1024, .f32⟩
  | .hbm, ⟨2, _⟩ => ⟨S1x1024, .f32⟩
  | .hbm, ⟨3, _⟩ => ⟨S2048x8x1024, .f32⟩
  | .hbm, ⟨4, _⟩ => ⟨S8x2048x1024, .f32⟩
  | .hbm, ⟨5, _⟩ => ⟨S3x1024, .f32⟩
  | .hbm, ⟨6, _⟩ => ⟨S3x8x128, .f32⟩
  | .hbm, ⟨7, _⟩ => ⟨S8x3x128, .f32⟩
  | .hbm, ⟨8, _⟩ => ⟨S_, .i32⟩
  | .hbm, ⟨9, _⟩ => ⟨S_, .f32⟩
  | .hbm, ⟨10, _⟩ => ⟨S8x8x128, .f32⟩
  | .hbm, ⟨11, _⟩ => ⟨S8x3x128, .f32⟩
  | .hbm, ⟨12, _⟩ => ⟨S3x8x128, .f32⟩
  | .hbm, ⟨13, _⟩ => ⟨S3x1024, .f32⟩
  | .hbm, ⟨14, _⟩ => ⟨S2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S2048x128, .bf16⟩
  | .local _ .vmem, ⟨11, _⟩ => ⟨S2048x128, .bf16⟩
  | _, _ => ⟨S1x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ShortRefIdeal.lean ====
abbrev S1x2048x8192 : Shape := ⟨3, ![1, 2048, 8192]⟩
abbrev S1x3x1024 : Shape := ⟨3, ![1, 3, 1024]⟩
abbrev S1x1024 : Shape := ⟨2, ![1, 1024]⟩
abbrev S1x2048x1024 : Shape := ⟨3, ![1, 2048, 1024]⟩
abbrev S3x1024 : Shape := ⟨2, ![3, 1024]⟩
abbrev S1024 : Shape := ⟨1, ![1024]⟩
abbrev S_ : Shape := ⟨0, ![]⟩
abbrev S1x2x1024 : Shape := ⟨3, ![1, 2, 1024]⟩
abbrev S1x2050x1024 : Shape := ⟨3, ![1, 2050, 1024]⟩
abbrev S1x1x1024 : Shape := ⟨3, ![1, 1, 1024]⟩
abbrev S2048x1024 : Shape := ⟨2, ![2048, 1024]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x8192, .f32⟩
  | .hbm, ⟨1, _⟩ => ⟨S1x3x1024, .f32⟩
  | .hbm, ⟨2, _⟩ => ⟨S1x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S3x1024, .f32⟩
  | .hbm, ⟨8, _⟩ => ⟨S1024, .f32⟩
  | .hbm, ⟨9, _⟩ => ⟨S_, .f32⟩
  | .hbm, ⟨10, _⟩ => ⟨S1x2x1024, .f32⟩
  | .hbm, ⟨11, _⟩ => ⟨S1x2050x1024, .f32⟩
  | .hbm, ⟨12, _⟩ => ⟨S1x1024, .f32⟩
  | .hbm, ⟨13, _⟩ => ⟨S1024, .f32⟩
  | .hbm, ⟨14, _⟩ => ⟨S1x2048x1024, .f32⟩
  | .hbm, ⟨15, _⟩ => ⟨S1x1x1024, .f32⟩
  | .hbm, ⟨16, _⟩ => ⟨S1x2048x1024, .f32⟩
  | .hbm, ⟨17, _⟩ => ⟨S1x2048x1024, .f32⟩
  | .hbm, ⟨18, _⟩ => ⟨S1x1x1024, .f32⟩
  | .hbm, ⟨19, _⟩ => ⟨S1x2048x1024, .f32⟩
  | .hbm, ⟨20, _⟩ => ⟨S1x2048x1024, .f32⟩
  | .hbm, ⟨21, _⟩ => ⟨S1x1024, .f32⟩
  | .hbm, ⟨22, _⟩ => ⟨S1024, .f32⟩
  | .hbm, ⟨23, _⟩ => ⟨S1x2048x1024, .f32⟩
  | .hbm, ⟨24, _⟩ => ⟨S1x1x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x1024, .f32⟩
  | .hbm, ⟨29, _⟩ => ⟨S1024, .f32⟩
  | .hbm, ⟨30, _⟩ => ⟨S1x2048x1024, .f32⟩
  | .hbm, ⟨31, _⟩ => ⟨S1x1x1024, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S2048x1024, .f32⟩
  | .hbm, ⟨37, _⟩ => ⟨S2048x1024, .bf16⟩
  | _, _ => ⟨S1x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== Trail.lean ====
abbrev S1x2048x8192 : Shape := ⟨3, ![1, 2048, 8192]⟩
abbrev S2048x8x1024 : Shape := ⟨3, ![2048, 8, 1024]⟩
abbrev S8x2048x1024 : Shape := ⟨3, ![8, 2048, 1024]⟩
abbrev S2048x1024 : Shape := ⟨2, ![2048, 1024]⟩
abbrev S1x2048x256 : Shape := ⟨3, ![1, 2048, 256]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S1x2048x8192, .f32⟩
  | .hbm, ⟨1, _⟩ => ⟨S2048x8x1024, .f32⟩
  | .hbm, ⟨2, _⟩ => ⟨S8x2048x1024, .f32⟩
  | .hbm, ⟨3, _⟩ => ⟨S2048x1024, .bf16⟩
  | .local _ .vmem, ⟨0, _⟩ => ⟨S1x2048x256, .f32⟩
  | .local _ .vmem, ⟨1, _⟩ => ⟨S1x2048x256, .f32⟩
  | .local _ .vmem, ⟨2, _⟩ => ⟨S2048x256, .bf16⟩
  | .local _ .vmem, ⟨3, _⟩ => ⟨S2048x256, .bf16⟩
  | _, _ => ⟨S1x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TrailRefIdeal.lean ====
abbrev S1x2048x8192 : Shape := ⟨3, ![1, 2048, 8192]⟩
abbrev S4 : Shape := ⟨1, ![4]⟩
abbrev S1x2048x1024 : Shape := ⟨3, ![1, 2048, 1024]⟩
abbrev S1x2048x4x256 : Shape := ⟨4, ![1, 2048, 4, 256]⟩
abbrev S_ : Shape := ⟨0, ![]⟩
abbrev S1x1x4x256 : Shape := ⟨4, ![1, 1, 4, 256]⟩
abbrev S1x2049x4x256 : Shape := ⟨4, ![1, 2049, 4, 256]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x8192, .f32⟩
  | .hbm, ⟨1, _⟩ => ⟨S4, .i32⟩
  | .hbm, ⟨2, _⟩ => ⟨S1x2048x1024, .f32⟩
  | .hbm, ⟨3, _⟩ => ⟨S1x2048x4x256, .f32⟩
  | .hbm, ⟨4, _⟩ => ⟨S_, .f32⟩
  | .hbm, ⟨5, _⟩ => ⟨S_, .f32⟩
  | .hbm, ⟨6, _⟩ => ⟨S1x2048x4x256, .f32⟩
  | .hbm, ⟨7, _⟩ => ⟨S1x1x4x256, .f32⟩
  | .hbm, ⟨8, _⟩ => ⟨S_, .f32⟩
  | .hbm, ⟨9, _⟩ => ⟨S1x1x4x256, .f32⟩
  | .hbm, ⟨10, _⟩ => ⟨S1x2049x4x256, .f32⟩
  | .hbm, ⟨11, _⟩ => ⟨S2048, .i32⟩
  | .hbm, ⟨12, _⟩ => ⟨S2048x1, .i32⟩
  | .hbm, ⟨13, _⟩ => ⟨S1x4, .i32⟩
  | .hbm, ⟨14, _⟩ => ⟨S_, .i32⟩
  | .hbm, ⟨15, _⟩ => ⟨S2048x1, .i32⟩
  | .hbm, ⟨16, _⟩ => ⟨S2048x1, .i32⟩
  | .hbm, ⟨17, _⟩ => ⟨S2048x4, .i32⟩
  | .hbm, ⟨18, _⟩ => ⟨S2048x4, .i32⟩
  | .hbm, ⟨19, _⟩ => ⟨S2048x4, .i32⟩
  | .hbm, ⟨20, _⟩ => ⟨S_, .i32⟩
  | .hbm, ⟨21, _⟩ => ⟨S2048x4, .i32⟩
  | .hbm, ⟨22, _⟩ => ⟨S2048x4, .i32⟩
  | .hbm, ⟨23, _⟩ => ⟨S_, .i32⟩
  | .hbm, ⟨24, _⟩ => ⟨S2048x1, .i32⟩
  | .hbm, ⟨25, _⟩ => ⟨S2048x1, .i32⟩
  | .hbm, ⟨26, _⟩ => ⟨S2048x4, .i32⟩
  | .hbm, ⟨27, _⟩ => ⟨S2048x4, .i32⟩
  | .hbm, ⟨28, _⟩ => ⟨S2048x4, .f32⟩
  | .hbm, ⟨29, _⟩ => ⟨S4, .i32⟩
  | .hbm, ⟨30, _⟩ => ⟨S1x4, .i32⟩
  | .hbm, ⟨31, _⟩ => ⟨S1x2048x4x256, .f32⟩
  | .hbm, ⟨32, _⟩ => ⟨S_, .i32⟩
  | .hbm, ⟨33, _⟩ => ⟨S2048x4, .i32⟩
  | .hbm, ⟨34, _⟩ => ⟨S2048x4, .i1⟩
  | .hbm, ⟨35, _⟩ => ⟨S_, .i32⟩
  | .hbm, ⟨36, _⟩ => ⟨S2048x4, .i32⟩
  | .hbm, ⟨37, _⟩ => ⟨S2048x4, .i32⟩
  | .hbm, ⟨38, _⟩ => ⟨S2048x4, .i32⟩
  | .hbm, ⟨39, _⟩ => ⟨S_, .i32⟩
  | .hbm, ⟨40, _⟩ => ⟨S1x4, .i32⟩
  | .hbm, ⟨41, _⟩ => ⟨S1x4, .i1⟩
  | .hbm, ⟨42, _⟩ => ⟨S_, .i32⟩
  | .hbm, ⟨43, _⟩ => ⟨S1x4, .i32⟩
  | .hbm, ⟨44, _⟩ => ⟨S1x4, .i32⟩
  | .hbm, ⟨45, _⟩ => ⟨S1x4, .i32⟩
  | .hbm, ⟨46, _⟩ => ⟨S2048x4, .i32⟩
  | .hbm, ⟨47, _⟩ => ⟨S2048x4x1, .i32⟩
  | .hbm, ⟨48, _⟩ => ⟨S2048x4x1, .i32⟩
  | .hbm, ⟨49, _⟩ => ⟨S2048x4x2, .i32⟩
  | .hbm, ⟨50, _⟩ => ⟨S1x2048x4x256, .f32⟩
  | .hbm, ⟨51, _⟩ => ⟨S1x2048x4x256, .f32⟩
  | .hbm, ⟨52, _⟩ => ⟨S1x2048x4x1, .f32⟩
  | .hbm, ⟨53, _⟩ => ⟨S1x2048x4x256, .f32⟩
  | .hbm, ⟨54, _⟩ => ⟨S1x2048x4x256, .f32⟩
  | .hbm, ⟨55, _⟩ => ⟨S1x2048x4x256, .f32⟩
  | .hbm, ⟨56, _⟩ => ⟨S2048x1024, .f32⟩
  | .hbm, ⟨57, _⟩ => ⟨S2048x1024, .bf16⟩
  | _, _ => ⟨S1x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Out.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .f32⟩
  | .hbm, ⟨2, _⟩ => ⟨S1x2048x2048, .f32⟩
  | .hbm, ⟨3, _⟩ => ⟨S1x2048, .f32⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .f32⟩
  | .hbm, ⟨2, _⟩ => ⟨S1x2048x2048, .f32⟩
  | .hbm, ⟨3, _⟩ => ⟨S1x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S1x2048x2048, .f32⟩
  | .hbm, ⟨8, _⟩ => ⟨S2048x2048, .f32⟩
  | .hbm, ⟨9, _⟩ => ⟨S2048, .f32⟩
  | .hbm, ⟨10, _⟩ => ⟨S1x2048x2048, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x2048, .f32⟩
  | .hbm, ⟨22, _⟩ => ⟨S1x2048x2048, .f32⟩
  | .hbm, ⟨23, _⟩ => ⟨S1x1x2048, .f32⟩
  | .hbm, ⟨24, _⟩ => ⟨S1x2048x2048, .f32⟩
  | .hbm, ⟨25, _⟩ => ⟨S1x2048x2048, .f32⟩
  | .hbm, ⟨26, _⟩ => ⟨S2048x2048, .f32⟩
  | .hbm, ⟨27, _⟩ => ⟨S2048x2048, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proj.lean ====
abbrev S1x2048x2048 : Shape := ⟨3, ![1, 2048, 2048]⟩
abbrev S1x2048x8192 : Shape := ⟨3, ![1, 2048, 8192]⟩
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1x2048x512 : Shape := ⟨3, ![1, 2048, 512]⟩
abbrev S512x2048 : Shape := ⟨2, ![512, 2048]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 8
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x8192, .f32⟩
  | .hbm, ⟨2, _⟩ => ⟨S2048x2048, .bf16⟩
  | .hbm, ⟨3, _⟩ => ⟨S2048x8192, .f32⟩
  | .hbm, ⟨4, _⟩ => ⟨S2048x8192, .bf16⟩
  | .hbm, ⟨5, _⟩ => ⟨S2048x8x1024, .bf16⟩
  | .hbm, ⟨6, _⟩ => ⟨S8x2048x1024, .bf16⟩
  | .hbm, ⟨7, _⟩ => ⟨S8x2048x1024, .f32⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .f32⟩
  | .local _ .vmem, ⟨4, _⟩ => ⟨S1x2048x512, .f32⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S1x2048x2048 : Shape := ⟨3, ![1, 2048, 2048]⟩
abbrev S1x2048x8192 : Shape := ⟨3, ![1, 2048, 8192]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x8192, .f32⟩
  | .hbm, ⟨2, _⟩ => ⟨S1x2048x2048, .f32⟩
  | .hbm, ⟨3, _⟩ => ⟨S2048x8192, .f32⟩
  | .hbm, ⟨4, _⟩ => ⟨S1x2048x8192, .f32⟩
  | .hbm, ⟨5, _⟩ => ⟨S2048x8192, .f32⟩
  | .hbm, ⟨6, _⟩ => ⟨S2048x8x1024, .f32⟩
  | .hbm, ⟨7, _⟩ => ⟨S8x2048x1024, .f32⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Gate.lean ====
abbrev S1x2048x2048 : Shape := ⟨3, ![1, 2048, 2048]⟩
abbrev S1x2048x5632 : Shape := ⟨3, ![1, 2048, 5632]⟩
abbrev S2048x2048 : Shape := ⟨2, ![2048, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S1x2048x704 : Shape := ⟨3, ![1, 2048, 704]⟩
abbrev S1x1024x704 : Shape := ⟨3, ![1, 1024, 704]⟩
abbrev S512x2048 : Shape := ⟨2, ![512, 2048]⟩
abbrev S2048x704 : Shape := ⟨2, ![2048, 704]⟩
abbrev S512x704 : Shape := ⟨2, ![512, 704]⟩
abbrev S1x512x704 : Shape := ⟨3, ![1, 512, 704]⟩

abbrev nBuf : Space → Nat
  | .hbm => 8
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x5632, .f32⟩
  | .hbm, ⟨2, _⟩ => ⟨S2048x2048, .bf16⟩
  | .hbm, ⟨3, _⟩ => ⟨S2048x5632, .f32⟩
  | .hbm, ⟨4, _⟩ => ⟨S2048x5632, .bf16⟩
  | .hbm, ⟨5, _⟩ => ⟨S2048x8x704, .bf16⟩
  | .hbm, ⟨6, _⟩ => ⟨S8x2048x704, .bf16⟩
  | .hbm, ⟨7, _⟩ => ⟨S8x2048x704, .bf16⟩
  | .local _ .vmem, ⟨0, _⟩ => ⟨S2048x2048, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x1024x704, .bf16⟩
  | .local _ .vmem, ⟨4, _⟩ => ⟨S1x1024x704, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v3 : Index := Scalar.indexCast v2
  let c0 : Index := 0#32
  ![v3.toNat, 0]
def k0_mult2 (i : grid0.Coords) : BitVec 32 :=
  let arg1 : BitVec 32 := BitVec.ofNat 32 (i 1).val
  let c1024_i32_6 : BitVec 32 := 1024#32
  let v13 : BitVec 32 := Scalar.muli arg1 c1024_i32_6
  let c512_i32 : BitVec 32 := 512#32
  let v14 : BitVec 32 := Scalar.addi v13 c512_i32
  v14
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S1x2048x2048 : Shape := ⟨3, ![1, 2048, 2048]⟩
abbrev S1x2048x5632 : Shape := ⟨3, ![1, 2048, 5632]⟩
abbrev S2048x5632 : Shape := ⟨2, ![2048, 5632]⟩
abbrev S2048x8x704 : Shape := ⟨3, ![2048, 8, 704]⟩
abbrev S8x2048x704 : Shape := ⟨3, ![8, 2048, 704]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x5632, .f32⟩
  | .hbm, ⟨2, _⟩ => ⟨S1x2048x2048, .f32⟩
  | .hbm, ⟨3, _⟩ => ⟨S2048x5632, .f32⟩
  | .hbm, ⟨4, _⟩ => ⟨S1x2048x5632, .f32⟩
  | .hbm, ⟨5, _⟩ => ⟨S2048x5632, .f32⟩
  | .hbm, ⟨6, _⟩ => ⟨S2048x8x704, .f32⟩
  | .hbm, ⟨7, _⟩ => ⟨S8x2048x704, .f32⟩
  | .hbm, ⟨8, _⟩ => ⟨S8x2048x704, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Down.lean ====
abbrev S1x2048x5632 : Shape := ⟨3, ![1, 2048, 5632]⟩
abbrev S1x5632x2048 : Shape := ⟨3, ![1, 5632, 2048]⟩
abbrev S5632x2048 : Shape := ⟨2, ![5632, 2048]⟩
abbrev S8x704x2048 : Shape := ⟨3, ![8, 704, 2048]⟩
abbrev S2048x8x704 : Shape := ⟨3, ![2048, 8, 704]⟩
abbrev S8x2048x704 : Shape := ⟨3, ![8, 2048, 704]⟩
abbrev S8x704x1024 : Shape := ⟨3, ![8, 704, 1024]⟩
abbrev S2048x1024 : Shape := ⟨2, ![2048, 1024]⟩
abbrev S2x2048x704 : Shape := ⟨3, ![2, 2048, 704]⟩
abbrev S2x704x1024 : Shape := ⟨3, ![2, 704, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S1x2048x5632, .bf16⟩
  | .hbm, ⟨1, _⟩ => ⟨S1x5632x2048, .f32⟩
  | .hbm, ⟨2, _⟩ => ⟨S5632x2048, .f32⟩
  | .hbm, ⟨3, _⟩ => ⟨S5632x2048, .bf16⟩
  | .hbm, ⟨4, _⟩ => ⟨S8x704x2048, .bf16⟩
  | .hbm, ⟨5, _⟩ => ⟨S2048x8x704, .bf16⟩
  | .hbm, ⟨6, _⟩ => ⟨S8x2048x704, .bf16⟩
  | .hbm, ⟨7, _⟩ => ⟨S8x704x1024, .bf16⟩
  | .hbm, ⟨8, _⟩ => ⟨S2048x1024, .f32⟩
  | .local _ .vmem, ⟨0, _⟩ => ⟨S2x2048x704, .bf16⟩
  | .local _ .vmem, ⟨1, _⟩ => ⟨S2x2048x704, .bf16⟩
  | .local _ .vmem, ⟨2, _⟩ => ⟨S2x704x1024, .bf16⟩
  | .local _ .vmem, ⟨3, _⟩ => ⟨S2x704x1024, .bf16⟩
  | .local _ .vmem, ⟨4, _⟩ => ⟨S2048x1024, .f32⟩
  | _, _ => ⟨S1x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DownRefIdeal.lean ====
abbrev S1x2048x5632 : Shape := ⟨3, ![1, 2048, 5632]⟩
abbrev S1x5632x2048 : Shape := ⟨3, ![1, 5632, 2048]⟩
abbrev S5632x2048 : Shape := ⟨2, ![5632, 2048]⟩
abbrev S1x2048x2048 : Shape := ⟨3, ![1, 2048, 2048]⟩
abbrev S1x2048x1024 : Shape := ⟨3, ![1, 2048, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x5632, .bf16⟩
  | .hbm, ⟨1, _⟩ => ⟨S1x5632x2048, .f32⟩
  | .hbm, ⟨2, _⟩ => ⟨S1x2048x5632, .f32⟩
  | .hbm, ⟨3, _⟩ => ⟨S5632x2048, .f32⟩
  | .hbm, ⟨4, _⟩ => ⟨S1x2048x2048, .f32⟩
  | .hbm, ⟨5, _⟩ => ⟨S1x2048x1024, .f32⟩
  | .hbm, ⟨6, _⟩ => ⟨S2048x1024, .f32⟩
  | _, _ => ⟨S1x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Rowgrad.lean ====
abbrev S1x2048x5632 : Shape := ⟨3, ![1, 2048, 5632]⟩
abbrev S1x2048x2048 : Shape := ⟨3, ![1, 2048, 2048]⟩
abbrev S2048x8x704 : Shape := ⟨3, ![2048, 8, 704]⟩
abbrev S8x2048x704 : Shape := ⟨3, ![8, 2048, 704]⟩
abbrev S2048x2048 : Shape := ⟨2, ![2048, 2048]⟩
abbrev S8x704x2048 : Shape := ⟨3, ![8, 704, 2048]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 6
  | .vmem => 5
  | .smem => 0
  | _ => 0

abbrev bufTy : (tb : Table) → Fin (tcTables nBuf tb) → BufTy
  | .hbm, ⟨0, _⟩ => ⟨S1x2048x5632, .bf16⟩
  | .hbm, ⟨1, _⟩ => ⟨S1x2048x2048, .bf16⟩
  | .hbm, ⟨2, _⟩ => ⟨S2048x8x704, .bf16⟩
  | .hbm, ⟨3, _⟩ => ⟨S8x2048x704, .bf16⟩
  | .hbm, ⟨4, _⟩ => ⟨S2048x2048, .bf16⟩
  | .hbm, ⟨5, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | _, _ => ⟨S1x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowgradRefIdeal.lean ====
abbrev S1x2048x5632 : Shape := ⟨3, ![1, 2048, 5632]⟩
abbrev S1x2048x2048 : Shape := ⟨3, ![1, 2048, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 11
  | .vmem => 0
  | .smem => 0
  | _ => 0

abbrev bufTy : (tb : Table) → Fin (tcTables nBuf tb) → BufTy
  | .hbm, ⟨0, _⟩ => ⟨S1x2048x5632, .bf16⟩
  | .hbm, ⟨1, _⟩ => ⟨S1x2048x2048, .bf16⟩
  | .hbm, ⟨2, _⟩ => ⟨S_, .f32⟩
  | .hbm, ⟨3, _⟩ => ⟨S5632x2048, .f32⟩
  | .hbm, ⟨4, _⟩ => ⟨S1x2048x5632, .f32⟩
  | .hbm, ⟨5, _⟩ => ⟨S1x2048x2048, .f32⟩
  | .hbm, ⟨6, _⟩ => ⟨S1x2048x2048, .f32⟩
  | .hbm, ⟨7, _⟩ => ⟨S2048x5632, .f32⟩
  | .hbm, ⟨8, _⟩ => ⟨S5632x2048, .f32⟩
  | .hbm, ⟨9, _⟩ => ⟨S8x704x2048, .f32⟩
  | .hbm, ⟨10, _⟩ => ⟨S8x704x2048, .bf16⟩
  | _, _ => ⟨S1x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Colgrad.lean ====
abbrev S1x2048x2048 : Shape := ⟨3, ![1, 2048, 2048]⟩
abbrev S1x2048x8192 : Shape := ⟨3, ![1, 2048, 8192]⟩
abbrev S2048x2048 : Shape := ⟨2, ![2048, 2048]⟩
abbrev S2048x8x1024 : Shape := ⟨3, ![2048, 8, 1024]⟩
abbrev S8x2048x1024 : Shape := ⟨3, ![8, 2048, 1024]⟩
abbrev S1x2048x1024 : Shape := ⟨3, ![1, 2048, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x8192, .bf16⟩
  | .hbm, ⟨2, _⟩ => ⟨S2048x2048, .bf16⟩
  | .hbm, ⟨3, _⟩ => ⟨S2048x8x1024, .bf16⟩
  | .hbm, ⟨4, _⟩ => ⟨S8x2048x1024, .bf16⟩
  | .hbm, ⟨5, _⟩ => ⟨S8x2048x1024, .bf16⟩
  | .local _ .vmem, ⟨0, _⟩ => ⟨S2048x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ColgradRefIdeal.lean ====
abbrev S1x2048x2048 : Shape := ⟨3, ![1, 2048, 2048]⟩
abbrev S1x2048x8192 : Shape := ⟨3, ![1, 2048, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x8192, .bf16⟩
  | .hbm, ⟨2, _⟩ => ⟨S_, .f32⟩
  | .hbm, ⟨3, _⟩ => ⟨S2048x8192, .f32⟩
  | .hbm, ⟨4, _⟩ => ⟨S1x2048x2048, .f32⟩
  | .hbm, ⟨5, _⟩ => ⟨S1x2048x8192, .f32⟩
  | .hbm, ⟨6, _⟩ => ⟨S1x2048x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | .hbm, ⟨11, _⟩ => ⟨S8x2048x1024, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Fullgrad.lean ====
abbrev S1x2048x2048 : Shape := ⟨3, ![1, 2048, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FullgradRefIdeal.lean ====
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S1x2048x2048, .bf16⟩
  | .hbm, ⟨2, _⟩ => ⟨S_, .f32⟩
  | .hbm, ⟨3, _⟩ => ⟨S2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Poolgrad.lean ====
abbrev S1x2048x1024 : Shape := ⟨3, ![1, 2048, 1024]⟩
abbrev S1x2048x2048 : Shape := ⟨3, ![1, 2048, 2048]⟩
abbrev S2048x1024 : Shape := ⟨2, ![2048, 1024]⟩
abbrev S2048x2048 : Shape := ⟨2, ![2048, 2048]⟩
abbrev S4x256x512 : Shape := ⟨3, ![4, 256, 512]⟩
abbrev S512x256 : Shape := ⟨2, ![512, 256]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x2048, .bf16⟩
  | .hbm, ⟨2, _⟩ => ⟨S2048x1024, .bf16⟩
  | .hbm, ⟨3, _⟩ => ⟨S2048x2048, .bf16⟩
  | .hbm, ⟨4, _⟩ => ⟨S4x256x512, .bf16⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S1x256x512, .bf16⟩
  | .local _ .vmem, ⟨5, _⟩ => ⟨S1x256x512, .bf16⟩
  | .local _ .vmem, ⟨6, _⟩ => ⟨S256x512, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolgradRefIdeal.lean ====
abbrev S1x2048x1024 : Shape := ⟨3, ![1, 2048, 1024]⟩
abbrev S1x2048x2048 : Shape := ⟨3, ![1, 2048, 2048]⟩
abbrev S_ : Shape := ⟨0, ![]⟩
abbrev S4x256x512 : Shape := ⟨3, ![4, 256, 512]⟩
abbrev S1x2048x4x256 : Shape := ⟨4, ![1, 2048, 4, 256]⟩
abbrev S4x512x1x2048 : Shape := ⟨4, ![4, 512, 1, 2048]⟩
abbrev S1x2048x4x512 : Shape := ⟨4, ![1, 2048, 4, 512]⟩
abbrev S4x512x256 : Shape := ⟨3, ![4, 512, 256]⟩

abbrev nBuf : Space → Nat
  | .hbm => 15
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1x2048x2048, .bf16⟩
  | .hbm, ⟨2, _⟩ => ⟨S_, .f32⟩
  | .hbm, ⟨3, _⟩ => ⟨S4x256x512, .f32⟩
  | .hbm, ⟨4, _⟩ => ⟨S1x2048x1024, .f32⟩
  | .hbm, ⟨5, _⟩ => ⟨S1x2048x4x256, .f32⟩
  | .hbm, ⟨6, _⟩ => ⟨S4x512x1x2048, .f32⟩
  | .hbm, ⟨7, _⟩ => ⟨S1x2048x4x512, .f32⟩
  | .hbm, ⟨8, _⟩ => ⟨S1x2048x2048, .f32⟩
  | .hbm, ⟨9, _⟩ => ⟨S1x2048x2048, .f32⟩
  | .hbm, ⟨10, _⟩ => ⟨S1x2048x4x512, .f32⟩
  | .hbm, ⟨11, _⟩ => ⟨S4x512x1x2048, .f32⟩
  | .hbm, ⟨12, _⟩ => ⟨S4x512x256, .f32⟩
  | .hbm, ⟨13, _⟩ => ⟨S4x256x512, .f32⟩
  | .hbm, ⟨14, _⟩ => ⟨S4x256x512, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Entry.lean ====
abbrev S1x2048x5632 : Shape := ⟨3, ![1, 2048, 5632]⟩
abbrev S2048x5632 : Shape := ⟨2, ![2048, 5632]⟩
abbrev S2048x8x704 : Shape := ⟨3, ![2048, 8, 704]⟩
abbrev S8x2048x704 : Shape := ⟨3, ![8, 2048, 704]⟩
abbrev S2048x2048 : Shape := ⟨2, ![2048, 2048]⟩
abbrev S1x2048x704 : Shape := ⟨3, ![1, 2048, 704]⟩
abbrev S1x1024x704 : Shape := ⟨3, ![1, 1024, 704]⟩
abbrev S2048x1024 : Shape := ⟨2, ![2048, 1024]⟩
abbrev S1024x704 : Shape := ⟨2, ![1024, 704]⟩
abbrev S1024x1024 : Shape := ⟨2, ![1024, 1024]⟩

abbrev nBuf : Space → Nat
  | .hbm => 19
  | .vmem => 11
  | .smem => 0
  | _ => 0

abbrev bufTy : (tb : Table) → Fin (tcTables nBuf tb) → BufTy
  | .hbm, ⟨0, _⟩ => ⟨S1x2048x5632, .bf16⟩
  | .hbm, ⟨1, _⟩ => ⟨S1x2048x5632, .bf16⟩
  | .hbm, ⟨2, _⟩ => ⟨S1x2048x5632, .f32⟩
  | .hbm, ⟨3, _⟩ => ⟨S1x2048x5632, .f32⟩
  | .hbm, ⟨4, _⟩ => ⟨S2048x5632, .bf16⟩
  | .hbm, ⟨5, _⟩ => ⟨S2048x8x704, .bf16⟩
  | .hbm, ⟨6, _⟩ => ⟨S8x2048x704, .bf16⟩
  | .hbm, ⟨7, _⟩ => ⟨S2048x5632, .f32⟩
  | .hbm, ⟨8, _⟩ => ⟨S2048x5632, .bf16⟩
  | .hbm, ⟨9, _⟩ => ⟨S2048x8x704, .bf16⟩
  | .hbm, ⟨10, _⟩ => ⟨S8x2048x704, .bf16⟩
  | .hbm, ⟨11, _⟩ => ⟨S2048x5632, .bf16⟩
  | .hbm, ⟨12, _⟩ => ⟨S2048x8x704, .bf16⟩
  | .hbm, ⟨13, _⟩ => ⟨S8x2048x704, .bf16⟩
  | .hbm, ⟨14, _⟩ => ⟨S2048x5632, .f32⟩
  | .hbm, ⟨15, _⟩ => ⟨S2048x5632, .bf16⟩
  | .hbm, ⟨16, _⟩ => ⟨S2048x8x704, .bf16⟩
  | .hbm, ⟨17, _⟩ => ⟨S8x2048x704, .bf16⟩
  | .hbm, ⟨18, _⟩ => ⟨S2048x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .f32⟩
  | _, _ => ⟨S1x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_34 : BitVec 32 := 0#32
  let v37 : BitVec 1 := Scalar.cmpi .ne v36 c0_i32_34
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== EntryRefIdeal.lean ====
abbrev S1x2048x5632 : Shape := ⟨3, ![1, 2048, 5632]⟩
abbrev S_ : Shape := ⟨0, ![]⟩
abbrev S1x2048x2048 : Shape := ⟨3, ![1, 2048, 2048]⟩
abbrev S2048x5632 : Shape := ⟨2, ![2048, 5632]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S1x2048x5632, .bf16⟩
  | .hbm, ⟨1, _⟩ => ⟨S1x2048x5632, .bf16⟩
  | .hbm, ⟨2, _⟩ => ⟨S1x2048x5632, .f32⟩
  | .hbm, ⟨3, _⟩ => ⟨S1x2048x5632, .f32⟩
  | .hbm, ⟨4, _⟩ => ⟨S_, .f32⟩
  | .hbm, ⟨5, _⟩ => ⟨S1x2048x2048, .f32⟩
  | .hbm, ⟨6, _⟩ => ⟨S2048x5632, .f32⟩
  | .hbm, ⟨7, _⟩ => ⟨S1x2048x5632, .f32⟩
  | .hbm, ⟨8, _⟩ => ⟨S2048x5632, .f32⟩
  | .hbm, ⟨9, _⟩ => ⟨S1x2048x5632, .f32⟩
  | .hbm, ⟨10, _⟩ => ⟨S1x2048x5632, .f32⟩
  | .hbm, ⟨11, _⟩ => ⟨S1x2048x5632, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S2048x2048, .f32⟩
  | .hbm, ⟨16, _⟩ => ⟨S2048x2048, .bf16⟩
  | _, _ => ⟨S1x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Chipsum.lean ====
abbrev S3 : Shape := ⟨1, ![3]⟩
abbrev S1 : Shape := ⟨1, ![1]⟩
abbrev S8x2048x1024 : Shape := ⟨3, ![8, 2048, 1024]⟩
abbrev S4x2048x1024 : Shape := ⟨3, ![4, 2048, 1024]⟩
abbrev S_ : Shape := ⟨0, ![]⟩
abbrev S6 : Shape := ⟨1, ![6]⟩
abbrev S1x1024x1024 : Shape := ⟨3, ![1, 1024, 1024]⟩
abbrev S1024x1024 : Shape := ⟨2, ![1024, 1024]⟩

abbrev nBuf : Space → Nat
  | .hbm => 10
  | .vmem => 6
  | .smem => 1
  | _ => 0

abbrev bufTy : (tb : Table) → Fin (tcTables nBuf tb) → BufTy
  | .hbm, ⟨0, _⟩ => ⟨S3, .i32⟩
  | .hbm, ⟨1, _⟩ => ⟨S1, .i32⟩
  | .hbm, ⟨2, _⟩ => ⟨S8x2048x1024, .bf16⟩
  | .hbm, ⟨3, _⟩ => ⟨S4x2048x1024, .bf16⟩
  | .hbm, ⟨4, _⟩ => ⟨S_, .i32⟩
  | .hbm, ⟨5, _⟩ => ⟨S3, .i32⟩
  | .hbm, ⟨6, _⟩ => ⟨S3, .i32⟩
  | .hbm, ⟨7, _⟩ => ⟨S3, .i32⟩
  | .hbm, ⟨8, _⟩ => ⟨S3, .i32⟩
  | .hbm, ⟨9, _⟩ => ⟨S4x2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S6, .i32⟩
  | _, _ => ⟨S3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v5 : Ref sig .tc := ⟨.hbm, 9, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c3_i32 : BitVec 32 := 3#32
  let arg0 : BitVec 32 := BitVec.ofNat 32 (i 0).val
  let v0 : BitVec 32 := Scalar.addi c3_i32 arg0
  let v1 : Index := Scalar.indexCast v0
  ![v1.toNat]
def k0_off2 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let v1 : Index := Scalar.indexCast v0
  let v2 : BitVec 32 := pf.at 0 (Rect.unit (s := S6) ![v1.toNat] S1.size (k0_off1_inb i)) numel1_S1
  let c0_i32 : BitVec 32 := 0#32
  let c0_i32_0 : BitVec 32 := 0#32
  ![v2.toNat, arg1.toNat, c0_i32.toNat]

def cc0_transform_1 (k0_off2_inb : ∀ i : grid0.Coords, ∀ a, (k0_off2 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off2_inb i)) numel1_S1
  let c0_i32 : BitVec 32 := 0#32
  let c0_i32_0 : BitVec 32 := 0#32
  ![v1.toNat, arg1.toNat, c0_i32.toNat]

def cc0_transform_2 (k0_off2_inb : ∀ i : grid0.Coords, ∀ a, (k0_off2 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off2_inb i)) numel1_S1
  let c0_i32 : BitVec 32 := 0#32
  let c0_i32_0 : BitVec 32 := 0#32
  ![v1.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChipsumRefIdeal.lean ====
abbrev S3 : Shape := ⟨1, ![3]⟩
abbrev S1 : Shape := ⟨1, ![1]⟩
abbrev S8x2048x1024 : Shape := ⟨3, ![8, 2048, 1024]⟩
abbrev S4x2048x1024 : Shape := ⟨3, ![4, 2048, 1024]⟩
abbrev S4x2x2048x1024 : Shape := ⟨4, ![4, 2, 2048, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S3, .i32⟩
  | .hbm, ⟨1, _⟩ => ⟨S1, .i32⟩
  | .hbm, ⟨2, _⟩ => ⟨S8x2048x1024, .bf16⟩
  | .hbm, ⟨3, _⟩ => ⟨S4x2048x1024, .bf16⟩
  | .hbm, ⟨4, _⟩ => ⟨S4x2x2048x1024, .bf16⟩
  | .hbm, ⟨5, _⟩ => ⟨S_, .i32⟩
  | .hbm, ⟨6, _⟩ => ⟨S1, .i32⟩
  | .hbm, ⟨7, _⟩ => ⟨S4x2048x1024, .bf16⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .bf16⟩
  | _, _ => ⟨S3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Stepin.lean ====
abbrev S2 : Shape := ⟨1, ![2]⟩
abbrev S1x2048x1024 : Shape := ⟨3, ![1, 2048, 1024]⟩
abbrev S8x2048x1024 : Shape := ⟨3, ![8, 2048, 1024]⟩
abbrev S4x2048x1024 : Shape := ⟨3, ![4, 2048, 1024]⟩
abbrev S3x2048x1024 : Shape := ⟨3, ![3, 2048, 1024]⟩
abbrev S2048x1024 : Shape := ⟨2, ![2048, 1024]⟩
abbrev S512x1024 : Shape := ⟨2, ![512, 1024]⟩
abbrev S1x512x1024 : Shape := ⟨3, ![1, 512, 1024]⟩
abbrev S1 : Shape := ⟨1, ![1]⟩
abbrev S3x512x1024 : Shape := ⟨3, ![3, 512, 1024]⟩

abbrev nBuf : Space → Nat
  | .hbm => 13
  | .vmem => 20
  | .smem => 1
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S8x2048x1024, .bf16⟩
  | .hbm, ⟨4, _⟩ => ⟨S4x2048x1024, .bf16⟩
  | .hbm, ⟨5, _⟩ => ⟨S3x2048x1024, .bf16⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S3x512x1024, .bf16⟩
  | .local _ .vmem, ⟨11, _⟩ => ⟨S3x512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .smem, ⟨0, _⟩ => ⟨S2, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_4 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== StepinRefIdeal.lean ====
abbrev S2 : Shape := ⟨1, ![2]⟩
abbrev S1x2048x1024 : Shape := ⟨3, ![1, 2048, 1024]⟩
abbrev S8x2048x1024 : Shape := ⟨3, ![8, 2048, 1024]⟩
abbrev S4x2048x1024 : Shape := ⟨3, ![4, 2048, 1024]⟩
abbrev S3x2048x1024 : Shape := ⟨3, ![3, 2048, 1024]⟩
abbrev S1 : Shape := ⟨1, ![1]⟩
abbrev S_ : Shape := ⟨0, ![]⟩
abbrev S2048x1024 : Shape := ⟨2, ![2048, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2, .i32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S8x2048x1024, .bf16⟩
  | .hbm, ⟨5, _⟩ => ⟨S4x2048x1024, .bf16⟩
  | .hbm, ⟨6, _⟩ => ⟨S3x2048x1024, .bf16⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2048x1024, .bf16⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2048x1024, .bf16⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S3x2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S1x2048x1024, .f32⟩
  | .hbm, ⟨23, _⟩ => ⟨S1x2048x1024, .f32⟩
  | .hbm, ⟨24, _⟩ => ⟨S_, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S_, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1x2048x1024, .f32⟩
  | .hbm, ⟨37, _⟩ => ⟨S1x2048x1024, .f32⟩
  | .hbm, ⟨38, _⟩ => ⟨S1x2048x1024, .f32⟩
  | .hbm, ⟨39, _⟩ => ⟨S_, .f32⟩
  | .hbm, ⟨40, _⟩ => ⟨S1x2048x1024, .f32⟩
  | .hbm, ⟨41, _⟩ => ⟨S1x2048x1024, .f32⟩
  | .hbm, ⟨42, _⟩ => ⟨S_, .f32⟩
  | .hbm, ⟨43, _⟩ => ⟨S1x2048x1024, .f32⟩
  | .hbm, ⟨44, _⟩ => ⟨S1x2048x1024, .f32⟩
  | .hbm, ⟨45, _⟩ => ⟨S1x2048x1024, .f32⟩
  | .hbm, ⟨46, _⟩ => ⟨S_, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S_, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S_, .f32⟩
  | .hbm, ⟨55, _⟩ => ⟨S1x2048x1024, .f32⟩
  | .hbm, ⟨56, _⟩ => ⟨S1x2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Taps.lean ====
abbrev S3x128 : Shape := ⟨2, ![3, 128]⟩
abbrev S1x3x128 : Shape := ⟨3, ![1, 3, 128]⟩

abbrev nBuf : Space → Nat
  | .hbm => 10
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S3x128, .f32⟩
  | .hbm, ⟨9, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== TapsRefIdeal.lean ====
abbrev S3x128 : Shape := ⟨2, ![3, 128]⟩
abbrev S1x3x128 : Shape := ⟨3, ![1, 3, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S1x3x128, .f32⟩
  | .hbm, ⟨5, _⟩ => ⟨S_, .f32⟩
  | .hbm, ⟨6, _⟩ => ⟨S1x3x128, .f32⟩
  | .hbm, ⟨7, _⟩ => ⟨S1x3x128, .f32⟩
  | .hbm, ⟨8, _⟩ => ⟨S_, .f32⟩
  | .hbm, ⟨9, _⟩ => ⟨S1x3x128, .f32⟩
  | .hbm, ⟨10, _⟩ => ⟨S1x3x128, .f32⟩
  | .hbm, ⟨11, _⟩ => ⟨S1x3x128, .f32⟩
  | .hbm, ⟨12, _⟩ => ⟨S_, .f32⟩
  | .hbm, ⟨13, _⟩ => ⟨S1x3x128, .f32⟩
  | .hbm, ⟨14, _⟩ => ⟨S1x3x128, .f32⟩
  | .hbm, ⟨15, _⟩ => ⟨S1x3x128, .f32⟩
  | .hbm, ⟨16, _⟩ => ⟨S_, .f32⟩
  | .hbm, ⟨17, _⟩ => ⟨S1x3x128, .f32⟩
  | .hbm, ⟨18, _⟩ => ⟨S1x3x128, .f32⟩
  | .hbm, ⟨19, _⟩ => ⟨S1x3x128, .f32⟩
  | .hbm, ⟨20, _⟩ => ⟨S_, .f32⟩
  | .hbm, ⟨21, _⟩ => ⟨S1x3x128, .f32⟩
  | .hbm, ⟨22, _⟩ => ⟨S1x3x128, .f32⟩
  | .hbm, ⟨23, _⟩ => ⟨S_, .f32⟩
  | .hbm, ⟨24, _⟩ => ⟨S1x3x128, .f32⟩
  | .hbm, ⟨25, _⟩ => ⟨S1x3x128, .f32⟩
  | .hbm, ⟨26, _⟩ => ⟨S1x3x128, .f32⟩
  | .hbm, ⟨27, _⟩ => ⟨S_, .f32⟩
  | .hbm, ⟨28, _⟩ => ⟨S1x3x128, .f32⟩
  | .hbm, ⟨29, _⟩ => ⟨S1x3x128, .f32⟩
  | .hbm, ⟨30, _⟩ => ⟨S1x3x128, .f32⟩
  | .hbm, ⟨31, _⟩ => ⟨S_, .f32⟩
  | .hbm, ⟨32, _⟩ => ⟨S1x3x128, .f32⟩
  | .hbm, ⟨33, _⟩ => ⟨S1x3x128, .f32⟩
  | .hbm, ⟨34, _⟩ => ⟨S1x3x128, .f32⟩
  | .hbm, ⟨35, _⟩ => ⟨S_, .f32⟩
  | .hbm, ⟨36, _⟩ => ⟨S1x3x128, .f32⟩
  | .hbm, ⟨37, _⟩ => ⟨S1x3x128, .f32⟩
  | .hbm, ⟨38, _⟩ => ⟨S3x128, .f32⟩
  | .hbm, ⟨39, _⟩ => ⟨S3x128, .f32⟩
  | .hbm, ⟨40, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Cast.lean ====
abbrev S1x704x2048 : Shape := ⟨3, ![1, 704, 2048]⟩
abbrev S704x2048 : Shape := ⟨2, ![704, 2048]⟩
abbrev S704x1024 : Shape := ⟨2, ![704, 1024]⟩
abbrev S176x2048 : Shape := ⟨2, ![176, 2048]⟩
abbrev S176x1024 : Shape := ⟨2, ![176, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1x704x2048, .f32⟩
  | .hbm, ⟨1, _⟩ => ⟨S704x2048, .f32⟩
  | .hbm, ⟨2, _⟩ => ⟨S704x1024, .bf16⟩
  | .hbm, ⟨3, _⟩ => ⟨S704x1024, .bf16⟩
  | .local _ .vmem, ⟨0, _⟩ => ⟨S176x2048, .f32⟩
  | .local _ .vmem, ⟨1, _⟩ => ⟨S176x2048, .f32⟩
  | .local _ .vmem, ⟨2, _⟩ => ⟨S176x1024, .bf16⟩
  | .local _ .vmem, ⟨3, _⟩ => ⟨S176x1024, .bf16⟩
  | .local _ .vmem, ⟨4, _⟩ => ⟨S176x1024, .bf16⟩
  | .local _ .vmem, ⟨5, _⟩ => ⟨S176x1024, .bf16⟩
  | _, _ => ⟨S1x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CastRefIdeal.lean ====
abbrev S1x704x2048 : Shape := ⟨3, ![1, 704, 2048]⟩
abbrev S704x2048 : Shape := ⟨2, ![704, 2048]⟩
abbrev S704x1024 : Shape := ⟨2, ![704, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1x704x2048, .f32⟩
  | .hbm, ⟨1, _⟩ => ⟨S704x2048, .f32⟩
  | .hbm, ⟨2, _⟩ => ⟨S704x2048, .bf16⟩
  | .hbm, ⟨3, _⟩ => ⟨S704x1024, .bf16⟩
  | .hbm, ⟨4, _⟩ => ⟨S704x1024, .bf16⟩
  | _, _ => ⟨S1x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Proof.Reals.lean ====
/- Finite extended reals, the float constants the programs use, and host sums over two axes: what the value
   proofs of this directory share, whatever the program. -/
module

public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Shared

/-- A finite sum of reals, seen in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A function all of whose values lie below ⊤ in absolute value takes real values. -/
theorem exists_real {ι : Type*} (x : ι → EReal) (h : ∀ i, max (x i) (-x i) < ⊤) : ∃ r : ι → ℝ, ∀ i, x i = (r i : EReal) := by
  refine ⟨fun i => (x i).toReal, fun i => (EReal.coe_toReal ?_ ?_).symm⟩
  · exact fun e => absurd (h i) (by rw [e]; simp)
  · exact fun e => absurd (h i) (by rw [e]; simp)

theorem ofBits_2048 : Ideal.ofBits .f32 1157627904#32 = ((2048 : ℝ) : EReal) := by
  simp [Ideal.ofBits, Ideal.ieee, -EReal.coe_mul]; norm_num

/-- The ε under the root of every norm: the f32 word nearest to 10⁻⁶. -/
theorem ofBits_eps : Ideal.ofBits .f32 897988541#32 = ((8796093 / 8796093022208 : ℝ) : EReal) := by
  simp [Ideal.ofBits, Ideal.ieee, -EReal.coe_mul]; norm_num

theorem ofBits_neg_half : Ideal.ofBits .f32 3204448256#32 = ((-(1 / 2) : ℝ) : EReal) := by
  simp [Ideal.ofBits, Ideal.ieee, -EReal.coe_mul]; norm_num

theorem ofBits_half : Ideal.ofBits .f32 1056964608#32 = (((1 / 2) : ℝ) : EReal) := by
  simp [Ideal.ofBits, Ideal.ieee, -EReal.coe_mul]; norm_num

theorem ofBits_one : Ideal.ofBits .f32 1065353216#32 = ((1 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

theorem ofBits_inv_2048 : Ideal.ofBits .f32 973078528#32 = (((1 / 2048) : ℝ) : EReal) := by
  simp [Ideal.ofBits, Ideal.ieee, -EReal.coe_mul]; norm_num

theorem ofBits_half_inv_2048 : Ideal.ofBits .f32 964689920#32 = (((1 / 4096) : ℝ) : EReal) := by
  simp [Ideal.ofBits, Ideal.ieee, -EReal.coe_mul]; norm_num

theorem ofBits_top : Ideal.ofBits .f32 2139095040#32 = ⊤ := by
  simp [Ideal.ofBits, Ideal.ieee]

/-- Every entry is a real. -/
abbrev Reals {ι : Type} (f : ι → EReal) : Prop := ∃ r : ι → ℝ, ∀ i, f i = (r i : EReal)

theorem Reals.of {ι : Type} {f : ι → EReal} (h : ∀ i, ∃ r : ℝ, f i = (r : EReal)) : Reals f :=
  ⟨fun i => (h i).choose, fun i => (h i).choose_spec⟩

/-- A predicate's bit that an array's entry lies below ⊤ in absolute value is that inequality. -/
theorem lt_top_of_bit {x : EReal} (h : BitVec.ofBool (decide (max x (-x) < (⊤ : EReal))) = 1#1) : max x (-x) < ⊤ := by
  by_contra hn
  rw [decide_eq_false hn] at h
  exact absurd h (by decide)

/-- An array whose entries a predicate finds below ⊤ in absolute value, all of them, holds reals. -/
theorem reals_of_bits {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) :
    ∃ r : s.Idx → ℝ, ∀ i, x i = (r i : EReal) := by
  refine exists_real x fun i => lt_top_of_bit ?_
  have := congrFun h i
  rw [← ofBits_top]
  exact this

section
variable {n0 n1 n2 : Nat}

/-- The host's sum of a rank-3 array over its first and last axis. -/
theorem hostReduceAdd_02 (h : (⟨3, ![n0, n1, n2]⟩ : Shape).ReducesTo [0, 2] ⟨1, ![n1]⟩)
    (v : (⟨3, ![n0, n1, n2]⟩ : Shape).Idx → EReal) (init : EReal) (j : (⟨1, ![n1]⟩ : Shape).Idx) :
    Ideal.hostReduceAdd h v init j = init + ∑ a : Fin n0, ∑ b : Fin n2, v (ix3 a (j 0) b) := by
  refine congrArg (init + ·) ((Finset.sum_filter_eq_sum_of_fiber _ (fun k : Fin n0 × Fin n2 => (ix3 k.1 (j 0) k.2 : (⟨3, ![n0, n1, n2]⟩ : Shape).Idx))
    (fun _ _ e => Prod.ext (congrFun e 0) (congrFun e 2)) (fun i => ?_) v).trans ?_)
  · constructor
    · intro e
      refine ⟨(i 0, i 2), ?_⟩
      funext a; apply Fin.ext
      match a with
      | ⟨0, _⟩ => rfl
      | ⟨1, _⟩ => exact (congrArg Fin.val (congrFun e 0)).symm
      | ⟨2, _⟩ => rfl
    · rintro ⟨k, rfl⟩
      funext b
      apply Fin.ext
      match b with
      | ⟨0, _⟩ => rfl
  · simp only [Fintype.sum_prod_type]

/-- The host's sum of a rank-3 array over its first two axes. -/
theorem hostReduceAdd_01 (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  refine congrArg (init + ·) ((Finset.sum_filter_eq_sum_of_fiber _ (fun k : Fin n0 × Fin n1 => (ix3 k.1 k.2 (j 0) : (⟨3, ![n0, n1, n2]⟩ : Shape).Idx))
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

end

end Cert.Shared

end
-- ==== Proof.NormGrad.lean ====
/- One row of a norm's gradient, over the extended reals: the form the kernel computes and the form the
   differentiated forward pass has are equal on finite rows. -/
module

public import proofs.«01_k».proof.Proof.Reals

@[expose] public section

noncomputable section

open Idealize.ShloMosaic

namespace Cert.Shared

variable {n : Nat}

/-- The mean square of a row plus ε, with the row's length and ε as the programs' words spell them. -/
def meanSq (x : Fin n → EReal) : EReal :=
  Ideal.div (∑ k, x k * x k) (Ideal.ofBits .f32 1157627904#32) + Ideal.ofBits .f32 897988541#32

/-- The row's inverse root mean square. -/
def invRms (x : Fin n → EReal) : EReal := Ideal.rsqrt (meanSq x)

/-- The gradient of the norm at entry `j` as the kernel spells it: the normalised gradient less its part
    along the normalised row. -/
def normGrad (x dh g : Fin n → EReal) (j : Fin n) : EReal :=
  invRms x * (dh j * g j - x j * invRms x * Ideal.div (∑ k, dh k * g k * (x k * invRms x)) (Ideal.ofBits .f32 1157627904#32))

/-- What the differentiated root contributes at every entry of the row, once for each factor of the square. -/
def rootGrad (x dh g : Fin n → EReal) : EReal :=
  Ideal.div ((∑ k, x k * (dh k * g k)) * (Ideal.ofBits .f32 3204448256#32 * Ideal.div (invRms x) (meanSq x)))
    (Ideal.ofBits .f32 1157627904#32)

/-- On a row of finite entries the two forms agree, whatever is added to them. -/
theorem normGrad_eq (x dh g : Fin n → ℝ) (j : Fin n) (dr : EReal) :
    dr + normGrad (fun k => (x k : EReal)) (fun k => (dh k : EReal)) (fun k => (g k : EReal)) j
      = dr + (dh j : EReal) * (g j : EReal) * invRms (fun k => (x k : EReal))
        + (x j : EReal) * rootGrad (fun k => (x k : EReal)) (fun k => (dh k : EReal)) (fun k => (g k : EReal))
        + rootGrad (fun k => (x k : EReal)) (fun k => (dh k : EReal)) (fun k => (g k : EReal)) * (x j : EReal) := by
  have hv : meanSq (fun k => (x k : EReal)) = (((∑ k, x k * x k) * (1 / 2048) + 8796093 / 8796093022208 : ℝ) : EReal) := by
    unfold meanSq
    rw [ofBits_2048, ofBits_eps, Ideal.div_coe (by norm_num)]
    simp only [← EReal.coe_mul, ← coe_sum, ← EReal.coe_add]
  set v : ℝ := (∑ k, x k * x k) * (1 / 2048) + 8796093 / 8796093022208 with hvdef
  have hpos : 0 < v := by
    have : 0 ≤ ∑ k, x k * x k := Finset.sum_nonneg fun k _ => mul_self_nonneg _
    positivity
  have hr : invRms (fun k => (x k : EReal)) = (((Real.sqrt v)⁻¹ : ℝ) : EReal) := by
    unfold invRms
    rw [hv, Ideal.rsqrt_coe, if_neg (not_lt.mpr hpos.le), if_neg hpos.ne']
  have hs : 0 < Real.sqrt v := Real.sqrt_pos.mpr hpos
  have hsq : Real.sqrt v * Real.sqrt v = v := Real.mul_self_sqrt hpos.le
  unfold normGrad rootGrad
  rw [hr, hv, ofBits_2048, ofBits_neg_half]
  simp only [Ideal.div_coe (show (2048 : ℝ) ≠ 0 by norm_num), Ideal.div_coe hpos.ne', ← EReal.coe_mul, ← coe_sum, ← EReal.coe_sub]
  rw [add_assoc, add_assoc, ← EReal.coe_add, ← EReal.coe_add]
  congr 2
  have hd : ∑ k, dh k * g k * (x k * (Real.sqrt v)⁻¹) = (∑ k, x k * (dh k * g k)) * (Real.sqrt v)⁻¹ := by
    rw [Finset.sum_mul]; exact Finset.sum_congr rfl fun k _ => by ring
  rw [hd]
  generalize (∑ k, x k * (dh k * g k)) = d
  have h1 : (1 : ℝ) / v = (Real.sqrt v)⁻¹ * (Real.sqrt v)⁻¹ := by
    rw [← mul_inv, hsq, one_div]
  rw [h1]
  ring

/-- The arrays of one device: 2048 tokens of 2048 features, with and without the batch's unit axis, and one row. -/
abbrev Tokens := (⟨3, ![1, 2048, 2048]⟩ : Shape).Idx → EReal
abbrev Flat := (⟨2, ![2048, 2048]⟩ : Shape).Idx → EReal
abbrev Row := (⟨2, ![1, 2048]⟩ : Shape).Idx → EReal

/-- The input gradient of every token, the residual's gradient included. -/
def inputGrad (dh x : Tokens) (g : Row) (dr : Fin 2048 → Fin 2048 → EReal) : Flat := fun y =>
  dr (y 0) (y 1) + normGrad (fun k => x (ix3 0 (y 0) k)) (fun k => dh (ix3 0 (y 0) k)) (fun k => g (ix2 0 k)) (y 1)

/-- What one token adds to the gain's gradient. -/
def gainAt (dh x : Tokens) (j r : Fin 2048) : EReal :=
  dh (ix3 0 r j) * (x (ix3 0 r j) * invRms fun k => x (ix3 0 r k))

/-- The gain's gradient: the sum over the tokens. -/
def gainGrad (dh x : Tokens) : Row := fun y => ∑ r : Fin 2048, gainAt dh x (y 1) r

end Cert.Shared

end
-- ==== Proof.Rms2.Kernel.lean ====
/- The norm's gradient in the kernel: what one block of tokens computes, and what the three result arrays hold. -/
module

public import proofs.«01_k».proof.Proof.Gen.Rms2Ideal.Value
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.Rms2Ideal.Value

open Cert.Rms2Ideal Cert.Rms2Ideal.Gen Cert.Shared

/-- A block's input gradient at an entry. -/
theorem pay_input (dh : FVec Ideal S256x2048 .bf16) (x : FVec Ideal S256x2048 .f32) (g : FVec Ideal S1x2048 .f32)
    (dr : FVec Ideal S256x2048 .bf16) (i : Fin 256) (j : Fin 2048) :
    k0_pay1 (F := Ideal) (k0_pay6 (F := Ideal) x) (k0_pay7 (F := Ideal) x) (k0_pay9 (F := Ideal) dh g) (k0_pay10 (F := Ideal) dr)
      (k0_pay11 (F := Ideal) x dh g) (ix2 i j)
      = dr (ix2 i j) + normGrad (fun k => x (ix2 i k)) (fun k => dh (ix2 i k)) (fun k => g (ix2 0 k)) j := by
  unfold normGrad invRms meanSq
  pointwise [k0_pay1, k0_pay6, k0_pay7, k0_pay9, k0_pay10, k0_pay11, k0_pay4, k0_pay5]

/-- What a block adds to the gain's gradient at a column. -/
theorem pay_gain (dh : FVec Ideal S256x2048 .bf16) (x : FVec Ideal S256x2048 .f32) (a : FVec Ideal S1x2048 .f32) (j : Fin 2048) :
    k0_pay8 (F := Ideal) x dh a (ix2 0 j)
      = a (ix2 0 j) + ∑ i : Fin 256, dh (ix2 i j) * (x (ix2 i j) * invRms fun k => x (ix2 i k)) := by
  unfold invRms meanSq
  pointwise [k0_pay8, k0_pay6, k0_pay7, k0_pay9, k0_pay10, k0_pay11, k0_pay4, k0_pay5]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- The argument arrays, at their shapes. -/
abbrev dhOf (c : Dev nD) : FVec Ideal S1x2048x2048 .bf16 := m ((c.tc : Thread nD τ).loc main_arg0)
abbrev xOf (c : Dev nD) : FVec Ideal S1x2048x2048 .f32 := m ((c.tc : Thread nD τ).loc main_arg1)
abbrev gOf (c : Dev nD) : FVec Ideal S1x2048 .f32 := m ((c.tc : Thread nD τ).loc main_arg2)
abbrev drOf (c : Dev nD) : FVec Ideal S1x2048x2048 .bf16 := m ((c.tc : Thread nD τ).loc main_arg3)

/-- A token's place in the whole array. -/
theorem row_lt (t : Fin cfg0.N) (i : Fin 256) : t.val * 256 + i.val < 2048 := by
  have := t.isLt; have : cfg0.N = 8 := N_0; omega

theorem block0 (c : Dev nD) (t : Fin cfg0.N) (i : Fin 256) (j : Fin 2048) (r : Fin 2048) (hr : r.val = t.val * 256 + i.val) :
    iblk m c 0 t (ix2 i j) = dhOf m c (ix3 0 r j) := by
  blk_point [iblk, V, idx t, hr]

theorem block1 (c : Dev nD) (t : Fin cfg0.N) (i : Fin 256) (j : Fin 2048) (r : Fin 2048) (hr : r.val = t.val * 256 + i.val) :
    iblk m c 1 t (ix2 i j) = xOf m c (ix3 0 r j) := by
  blk_point [iblk, V, idx t, hr]

theorem block2 (c : Dev nD) (t : Fin cfg0.N) (j : Fin 2048) : iblk m c 2 t (ix2 0 j) = gOf m c (ix2 0 j) := by
  blk_point [iblk, V, idx t]

theorem block3 (c : Dev nD) (t : Fin cfg0.N) (i : Fin 256) (j : Fin 2048) (r : Fin 2048) (hr : r.val = t.val * 256 + i.val) :
    iblk m c 3 t (ix2 i j) = drOf m c (ix3 0 r j) := by
  blk_point [iblk, V, idx t, hr]

theorem input_point (c : Dev nD) (t : Fin cfg0.N) (i : Fin 256) (j : Fin 2048) (r : Fin 2048) (hr : r.val = t.val * 256 + i.val) :
    k0_pay1 (F := Ideal) (k0_pay6 (F := Ideal) (iblk m c 1 t)) (k0_pay7 (F := Ideal) (iblk m c 1 t))
      (k0_pay9 (F := Ideal) (iblk m c 0 t) (iblk m c 2 t)) (k0_pay10 (F := Ideal) (iblk m c 3 t))
      (k0_pay11 (F := Ideal) (iblk m c 1 t) (iblk m c 0 t) (iblk m c 2 t)) (ix2 i j)
      = inputGrad (dhOf m c) (xOf m c) (gOf m c) (fun i j => drOf m c (ix3 0 i j)) (ix2 r j) := by
  refine (pay_input _ _ _ _ i j).trans ?_
  simp only [inputGrad, fun k => block0 m c t i k r hr, fun k => block1 m c t i k r hr, block2 m c t, block3 m c t i j r hr, ix2_0, ix2_1]

theorem array4 (c : Dev nD) : (dats m 0 c).arrAt 4 cfg0.N = inputGrad (dhOf m c) (xOf m c) (gOf m c) (fun i j => drOf m c (ix3 0 i j)) := by
  refine (dats m 0 c).arrAt_eq_of_covers 4 _ (by decide +kernel) fun t _ y => ?_
  blk_simp
  rw [after0_4]
  have e : ((View.whole main_v3_0).slice (win0_4.rect t)).emb y
      = ix2 ⟨t.val * 256 + (y 0).val, row_lt t (y 0)⟩ (y 1) := by
    blk_ext [idx t]
  by_cases h : t.val % 8 = 0
  · rw [outsAt0_A m c t h]
    frame_out
    exact (congrArg _ (eq_ix2 y)).trans ((input_point m c t _ _ _ rfl).trans (congrArg _ e.symm))
  · rw [outsAt0_B m c t h]
    frame_out
    exact (congrArg _ (eq_ix2 y)).trans ((input_point m c t _ _ _ rfl).trans (congrArg _ e.symm))

theorem array5 (c : Dev nD) : (dats m 0 c).arrAt 5 cfg0.N = inputGrad (dhOf m c) (xOf m c) (gOf m c) (fun i j => drOf m c (ix3 0 i j)) := by
  refine (dats m 0 c).arrAt_eq_of_covers 5 _ (by decide +kernel) fun t _ y => ?_
  blk_simp
  rw [after0_5]
  have e : ((View.whole main_v3_1).slice (win0_5.rect t)).emb y
      = ix2 ⟨t.val * 256 + (y 0).val, row_lt t (y 0)⟩ (y 1) := by
    blk_ext [idx t]
  by_cases h : t.val % 8 = 0
  · rw [outsAt0_A m c t h]
    frame_out
    exact (congrArg _ (eq_ix2 y)).trans ((input_point m c t _ _ _ rfl).trans (congrArg _ e.symm))
  · rw [outsAt0_B m c t h]
    frame_out
    exact (congrArg _ (eq_ix2 y)).trans ((input_point m c t _ _ _ rfl).trans (congrArg _ e.symm))

theorem gain_point (c : Dev nD) (t : Fin cfg0.N) (a : FVec Ideal S1x2048 .f32) (j : Fin 2048) :
    k0_pay8 (F := Ideal) (iblk m c 1 t) (iblk m c 0 t) a (ix2 0 j)
      = a (ix2 0 j) + ∑ i : Fin 256, gainAt (dhOf m c) (xOf m c) j ⟨t.val * 256 + i.val, row_lt t i⟩ := by
  refine (pay_gain _ _ _ j).trans (congrArg _ (Finset.sum_congr rfl fun i _ => ?_))
  rw [block0 m c t i j ⟨t.val * 256 + i.val, row_lt t i⟩ rfl, block1 m c t i j ⟨t.val * 256 + i.val, row_lt t i⟩ rfl,
    funext fun k => block1 m c t i k ⟨t.val * 256 + i.val, row_lt t i⟩ rfl]
  rfl

theorem array6 (c : Dev nD) : (dats m 0 c).arrAt 6 cfg0.N = gainGrad (dhOf m c) (xOf m c) := by
  refine (dats m 0 c).arrAt_eq_of_after_last 6 t0_7 (by decide +kernel) _ fun j => ?_
  blk_simp
  rw [after0_6]
  obtain ⟨l, rfl⟩ : ∃ l : Fin 2048, j = ix2 0 l := ⟨j 1, by blk_ext⟩
  rw [Pipeline.eq_sum_fin_of_reset_step_apply_last (fun n h => (outsAt0 m c n h).2.2) 8 (fun _ => 0)
    (fun p j => ∑ i : Fin 256, gainAt (dhOf m c) (xOf m c) (j 1) ⟨p.val * 256 + i.val, row_lt p i⟩)
    (fun t h j => by
      obtain ⟨l, rfl⟩ : ∃ l : Fin 2048, j = ix2 0 l := ⟨j 1, by blk_ext⟩
      rw [outsAt0_A m c t h]; frame_out
      exact (gain_point m c t _ l).trans (congrArg (· + _) (by pointwise [k0_pay3])))
    (fun t h j => by
      obtain ⟨l, rfl⟩ : ∃ l : Fin 2048, j = ix2 0 l := ⟨j 1, by blk_ext⟩
      rw [outsAt0_B m c t h]; frame_out
      exact gain_point m c t _ l)
    (le_of_eq N_0) t0_7 rfl (ix2 0 l), zero_add]
  exact Fin.sum_mul_add_congr fun s k hl => rfl

end Cert.Rms2Ideal.Value

end
-- ==== Proof.Rms2.Reference.lean ====
/- The norm's gradient in the reference program, stage by stage: what each array holds at an index, and that it is the kernel's
   form of the gradient. -/
module

public import proofs.«01_k».proof.Proof.Gen.Rms2RefIdeal.Run
public import proofs.«01_k».proof.Proof.NormGrad

@[expose] public section

set_option maxRecDepth 16384

noncomputable section

open Idealize.ShloMosaic Idealize.ShloMosaic.TcCoe Idealize.SL.Sem

namespace Cert.Rms2RefIdeal.Value

open Cert.Rms2RefIdeal Cert.Rms2RefIdeal.Gen
open Cert.Shared hiding inputGrad gainGrad

/-- The mean square of every token plus ε. -/
def meanSqs (x : FVec Ideal S1x2048x2048 .f32) : FVec Ideal S1x2048x1 .f32 :=
  addf (Host.divf (broadcastInDim S1x2048x1 ![0, 1] bcast_S1x2048_S1x2048x1_0_1 (Host.reduceAdd (mulf x x) (constant S_ .f32 0x00000000#32) reducesTo_S1x2048x2048_S1x2048_d2 h_S_)) (broadcastInDim S1x2048x1 ![] bcast_S_S1x2048x1 (constant S_ .f32 0x45000000#32))) (broadcastInDim S1x2048x1 ![] bcast_S_S1x2048x1 (constant S_ .f32 0x358637BD#32))

/-- The gradient times the gain. -/
def gained (dh : FVec Ideal S1x2048x2048 .bf16) (g : FVec Ideal S1x2048 .f32) : FVec Ideal S1x2048x2048 .f32 :=
  mulf (extf .f32 dh bitsLt_bf16_f32) (broadcastInDim S1x2048x2048 ![0, 1, 2] bcast_S1x1x2048_S1x2048x2048_0_1_2 (broadcastInDim S1x1x2048 ![2] bcast_S2048_S1x1x2048_2 (shapeCast _ g shapeCasts_S1x2048_S2048)))

/-- What the root contributes at every token. -/
def rootGrads (x : FVec Ideal S1x2048x2048 .f32) (dg : FVec Ideal S1x2048x2048 .f32) : FVec Ideal S1x2048x2048 .f32 :=
  broadcastInDim S1x2048x2048 ![0, 1] bcast_S1x2048_S1x2048x2048_0_1 (broadcastInDim S1x2048 ![1] bcast_S2048_S1x2048_1 (Host.reduceAdd (Host.divf (mulf (shapeCast _ (Host.reduceAdd (mulf x dg) (constant S_ .f32 0x00000000#32) reducesTo_S1x2048x2048_S1x2048_d2 h_S_) shapeCasts_S1x2048_S1x2048x1) (mulf (broadcastInDim S1x2048x1 ![] bcast_S_S1x2048x1 (constant S_ .f32 0xBF000000#32)) (Host.divf (Host.rsqrt (meanSqs x)) (meanSqs x)))) (broadcastInDim S1x2048x1 ![] bcast_S_S1x2048x1 (constant S_ .f32 0x45000000#32))) (constant S_ .f32 0x00000000#32) reducesTo_S1x2048x1_S2048_d0_2 h_S_))

/-- The whole gradient of the norm's input. -/
def inputGrad (dh : FVec Ideal S1x2048x2048 .bf16) (x : FVec Ideal S1x2048x2048 .f32) (g : FVec Ideal S1x2048 .f32)
    (dr : FVec Ideal S1x2048x2048 .f32) : FVec Ideal S2048x2048 .f32 :=
  shapeCast _ (addf (addf (addf dr (mulf (gained dh g) (broadcastInDim S1x2048x2048 ![0, 1, 2] bcast_S1x2048x1_S1x2048x2048_0_1_2 (Host.rsqrt (meanSqs x))))) (mulf x (rootGrads x (gained dh g)))) (mulf (rootGrads x (gained dh g)) x)) shapeCasts_S1x2048x2048_S2048x2048

/-- The gradient of the norm's gain. -/
def gainGrad (dh : FVec Ideal S1x2048x2048 .bf16) (x : FVec Ideal S1x2048x2048 .f32) : FVec Ideal S1x2048 .f32 :=
  broadcastInDim S1x2048 ![1] bcast_S2048_S1x2048_1 (Host.reduceAdd (shapeCast _ (Host.reduceAdd (mulf (mulf x (broadcastInDim S1x2048x2048 ![0, 1, 2] bcast_S1x2048x1_S1x2048x2048_0_1_2 (Host.rsqrt (meanSqs x)))) (extf .f32 dh bitsLt_bf16_f32)) (constant S_ .f32 0x00000000#32) reducesTo_S1x2048x2048_S1x2048_d1 h_S_) shapeCasts_S1x2048_S1x1x2048) (constant S_ .f32 0x00000000#32) reducesTo_S1x1x2048_S2048_d0_1 h_S_)

variable (dh : FVec Ideal S1x2048x2048 .bf16) (x : FVec Ideal S1x2048x2048 .f32) (g : FVec Ideal S1x2048 .f32)
  (dr : FVec Ideal S1x2048x2048 .f32)

theorem meanSqs_at (i : Fin 2048) : meanSqs x (ix3 0 i 0) = meanSq fun k => x (ix3 0 i k) := by
  unfold meanSq
  pointwise [meanSqs, zero_add]

theorem gained_at (i j : Fin 2048) : gained dh g (ix3 0 i j) = dh (ix3 0 i j) * g (ix2 0 j) := by
  pointwise [gained]

/-- Wherever the scaled gradient's row is the product of two rows, the root's contribution is that row's. -/
theorem rootGrads_of (dg : FVec Ideal S1x2048x2048 .f32) (i j : Fin 2048) (a b : Fin 2048 → EReal)
    (h : ∀ k, dg (ix3 0 i k) = a k * b k) : rootGrads x dg (ix3 0 i j) = rootGrad (fun k => x (ix3 0 i k)) a b := by
  unfold rootGrad invRms
  rw [← meanSqs_at]
  simp only [← h]
  pointwise [rootGrads, hostReduceAdd_02, zero_add, Fin.sum_univ_one]

theorem rootGrads_at (i j : Fin 2048) : rootGrads x (gained dh g) (ix3 0 i j)
    = rootGrad (fun k => x (ix3 0 i k)) (fun k => dh (ix3 0 i k)) (fun k => g (ix2 0 k)) :=
  rootGrads_of x _ i j _ _ fun k => gained_at dh g i k

theorem inputGrad_at (i j : Fin 2048) : inputGrad dh x g dr (ix2 i j)
    = dr (ix3 0 i j) + dh (ix3 0 i j) * g (ix2 0 j) * invRms (fun k => x (ix3 0 i k))
      + x (ix3 0 i j) * rootGrad (fun k => x (ix3 0 i k)) (fun k => dh (ix3 0 i k)) (fun k => g (ix2 0 k))
      + rootGrad (fun k => x (ix3 0 i k)) (fun k => dh (ix3 0 i k)) (fun k => g (ix2 0 k)) * x (ix3 0 i j) := by
  unfold invRms
  rw [← meanSqs_at, ← rootGrads_at dh x g i j]
  pointwise [inputGrad, gained_at]

theorem gainGrad_at (j : Fin 2048) : gainGrad dh x (ix2 0 j)
    = ∑ i : Fin 2048, x (ix3 0 i j) * invRms (fun k => x (ix3 0 i k)) * dh (ix3 0 i j) := by
  unfold invRms
  simp only [← meanSqs_at]
  pointwise [gainGrad, hostReduceAdd_01, zero_add, Fin.sum_univ_one]

/-- On finite arrays the two input gradients agree. -/
theorem inputs_eq
    (hd : ∃ r : S1x2048x2048.Idx → ℝ, ∀ i, dh i = (r i : EReal))
    (hx : ∃ r : S1x2048x2048.Idx → ℝ, ∀ i, x i = (r i : EReal))
    (hg : ∃ r : S1x2048.Idx → ℝ, ∀ i, g i = (r i : EReal)) :
    inputGrad dh x g dr = Cert.Shared.inputGrad dh x g fun i j => dr (ix3 0 i j) := by
  funext y
  obtain ⟨i, j, rfl⟩ : ∃ (i j : Fin 2048), y = ix2 i j := ⟨y 0, y 1, eq_ix2 y⟩
  obtain ⟨dh', hd⟩ := hd
  obtain ⟨x', hx⟩ := hx
  obtain ⟨g', hg⟩ := hg
  rw [inputGrad_at]
  refine Eq.trans ?_ (show dr (ix3 0 i j) + normGrad (fun k => x (ix3 0 i k)) (fun k => dh (ix3 0 i k)) (fun k => g (ix2 0 k)) j = _ from rfl)
  simp only [hd, hx, hg]
  exact (normGrad_eq (fun k => x' (ix3 0 i k)) (fun k => dh' (ix3 0 i k)) (fun k => g' (ix2 0 k)) j _).symm

/-- The two gradients of the gain agree. -/
theorem gains_eq :
    gainGrad dh x = Cert.Shared.gainGrad dh x := by
  funext y
  obtain ⟨j, rfl⟩ : ∃ (j : Fin 2048), y = ix2 0 j := ⟨y 1, by blk_ext⟩
  rw [gainGrad_at]
  exact Finset.sum_congr rfl fun r _ => mul_comm _ _

end Cert.Rms2RefIdeal.Value

end
-- ==== Proof.Rms2.Claims.lean ====
/- The claims about the norm's gradient whose residual gradient is given in bf16. -/
module

public import proofs.«01_k».proof.Defs
public import proofs.«01_k».proof.Proof.Gen.Pre_rms2_finite
public import proofs.«01_k».proof.Proof.Gen.Rms2.Frame
public import proofs.«01_k».proof.Proof.Rms2.Kernel
public import proofs.«01_k».proof.Proof.Rms2.Reference

@[expose] public section

set_option maxRecDepth 16384

noncomputable section

open Idealize.ShloMosaic Idealize.ShloMosaic.TcCoe Idealize.SL.Sem

namespace Cert.Rms2Claims

open Cert.Shared

theorem value : algebraic_Rms2Ideal_Rms2RefIdeal_pre_rms2_finite := by
  intro m g m' g' hpre hagree
  refine ⟨_, _, _, (θ_run _ _ _).mono (fun r h c => h c) (Cert.Rms2Ideal.Value.run_blocks m g), ?_⟩
  refine (θ_run _ _ _).mono (fun r h c => ?_) (Cert.Rms2RefIdeal.Value.run m' g')
  obtain ⟨h0, h1, h2, h3⟩ := h c
  obtain ⟨a0, a1, a2, a3⟩ := hagree c
  obtain ⟨f0, f1, f2⟩ := hpre c
  refine ⟨h0.trans ?_, h1.trans ?_, h2.trans ?_, h3⟩
  · rw [Cert.Rms2Ideal.Value.array4]
    refine Eq.trans ?_ (Cert.Rms2RefIdeal.Value.inputs_eq _ _ _ _ (reals_of_bits _ _ f0) (reals_of_bits _ _ f1) (reals_of_bits _ _ f2))
    unfold Cert.Rms2RefIdeal.Value.res_main_v42
    rw [a0, a1, a2, a3]
    rfl
  · rw [Cert.Rms2Ideal.Value.array5]
    refine Eq.trans ?_ (Cert.Rms2RefIdeal.Value.inputs_eq _ _ _ _ (reals_of_bits _ _ f0) (reals_of_bits _ _ f1) (reals_of_bits _ _ f2))
    unfold Cert.Rms2RefIdeal.Value.res_main_v44
    rw [a0, a1, a2, a3]
    rfl
  · rw [Cert.Rms2Ideal.Value.array6]
    refine Eq.trans ?_ (Cert.Rms2RefIdeal.Value.gains_eq _ _)
    rw [a0, a1]
    rfl

theorem frame_reference : quiescent_Rms2RefIdeal := fun m ρ _ =>
  (θ_run _ _ _).mono (fun r h => ⟨fun c => (h c).2.2.2, sem_eq_zero_of_no_sems (by decide) r.2⟩)
    (Cert.Rms2RefIdeal.Value.run m ρ)

end Cert.Rms2Claims

end
-- ==== Proof.Loss.Rows.lean ====
/- The errors of the normalised rows, their mean and the loss: the functions both programs are compared through. -/
module

public import proofs.«01_k».proof.Proof.NormGrad

@[expose] public section

noncomputable section

open Idealize.ShloMosaic Idealize.SL.Sem

namespace Cert.Shared

/-- A token's error at entry `j`: the normalised row times the gain less the target. -/
def errAt {n : Nat} (x g t : Fin n → EReal) (j : Fin n) : EReal := x j * invRms x * g j - t j

/-- The errors of all tokens. -/
def errors (x : Tokens) (g : Fin 2048 → EReal) (t : Tokens) : Tokens := fun y =>
  errAt (fun k => x (ix3 0 (y 1) k)) g (fun k => t (ix3 0 (y 1) k)) (y 2)

/-- The errors over the row's length: the gradient of the normalised and scaled rows. -/
def meanErrors (x : Tokens) (g : Fin 2048 → EReal) (t : Tokens) : Tokens := fun y =>
  errors x g t y * Ideal.ofBits .f32 973078528#32

/-- The gradient of the norm's input. -/
def lossGrad (x : Tokens) (g : Fin 2048 → EReal) (t : Tokens) : Flat := fun y =>
  normGrad (fun k => x (ix3 0 (y 0) k)) (fun k => meanErrors x g t (ix3 0 (y 0) k)) g (y 1)

/-- One token's sum of squared errors. -/
def tokenLoss (x : Tokens) (g : Fin 2048 → EReal) (t : Tokens) (r : Fin 2048) : EReal :=
  ∑ j : Fin 2048, errors x g t (ix3 0 r j) * errors x g t (ix3 0 r j)

/-- The loss as the kernel adds it up: eight blocks of 256 tokens, each times half the row's inverse length. -/
def lossSum (x : Tokens) (g : Fin 2048 → EReal) (t : Tokens) : EReal :=
  ∑ p : Fin 8, (∑ i : Fin 256, tokenLoss x g t ⟨p.val * 256 + i.val, by omega⟩) * Ideal.ofBits .f32 964689920#32

/-- On a row of finite entries the inverse root mean square is finite. -/
theorem invRms_real {n : Nat} (x : Fin n → ℝ) : ∃ r : ℝ, invRms (fun k => (x k : EReal)) = (r : EReal) := by
  unfold invRms meanSq
  rw [ofBits_2048, ofBits_eps, Ideal.div_coe (by norm_num)]
  simp only [← EReal.coe_mul, ← coe_sum, ← EReal.coe_add]
  rw [Ideal.rsqrt_coe]
  have : 0 ≤ ∑ k, x k * x k := Finset.sum_nonneg fun k _ => mul_self_nonneg _
  have hpos : 0 < (∑ k, x k * x k) * (1 / 2048) + 8796093 / 8796093022208 := by positivity
  exact ⟨_, by rw [if_neg (not_lt.mpr hpos.le), if_neg hpos.ne']⟩

/-- On finite arrays the errors are finite. -/
theorem errors_real (x : Tokens) (g : Fin 2048 → EReal) (t : Tokens) (hx : Reals x)
    (hg : Reals g) (ht : Reals t) :
    Reals (errors x g t) := by
  obtain ⟨x', hx⟩ := hx
  obtain ⟨g', hg⟩ := hg
  obtain ⟨t', ht⟩ := ht
  refine Reals.of fun y => ?_
  obtain ⟨i, k, h⟩ : ∃ i k : Fin 2048, y = ix3 0 i k := ⟨y 1, y 2, by blk_ext⟩
  obtain ⟨r, hr⟩ := invRms_real fun l : Fin 2048 => x' (ix3 0 i l)
  refine ⟨x' (ix3 0 i k) * r * g' k - t' (ix3 0 i k), ?_⟩
  simp only [h, errors, errAt, ix3_1, ix3_2, hx, ht, hg, hr, EReal.coe_mul, EReal.coe_sub]

end Cert.Shared

end
-- ==== Proof.Loss.Kernel.lean ====
/- The loss and its gradient in the kernel: what one block of 256 tokens computes, and what the three result arrays hold. -/
module

public import proofs.«01_k».proof.Proof.Gen.LossIdeal.Value
public import proofs.«01_k».proof.Proof.Loss.Rows

@[expose] public section

set_option maxRecDepth 16384

noncomputable section

open Idealize.ShloMosaic Idealize.ShloMosaic.TcCoe Idealize.SL.Sem

namespace Cert.LossIdeal.Value

open Cert.LossIdeal Cert.LossIdeal.Gen Cert.Shared

section Payload

variable (v3 : FVec Ideal S256x2048 .f32) (v5 v7 : FVec Ideal S256x1024 .f32) (g : FVec Ideal S1x2048 .f32)
  (t : FVec Ideal S256x2048 .f32)

theorem inv_at (i : Fin 256) : k0_pay7 (F := Ideal) v3 v5 v7 (ix2 i 0) = invRms fun k => k0_pay6 (F := Ideal) v3 v5 v7 (ix2 i k) := by
  unfold invRms meanSq
  pointwise [k0_pay7]

theorem err_at (i : Fin 256) (j : Fin 2048) : k0_pay10 (F := Ideal) v3 v5 v7 g t (ix2 i j)
    = errAt (fun k => k0_pay6 (F := Ideal) v3 v5 v7 (ix2 i k)) (fun k => g (ix2 0 k)) (fun k => t (ix2 i k)) j := by
  unfold errAt
  rw [← inv_at]
  pointwise [k0_pay10, k0_pay8, k0_pay9]

/-- A block's input gradient at an entry. -/
theorem pay_input (i : Fin 256) (j : Fin 2048) :
    k0_pay3 (F := Ideal) (k0_pay7 (F := Ideal) v3 v5 v7) (k0_pay8 (F := Ideal) v3 v5 v7) (k0_pay9 (F := Ideal) g)
      (k0_pay10 (F := Ideal) v3 v5 v7 g t) (ix2 i j)
      = normGrad (fun k => k0_pay6 (F := Ideal) v3 v5 v7 (ix2 i k))
          (fun k => k0_pay10 (F := Ideal) v3 v5 v7 g t (ix2 i k) * Ideal.ofBits .f32 973078528#32) (fun k => g (ix2 0 k)) j := by
  unfold normGrad
  rw [← inv_at]
  pointwise [k0_pay3, k0_pay1, k0_pay8, k0_pay9]

/-- What a block adds to the gain's gradient at a column. -/
theorem pay_gain (a : FVec Ideal S1x2048 .f32) (j : Fin 2048) :
    k0_pay2 (F := Ideal) (k0_pay8 (F := Ideal) v3 v5 v7) (k0_pay10 (F := Ideal) v3 v5 v7 g t) a (ix2 0 j)
      = a (ix2 0 j) + ∑ i : Fin 256, k0_pay10 (F := Ideal) v3 v5 v7 g t (ix2 i j) * Ideal.ofBits .f32 973078528#32
          * (k0_pay6 (F := Ideal) v3 v5 v7 (ix2 i j) * invRms fun k => k0_pay6 (F := Ideal) v3 v5 v7 (ix2 i k)) := by
  simp only [← inv_at]
  pointwise [k0_pay2, k0_pay1, k0_pay8]

/-- What a block adds to the loss, the same in every entry. -/
theorem pay_loss (a : FVec Ideal S8x128 .f32) (i : Fin 8) (j : Fin 128) :
    k0_pay11 (F := Ideal) v3 v5 v7 g t a (ix2 i j)
      = a (ix2 i j) + (∑ r : Fin 256, ∑ k : Fin 2048, k0_pay10 (F := Ideal) v3 v5 v7 g t (ix2 r k)
          * k0_pay10 (F := Ideal) v3 v5 v7 g t (ix2 r k)) * Ideal.ofBits .f32 964689920#32 := by
  pointwise [k0_pay11]

end Payload

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] :=
  (by decide +kernel : ∀ t : Fin grid0.N, _)

/-- The argument arrays: the two summands of the norm's input, the gain and the target. -/
abbrev x1Of (c : Dev nD) : FVec Ideal S1x2048x2048 .f32 := m ((c.tc : Thread nD τ).loc main_arg0)
abbrev ffnOf (c : Dev nD) : FVec Ideal S1x2048x2048 .f32 := m ((c.tc : Thread nD τ).loc main_arg1)
abbrev gfOf (c : Dev nD) : FVec Ideal S2048 .f32 := m ((c.tc : Thread nD τ).loc main_arg2)
abbrev tgtOf (c : Dev nD) : FVec Ideal S1x2048x2048 .f32 := m ((c.tc : Thread nD τ).loc main_arg3)

/-- The norm's input, and the gain as a row. -/
abbrev xOf (c : Dev nD) : FVec Ideal S1x2048x2048 .f32 := addf (x1Of m c) (ffnOf m c)
abbrev gRow (c : Dev nD) : Fin 2048 → EReal := fun k => gfOf m c (ix1 k)

/-- A token's place in the whole array. -/
theorem row_lt (t : Fin cfg0.N) (i : Fin 256) : t.val * 256 + i.val < 2048 := by
  have := t.isLt; have : cfg0.N = 8 := N_0; omega

section Blocks

variable (c : Dev nD) (t : Fin cfg0.N) (i : Fin 256) (r : Fin 2048) (hr : r.val = t.val * 256 + i.val)
include hr

theorem block0 (j : Fin 1024) (l : Fin 2048) (hl : l.val = j.val) : iblk m c 0 t (ix2 i j) = ffnOf m c (ix3 0 r l) := by
  blk_point [iblk, V, idx t, hr, hl]

theorem block1 (j : Fin 1024) (l : Fin 2048) (hl : l.val = 1024 + j.val) : iblk m c 1 t (ix2 i j) = ffnOf m c (ix3 0 r l) := by
  blk_point [iblk, V, idx t, hr, hl]

theorem block2 (j : Fin 2048) : iblk m c 2 t (ix2 i j) = x1Of m c (ix3 0 r j) := by
  blk_point [iblk, V, idx t, hr]

theorem block3 (j : Fin 2048) : iblk m c 3 t (ix2 i j) = tgtOf m c (ix3 0 r j) := by
  blk_point [iblk, V, idx t, hr]

/-- The two halves put back together and added. -/
theorem sum_block (j : Fin 2048) :
    k0_pay6 (F := Ideal) (iblk m c 2 t) (iblk m c 0 t) (iblk m c 1 t) (ix2 i j) = xOf m c (ix3 0 r j) := by
  have h2 := block2 m c t i r hr j
  by_cases h : j.val < 1024
  · have h0 := block0 m c t i r hr ⟨j.val, h⟩ j rfl
    generalize iblk m c 0 t = a at h0 ⊢
    generalize iblk m c 1 t = b
    generalize iblk m c 2 t = d at h2 ⊢
    pointwise [k0_pay6]
    simp only [dif_pos h]
    rw [h2, h0]
  · have h1 := block1 m c t i r hr ⟨j.val - 1024, by omega⟩ j (by show j.val = 1024 + (j.val - 1024); omega)
    generalize iblk m c 0 t = a
    generalize iblk m c 1 t = b at h1 ⊢
    generalize iblk m c 2 t = d at h2 ⊢
    pointwise [k0_pay6]
    simp only [dif_neg h]
    rw [h2, h1]

end Blocks

theorem block4 (c : Dev nD) (t : Fin cfg0.N) (j : Fin 2048) : iblk m c 4 t (ix2 0 j) = gRow m c j := by
  blk_point [iblk, V, idx t]

theorem err_block (c : Dev nD) (t : Fin cfg0.N) (i : Fin 256) (r : Fin 2048) (hr : r.val = t.val * 256 + i.val) (j : Fin 2048) :
    k0_pay10 (F := Ideal) (iblk m c 2 t) (iblk m c 0 t) (iblk m c 1 t) (iblk m c 4 t) (iblk m c 3 t) (ix2 i j)
      = errors (xOf m c) (gRow m c) (tgtOf m c) (ix3 0 r j) := by
  refine (err_at _ _ _ _ _ i j).trans ?_
  simp only [errors, fun k => sum_block m c t i r hr k, fun k => block3 m c t i r hr k, block4 m c t, ix3_1, ix3_2]

theorem input_point (c : Dev nD) (t : Fin cfg0.N) (i : Fin 256) (j : Fin 2048) (r : Fin 2048) (hr : r.val = t.val * 256 + i.val) :
    k0_pay3 (F := Ideal) (k0_pay7 (F := Ideal) (iblk m c 2 t) (iblk m c 0 t) (iblk m c 1 t))
      (k0_pay8 (F := Ideal) (iblk m c 2 t) (iblk m c 0 t) (iblk m c 1 t)) (k0_pay9 (F := Ideal) (iblk m c 4 t))
      (k0_pay10 (F := Ideal) (iblk m c 2 t) (iblk m c 0 t) (iblk m c 1 t) (iblk m c 4 t) (iblk m c 3 t)) (ix2 i j)
      = lossGrad (xOf m c) (gRow m c) (tgtOf m c) (ix2 r j) := by
  refine (pay_input _ _ _ _ _ i j).trans ?_
  simp only [lossGrad, meanErrors, fun k => sum_block m c t i r hr k, fun k => err_block m c t i r hr k, block4 m c t, ix2_0, ix2_1]

theorem array5 (c : Dev nD) : (dats m 0 c).arrAt 5 cfg0.N = lossGrad (xOf m c) (gRow m c) (tgtOf m c) := by
  refine (dats m 0 c).arrAt_eq_of_covers 5 _ (by decide +kernel) fun t _ y => ?_
  blk_simp
  rw [after0_5]
  have e : ((View.whole main_v6_0).slice (win0_5.rect t)).emb y
      = ix2 ⟨t.val * 256 + (y 0).val, row_lt t (y 0)⟩ (y 1) := by
    blk_ext [idx t]
  by_cases h : t.val % 8 = 0
  · rw [outsAt0_A m c t h]
    frame_out
    exact (congrArg _ (eq_ix2 y)).trans ((input_point m c t _ _ _ rfl).trans (congrArg _ e.symm))
  · rw [outsAt0_B m c t h]
    frame_out
    exact (congrArg _ (eq_ix2 y)).trans ((input_point m c t _ _ _ rfl).trans (congrArg _ e.symm))

theorem gain_point (c : Dev nD) (t : Fin cfg0.N) (a : FVec Ideal S1x2048 .f32) (j : Fin 2048) :
    k0_pay2 (F := Ideal) (k0_pay8 (F := Ideal) (iblk m c 2 t) (iblk m c 0 t) (iblk m c 1 t))
      (k0_pay10 (F := Ideal) (iblk m c 2 t) (iblk m c 0 t) (iblk m c 1 t) (iblk m c 4 t) (iblk m c 3 t)) a (ix2 0 j)
      = a (ix2 0 j) + ∑ i : Fin 256, gainAt (meanErrors (xOf m c) (gRow m c) (tgtOf m c)) (xOf m c) j
          ⟨t.val * 256 + i.val, row_lt t i⟩ := by
  refine (pay_gain _ _ _ _ _ _ j).trans (congrArg _ (Finset.sum_congr rfl fun i _ => ?_))
  simp only [gainAt, meanErrors, fun k => sum_block m c t i ⟨t.val * 256 + i.val, row_lt t i⟩ rfl k,
    err_block m c t i ⟨t.val * 256 + i.val, row_lt t i⟩ rfl j]

theorem array6 (c : Dev nD) : (dats m 0 c).arrAt 6 cfg0.N
    = gainGrad (meanErrors (xOf m c) (gRow m c) (tgtOf m c)) (xOf m c) := by
  refine (dats m 0 c).arrAt_eq_of_after_last 6 t0_7 (by decide +kernel) _ fun j => ?_
  blk_simp
  rw [after0_6]
  obtain ⟨l, rfl⟩ : ∃ l : Fin 2048, j = ix2 0 l := ⟨j 1, by blk_ext⟩
  rw [Pipeline.eq_sum_fin_of_reset_step_apply_last (fun n h => (outsAt0 m c n h).2.1) 8 (fun _ => 0)
    (fun p j => ∑ i : Fin 256, gainAt (meanErrors (xOf m c) (gRow m c) (tgtOf m c)) (xOf m c) (j 1) ⟨p.val * 256 + i.val, row_lt p i⟩)
    (fun t h j => by
      obtain ⟨l, rfl⟩ : ∃ l : Fin 2048, j = ix2 0 l := ⟨j 1, by blk_ext⟩
      rw [outsAt0_A m c t h]; frame_out
      exact (gain_point m c t _ l).trans (congrArg (· + _) (by pointwise [k0_pay4])))
    (fun t h j => by
      obtain ⟨l, rfl⟩ : ∃ l : Fin 2048, j = ix2 0 l := ⟨j 1, by blk_ext⟩
      rw [outsAt0_B m c t h]; frame_out
      exact gain_point m c t _ l)
    (le_of_eq N_0) t0_7 rfl (ix2 0 l), zero_add]
  exact Fin.sum_mul_add_congr fun s k hl => rfl

theorem loss_point (c : Dev nD) (t : Fin cfg0.N) (a : FVec Ideal S8x128 .f32) (i : Fin 8) (j : Fin 128) :
    k0_pay11 (F := Ideal) (iblk m c 2 t) (iblk m c 0 t) (iblk m c 1 t) (iblk m c 4 t) (iblk m c 3 t) a (ix2 i j)
      = a (ix2 i j) + (∑ r : Fin 256, tokenLoss (xOf m c) (gRow m c) (tgtOf m c) ⟨t.val * 256 + r.val, row_lt t r⟩)
          * Ideal.ofBits .f32 964689920#32 := by
  refine (pay_loss _ _ _ _ _ _ i j).trans (congrArg (fun s => _ + s * _) (Finset.sum_congr rfl fun r _ => ?_))
  simp only [tokenLoss, fun k => err_block m c t r ⟨t.val * 256 + r.val, row_lt t r⟩ rfl k]

theorem array7 (c : Dev nD) : (dats m 0 c).arrAt 7 cfg0.N = fun _ => lossSum (xOf m c) (gRow m c) (tgtOf m c) := by
  refine (dats m 0 c).arrAt_eq_of_after_last 7 t0_7 (by decide +kernel) _ fun j => ?_
  blk_simp
  rw [after0_7]
  rw [Pipeline.eq_sum_fin_of_reset_step_apply_last (fun n h => (outsAt0 m c n h).2.2) 8 (fun _ => 0)
    (fun p _ => (∑ r : Fin 256, tokenLoss (xOf m c) (gRow m c) (tgtOf m c) ⟨p.val * 256 + r.val, row_lt p r⟩) * Ideal.ofBits .f32 964689920#32)
    (fun t h j => by
      obtain ⟨a, b, rfl⟩ : ∃ (a : Fin 8) (b : Fin 128), j = ix2 a b := ⟨j 0, j 1, eq_ix2 j⟩
      rw [outsAt0_A m c t h]; frame_out
      exact (loss_point m c t _ a b).trans (congrArg (· + _) (by pointwise [k0_pay5])))
    (fun t h j => by
      obtain ⟨a, b, rfl⟩ : ∃ (a : Fin 8) (b : Fin 128), j = ix2 a b := ⟨j 0, j 1, eq_ix2 j⟩
      rw [outsAt0_B m c t h]; frame_out
      exact loss_point m c t _ a b)
    (le_of_eq N_0) t0_7 rfl, zero_add]
  rfl

end Cert.LossIdeal.Value

end
-- ==== Proof.Loss.Reference.lean ====
/- The loss and its gradient in the reference program, stage by stage, and that they are the kernel's on finite arrays. -/
module

public import proofs.«01_k».proof.Proof.Gen.LossRefIdeal.Run
public import proofs.«01_k».proof.Proof.Rms2.Reference
public import proofs.«01_k».proof.Proof.Loss.Rows

@[expose] public section

set_option maxRecDepth 16384

noncomputable section

open Idealize.ShloMosaic Idealize.ShloMosaic.TcCoe Idealize.SL.Sem

namespace Cert.LossRefIdeal.Value

open Cert.LossRefIdeal Cert.LossRefIdeal.Gen
open Cert.Rms2RefIdeal.Value (meanSqs meanSqs_at rootGrads rootGrads_of)
open Cert.Shared hiding inputGrad gainGrad lossGrad

/-- The gain at every token. -/
def gains (g : FVec Ideal S2048 .f32) : FVec Ideal S1x2048x2048 .f32 :=
  broadcastInDim S1x2048x2048 ![0, 1, 2] bcast_S1x1x2048_S1x2048x2048_0_1_2 (broadcastInDim S1x1x2048 ![2] bcast_S2048_S1x1x2048_2 g)

/-- The normalised rows. -/
def normed (x : FVec Ideal S1x2048x2048 .f32) : FVec Ideal S1x2048x2048 .f32 :=
  mulf x (broadcastInDim S1x2048x2048 ![0, 1, 2] bcast_S1x2048x1_S1x2048x2048_0_1_2 (Host.rsqrt (meanSqs x)))

/-- The errors. -/
def errs (x : FVec Ideal S1x2048x2048 .f32) (g : FVec Ideal S2048 .f32) (t : FVec Ideal S1x2048x2048 .f32) : FVec Ideal S1x2048x2048 .f32 :=
  subf (mulf (normed x) (gains g)) t

/-- The gradient of the normalised and scaled rows. -/
def errGrads (x : FVec Ideal S1x2048x2048 .f32) (g : FVec Ideal S2048 .f32) (t : FVec Ideal S1x2048x2048 .f32) : FVec Ideal S1x2048x2048 .f32 :=
  mulf (broadcastInDim S1x2048x2048 ![0, 1] bcast_S1x2048_S1x2048x2048_0_1 (Host.divf (broadcastInDim S1x2048 ![] bcast_S_S1x2048 (mulf (constant S_ .f32 0x3F000000#32) (constant S_ .f32 0x3F800000#32))) (broadcastInDim S1x2048 ![] bcast_S_S1x2048 (constant S_ .f32 0x45000000#32)))) (mulf (broadcastInDim S1x2048x2048 ![] bcast_S_S1x2048x2048 (constant S_ .f32 0x40000000#32)) (errs x g t))

/-- The gradient of the norm's input. -/
def lossGrad (x : FVec Ideal S1x2048x2048 .f32) (g : FVec Ideal S2048 .f32) (t : FVec Ideal S1x2048x2048 .f32) : FVec Ideal S2048x2048 .bf16 :=
  truncf .bf16 (shapeCast _ (addf (addf (mulf (mulf (errGrads x g t) (gains g)) (broadcastInDim S1x2048x2048 ![0, 1, 2] bcast_S1x2048x1_S1x2048x2048_0_1_2 (Host.rsqrt (meanSqs x)))) (mulf x (rootGrads x (mulf (errGrads x g t) (gains g))))) (mulf (rootGrads x (mulf (errGrads x g t) (gains g))) x)) shapeCasts_S1x2048x2048_S2048x2048) bitsLt_bf16_f32

/-- The gradient of the gain. -/
def gainGrad (x : FVec Ideal S1x2048x2048 .f32) (g : FVec Ideal S2048 .f32) (t : FVec Ideal S1x2048x2048 .f32) : FVec Ideal S1x2048 .f32 :=
  shapeCast _ (Host.reduceAdd (shapeCast _ (Host.reduceAdd (mulf (normed x) (errGrads x g t)) (constant S_ .f32 0x00000000#32) reducesTo_S1x2048x2048_S1x2048_d1 h_S_) shapeCasts_S1x2048_S1x1x2048) (constant S_ .f32 0x00000000#32) reducesTo_S1x1x2048_S2048_d0_1 h_S_) shapeCasts_S2048_S1x2048

/-- The loss. -/
def loss (x : FVec Ideal S1x2048x2048 .f32) (g : FVec Ideal S2048 .f32) (t : FVec Ideal S1x2048x2048 .f32) : FVec Ideal S8x128 .f32 :=
  broadcastInDim S8x128 ![] bcast_S_S8x128 (mulf (constant S_ .f32 0x3F000000#32) (Host.reduceAdd (Host.divf (Host.reduceAdd (mulf (errs x g t) (errs x g t)) (constant S_ .f32 0x00000000#32) reducesTo_S1x2048x2048_S1x2048_d2 h_S_) (broadcastInDim S1x2048 ![] bcast_S_S1x2048 (constant S_ .f32 0x45000000#32))) (constant S_ .f32 0x00000000#32) reducesTo_S1x2048_S_d0_1 h_S_))

variable (x : FVec Ideal S1x2048x2048 .f32) (g : FVec Ideal S2048 .f32) (t : FVec Ideal S1x2048x2048 .f32)

theorem gains_at (i j : Fin 2048) : gains g (ix3 0 i j) = g (ix1 j) := by
  pointwise [gains]

theorem normed_at (i j : Fin 2048) : normed x (ix3 0 i j) = x (ix3 0 i j) * invRms fun k => x (ix3 0 i k) := by
  unfold invRms
  rw [← meanSqs_at]
  pointwise [normed]

theorem errs_at (i j : Fin 2048) : errs x g t (ix3 0 i j) = errors x (fun k => g (ix1 k)) t (ix3 0 i j) := by
  pointwise [errs, errors, errAt, normed_at, gains_at]

theorem errGrads_at (i j : Fin 2048) : errGrads x g t (ix3 0 i j)
    = Ideal.div (Ideal.ofBits .f32 1056964608#32 * Ideal.ofBits .f32 1065353216#32) (Ideal.ofBits .f32 1157627904#32)
      * (Ideal.ofBits .f32 1073741824#32 * errors x (fun k => g (ix1 k)) t (ix3 0 i j)) := by
  pointwise [errGrads, errs_at]

theorem loss_at (i : Fin 8) (j : Fin 128) : loss x g t (ix2 i j)
    = Ideal.ofBits .f32 1056964608#32 * ∑ r : Fin 2048, Ideal.div (tokenLoss x (fun k => g (ix1 k)) t r) (Ideal.ofBits .f32 1157627904#32) := by
  pointwise [loss, tokenLoss, errs_at, zero_add, Fin.sum_univ_one]

theorem gainGrad_at (j : Fin 2048) : gainGrad x g t (ix2 0 j)
    = ∑ i : Fin 2048, x (ix3 0 i j) * invRms (fun k => x (ix3 0 i k)) * errGrads x g t (ix3 0 i j) := by
  pointwise [gainGrad, normed_at, hostReduceAdd_01, zero_add, Fin.sum_univ_one]

section Finite

variable (hx : Reals x) (hg : Reals g)
  (ht : Reals t)
include hx hg ht

theorem errors_finite : Reals (errors x (fun k => g (ix1 k)) t) :=
  errors_real x _ t hx (hg.elim fun r h => ⟨fun k => r (ix1 k), fun k => h _⟩) ht

theorem errGrads_eq (i j : Fin 2048) : errGrads x g t (ix3 0 i j) = meanErrors x (fun k => g (ix1 k)) t (ix3 0 i j) := by
  obtain ⟨e, he⟩ := errors_finite x g t hx hg ht
  rw [errGrads_at, meanErrors, he, ofBits_half, ofBits_one, ofBits_two, ofBits_2048, ofBits_inv_2048, ← EReal.coe_mul,
    Ideal.div_coe (by norm_num)]
  simp only [← EReal.coe_mul]
  congr 1
  ring

/-- On finite arrays the two input gradients agree. -/
theorem inputs_eq : lossGrad x g t = Cert.Shared.lossGrad x (fun k => g (ix1 k)) t := by
  funext y
  obtain ⟨i, j, rfl⟩ : ∃ (i j : Fin 2048), y = ix2 i j := ⟨y 0, y 1, eq_ix2 y⟩
  obtain ⟨e, he⟩ := errors_finite x g t hx hg ht
  have hm : ∀ k, meanErrors x (fun k => g (ix1 k)) t (ix3 0 i k) = ((e (ix3 0 i k) * (1 / 2048) : ℝ) : EReal) := fun k => by
    rw [meanErrors, he, ofBits_inv_2048, ← EReal.coe_mul]
  have hp : ∀ k, mulf (errGrads x g t) (gains g) (ix3 0 i k)
      = meanErrors x (fun k => g (ix1 k)) t (ix3 0 i k) * g (ix1 k) := fun k => by
    pointwise [errGrads_eq x g t hx hg ht, gains_at]
  have hl : lossGrad x g t (ix2 i j)
      = mulf (errGrads x g t) (gains g) (ix3 0 i j) * Ideal.rsqrt (meanSqs x (ix3 0 i 0))
        + x (ix3 0 i j) * rootGrads x (mulf (errGrads x g t) (gains g)) (ix3 0 i j)
        + rootGrads x (mulf (errGrads x g t) (gains g)) (ix3 0 i j) * x (ix3 0 i j) := by
    generalize hq : mulf (errGrads x g t) (gains g) = q
    unfold lossGrad
    rw [hq]
    pointwise
  rw [hl, rootGrads_of x _ i j _ _ hp, hp, meanSqs_at]
  simp only [Cert.Shared.lossGrad, ix2_0, ix2_1, hm]
  obtain ⟨x', hx⟩ := hx
  obtain ⟨g', hg⟩ := hg
  simp only [hx, hg]
  refine Eq.trans ?_ ((zero_add _).symm.trans
    (normGrad_eq (fun k => x' (ix3 0 i k)) (fun k => e (ix3 0 i k) * (1 / 2048)) (fun k => g' (ix1 k)) j 0)).symm
  rw [zero_add]
  rfl

/-- On finite arrays the two gradients of the gain agree. -/
theorem gains_eq : gainGrad x g t = Cert.Shared.gainGrad (meanErrors x (fun k => g (ix1 k)) t) x := by
  funext y
  obtain ⟨j, rfl⟩ : ∃ (j : Fin 2048), y = ix2 0 j := ⟨y 1, by blk_ext⟩
  rw [gainGrad_at]
  refine Finset.sum_congr rfl fun r _ => ?_
  rw [errGrads_eq x g t hx hg ht]
  exact mul_comm _ _

/-- On finite arrays the two losses agree. -/
theorem losses_eq : loss x g t = fun _ => lossSum x (fun k => g (ix1 k)) t := by
  funext y
  obtain ⟨i, j, rfl⟩ : ∃ (i : Fin 8) (j : Fin 128), y = ix2 i j := ⟨y 0, y 1, eq_ix2 y⟩
  obtain ⟨e, he⟩ := errors_finite x g t hx hg ht
  have hT : ∀ r, tokenLoss x (fun k => g (ix1 k)) t r = ((∑ k, e (ix3 0 r k) * e (ix3 0 r k) : ℝ) : EReal) := fun r => by
    simp only [tokenLoss, he, ← EReal.coe_mul, ← coe_sum]
  rw [loss_at]
  unfold lossSum
  simp only [hT, ofBits_half, ofBits_2048, ofBits_half_inv_2048, Ideal.div_coe (show (2048 : ℝ) ≠ 0 by norm_num), ← EReal.coe_mul, ← coe_sum]
  have hs : ∑ p : Fin 8, ∑ i : Fin 256, (∑ k, e (ix3 0 ⟨p.val * 256 + i.val, by omega⟩ k) * e (ix3 0 ⟨p.val * 256 + i.val, by omega⟩ k))
      = ∑ r : Fin 2048, ∑ k, e (ix3 0 r k) * e (ix3 0 r k) := Fin.sum_mul_add_congr fun s k hl => rfl
  congr 1
  rw [← Finset.sum_mul, ← Finset.sum_mul, hs]
  ring

end Finite

end Cert.LossRefIdeal.Value

end
-- ==== Proof.Loss.Claims.lean ====
/- The claims about the loss and its gradient. -/
module

public import proofs.«01_k».proof.Defs
public import proofs.«01_k».proof.Proof.Gen.Pre_loss_finite
public import proofs.«01_k».proof.Proof.Gen.Loss.Frame
public import proofs.«01_k».proof.Proof.Loss.Kernel
public import proofs.«01_k».proof.Proof.Gen.LossRefIdeal.Run
public import proofs.«01_k».proof.Proof.Loss.Reference

@[expose] public section

set_option maxRecDepth 16384

noncomputable section

open Idealize.ShloMosaic Idealize.ShloMosaic.TcCoe Idealize.SL.Sem

namespace Cert.LossClaims

open Cert.Shared

theorem value : algebraic_LossIdeal_LossRefIdeal_pre_loss_finite := by
  intro m g m' g' hpre hagree
  refine ⟨_, _, _, (θ_run _ _ _).mono (fun r h c => h c) (Cert.LossIdeal.Value.run_blocks m g), ?_⟩
  refine (θ_run _ _ _).mono (fun r h c => ?_) (Cert.LossRefIdeal.Value.run m' g')
  obtain ⟨h0, h1, h2, h3⟩ := h c
  obtain ⟨a0, a1, a2, a3⟩ := hagree c
  obtain ⟨f0, f1, f2, f3⟩ := hpre c
  have hx : Reals (Cert.LossIdeal.Value.xOf m c) := by
    obtain ⟨p, hp⟩ := reals_of_bits (Cert.LossIdeal.Value.x1Of m c) _ f0
    obtain ⟨q, hq⟩ := reals_of_bits (Cert.LossIdeal.Value.ffnOf m c) _ f1
    refine ⟨fun i => p i + q i, fun i => ?_⟩
    rw [EReal.coe_add, ← hp, ← hq]
    rfl
  have hg := reals_of_bits (Cert.LossIdeal.Value.gfOf m c) _ f2
  have ht := reals_of_bits (Cert.LossIdeal.Value.tgtOf m c) _ f3
  refine ⟨h0.trans ?_, h1.trans ?_, h2.trans ?_, h3⟩
  · rw [Cert.LossIdeal.Value.array5]
    refine Eq.trans ?_ (Cert.LossRefIdeal.Value.inputs_eq _ _ _ hx hg ht)
    unfold Cert.LossRefIdeal.Value.res_main_v54
    rw [a0, a1, a2, a3]
    rfl
  · rw [Cert.LossIdeal.Value.array6]
    refine Eq.trans ?_ (Cert.LossRefIdeal.Value.gains_eq _ _ _ hx hg ht)
    rw [a0, a1, a2, a3]
    rfl
  · rw [Cert.LossIdeal.Value.array7]
    refine Eq.trans ?_ (Cert.LossRefIdeal.Value.losses_eq _ _ _ hx hg ht)
    rw [a0, a1, a2, a3]
    rfl

theorem frame_reference : quiescent_LossRefIdeal := fun m ρ _ =>
  (θ_run _ _ _).mono (fun r h => ⟨fun c => (h c).2.2.2, sem_eq_zero_of_no_sems (by decide) r.2⟩)
    (Cert.LossRefIdeal.Value.run m ρ)

end Cert.LossClaims

end
-- ==== Proof.WindowSum.lean ====
/- Sums over a window of rows: the host's window sum that runs from a row to the end, the sum of a window of given height,
   that such a window doubles by adding the rows below it, and that it is a difference of two sums that run to the end. -/
module

public import proofs.«01_k».proof.Proof.Reals
public import Idealize.ShloMosaic.Lib.WordCmp

@[expose] public section

noncomputable section

open Idealize.ShloMosaic Idealize.SL.Sem

namespace Cert.Shared

/-- A fold of additions is a sum. -/
theorem foldl_add {n : Nat} (f : Fin n → EReal) (v : EReal) : (List.finRange n).foldl (fun r i => r + f i) v = v + ∑ i, f i := by
  have h : ∀ (l : List (Fin n)) (u : EReal), l.foldl (fun r i => r + f i) u = u + (l.map f).sum := by
    intro l
    induction l with
    | nil => intro u; simp
    | cons a l ih => intro u; rw [List.foldl_cons, ih, List.map_cons, List.sum_cons, add_assoc]
  rw [h, Fin.sum_univ_def]

variable {T G L : Nat}

/-- The positions of a window of `T` rows of a rank-4 array are the rows. -/
def rowsEquiv : (⟨4, ![1, T, 1, 1]⟩ : Shape).Idx ≃ Fin T where
  toFun w := w 1
  invFun k := ix4 0 k 0 0
  left_inv w := by
    refine Eq.trans ?_ (eq_ix4 w).symm
    have h0 : w 0 = (0 : Fin 1) := Subsingleton.elim (α := Fin 1) _ _
    have h2 : w 2 = (0 : Fin 1) := Subsingleton.elim (α := Fin 1) _ _
    have h3 : w 3 = (0 : Fin 1) := Subsingleton.elim (α := Fin 1) _ _
    rw [h0, h2, h3]
  right_inv _ := rfl

/-- One row of a window that begins `p` rows above row `t`: inside the array exactly when the row is. -/
theorem row_of_window (p : Nat) (x : FVec Ideal ⟨4, ![1, T, G, L]⟩ .f32) (t : Fin T) (g : Fin G) (l : Fin L)
    (w : (⟨4, ![1, T, 1, 1]⟩ : Shape).Idx)
    (D : Decidable (∀ a : Fin 4, ![0, p, 0, 0] a ≤ (ix4 (0 : Fin 1) t g l a).val * ![1, 1, 1, 1] a + (w a).val
      ∧ (ix4 (0 : Fin 1) t g l a).val * ![1, 1, 1, 1] a + (w a).val - ![0, p, 0, 0] a < (⟨4, ![1, T, G, L]⟩ : Shape).size a)) :
    (@dite EReal _ D (fun hin => x fun a =>
        ⟨(ix4 (0 : Fin 1) t g l a).val * ![1, 1, 1, 1] a + (w a).val - ![0, p, 0, 0] a, (hin a).2⟩) fun _ => 0)
      = if h : p ≤ t.val + (w 1).val ∧ t.val + (w 1).val - p < T then x (ix4 0 ⟨t.val + (w 1).val - p, h.2⟩ g l) else 0 := by
  have h0 : (w 0).val = 0 := Nat.lt_one_iff.mp (w 0).isLt
  have h2 : (w 2).val = 0 := Nat.lt_one_iff.mp (w 2).isLt
  have h3 : (w 3).val = 0 := Nat.lt_one_iff.mp (w 3).isLt
  have hg := g.isLt
  have hl := l.isLt
  by_cases hk : p ≤ t.val + (w 1).val ∧ t.val + (w 1).val - p < T
  · rw [dif_pos hk, dif_pos]
    · refine congrArg x (funext fun a => Fin.ext ?_)
      match a with
      | ⟨0, _⟩ => show 0 * 1 + (w 0).val - 0 = 0; omega
      | ⟨1, _⟩ => show t.val * 1 + (w 1).val - p = t.val + (w 1).val - p; omega
      | ⟨2, _⟩ => show g.val * 1 + (w 2).val - 0 = g.val; omega
      | ⟨3, _⟩ => show l.val * 1 + (w 3).val - 0 = l.val; omega
    · intro a
      match a with
      | ⟨0, _⟩ => exact ⟨Nat.zero_le _, show 0 * 1 + (w 0).val - 0 < 1 by omega⟩
      | ⟨1, _⟩ => exact ⟨show p ≤ t.val * 1 + (w 1).val by omega, show t.val * 1 + (w 1).val - p < T by omega⟩
      | ⟨2, _⟩ => exact ⟨Nat.zero_le _, show g.val * 1 + (w 2).val - 0 < G by omega⟩
      | ⟨3, _⟩ => exact ⟨Nat.zero_le _, show l.val * 1 + (w 3).val - 0 < L by omega⟩
  · rw [dif_neg hk, dif_neg]
    intro hin
    have h1 : p ≤ t.val * 1 + (w 1).val ∧ t.val * 1 + (w 1).val - p < T := hin 1
    exact hk (by omega)

/-- The host's sum over windows of the whole height that begin `p` rows above each row, the array padded with zeros. -/
theorem window_sums (x : FVec Ideal ⟨4, ![1, T, G, L]⟩ .f32) (p q : Nat)
    (h : (⟨4, ![1, T, G, L]⟩ : Shape).ReduceWindows ![1, T, 1, 1] ![1, 1, 1, 1] ![0, p, 0, 0] ![0, q, 0, 0] ⟨4, ![1, T, G, L]⟩)
    (t : Fin T) (g : Fin G) (l : Fin L) :
    Ideal.hostReduceWindowAdd ![1, T, 1, 1] ![1, 1, 1, 1] ![0, p, 0, 0] ![0, q, 0, 0] h x 0 (ix4 0 t g l)
      = ∑ k : Fin T, if h : p ≤ t.val + k.val ∧ t.val + k.val - p < T then x (ix4 0 ⟨t.val + k.val - p, h.2⟩ g l) else 0 := by
  unfold Ideal.hostReduceWindowAdd Host.reduceWindow
  refine (foldl_add _ _).trans ((zero_add _).trans ?_)
  exact Fintype.sum_equiv ((⟨4, ![1, T, 1, 1]⟩ : Shape).rowMajor.symm.trans rowsEquiv) _
    (fun k : Fin T => if h : p ≤ t.val + k.val ∧ t.val + k.val - p < T then x (ix4 0 ⟨t.val + k.val - p, h.2⟩ g l) else 0)
    fun n => row_of_window p x t g l ((⟨4, ![1, T, 1, 1]⟩ : Shape).rowMajor.symm n) _

/-- The windows that begin at each row: the sum of the rows from the row on. -/
theorem sum_from (x : FVec Ideal ⟨4, ![1, T, G, L]⟩ .f32) (q : Nat)
    (h : (⟨4, ![1, T, G, L]⟩ : Shape).ReduceWindows ![1, T, 1, 1] ![1, 1, 1, 1] ![0, 0, 0, 0] ![0, q, 0, 0] ⟨4, ![1, T, G, L]⟩)
    (t : Fin T) (g : Fin G) (l : Fin L) :
    Ideal.hostReduceWindowAdd ![1, T, 1, 1] ![1, 1, 1, 1] ![0, 0, 0, 0] ![0, q, 0, 0] h x 0 (ix4 0 t g l)
      = ∑ k : Fin T, if h : t.val + k.val < T then x (ix4 0 ⟨t.val + k.val, h⟩ g l) else 0 := by
  refine (window_sums x 0 q h t g l).trans (Finset.sum_congr rfl fun k _ => ?_)
  by_cases hk : t.val + k.val < T
  · rw [dif_pos hk, dif_pos ⟨Nat.zero_le _, hk⟩]
    rfl
  · rw [dif_neg hk, dif_neg fun h => hk h.2]

/-- The sum of the `w` rows from row `i` on, rows past the end counting as zero. -/
def window (a : Fin T → EReal) (w i : Nat) : EReal := ∑ d ∈ Finset.range w, if h : i + d < T then a ⟨i + d, h⟩ else 0

theorem window_one (a : Fin T → EReal) (i : Fin T) : window a 1 i.val = a i := by
  unfold window
  rw [Finset.sum_range_one, dif_pos (show i.val + 0 < T from i.isLt)]
  rfl

theorem window_past (a : Fin T → EReal) (w i : Nat) (h : T ≤ i) : window a w i = 0 :=
  Finset.sum_eq_zero fun d _ => dif_neg (by omega)

theorem window_add (a : Fin T → EReal) (k n i : Nat) : window a (k + n) i = window a k i + window a n (i + k) := by
  unfold window
  rw [Finset.sum_range_add]
  simp only [Nat.add_assoc]

/-- A window doubles by adding the window below it, where there is one. -/
theorem window_double (a : Fin T → EReal) (x : Fin T → EReal) (k : Nat) (hx : ∀ i : Fin T, x i = window a k i.val) (i : Fin T) :
    (x i + if h : i.val + k < T then x ⟨i.val + k, h⟩ else 0) = window a (k + k) i.val := by
  rw [window_add, hx]
  refine congrArg _ ?_
  by_cases h : i.val + k < T
  · rw [dif_pos h, hx]
  · rw [dif_neg h, window_past a k _ (by omega)]

/-- A column rotated by all but `k` rows, the rows that wrap around left out, is the column moved `k` rows up. -/
theorem rotated (k : Nat) (hk : 0 < k ∧ k < T) (f : Fin T → EReal) (i : Fin T) :
    (if i.val < T - k then f ⟨(i.val + T - (T - k)) % T, Nat.mod_lt _ (by omega)⟩ else 0)
      = if h : i.val + k < T then f ⟨i.val + k, h⟩ else 0 := by
  by_cases h : i.val + k < T
  · rw [if_pos (by omega), dif_pos h]
    refine congrArg f (Fin.ext ?_)
    show (i.val + T - (T - k)) % T = i.val + k
    rw [show i.val + T - (T - k) = i.val + k by omega, Nat.mod_eq_of_lt h]
  · rw [if_neg (by omega), dif_neg h]

/-- On reals, a window is what the rows from `t` on sum to, when from row `s` is taken off what each later row `s'` with
    `s' + 1 - w = s + 1` holds. -/
theorem tail_sub (f : Nat → ℝ) (hf : ∀ n, T ≤ n → f n = 0) (w t : Nat) (hw : 0 < w) :
    (∑ k ∈ Finset.range T, (f (t + k) + ∑ s ∈ Finset.range T, if s + 1 - w = t + k + 1 then -f s else 0))
      = ∑ d ∈ Finset.range w, f (t + d) := by
  have hpast : ∀ n u, T ≤ u → ∑ d ∈ Finset.range n, f (u + d) = 0 := fun n u hu => Finset.sum_eq_zero fun d _ => hf _ (by omega)
  have h1 : ∑ k ∈ Finset.range T, f (t + k) = (∑ d ∈ Finset.range w, f (t + d)) + ∑ k ∈ Finset.range T, f (t + w + k) := by
    have e : ∑ k ∈ Finset.range (T + w), f (t + k) = ∑ k ∈ Finset.range (w + T), f (t + k) := by rw [Nat.add_comm]
    rw [Finset.sum_range_add, Finset.sum_range_add] at e
    have z : ∑ x ∈ Finset.range w, f (t + (T + x)) = 0 := Finset.sum_eq_zero fun d _ => hf _ (by omega)
    rw [z, add_zero] at e
    rw [e]
    simp only [Nat.add_assoc]
  have h2 : (∑ k ∈ Finset.range T, ∑ s ∈ Finset.range T, if s + 1 - w = t + k + 1 then -f s else 0)
      = -∑ k ∈ Finset.range T, f (t + w + k) := by
    rw [← Finset.sum_neg_distrib]
    refine Finset.sum_congr rfl fun k _ => ?_
    by_cases hk : t + w + k < T
    · refine (Finset.sum_eq_single (t + w + k) (fun s _ hs => if_neg (by omega)) (fun h => absurd (Finset.mem_range.mpr hk) h)).trans ?_
      exact if_pos (by omega)
    · rw [hf _ (by omega), neg_zero]
      exact Finset.sum_eq_zero fun s hs => if_neg (by have := Finset.mem_range.mp hs; omega)
  rw [Finset.sum_add_distrib, h1, h2, add_neg_cancel_right]

/-- The same for a column of reals among the extended reals. -/
theorem window_of_tails (a : Fin T → EReal) (r : Fin T → ℝ) (ha : ∀ i, a i = (r i : EReal)) (w : Nat) (hw : 0 < w) (t : Fin T) :
    (∑ k : Fin T, if h : t.val + k.val < T then a ⟨t.val + k.val, h⟩ + ∑ s : Fin T, (if s.val + 1 - w = t.val + k.val + 1 then -a s else 0) else 0)
      = window a w t.val := by
  obtain ⟨f, hf⟩ : ∃ f : Nat → ℝ, ∀ n, f n = if h : n < T then r ⟨n, h⟩ else 0 := ⟨_, fun _ => rfl⟩
  have hr : ∀ i : Fin T, a i = (f i.val : EReal) := fun i => by rw [ha, hf, dif_pos i.isLt]
  have hz : ∀ n, T ≤ n → f n = 0 := fun n hn => by rw [hf, dif_neg (by omega)]
  have e1 : window a w t.val = ((∑ d ∈ Finset.range w, f (t.val + d) : ℝ) : EReal) := by
    unfold window
    rw [coe_sum]
    refine Finset.sum_congr rfl fun d _ => ?_
    by_cases h : t.val + d < T
    · rw [dif_pos h, hr]
    · rw [dif_neg h, hz _ (by omega), EReal.coe_zero]
  rw [e1, ← tail_sub (T := T) f hz w t.val hw, coe_sum, ← Fin.sum_univ_eq_sum_range (fun k => (_ : EReal))]
  refine Finset.sum_congr rfl fun k _ => ?_
  rw [EReal.coe_add, coe_sum, ← Fin.sum_univ_eq_sum_range (fun s => (((if s + 1 - w = t.val + k.val + 1 then -f s else 0 : ℝ)) : EReal))]
  by_cases h : t.val + k.val < T
  · rw [dif_pos h, hr]
    refine congrArg _ (Finset.sum_congr rfl fun s _ => ?_)
    by_cases hs : s.val + 1 - w = t.val + k.val + 1
    · rw [if_pos hs, if_pos hs, hr, EReal.coe_neg]
    · rw [if_neg hs, if_neg hs, EReal.coe_zero]
  · rw [dif_neg h, hz _ (by omega), EReal.coe_zero, zero_add]
    exact (Finset.sum_eq_zero fun s _ => by rw [if_neg (by have := s.isLt; omega), EReal.coe_zero]).symm

/-- The next word, the smaller of two words, and a difference of words cut off at zero, for words far below the sign bit. -/
theorem addi_one (a : Nat) : IntOp.addi (BitVec.ofNat 32 a) 1#32 = BitVec.ofNat 32 (a + 1) :=
  (BitVec.ofNat_add ..).symm

theorem minsi_words (a b : Nat) (ha : a < 2 ^ 31) (hb : b < 2 ^ 31) :
    IntOp.minsi (BitVec.ofNat 32 a) (BitVec.ofNat 32 b) = BitVec.ofNat 32 (min a b) := by
  unfold IntOp.minsi BitVec.slt
  rw [WordCmp.toInt_ofNat_of_lt ha, WordCmp.toInt_ofNat_of_lt hb]
  by_cases h : a < b
  · rw [if_pos (by simpa using h), Nat.min_eq_left h.le]
  · rw [if_neg (by simpa using h), Nat.min_eq_right (by omega)]

theorem subi_words (a b : Nat) (h : b ≤ a) : IntOp.subi (BitVec.ofNat 32 a) (BitVec.ofNat 32 b) = BitVec.ofNat 32 (a - b) := by
  obtain ⟨d, rfl⟩ : ∃ d, a = d + b := ⟨a - b, by omega⟩
  show BitVec.ofNat 32 (d + b) - BitVec.ofNat 32 b = _
  rw [BitVec.ofNat_add, BitVec.add_sub_cancel, Nat.add_sub_cancel]

theorem maxsi_subi_words (a b : Nat) (ha : a < 2 ^ 31) (hb : b < 2 ^ 31) :
    IntOp.maxsi (IntOp.subi (BitVec.ofNat 32 a) (BitVec.ofNat 32 b)) 0#32 = BitVec.ofNat 32 (a - b) := by
  have e : (IntOp.subi (BitVec.ofNat 32 a) (BitVec.ofNat 32 b)).toInt = (a : Int) - b := by
    show (BitVec.ofNat 32 a - BitVec.ofNat 32 b).toInt = _
    rw [BitVec.toInt_sub, WordCmp.toInt_ofNat_of_lt ha, WordCmp.toInt_ofNat_of_lt hb]
    exact Int.bmod_eq_of_le (by omega) (by omega)
  unfold IntOp.maxsi BitVec.slt
  rw [e, BitVec.toInt_zero]
  by_cases h : b < a
  · rw [if_pos (decide_eq_true (by omega)), subi_words a b h.le]
  · rw [if_neg (by rw [decide_eq_true_iff]; omega), Nat.sub_eq_zero_of_le (by omega)]

theorem real_of_word (a : Nat) (ha : a < 2 ^ 31) : (FloatOps.sitofp .f32 (BitVec.ofNat 32 a) : Ideal .f32) = ((a : ℝ) : EReal) := by
  show (((BitVec.ofNat 32 a).toInt : ℝ) : EReal) = _
  rw [WordCmp.toInt_ofNat_of_lt ha]
  norm_num

/-- A column divided, row by row, by how many of the rows up to there a window of height `w` has. -/
def mean (w : Nat) (d : Fin T → EReal) (s : Fin T) : EReal := Ideal.div (d s) (((min (s.val + 1) w : ℕ) : ℝ) : EReal)

/-- The gradient of the windows' means less the values themselves, for a column of output gradients. -/
def poolBack (w : Nat) (d : Fin T → EReal) (i : Fin T) : EReal := window (mean w d) w i.val - d i

/-- The windows' heights, one for each group of 256 columns. -/
def heights : Fin 4 → Nat := ![2, 4, 8, 16]

abbrev PoolSlots := FVec Ideal ⟨3, ![8, 2048, 1024]⟩ .bf16

variable (dy : FVec Ideal ⟨3, ![1, 2048, 2048]⟩ .bf16) (w : FVec Ideal ⟨4, ![1, 4, 256, 512]⟩ .f32)

/-- The gradient of the pooled columns: column `j` of group `g`. -/
def pooledGrad (g : Fin 4) (j : Fin 256) : Fin 2048 → EReal :=
  fun i => ∑ l : Fin 512, dy (ix3 0 i ⟨g.val * 512 + l.val, by omega⟩) * w (ix4 0 g j l)

/-- The gradient of the pooling's argument in its slot, and around it what the array held. -/
def pooledSlot (old : PoolSlots) : PoolSlots := fun y =>
  if (y 0).val = 3 then poolBack (heights ⟨(y 2).val / 256, by have : (y 2).val < 1024 := (y 2).isLt; omega⟩)
    (pooledGrad dy w ⟨(y 2).val / 256, by have : (y 2).val < 1024 := (y 2).isLt; omega⟩ ⟨(y 2).val % 256, by omega⟩) (y 1) else old y

theorem pooledSlot_at (old : PoolSlots) (g : Fin 4) (i : Fin 2048) (j : Fin 256) (q : Fin 1024) (hq : q.val = g.val * 256 + j.val) :
    pooledSlot dy w old (ix3 3 i q) = poolBack (heights g) (pooledGrad dy w g j) i := by
  obtain ⟨q, hlt⟩ := q
  subst hq
  have e1 : (⟨(g.val * 256 + j.val) / 256, by omega⟩ : Fin 4) = g := Fin.ext (by show (g.val * 256 + j.val) / 256 = g.val; omega)
  have e2 : (⟨(g.val * 256 + j.val) % 256, by omega⟩ : Fin 256) = j := Fin.ext (by show (g.val * 256 + j.val) % 256 = j.val; omega)
  refine (if_pos rfl).trans ?_
  show poolBack (heights ⟨(g.val * 256 + j.val) / 256, by omega⟩)
    (pooledGrad dy w ⟨(g.val * 256 + j.val) / 256, by omega⟩ ⟨(g.val * 256 + j.val) % 256, by omega⟩) i = _
  rw [e1, e2]

end Cert.Shared
-- ==== Proof.Pieces.lean ====
/- Parts of a table: the coordinate of a piece, and a load of a part that begins at a computed place. -/
module

public import proofs.«01_k».proof.Proof.NormGrad
public import Idealize.ShloMosaic.Lib.Pipeline.ReadBack

@[expose] public section

noncomputable section

open Idealize.ShloMosaic Idealize.ShloMosaic.TcCoe Idealize.ShloMosaic.Tactic Idealize.SL.Sem

namespace Cert.Shared

/-- A coordinate of a piece that begins at `off`. -/
theorem piece_eq {off n N : Nat} {i : Fin N} {p : Fin n} (h : i.val = off + p.val) (hN : off + n ≤ N) :
    i = ⟨off + p.val, Nat.lt_of_lt_of_le (Nat.add_lt_add_left p.isLt off) hN⟩ := Fin.ext h

/-- The part of a table that begins at row `o` and column `q`. -/
def part {N K n k : Nat} {φ : EltTy} (x : Vec Ideal ⟨2, ![N, K]⟩ φ) (o q : Nat) (ho : o + n ≤ N) (hq : q + k ≤ K) :
    Vec Ideal ⟨2, ![n, k]⟩ φ := fun y =>
  x (ix2 ⟨o + (y 0).val, Nat.lt_of_lt_of_le (Nat.add_lt_add_left (y 0).isLt o) ho⟩
    ⟨q + (y 1).val, Nat.lt_of_lt_of_le (Nat.add_lt_add_left (y 1).isLt q) hq⟩)

/-- A load of a part of a table, where the part begins at a place computed from the grid point. -/
theorem ld_part {N K n k : Nat} {φ : EltTy} (x : Vec Ideal ⟨2, ![N, K]⟩ φ) {off : Fin 2 → Nat} {o q : Nat} (e : off = ![o, q])
    (ho : o + n ≤ N) (hq : q + k ≤ K) (h : ∀ a, off a + (![n, k] : Fin 2 → Nat) a ≤ (⟨2, ![N, K]⟩ : Shape).size a) :
    View.ld x (Rect.unit (s := ⟨2, ![N, K]⟩) off ![n, k] h) = part x o q ho hq := by
  subst e
  funext y
  exact congrArg x ((eq_ix2 _).trans (congrArg₂ ix2 (Fin.ext (by simp)) (Fin.ext (by simp))))

end Cert.Shared
-- ==== Proof.Pool.Kernel.lean ====
/- The pooling's backward kernel: what one block of 256 columns computes. -/
module

public import proofs.«01_k».proof.Proof.Gen.PoolIdeal.Value
public import proofs.«01_k».proof.Proof.WindowSum
public import proofs.«01_k».proof.Proof.Pieces

@[expose] public section

set_option maxRecDepth 16384

noncomputable section

open Idealize.ShloMosaic Idealize.ShloMosaic.TcCoe Idealize.ShloMosaic.Tactic Idealize.SL.Sem

namespace Cert.PoolIdeal.Value

open Cert.PoolIdeal Cert.PoolIdeal.Gen Cert.Shared

/-- A block divided, row by row, by how many rows the window ending there has. -/
def averaged (w : BitVec 32) (d : FVec Ideal S2048x256 .f32) : FVec Ideal S2048x256 .f32 :=
  divf d (sitofp .f32 (minsi (addi (iota .tc S2048x256 32 [0] iota_S2048x256_d0_w32) (broadcast S2048x256 1#32)) (broadcast S2048x256 w)))

/-- A block plus itself rotated, the rows that wrap around left out. -/
def doubled (n : BitVec 32) (x : FVec Ideal S2048x256 .f32) : FVec Ideal S2048x256 .f32 :=
  addf x (select (cmpi .slt (iota .tc S2048x256 32 [0] iota_S2048x256_d0_w32) (broadcast S2048x256 n))
    (dynamicRotate 0 n none x rotates_S2048x256_d0) (broadcast S2048x256 (Scalar.ofBits .f32 0x00000000#32)))

theorem averaged_at (w : Nat) (hw : w ≤ 16) (d : FVec Ideal S2048x256 .f32) (i : Fin 2048) (j : Fin 256) :
    averaged (BitVec.ofNat 32 w) d (ix2 i j) = mean w (fun s => d (ix2 s j)) i := by
  unfold averaged
  pointwise
  rw [addi_one, minsi_words _ _ (by omega) (by omega), real_of_word _ (by omega)]
  rfl

theorem doubled_at (k : Nat) (hk : k = 1 ∨ k = 2 ∨ k = 4 ∨ k = 8) (x : FVec Ideal S2048x256 .f32) (i : Fin 2048) (j : Fin 256) :
    doubled (BitVec.ofNat 32 (2048 - k)) x (ix2 i j) = x (ix2 i j) + if h : i.val + k < 2048 then x (ix2 ⟨i.val + k, h⟩ j) else 0 := by
  unfold doubled
  rcases hk with rfl | rfl | rfl | rfl
  all_goals
    simp only [Nat.reduceSub]
    pointwise
    word_cmp
  · exact congrArg (x (ix2 i j) + ·) (rotated 1 (by decide) (fun r => x (ix2 r j)) i)
  · exact congrArg (x (ix2 i j) + ·) (rotated 2 (by decide) (fun r => x (ix2 r j)) i)
  · exact congrArg (x (ix2 i j) + ·) (rotated 4 (by decide) (fun r => x (ix2 r j)) i)
  · exact congrArg (x (ix2 i j) + ·) (rotated 8 (by decide) (fun r => x (ix2 r j)) i)

/-- The product of a block of output gradients with a block of weights. -/
theorem pay5_at (x : FVec Ideal S2048x512 .bf16) (w : FVec Ideal S1x256x512 .bf16) (i : Fin 2048) (j : Fin 256) :
    k0_pay5 (F := Ideal) x w (ix2 i j) = ∑ l : Fin 512, (x (ix2 i l) : EReal) * w (ix3 0 j l) := by
  pointwise [k0_pay5]

theorem pay4_at (d x : FVec Ideal S2048x256 .f32) (i : Fin 2048) (j : Fin 256) :
    k0_pay4 (F := Ideal) d x (ix3 0 i j) = x (ix2 i j) - d (ix2 i j) := by
  pointwise [k0_pay4]

theorem pay1_eq (x : FVec Ideal S2048x512 .bf16) (w : FVec Ideal S1x256x512 .bf16) :
    k0_pay1 (F := Ideal) x w = k0_pay4 (k0_pay5 x w) (doubled 2047#32 (averaged 2#32 (k0_pay5 x w))) := rfl
theorem pay2_eq (x : FVec Ideal S2048x512 .bf16) (w : FVec Ideal S1x256x512 .bf16) :
    k0_pay2 (F := Ideal) x w = k0_pay4 (k0_pay5 x w) (doubled 2046#32 (doubled 2047#32 (averaged 4#32 (k0_pay5 x w)))) := rfl
theorem pay3_eq (x : FVec Ideal S2048x512 .bf16) (w : FVec Ideal S1x256x512 .bf16) :
    k0_pay3 (F := Ideal) x w
      = k0_pay4 (k0_pay5 x w) (doubled 2044#32 (doubled 2046#32 (doubled 2047#32 (averaged 8#32 (k0_pay5 x w))))) := rfl
theorem pay6_eq (x : FVec Ideal S2048x512 .bf16) (w : FVec Ideal S1x256x512 .bf16) :
    k0_pay6 (F := Ideal) x w = doubled 2040#32 (doubled 2044#32 (doubled 2046#32 (doubled 2047#32 (averaged 16#32 (k0_pay5 x w))))) := rfl

/-- One doubling: sums of `k` rows become sums of `2 k` rows. -/
theorem doubled_window (k n : Nat) (hk : k = 1 ∨ k = 2 ∨ k = 4 ∨ k = 8) (hn : n = 2048 - k) (x : FVec Ideal S2048x256 .f32) (j : Fin 256)
    (a : Fin 2048 → EReal) (h : ∀ i : Fin 2048, x (ix2 i j) = window a k i.val) (i : Fin 2048) :
    doubled (BitVec.ofNat 32 n) x (ix2 i j) = window a (k + k) i.val := by
  subst hn
  exact (doubled_at k hk x i j).trans (window_double a (fun i => x (ix2 i j)) k h i)

section Heights

variable (d : FVec Ideal S2048x256 .f32) (j : Fin 256)

theorem first_window (w : Nat) (hw : w ≤ 16) (i : Fin 2048) :
    averaged (BitVec.ofNat 32 w) d (ix2 i j) = window (mean w fun s => d (ix2 s j)) 1 i.val :=
  (averaged_at w hw d i j).trans (window_one _ i).symm

theorem two_rows (w : Nat) (hw : w ≤ 16) (i : Fin 2048) :
    doubled 2047#32 (averaged (BitVec.ofNat 32 w) d) (ix2 i j) = window (mean w fun s => d (ix2 s j)) 2 i.val :=
  doubled_window 1 2047 (by decide) rfl _ j _ (first_window d j w hw) i

theorem four_rows (w : Nat) (hw : w ≤ 16) (i : Fin 2048) :
    doubled 2046#32 (doubled 2047#32 (averaged (BitVec.ofNat 32 w) d)) (ix2 i j) = window (mean w fun s => d (ix2 s j)) 4 i.val :=
  doubled_window 2 2046 (by decide) rfl _ j _ (two_rows d j w hw) i

theorem eight_rows (w : Nat) (hw : w ≤ 16) (i : Fin 2048) :
    doubled 2044#32 (doubled 2046#32 (doubled 2047#32 (averaged (BitVec.ofNat 32 w) d))) (ix2 i j)
      = window (mean w fun s => d (ix2 s j)) 8 i.val :=
  doubled_window 4 2044 (by decide) rfl _ j _ (four_rows d j w hw) i

theorem sixteen_rows (w : Nat) (hw : w ≤ 16) (i : Fin 2048) :
    doubled 2040#32 (doubled 2044#32 (doubled 2046#32 (doubled 2047#32 (averaged (BitVec.ofNat 32 w) d)))) (ix2 i j)
      = window (mean w fun s => d (ix2 s j)) 16 i.val :=
  doubled_window 8 2040 (by decide) rfl _ j _ (eight_rows d j w hw) i

end Heights

section Payload

variable (x : FVec Ideal S2048x512 .bf16) (w : FVec Ideal S1x256x512 .bf16) (i : Fin 2048) (j : Fin 256)

/-- A column of the product of a block of output gradients with a block of weights. -/
abbrev product : Fin 2048 → EReal := fun i => ∑ l : Fin 512, (x (ix2 i l) : EReal) * w (ix3 0 j l)

theorem product_eq : (fun s => k0_pay5 (F := Ideal) x w (ix2 s j)) = product x w j := funext fun s => pay5_at x w s j

theorem pay1_at : k0_pay1 (F := Ideal) x w (ix3 0 i j) = poolBack 2 (product x w j) i := by
  rw [pay1_eq, pay4_at, ← product_eq]
  exact congrArg (· - _) (two_rows _ j 2 (by decide) i)

theorem pay2_at : k0_pay2 (F := Ideal) x w (ix3 0 i j) = poolBack 4 (product x w j) i := by
  rw [pay2_eq, pay4_at, ← product_eq]
  exact congrArg (· - _) (four_rows _ j 4 (by decide) i)

theorem pay3_at : k0_pay3 (F := Ideal) x w (ix3 0 i j) = poolBack 8 (product x w j) i := by
  rw [pay3_eq, pay4_at, ← product_eq]
  exact congrArg (· - _) (eight_rows _ j 8 (by decide) i)

theorem pay46_at : k0_pay4 (F := Ideal) (k0_pay5 x w) (k0_pay6 x w) (ix3 0 i j) = poolBack 16 (product x w j) i := by
  rw [pay6_eq, pay4_at, ← product_eq]
  exact congrArg (· - _) (sixteen_rows _ j 16 (by decide) i)

end Payload

variable (m : (ℓ : Loc nD τ sig) → Buf (Elt Ideal) ℓ)

/-- What block `t` leaves. -/
theorem outs (c : Dev nD) (t : Fin cfg0.N) (g : Fin 4) (hg : t.val = g.val) (i : Fin 2048) (j : Fin 256) :
    outsAt0 m c t.val t.isLt (ix3 0 i j) = poolBack (heights g) (product (iblk m c 0 t) (iblk m c 1 t) j) i := by
  have e : (ix3 (0 : Fin 1) i j) = ix3 0 i j := rfl
  fin_cases g
  · rw [outsAt0_A m c t (by rw [hg]; rfl) (by rw [hg]; decide) (by rw [hg]; decide) (by rw [hg]; decide)]
    unfold out0_A_2
    frame_out
    exact pay1_at _ _ i j
  · rw [outsAt0_B m c t (by rw [hg]; decide) (by rw [hg]; rfl) (by rw [hg]; decide) (by rw [hg]; decide)]
    unfold out0_B_2
    frame_out
    exact pay2_at _ _ i j
  · rw [outsAt0_C m c t (by rw [hg]; decide) (by rw [hg]; decide) (by rw [hg]; rfl) (by rw [hg]; decide)]
    unfold out0_C_2
    frame_out
    exact pay3_at _ _ i j
  · rw [outsAt0_D m c t (by rw [hg]; decide) (by rw [hg]; decide) (by rw [hg]; decide) (by rw [hg]; rfl)]
    unfold out0_D_2
    frame_out
    exact pay46_at _ _ i j

theorem idx : ∀ t : Fin cfg0.N, win0_0.index t = ![0, t.val] ∧ win0_1.index t = ![t.val, 0, 0] ∧ win0_2.index t = ![3, 0, t.val] :=
  (by decide +kernel : ∀ t : Fin grid0.N, _)

/-- The argument arrays, at their shapes. -/
abbrev oldOf (c : Dev nD) : PoolSlots := m ((c.tc : Thread nD τ).loc main_arg0)
abbrev dyOf (c : Dev nD) : FVec Ideal S1x2048x2048 .bf16 := m ((c.tc : Thread nD τ).loc main_arg2)
abbrev wOf (c : Dev nD) : FVec Ideal S1x4x256x512 .f32 := m ((c.tc : Thread nD τ).loc main_arg3)

/-- What the host lines hand to the kernel, entry by entry. -/
theorem V_v6 (c : Dev nD) (i k : Fin 2048) : V m c main_v6 (ix2 i k) = dyOf m c (ix3 0 i k) := by
  have e : V m c main_v6 = shapeCast S2048x2048 (dyOf m c) shapeCasts_S1x2048x2048_S2048x2048 := by
    unfold V
    after_results
    rfl
  rw [e]
  pointwise

theorem V_v5 (c : Dev nD) (g : Fin 4) (j : Fin 256) (l : Fin 512) : V m c main_v5 (ix3 g j l) = wOf m c (ix4 0 g j l) := by
  have e : V m c main_v5 = shapeCast S4x256x512 (transpose S4x256x8x64 [1, 2, 0, 3] (transpose S8x4x256x64 [2, 0, 1, 3]
      (shapeCast S4x256x8x64 (truncf (F := Ideal) .bf16 (shapeCast S4x256x512 (wOf m c) shapeCasts_S1x4x256x512_S4x256x512) bitsLt_bf16_f32)
        shapeCasts_S4x256x512_S4x256x8x64) transposes_S4x256x8x64_S8x4x256x64_2_0_1_3) transposes_S8x4x256x64_S4x256x8x64_1_2_0_3)
      shapeCasts_S4x256x8x64_S4x256x512 := by
    unfold V
    after_results
    rfl
  rw [e]
  pointwise

theorem V_v7 (c : Dev nD) : V m c main_v7 = oldOf m c := by
  unfold V
  after_results
  rfl

theorem product_block (c : Dev nD) (t : Fin cfg0.N) (g : Fin 4) (hg : t.val = g.val) (j : Fin 256) :
    product (iblk m c 0 t) (iblk m c 1 t) j = pooledGrad (dyOf m c) (wOf m c) g j := by
  funext i
  refine Finset.sum_congr rfl fun l _ => congrArg₂ (fun x y : EReal => x * y) ?_ ?_
  · exact (show _ = V m c main_v6 (ix2 i ⟨g.val * 512 + l.val, by omega⟩) by blk_point [iblk, idx t, hg]).trans (V_v6 m c i _)
  · exact (show _ = V m c main_v5 (ix3 g j l) by blk_point [iblk, idx t, hg]).trans (V_v5 m c g j l)

/-- The array after the kernel. -/
theorem array2 (c : Dev nD) : (dats m 0 c).arrAt 2 cfg0.N = pooledSlot (dyOf m c) (wOf m c) (oldOf m c) := by
  have h : (dats m 0 c).arrAt 2 cfg0.N = fun i : S8x2048x1024.Idx => if (i 0).val = 3 then
      pooledSlot (dyOf m c) (wOf m c) (oldOf m c) i else V m c main_v7 i := by
    refine (dats m 0 c).arrAt_eq_of_coversWhere 2 _ (fun β => β (0 : Fin 3) = 3) (by decide +kernel) (fun t hf y => ?_)
      (fun j => by blk_simp [Pipeline.Window.cell_apply]; omega)
    blk_simp
    rw [after0_2]
    have ht : t.val < 4 := lt_of_lt_of_eq t.isLt N_0
    obtain ⟨i, j, rfl⟩ : ∃ (i : Fin 2048) (j : Fin 256), y = ix3 0 i j := ⟨y 1, y 2, by blk_ext⟩
    have e : (win0_2.blk t).view.emb (ix3 0 i j) = ix3 ⟨3, by decide⟩ i ⟨t.val * 256 + j.val, by omega⟩ := by blk_ext [idx t]
    rw [e]
    exact (outs m c t ⟨t.val, ht⟩ rfl i j).trans ((congrArg (poolBack _ · i) (product_block m c t ⟨t.val, ht⟩ rfl j)).trans
      (pooledSlot_at (dyOf m c) (wOf m c) (oldOf m c) ⟨t.val, ht⟩ i j ⟨t.val * 256 + j.val, by omega⟩ rfl).symm)
  rw [h, V_v7]
  funext i
  unfold pooledSlot
  by_cases ha : (i 0).val = 3
  · exact if_pos ha
  · rw [if_neg ha, if_neg ha]

end Cert.PoolIdeal.Value

end
-- ==== Proof.Pool.Reference.lean ====
/- The pooling's reference: the gradient of the running sums, their differences and the counts. -/
module

public import proofs.«01_k».proof.Proof.Gen.PoolRefIdeal.Run
public import proofs.«01_k».proof.Proof.WindowSum
public import Idealize.ShloMosaic.Lib.Routing.OpsPair

@[expose] public section

set_option maxRecDepth 16384

noncomputable section

open Idealize.ShloMosaic Idealize.ShloMosaic.TcCoe Idealize.ShloMosaic.Tactic Idealize.SL.Sem

namespace Cert.PoolRefIdeal.Value

open Cert.PoolRefIdeal Cert.PoolRefIdeal.Gen Cert.Shared

/-- For each row, the number of rows up to it. -/
def upTo : IVec S2048x4 32 :=
  broadcastInDim S2048x4 ![0, 1] bcast_S2048x1_S2048x4_0_1 (addi (broadcastInDim S2048x1 ![0] bcast_S2048_S2048x1_0 (iotaInDim S2048 32 0))
    (broadcastInDim S2048x1 ![] bcast_S_S2048x1 (constantI S_ 32 1#32)))

/-- For each row and group, where the window ending at the row starts. -/
def starts : IVec S2048x4 32 :=
  maxsi (subi upTo (broadcastInDim S2048x4 ![0, 1] bcast_S1x4_S2048x4_0_1 (broadcastInDim S1x4 ![1] bcast_S4_S1x4_1 ((fun i => lit0 (S4.rowMajor i))))))
    (broadcastInDim S2048x4 ![] bcast_S_S2048x4 (constantI S_ 32 0#32))

/-- Start and group, as the scatter takes them. -/
def places : IVec S2048x4x2 32 :=
  concatenate S2048x4x2 2 [⟨S2048x4x1, broadcastInDim S2048x4x1 ![0, 1] bcast_S2048x4_S2048x4x1_0_1
      (select (cmpi .slt starts (broadcastInDim S2048x4 ![] bcast_S_S2048x4 (constantI S_ 32 0#32)))
        (addi starts (broadcastInDim S2048x4 ![] bcast_S_S2048x4 (constantI S_ 32 2049#32))) starts)⟩,
    ⟨S2048x4x1, broadcastInDim S2048x4x1 ![0, 1] bcast_S2048x4_S2048x4x1_0_1 (broadcastInDim S2048x4 ![0, 1] bcast_S1x4_S2048x4_0_1
      (select (cmpi .slt (broadcastInDim S1x4 ![1] bcast_S4_S1x4_1 (iotaInDim S4 32 0)) (broadcastInDim S1x4 ![] bcast_S_S1x4 (constantI S_ 32 0#32)))
        (addi (broadcastInDim S1x4 ![1] bcast_S4_S1x4_1 (iotaInDim S4 32 0)) (broadcastInDim S1x4 ![] bcast_S_S1x4 (constantI S_ 32 4#32)))
        (broadcastInDim S1x4 ![1] bcast_S4_S1x4_1 (iotaInDim S4 32 0))))⟩] concatenates_S2048x4x1_S2048x4x1_S2048x4x2_d2

variable (dy : FVec Ideal S1x2048x2048 .bf16) (w : FVec Ideal S1x4x256x512 .f32) (old : FVec Ideal S8x2048x1024 .bf16)

/-- The gradients of the pooled columns. -/
def pooled : FVec Ideal S1x2048x4x256 .f32 :=
  transpose S1x2048x4x256 [1, 2, 0, 3] (Host.dotGeneral dot_S4x512x1x2048_S4x256x512_S4x1x2048x256_1_2_23_1_0_0 none
    (transpose S4x512x1x2048 [2, 3, 0, 1] (shapeCast _ (extf .f32 dy bitsLt_bf16_f32) shapeCasts_S1x2048x2048_S1x2048x4x512)
      transposes_S1x2048x4x512_S4x512x1x2048_2_3_0_1) (shapeCast _ w shapeCasts_S1x4x256x512_S4x256x512)) transposes_S4x1x2048x256_S1x2048x4x256_1_2_0_3

/-- … divided by how many rows each window has. -/
def means : FVec Ideal S1x2048x4x256 .f32 :=
  Host.divf (pooled dy w) (broadcastInDim S1x2048x4x256 ![0, 1, 2, 3] bcast_S1x2048x4x1_S1x2048x4x256_0_1_2_3
    (broadcastInDim S1x2048x4x1 ![1, 2] bcast_S2048x4_S1x2048x4x1_1_2 (sitofp .f32 (subi upTo starts))))

/-- … taken off where the windows start. -/
def taken : FVec Ideal S1x2049x4x256 .f32 :=
  Host.scatterAdd scatter_S1x2049x4x256_S2048x4x2_S1x2048x4x256_03_12_12_2
    (broadcastInDim S1x2049x4x256 ![] bcast_S_S1x2049x4x256 (constant S_ .f32 0x00000000#32)) places (Host.negf (means dy w))

/-- … and added where they end. -/
def changes : FVec Ideal S1x2048x4x256 .f32 :=
  extractStridedSlice S1x2048x4x256 ![0, 1, 0, 0] (addf (taken dy w) (pad S1x2049x4x256 ![0, 1, 0, 0] ![0, 0, 0, 0] ![0, 0, 0, 0] (means dy w)
    (constant S_ .f32 0x00000000#32) pads_S1x2048x4x256_S1x2049x4x256_000_100_000_000 h_S_)) slices_S1x2049x4x256_S1x2048x4x256_0_1_0_0

/-- The sums of the changes from each row on. -/
def sums : FVec Ideal S1x2048x4x256 .f32 :=
  Host.reduceWindowAdd ![1, 2048, 1, 1] ![1, 1, 1, 1] ![0, 0, 0, 0] ![0, 2047, 0, 0] (changes dy w)
    (broadcastInDim S_ ![] bcast_S_S_ (constant S_ .f32 0x00000000#32))
    reduceWindows_S1x2048x4x256_S1x2048x4x256_w1s1p0_0_w2048s1p0_2047_w1s1p0_0_w1s1p0_0 h_S_

/-- The result. -/
def slot : FVec Ideal S8x2048x1024 .bf16 :=
  concatenate S8x2048x1024 0 [⟨S3x2048x1024, extractStridedSlice S3x2048x1024 ![0, 0, 0] old slices_S8x2048x1024_S3x2048x1024_0_0_0⟩,
    ⟨S1x2048x1024, truncf .bf16 (shapeCast _ (addf (Host.negf (pooled dy w)) (sums dy w)) shapeCasts_S1x2048x4x256_S1x2048x1024) bitsLt_bf16_f32⟩,
    ⟨S4x2048x1024, extractStridedSlice S4x2048x1024 ![4, 0, 0] old slices_S8x2048x1024_S4x2048x1024_4_0_0⟩]
    concatenates_S3x2048x1024_S1x2048x1024_S4x2048x1024_S8x2048x1024_d0

variable (t : Fin 2048) (g : Fin 4) (l : Fin 256)

theorem lit_heights : lit0 (S4.rowMajor (ix1 g)) = BitVec.ofNat 32 (heights g) := by
  fin_cases g <;> rfl

theorem heights_le : 0 < heights g ∧ heights g ≤ 16 := by
  fin_cases g <;> decide

theorem upTo_at : upTo (ix2 t g) = BitVec.ofNat 32 (t.val + 1) := by
  rw [← addi_one]
  pointwise [upTo]

theorem starts_at : starts (ix2 t g) = BitVec.ofNat 32 (t.val + 1 - heights g) := by
  have h := heights_le g
  rw [← maxsi_subi_words _ _ (by omega) (by omega), ← upTo_at t g, ← lit_heights]
  pointwise [starts]

theorem pooled_at : pooled dy w (ix4 0 t g l) = pooledGrad dy w g l t := by
  unfold pooledGrad
  pointwise [pooled]

theorem means_at : means dy w (ix4 0 t g l) = mean (heights g) (pooledGrad dy w g l) t := by
  have h := heights_le g
  unfold mean
  rw [← pooled_at, ← real_of_word _ (by omega), show min (t.val + 1) (heights g) = t.val + 1 - (t.val + 1 - heights g) by omega,
    ← subi_words _ _ (by omega), ← starts_at t g, ← upTo_at t g]
  pointwise [means]

theorem place0_at : places (ix3 t g 0) = BitVec.ofNat 32 (t.val + 1 - heights g) := by
  rw [← Routing.wrap_of_lt (BitVec.ofNat 32 (t.val + 1 - heights g)) (IntOp.addi (BitVec.ofNat 32 (t.val + 1 - heights g)) 2049#32)
    (by rw [WordCmp.toNat_ofNat_of_lt (by omega)]; omega), ← starts_at t g]
  pointwise [places]

theorem place1_at : places (ix3 t g 1) = BitVec.ofNat 32 g.val := by
  rw [← Routing.wrap_of_lt (BitVec.ofNat 32 g.val) (IntOp.addi (BitVec.ofNat 32 g.val) 4#32)
    (by rw [WordCmp.toNat_ofNat_of_lt (by omega)]; omega)]
  pointwise [places]

/-- The scatter, under a short name. -/
abbrev sc : ScatterDims S1x2049x4x256 S2048x4x2 S1x2048x4x256 := scatter_S1x2049x4x256_S2048x4x2_S1x2048x4x256_03_12_12_2

theorem siIdx0 (h) : sc.siIdx (ix4 0 t g l) ⟨0, h⟩ = ix3 t g 0 := by
  funext b
  match b with
  | ⟨0, _⟩ => rfl
  | ⟨1, _⟩ => rfl
  | ⟨2, _⟩ => rfl

theorem siIdx1 (h) : sc.siIdx (ix4 0 t g l) ⟨1, h⟩ = ix3 t g 1 := by
  funext b
  match b with
  | ⟨0, _⟩ => rfl
  | ⟨1, _⟩ => rfl
  | ⟨2, _⟩ => rfl

theorem start1 (x : IVec S2048x4x2 32) : sc.start (ix4 0 t g l) x 1 = (x (ix3 t g 0)).toInt :=
  (dif_pos (by decide)).trans (congrArg (fun i => (x i).toInt) (siIdx0 t g l (by decide)))

theorem start2 (x : IVec S2048x4x2 32) : sc.start (ix4 0 t g l) x 2 = (x (ix3 t g 1)).toInt :=
  (dif_pos (by decide)).trans (congrArg (fun i => (x i).toInt) (siIdx1 t g l (by decide)))

/-- Where an update starts, and where in its window it lies, axis by axis. -/
theorem along0 : sc.start (ix4 0 t g l) places 0 + (sc.window (ix4 0 t g l) 0 : Int) = 0 := by
  have e : sc.start (ix4 0 t g l) places 0 = 0 := rfl
  have e' : sc.window (ix4 0 t g l) 0 = 0 := rfl
  rw [e, e']
  exact add_zero _
theorem along1 : sc.start (ix4 0 t g l) places 1 + (sc.window (ix4 0 t g l) 1 : Int) = ((t.val + 1 - heights g : ℕ) : Int) := by
  have e' : sc.window (ix4 0 t g l) 1 = 0 := rfl
  rw [start1, e', place0_at, WordCmp.toInt_ofNat_of_lt (by omega)]
  exact add_zero _
theorem along2 : sc.start (ix4 0 t g l) places 2 + (sc.window (ix4 0 t g l) 2 : Int) = (g.val : Int) := by
  have e' : sc.window (ix4 0 t g l) 2 = 0 := rfl
  rw [start2, e', place1_at, WordCmp.toInt_ofNat_of_lt (by omega)]
  exact add_zero _
theorem along3 : sc.start (ix4 0 t g l) places 3 + (sc.window (ix4 0 t g l) 3 : Int) = (l.val : Int) := by
  have e : sc.start (ix4 0 t g l) places 3 = 0 := rfl
  have e' : sc.window (ix4 0 t g l) 3 = l.val := rfl
  rw [e, e', zero_add]

/-- An update lands in the row its window starts at, in its own column. -/
theorem lands (k : Fin 2048) (g' : Fin 4) (l' : Fin 256) (p : Fin 2049) :
    sc.resultIdx? (ix4 0 k g' l') places = some (ix4 0 p g l) ↔ k.val + 1 - heights g = p.val ∧ g' = g ∧ l' = l := by
  rw [Routing.resultIdx?_eq_some]
  constructor
  · intro h
    have a1 := (along1 k g' l').symm.trans (h 1)
    have a2 := (along2 k g' l').symm.trans (h 2)
    have a3 := (along3 k g' l').symm.trans (h 3)
    obtain rfl : g' = g := Fin.ext (Int.ofNat.inj a2)
    exact ⟨Int.ofNat.inj a1, rfl, Fin.ext (Int.ofNat.inj a3)⟩
  · rintro ⟨h, rfl, rfl⟩ a
    match a with
    | ⟨0, _⟩ => exact along0 k g' l'
    | ⟨1, _⟩ => exact (along1 k g' l').trans (congrArg _ h)
    | ⟨2, _⟩ => exact along2 k g' l'
    | ⟨3, _⟩ => exact along3 k g' l'

theorem taken_at (p : Fin 2049) : taken dy w (ix4 0 p g l)
    = ∑ k : Fin 2048, if k.val + 1 - heights g = p.val then -means dy w (ix4 0 k g l) else 0 := by
  have first : ∀ j : S1x2048x4x256.Idx, j = ix4 0 (j 1) (j 2) (j 3) := fun j => by
    refine (eq_ix4 j).trans ?_
    have h0 : j 0 = (0 : Fin 1) := Subsingleton.elim (α := Fin 1) _ _
    rw [h0]
    rfl
  have hit : ∀ j : S1x2048x4x256.Idx, sc.resultIdx? j places = some (ix4 0 p g l)
      ↔ (j 1).val + 1 - heights g = p.val ∧ j 2 = g ∧ j 3 = l := fun j => by
    rw [first j]
    exact lands g l (j 1) (j 2) (j 3) p
  show Ideal.hostScatterAdd _ _ _ _ _ = _
  unfold Ideal.hostScatterAdd
  rw [← Finset.sum_filter]
  refine Eq.trans (congrArg (· + _) (show _ = (0 : EReal) by pointwise)) ((zero_add _).trans ?_)
  refine Finset.sum_nbij' (fun j => j 1) (fun k => ix4 0 k g l) ?_ ?_ ?_ ?_ ?_
  · intro j hj
    exact Finset.mem_filter.mpr ⟨Finset.mem_univ _, ((hit j).mp (Finset.mem_filter.mp hj).2).1⟩
  · intro k hk
    exact Finset.mem_filter.mpr ⟨Finset.mem_univ _, (lands g l k g l p).mpr ⟨(Finset.mem_filter.mp hk).2, rfl, rfl⟩⟩
  · intro j hj
    obtain ⟨-, h2, h3⟩ := (hit j).mp (Finset.mem_filter.mp hj).2
    show ix4 0 (j 1) g l = j
    rw [← h2, ← h3]
    exact (first j).symm
  · intro k hk
    rfl
  · intro j hj
    obtain ⟨-, h2, h3⟩ := (hit j).mp (Finset.mem_filter.mp hj).2
    show -means dy w j = -means dy w (ix4 0 (j 1) g l)
    rw [← h2, ← h3]
    exact congrArg (-·) (congrArg (means dy w) (first j))

theorem changes_at : changes dy w (ix4 0 t g l) = means dy w (ix4 0 t g l)
    + ∑ k : Fin 2048, if k.val + 1 - heights g = t.val + 1 then -means dy w (ix4 0 k g l) else 0 := by
  rw [← taken_at dy w g l ⟨t.val + 1, by omega⟩, add_comm, show (⟨t.val + 1, by omega⟩ : Fin 2049) = ⟨1 + t.val, by omega⟩ from
    Fin.ext (add_comm _ _)]
  pointwise [changes]

theorem sums_at : sums dy w (ix4 0 t g l) = ∑ k : Fin 2048, if h : t.val + k.val < 2048 then changes dy w (ix4 0 ⟨t.val + k.val, h⟩ g l) else 0 := by
  unfold sums Host.reduceWindowAdd
  rw [Ideal.hostReduceWindowAdd_def]
  refine (congrArg (fun v => Ideal.hostReduceWindowAdd _ _ _ _ _ (changes dy w) v (ix4 0 t g l)) (show _ = (0 : EReal) by pointwise)).trans ?_
  exact sum_from (changes dy w) 2047 _ t g l

/-- For finite arguments, the sums are the windows' sums. -/
theorem sums_window (hd : ∀ i, ∃ r : ℝ, dy i = (r : EReal)) (hw : ∀ i, ∃ r : ℝ, w i = (r : EReal)) :
    sums dy w (ix4 0 t g l) = window (mean (heights g) (pooledGrad dy w g l)) (heights g) t.val := by
  rw [sums_at]
  simp only [changes_at, means_at]
  choose rd hd using hd
  choose rw hw using hw
  refine window_of_tails (mean (heights g) (pooledGrad dy w g l)) (fun s => (∑ k : Fin 512, rd (ix3 0 s ⟨g.val * 512 + k.val, by omega⟩)
    * rw (ix4 0 g l k)) / ((min (s.val + 1) (heights g) : ℕ) : ℝ)) (fun s => ?_) _ (heights_le g).1 t
  unfold mean pooledGrad
  simp only [hd, hw, ← EReal.coe_mul]
  rw [← coe_sum, Ideal.div_coe (by have := heights_le g; exact_mod_cast (show min (s.val + 1) (heights g) ≠ 0 by omega)), ← EReal.coe_mul, mul_one_div]

theorem slot_eq (hd : ∀ i, ∃ r : ℝ, dy i = (r : EReal)) (hw : ∀ i, ∃ r : ℝ, w i = (r : EReal)) : slot dy w old = pooledSlot dy w old := by
  funext y
  obtain ⟨a, i, q, rfl⟩ : ∃ (a : Fin 8) (i : Fin 2048) (q : Fin 1024), y = ix3 a i q := ⟨y 0, y 1, y 2, eq_ix3 y⟩
  by_cases ha : a.val = 3
  · obtain rfl : a = 3 := Fin.ext ha
    refine Eq.trans ?_ (pooledSlot_at dy w old ⟨q.val / 256, by omega⟩ i ⟨q.val % 256, by omega⟩ q (by show q.val = q.val / 256 * 256 + q.val % 256; omega)).symm
    unfold poolBack
    rw [← sums_window dy w i ⟨q.val / 256, by omega⟩ ⟨q.val % 256, by omega⟩ hd hw, ← pooled_at, sub_eq_add_neg, add_comm]
    pointwise [slot]
  · refine Eq.trans ?_ (if_neg ha).symm
    pointwise [slot]
    by_cases h : a.val < 3
    · rw [dif_pos h]
    · rw [dif_neg h, dif_neg (by omega)]
      exact congrArg old (congrArg (ix3 · i q) (Fin.ext (by show 4 + (a.val - 3 - 1) = a.val; omega)))

end Cert.PoolRefIdeal.Value

end
-- ==== Proof.Pool.Claims.lean ====
/- The claims about the pooling's gradient. -/
module

public import proofs.«01_k».proof.Defs
public import proofs.«01_k».proof.Proof.Gen.Pre_pool_finite
public import proofs.«01_k».proof.Proof.Gen.Pool.Frame
public import proofs.«01_k».proof.Proof.Pool.Kernel
public import proofs.«01_k».proof.Proof.Pool.Reference

@[expose] public section

set_option maxRecDepth 16384

noncomputable section

open Idealize.ShloMosaic Idealize.ShloMosaic.TcCoe Idealize.SL.Sem

namespace Cert.PoolClaims

open Cert.Shared

theorem value : algebraic_PoolIdeal_PoolRefIdeal_pre_pool_finite := by
  intro m g m' g' hpre hagree
  refine ⟨_, (θ_run _ _ _).mono (fun r h c => h c) (Cert.PoolIdeal.Value.run_blocks m g), ?_⟩
  refine (θ_run _ _ _).mono (fun r h c => ?_) (Cert.PoolRefIdeal.Value.run m' g')
  obtain ⟨h0, h1⟩ := h c
  obtain ⟨a0, a1, a2, a3⟩ := hagree c
  obtain ⟨f0, f1⟩ := hpre c
  obtain ⟨d, hd⟩ := reals_of_bits _ _ f0
  obtain ⟨w, hw⟩ := reals_of_bits _ _ f1
  refine ⟨h0.trans ?_, h1⟩
  rw [Cert.PoolIdeal.Value.array2]
  refine Eq.trans ?_ (Cert.PoolRefIdeal.Value.slot_eq (Cert.PoolIdeal.Value.dyOf m c) (Cert.PoolIdeal.Value.wOf m c)
    (Cert.PoolIdeal.Value.oldOf m c) (fun i => ⟨d i, hd i⟩) (fun i => ⟨w i, hw i⟩))
  unfold Cert.PoolRefIdeal.Value.res_main_v69
  rw [a0, a2, a3]
  rfl

theorem frame_reference : quiescent_PoolRefIdeal := fun m ρ _ =>
  (θ_run _ _ _).mono (fun r h => ⟨fun c => (h c).2, sem_eq_zero_of_no_sems (by decide) r.2⟩)
    (Cert.PoolRefIdeal.Value.run m ρ)

end Cert.PoolClaims

end
-- ==== Proof.Conv.Columns.lean ====
/- The causal convolution of one column and its gradients: the functions both programs are compared through. -/
module

public import proofs.«01_k».proof.Proof.NormGrad

@[expose] public section

noncomputable section

open Idealize.ShloMosaic Idealize.SL.Sem

namespace Cert.Shared

/-- A column: one entry per token. -/
abbrev Col := Fin 2048 → EReal

/-- The column moved `n` tokens later, zero before. -/
def later (n : Nat) (f : Col) : Col := fun i => if n ≤ i.val then f ⟨i.val - n, by omega⟩ else 0

/-- A column rotated by `n` tokens, the tokens that wrap around left out, is the column moved `n` tokens later. -/
theorem later_rotated (n : Nat) (hn : n < 2048) (f : Col) (i : Fin 2048) :
    (if n ≤ i.val then f ⟨(i.val + 2048 - n) % 2048, Nat.mod_lt _ (by decide)⟩ else 0) = later n f i := by
  unfold later
  by_cases h : n ≤ i.val
  · rw [if_pos h, if_pos h]
    refine congrArg f (Fin.ext ?_)
    show (i.val + 2048 - n) % 2048 = i.val - n
    omega
  · rw [if_neg h, if_neg h]

/-- The column moved `n` tokens earlier, zero after. -/
def earlier (n : Nat) (f : Col) : Col := fun i => if h : i.val + n < 2048 then f ⟨i.val + n, h⟩ else 0

/-- The convolution of a column with three weights, plus the bias. -/
def convCol (w : Fin 3 → EReal) (b : EReal) (f : Col) : Col :=
  fun i => b + w 0 * later 2 f i + w 1 * later 1 f i + w 2 * f i

/-- The gradient of the convolution's argument, from the gradient of its result. -/
def convBack (w : Fin 3 → EReal) (d : Col) : Col :=
  fun i => w 2 * d i + w 1 * earlier 1 d i + w 0 * earlier 2 d i

/-- The argument as the weight `a` meets it. -/
def tapped (a : Fin 3) (f : Col) : Col := if a = 0 then later 2 f else if a = 1 then later 1 f else f

abbrev Proj := FVec Ideal ⟨3, ![1, 2048, 8192]⟩ .f32
abbrev Taps := FVec Ideal ⟨3, ![1, 3, 1024]⟩ .f32
abbrev Slots := FVec Ideal ⟨3, ![8, 2048, 1024]⟩ .bf16

variable (dya : FVec Ideal ⟨3, ![1, 2048, 2048]⟩ .bf16) (wa : FVec Ideal ⟨3, ![1, 1024, 2048]⟩ .f32) (p : Proj) (w : Taps)
  (b : FVec Ideal ⟨2, ![1, 1024]⟩ .f32) (j : Fin 1024)

/-- The gradient of the output product's argument, in column `j`. -/
def outGrad : Col := fun i => ∑ k : Fin 2048, dya (ix3 0 i k) * wa (ix3 0 j k)

/-- Column `j` of the gate and of the two factors. -/
def gateCol : Col := fun i => p (ix3 0 i ⟨j.val, by omega⟩)
def firstCol : Col := fun i => p (ix3 0 i ⟨1024 + j.val, by omega⟩)
def secondCol : Col := fun i => p (ix3 0 i ⟨2048 + j.val, by omega⟩)
def factorCol : Col := fun i => firstCol p j i * secondCol p j i

/-- The gradient of the convolution's result, in column `j`. -/
def convOutGrad : Col := fun i => outGrad dya wa j i * gateCol p j i

def taps : Fin 3 → EReal := fun a => w (ix3 0 a j)

/-- The gradients of the gate and of the two factors, and behind them what the array held. -/
def slotGrads (old : Slots) : Slots := fun y =>
  if (y 0).val = 0 then outGrad dya wa (y 2) (y 1) * convCol (taps w (y 2)) (b (ix2 0 (y 2))) (factorCol p (y 2)) (y 1)
  else if (y 0).val = 1 then convBack (taps w (y 2)) (convOutGrad dya wa p (y 2)) (y 1) * secondCol p (y 2) (y 1)
  else if (y 0).val = 2 then convBack (taps w (y 2)) (convOutGrad dya wa p (y 2)) (y 1) * firstCol p (y 2) (y 1)
  else old y

/-- The gradient of the weights. -/
def tapGrads : FVec Ideal ⟨2, ![3, 1024]⟩ .f32 := fun y =>
  ∑ i, convOutGrad dya wa p (y 1) i * tapped (y 0) (factorCol p (y 1)) i

/-- The gradient of the bias. -/
def biasGrads : FVec Ideal ⟨2, ![1, 1024]⟩ .f32 := fun y => ∑ i, convOutGrad dya wa p (y 1) i

end Cert.Shared

end
-- ==== Proof.Conv.Kernel.lean ====
/- The convolution's backward kernel: what one block of 128 columns computes. -/
module

public import proofs.«01_k».proof.Proof.Gen.ConvIdeal.Value
public import proofs.«01_k».proof.Proof.Conv.Columns

@[expose] public section

set_option maxRecDepth 16384

noncomputable section

open Idealize.ShloMosaic Idealize.ShloMosaic.TcCoe Idealize.SL.Sem

namespace Cert.ConvIdeal.Value

open Cert.ConvIdeal Cert.ConvIdeal.Gen Cert.Shared

/-- A sum of products over 2048 entries, the second factor being kept in eight runs of 256. -/
theorem sum_eight (f : Fin 2048 → EReal) (g : Fin 8 → Fin 256 → EReal) :
    ∑ k : Fin 2048, f k * g ⟨k.val / 256, by omega⟩ ⟨k.val % 256, by omega⟩
    = (∑ l : Fin 256, f ⟨l.val, by omega⟩ * g 0 l) + (∑ l : Fin 256, f ⟨256 + l.val, by omega⟩ * g 1 l)
      + (∑ l : Fin 256, f ⟨512 + l.val, by omega⟩ * g 2 l) + (∑ l : Fin 256, f ⟨768 + l.val, by omega⟩ * g 3 l)
      + (∑ l : Fin 256, f ⟨1024 + l.val, by omega⟩ * g 4 l) + (∑ l : Fin 256, f ⟨1280 + l.val, by omega⟩ * g 5 l)
      + (∑ l : Fin 256, f ⟨1536 + l.val, by omega⟩ * g 6 l) + (∑ l : Fin 256, f ⟨1792 + l.val, by omega⟩ * g 7 l) := by
  have e : ∀ (n : Fin 8) (o : ℕ) (ho : n.val * 256 = o), ∑ l : Fin 256, f ⟨o + l.val, by omega⟩ * g n l
      = ∑ l : Fin 256, f ⟨n.val * 256 + l.val, by omega⟩ * g ⟨(n.val * 256 + l.val) / 256, by omega⟩ ⟨(n.val * 256 + l.val) % 256, by omega⟩ := by
    rintro n o rfl
    refine Finset.sum_congr rfl fun l _ => congrArg _ ?_
    exact congrArg₂ g (Fin.ext (by show n.val = (n.val * 256 + l.val) / 256; omega)) (Fin.ext (by show l.val = (n.val * 256 + l.val) % 256; omega))
  have e0 := e 0 0 rfl
  simp only [Nat.zero_add] at e0
  rw [Fin.sum_univ_tiles 8 256 rfl, Fin.sum_univ_eight, e0, e 1 256 rfl, e 2 512 rfl, e 3 768 rfl, e 4 1024 rfl,
    e 5 1280 rfl, e 6 1536 rfl, e 7 1792 rfl]

section Payload

variable (z : FVec Ideal S2048x128 .f32) (ba ca va : FVec Ideal S1x2048x128 .f32) (i : Fin 2048) (j : Fin 128)

/-- A column of a block. -/
abbrev colOf (x : FVec Ideal S1x2048x128 .f32) (j : Fin 128) : Col := fun i => x (ix3 0 i j)
abbrev colOf2 (x : FVec Ideal S2048x128 .f32) (j : Fin 128) : Col := fun i => x (ix2 i j)

theorem pay20_at : colOf2 (k0_pay20 (F := Ideal) (k0_pay18 ca) va) j = fun i => colOf ca j i * colOf va j i := by
  funext i
  pointwise [k0_pay20, k0_pay18, k0_pay19]

theorem pay26_at : colOf2 (k0_pay26 (F := Ideal) z (k0_pay17 ba)) j = fun i => colOf2 z j i * colOf ba j i := by
  funext i
  pointwise [k0_pay26, k0_pay17]

theorem pay21_at : k0_pay21 (F := Ideal) (k0_pay18 ca) va (ix2 i j) = later 1 (fun i => colOf ca j i * colOf va j i) i := by
  rw [← pay20_at]
  rw [← later_rotated _ (by decide)]
  pointwise [k0_pay21]
  word_cmp

theorem pay22_at : k0_pay22 (F := Ideal) (k0_pay18 ca) va (ix2 i j) = later 2 (fun i => colOf ca j i * colOf va j i) i := by
  rw [← pay20_at]
  rw [← later_rotated _ (by decide)]
  pointwise [k0_pay22]
  word_cmp

variable (w0 w1 w2 b : FVec Ideal S1x128 .f32)

theorem pay29_at : k0_pay29 (F := Ideal) (k0_pay23 w0) (k0_pay24 w1) (k0_pay26 z (k0_pay17 ba)) (k0_pay28 z (k0_pay17 ba) w2)
      (iota Kind.tc S2048x128 32 [0] iota_S2048x128_d0_w32) (ix2 i j)
      = convBack ![w0 (ix2 0 j), w1 (ix2 0 j), w2 (ix2 0 j)] (fun i => colOf2 z j i * colOf ba j i) i := by
  rw [← pay26_at]
  unfold convBack earlier
  pointwise [k0_pay29, k0_pay28, k0_pay23, k0_pay24, k0_pay25]
  word_cmp
  have h1 : (i.val < 2047) = (i.val + 1 < 2048) := by simp only [eq_iff_iff]; omega
  have h2 : (i.val < 2046) = (i.val + 2 < 2048) := by simp only [eq_iff_iff]; omega
  simp only [h1, h2, mul_dite, mul_zero]
  refine congrArg₂ (· + ·) (congrArg₂ (· + ·) rfl ?_) ?_
  · by_cases h : i.val + 1 < 2048
    · rw [if_pos h, dif_pos h, show (⟨(i.val + 2048 - 2047) % 2048, by omega⟩ : Fin 2048) = ⟨i.val + 1, h⟩ from Fin.ext (by show (i.val + 2048 - 2047) % 2048 = i.val + 1; omega)]
    · rw [if_neg h, dif_neg h]
  · by_cases h : i.val + 2 < 2048
    · rw [if_pos h, dif_pos h, show (⟨(i.val + 2048 - 2046) % 2048, by omega⟩ : Fin 2048) = ⟨i.val + 2, h⟩ from Fin.ext (by show (i.val + 2048 - 2046) % 2048 = i.val + 2; omega)]
    · rw [if_neg h, dif_neg h]

theorem pay27_at : k0_pay27 (F := Ideal) z (k0_pay18 ca) va w0 w1 w2 b (ix3 0 i j)
    = z (ix2 i j) * convCol ![w0 (ix2 0 j), w1 (ix2 0 j), w2 (ix2 0 j)] (b (ix2 0 j)) (fun i => colOf ca j i * colOf va j i) i := by
  unfold convCol
  rw [← pay21_at, ← pay22_at]
  pointwise [k0_pay27, k0_pay23, k0_pay24, k0_pay25, k0_pay20, k0_pay18, k0_pay19]

theorem pay30_at : k0_pay30 (F := Ideal) (k0_pay19 va) (k0_pay23 w0) (k0_pay24 w1) (k0_pay26 z (k0_pay17 ba)) (k0_pay28 z (k0_pay17 ba) w2)
      (iota Kind.tc S2048x128 32 [0] iota_S2048x128_d0_w32) (ix3 0 i j)
    = convBack ![w0 (ix2 0 j), w1 (ix2 0 j), w2 (ix2 0 j)] (fun i => colOf2 z j i * colOf ba j i) i * va (ix3 0 i j) := by
  rw [← pay29_at]
  pointwise [k0_pay30, k0_pay19]

theorem pay31_at : k0_pay31 (F := Ideal) (k0_pay18 ca) (k0_pay23 w0) (k0_pay24 w1) (k0_pay26 z (k0_pay17 ba)) (k0_pay28 z (k0_pay17 ba) w2)
      (iota Kind.tc S2048x128 32 [0] iota_S2048x128_d0_w32) (ix3 0 i j)
    = convBack ![w0 (ix2 0 j), w1 (ix2 0 j), w2 (ix2 0 j)] (fun i => colOf2 z j i * colOf ba j i) i * ca (ix3 0 i j) := by
  rw [← pay29_at]
  pointwise [k0_pay31, k0_pay18]

theorem pay32_at : k0_pay32 (F := Ideal) (k0_pay22 (k0_pay18 ca) va) (k0_pay26 z (k0_pay17 ba)) (ix2 0 j)
    = ∑ i, (z (ix2 i j) * ba (ix3 0 i j)) * tapped 0 (fun i => colOf ca j i * colOf va j i) i := by
  show _ = ∑ i, (z (ix2 i j) * ba (ix3 0 i j)) * later 2 (fun i => colOf ca j i * colOf va j i) i
  simp only [← pay22_at]
  pointwise [k0_pay32, k0_pay26, k0_pay17]

theorem pay33_at : k0_pay33 (F := Ideal) (k0_pay21 (k0_pay18 ca) va) (k0_pay26 z (k0_pay17 ba)) (ix2 0 j)
    = ∑ i, (z (ix2 i j) * ba (ix3 0 i j)) * tapped 1 (fun i => colOf ca j i * colOf va j i) i := by
  show _ = ∑ i, (z (ix2 i j) * ba (ix3 0 i j)) * later 1 (fun i => colOf ca j i * colOf va j i) i
  simp only [← pay21_at]
  pointwise [k0_pay33, k0_pay26, k0_pay17]

theorem pay34_at : k0_pay1 (F := Ideal) (k0_pay34 (k0_pay20 (k0_pay18 ca) va) (k0_pay26 z (k0_pay17 ba))) (ix2 0 j)
    = ∑ i, (z (ix2 i j) * ba (ix3 0 i j)) * tapped 2 (fun i => colOf ca j i * colOf va j i) i := by
  show _ = ∑ i, (z (ix2 i j) * ba (ix3 0 i j)) * (colOf ca j i * colOf va j i)
  pointwise [k0_pay1, k0_pay34, k0_pay20, k0_pay18, k0_pay19, k0_pay26, k0_pay17]

theorem pay2_at : k0_pay2 (F := Ideal) (k0_pay26 z (k0_pay17 ba)) (ix2 0 j) = ∑ i, z (ix2 i j) * ba (ix3 0 i j) := by
  pointwise [k0_pay2, k0_pay26, k0_pay17]

end Payload

variable (m : (ℓ : Loc nD τ sig) → Buf (Elt Ideal) ℓ)

set_option maxHeartbeats 1000000 in
/-- What a block leaves, in terms of the product `z` its scratch buffer holds. -/
theorem outs (c : Dev nD) (t : Fin cfg0.N) : ∃ z : FVec Ideal S2048x128 .f32,
    (∀ (i : Fin 2048) (j : Fin 128), z (ix2 i j) = ∑ k : Fin 2048, (show EReal from iblk m c 0 t (ix2 i k))
      * iblk m c 1 t (ix3 ⟨k.val / 256, by omega⟩ j ⟨k.val % 256, by omega⟩))
    ∧ (∀ j, (outsAt0 m c t).2.2 (ix2 0 j) = ∑ i, z (ix2 i j) * (show EReal from iblk m c 2 t (ix3 0 i j)))
    ∧ (∀ (a : Fin 3) (j : Fin 128), (outsAt0 m c t).2.1 (ix2 a j) = ∑ i, (z (ix2 i j) * (show EReal from iblk m c 2 t (ix3 0 i j)))
        * tapped a (fun i => (show EReal from iblk m c 3 t (ix3 0 i j)) * iblk m c 4 t (ix3 0 i j)) i)
    ∧ (∀ (a : Fin 3) (i : Fin 2048) (j : Fin 128), (outsAt0 m c t).1 (ix3 a i j)
        = if a.val = 0 then z (ix2 i j) * convCol ![iblk m c 5 t (ix2 0 j), iblk m c 5 t (ix2 1 j), iblk m c 5 t (ix2 2 j)]
              (iblk m c 6 t (ix2 0 j)) (fun i => (show EReal from iblk m c 3 t (ix3 0 i j)) * iblk m c 4 t (ix3 0 i j)) i
          else convBack ![iblk m c 5 t (ix2 0 j), iblk m c 5 t (ix2 1 j), iblk m c 5 t (ix2 2 j)]
              (fun i => z (ix2 i j) * (show EReal from iblk m c 2 t (ix3 0 i j))) i
            * (if a.val = 1 then iblk m c 4 t (ix3 0 i j) else iblk m c 3 t (ix3 0 i j))) := by
  apply Exists.intro
  apply And.intro
  rotate_left
  · apply And.intro
    · intro j
      unfold outsAt0
      frame_out
      exact pay2_at _ _ j
    apply And.intro
    · intro a j
      unfold outsAt0
      frame_out
      generalize (View.whole cc0_scratch0).readCov (Val := Elt Ideal) _ _ = z
      generalize iblk m c 2 t = ba
      generalize iblk m c 3 t = ca
      generalize iblk m c 4 t = va
      generalize iblk m c 5 t = w
      generalize iblk m c 6 t = b
      canon_tiles x h
      · obtain rfl : a = 2 := Fin.ext (by simp at h0; omega)
        obtain rfl : x = ix2 0 j := by rw [eq_ix2 x]; exact congrArg₂ ix2 (Fin.ext (by simp)) (Fin.ext (by simp at h1; omega))
        exact pay34_at z _ _ _ j
      · obtain rfl : a = 1 := Fin.ext (by simp at h0; omega)
        obtain rfl : x = ix2 0 j := by rw [eq_ix2 x]; exact congrArg₂ ix2 (Fin.ext (by simp)) (Fin.ext (by simp at h1; omega))
        exact pay33_at z _ _ _ j
      · obtain rfl : a = 0 := Fin.ext (by simp at h0; omega)
        obtain rfl : x = ix2 0 j := by rw [eq_ix2 x]; exact congrArg₂ ix2 (Fin.ext (by simp)) (Fin.ext (by simp at h1; omega))
        exact pay32_at z _ _ _ j
    · intro a i j
      unfold outsAt0
      frame_out
      generalize (View.whole cc0_scratch0).readCov (Val := Elt Ideal) _ _ = z
      generalize iblk m c 2 t = ba
      generalize iblk m c 3 t = ca
      generalize iblk m c 4 t = va
      generalize iblk m c 5 t = w
      generalize iblk m c 6 t = b
      canon_tiles x h
      · obtain rfl : a = 2 := Fin.ext (by simp at h0; omega)
        obtain rfl : x = ix3 0 i j := by rw [eq_ix3 x]; exact congr (congrArg₂ ix3 (Fin.ext (by simp)) (Fin.ext (by simp at h1; omega))) (Fin.ext (by simp at h2; omega))
        rw [if_neg (by decide), if_neg (by decide)]
        refine (pay31_at z _ _ i j _ _ _).trans ?_
        pointwise
      · obtain rfl : a = 1 := Fin.ext (by simp at h0; omega)
        obtain rfl : x = ix3 0 i j := by rw [eq_ix3 x]; exact congr (congrArg₂ ix3 (Fin.ext (by simp)) (Fin.ext (by simp at h1; omega))) (Fin.ext (by simp at h2; omega))
        rw [if_neg (by decide), if_pos (by decide)]
        refine (pay30_at z _ _ i j _ _ _).trans ?_
        pointwise
      · obtain rfl : a = 0 := Fin.ext (by simp at h0; omega)
        obtain rfl : x = ix3 0 i j := by rw [eq_ix3 x]; exact congr (congrArg₂ ix3 (Fin.ext (by simp)) (Fin.ext (by simp at h1; omega))) (Fin.ext (by simp at h2; omega))
        rw [if_pos (by decide)]
        refine (pay27_at z _ _ i j _ _ _ _).trans ?_
        pointwise
  intro i j
  rw [View.readCov_eq_canon']
  refine Eq.trans ?_ (sum_eight (fun k => iblk m c 0 t (ix2 i k)) (fun n l => iblk m c 1 t (ix3 n j l))).symm
  have e : (Rect.unit (s := S2048x128) ![0, 0] ![2048, 128] (by decide)).toLoadRect.idx (ix2 i j) = ix2 i j := by
    exact (eq_ix2 _).trans (congrArg₂ ix2 (Fin.ext (by simp)) (Fin.ext (by simp)))
  refine (congrArg (View.canon _) e).trans ?_
  clear e
  canon_tiles x h
  · obtain ⟨p, q, rfl⟩ : ∃ (p : Fin 512) (q : Fin 128), x = ix2 p q := ⟨x 0, x 1, eq_ix2 x⟩
    obtain rfl : j = q := Fin.ext h1
    have hp : 1536 + p.val < 2048 := Nat.lt_of_lt_of_le (Nat.add_lt_add_left p.isLt 1536) (by decide)
    obtain rfl : i = ⟨_, hp⟩ := Fin.ext h0
    generalize iblk m c 0 t = a
    generalize iblk m c 1 t = b
    open_payloads
    pointwise
  · obtain ⟨p, q, rfl⟩ : ∃ (p : Fin 512) (q : Fin 128), x = ix2 p q := ⟨x 0, x 1, eq_ix2 x⟩
    obtain rfl : j = q := Fin.ext h1
    have hp : 1024 + p.val < 2048 := Nat.lt_of_lt_of_le (Nat.add_lt_add_left p.isLt 1024) (by decide)
    obtain rfl : i = ⟨_, hp⟩ := Fin.ext h0
    generalize iblk m c 0 t = a
    generalize iblk m c 1 t = b
    open_payloads
    pointwise
  · obtain ⟨p, q, rfl⟩ : ∃ (p : Fin 512) (q : Fin 128), x = ix2 p q := ⟨x 0, x 1, eq_ix2 x⟩
    obtain rfl : j = q := Fin.ext h1
    have hp : 512 + p.val < 2048 := Nat.lt_of_lt_of_le (Nat.add_lt_add_left p.isLt 512) (by decide)
    obtain rfl : i = ⟨_, hp⟩ := Fin.ext h0
    generalize iblk m c 0 t = a
    generalize iblk m c 1 t = b
    open_payloads
    pointwise
  · obtain ⟨p, q, rfl⟩ : ∃ (p : Fin 512) (q : Fin 128), x = ix2 p q := ⟨x 0, x 1, eq_ix2 x⟩
    obtain rfl : j = q := Fin.ext h1
    have hp : p.val < 2048 := Nat.lt_of_lt_of_le p.isLt (by decide)
    obtain rfl : i = ⟨_, hp⟩ := Fin.ext h0
    generalize iblk m c 0 t = a
    generalize iblk m c 1 t = b
    open_payloads
    pointwise

theorem idx : ∀ t : Fin cfg0.N, win0_0.index t = ![0, 0] ∧ win0_1.index t = ![0, t.val, 0] ∧ win0_2.index t = ![0, 0, t.val]
    ∧ win0_3.index t = ![1, 0, t.val] ∧ win0_4.index t = ![2, 0, t.val] ∧ win0_5.index t = ![0, t.val] ∧ win0_6.index t = ![0, t.val]
    ∧ win0_7.index t = ![0, 0, t.val] ∧ win0_8.index t = ![0, t.val] ∧ win0_9.index t = ![0, t.val] :=
  (by decide +kernel : ∀ t : Fin grid0.N, _)

/-- The argument arrays, at their shapes. -/
abbrev oldOf (c : Dev nD) : Slots := m ((c.tc : Thread nD τ).loc main_arg0)
abbrev dyaOf (c : Dev nD) : FVec Ideal S1x2048x2048 .bf16 := m ((c.tc : Thread nD τ).loc main_arg1)
abbrev waOf (c : Dev nD) : FVec Ideal S1x1024x2048 .f32 := m ((c.tc : Thread nD τ).loc main_arg2)
abbrev projOf (c : Dev nD) : Proj := m ((c.tc : Thread nD τ).loc main_arg3)
abbrev tapsOf (c : Dev nD) : Taps := m ((c.tc : Thread nD τ).loc main_arg4)
abbrev biasOf (c : Dev nD) : FVec Ideal S1x1024 .f32 := m ((c.tc : Thread nD τ).loc main_arg5)

/-- What the host lines hand to the kernel, entry by entry. -/
theorem V_v13 (c : Dev nD) (i k : Fin 2048) : V m c main_v13 (ix2 i k) = dyaOf m c (ix3 0 i k) := by
  have e : V m c main_v13 = shapeCast S2048x2048 (dyaOf m c) shapeCasts_S1x2048x2048_S2048x2048 := by
    unfold V
    simp only [hostOps0, hostOps0_1, hostOps0_2, List.flatten_cons, List.flatten_nil, List.cons_append, List.nil_append]
    after_results
    rfl
  rw [e]
  pointwise

theorem V_v3 (c : Dev nD) (n : Fin 8) (q : Fin 1024) (l : Fin 256) :
    V m c main_v3 (ix3 n q l) = waOf m c (ix3 0 q ⟨n.val * 256 + l.val, by omega⟩) := by
  have e : V m c main_v3 = transpose S8x1024x256 [1, 0, 2] (shapeCast S1024x8x256 (truncf (F := Ideal) .bf16
      (shapeCast S1024x2048 (waOf m c) shapeCasts_S1x1024x2048_S1024x2048) bitsLt_bf16_f32) shapeCasts_S1024x2048_S1024x8x256)
      transposes_S1024x8x256_S8x1024x256_1_0_2 := by
    unfold V
    after_results
    rfl
  rw [e]
  pointwise

theorem V_v5 (c : Dev nD) (n : Fin 8) (i : Fin 2048) (q : Fin 1024) :
    V m c main_v5 (ix3 n i q) = projOf m c (ix3 0 i ⟨n.val * 1024 + q.val, by omega⟩) := by
  have e : V m c main_v5 = transpose S8x2048x1024 [1, 0, 2] (shapeCast S2048x8x1024 (projOf m c) shapeCasts_S1x2048x8192_S2048x8x1024)
      transposes_S2048x8x1024_S8x2048x1024_1_0_2 := by
    unfold V
    after_results
    rfl
  rw [e]
  pointwise

theorem V_v12 (c : Dev nD) (a : Fin 3) (q : Fin 1024) : V m c main_v12 (ix2 a q) = tapsOf m c (ix3 0 a q) := by
  have e : V m c main_v12 = shapeCast S3x1024 (transpose S3x8x128 [1, 0, 2] (extractStridedSlice S8x3x128 ![0, 0, 0]
      (pad S8x8x128 ![0, 0, 0] ![0, 5, 0] ![0, 0, 0] (transpose S8x3x128 [1, 0, 2] (shapeCast S3x8x128 (shapeCast S3x1024 (tapsOf m c)
        shapeCasts_S1x3x1024_S3x1024) shapeCasts_S3x1024_S3x8x128) transposes_S3x8x128_S8x3x128_1_0_2)
        (sitofp (F := Ideal) .f32 (constantI S_ 32 0#32)) (by decide)) slices_S8x8x128_S8x3x128_0_0_0)
      transposes_S8x3x128_S3x8x128_1_0_2) shapeCasts_S3x8x128_S3x1024 := by
    unfold V
    after_results
    rfl
  rw [e]
  pointwise
  exact dif_pos (by omega)

theorem V_v14 (c : Dev nD) : V m c main_v14_0 = oldOf m c := by
  unfold V
  simp only [hostOps0, hostOps0_1, hostOps0_2, List.flatten_cons, List.flatten_nil, List.cons_append, List.nil_append]
  after_results
  rfl

/-- A column's place in the whole array. -/
theorem col_lt (t : Fin cfg0.N) (j : Fin 128) : t.val * 128 + j.val < 1024 := by
  have := t.isLt; have : cfg0.N = 8 := N_0; omega

section Blocks

variable (c : Dev nD) (t : Fin cfg0.N) (j : Fin 128) (q : Fin 1024) (hq : q.val = t.val * 128 + j.val)

include hq

theorem block0 (i k : Fin 2048) : iblk m c 0 t (ix2 i k) = dyaOf m c (ix3 0 i k) := by
  exact (show _ = V m c main_v13 (ix2 i k) by blk_point [iblk, idx t]).trans (V_v13 m c i k)

theorem block1 (n : Fin 8) (l : Fin 256) (k : Fin 2048) (hk : k.val = n.val * 256 + l.val) :
    iblk m c 1 t (ix3 n j l) = waOf m c (ix3 0 q k) := by
  exact (show _ = V m c main_v3 (ix3 n q l) by blk_point [iblk, idx t, hq]).trans ((V_v3 m c n q l).trans (congrArg _ (by blk_ext [hk])))

theorem block2 (i : Fin 2048) : iblk m c 2 t (ix3 0 i j) = gateCol (projOf m c) q i := by
  exact (show _ = V m c main_v5 (ix3 0 i q) by blk_point [iblk, idx t, hq]).trans ((V_v5 m c 0 i q).trans (congrArg _ (by blk_ext)))

theorem block3 (i : Fin 2048) : iblk m c 3 t (ix3 0 i j) = firstCol (projOf m c) q i := by
  exact (show _ = V m c main_v5 (ix3 1 i q) by blk_point [iblk, idx t, hq]).trans ((V_v5 m c 1 i q).trans (congrArg _ (by blk_ext)))

theorem block4 (i : Fin 2048) : iblk m c 4 t (ix3 0 i j) = secondCol (projOf m c) q i := by
  exact (show _ = V m c main_v5 (ix3 2 i q) by blk_point [iblk, idx t, hq]).trans ((V_v5 m c 2 i q).trans (congrArg _ (by blk_ext)))

theorem block5 (a : Fin 3) : iblk m c 5 t (ix2 a j) = tapsOf m c (ix3 0 a q) := by
  exact (show _ = V m c main_v12 (ix2 a q) by blk_point [iblk, idx t, hq]).trans (V_v12 m c a q)

theorem block6 : iblk m c 6 t (ix2 0 j) = biasOf m c (ix2 0 q) := by
  blk_point [iblk, V, idx t, hq]

end Blocks

/-- The three results of a block at their entries. -/
theorem points (c : Dev nD) (t : Fin cfg0.N) :
    (∀ j (q : Fin 1024), q.val = t.val * 128 + j.val → (outsAt0 m c t).2.2 (ix2 0 j) = biasGrads (dyaOf m c) (waOf m c) (projOf m c) (ix2 0 q))
    ∧ (∀ (a : Fin 3) j (q : Fin 1024), q.val = t.val * 128 + j.val →
        (outsAt0 m c t).2.1 (ix2 a j) = tapGrads (dyaOf m c) (waOf m c) (projOf m c) (ix2 a q))
    ∧ (∀ (a : Fin 3) (i : Fin 2048) j (q : Fin 1024), q.val = t.val * 128 + j.val → (outsAt0 m c t).1 (ix3 a i j)
        = slotGrads (dyaOf m c) (waOf m c) (projOf m c) (tapsOf m c) (biasOf m c) (oldOf m c) (ix3 ⟨a.val, by omega⟩ i q)) := by
  obtain ⟨z, hz, h9, h8, h7⟩ := outs m c t
  have hz' : ∀ (i : Fin 2048) (j : Fin 128) (q : Fin 1024), q.val = t.val * 128 + j.val → z (ix2 i j) = outGrad (dyaOf m c) (waOf m c) q i := by
    intro i j q hq
    refine (hz i j).trans (Finset.sum_congr rfl fun k _ => ?_)
    exact congrArg₂ (fun x y : EReal => x * y) (block0 m c t j q hq i k) (block1 m c t j q hq _ _ k (by show k.val = k.val / 256 * 256 + k.val % 256; omega))
  refine ⟨fun j q hq => ?_, fun a j q hq => ?_, fun a i j q hq => ?_⟩
  · rw [h9 j]
    simp only [hz' _ j q hq, block2 m c t j q hq]
    rfl
  · rw [h8 a j]
    simp only [hz' _ j q hq, block2 m c t j q hq, block3 m c t j q hq, block4 m c t j q hq]
    rfl
  · rw [h7 a i j]
    simp only [hz' _ j q hq, block2 m c t j q hq, block3 m c t j q hq, block4 m c t j q hq, block5 m c t j q hq, block6 m c t j q hq]
    have e : (![tapsOf m c (ix3 0 0 q), tapsOf m c (ix3 0 1 q), tapsOf m c (ix3 0 2 q)] : Fin 3 → EReal) = taps (tapsOf m c) q := by
      funext a
      fin_cases a <;> rfl
    rw [e]
    unfold slotGrads
    fin_cases a <;> rfl

theorem array9 (c : Dev nD) : (dats m 0 c).arrAt 9 cfg0.N = biasGrads (dyaOf m c) (waOf m c) (projOf m c) := by
  refine (dats m 0 c).arrAt_eq_of_covers 9 _ (by decide +kernel) fun t _ y => ?_
  blk_simp
  rw [after0_9]
  obtain ⟨j, rfl⟩ : ∃ j : Fin 128, y = ix2 0 j := ⟨y 1, by blk_ext⟩
  refine ((points m c t).1 j ⟨t.val * 128 + j.val, col_lt t j⟩ rfl).trans (congrArg _ ?_)
  blk_ext [idx t]

theorem array8 (c : Dev nD) : (dats m 0 c).arrAt 8 cfg0.N = tapGrads (dyaOf m c) (waOf m c) (projOf m c) := by
  refine (dats m 0 c).arrAt_eq_of_covers 8 _ (by decide +kernel) fun t _ y => ?_
  blk_simp
  rw [after0_8]
  obtain ⟨a, j, rfl⟩ : ∃ (a : Fin 3) (j : Fin 128), y = ix2 a j := ⟨y 0, y 1, eq_ix2 y⟩
  refine ((points m c t).2.1 a j ⟨t.val * 128 + j.val, col_lt t j⟩ rfl).trans (congrArg _ ?_)
  blk_ext [idx t]

theorem array7 (c : Dev nD) : (dats m 0 c).arrAt 7 cfg0.N
    = slotGrads (dyaOf m c) (waOf m c) (projOf m c) (tapsOf m c) (biasOf m c) (oldOf m c) := by
  have h : (dats m 0 c).arrAt 7 cfg0.N = fun i : S8x2048x1024.Idx => if (i 0).val < 3 then
      slotGrads (dyaOf m c) (waOf m c) (projOf m c) (tapsOf m c) (biasOf m c) (oldOf m c) i else V m c main_v14_0 i := by
    refine (dats m 0 c).arrAt_eq_of_coversWhere 7 _ (fun β => β (0 : Fin 3) = 0) (by decide +kernel) (fun t hf y => ?_)
      (fun j => by blk_simp [Pipeline.Window.cell_apply]; omega)
    blk_simp
    rw [after0_7]
    have hx : ∀ x : S3x2048x128.Idx, (outsAt0 m c t).1 x = slotGrads (dyaOf m c) (waOf m c) (projOf m c) (tapsOf m c) (biasOf m c) (oldOf m c)
        (ix3 ⟨(x 0).val, lt_trans (x 0).isLt (by decide)⟩ (x 1) ⟨t.val * 128 + (x 2).val, col_lt t (x 2)⟩) := fun x =>
      (congrArg _ (eq_ix3 x)).trans ((points m c t).2.2 (x 0) (x 1) (x 2) _ rfl)
    refine (hx _).trans (congrArg _ ?_)
    blk_ext [idx t]
  rw [h, V_v14]
  funext i
  obtain ⟨a, k, j, rfl⟩ : ∃ (a : Fin 8) (k : Fin 2048) (j : Fin 1024), i = ix3 a k j := ⟨i 0, i 1, i 2, eq_ix3 i⟩
  by_cases ha : a.val < 3
  · exact if_pos ha
  · refine (if_neg ha).trans ?_
    unfold slotGrads
    rw [if_neg, if_neg, if_neg]
    all_goals (show ¬ a.val = _; omega)

end Cert.ConvIdeal.Value

end
-- ==== Proof.Conv.Reference.lean ====
/- The convolution's gradients in the reference program, stage by stage, and that they are the column formulas. -/
module

public import proofs.«01_k».proof.Proof.Gen.ConvRefIdeal.Run
public import proofs.«01_k».proof.Proof.Conv.Columns

@[expose] public section

set_option maxRecDepth 16384

noncomputable section

open Idealize.ShloMosaic Idealize.ShloMosaic.TcCoe Idealize.SL.Sem

namespace Cert.ConvRefIdeal.Value

open Cert.ConvRefIdeal Cert.ConvRefIdeal.Gen Cert.Shared

variable (dya : FVec Ideal S1x2048x2048 .bf16) (wa : FVec Ideal S1x1024x2048 .f32) (p : FVec Ideal S1x2048x8192 .f32)
  (w : FVec Ideal S1x3x1024 .f32) (b : FVec Ideal S1x1024 .f32) (old : FVec Ideal S8x2048x1024 .bf16)

/-- The gradient of the output product's argument. -/
def outGrads : FVec Ideal S1x2048x1024 .f32 :=
  Host.dotGeneral dot_S1x2048x2048_S1024x2048_S1x2048x1024_2_1_01_0_n_n none (extf .f32 dya bitsLt_bf16_f32) (shapeCast _ wa shapeCasts_S1x1024x2048_S1024x2048)

/-- The gate and the two factors. -/
def gates : FVec Ideal S1x2048x1024 .f32 := extractStridedSlice S1x2048x1024 ![0, 0, 0] p slices_S1x2048x8192_S1x2048x1024_0_0_0
def firsts : FVec Ideal S1x2048x1024 .f32 := extractStridedSlice S1x2048x1024 ![0, 0, 1024] p slices_S1x2048x8192_S1x2048x1024_0_0_1024
def seconds : FVec Ideal S1x2048x1024 .f32 := extractStridedSlice S1x2048x1024 ![0, 0, 2048] p slices_S1x2048x8192_S1x2048x1024_0_0_2048

/-- The convolution's argument, after two rows of zeros. -/
def padded : FVec Ideal S1x2050x1024 .f32 :=
  concatenate S1x2050x1024 1 [⟨S1x2x1024, (broadcastInDim S1x2x1024 ![] bcast_S_S1x2x1024 (constant S_ .f32 0x00000000#32))⟩, ⟨S1x2048x1024, (mulf (firsts p) (seconds p))⟩] concatenates_S1x2x1024_S1x2048x1024_S1x2050x1024_d1

/-- The argument as each weight meets it. -/
def tap0 : FVec Ideal S1x2048x1024 .f32 := extractStridedSlice S1x2048x1024 ![0, 0, 0] (padded p) slices_S1x2050x1024_S1x2048x1024_0_0_0
def tap1 : FVec Ideal S1x2048x1024 .f32 := extractStridedSlice S1x2048x1024 ![0, 1, 0] (padded p) slices_S1x2050x1024_S1x2048x1024_0_1_0
def tap2 : FVec Ideal S1x2048x1024 .f32 := extractStridedSlice S1x2048x1024 ![0, 2, 0] (padded p) slices_S1x2050x1024_S1x2048x1024_0_2_0

/-- A row of weights at every token. -/
def everywhere (r : FVec Ideal S1024 .f32) : FVec Ideal S1x2048x1024 .f32 :=
  broadcastInDim S1x2048x1024 ![0, 1, 2] bcast_S1x1x1024_S1x2048x1024_0_1_2 (broadcastInDim S1x1x1024 ![2] bcast_S1024_S1x1x1024_2 r)

def weight0 : FVec Ideal S1x2048x1024 .f32 :=
  everywhere (shapeCast _ (extractStridedSlice S1x1024 ![0, 0] (shapeCast _ w shapeCasts_S1x3x1024_S3x1024) slices_S3x1024_S1x1024_0_0) shapeCasts_S1x1024_S1024)
def weight1 : FVec Ideal S1x2048x1024 .f32 :=
  everywhere (shapeCast _ (extractStridedSlice S1x1024 ![1, 0] (shapeCast _ w shapeCasts_S1x3x1024_S3x1024) slices_S3x1024_S1x1024_1_0) shapeCasts_S1x1024_S1024)
def weight2 : FVec Ideal S1x2048x1024 .f32 :=
  everywhere (shapeCast _ (extractStridedSlice S1x1024 ![2, 0] (shapeCast _ w shapeCasts_S1x3x1024_S3x1024) slices_S3x1024_S1x1024_2_0) shapeCasts_S1x1024_S1024)

/-- The convolution. -/
def convolved : FVec Ideal S1x2048x1024 .f32 :=
  addf (addf (addf (everywhere (shapeCast _ b shapeCasts_S1x1024_S1024)) (mulf (weight0 w) (tap0 p))) (mulf (weight1 w) (tap1 p))) (mulf (weight2 w) (tap2 p))

/-- The gradient of the convolution's result. -/
def convGrads : FVec Ideal S1x2048x1024 .f32 := mulf (gates p) (outGrads dya wa)

/-- The gradient of the convolution's argument. -/
def backs : FVec Ideal S1x2048x1024 .f32 :=
  extractStridedSlice S1x2048x1024 ![0, 2, 0] (addf (addf
    (pad S1x2050x1024 ![0, 2, 0] ![0, 0, 0] ![0, 0, 0] (mulf (weight2 w) (convGrads dya wa p)) (constant S_ .f32 0x00000000#32) pads_S1x2048x1024_S1x2050x1024_000_200_000 h_S_)
    (pad S1x2050x1024 ![0, 1, 0] ![0, 1, 0] ![0, 0, 0] (mulf (weight1 w) (convGrads dya wa p)) (constant S_ .f32 0x00000000#32) pads_S1x2048x1024_S1x2050x1024_000_110_000 h_S_))
    (pad S1x2050x1024 ![0, 0, 0] ![0, 2, 0] ![0, 0, 0] (mulf (weight0 w) (convGrads dya wa p)) (constant S_ .f32 0x00000000#32) pads_S1x2048x1024_S1x2050x1024_000_020_000 h_S_)) slices_S1x2050x1024_S1x2048x1024_0_2_0

/-- The column sums of an array, as one row. -/
def columnSums (x : FVec Ideal S1x2048x1024 .f32) : FVec Ideal S1x1024 .f32 :=
  broadcastInDim S1x1024 ![1] bcast_S1024_S1x1024_1 (Host.reduceAdd (shapeCast _ (Host.reduceAdd x (constant S_ .f32 0x00000000#32) reducesTo_S1x2048x1024_S1x1024_d1 h_S_) shapeCasts_S1x1024_S1x1x1024) (constant S_ .f32 0x00000000#32) reducesTo_S1x1x1024_S1024_d0_1 h_S_)

/-- The three results. -/
def slots : FVec Ideal S8x2048x1024 .bf16 :=
  concatenate S8x2048x1024 0 [⟨S1x2048x1024, truncf .bf16 (mulf (outGrads dya wa) (convolved p w b)) bitsLt_bf16_f32⟩,
    ⟨S1x2048x1024, truncf .bf16 (mulf (backs dya wa p w) (seconds p)) bitsLt_bf16_f32⟩,
    ⟨S1x2048x1024, truncf .bf16 (mulf (firsts p) (backs dya wa p w)) bitsLt_bf16_f32⟩,
    ⟨S5x2048x1024, extractStridedSlice S5x2048x1024 ![3, 0, 0] old slices_S8x2048x1024_S5x2048x1024_3_0_0⟩]
    concatenates_S1x2048x1024_S1x2048x1024_S1x2048x1024_S5x2048x1024_S8x2048x1024_d0

def weightGrads : FVec Ideal S3x1024 .f32 :=
  shapeCast _ (broadcastInDim S1x3x1024 ![1, 2] bcast_S3x1024_S1x3x1024_1_2 (addf (addf
    (pad S3x1024 ![2, 0] ![0, 0] ![0, 0] (columnSums (mulf (convGrads dya wa p) (tap2 p))) (constant S_ .f32 0x00000000#32) pads_S1x1024_S3x1024_200_000 h_S_)
    (pad S3x1024 ![1, 0] ![1, 0] ![0, 0] (columnSums (mulf (convGrads dya wa p) (tap1 p))) (constant S_ .f32 0x00000000#32) pads_S1x1024_S3x1024_110_000 h_S_))
    (pad S3x1024 ![0, 0] ![2, 0] ![0, 0] (columnSums (mulf (convGrads dya wa p) (tap0 p))) (constant S_ .f32 0x00000000#32) pads_S1x1024_S3x1024_020_000 h_S_))) shapeCasts_S1x3x1024_S3x1024

variable (i : Fin 2048) (j : Fin 1024)

theorem outGrads_at : outGrads dya wa (ix3 0 i j) = outGrad dya wa j i := by
  unfold outGrad
  pointwise [outGrads]

theorem gates_at : gates p (ix3 0 i j) = gateCol p j i := by
  unfold gateCol
  pointwise [gates]

theorem firsts_at : firsts p (ix3 0 i j) = firstCol p j i := by
  unfold firstCol
  pointwise [firsts]

theorem seconds_at : seconds p (ix3 0 i j) = secondCol p j i := by
  unfold secondCol
  pointwise [seconds]

theorem padded_at (r : Fin 2050) : padded p (ix3 0 r j) = if h : r.val < 2 then 0 else factorCol p j ⟨r.val - 2, by omega⟩ := by
  unfold factorCol
  simp only [← firsts_at, ← seconds_at]
  pointwise [padded]

theorem convGrads_at : convGrads dya wa p (ix3 0 i j) = convOutGrad dya wa p j i := by
  unfold convOutGrad
  rw [← outGrads_at, ← gates_at, mul_comm]
  pointwise [convGrads]

theorem columnSums_at (x : FVec Ideal S1x2048x1024 .f32) : columnSums x (ix2 0 j) = ∑ i : Fin 2048, x (ix3 0 i j) := by
  pointwise [columnSums, hostReduceAdd_01]
  rw [Fin.sum_univ_one, Fin.sum_univ_one]

theorem weight0_at : weight0 w (ix3 0 i j) = taps w j 0 := by
  unfold taps
  pointwise [weight0, everywhere]
theorem weight1_at : weight1 w (ix3 0 i j) = taps w j 1 := by
  unfold taps
  pointwise [weight1, everywhere]
theorem weight2_at : weight2 w (ix3 0 i j) = taps w j 2 := by
  unfold taps
  pointwise [weight2, everywhere]

theorem tap0_at : tap0 p (ix3 0 i j) = tapped 0 (factorCol p j) i := by
  show _ = later 2 (factorCol p j) i
  unfold later
  generalize hq : padded p = q
  unfold tap0
  rw [hq]
  pointwise
  subst hq
  rw [padded_at]
  by_cases h : 2 ≤ i.val
  · rw [if_pos h]
    refine (dif_neg (by dsimp only; omega)).trans (congrArg _ (Fin.ext rfl))
  · rw [if_neg h]
    exact dif_pos (by dsimp only; omega)

theorem tap1_at : tap1 p (ix3 0 i j) = tapped 1 (factorCol p j) i := by
  show _ = later 1 (factorCol p j) i
  unfold later
  generalize hq : padded p = q
  unfold tap1
  rw [hq]
  pointwise
  subst hq
  rw [padded_at]
  by_cases h : 1 ≤ i.val
  · rw [if_pos h]
    refine (dif_neg (by dsimp only; omega)).trans (congrArg _ (Fin.ext ?_))
    dsimp only
    omega
  · rw [if_neg h]
    exact dif_pos (by dsimp only; omega)

theorem tap2_at : tap2 p (ix3 0 i j) = tapped 2 (factorCol p j) i := by
  show _ = factorCol p j i
  generalize hq : padded p = q
  unfold tap2
  rw [hq]
  pointwise
  subst hq
  rw [padded_at]
  refine (dif_neg (by dsimp only; omega)).trans (congrArg _ (Fin.ext ?_))
  dsimp only
  omega

theorem convolved_at : convolved p w b (ix3 0 i j) = convCol (taps w j) (b (ix2 0 j)) (factorCol p j) i := by
  show _ = b (ix2 0 j) + taps w j 0 * tapped 0 (factorCol p j) i + taps w j 1 * tapped 1 (factorCol p j) i + taps w j 2 * tapped 2 (factorCol p j) i
  rw [← tap0_at, ← tap1_at, ← tap2_at, ← weight0_at w i j, ← weight1_at w i j, ← weight2_at w i j]
  pointwise [convolved, everywhere]

theorem backs_at : backs dya wa p w (ix3 0 i j) = convBack (taps w j) (convOutGrad dya wa p j) i := by
  unfold convBack earlier
  simp only [← convGrads_at]
  have h0 : ∀ i, weight0 w (ix3 0 i j) = taps w j 0 := fun i => weight0_at w i j
  have h1 : ∀ i, weight1 w (ix3 0 i j) = taps w j 1 := fun i => weight1_at w i j
  have h2 : ∀ i, weight2 w (ix3 0 i j) = taps w j 2 := fun i => weight2_at w i j
  unfold backs
  generalize convGrads dya wa p = d
  generalize weight0 w = w0 at *
  generalize weight1 w = w1 at *
  generalize weight2 w = w2 at *
  pointwise
  simp only [h0, h1, h2]
  simp only [mul_dite, mul_zero]
  refine congrArg₂ (· + ·) (congrArg₂ (· + ·) rfl ?_) ?_
  · by_cases h : i.val + 1 < 2048
    · rw [dif_pos h]
      refine (dif_pos (by omega)).trans (congrArg (fun r => taps w j 1 * d (ix3 0 r j)) (Fin.ext ?_))
      show 2 + i.val - 1 = i.val + 1
      omega
    · rw [dif_neg h]
      exact dif_neg (by omega)
  · by_cases h : i.val + 2 < 2048
    · rw [dif_pos h]
      refine (dif_pos (by omega)).trans (congrArg (fun r => taps w j 0 * d (ix3 0 r j)) (Fin.ext ?_))
      show 2 + i.val = i.val + 2
      omega
    · rw [dif_neg h]
      exact dif_neg (by omega)

/-- The bias gradient. -/
theorem bias_eq : columnSums (convGrads dya wa p) = biasGrads dya wa p := by
  funext y
  obtain ⟨j, rfl⟩ : ∃ j : Fin 1024, y = ix2 0 j := ⟨y 1, by blk_ext⟩
  rw [columnSums_at]
  exact Finset.sum_congr rfl fun i _ => convGrads_at dya wa p i j

theorem products_eq (x : FVec Ideal S1x2048x1024 .f32) (a : Fin 3) (h : ∀ i j, x (ix3 0 i j) = tapped a (factorCol p j) i) :
    columnSums (mulf (convGrads dya wa p) x) = fun y => ∑ i, convOutGrad dya wa p (y 1) i * tapped a (factorCol p (y 1)) i := by
  funext y
  obtain ⟨j, rfl⟩ : ∃ j : Fin 1024, y = ix2 0 j := ⟨y 1, by blk_ext⟩
  rw [columnSums_at]
  exact Finset.sum_congr rfl fun i _ => congrArg₂ (fun a b : EReal => a * b) (convGrads_at dya wa p i j) (h i j)

/-- The weight gradient. -/
theorem weights_eq : weightGrads dya wa p = tapGrads dya wa p := by
  have h0 := products_eq dya wa p _ 0 fun i j => tap0_at p i j
  have h1 := products_eq dya wa p _ 1 fun i j => tap1_at p i j
  have h2 := products_eq dya wa p _ 2 fun i j => tap2_at p i j
  unfold weightGrads
  rw [h0, h1, h2]
  funext y
  obtain ⟨a, j, rfl⟩ : ∃ (a : Fin 3) (j : Fin 1024), y = ix2 a j := ⟨y 0, y 1, eq_ix2 y⟩
  unfold tapGrads
  pointwise
  fin_cases a <;> simp [ix2_0, ix2_1]

/-- The gradients of the gate and the factors, in their places. -/
theorem slots_eq : slots dya wa p w b old = slotGrads dya wa p w b old := by
  funext y
  obtain ⟨a, i, j, rfl⟩ : ∃ (a : Fin 8) (i : Fin 2048) (j : Fin 1024), y = ix3 a i j := ⟨y 0, y 1, y 2, eq_ix3 y⟩
  unfold slotGrads
  simp only [ix3_0, ix3_1, ix3_2]
  rw [← outGrads_at, ← convolved_at, ← backs_at, ← seconds_at, ← firsts_at]
  unfold slots
  generalize outGrads dya wa = x1
  generalize convolved p w b = x2
  generalize backs dya wa p w = x3
  generalize seconds p = x4
  generalize firsts p = x5
  pointwise
  rw [mul_comm (x3 _) (x5 _)]
  fin_cases a <;> rfl

end Cert.ConvRefIdeal.Value

end
-- ==== Proof.Conv.Claims.lean ====
/- The claims about the convolution's gradients. -/
module

public import proofs.«01_k».proof.Defs
public import proofs.«01_k».proof.Proof.Gen.Conv.Frame
public import proofs.«01_k».proof.Proof.Conv.Kernel
public import proofs.«01_k».proof.Proof.Conv.Reference

@[expose] public section

set_option maxRecDepth 16384

noncomputable section

open Idealize.ShloMosaic Idealize.ShloMosaic.TcCoe Idealize.SL.Sem

namespace Cert.ConvClaims

open Cert.Shared

theorem value : algebraic_ConvIdeal_ConvRefIdeal := by
  intro m g m' g' _ hagree
  refine ⟨_, _, _, (θ_run _ _ _).mono (fun r h c => h c) (Cert.ConvIdeal.Value.run_blocks m g), ?_⟩
  refine (θ_run _ _ _).mono (fun r h c => ?_) (Cert.ConvRefIdeal.Value.run m' g')
  obtain ⟨h0, h1, h2, h3⟩ := h c
  obtain ⟨a0, a1, a2, a3, a4, a5⟩ := hagree c
  refine ⟨h0.trans ?_, h1.trans ?_, h2.trans ?_, h3⟩
  · rw [Cert.ConvIdeal.Value.array7]
    refine Eq.trans ?_ (Cert.ConvRefIdeal.Value.slots_eq _ _ _ _ _ _)
    unfold Cert.ConvRefIdeal.Value.res_main_v83
    rw [a0, a1, a2, a3, a4, a5]
    rfl
  · rw [Cert.ConvIdeal.Value.array8]
    refine Eq.trans ?_ (Cert.ConvRefIdeal.Value.weights_eq _ _ _)
    unfold Cert.ConvRefIdeal.Value.res_main_v84
    rw [a1, a2, a3]
    rfl
  · rw [Cert.ConvIdeal.Value.array9]
    refine Eq.trans ?_ (Cert.ConvRefIdeal.Value.bias_eq _ _ _)
    rw [a1, a2, a3]
    rfl

theorem frame_reference : quiescent_ConvRefIdeal := fun m ρ _ =>
  (θ_run _ _ _).mono (fun r h => ⟨fun c => (h c).2.2.2, sem_eq_zero_of_no_sems (by decide) r.2⟩)
    (Cert.ConvRefIdeal.Value.run m ρ)

end Cert.ConvClaims

end
-- ==== Proof.Merge.Run.lean ====
/- What the merge program leaves in memory: after its four stretches (host operations, the forward merge, host
   operations, the backward product) every buffer that outlives the run holds what the last valuation of the fold says. -/
module

public import proofs.«01_k».proof.Proof.Gen.MergeIdeal.Frame

@[expose] public section

noncomputable section

namespace Cert.MergeIdeal

open Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Every run of the merge program ends with each lasting buffer at the contents the fold of its stretches gives. -/
theorem ends (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => by
      rw [show unscopedBufs c (fun b => m ((c : Thread nD τ).loc b))
        = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.MergeIdeal
-- ==== Proof.Merge.Forward.lean ====
/- What one block of the forward merge computes: from the two branches' products and the two gates, the merged columns and
   the five factors the backward product multiplies with. -/
module

public import proofs.«01_k».proof.Proof.Gen.MergeIdeal.Frame
public import proofs.«01_k».proof.Proof.Pieces

@[expose] public section

noncomputable section

open Idealize.ShloMosaic Idealize.ShloMosaic.TcCoe Idealize.ShloMosaic.Tactic Idealize.SL.Sem

namespace Cert.MergeIdeal

open Cert.MergeIdeal.Gen Cert.Shared

variable (x0 : Vec Ideal S2048x1024 .bf16) (x1 : Vec Ideal S1x1024x256 .bf16) (x2 : Vec Ideal S2048x256 .bf16)
  (x3 : Vec Ideal S1x256x256 .bf16) (x4 x5 : Vec Ideal S1x2048x256 .f32) (x6 : Vec Ideal S2x256 .f32) (x7 : Vec Ideal S1x256 .f32)
  (i : Fin 2048) (j : Fin 256)

/-- The first branch's product, the second branch's, and the two gates. -/
def firstBlk : EReal := ∑ k : Fin 1024, x0 (ix2 i k) * x1 (ix3 0 k j)
def secondBlk : EReal := ∑ k : Fin 256, x2 (ix2 i k) * x3 (ix3 0 k j)
def firstGate : EReal := Ideal.logistic (x4 (ix3 0 i j) + x6 (ix2 0 j))
def secondGate : EReal := Ideal.logistic (x5 (ix3 0 i j) + x6 (ix2 1 j))

/-- The six blocks written at a point: the merged columns, the two factors of the branches' gradients, the two factors of the
    gates' gradients, and the factor of the scale's. -/
theorem forward_at :
    out0_8 x0 x1 x2 x3 x4 x5 x6 x7 (ix2 i j)
      = firstGate x4 x6 i j * firstBlk x0 x1 i j + secondGate x5 x6 i j * secondBlk x2 x3 i j * x7 (ix2 0 j)
    ∧ out0_9 x0 x1 x2 x3 x4 x5 x6 x7 (ix2 i j)
      = firstGate x4 x6 i j
    ∧ out0_10 x0 x1 x2 x3 x4 x5 x6 x7 (ix2 i j)
      = secondGate x5 x6 i j * x7 (ix2 0 j)
    ∧ out0_11 x0 x1 x2 x3 x4 x5 x6 x7 (ix2 i j)
      = firstBlk x0 x1 i j * (firstGate x4 x6 i j * (1 - firstGate x4 x6 i j))
    ∧ out0_12 x0 x1 x2 x3 x4 x5 x6 x7 (ix2 i j)
      = secondBlk x2 x3 i j * x7 (ix2 0 j) * (secondGate x5 x6 i j * (1 - secondGate x5 x6 i j))
    ∧ out0_13 x0 x1 x2 x3 x4 x5 x6 x7 (ix2 i j)
      = secondGate x5 x6 i j * secondBlk x2 x3 i j := by
  refine ⟨?_, ?_, ?_, ?_, ?_, ?_⟩
  on_goal 1 => unfold_out out0_8
  on_goal 2 => unfold_out out0_9
  on_goal 3 => unfold_out out0_10
  on_goal 4 => unfold_out out0_11
  on_goal 5 => unfold_out out0_12
  on_goal 6 => unfold_out out0_13
  all_goals canon_tiles x h
  all_goals
    obtain ⟨p, q, rfl⟩ : ∃ (p : Fin 512) (q : Fin 256), x = ix2 p q := ⟨x 0, x 1, eq_ix2 x⟩
    obtain rfl : j = q := Fin.ext h1
    first
      | (have e := piece_eq (n := 512) (N := 2048) h0 (by decide); subst e)
      | (have e : i = ⟨p.val, Nat.lt_of_lt_of_le p.isLt (by decide)⟩ := Fin.ext h0; subst e)
    open_payloads
    pointwise [firstBlk, secondBlk, firstGate, secondGate]

end Cert.MergeIdeal
-- ==== Proof.Merge.Backward.lean ====
/- What one block of the backward merge computes: the gradient of the merged columns, times each of the five factors the
   forward merge left, written row by row and, for the gates' offsets and the scale, summed over the rows. -/
module

public import proofs.«01_k».proof.Proof.Merge.Forward
public import Idealize.ShloMosaic.Lib.Pipeline.ReadBack

@[expose] public section

noncomputable section

open Idealize.ShloMosaic Idealize.ShloMosaic.TcCoe Idealize.ShloMosaic.Tactic Idealize.SL.Sem

namespace Cert.MergeIdeal

open Cert.MergeIdeal.Gen Cert.Shared

section Blocks
variable (x0 : Vec Ideal S2048x2048 .bf16) (x1 : Vec Ideal S256x2048 .bf16)

/-- The gradient of the merged columns: the row of the residual's gradient times the row of the output weight. -/
def mergedGrad (i : Fin 2048) (j : Fin 256) : EReal := ∑ k : Fin 2048, x0 (ix2 i k) * x1 (ix2 j k)

/-- The stretch of 256 of its rows that begins at row `o`. -/
def mergedRows (o : Nat) (ho : o + 256 ≤ 2048) : FVec Ideal S256x256 .f32 :=
  fun y => mergedGrad x0 x1 ⟨o + (y 0).val, Nat.lt_of_lt_of_le (Nat.add_lt_add_left (y 0).isLt o) ho⟩ (y 1)

/-- A stretch of the upper rows, read back from the buffer the product was stored in, half of the rows at a time. -/
theorem stored_upper (o : Nat) (ho : o + 256 ≤ 2048) (hl : 1024 ≤ o)
    (h : ∀ a, (![o, 0] : Fin 2 → Nat) a + (![256, 256] : Fin 2 → Nat) a ≤ S2048x256.size a) :
    (View.whole cc1_scratch0).readCov (Val := Elt Ideal)
      [⟨Rect.unit ![1024, 0] ![1024, 256] inb_S2048x256_S1024x256_1024_0,
          k1_pay8 (View.ld x0 (Rect.unit ![1024, 0] ![1024, 2048] inb_S2048x2048_S1024x2048_1024_0)) x1⟩,
        ⟨Rect.unit ![0, 0] ![1024, 256] inb_S2048x256_S1024x256_0_0,
          k1_pay7 (View.ld x0 (Rect.unit ![0, 0] ![1024, 2048] inb_S2048x2048_S1024x2048_0_0)) x1⟩]
      (Rect.unit ![o, 0] ![256, 256] h).toLoadRect = mergedRows x0 x1 o ho := by
  rw [View.readCov_eq_canon']
  funext y
  obtain ⟨p, q, rfl⟩ : ∃ p q : Fin 256, y = ix2 p q := ⟨y 0, y 1, eq_ix2 y⟩
  have hp := p.isLt
  have e : (Rect.unit (s := S2048x256) ![o, 0] ![256, 256] h).toLoadRect.idx (ix2 p q)
      = (Rect.unit (s := S2048x256) ![1024, 0] ![1024, 256] inb_S2048x256_S1024x256_1024_0).emb
        (ix2 (⟨o - 1024 + p.val, by omega⟩ : Fin 1024) q) := by
    refine (eq_ix2 _).trans ((congrArg₂ ix2 (Fin.ext ?_) (Fin.ext ?_)).trans (eq_ix2 _).symm)
    · simp; omega
    · simp
  refine (congrArg (View.canon _) e).trans ((View.canon_cons_emb _ _ _ _).trans ?_)
  have e' : o + p.val = 1024 + (o - 1024 + p.val) := by omega
  pointwise [k1_pay8, mergedRows, mergedGrad]
  simp only [e']

/-- A stretch of the lower rows, where the lower half alone is what is read. -/
theorem stored_lower (o : Nat) (ho : o + 256 ≤ 2048) (hl : o + 256 ≤ 1024)
    (h : ∀ a, (![o, 0] : Fin 2 → Nat) a + (![256, 256] : Fin 2 → Nat) a ≤ S2048x256.size a) :
    (View.whole cc1_scratch0).readCov (Val := Elt Ideal)
      [⟨Rect.unit ![0, 0] ![1024, 256] inb_S2048x256_S1024x256_0_0,
          k1_pay7 (View.ld x0 (Rect.unit ![0, 0] ![1024, 2048] inb_S2048x2048_S1024x2048_0_0)) x1⟩]
      (Rect.unit ![o, 0] ![256, 256] h).toLoadRect = mergedRows x0 x1 o ho := by
  rw [View.readCov_eq_canon']
  funext y
  obtain ⟨p, q, rfl⟩ : ∃ p q : Fin 256, y = ix2 p q := ⟨y 0, y 1, eq_ix2 y⟩
  have hp := p.isLt
  have e : (Rect.unit (s := S2048x256) ![o, 0] ![256, 256] h).toLoadRect.idx (ix2 p q)
      = (Rect.unit (s := S2048x256) ![0, 0] ![1024, 256] inb_S2048x256_S1024x256_0_0).emb
        (ix2 (⟨o + p.val, by omega⟩ : Fin 1024) q) := by
    refine (eq_ix2 _).trans ((congrArg₂ ix2 (Fin.ext ?_) (Fin.ext ?_)).trans (eq_ix2 _).symm)
    · simp
    · simp
  refine (congrArg (View.canon _) e).trans ((View.canon_cons_emb _ _ _ _).trans ?_)
  pointwise [k1_pay7, mergedRows, mergedGrad]

end Blocks

/-- A column summed in eight stretches from zero. -/
theorem sum_stretches (f : Fin 2048 → EReal) :
    ∑ l, f l = (∑ l : Fin 256, f ⟨l.val, by omega⟩) + (∑ l : Fin 256, f ⟨256 + l.val, by omega⟩)
      + (∑ l : Fin 256, f ⟨512 + l.val, by omega⟩) + (∑ l : Fin 256, f ⟨768 + l.val, by omega⟩)
      + (∑ l : Fin 256, f ⟨1024 + l.val, by omega⟩) + (∑ l : Fin 256, f ⟨1280 + l.val, by omega⟩)
      + (∑ l : Fin 256, f ⟨1536 + l.val, by omega⟩) + (∑ l : Fin 256, f ⟨1792 + l.val, by omega⟩) := by
  refine (Fin.sum_univ_tiles 8 256 rfl f).trans ((Fin.sum_univ_eight _).trans ?_)
  refine congrArg₂ _ (congrArg₂ _ (congrArg₂ _ (congrArg₂ _ (congrArg₂ _ (congrArg₂ _ (congrArg₂ _ ?_ rfl) rfl) rfl) rfl) rfl) rfl) rfl
  exact Finset.sum_congr rfl fun l _ => congrArg f (Fin.ext (Nat.zero_add l.val))

variable (V : (c : Dev nD) → (b : Ref sig .tc) → Buf (Elt Ideal) ((c : Thread nD τ).loc b)) (c : Dev nD) (t : Fin cfg1.N)

set_option maxHeartbeats 1000000 in
/-- The five blocks written at a point. -/
theorem backward_at (i : Fin 2048) (j : Fin 256) :
    (outsAt1 V c t).1 (ix2 i j) = mergedGrad (iblk1 V c 0 t) (iblk1 V c 1 t) i j * iblk1 V c 2 t (ix2 i j)
    ∧ (outsAt1 V c t).2.1 (ix2 i j) = mergedGrad (iblk1 V c 0 t) (iblk1 V c 1 t) i j * iblk1 V c 3 t (ix2 i j)
    ∧ (outsAt1 V c t).2.2.1 (ix4 0 0 i j) = mergedGrad (iblk1 V c 0 t) (iblk1 V c 1 t) i j * iblk1 V c 4 t (ix2 i j)
    ∧ (outsAt1 V c t).2.2.1 (ix4 1 0 i j) = mergedGrad (iblk1 V c 0 t) (iblk1 V c 1 t) i j * iblk1 V c 5 t (ix2 i j)
    ∧ (outsAt1 V c t).2.2.2.1 (ix2 0 j) = ∑ l, mergedGrad (iblk1 V c 0 t) (iblk1 V c 1 t) l j * iblk1 V c 4 t (ix2 l j)
    ∧ (outsAt1 V c t).2.2.2.1 (ix2 1 j) = ∑ l, mergedGrad (iblk1 V c 0 t) (iblk1 V c 1 t) l j * iblk1 V c 5 t (ix2 l j)
    ∧ (outsAt1 V c t).2.2.2.2 (ix2 0 j) = ∑ l, mergedGrad (iblk1 V c 0 t) (iblk1 V c 1 t) l j * iblk1 V c 6 t (ix2 l j) := by
  unfold outsAt1
  refine ⟨?_, ?_, ?_, ?_, ?_, ?_, ?_⟩
  all_goals
    frame_out
    simp (disch := decide) only [↓View.readCov_skip, ↓View.readCov_cons_toLoadRect, ↓View.readCov_fill]
    generalize iblk1 V c 0 t = x0
    generalize iblk1 V c 1 t = x1
    generalize iblk1 V c 2 t = x2
    generalize iblk1 V c 3 t = x3
    generalize iblk1 V c 4 t = x4
    generalize iblk1 V c 5 t = x5
    generalize iblk1 V c 6 t = x6
    simp only [stored_lower x0 x1 0 (by decide) (by decide), stored_lower x0 x1 256 (by decide) (by decide),
      stored_lower x0 x1 512 (by decide) (by decide), stored_lower x0 x1 768 (by decide) (by decide),
      stored_upper x0 x1 1024 (by decide) (by decide), stored_upper x0 x1 1280 (by decide) (by decide),
      stored_upper x0 x1 1536 (by decide) (by decide), stored_upper x0 x1 1792 (by decide) (by decide)]
  iterate 2
    on_goal 1 =>
      canon_tiles x h
      all_goals
        obtain ⟨p, q, rfl⟩ : ∃ p q : Fin 256, x = ix2 p q := ⟨x 0, x 1, eq_ix2 x⟩
        obtain rfl : j = q := Fin.ext h1
        first
          | (have e := piece_eq (n := 256) (N := 2048) h0 (by decide); subst e)
          | (have e : i = ⟨p.val, Nat.lt_of_lt_of_le p.isLt (by decide)⟩ := Fin.ext h0; subst e)
        open_payloads
        pointwise [mergedRows]
  iterate 2
    on_goal 1 =>
      canon_tiles x h
      all_goals
        have hx : (x 0).val = 0 := by omega
        rw [hx] at h0
        first
          | (simp at h0; done)
          | (obtain ⟨p, q, rfl⟩ : ∃ p q : Fin 256, x = ix4 0 0 p q := ⟨x 2, x 3, by
              rw [eq_ix4 x]
              exact congrArg₂ (fun a b => ix4 a b (x 2) (x 3)) (Fin.ext (by simp)) (Fin.ext (by simp))⟩
             obtain rfl : j = q := Fin.ext h3
             first
               | (have e := piece_eq (n := 256) (N := 2048) h2 (by decide); subst e)
               | (have e : i = ⟨p.val, Nat.lt_of_lt_of_le p.isLt (by decide)⟩ := Fin.ext h2; subst e)
             open_payloads
             pointwise [mergedRows])
  · have e : (ix2 0 j : S2x256.Idx) = (Rect.unit (s := S2x256) ![0, 0] ![1, 256] inb_S2x256_S1x256_0_0).emb (ix2 0 j) :=
      ((eq_ix2 _).trans (congrArg₂ ix2 (Fin.ext (by simp)) (Fin.ext (by simp)))).symm
    refine (View.canon_cons_of_not_mem _ _ (fun hm => ?_)).trans
      ((congrArg (View.canon _) e).trans ((View.canon_cons_emb _ _ _ _).trans (Eq.trans ?_ (sum_stretches _).symm)))
    · have h := ((Rect.mem_set_unit (s := S2x256) (off := ![1, 0]) (size := ![1, 256]) (inb := inb_S2x256_S1x256_1_0)).mp hm 0).1
      simp at h
    open_payloads
    pointwise [mergedRows]
  · have e : (ix2 1 j : S2x256.Idx) = (Rect.unit (s := S2x256) ![1, 0] ![1, 256] inb_S2x256_S1x256_1_0).emb (ix2 0 j) :=
      ((eq_ix2 _).trans (congrArg₂ ix2 (Fin.ext (by simp)) (Fin.ext (by simp)))).symm
    refine (congrArg (View.canon _) e).trans ((View.canon_cons_emb _ _ _ _).trans (Eq.trans ?_ (sum_stretches _).symm))
    open_payloads
    pointwise [mergedRows]
  · refine Eq.trans ?_ (sum_stretches _).symm
    open_payloads
    pointwise [mergedRows]

end Cert.MergeIdeal
-- ==== Proof.Merge.Gates.lean ====
/- The merge of the two branches through their gates, and its gradients: the functions both programs are compared through. -/
module

public import proofs.«01_k».proof.Proof.NormGrad

@[expose] public section

noncomputable section

open Idealize.ShloMosaic Idealize.SL.Sem

namespace Cert.Shared

abbrev Half := FVec Ideal ⟨3, ![1, 2048, 1024]⟩ .bf16
abbrev Whole := FVec Ideal ⟨2, ![2048, 2048]⟩ .bf16

section Forward

variable (z p : Half) (wa : FVec Ideal ⟨3, ![1, 1024, 2048]⟩ .f32) (wp : FVec Ideal ⟨4, ![1, 4, 256, 512]⟩ .f32)
  (proj : FVec Ideal ⟨3, ![1, 2048, 8192]⟩ .f32) (bg : FVec Ideal ⟨2, ![1, 4096]⟩ .f32) (sc : FVec Ideal ⟨2, ![1, 2048]⟩ .f32)
  (i q : Fin 2048)

/-- The first branch: the output product. -/
def firstOut : EReal := ∑ k : Fin 1024, z (ix3 0 i k) * wa (ix3 0 k q)

/-- The second branch: the product of the column's group. -/
def secondOut : EReal :=
  ∑ k : Fin 256, p (ix3 0 i ⟨q.val / 512 * 256 + k.val, by omega⟩) * wp (ix4 0 ⟨q.val / 512, by omega⟩ k ⟨q.val % 512, by omega⟩)

/-- The two gates. -/
def gateA : EReal := Ideal.logistic (proj (ix3 0 i ⟨4096 + q.val, by omega⟩) + bg (ix2 0 ⟨q.val, by omega⟩))
def gateB : EReal := Ideal.logistic (proj (ix3 0 i ⟨6144 + q.val, by omega⟩) + bg (ix2 0 ⟨2048 + q.val, by omega⟩))

/-- The merged columns. -/
def mergedOut : EReal := gateA proj bg i q * firstOut z wa i q + gateB proj bg i q * secondOut p wp i q * sc (ix2 0 q)

/-- What the gradient of the merged columns is multiplied with, for each of the five gradients. -/
def factorA : EReal := gateA proj bg i q
def factorB : EReal := gateB proj bg i q * sc (ix2 0 q)
def factorGateA : EReal := firstOut z wa i q * (gateA proj bg i q * (1 - gateA proj bg i q))
def factorGateB : EReal := secondOut p wp i q * sc (ix2 0 q) * (gateB proj bg i q * (1 - gateB proj bg i q))
def factorScale : EReal := gateB proj bg i q * secondOut p wp i q

end Forward

/-- The gradient of the merged columns. -/
def wideGrad (dx : FVec Ideal ⟨3, ![1, 2048, 2048]⟩ .bf16) (wo : FVec Ideal ⟨3, ![1, 2048, 2048]⟩ .f32) (i q : Fin 2048) : EReal :=
  ∑ k : Fin 2048, dx (ix3 0 i k) * wo (ix3 0 q k)

/-- A table as an array. -/
def table (f : Fin 2048 → Fin 2048 → EReal) : Whole := fun y => f (y 0) (y 1)

/-- The two gates' gradients in the last two of four pairs of half-width arrays. -/
def gatePairs (f g : Fin 2048 → Fin 2048 → EReal) (y : (⟨4, ![4, 2, 2048, 1024]⟩ : Shape).Idx) : EReal :=
  (if (y 0).val = 2 then f else g) (y 2) ⟨(y 1).val * 1024 + (y 3).val, by
    have h1 : (y 1).val < 2 := (y 1).isLt; have h3 : (y 3).val < 1024 := (y 3).isLt; omega⟩

/-- Two column sums, and one. -/
def sumPair (f g : Fin 2048 → Fin 2048 → EReal) : FVec Ideal ⟨2, ![2, 2048]⟩ .f32 :=
  fun y => ∑ l, (if (y 0).val = 0 then f else g) l (y 1)
def sumRow (f : Fin 2048 → Fin 2048 → EReal) : FVec Ideal ⟨2, ![1, 2048]⟩ .f32 := fun y => ∑ l, f l (y 1)

end Cert.Shared
-- ==== Proof.Merge.Kernel.lean ====
/- What the merge program's arrays hold when it ends, from the arguments. -/
module

public import proofs.«01_k».proof.Proof.Merge.Run
public import proofs.«01_k».proof.Proof.Merge.Backward
public import proofs.«01_k».proof.Proof.Merge.Gates

@[expose] public section

noncomputable section

open Idealize.ShloMosaic Idealize.ShloMosaic.TcCoe Idealize.ShloMosaic.Tactic Idealize.SL.Sem

namespace Cert.MergeIdeal

open Cert.MergeIdeal.Gen Cert.Shared

variable (m : (ℓ : Loc nD τ sig) → Buf (Elt Ideal) ℓ) (ρ : Dev nD → PrngReg) (c : Dev nD)

/-- The argument arrays, at their shapes. -/
abbrev zOf : Half := m ((c.tc : Thread nD τ).loc main_arg0)
abbrev waOf : FVec Ideal S1x1024x2048 .f32 := m ((c.tc : Thread nD τ).loc main_arg1)
abbrev pOf : Half := m ((c.tc : Thread nD τ).loc main_arg2)
abbrev wpOf : FVec Ideal S1x4x256x512 .f32 := m ((c.tc : Thread nD τ).loc main_arg3)
abbrev projOf : FVec Ideal S1x2048x8192 .f32 := m ((c.tc : Thread nD τ).loc main_arg4)
abbrev bgOf : FVec Ideal S1x4096 .f32 := m ((c.tc : Thread nD τ).loc main_arg5)
abbrev scOf : FVec Ideal S1x2048 .f32 := m ((c.tc : Thread nD τ).loc main_arg6)
abbrev woOf : FVec Ideal S1x2048x2048 .f32 := m ((c.tc : Thread nD τ).loc main_arg7)
abbrev dxOf : FVec Ideal S1x2048x2048 .bf16 := m ((c.tc : Thread nD τ).loc main_arg8)

/-! What the first host lines prepare. -/

theorem V1_v3 (n : Fin 8) (k : Fin 1024) (l : Fin 256) :
    V1 m ρ c main_v3 (ix3 n k l) = waOf m c (ix3 0 k ⟨n.val * 256 + l.val, by omega⟩) := by
  have e : V1 m ρ c main_v3 = transpose S8x1024x256 [1, 0, 2] (shapeCast S1024x8x256 (truncf (F := Ideal) .bf16
      (shapeCast S1024x2048 (waOf m c) shapeCasts_S1x1024x2048_S1024x2048) bitsLt_bf16_f32) shapeCasts_S1024x2048_S1024x8x256)
      transposes_S1024x8x256_S8x1024x256_1_0_2 := by
    show StableHlo.after hostOps0 (W0 m ρ c) (Proc.devRef .tc main_v3) = _
    after_results
    rfl
  rw [e]
  pointwise

theorem V1_v5 (n : Fin 8) (i : Fin 2048) (q : Fin 1024) :
    V1 m ρ c main_v5 (ix3 n i q) = projOf m c (ix3 0 i ⟨n.val * 1024 + q.val, by omega⟩) := by
  have e : V1 m ρ c main_v5 = transpose S8x2048x1024 [1, 0, 2] (shapeCast S2048x8x1024 (projOf m c) shapeCasts_S1x2048x8192_S2048x8x1024)
      transposes_S2048x8x1024_S8x2048x1024_1_0_2 := by
    show StableHlo.after hostOps0 (W0 m ρ c) (Proc.devRef .tc main_v5) = _
    after_results
    rfl
  rw [e]
  pointwise

theorem V1_v6 (i : Fin 2048) (k : Fin 1024) : V1 m ρ c main_v6 (ix2 i k) = zOf m c (ix3 0 i k) := by
  have e : V1 m ρ c main_v6 = shapeCast S2048x1024 (zOf m c) shapeCasts_S1x2048x1024_S2048x1024 := by
    show StableHlo.after hostOps0 (W0 m ρ c) (Proc.devRef .tc main_v6) = _
    after_results
    rfl
  rw [e]
  pointwise

theorem V1_v7 (i : Fin 2048) (k : Fin 1024) : V1 m ρ c main_v7 (ix2 i k) = pOf m c (ix3 0 i k) := by
  have e : V1 m ρ c main_v7 = shapeCast S2048x1024 (pOf m c) shapeCasts_S1x2048x1024_S2048x1024 := by
    show StableHlo.after hostOps0 (W0 m ρ c) (Proc.devRef .tc main_v7) = _
    after_results
    rfl
  rw [e]
  pointwise

theorem V1_v9 (g : Fin 4) (k : Fin 256) (l : Fin 512) : V1 m ρ c main_v9 (ix3 g k l) = wpOf m c (ix4 0 g k l) := by
  have e : V1 m ρ c main_v9 = truncf (F := Ideal) .bf16 (shapeCast S4x256x512 (wpOf m c) shapeCasts_S1x4x256x512_S4x256x512)
      bitsLt_bf16_f32 := by
    show StableHlo.after hostOps0 (W0 m ρ c) (Proc.devRef .tc main_v9) = _
    after_results
    rfl
  rw [e]
  pointwise

theorem V1_v10 (a : Fin 2) (q : Fin 2048) : V1 m ρ c main_v10 (ix2 a q) = bgOf m c (ix2 0 ⟨a.val * 2048 + q.val, by omega⟩) := by
  have e : V1 m ρ c main_v10 = shapeCast S2x2048 (bgOf m c) shapeCasts_S1x4096_S2x2048 := by
    show StableHlo.after hostOps0 (W0 m ρ c) (Proc.devRef .tc main_v10) = _
    after_results
    rfl
  rw [e]
  pointwise

theorem idx0 : ∀ t : Fin cfg0.N, win0_0.index t = ![0, 0] ∧ win0_1.index t = ![t.val, 0, 0] ∧ win0_2.index t = ![0, t.val / 2]
    ∧ win0_3.index t = ![t.val / 2, 0, t.val % 2] ∧ win0_4.index t = ![4 + t.val / 4, 0, t.val % 4]
    ∧ win0_5.index t = ![6 + t.val / 4, 0, t.val % 4] ∧ win0_6.index t = ![0, t.val] ∧ win0_7.index t = ![0, t.val]
    ∧ win0_8.index t = ![0, t.val] ∧ win0_9.index t = ![0, t.val] ∧ win0_10.index t = ![0, t.val]
    ∧ win0_11.index t = ![0, t.val] ∧ win0_12.index t = ![0, t.val] ∧ win0_13.index t = ![0, t.val] :=
  (by decide +kernel : ∀ t : Fin grid0.N, _)

theorem idx1 : ∀ t : Fin cfg1.N, win1_0.index t = ![0, 0] ∧ win1_1.index t = ![t.val, 0] ∧ win1_2.index t = ![0, t.val]
    ∧ win1_3.index t = ![0, t.val] ∧ win1_4.index t = ![0, t.val] ∧ win1_5.index t = ![0, t.val] ∧ win1_6.index t = ![0, t.val]
    ∧ win1_7.index t = ![0, t.val] ∧ win1_8.index t = ![0, t.val] ∧ win1_9.index t = ![1, t.val / 4, 0, t.val % 4]
    ∧ win1_10.index t = ![0, t.val] ∧ win1_11.index t = ![0, t.val] :=
  (by decide +kernel : ∀ t : Fin grid1.N, _)

/-- A column's place in the whole array. -/
theorem col_lt (t : Fin cfg0.N) (j : Fin 256) : t.val * 256 + j.val < 2048 := by
  have := t.isLt; have : cfg0.N = 8 := N_0; omega

section Blocks

variable (t : Fin cfg0.N) (j : Fin 256) (q : Fin 2048) (hq : q.val = t.val * 256 + j.val) (i : Fin 2048)

include hq

theorem firstBlk_eq : firstBlk (iblk0 (V1 m ρ) c 0 t) (iblk0 (V1 m ρ) c 1 t) i j = firstOut (zOf m c) (waOf m c) i q := by
  unfold firstBlk firstOut
  have ht := t.isLt
  have hN : cfg0.N = 8 := N_0
  refine Finset.sum_congr rfl fun k _ => congrArg₂ _ ?_ ?_
  · exact (show _ = V1 m ρ c main_v6 (ix2 i k) by blk_point [iblk0, idx0 t]).trans (V1_v6 m ρ c i k)
  · exact (show _ = V1 m ρ c main_v3 (ix3 ⟨t.val, by omega⟩ k j) by blk_point [iblk0, idx0 t]).trans
      ((V1_v3 m ρ c _ k j).trans (congrArg _ (by blk_ext [hq])))

theorem secondBlk_eq : secondBlk (iblk0 (V1 m ρ) c 2 t) (iblk0 (V1 m ρ) c 3 t) i j = secondOut (pOf m c) (wpOf m c) i q := by
  unfold secondBlk secondOut
  have ht := t.isLt
  have hN : cfg0.N = 8 := N_0
  refine Finset.sum_congr rfl fun k _ => congrArg₂ _ ?_ ?_
  · exact (show _ = V1 m ρ c main_v7 (ix2 i ⟨t.val / 2 * 256 + k.val, by omega⟩) by blk_point [iblk0, idx0 t]).trans
      ((V1_v7 m ρ c i _).trans (congrArg _ (by blk_ext [hq])))
  · exact (show _ = V1 m ρ c main_v9 (ix3 ⟨t.val / 2, by omega⟩ k ⟨t.val % 2 * 256 + j.val, by omega⟩) by
      blk_point [iblk0, idx0 t]).trans ((V1_v9 m ρ c _ k _).trans (congrArg _ (by blk_ext [hq])))

theorem firstGate_eq : firstGate (iblk0 (V1 m ρ) c 4 t) (iblk0 (V1 m ρ) c 6 t) i j = gateA (projOf m c) (bgOf m c) i q := by
  unfold firstGate gateA
  have ht := t.isLt
  have hN : cfg0.N = 8 := N_0
  refine congrArg _ (congrArg₂ _ ?_ ?_)
  · exact (show _ = V1 m ρ c main_v5 (ix3 ⟨4 + t.val / 4, by omega⟩ i ⟨t.val % 4 * 256 + j.val, by omega⟩) by
      blk_point [iblk0, idx0 t]).trans ((V1_v5 m ρ c _ i _).trans (congrArg _ (by blk_ext [hq])))
  · exact (show _ = V1 m ρ c main_v10 (ix2 0 q) by blk_point [iblk0, idx0 t, hq]).trans
      ((V1_v10 m ρ c 0 q).trans (congrArg _ (by blk_ext)))

theorem secondGate_eq : secondGate (iblk0 (V1 m ρ) c 5 t) (iblk0 (V1 m ρ) c 6 t) i j = gateB (projOf m c) (bgOf m c) i q := by
  unfold secondGate gateB
  have ht := t.isLt
  have hN : cfg0.N = 8 := N_0
  refine congrArg _ (congrArg₂ _ ?_ ?_)
  · exact (show _ = V1 m ρ c main_v5 (ix3 ⟨6 + t.val / 4, by omega⟩ i ⟨t.val % 4 * 256 + j.val, by omega⟩) by
      blk_point [iblk0, idx0 t]).trans ((V1_v5 m ρ c _ i _).trans (congrArg _ (by blk_ext [hq])))
  · exact (show _ = V1 m ρ c main_v10 (ix2 1 q) by blk_point [iblk0, idx0 t, hq]).trans
      ((V1_v10 m ρ c 1 q).trans (congrArg _ (by blk_ext)))

theorem scale_eq : iblk0 (V1 m ρ) c 7 t (ix2 0 j) = scOf m c (ix2 0 q) :=
  (show _ = V1 m ρ c main_arg6 (ix2 0 q) by blk_point [iblk0, idx0 t, hq]).trans
    (congrFun (W1_args m ρ c main_arg6 (by decide)) _)

end Blocks

end Cert.MergeIdeal
-- ==== Proof.Merge.Arrays.lean ====
/- The merge program's result arrays. -/
module

public import proofs.«01_k».proof.Proof.Merge.Kernel

@[expose] public section

noncomputable section

open Idealize.ShloMosaic Idealize.ShloMosaic.TcCoe Idealize.ShloMosaic.Tactic Idealize.SL.Sem

namespace Cert.MergeIdeal

open Cert.MergeIdeal.Gen Cert.Shared

variable (m : (ℓ : Loc nD τ sig) → Buf (Elt Ideal) ℓ) (ρ : Dev nD → PrngReg) (c : Dev nD)

/-- The forward region's six tables. -/
abbrev mergedT := mergedOut (zOf m c) (pOf m c) (waOf m c) (wpOf m c) (projOf m c) (bgOf m c) (scOf m c)
abbrev factorAT := factorA (projOf m c) (bgOf m c)
abbrev factorBT := factorB (projOf m c) (bgOf m c) (scOf m c)
abbrev factorGateAT := factorGateA (zOf m c) (waOf m c) (projOf m c) (bgOf m c)
abbrev factorGateBT := factorGateB (pOf m c) (wpOf m c) (projOf m c) (bgOf m c) (scOf m c)
abbrev factorScaleT := factorScale (pOf m c) (wpOf m c) (projOf m c) (bgOf m c)

/-- What the forward region's step leaves at a place of its blocks. -/
theorem forward_blocks (t : Fin cfg0.N) (i : Fin 2048) (j : Fin 256) :
    ((dat0 (V1 m ρ) c).after 8 t : FVec Ideal S2048x256 .bf16) (ix2 i j) = mergedT m c i ⟨_, col_lt t j⟩
    ∧ ((dat0 (V1 m ρ) c).after 9 t : FVec Ideal S2048x256 .bf16) (ix2 i j) = factorAT m c i ⟨_, col_lt t j⟩
    ∧ ((dat0 (V1 m ρ) c).after 10 t : FVec Ideal S2048x256 .bf16) (ix2 i j) = factorBT m c i ⟨_, col_lt t j⟩
    ∧ ((dat0 (V1 m ρ) c).after 11 t : FVec Ideal S2048x256 .bf16) (ix2 i j) = factorGateAT m c i ⟨_, col_lt t j⟩
    ∧ ((dat0 (V1 m ρ) c).after 12 t : FVec Ideal S2048x256 .bf16) (ix2 i j) = factorGateBT m c i ⟨_, col_lt t j⟩
    ∧ ((dat0 (V1 m ρ) c).after 13 t : FVec Ideal S2048x256 .bf16) (ix2 i j) = factorScaleT m c i ⟨_, col_lt t j⟩ := by
  have e1 := firstBlk_eq m ρ c t j ⟨_, col_lt t j⟩ rfl i
  have e2 := secondBlk_eq m ρ c t j ⟨_, col_lt t j⟩ rfl i
  have e3 := firstGate_eq m ρ c t j ⟨_, col_lt t j⟩ rfl i
  have e4 := secondGate_eq m ρ c t j ⟨_, col_lt t j⟩ rfl i
  have e5 := scale_eq m ρ c t j ⟨_, col_lt t j⟩ rfl
  rw [after0_8, after0_9, after0_10, after0_11, after0_12, after0_13]
  obtain ⟨h1, h2, h3, h4, h5, h6⟩ := forward_at (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t) (iblk0 (V1 m ρ) c 6 t) (iblk0 (V1 m ρ) c 7 t) i j
  rw [h1, h2, h3, h4, h5, h6, e1, e2, e3, e4, e5]
  exact ⟨rfl, rfl, rfl, rfl, rfl, rfl⟩

set_option maxHeartbeats 2000000 in
/-- The forward region's arrays hold the tables. -/
theorem forward_arrays :
    (dat0 (V1 m ρ) c).arrAt 8 cfg0.N = table (mergedT m c)
    ∧ (dat0 (V1 m ρ) c).arrAt 9 cfg0.N = table (factorAT m c)
    ∧ (dat0 (V1 m ρ) c).arrAt 10 cfg0.N = table (factorBT m c)
    ∧ (dat0 (V1 m ρ) c).arrAt 11 cfg0.N = table (factorGateAT m c)
    ∧ (dat0 (V1 m ρ) c).arrAt 12 cfg0.N = table (factorGateBT m c)
    ∧ (dat0 (V1 m ρ) c).arrAt 13 cfg0.N = table (factorScaleT m c) := by
  refine ⟨(dat0 (V1 m ρ) c).arrAt_eq_of_covers 8 _ (by decide +kernel) fun t _ y => ?_,
    (dat0 (V1 m ρ) c).arrAt_eq_of_covers 9 _ (by decide +kernel) fun t _ y => ?_,
    (dat0 (V1 m ρ) c).arrAt_eq_of_covers 10 _ (by decide +kernel) fun t _ y => ?_,
    (dat0 (V1 m ρ) c).arrAt_eq_of_covers 11 _ (by decide +kernel) fun t _ y => ?_,
    (dat0 (V1 m ρ) c).arrAt_eq_of_covers 12 _ (by decide +kernel) fun t _ y => ?_,
    (dat0 (V1 m ρ) c).arrAt_eq_of_covers 13 _ (by decide +kernel) fun t _ y => ?_⟩
  all_goals
    obtain ⟨i, j, rfl⟩ : ∃ (i : Fin 2048) (j : Fin 256), y = ix2 i j := ⟨y 0, y 1, eq_ix2 y⟩
    blk_simp
  · have e : (win0_8.blk t).view.emb (ix2 i j) = ix2 i ⟨_, col_lt t j⟩ := by blk_ext [idx0 t]
    rw [e]
    exact (forward_blocks m ρ c t i j).1
  · have e : (win0_9.blk t).view.emb (ix2 i j) = ix2 i ⟨_, col_lt t j⟩ := by blk_ext [idx0 t]
    rw [e]
    exact (forward_blocks m ρ c t i j).2.1
  · have e : (win0_10.blk t).view.emb (ix2 i j) = ix2 i ⟨_, col_lt t j⟩ := by blk_ext [idx0 t]
    rw [e]
    exact (forward_blocks m ρ c t i j).2.2.1
  · have e : (win0_11.blk t).view.emb (ix2 i j) = ix2 i ⟨_, col_lt t j⟩ := by blk_ext [idx0 t]
    rw [e]
    exact (forward_blocks m ρ c t i j).2.2.2.1
  · have e : (win0_12.blk t).view.emb (ix2 i j) = ix2 i ⟨_, col_lt t j⟩ := by blk_ext [idx0 t]
    rw [e]
    exact (forward_blocks m ρ c t i j).2.2.2.2.1
  · have e : (win0_13.blk t).view.emb (ix2 i j) = ix2 i ⟨_, col_lt t j⟩ := by blk_ext [idx0 t]
    rw [e]
    exact (forward_blocks m ρ c t i j).2.2.2.2.2

/-! What the backward region reads. -/

theorem V3_v11_1 : V3 m ρ c main_v11_1 = table (factorAT m c) :=
  (W3_of m ρ c main_v11_1 (by decide)).trans ((W2_arr m ρ c 9).trans (forward_arrays m ρ c).2.1)
theorem V3_v11_2 : V3 m ρ c main_v11_2 = table (factorBT m c) :=
  (W3_of m ρ c main_v11_2 (by decide)).trans ((W2_arr m ρ c 10).trans (forward_arrays m ρ c).2.2.1)
theorem V3_v11_3 : V3 m ρ c main_v11_3 = table (factorGateAT m c) :=
  (W3_of m ρ c main_v11_3 (by decide)).trans ((W2_arr m ρ c 11).trans (forward_arrays m ρ c).2.2.2.1)
theorem V3_v11_4 : V3 m ρ c main_v11_4 = table (factorGateBT m c) :=
  (W3_of m ρ c main_v11_4 (by decide)).trans ((W2_arr m ρ c 12).trans (forward_arrays m ρ c).2.2.2.2.1)
theorem V3_v11_5 : V3 m ρ c main_v11_5 = table (factorScaleT m c) :=
  (W3_of m ρ c main_v11_5 (by decide)).trans ((W2_arr m ρ c 13).trans (forward_arrays m ρ c).2.2.2.2.2)

theorem V3_v12 (i k : Fin 2048) : V3 m ρ c main_v12 (ix2 i k) = dxOf m c (ix3 0 i k) := by
  have e : V3 m ρ c main_v12 = shapeCast S2048x2048 (dxOf m c) shapeCasts_S1x2048x2048_S2048x2048 := by
    show StableHlo.after hostOps1 (W2 m ρ c) (Proc.devRef .tc main_v12) = _
    after_results
    rw [W2_args m ρ c main_arg8 (by decide)]
    rfl
  rw [e]
  pointwise

theorem V3_v14 (i k : Fin 2048) : V3 m ρ c main_v14 (ix2 i k) = woOf m c (ix3 0 i k) := by
  have e : V3 m ρ c main_v14 = truncf (F := Ideal) .bf16 (shapeCast S2048x2048 (woOf m c) shapeCasts_S1x2048x2048_S2048x2048)
      bitsLt_bf16_f32 := by
    show StableHlo.after hostOps1 (W2 m ρ c) (Proc.devRef .tc main_v14) = _
    after_results
    rw [W2_args m ρ c main_arg7 (by decide)]
    rfl
  rw [e]
  pointwise

/-- A column's place in the whole array. -/
theorem wide_lt (t : Fin cfg1.N) (j : Fin 256) : t.val * 256 + j.val < 2048 := by
  have := t.isLt; have : cfg1.N = 8 := N_1; omega

section Blocks

variable (t : Fin cfg1.N) (j : Fin 256) (q : Fin 2048) (hq : q.val = t.val * 256 + j.val) (i : Fin 2048)

include hq

theorem mergedGrad_eq : mergedGrad (iblk1 (V3 m ρ) c 0 t) (iblk1 (V3 m ρ) c 1 t) i j = wideGrad (dxOf m c) (woOf m c) i q := by
  unfold mergedGrad wideGrad
  refine Finset.sum_congr rfl fun k _ => congrArg₂ _ ?_ ?_
  · exact (show _ = V3 m ρ c main_v12 (ix2 i k) by blk_point [iblk1, idx1 t]).trans (V3_v12 m ρ c i k)
  · exact (show _ = V3 m ρ c main_v14 (ix2 q k) by blk_point [iblk1, idx1 t, hq]).trans (V3_v14 m ρ c q k)

theorem factors_eq :
    iblk1 (V3 m ρ) c 2 t (ix2 i j) = factorAT m c i q ∧ iblk1 (V3 m ρ) c 3 t (ix2 i j) = factorBT m c i q
    ∧ iblk1 (V3 m ρ) c 4 t (ix2 i j) = factorGateAT m c i q ∧ iblk1 (V3 m ρ) c 5 t (ix2 i j) = factorGateBT m c i q
    ∧ iblk1 (V3 m ρ) c 6 t (ix2 i j) = factorScaleT m c i q :=
  ⟨(show _ = V3 m ρ c main_v11_1 (ix2 i q) by blk_point [iblk1, idx1 t, hq]).trans (congrFun (V3_v11_1 m ρ c) _),
    (show _ = V3 m ρ c main_v11_2 (ix2 i q) by blk_point [iblk1, idx1 t, hq]).trans (congrFun (V3_v11_2 m ρ c) _),
    (show _ = V3 m ρ c main_v11_3 (ix2 i q) by blk_point [iblk1, idx1 t, hq]).trans (congrFun (V3_v11_3 m ρ c) _),
    (show _ = V3 m ρ c main_v11_4 (ix2 i q) by blk_point [iblk1, idx1 t, hq]).trans (congrFun (V3_v11_4 m ρ c) _),
    (show _ = V3 m ρ c main_v11_5 (ix2 i q) by blk_point [iblk1, idx1 t, hq]).trans (congrFun (V3_v11_5 m ρ c) _)⟩

end Blocks

/-- The products of the merged columns' gradient with the tables. -/
abbrev gradT (f : Fin 2048 → Fin 2048 → EReal) (i q : Fin 2048) : EReal := wideGrad (dxOf m c) (woOf m c) i q * f i q

theorem backward_blocks (t : Fin cfg1.N) (i : Fin 2048) (j : Fin 256) :
    (outsAt1 (V3 m ρ) c t).1 (ix2 i j) = gradT m c (factorAT m c) i ⟨_, wide_lt t j⟩
    ∧ (outsAt1 (V3 m ρ) c t).2.1 (ix2 i j) = gradT m c (factorBT m c) i ⟨_, wide_lt t j⟩
    ∧ (outsAt1 (V3 m ρ) c t).2.2.1 (ix4 0 0 i j) = gradT m c (factorGateAT m c) i ⟨_, wide_lt t j⟩
    ∧ (outsAt1 (V3 m ρ) c t).2.2.1 (ix4 1 0 i j) = gradT m c (factorGateBT m c) i ⟨_, wide_lt t j⟩
    ∧ (outsAt1 (V3 m ρ) c t).2.2.2.1 (ix2 0 j) = ∑ l, gradT m c (factorGateAT m c) l ⟨_, wide_lt t j⟩
    ∧ (outsAt1 (V3 m ρ) c t).2.2.2.1 (ix2 1 j) = ∑ l, gradT m c (factorGateBT m c) l ⟨_, wide_lt t j⟩
    ∧ (outsAt1 (V3 m ρ) c t).2.2.2.2 (ix2 0 j) = ∑ l, gradT m c (factorScaleT m c) l ⟨_, wide_lt t j⟩ := by
  obtain ⟨h1, h2, h3, h4, h5, h6, h7⟩ := backward_at (V3 m ρ) c t i j
  have e := fun i => mergedGrad_eq m ρ c t j ⟨_, wide_lt t j⟩ rfl i
  have f := fun i => factors_eq m ρ c t j ⟨_, wide_lt t j⟩ rfl i
  refine ⟨h1.trans (congrArg₂ _ (e i) (f i).1), h2.trans (congrArg₂ _ (e i) (f i).2.1),
    h3.trans (congrArg₂ _ (e i) (f i).2.2.1), h4.trans (congrArg₂ _ (e i) (f i).2.2.2.1),
    h5.trans (Finset.sum_congr rfl fun l _ => congrArg₂ _ (e l) (f l).2.2.1),
    h6.trans (Finset.sum_congr rfl fun l _ => congrArg₂ _ (e l) (f l).2.2.2.1),
    h7.trans (Finset.sum_congr rfl fun l _ => congrArg₂ _ (e l) (f l).2.2.2.2)⟩

theorem array7 : (dat1 (V3 m ρ) c).arrAt 7 cfg1.N = table (gradT m c (factorAT m c)) := by
  refine (dat1 (V3 m ρ) c).arrAt_eq_of_covers 7 _ (by decide +kernel) fun t _ y => ?_
  blk_simp
  rw [after1_7]
  obtain ⟨i, j, rfl⟩ : ∃ (i : Fin 2048) (j : Fin 256), y = ix2 i j := ⟨y 0, y 1, eq_ix2 y⟩
  have e : (win1_7.blk t).view.emb (ix2 i j) = ix2 i ⟨_, wide_lt t j⟩ := by blk_ext [idx1 t]
  rw [e]
  exact (backward_blocks m ρ c t i j).1

theorem array8 : (dat1 (V3 m ρ) c).arrAt 8 cfg1.N = table (gradT m c (factorBT m c)) := by
  refine (dat1 (V3 m ρ) c).arrAt_eq_of_covers 8 _ (by decide +kernel) fun t _ y => ?_
  blk_simp
  rw [after1_8]
  obtain ⟨i, j, rfl⟩ : ∃ (i : Fin 2048) (j : Fin 256), y = ix2 i j := ⟨y 0, y 1, eq_ix2 y⟩
  have e : (win1_8.blk t).view.emb (ix2 i j) = ix2 i ⟨_, wide_lt t j⟩ := by blk_ext [idx1 t]
  rw [e]
  exact (backward_blocks m ρ c t i j).2.1

theorem array9 (y : S4x2x2048x1024.Idx) (hy : 2 ≤ (y 0).val) :
    (dat1 (V3 m ρ) c).arrAt 9 cfg1.N y = gatePairs (gradT m c (factorGateAT m c)) (gradT m c (factorGateBT m c)) y := by
  have h : (dat1 (V3 m ρ) c).arrAt 9 cfg1.N = fun y : S4x2x2048x1024.Idx => if 2 ≤ (y 0).val then
      gatePairs (gradT m c (factorGateAT m c)) (gradT m c (factorGateBT m c)) y else V3 m ρ c main_v15_2 y := by
    refine (dat1 (V3 m ρ) c).arrAt_eq_of_coversWhere 9 _ (fun β => β (0 : Fin 4) = 1) (by decide +kernel) (fun t hf y => ?_)
      (fun j => by
        have hj : (j 0).val < 4 := (j 0).isLt
        blk_simp [Pipeline.Window.cell_apply]
        omega)
    blk_simp
    rw [after1_9]
    obtain ⟨a, b, i, j, rfl⟩ : ∃ (a : Fin 2) (b : Fin 1) (i : Fin 2048) (j : Fin 256), y = ix4 a b i j := ⟨y 0, y 1, y 2, y 3, eq_ix4 y⟩
    have hb : b = 0 := Subsingleton.elim _ _
    subst hb
    have ht : t.val < 8 := lt_of_lt_of_eq t.isLt N_1
    have e : (win1_9.blk t).view.emb (ix4 a 0 i j)
        = ix4 ⟨2 + a.val, by omega⟩ ⟨t.val / 4, by omega⟩ i ⟨t.val % 4 * 256 + j.val, by omega⟩ := by
      blk_ext [idx1 t]
    rw [e]
    have ha : a = 0 ∨ a = 1 := by omega
    rcases ha with rfl | rfl
    · refine (backward_blocks m ρ c t i j).2.2.1.trans ?_
      exact congrArg (gradT m c (factorGateAT m c) i) (Fin.ext (show t.val * 256 + j.val = t.val / 4 * 1024 + (t.val % 4 * 256 + j.val) by omega))
    · refine (backward_blocks m ρ c t i j).2.2.2.1.trans ?_
      exact congrArg (gradT m c (factorGateBT m c) i) (Fin.ext (show t.val * 256 + j.val = t.val / 4 * 1024 + (t.val % 4 * 256 + j.val) by omega))
  rw [h]
  exact if_pos hy

theorem array10 : (dat1 (V3 m ρ) c).arrAt 10 cfg1.N = sumPair (gradT m c (factorGateAT m c)) (gradT m c (factorGateBT m c)) := by
  refine (dat1 (V3 m ρ) c).arrAt_eq_of_covers 10 _ (by decide +kernel) fun t _ y => ?_
  blk_simp
  rw [after1_10]
  obtain ⟨a, j, rfl⟩ : ∃ (a : Fin 2) (j : Fin 256), y = ix2 a j := ⟨y 0, y 1, eq_ix2 y⟩
  have ha : a = 0 ∨ a = 1 := by omega
  rcases ha with rfl | rfl
  · have e : (win1_10.blk t).view.emb (ix2 0 j) = ix2 0 ⟨_, wide_lt t j⟩ := by blk_ext [idx1 t]
    rw [e]
    exact (backward_blocks m ρ c t 0 j).2.2.2.2.1
  · have e : (win1_10.blk t).view.emb (ix2 1 j) = ix2 1 ⟨_, wide_lt t j⟩ := by blk_ext [idx1 t]
    rw [e]
    exact (backward_blocks m ρ c t 0 j).2.2.2.2.2.1

theorem array11 : (dat1 (V3 m ρ) c).arrAt 11 cfg1.N = sumRow (gradT m c (factorScaleT m c)) := by
  refine (dat1 (V3 m ρ) c).arrAt_eq_of_covers 11 _ (by decide +kernel) fun t _ y => ?_
  blk_simp
  rw [after1_11]
  obtain ⟨j, rfl⟩ : ∃ j : Fin 256, y = ix2 0 j := ⟨y 1, by blk_ext⟩
  have e : (win1_11.blk t).view.emb (ix2 0 j) = ix2 0 ⟨_, wide_lt t j⟩ := by blk_ext [idx1 t]
  rw [e]
  exact (backward_blocks m ρ c t 0 j).2.2.2.2.2.2

end Cert.MergeIdeal
-- ==== Proof.Merge.Reference.lean ====
/- The merge and its gradients in the reference program, stage by stage, and that they are the tables. -/
module

public import proofs.«01_k».proof.Proof.Gen.MergeRefIdeal.Run
public import proofs.«01_k».proof.Proof.Merge.Gates

@[expose] public section

set_option maxRecDepth 16384

noncomputable section

open Idealize.ShloMosaic Idealize.ShloMosaic.TcCoe Idealize.SL.Sem

namespace Cert.MergeRefIdeal.Value

open Cert.MergeRefIdeal Cert.MergeRefIdeal.Gen Cert.Shared

abbrev Wide := FVec Ideal S1x2048x2048 .f32

variable (z p : Half) (wa : FVec Ideal S1x1024x2048 .f32) (wp : FVec Ideal S1x4x256x512 .f32)
  (proj : FVec Ideal S1x2048x8192 .f32) (bg : FVec Ideal S1x4096 .f32) (sc : FVec Ideal S1x2048 .f32)
  (wo : Wide) (dx : FVec Ideal S1x2048x2048 .bf16)

/-- The two branches. -/
def firsts : Wide :=
  Host.dotGeneral dot_S1x2048x1024_S1024x2048_S1x2048x2048_2_0_01_1_n_n none (extf .f32 z bitsLt_bf16_f32) (shapeCast _ wa shapeCasts_S1x1024x2048_S1024x2048)
def seconds : Wide :=
  shapeCast _ (transpose S1x2048x4x512 [2, 3, 0, 1] (Host.dotGeneral dot_S4x256x512_S1x2048x4x256_S4x512x1x2048_1_3_2_01_0_2 none (shapeCast _ wp shapeCasts_S1x4x256x512_S4x256x512) (shapeCast _ (extf .f32 p bitsLt_bf16_f32) shapeCasts_S1x2048x1024_S1x2048x4x256)) transposes_S4x512x1x2048_S1x2048x4x512_2_3_0_1) shapeCasts_S1x2048x4x512_S1x2048x2048

/-- A row at every token. -/
def everywhere (r : FVec Ideal S2048 .f32) : Wide :=
  broadcastInDim S1x2048x2048 ![0, 1, 2] bcast_S1x1x2048_S1x2048x2048_0_1_2 (broadcastInDim S1x1x2048 ![2] bcast_S2048_S1x1x2048_2 r)
def ones : Wide := broadcastInDim S1x2048x2048 ![] bcast_S_S1x2048x2048 (constant S_ .f32 0x3F800000#32)
def scales : Wide := everywhere (shapeCast _ sc shapeCasts_S1x2048_S2048)

/-- The gates. -/
def opened (x : Wide) (r : FVec Ideal S2048 .f32) : Wide := Host.divf ones (addf ones (Host.exp (Host.negf (addf x (everywhere r)))))
def gatesA : Wide := opened (extractStridedSlice S1x2048x2048 ![0, 0, 4096] proj slices_S1x2048x8192_S1x2048x2048_0_0_4096)
  (extractStridedSlice S2048 ![0] (shapeCast _ bg shapeCasts_S1x4096_S4096) slices_S4096_S2048_0)
def gatesB : Wide := opened (extractStridedSlice S1x2048x2048 ![0, 0, 6144] proj slices_S1x2048x8192_S1x2048x2048_0_0_6144)
  (extractStridedSlice S2048 ![2048] (shapeCast _ bg shapeCasts_S1x4096_S4096) slices_S4096_S2048_2048)

/-- The gradient of the merged columns. -/
def wideGrads : Wide :=
  Host.dotGeneral dot_S1x2048x2048_S2048x2048_S1x2048x2048_2_1_01_0_n_n none (extf .f32 dx bitsLt_bf16_f32) (shapeCast _ wo shapeCasts_S1x2048x2048_S2048x2048)

/-- The two gates' gradients, and that of the unscaled second branch's factor. -/
def gradsA : Wide := mulf (mulf (wideGrads wo dx) (firsts z wa)) (mulf (gatesA proj bg) (subf ones (gatesA proj bg)))
def gradsB : Wide := mulf (mulf (wideGrads wo dx) (mulf (seconds p wp) (scales sc))) (mulf (gatesB proj bg) (subf ones (gatesB proj bg)))
def gradsScale : Wide := mulf (seconds p wp) (mulf (gatesB proj bg) (wideGrads wo dx))

theorem firsts_at (i q : Fin 2048) : firsts z wa (ix3 0 i q) = firstOut z wa i q := by
  unfold firstOut
  pointwise [firsts]

theorem seconds_at (i q : Fin 2048) : seconds p wp (ix3 0 i q) = secondOut p wp i q := by
  unfold secondOut
  pointwise [seconds]
  exact Finset.sum_congr rfl fun k _ => mul_comm _ _

theorem scales_at (i q : Fin 2048) : scales sc (ix3 0 i q) = sc (ix2 0 q) := by
  pointwise [scales, everywhere]

theorem ones_at (i q : Fin 2048) : ones (ix3 0 i q) = 1 := by
  pointwise [ones]

theorem gatesA_at (i q : Fin 2048) : gatesA proj bg (ix3 0 i q) = gateA proj bg i q := by
  unfold gateA Ideal.logistic
  pointwise [gatesA, opened, everywhere, ones]

theorem gatesB_at (i q : Fin 2048) : gatesB proj bg (ix3 0 i q) = gateB proj bg i q := by
  unfold gateB Ideal.logistic
  pointwise [gatesB, opened, everywhere, ones]

theorem wideGrads_at (i q : Fin 2048) : wideGrads wo dx (ix3 0 i q) = wideGrad dx wo i q := by
  unfold wideGrad
  pointwise [wideGrads]

/-- The products of the merged columns' gradient with a table. -/
abbrev gradT (f : Fin 2048 → Fin 2048 → EReal) (i q : Fin 2048) : EReal := wideGrad dx wo i q * f i q

theorem gradsA_at (i q : Fin 2048) : gradsA z wa proj bg wo dx (ix3 0 i q) = gradT wo dx (factorGateA z wa proj bg) i q := by
  unfold gradsA
  pointwise
  rw [wideGrads_at, firsts_at, gatesA_at, ones_at, mul_assoc]
  rfl

theorem gradsB_at (i q : Fin 2048) : gradsB p wp proj bg sc wo dx (ix3 0 i q) = gradT wo dx (factorGateB p wp proj bg sc) i q := by
  unfold gradsB
  pointwise
  rw [wideGrads_at, seconds_at, gatesB_at, scales_at, ones_at, mul_assoc]
  rfl

theorem gradsScale_at (i q : Fin 2048) : gradsScale p wp proj bg wo dx (ix3 0 i q) = gradT wo dx (factorScale p wp proj bg) i q := by
  unfold gradsScale
  pointwise
  rw [wideGrads_at, seconds_at, gatesB_at]
  unfold gradT factorScale
  rw [mul_comm, mul_comm (gateB proj bg i q), mul_assoc]

/-- The merged columns. -/
def mergedStage : Whole := truncf .bf16 (shapeCast _ (addf (mulf (gatesA proj bg) (firsts z wa))
  (mulf (gatesB proj bg) (mulf (seconds p wp) (scales sc)))) shapeCasts_S1x2048x2048_S2048x2048) bitsLt_bf16_f32

theorem mergedStage_eq : mergedStage z p wa wp proj bg sc = table (mergedOut z p wa wp proj bg sc) := by
  funext y
  obtain ⟨i, q, rfl⟩ : ∃ i q : Fin 2048, y = ix2 i q := ⟨y 0, y 1, eq_ix2 y⟩
  unfold mergedStage
  pointwise
  rw [gatesA_at, firsts_at, gatesB_at, seconds_at, scales_at, ← mul_assoc]
  rfl

/-- The two branches' gradients. -/
def firstStage : Whole := truncf .bf16 (shapeCast _ (mulf (gatesA proj bg) (wideGrads wo dx)) shapeCasts_S1x2048x2048_S2048x2048) bitsLt_bf16_f32
def secondStage : Whole := truncf .bf16 (shapeCast _ (mulf (mulf (gatesB proj bg) (wideGrads wo dx)) (scales sc)) shapeCasts_S1x2048x2048_S2048x2048) bitsLt_bf16_f32

theorem firstStage_eq : firstStage proj bg wo dx = table (gradT wo dx (factorA proj bg)) := by
  funext y
  obtain ⟨i, q, rfl⟩ : ∃ i q : Fin 2048, y = ix2 i q := ⟨y 0, y 1, eq_ix2 y⟩
  unfold firstStage
  pointwise
  rw [gatesA_at, wideGrads_at, mul_comm]
  rfl

theorem secondStage_eq : secondStage proj bg sc wo dx = table (gradT wo dx (factorB proj bg sc)) := by
  funext y
  obtain ⟨i, q, rfl⟩ : ∃ i q : Fin 2048, y = ix2 i q := ⟨y 0, y 1, eq_ix2 y⟩
  unfold secondStage
  pointwise
  rw [gatesB_at, wideGrads_at, scales_at, mul_comm (gateB proj bg i q), mul_assoc]
  rfl

/-- A wide array's halves, one after the other. -/
def halves (x : Wide) : FVec Ideal S1x2x2048x1024 .bf16 :=
  broadcastInDim S1x2x2048x1024 ![1, 2, 3] bcast_S2x2048x1024_S1x2x2048x1024_1_2_3 (truncf .bf16 (transpose S2x2048x1024 [1, 0, 2] (shapeCast _ x shapeCasts_S1x2048x2048_S2048x2x1024) transposes_S2048x2x1024_S2x2048x1024_1_0_2) bitsLt_bf16_f32)
def blank : FVec Ideal S1x2x2048x1024 .bf16 :=
  broadcastInDim S1x2x2048x1024 ![1, 2, 3] bcast_S2x2048x1024_S1x2x2048x1024_1_2_3 (broadcastInDim S2x2048x1024 ![] bcast_S_S2x2048x1024 (constant S_ .bf16 0x0000#16))
def gateStage (x y : Wide) : FVec Ideal S4x2x2048x1024 .bf16 :=
  concatenate S4x2x2048x1024 0 [⟨S1x2x2048x1024, blank⟩, ⟨S1x2x2048x1024, blank⟩, ⟨S1x2x2048x1024, halves x⟩, ⟨S1x2x2048x1024, halves y⟩]
    concatenates_S1x2x2048x1024_S1x2x2048x1024_S1x2x2048x1024_S1x2x2048x1024_S4x2x2048x1024_d0

theorem halves_at (x : Wide) (b : Fin 2) (i : Fin 2048) (j : Fin 1024) :
    halves x (ix4 0 b i j) = x (ix3 0 i ⟨b.val * 1024 + j.val, by omega⟩) := by
  pointwise [halves]

theorem gateStage_at (x y : Wide) (a : Fin 4) (b : Fin 2) (i : Fin 2048) (j : Fin 1024) (ha : 2 ≤ a.val) :
    gateStage x y (ix4 a b i j) = (if a.val = 2 then x else y) (ix3 0 i ⟨b.val * 1024 + j.val, by omega⟩) := by
  have h : a = 2 ∨ a = 3 := by omega
  rcases h with rfl | rfl
  · refine (show _ = halves x (ix4 0 b i j) by pointwise [gateStage]).trans (halves_at x b i j)
  · refine (show _ = halves y (ix4 0 b i j) by pointwise [gateStage]).trans (halves_at y b i j)

theorem gates_eq (y : S4x2x2048x1024.Idx) (hy : 2 ≤ (y 0).val) :
    gateStage (gradsA z wa proj bg wo dx) (gradsB p wp proj bg sc wo dx) y
      = gatePairs (gradT wo dx (factorGateA z wa proj bg)) (gradT wo dx (factorGateB p wp proj bg sc)) y := by
  obtain ⟨a, b, i, j, rfl⟩ : ∃ (a : Fin 4) (b : Fin 2) (i : Fin 2048) (j : Fin 1024), y = ix4 a b i j := ⟨y 0, y 1, y 2, y 3, eq_ix4 y⟩
  refine (gateStage_at _ _ a b i j hy).trans ?_
  unfold gatePairs
  by_cases h : a.val = 2
  · rw [if_pos h, if_pos (show ((ix4 a b i j : S4x2x2048x1024.Idx) 0).val = 2 from h)]
    exact gradsA_at ..
  · rw [if_neg h, if_neg (show ¬ ((ix4 a b i j : S4x2x2048x1024.Idx) 0).val = 2 from h)]
    exact gradsB_at ..

/-- The column sums of a wide array. -/
def columnSums (x : Wide) : FVec Ideal S2048 .f32 :=
  Host.reduceAdd (shapeCast _ (Host.reduceAdd x (constant S_ .f32 0x00000000#32) reducesTo_S1x2048x2048_S1x2048_d1 h_S_) shapeCasts_S1x2048_S1x1x2048) (constant S_ .f32 0x00000000#32) reducesTo_S1x1x2048_S2048_d0_1 h_S_

theorem columnSums_at (x : Wide) (q : Fin 2048) : columnSums x (ix1 q) = ∑ l : Fin 2048, x (ix3 0 l q) := by
  pointwise [columnSums, hostReduceAdd_01]
  rw [Fin.sum_univ_one, Fin.sum_univ_one]

def pairStage (x y : Wide) : FVec Ideal S2x2048 .f32 :=
  shapeCast _ (broadcastInDim S1x4096 ![1] bcast_S4096_S1x4096_1 (addf
    (pad S4096 ![2048] ![0] ![0] (columnSums y) (constant S_ .f32 0x00000000#32) pads_S2048_S4096_204800 h_S_)
    (pad S4096 ![0] ![2048] ![0] (columnSums x) (constant S_ .f32 0x00000000#32) pads_S2048_S4096_020480 h_S_))) shapeCasts_S1x4096_S2x2048

theorem pairStage_at (x y : Wide) (a : Fin 2) (q : Fin 2048) :
    pairStage x y (ix2 a q) = ∑ l : Fin 2048, (if a.val = 0 then x else y) (ix3 0 l q) := by
  have h : a = 0 ∨ a = 1 := by omega
  rcases h with rfl | rfl
  · refine (show _ = columnSums x (ix1 q) by
      pointwise [pairStage]
      rw [dif_neg (fun h => h.1), zero_add]).trans (columnSums_at x q)
  · refine (show _ = columnSums y (ix1 q) by pointwise [pairStage]).trans (columnSums_at y q)

theorem pairs_eq : pairStage (gradsA z wa proj bg wo dx) (gradsB p wp proj bg sc wo dx)
    = sumPair (gradT wo dx (factorGateA z wa proj bg)) (gradT wo dx (factorGateB p wp proj bg sc)) := by
  funext y
  obtain ⟨a, q, rfl⟩ : ∃ (a : Fin 2) (q : Fin 2048), y = ix2 a q := ⟨y 0, y 1, eq_ix2 y⟩
  refine (pairStage_at _ _ a q).trans (Finset.sum_congr rfl fun l _ => ?_)
  by_cases h : a.val = 0
  · rw [if_pos h, if_pos (show ((ix2 a q : S2x2048.Idx) 0).val = 0 from h)]
    exact gradsA_at ..
  · rw [if_neg h, if_neg (show ¬ ((ix2 a q : S2x2048.Idx) 0).val = 0 from h)]
    exact gradsB_at ..

def scaleStage : FVec Ideal S1x2048 .f32 := broadcastInDim S1x2048 ![1] bcast_S2048_S1x2048_1 (columnSums (gradsScale p wp proj bg wo dx))

theorem scaleStage_eq : scaleStage p wp proj bg wo dx = sumRow (gradT wo dx (factorScale p wp proj bg)) := by
  funext y
  obtain ⟨q, rfl⟩ : ∃ q : Fin 2048, y = ix2 0 q := ⟨y 1, by blk_ext⟩
  refine (show _ = columnSums (gradsScale p wp proj bg wo dx) (ix1 q) by pointwise [scaleStage]).trans
    ((columnSums_at _ q).trans (Finset.sum_congr rfl fun l _ => gradsScale_at ..))

end Cert.MergeRefIdeal.Value

end
-- ==== Proof.Merge.Claims.lean ====
/- The claims about the merge and its gradients. -/
module

public import proofs.«01_k».proof.Defs
public import proofs.«01_k».proof.Proof.Gen.Merge.Frame
public import proofs.«01_k».proof.Proof.Gen.On_gates_written
public import proofs.«01_k».proof.Proof.Merge.Arrays
public import proofs.«01_k».proof.Proof.Merge.Reference

@[expose] public section

set_option maxRecDepth 16384

noncomputable section

open Idealize.ShloMosaic Idealize.ShloMosaic.TcCoe Idealize.ShloMosaic.Tactic Idealize.SL.Sem

namespace Cert.MergeClaims

open Cert.Shared

/-- The mask keeps the two slots of the gates' gradients the kernel writes. -/
theorem kept (z : Half) (wa : FVec Ideal ⟨3, ![1, 1024, 2048]⟩ .f32) (p : Half) (wp : FVec Ideal ⟨4, ![1, 4, 256, 512]⟩ .f32)
    (proj : FVec Ideal ⟨3, ![1, 2048, 8192]⟩ .f32) (bg : FVec Ideal ⟨2, ![1, 4096]⟩ .f32) (sc : FVec Ideal ⟨2, ![1, 2048]⟩ .f32)
    (wo : FVec Ideal ⟨3, ![1, 2048, 2048]⟩ .f32) (dx : FVec Ideal ⟨3, ![1, 2048, 2048]⟩ .bf16) [Cert.On_gates_written.Facts]
    (i : (⟨4, ![4, 2, 2048, 1024]⟩ : Shape).Idx)
    (h : (Cert.On_gates_written.fn (F := Ideal) z wa p wp proj bg sc wo dx).2.2.2.1 i = 1#1) : 2 ≤ (i 0).val := by
  obtain ⟨a, b, k, j, rfl⟩ : ∃ (a : Fin 4) (b : Fin 2) (k : Fin 2048) (j : Fin 1024), i = ix4 a b k j := ⟨i 0, i 1, i 2, i 3, eq_ix4 i⟩
  have e : (Cert.On_gates_written.fn (F := Ideal) z wa p wp proj bg sc wo dx).2.2.2.1 (ix4 a b k j)
      = IntOp.cmpi .sge (BitVec.ofNat 32 a.val) 2#32 := rfl
  rw [e] at h
  clear e
  show 2 ≤ a.val
  revert a
  decide

set_option maxHeartbeats 2000000 in
theorem value : algebraic_MergeIdeal_MergeRefIdeal_on_gates_written := by
  intro m g m' g' _ hagree
  refine ⟨fun c => table (Cert.MergeIdeal.mergedT m c),
    fun c => table (Cert.MergeIdeal.gradT m c (Cert.MergeIdeal.factorAT m c)),
    fun c => table (Cert.MergeIdeal.gradT m c (Cert.MergeIdeal.factorBT m c)),
    fun c => gatePairs (Cert.MergeIdeal.gradT m c (Cert.MergeIdeal.factorGateAT m c)) (Cert.MergeIdeal.gradT m c (Cert.MergeIdeal.factorGateBT m c)),
    fun c => sumPair (Cert.MergeIdeal.gradT m c (Cert.MergeIdeal.factorGateAT m c)) (Cert.MergeIdeal.gradT m c (Cert.MergeIdeal.factorGateBT m c)),
    fun c => sumRow (Cert.MergeIdeal.gradT m c (Cert.MergeIdeal.factorScaleT m c)), ?_, ?_⟩
  · refine (θ_run _ _ _).mono (fun r h c => ?_) (Cert.MergeIdeal.ends m g)
    refine ⟨fun i _ => congrFun ((h c _ (Cert.MergeIdeal.Gen.mem_uc Cert.MergeIdeal.main_v11_0 (by decide))).trans ?_) i,
      fun i _ => congrFun ((h c _ (Cert.MergeIdeal.Gen.mem_uc Cert.MergeIdeal.main_v15_0 (by decide))).trans
        ((Cert.MergeIdeal.Gen.W4_arr m g c 7).trans (Cert.MergeIdeal.array7 m g c))) i,
      fun i _ => congrFun ((h c _ (Cert.MergeIdeal.Gen.mem_uc Cert.MergeIdeal.main_v15_1 (by decide))).trans
        ((Cert.MergeIdeal.Gen.W4_arr m g c 8).trans (Cert.MergeIdeal.array8 m g c))) i,
      fun i hi => (congrFun ((h c _ (Cert.MergeIdeal.Gen.mem_uc Cert.MergeIdeal.main_v15_2 (by decide))).trans
        (Cert.MergeIdeal.Gen.W4_arr m g c 9)) i).trans (Cert.MergeIdeal.array9 m g c i (kept _ _ _ _ _ _ _ _ _ i hi)),
      fun i _ => congrFun ((h c _ (Cert.MergeIdeal.Gen.mem_uc Cert.MergeIdeal.main_v15_3 (by decide))).trans
        ((Cert.MergeIdeal.Gen.W4_arr m g c 10).trans (Cert.MergeIdeal.array10 m g c))) i,
      fun i _ => congrFun ((h c _ (Cert.MergeIdeal.Gen.mem_uc Cert.MergeIdeal.main_v15_4 (by decide))).trans
        ((Cert.MergeIdeal.Gen.W4_arr m g c 11).trans (Cert.MergeIdeal.array11 m g c))) i,
      (h c _ (Cert.MergeIdeal.Gen.mem_uc Cert.MergeIdeal.main_arg0 (by decide))).trans (Cert.MergeIdeal.Gen.W4_main_arg0 m g c),
      (h c _ (Cert.MergeIdeal.Gen.mem_uc Cert.MergeIdeal.main_arg1 (by decide))).trans (Cert.MergeIdeal.Gen.W4_main_arg1 m g c),
      (h c _ (Cert.MergeIdeal.Gen.mem_uc Cert.MergeIdeal.main_arg2 (by decide))).trans (Cert.MergeIdeal.Gen.W4_main_arg2 m g c),
      (h c _ (Cert.MergeIdeal.Gen.mem_uc Cert.MergeIdeal.main_arg3 (by decide))).trans (Cert.MergeIdeal.Gen.W4_main_arg3 m g c),
      (h c _ (Cert.MergeIdeal.Gen.mem_uc Cert.MergeIdeal.main_arg4 (by decide))).trans (Cert.MergeIdeal.Gen.W4_main_arg4 m g c),
      (h c _ (Cert.MergeIdeal.Gen.mem_uc Cert.MergeIdeal.main_arg5 (by decide))).trans (Cert.MergeIdeal.Gen.W4_main_arg5 m g c),
      (h c _ (Cert.MergeIdeal.Gen.mem_uc Cert.MergeIdeal.main_arg6 (by decide))).trans (Cert.MergeIdeal.Gen.W4_main_arg6 m g c),
      (h c _ (Cert.MergeIdeal.Gen.mem_uc Cert.MergeIdeal.main_arg7 (by decide))).trans (Cert.MergeIdeal.Gen.W4_main_arg7 m g c),
      (h c _ (Cert.MergeIdeal.Gen.mem_uc Cert.MergeIdeal.main_arg8 (by decide))).trans (Cert.MergeIdeal.Gen.W4_main_arg8 m g c)⟩
    exact (Cert.MergeIdeal.Gen.W4_of m g c Cert.MergeIdeal.main_v11_0 (by decide)).trans
      ((Cert.MergeIdeal.Gen.W3_of m g c Cert.MergeIdeal.main_v11_0 (by decide)).trans
      ((Cert.MergeIdeal.Gen.W2_arr m g c 8).trans (Cert.MergeIdeal.forward_arrays m g c).1))
  · refine (θ_run _ _ _).mono (fun r h c => ?_) (Cert.MergeRefIdeal.Value.run m' g')
    obtain ⟨h0, h1, h2, h3, h4, h5, hargs⟩ := h c
    obtain ⟨a0, a1, a2, a3, a4, a5, a6, a7, a8⟩ := hagree c
    refine ⟨fun i _ => congrFun (h0.trans ?_) i, fun i _ => congrFun (h1.trans ?_) i, fun i _ => congrFun (h2.trans ?_) i,
      fun i hi => (congrFun h3 i).trans ?_, fun i _ => congrFun (h4.trans ?_) i, fun i _ => congrFun (h5.trans ?_) i, hargs⟩
    · refine Eq.trans ?_ (Cert.MergeRefIdeal.Value.mergedStage_eq (Cert.MergeIdeal.zOf m c) (Cert.MergeIdeal.pOf m c) (Cert.MergeIdeal.waOf m c) (Cert.MergeIdeal.wpOf m c) (Cert.MergeIdeal.projOf m c) (Cert.MergeIdeal.bgOf m c) (Cert.MergeIdeal.scOf m c))
      rw [a0, a1, a2, a3, a4, a5, a6]
      rfl
    · refine Eq.trans ?_ (Cert.MergeRefIdeal.Value.firstStage_eq (Cert.MergeIdeal.projOf m c) (Cert.MergeIdeal.bgOf m c) (Cert.MergeIdeal.woOf m c) (Cert.MergeIdeal.dxOf m c))
      rw [a4, a5, a7, a8]
      rfl
    · refine Eq.trans ?_ (Cert.MergeRefIdeal.Value.secondStage_eq (Cert.MergeIdeal.projOf m c) (Cert.MergeIdeal.bgOf m c) (Cert.MergeIdeal.scOf m c) (Cert.MergeIdeal.woOf m c) (Cert.MergeIdeal.dxOf m c))
      rw [a4, a5, a6, a7, a8]
      rfl
    · have hk : 2 ≤ (i 0).val := kept _ _ _ _ _ _ _ _ _ i hi
      clear hi h0 h1 h2 h3 h4 h5 hargs h
      refine Eq.trans ?_ (Cert.MergeRefIdeal.Value.gates_eq (Cert.MergeIdeal.zOf m c) (Cert.MergeIdeal.pOf m c) (Cert.MergeIdeal.waOf m c)
        (Cert.MergeIdeal.wpOf m c) (Cert.MergeIdeal.projOf m c) (Cert.MergeIdeal.bgOf m c) (Cert.MergeIdeal.scOf m c)
        (Cert.MergeIdeal.woOf m c) (Cert.MergeIdeal.dxOf m c) i hk)
      unfold Cert.MergeRefIdeal.Value.res_main_v84
      rw [a0, a1, a2, a3, a4, a5, a6, a7, a8]
      rfl
    · refine Eq.trans ?_ (Cert.MergeRefIdeal.Value.pairs_eq (Cert.MergeIdeal.zOf m c) (Cert.MergeIdeal.pOf m c) (Cert.MergeIdeal.waOf m c) (Cert.MergeIdeal.wpOf m c) (Cert.MergeIdeal.projOf m c) (Cert.MergeIdeal.bgOf m c) (Cert.MergeIdeal.scOf m c) (Cert.MergeIdeal.woOf m c) (Cert.MergeIdeal.dxOf m c))
      unfold Cert.MergeRefIdeal.Value.res_main_v91
      rw [a0, a1, a2, a3, a4, a5, a6, a7, a8]
      rfl
    · refine Eq.trans ?_ (Cert.MergeRefIdeal.Value.scaleStage_eq (Cert.MergeIdeal.pOf m c) (Cert.MergeIdeal.wpOf m c) (Cert.MergeIdeal.projOf m c) (Cert.MergeIdeal.bgOf m c) (Cert.MergeIdeal.woOf m c) (Cert.MergeIdeal.dxOf m c))
      rw [a2, a3, a4, a5, a7, a8]
      rfl

theorem frame_reference : quiescent_MergeRefIdeal := fun m ρ _ =>
  (θ_run _ _ _).mono (fun r h => ⟨fun c => (h c).2.2.2.2.2.2, sem_eq_zero_of_no_sems (by decide) r.2⟩)
    (Cert.MergeRefIdeal.Value.run m ρ)

end Cert.MergeClaims

end
-- ==== Proof.Ffn.Run.lean ====
/- What the feed-forward program leaves in memory: after its four stretches (host operations, the forward product, host
   operations, the backward product) every buffer that outlives the run holds what the last valuation of the fold says. -/
module

public import proofs.«01_k».proof.Proof.Gen.FfnIdeal.Frame

@[expose] public section

noncomputable section

namespace Cert.FfnIdeal

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Every run of the feed-forward program ends with each lasting buffer at the contents the fold of its stretches gives. -/
theorem ends (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => by
      rw [show unscopedBufs c (fun b => m ((c : Thread nD τ).loc b))
        = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.FfnIdeal
-- ==== Proof.Ffn.Gates.lean ====
/- The gated layer and its gradients: the functions both programs are compared through, and that the slope of the gate times
   its logistic, as the kernel writes it, is the differentiated product's on finite values. -/
module

public import proofs.«01_k».proof.Proof.Reals

@[expose] public section

noncomputable section

open Idealize.ShloMosaic Idealize.SL.Sem

namespace Cert.Shared

/-- The gate times its logistic, and the derivative of that. -/
def silu (g : EReal) : EReal := g * Ideal.logistic g
def siluSlope (g : EReal) : EReal := Ideal.logistic g * (1 + g * (1 - Ideal.logistic g))

variable (h dx : FVec Ideal ⟨3, ![1, 2048, 2048]⟩ .bf16) (wu : FVec Ideal ⟨3, ![1, 2048, 5632]⟩ .f32)
  (g : FVec Ideal ⟨3, ![1, 2048, 5632]⟩ .bf16) (wd : FVec Ideal ⟨3, ![1, 5632, 2048]⟩ .f32) (i : Fin 2048) (q : Fin 5632)

/-- The up product, and the gradient of the activation. -/
def upOut : EReal := ∑ k : Fin 2048, h (ix3 0 i k) * wu (ix3 0 k q)
def downGrad : EReal := ∑ k : Fin 2048, dx (ix3 0 i k) * wd (ix3 0 q k)

/-- The activation, and the gradients of the gate's product and of the up product. -/
def activation : EReal := silu (g (ix3 0 i q)) * upOut h wu i q
def gateGrad : EReal := downGrad dx wd i q * (upOut h wu i q * siluSlope (g (ix3 0 i q)))
def upGrad : EReal := downGrad dx wd i q * silu (g (ix3 0 i q))

/-- A table whose columns are cut into eight groups, a group after another. -/
def grouped (f : Fin 2048 → Fin 5632 → EReal) : FVec Ideal ⟨3, ![8, 2048, 704]⟩ .bf16 := fun y =>
  f (y 1) ⟨(y 0).val * 704 + (y 2).val, by have h0 : (y 0).val < 8 := (y 0).isLt; have h2 : (y 2).val < 704 := (y 2).isLt; omega⟩

/-- The two ways to write the gate's gradient. -/
theorem slope_eq (a u r : ℝ) :
    (a : EReal) * u * Ideal.logistic r + r * (a * u) * (Ideal.logistic r * (1 - Ideal.logistic r)) = a * (u * siluSlope r) := by
  unfold siluSlope
  rw [Ideal.logistic_coe]
  rw [show (1 : EReal) = ((1 : ℝ) : EReal) from rfl]
  norm_cast
  ring

theorem upOut_real {h : FVec Ideal ⟨3, ![1, 2048, 2048]⟩ .bf16} {wu : FVec Ideal ⟨3, ![1, 2048, 5632]⟩ .f32}
    (hh : Reals h) (hw : Reals wu) (i : Fin 2048) (q : Fin 5632) : ∃ r : ℝ, upOut h wu i q = r := by
  obtain ⟨x, hx⟩ := hh
  obtain ⟨w, hw⟩ := hw
  refine ⟨∑ k : Fin 2048, x (ix3 0 i k) * w (ix3 0 k q), ?_⟩
  rw [coe_sum]
  exact Finset.sum_congr rfl fun k _ => by rw [hx, hw, EReal.coe_mul]

theorem downGrad_real {dx : FVec Ideal ⟨3, ![1, 2048, 2048]⟩ .bf16} {wd : FVec Ideal ⟨3, ![1, 5632, 2048]⟩ .f32}
    (hd : Reals dx) (hw : Reals wd) (i : Fin 2048) (q : Fin 5632) : ∃ r : ℝ, downGrad dx wd i q = r := by
  obtain ⟨x, hx⟩ := hd
  obtain ⟨w, hw⟩ := hw
  refine ⟨∑ k : Fin 2048, x (ix3 0 i k) * w (ix3 0 q k), ?_⟩
  rw [coe_sum]
  exact Finset.sum_congr rfl fun k _ => by rw [hx, hw, EReal.coe_mul]

end Cert.Shared
-- ==== Proof.Ffn.Forward.lean ====
/- What one block of the gated layer's forward call computes: the product of a stretch of rows with a block of the up
   weight, and from it and the gate the activation and the two factors the backward call multiplies with. -/
module

public import proofs.«01_k».proof.Proof.Gen.FfnIdeal.Frame
public import proofs.«01_k».proof.Proof.Pieces
public import proofs.«01_k».proof.Proof.Ffn.Gates
public import Idealize.ShloMosaic.Lib.Pipeline.ReadBack

@[expose] public section

noncomputable section

open Idealize.ShloMosaic Idealize.ShloMosaic.TcCoe Idealize.ShloMosaic.Tactic Idealize.SL.Sem

namespace Cert.FfnIdeal

open Cert.FfnIdeal.Gen Cert.Shared

theorem off_up (t : Fin grid0.N) : k0_off1 (grid0.coords t) 0#32 = ![t.val % 2 * 1024, 0]
    ∧ k0_off1 (grid0.coords t) 256#32 = ![t.val % 2 * 1024 + 256, 0]
    ∧ k0_off1 (grid0.coords t) 512#32 = ![t.val % 2 * 1024 + 512, 0]
    ∧ k0_off1 (grid0.coords t) 768#32 = ![t.val % 2 * 1024 + 768, 0] := by
  revert t
  decide +kernel

/-- The row of the table that is the `i`-th of the point's half. -/
theorem half_lt (t : Nat) (i : Fin 1024) : t % 2 * 1024 + i.val < 2048 := by omega

/-- The rows' product with the block of the weight. -/
def upBlk (x0 : Vec Ideal S2048x2048 .bf16) (x1 : Vec Ideal S1x2048x704 .bf16) (t : Nat) (i : Fin 1024) (j : Fin 704) : EReal :=
  ∑ k : Fin 2048, x0 (ix2 ⟨_, half_lt t i⟩ k) * x1 (ix3 0 k j)

variable (V : (c : Dev nD) → (b : Ref sig .tc) → Buf (Elt Ideal) ((c : Thread nD τ).loc b)) (c : Dev nD) (t : Fin cfg0.N)

set_option maxHeartbeats 1000000 in
/-- The three blocks written at a point. -/
theorem forward_at (i : Fin 1024) (j : Fin 704) :
    (outsAt0 V c t).1 (ix3 0 i j) = silu (iblk0 V c 2 t (ix3 0 i j))
    ∧ (outsAt0 V c t).2.1 (ix3 0 i j)
      = upBlk (iblk0 V c 0 t) (iblk0 V c 1 t) t.val i j * siluSlope (iblk0 V c 2 t (ix3 0 i j))
    ∧ (outsAt0 V c t).2.2 (ix3 0 i j)
      = silu (iblk0 V c 2 t (ix3 0 i j)) * upBlk (iblk0 V c 0 t) (iblk0 V c 1 t) t.val i j := by
  obtain ⟨e0, e1, e2, e3⟩ := off_up t
  unfold outsAt0
  refine ⟨?_, ?_, ?_⟩
  all_goals
    frame_out
    try simp (disch := decide) only [↓View.readCov_skip, ↓View.readCov_cons_toLoadRect, ↓View.readCov_fill]
    generalize iblk0 V c 0 t = x0
    generalize iblk0 V c 1 t = x1
    generalize iblk0 V c 2 t = x2
    try simp only [ld_part x0 e0 (n := 256) (k := 2048) (by omega) (by decide), ld_part x0 e1 (n := 256) (k := 2048) (by omega) (by decide),
      ld_part x0 e2 (n := 256) (k := 2048) (by omega) (by decide), ld_part x0 e3 (n := 256) (k := 2048) (by omega) (by decide)]
    clear e0 e1 e2 e3
    canon_tiles x h
  all_goals
    obtain ⟨p, q, rfl⟩ : ∃ (p : Fin 256) (q : Fin 704), x = ix3 0 p q := ⟨x 1, x 2, by
      rw [eq_ix3 x]
      exact congrArg (fun a => ix3 a (x 1) (x 2)) (Fin.ext (by simp))⟩
    obtain rfl : j = q := Fin.ext h2
    first
      | (have e : i = _ := piece_eq (n := 256) (N := 1024) (p := p) h1 (by decide); subst e)
      | (have e : i = ⟨p.val, Nat.lt_of_lt_of_le p.isLt (by decide)⟩ := Fin.ext h1; subst e)
    open_payloads
    pointwise [upBlk, silu, siluSlope, part, Nat.add_assoc]

end Cert.FfnIdeal
-- ==== Proof.Ffn.Backward.lean ====
/- What one block of the gated layer's backward call computes: the product of a stretch of rows of the residual's gradient
   with a block of the down weight, taken in two halves of the columns, times each of the two factors. -/
module

public import proofs.«01_k».proof.Proof.Ffn.Forward

@[expose] public section

noncomputable section

open Idealize.ShloMosaic Idealize.ShloMosaic.TcCoe Idealize.ShloMosaic.Tactic Idealize.SL.Sem

namespace Cert.FfnIdeal

open Cert.FfnIdeal.Gen Cert.Shared

theorem off_left (t : Fin grid1.N) : k1_off1 (grid1.coords t) 0#32 = ![t.val % 2 * 1024, 0]
    ∧ k1_off1 (grid1.coords t) 256#32 = ![t.val % 2 * 1024 + 256, 0]
    ∧ k1_off1 (grid1.coords t) 512#32 = ![t.val % 2 * 1024 + 512, 0]
    ∧ k1_off1 (grid1.coords t) 768#32 = ![t.val % 2 * 1024 + 768, 0] := by
  revert t
  decide +kernel

theorem off_right (t : Fin grid1.N) : k1_off2 (grid1.coords t) 0#32 = ![t.val % 2 * 1024, 1024]
    ∧ k1_off2 (grid1.coords t) 256#32 = ![t.val % 2 * 1024 + 256, 1024]
    ∧ k1_off2 (grid1.coords t) 512#32 = ![t.val % 2 * 1024 + 512, 1024]
    ∧ k1_off2 (grid1.coords t) 768#32 = ![t.val % 2 * 1024 + 768, 1024] := by
  revert t
  decide +kernel

/-- The rows' product with the block of the weight, in two halves. -/
def downBlk (x0 : Vec Ideal S2048x2048 .bf16) (x1 x2 : Vec Ideal S1x704x1024 .bf16) (t : Nat) (i : Fin 1024) (j : Fin 704) : EReal :=
  (∑ k : Fin 1024, x0 (ix2 ⟨_, half_lt t i⟩ ⟨k.val, by omega⟩) * x1 (ix3 0 j k))
    + ∑ k : Fin 1024, x0 (ix2 ⟨_, half_lt t i⟩ ⟨1024 + k.val, by omega⟩) * x2 (ix3 0 j k)

variable (V : (c : Dev nD) → (b : Ref sig .tc) → Buf (Elt Ideal) ((c : Thread nD τ).loc b)) (c : Dev nD) (t : Fin cfg1.N)

set_option maxHeartbeats 1000000 in
/-- The two blocks written at a point. -/
theorem backward_at (i : Fin 1024) (j : Fin 704) :
    (outsAt1 V c t).1 (ix3 0 i j)
      = downBlk (iblk1 V c 0 t) (iblk1 V c 1 t) (iblk1 V c 2 t) t.val i j * iblk1 V c 3 t (ix3 0 i j)
    ∧ (outsAt1 V c t).2 (ix3 0 i j)
      = downBlk (iblk1 V c 0 t) (iblk1 V c 1 t) (iblk1 V c 2 t) t.val i j * iblk1 V c 4 t (ix3 0 i j) := by
  obtain ⟨e0, e1, e2, e3⟩ := off_left t
  obtain ⟨f0, f1, f2, f3⟩ := off_right t
  unfold outsAt1
  refine ⟨?_, ?_⟩
  all_goals
    frame_out
    try simp (disch := decide) only [↓View.readCov_skip, ↓View.readCov_cons_toLoadRect, ↓View.readCov_fill]
    generalize iblk1 V c 0 t = x0
    generalize iblk1 V c 1 t = x1
    generalize iblk1 V c 2 t = x2
    generalize iblk1 V c 3 t = x3
    generalize iblk1 V c 4 t = x4
    simp only [ld_part x0 e0 (n := 256) (k := 1024) (by omega) (by decide), ld_part x0 e1 (n := 256) (k := 1024) (by omega) (by decide),
      ld_part x0 e2 (n := 256) (k := 1024) (by omega) (by decide), ld_part x0 e3 (n := 256) (k := 1024) (by omega) (by decide),
      ld_part x0 f0 (n := 256) (k := 1024) (by omega) (by decide), ld_part x0 f1 (n := 256) (k := 1024) (by omega) (by decide),
      ld_part x0 f2 (n := 256) (k := 1024) (by omega) (by decide), ld_part x0 f3 (n := 256) (k := 1024) (by omega) (by decide)]
    clear e0 e1 e2 e3 f0 f1 f2 f3
    canon_tiles x h
  all_goals
    obtain ⟨p, q, rfl⟩ : ∃ (p : Fin 256) (q : Fin 704), x = ix3 0 p q := ⟨x 1, x 2, by
      rw [eq_ix3 x]
      exact congrArg (fun a => ix3 a (x 1) (x 2)) (Fin.ext (by simp))⟩
    obtain rfl : j = q := Fin.ext h2
    first
      | (have e := piece_eq (n := 256) (N := 1024) h1 (by decide); subst e)
      | (have e : i = ⟨p.val, Nat.lt_of_lt_of_le p.isLt (by decide)⟩ := Fin.ext h1; subst e)
    open_payloads
    pointwise [downBlk, part, Nat.add_assoc]

end Cert.FfnIdeal
-- ==== Proof.Ffn.Arrays.lean ====
/- What the gated layer's program's arrays hold when it ends, from the arguments. -/
module

public import proofs.«01_k».proof.Proof.Ffn.Run
public import proofs.«01_k».proof.Proof.Ffn.Backward

@[expose] public section

noncomputable section

open Idealize.ShloMosaic Idealize.ShloMosaic.TcCoe Idealize.ShloMosaic.Tactic Idealize.SL.Sem

namespace Cert.FfnIdeal

open Cert.FfnIdeal.Gen Cert.Shared

variable (m : (ℓ : Loc nD τ sig) → Buf (Elt Ideal) ℓ) (ρ : Dev nD → PrngReg) (c : Dev nD)

/-- The argument arrays, at their shapes. -/
abbrev hOf : FVec Ideal S1x2048x2048 .bf16 := m ((c.tc : Thread nD τ).loc main_arg0)
abbrev wuOf : FVec Ideal S1x2048x5632 .f32 := m ((c.tc : Thread nD τ).loc main_arg1)
abbrev gOf : FVec Ideal S1x2048x5632 .bf16 := m ((c.tc : Thread nD τ).loc main_arg2)
abbrev wdOf : FVec Ideal S1x5632x2048 .f32 := m ((c.tc : Thread nD τ).loc main_arg3)
abbrev dxOf : FVec Ideal S1x2048x2048 .bf16 := m ((c.tc : Thread nD τ).loc main_arg4)

/-! What the host lines before the forward region prepare. -/

theorem V1_v3 (n : Fin 8) (k : Fin 2048) (l : Fin 704) :
    V1 m ρ c main_v3 (ix3 n k l) = wuOf m c (ix3 0 k ⟨n.val * 704 + l.val, by omega⟩) := by
  have e : V1 m ρ c main_v3 = transpose S8x2048x704 [1, 0, 2] (shapeCast S2048x8x704 (truncf (F := Ideal) .bf16
      (shapeCast S2048x5632 (wuOf m c) shapeCasts_S1x2048x5632_S2048x5632) bitsLt_bf16_f32) shapeCasts_S2048x5632_S2048x8x704)
      transposes_S2048x8x704_S8x2048x704_1_0_2 := by
    show StableHlo.after hostOps0 (W0 m ρ c) (Proc.devRef .tc main_v3) = _
    after_results
    rfl
  rw [e]
  pointwise

theorem V1_v5 (n : Fin 8) (i : Fin 2048) (l : Fin 704) :
    V1 m ρ c main_v5 (ix3 n i l) = gOf m c (ix3 0 i ⟨n.val * 704 + l.val, by omega⟩) := by
  have e : V1 m ρ c main_v5 = transpose S8x2048x704 [1, 0, 2] (shapeCast S2048x8x704 (gOf m c) shapeCasts_S1x2048x5632_S2048x8x704)
      transposes_S2048x8x704_S8x2048x704_1_0_2 := by
    show StableHlo.after hostOps0 (W0 m ρ c) (Proc.devRef .tc main_v5) = _
    after_results
    rfl
  rw [e]
  pointwise

theorem V1_v8 : V1 m ρ c main_v8 = shapeCast S8x704x2048 (truncf (F := Ideal) .bf16
    (shapeCast S5632x2048 (wdOf m c) shapeCasts_S1x5632x2048_S5632x2048) bitsLt_bf16_f32) shapeCasts_S5632x2048_S8x704x2048 := by
  show StableHlo.after hostOps0 (W0 m ρ c) (Proc.devRef .tc main_v8) = _
  after_results
  rfl

theorem V1_v9 (i k : Fin 2048) : V1 m ρ c main_v9 (ix2 i k) = hOf m c (ix3 0 i k) := by
  have e : V1 m ρ c main_v9 = shapeCast S2048x2048 (hOf m c) shapeCasts_S1x2048x2048_S2048x2048 := by
    show StableHlo.after hostOps0 (W0 m ρ c) (Proc.devRef .tc main_v9) = _
    after_results
    rfl
  rw [e]
  pointwise

theorem idx0 : ∀ t : Fin cfg0.N, win0_0.index t = ![0, 0] ∧ win0_1.index t = ![t.val / 2, 0, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0] :=
  (by decide +kernel : ∀ t : Fin grid0.N, _)

theorem idx1 : ∀ t : Fin cfg1.N, win1_0.index t = ![0, 0] ∧ win1_1.index t = ![t.val / 2, 0, 0]
    ∧ win1_2.index t = ![t.val / 2, 0, 0] ∧ win1_3.index t = ![t.val / 2, t.val % 2, 0]
    ∧ win1_4.index t = ![t.val / 2, t.val % 2, 0] ∧ win1_5.index t = ![t.val / 2, t.val % 2, 0]
    ∧ win1_6.index t = ![t.val / 2, t.val % 2, 0] :=
  (by decide +kernel : ∀ t : Fin grid1.N, _)

/-- The group of a point, and a column's place in the whole table. -/
theorem group_lt0 (t : Fin cfg0.N) : t.val / 2 < 8 := by
  have := t.isLt; have : cfg0.N = 16 := N_0; omega
theorem group_lt1 (t : Fin cfg1.N) : t.val / 2 < 8 := by
  have := t.isLt; have : cfg1.N = 16 := N_1; omega
theorem place_lt {n : Nat} (h : n < 8) (j : Fin 704) : n * 704 + j.val < 5632 := by omega

/-- The forward region's tables. -/
abbrev activationT := activation (hOf m c) (wuOf m c) (gOf m c)
def siluT (i : Fin 2048) (q : Fin 5632) : EReal := silu (gOf m c (ix3 0 i q))
def slopeT (i : Fin 2048) (q : Fin 5632) : EReal := upOut (hOf m c) (wuOf m c) i q * siluSlope (gOf m c (ix3 0 i q))

theorem upBlk_eq (t : Fin cfg0.N) (i : Fin 1024) (j : Fin 704) :
    upBlk (iblk0 (V1 m ρ) c 0 t) (iblk0 (V1 m ρ) c 1 t) t.val i j
      = upOut (hOf m c) (wuOf m c) ⟨_, half_lt t.val i⟩ ⟨_, place_lt (group_lt0 t) j⟩ := by
  unfold upBlk upOut
  refine Finset.sum_congr rfl fun k _ => congrArg₂ _ ?_ ?_
  · exact (show _ = V1 m ρ c main_v9 (ix2 ⟨_, half_lt t.val i⟩ k) by blk_point [iblk0, idx0 t]).trans (V1_v9 m ρ c _ k)
  · exact (show _ = V1 m ρ c main_v3 (ix3 ⟨_, group_lt0 t⟩ k j) by blk_point [iblk0, idx0 t]).trans (V1_v3 m ρ c _ k j)

theorem gateBlk_eq (t : Fin cfg0.N) (i : Fin 1024) (j : Fin 704) :
    iblk0 (V1 m ρ) c 2 t (ix3 0 i j) = gOf m c (ix3 0 ⟨_, half_lt t.val i⟩ ⟨_, place_lt (group_lt0 t) j⟩) :=
  (show _ = V1 m ρ c main_v5 (ix3 ⟨_, group_lt0 t⟩ ⟨_, half_lt t.val i⟩ j) by blk_point [iblk0, idx0 t]).trans (V1_v5 m ρ c _ _ j)

/-- What the forward region's step leaves at a place of its blocks. -/
theorem forward_blocks (t : Fin cfg0.N) (i : Fin 1024) (j : Fin 704) :
    (outsAt0 (V1 m ρ) c t).1 (ix3 0 i j) = siluT m c ⟨_, half_lt t.val i⟩ ⟨_, place_lt (group_lt0 t) j⟩
    ∧ (outsAt0 (V1 m ρ) c t).2.1 (ix3 0 i j) = slopeT m c ⟨_, half_lt t.val i⟩ ⟨_, place_lt (group_lt0 t) j⟩
    ∧ (outsAt0 (V1 m ρ) c t).2.2 (ix3 0 i j) = activationT m c ⟨_, half_lt t.val i⟩ ⟨_, place_lt (group_lt0 t) j⟩ := by
  have e1 := upBlk_eq m ρ c t i j
  have e2 := gateBlk_eq m ρ c t i j
  obtain ⟨h1, h2, h3⟩ := forward_at (V1 m ρ) c t i j
  exact ⟨h1.trans (congrArg silu e2), h2.trans (congrArg₂ _ e1 (congrArg siluSlope e2)), h3.trans (congrArg₂ _ (congrArg silu e2) e1)⟩

/-- The forward region's arrays hold the tables. -/
theorem array_silu : (dat0 (V1 m ρ) c).arrAt 3 cfg0.N = grouped (siluT m c) := by
  refine (dat0 (V1 m ρ) c).arrAt_eq_of_covers 3 _ (by decide +kernel) fun t _ y => ?_
  blk_simp
  rw [after0_3]
  obtain ⟨i, j, rfl⟩ : ∃ (i : Fin 1024) (j : Fin 704), y = ix3 0 i j := ⟨y 1, y 2, by blk_ext⟩
  have e : (win0_3.blk t).view.emb (ix3 0 i j) = ix3 ⟨_, group_lt0 t⟩ ⟨_, half_lt t.val i⟩ j := by blk_ext [idx0 t]
  rw [e]
  exact (forward_blocks m ρ c t i j).1

theorem array_slope : (dat0 (V1 m ρ) c).arrAt 4 cfg0.N = grouped (slopeT m c) := by
  refine (dat0 (V1 m ρ) c).arrAt_eq_of_covers 4 _ (by decide +kernel) fun t _ y => ?_
  blk_simp
  rw [after0_4]
  obtain ⟨i, j, rfl⟩ : ∃ (i : Fin 1024) (j : Fin 704), y = ix3 0 i j := ⟨y 1, y 2, by blk_ext⟩
  have e : (win0_4.blk t).view.emb (ix3 0 i j) = ix3 ⟨_, group_lt0 t⟩ ⟨_, half_lt t.val i⟩ j := by blk_ext [idx0 t]
  rw [e]
  exact (forward_blocks m ρ c t i j).2.1

theorem array_activation : (dat0 (V1 m ρ) c).arrAt 5 cfg0.N = grouped (activationT m c) := by
  refine (dat0 (V1 m ρ) c).arrAt_eq_of_covers 5 _ (by decide +kernel) fun t _ y => ?_
  blk_simp
  rw [after0_5]
  obtain ⟨i, j, rfl⟩ : ∃ (i : Fin 1024) (j : Fin 704), y = ix3 0 i j := ⟨y 1, y 2, by blk_ext⟩
  have e : (win0_5.blk t).view.emb (ix3 0 i j) = ix3 ⟨_, group_lt0 t⟩ ⟨_, half_lt t.val i⟩ j := by blk_ext [idx0 t]
  rw [e]
  exact (forward_blocks m ρ c t i j).2.2

/-! What the backward region reads. -/

theorem V3_silu : V3 m ρ c main_v10_0 = grouped (siluT m c) :=
  (W3_of m ρ c main_v10_0 (by decide)).trans ((W2_arr m ρ c 3).trans (array_silu m ρ c))
theorem V3_slope : V3 m ρ c main_v10_1 = grouped (slopeT m c) :=
  (W3_of m ρ c main_v10_1 (by decide)).trans ((W2_arr m ρ c 4).trans (array_slope m ρ c))

theorem V3_v11 (i k : Fin 2048) : V3 m ρ c main_v11 (ix2 i k) = dxOf m c (ix3 0 i k) := by
  have e : V3 m ρ c main_v11 = shapeCast S2048x2048 (dxOf m c) shapeCasts_S1x2048x2048_S2048x2048 := by
    show StableHlo.after hostOps1 (W2 m ρ c) (Proc.devRef .tc main_v11) = _
    after_results
    rw [W2_args m ρ c main_arg4 (by decide)]
    rfl
  rw [e]
  pointwise

/-- The down weight's groups, unchanged by the forward region. -/
theorem V2_v8 : W2 m ρ c (Proc.devRef .tc main_v8) = shapeCast S8x704x2048 (truncf (F := Ideal) .bf16
    (shapeCast S5632x2048 (wdOf m c) shapeCasts_S1x5632x2048_S5632x2048) bitsLt_bf16_f32) shapeCasts_S5632x2048_S8x704x2048 :=
  (W2_of m ρ c main_v8 (by decide)).trans (V1_v8 m ρ c)

theorem V3_v12 (n : Fin 8) (l : Fin 704) (k : Fin 1024) :
    V3 m ρ c main_v12 (ix3 n l k) = wdOf m c (ix3 0 ⟨n.val * 704 + l.val, by omega⟩ ⟨k.val, by omega⟩) := by
  have e : V3 m ρ c main_v12 = extractStridedSlice S8x704x1024 ![0, 0, 0] (shapeCast S8x704x2048 (truncf (F := Ideal) .bf16
      (shapeCast S5632x2048 (wdOf m c) shapeCasts_S1x5632x2048_S5632x2048) bitsLt_bf16_f32) shapeCasts_S5632x2048_S8x704x2048)
      slices_S8x704x2048_S8x704x1024_0_0_0 := by
    show StableHlo.after hostOps1 (W2 m ρ c) (Proc.devRef .tc main_v12) = _
    after_results
    rw [V2_v8]
  rw [e]
  pointwise

theorem V3_v13 (n : Fin 8) (l : Fin 704) (k : Fin 1024) :
    V3 m ρ c main_v13 (ix3 n l k) = wdOf m c (ix3 0 ⟨n.val * 704 + l.val, by omega⟩ ⟨1024 + k.val, by omega⟩) := by
  have e : V3 m ρ c main_v13 = extractStridedSlice S8x704x1024 ![0, 0, 1024] (shapeCast S8x704x2048 (truncf (F := Ideal) .bf16
      (shapeCast S5632x2048 (wdOf m c) shapeCasts_S1x5632x2048_S5632x2048) bitsLt_bf16_f32) shapeCasts_S5632x2048_S8x704x2048)
      slices_S8x704x2048_S8x704x1024_0_0_1024 := by
    show StableHlo.after hostOps1 (W2 m ρ c) (Proc.devRef .tc main_v13) = _
    after_results
    rw [V2_v8]
  rw [e]
  pointwise

theorem downBlk_eq (t : Fin cfg1.N) (i : Fin 1024) (j : Fin 704) :
    downBlk (iblk1 (V3 m ρ) c 0 t) (iblk1 (V3 m ρ) c 1 t) (iblk1 (V3 m ρ) c 2 t) t.val i j
      = downGrad (dxOf m c) (wdOf m c) ⟨_, half_lt t.val i⟩ ⟨_, place_lt (group_lt1 t) j⟩ := by
  unfold downBlk downGrad
  refine Eq.trans ?_ (Fin.sum_univ_add (a := 1024) (b := 1024) _).symm
  refine congrArg₂ _ (Finset.sum_congr rfl fun k _ => congrArg₂ _ ?_ ?_) (Finset.sum_congr rfl fun k _ => congrArg₂ _ ?_ ?_)
  · exact (show _ = V3 m ρ c main_v11 (ix2 ⟨_, half_lt t.val i⟩ ⟨k.val, by omega⟩) by blk_point [iblk1, idx1 t]).trans (V3_v11 m ρ c _ _)
  · exact (show _ = V3 m ρ c main_v12 (ix3 ⟨_, group_lt1 t⟩ j k) by blk_point [iblk1, idx1 t]).trans (V3_v12 m ρ c _ j k)
  · exact (show _ = V3 m ρ c main_v11 (ix2 ⟨_, half_lt t.val i⟩ ⟨1024 + k.val, by omega⟩) by blk_point [iblk1, idx1 t]).trans (V3_v11 m ρ c _ _)
  · exact (show _ = V3 m ρ c main_v13 (ix3 ⟨_, group_lt1 t⟩ j k) by blk_point [iblk1, idx1 t]).trans (V3_v13 m ρ c _ j k)

theorem factors_eq (t : Fin cfg1.N) (i : Fin 1024) (j : Fin 704) :
    iblk1 (V3 m ρ) c 3 t (ix3 0 i j) = slopeT m c ⟨_, half_lt t.val i⟩ ⟨_, place_lt (group_lt1 t) j⟩
    ∧ iblk1 (V3 m ρ) c 4 t (ix3 0 i j) = siluT m c ⟨_, half_lt t.val i⟩ ⟨_, place_lt (group_lt1 t) j⟩ :=
  ⟨(show _ = V3 m ρ c main_v10_1 (ix3 ⟨_, group_lt1 t⟩ ⟨_, half_lt t.val i⟩ j) by blk_point [iblk1, idx1 t]).trans (congrFun (V3_slope m ρ c) _),
    (show _ = V3 m ρ c main_v10_0 (ix3 ⟨_, group_lt1 t⟩ ⟨_, half_lt t.val i⟩ j) by blk_point [iblk1, idx1 t]).trans (congrFun (V3_silu m ρ c) _)⟩

/-- The two gradients' tables. -/
abbrev gateGradT := gateGrad (hOf m c) (dxOf m c) (wuOf m c) (gOf m c) (wdOf m c)
abbrev upGradT := upGrad (dxOf m c) (gOf m c) (wdOf m c)

theorem backward_blocks (t : Fin cfg1.N) (i : Fin 1024) (j : Fin 704) :
    (outsAt1 (V3 m ρ) c t).1 (ix3 0 i j) = gateGradT m c ⟨_, half_lt t.val i⟩ ⟨_, place_lt (group_lt1 t) j⟩
    ∧ (outsAt1 (V3 m ρ) c t).2 (ix3 0 i j) = upGradT m c ⟨_, half_lt t.val i⟩ ⟨_, place_lt (group_lt1 t) j⟩ := by
  have e := downBlk_eq m ρ c t i j
  obtain ⟨f1, f2⟩ := factors_eq m ρ c t i j
  obtain ⟨h1, h2⟩ := backward_at (V3 m ρ) c t i j
  exact ⟨h1.trans (congrArg₂ _ e f1), h2.trans (congrArg₂ _ e f2)⟩

theorem array_gateGrad : (dat1 (V3 m ρ) c).arrAt 5 cfg1.N = grouped (gateGradT m c) := by
  refine (dat1 (V3 m ρ) c).arrAt_eq_of_covers 5 _ (by decide +kernel) fun t _ y => ?_
  blk_simp
  rw [after1_5]
  obtain ⟨i, j, rfl⟩ : ∃ (i : Fin 1024) (j : Fin 704), y = ix3 0 i j := ⟨y 1, y 2, by blk_ext⟩
  have e : (win1_5.blk t).view.emb (ix3 0 i j) = ix3 ⟨_, group_lt1 t⟩ ⟨_, half_lt t.val i⟩ j := by blk_ext [idx1 t]
  rw [e]
  exact (backward_blocks m ρ c t i j).1

theorem array_upGrad : (dat1 (V3 m ρ) c).arrAt 6 cfg1.N = grouped (upGradT m c) := by
  refine (dat1 (V3 m ρ) c).arrAt_eq_of_covers 6 _ (by decide +kernel) fun t _ y => ?_
  blk_simp
  rw [after1_6]
  obtain ⟨i, j, rfl⟩ : ∃ (i : Fin 1024) (j : Fin 704), y = ix3 0 i j := ⟨y 1, y 2, by blk_ext⟩
  have e : (win1_6.blk t).view.emb (ix3 0 i j) = ix3 ⟨_, group_lt1 t⟩ ⟨_, half_lt t.val i⟩ j := by blk_ext [idx1 t]
  rw [e]
  exact (backward_blocks m ρ c t i j).2

end Cert.FfnIdeal
-- ==== Proof.Ffn.Reference.lean ====
/- The gated layer and its gradients in the reference program, stage by stage, and that they are the tables. -/
module

public import proofs.«01_k».proof.Proof.Gen.FfnRefIdeal.Run
public import proofs.«01_k».proof.Proof.Ffn.Gates

@[expose] public section

set_option maxRecDepth 16384

noncomputable section

open Idealize.ShloMosaic Idealize.ShloMosaic.TcCoe Idealize.SL.Sem

namespace Cert.FfnRefIdeal.Value

open Cert.FfnRefIdeal Cert.FfnRefIdeal.Gen Cert.Shared

abbrev Wider := FVec Ideal S1x2048x5632 .f32

variable (h dx : FVec Ideal S1x2048x2048 .bf16) (wu : Wider) (g : FVec Ideal S1x2048x5632 .bf16) (wd : FVec Ideal S1x5632x2048 .f32)

/-- The two products, the gate in f32, and its logistic. -/
def ups : Wider :=
  Host.dotGeneral dot_S1x2048x2048_S2048x5632_S1x2048x5632_2_0_01_1_n_n none (extf .f32 h bitsLt_bf16_f32) (shapeCast _ wu shapeCasts_S1x2048x5632_S2048x5632)
def downs : Wider :=
  Host.dotGeneral dot_S1x2048x2048_S5632x2048_S1x2048x5632_2_1_01_0_n_n none (extf .f32 dx bitsLt_bf16_f32) (shapeCast _ wd shapeCasts_S1x5632x2048_S5632x2048)
def gates : Wider := extf .f32 g bitsLt_bf16_f32
def ones : Wider := broadcastInDim S1x2048x5632 ![] bcast_S_S1x2048x5632 (constant S_ .f32 0x3F800000#32)
def opens : Wider := Host.divf ones (addf ones (Host.exp (Host.negf (gates g))))

theorem ups_at (i : Fin 2048) (q : Fin 5632) : ups h wu (ix3 0 i q) = upOut h wu i q := by
  unfold upOut
  pointwise [ups]

theorem downs_at (i : Fin 2048) (q : Fin 5632) : downs dx wd (ix3 0 i q) = downGrad dx wd i q := by
  unfold downGrad
  pointwise [downs]

theorem gates_at (i : Fin 2048) (q : Fin 5632) : gates g (ix3 0 i q) = g (ix3 0 i q) := by
  pointwise [gates]

theorem ones_at (i : Fin 2048) (q : Fin 5632) : ones (ix3 0 i q) = 1 := by
  pointwise [ones]

theorem opens_at (i : Fin 2048) (q : Fin 5632) : opens g (ix3 0 i q) = Ideal.logistic (g (ix3 0 i q)) := by
  unfold Ideal.logistic
  pointwise [opens, ones, gates]

/-- A wide array's columns in eight groups. -/
def groups (x : Wider) : FVec Ideal S8x2048x704 .bf16 :=
  truncf .bf16 (transpose S8x2048x704 [1, 0, 2] (shapeCast _ x shapeCasts_S1x2048x5632_S2048x8x704) transposes_S2048x8x704_S8x2048x704_1_0_2) bitsLt_bf16_f32

theorem groups_eq (x : Wider) (f : Fin 2048 → Fin 5632 → EReal) (hx : ∀ i q, x (ix3 0 i q) = f i q) : groups x = grouped f := by
  funext y
  obtain ⟨n, i, j, rfl⟩ : ∃ (n : Fin 8) (i : Fin 2048) (j : Fin 704), y = ix3 n i j := ⟨y 0, y 1, y 2, eq_ix3 y⟩
  refine (show _ = x (ix3 0 i ⟨n.val * 704 + j.val, by omega⟩) by pointwise [groups]).trans (hx _ _)

theorem activations_eq : groups (mulf (mulf (gates g) (opens g)) (ups h wu)) = grouped (activation h wu g) :=
  groups_eq _ _ fun i q => by
    pointwise
    rw [gates_at, opens_at, ups_at]
    rfl

theorem upGrads_eq : groups (mulf (mulf (gates g) (opens g)) (downs dx wd)) = grouped (upGrad dx g wd) :=
  groups_eq _ _ fun i q => by
    pointwise
    rw [gates_at, opens_at, downs_at, mul_comm]
    rfl

/-- The gate's gradient as the differentiated product leaves it. -/
def gateGrads : Wider :=
  addf (mulf (mulf (downs dx wd) (ups h wu)) (opens g))
    (mulf (mulf (gates g) (mulf (downs dx wd) (ups h wu))) (mulf (opens g) (subf ones (opens g))))

theorem gateGrads_eq (hh : Reals h) (hw : Reals wu) (hg : Reals g) (hv : Reals wd) (hd : Reals dx) :
    groups (gateGrads h dx wu g wd) = grouped (gateGrad h dx wu g wd) :=
  groups_eq _ _ fun i q => by
    obtain ⟨u, hu⟩ := upOut_real hh hw i q
    obtain ⟨a, ha⟩ := downGrad_real hd hv i q
    obtain ⟨r, hr⟩ := hg
    unfold gateGrads gateGrad
    pointwise
    rw [gates_at, opens_at, downs_at, ups_at, ones_at, hu, ha, hr]
    exact slope_eq a u _

end Cert.FfnRefIdeal.Value

end
-- ==== Proof.Ffn.Claims.lean ====
/- The claims about the gated layer and its gradients. -/
module

public import proofs.«01_k».proof.Defs
public import proofs.«01_k».proof.Proof.Gen.Pre_ffn_finite
public import proofs.«01_k».proof.Proof.Gen.Ffn.Frame
public import proofs.«01_k».proof.Proof.Ffn.Arrays
public import proofs.«01_k».proof.Proof.Ffn.Reference

@[expose] public section

set_option maxRecDepth 16384

noncomputable section

open Idealize.ShloMosaic Idealize.ShloMosaic.TcCoe Idealize.ShloMosaic.Tactic Idealize.SL.Sem

namespace Cert.FfnClaims

open Cert.Shared

set_option maxHeartbeats 2000000 in
theorem value : algebraic_FfnIdeal_FfnRefIdeal_pre_ffn_finite := by
  intro m g m' g' hpre hagree
  refine ⟨fun c => grouped (Cert.FfnIdeal.activationT m c), fun c => grouped (Cert.FfnIdeal.gateGradT m c),
    fun c => grouped (Cert.FfnIdeal.upGradT m c), ?_, ?_⟩
  · refine (θ_run _ _ _).mono (fun r h c => ?_) (Cert.FfnIdeal.ends m g)
    exact ⟨(h c _ (Cert.FfnIdeal.Gen.mem_uc Cert.FfnIdeal.main_v10_2 (by decide))).trans
        ((Cert.FfnIdeal.Gen.W4_of m g c Cert.FfnIdeal.main_v10_2 (by decide)).trans
        ((Cert.FfnIdeal.Gen.W3_of m g c Cert.FfnIdeal.main_v10_2 (by decide)).trans
        ((Cert.FfnIdeal.Gen.W2_arr m g c 5).trans (Cert.FfnIdeal.array_activation m g c)))),
      (h c _ (Cert.FfnIdeal.Gen.mem_uc Cert.FfnIdeal.main_v14_0 (by decide))).trans
        ((Cert.FfnIdeal.Gen.W4_arr m g c 5).trans (Cert.FfnIdeal.array_gateGrad m g c)),
      (h c _ (Cert.FfnIdeal.Gen.mem_uc Cert.FfnIdeal.main_v14_1 (by decide))).trans
        ((Cert.FfnIdeal.Gen.W4_arr m g c 6).trans (Cert.FfnIdeal.array_upGrad m g c)),
      (h c _ (Cert.FfnIdeal.Gen.mem_uc Cert.FfnIdeal.main_arg0 (by decide))).trans (Cert.FfnIdeal.Gen.W4_main_arg0 m g c),
      (h c _ (Cert.FfnIdeal.Gen.mem_uc Cert.FfnIdeal.main_arg1 (by decide))).trans (Cert.FfnIdeal.Gen.W4_main_arg1 m g c),
      (h c _ (Cert.FfnIdeal.Gen.mem_uc Cert.FfnIdeal.main_arg2 (by decide))).trans (Cert.FfnIdeal.Gen.W4_main_arg2 m g c),
      (h c _ (Cert.FfnIdeal.Gen.mem_uc Cert.FfnIdeal.main_arg3 (by decide))).trans (Cert.FfnIdeal.Gen.W4_main_arg3 m g c),
      (h c _ (Cert.FfnIdeal.Gen.mem_uc Cert.FfnIdeal.main_arg4 (by decide))).trans (Cert.FfnIdeal.Gen.W4_main_arg4 m g c)⟩
  · refine (θ_run _ _ _).mono (fun r h c => ?_) (Cert.FfnRefIdeal.Value.run m' g')
    obtain ⟨h0, h1, h2, hargs⟩ := h c
    obtain ⟨a0, a1, a2, a3, a4⟩ := hagree c
    obtain ⟨f0, f1, f2, f3, f4⟩ := hpre c
    refine ⟨h0.trans ?_, h1.trans ?_, h2.trans ?_, hargs⟩
    · refine Eq.trans ?_ (Cert.FfnRefIdeal.Value.activations_eq (Cert.FfnIdeal.hOf m c) (Cert.FfnIdeal.wuOf m c) (Cert.FfnIdeal.gOf m c))
      rw [a0, a1, a2]
      rfl
    · refine Eq.trans ?_ (Cert.FfnRefIdeal.Value.gateGrads_eq (Cert.FfnIdeal.hOf m c) (Cert.FfnIdeal.dxOf m c) (Cert.FfnIdeal.wuOf m c)
        (Cert.FfnIdeal.gOf m c) (Cert.FfnIdeal.wdOf m c) (reals_of_bits _ _ f0) (reals_of_bits _ _ f1) (reals_of_bits _ _ f2)
        (reals_of_bits _ _ f3) (reals_of_bits _ _ f4))
      rw [a0, a1, a2, a3, a4]
      rfl
    · refine Eq.trans ?_ (Cert.FfnRefIdeal.Value.upGrads_eq (Cert.FfnIdeal.dxOf m c) (Cert.FfnIdeal.gOf m c) (Cert.FfnIdeal.wdOf m c))
      rw [a2, a3, a4]
      rfl

theorem frame_reference : quiescent_FfnRefIdeal := fun m ρ _ =>
  (θ_run _ _ _).mono (fun r h => ⟨fun c => (h c).2.2.2, sem_eq_zero_of_no_sems (by decide) r.2⟩)
    (Cert.FfnRefIdeal.Value.run m ρ)

end Cert.FfnClaims

end
-- ==== Proof.Rms1.Kernel.lean ====
/- The first norm's gradient in the kernel: what one block of tokens computes, and what the two result arrays hold. -/
module

public import proofs.«01_k».proof.Proof.Gen.Rms1Ideal.Value
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.Rms1Ideal.Value

open Cert.Rms1Ideal Cert.Rms1Ideal.Gen Cert.Shared

/-- A block's input gradient at an entry. -/
theorem pay_input (dh : FVec Ideal S256x2048 .bf16) (x : FVec Ideal S256x2048 .f32) (g : FVec Ideal S1x2048 .f32)
    (dr : FVec Ideal S256x2048 .f32) (i : Fin 256) (j : Fin 2048) :
    k0_pay1 (F := Ideal) (k0_pay5 (F := Ideal) x) dr (k0_pay8 (F := Ideal) x dh g) (ix2 i j)
      = dr (ix2 i j) + normGrad (fun k => x (ix2 i k)) (fun k => dh (ix2 i k)) (fun k => g (ix2 0 k)) j := by
  unfold normGrad invRms meanSq
  pointwise [k0_pay1, k0_pay3, k0_pay4, k0_pay5, k0_pay6, k0_pay8]

/-- What a block adds to the gain's gradient at a column. -/
theorem pay_gain (dh : FVec Ideal S256x2048 .bf16) (x : FVec Ideal S256x2048 .f32) (a : FVec Ideal S1x2048 .f32) (j : Fin 2048) :
    k0_pay7 (F := Ideal) x dh a (ix2 0 j)
      = a (ix2 0 j) + ∑ i : Fin 256, dh (ix2 i j) * (x (ix2 i j) * invRms fun k => x (ix2 i k)) := by
  unfold invRms meanSq
  pointwise [k0_pay7, k0_pay3, k0_pay4, k0_pay5, k0_pay6]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The argument arrays, at their shapes. -/
abbrev dhOf (c : Dev nD) : FVec Ideal S1x2048x2048 .bf16 := m ((c.tc : Thread nD τ).loc main_arg0)
abbrev xOf (c : Dev nD) : FVec Ideal S1x2048x2048 .f32 := m ((c.tc : Thread nD τ).loc main_arg1)
abbrev gOf (c : Dev nD) : FVec Ideal S1x2048 .f32 := m ((c.tc : Thread nD τ).loc main_arg2)
abbrev drOf (c : Dev nD) : FVec Ideal S2048x2048 .f32 := m ((c.tc : Thread nD τ).loc main_arg3)

/-- A token's place in the whole array. -/
theorem row_lt (t : Fin cfg0.N) (i : Fin 256) : t.val * 256 + i.val < 2048 := by
  have := t.isLt; have : cfg0.N = 8 := N_0; omega

theorem block0 (c : Dev nD) (t : Fin cfg0.N) (i : Fin 256) (j : Fin 2048) (r : Fin 2048) (hr : r.val = t.val * 256 + i.val) :
    iblk m c 0 t (ix2 i j) = dhOf m c (ix3 0 r j) := by
  blk_point [iblk, V, idx t, hr]

theorem block1 (c : Dev nD) (t : Fin cfg0.N) (i : Fin 256) (j : Fin 2048) (r : Fin 2048) (hr : r.val = t.val * 256 + i.val) :
    iblk m c 1 t (ix2 i j) = xOf m c (ix3 0 r j) := by
  blk_point [iblk, V, idx t, hr]

theorem block2 (c : Dev nD) (t : Fin cfg0.N) (j : Fin 2048) : iblk m c 2 t (ix2 0 j) = gOf m c (ix2 0 j) := by
  blk_point [iblk, V, idx t]

theorem block3 (c : Dev nD) (t : Fin cfg0.N) (i : Fin 256) (j : Fin 2048) (r : Fin 2048) (hr : r.val = t.val * 256 + i.val) :
    iblk m c 3 t (ix2 i j) = drOf m c (ix2 r j) := by
  blk_point [iblk, V, idx t, hr]

theorem input_point (c : Dev nD) (t : Fin cfg0.N) (i : Fin 256) (j : Fin 2048) (r : Fin 2048) (hr : r.val = t.val * 256 + i.val) :
    k0_pay1 (F := Ideal) (k0_pay5 (F := Ideal) (iblk m c 1 t)) (iblk m c 3 t)
      (k0_pay8 (F := Ideal) (iblk m c 1 t) (iblk m c 0 t) (iblk m c 2 t)) (ix2 i j)
      = inputGrad (dhOf m c) (xOf m c) (gOf m c) (fun i j => drOf m c (ix2 i j)) (ix2 r j) := by
  refine (pay_input _ _ _ _ i j).trans ?_
  simp only [inputGrad, fun k => block0 m c t i k r hr, fun k => block1 m c t i k r hr, block2 m c t, block3 m c t i j r hr, ix2_0, ix2_1]

theorem array4 (c : Dev nD) : (dats m 0 c).arrAt 4 cfg0.N = inputGrad (dhOf m c) (xOf m c) (gOf m c) (fun i j => drOf m c (ix2 i j)) := by
  refine (dats m 0 c).arrAt_eq_of_covers 4 _ (by decide +kernel) fun t _ y => ?_
  blk_simp
  rw [after0_4]
  have e : ((View.whole main_v2_0).slice (win0_4.rect t)).emb y
      = ix2 ⟨t.val * 256 + (y 0).val, row_lt t (y 0)⟩ (y 1) := by
    blk_ext [idx t]
  by_cases h : t.val % 8 = 0
  · rw [outsAt0_A m c t h]
    frame_out
    exact (congrArg _ (eq_ix2 y)).trans ((input_point m c t _ _ _ rfl).trans (congrArg _ e.symm))
  · rw [outsAt0_B m c t h]
    frame_out
    exact (congrArg _ (eq_ix2 y)).trans ((input_point m c t _ _ _ rfl).trans (congrArg _ e.symm))

theorem gain_point (c : Dev nD) (t : Fin cfg0.N) (a : FVec Ideal S1x2048 .f32) (j : Fin 2048) :
    k0_pay7 (F := Ideal) (iblk m c 1 t) (iblk m c 0 t) a (ix2 0 j)
      = a (ix2 0 j) + ∑ i : Fin 256, gainAt (dhOf m c) (xOf m c) j ⟨t.val * 256 + i.val, row_lt t i⟩ := by
  refine (pay_gain _ _ _ j).trans (congrArg _ (Finset.sum_congr rfl fun i _ => ?_))
  rw [block0 m c t i j ⟨t.val * 256 + i.val, row_lt t i⟩ rfl, block1 m c t i j ⟨t.val * 256 + i.val, row_lt t i⟩ rfl,
    funext fun k => block1 m c t i k ⟨t.val * 256 + i.val, row_lt t i⟩ rfl]
  rfl

theorem array5 (c : Dev nD) : (dats m 0 c).arrAt 5 cfg0.N = gainGrad (dhOf m c) (xOf m c) := by
  refine (dats m 0 c).arrAt_eq_of_after_last 5 t0_7 (by decide +kernel) _ fun j => ?_
  blk_simp
  rw [after0_5]
  obtain ⟨l, rfl⟩ : ∃ l : Fin 2048, j = ix2 0 l := ⟨j 1, by blk_ext⟩
  rw [Pipeline.eq_sum_fin_of_reset_step_apply_last (fun n h => (outsAt0 m c n h).2) 8 (fun _ => 0)
    (fun p j => ∑ i : Fin 256, gainAt (dhOf m c) (xOf m c) (j 1) ⟨p.val * 256 + i.val, row_lt p i⟩)
    (fun t h j => by
      obtain ⟨l, rfl⟩ : ∃ l : Fin 2048, j = ix2 0 l := ⟨j 1, by blk_ext⟩
      rw [outsAt0_A m c t h]; frame_out
      exact (gain_point m c t _ l).trans (congrArg (· + _) (by pointwise [k0_pay2])))
    (fun t h j => by
      obtain ⟨l, rfl⟩ : ∃ l : Fin 2048, j = ix2 0 l := ⟨j 1, by blk_ext⟩
      rw [outsAt0_B m c t h]; frame_out
      exact gain_point m c t _ l)
    (le_of_eq N_0) t0_7 rfl (ix2 0 l), zero_add]
  exact Fin.sum_mul_add_congr fun s k hl => rfl

end Cert.Rms1Ideal.Value

end
-- ==== Proof.Rms1.Claims.lean ====
/- The claims about the norm's gradient whose residual gradient is given in f32. -/
module

public import proofs.«01_k».proof.Defs
public import proofs.«01_k».proof.Proof.Gen.Pre_rms1_finite
public import proofs.«01_k».proof.Proof.Gen.Rms1.Frame
public import proofs.«01_k».proof.Proof.Rms1.Kernel
public import proofs.«01_k».proof.Proof.Gen.Rms1RefIdeal.Run
public import proofs.«01_k».proof.Proof.Rms2.Reference

@[expose] public section

set_option maxRecDepth 16384

noncomputable section

open Idealize.ShloMosaic Idealize.ShloMosaic.TcCoe Idealize.SL.Sem

namespace Cert.Rms1Claims

open Cert.Shared

/-- The residual's gradient with the batch's unit axis put in front. -/
theorem lead_at (d : FVec Ideal Cert.Rms1RefIdeal.S2048x2048 .f32) (i j : Fin 2048) :
    shapeCast Cert.Rms1RefIdeal.S1x2048x2048 d Cert.Rms1RefIdeal.Gen.shapeCasts_S2048x2048_S1x2048x2048 (ix3 0 i j) = d (ix2 i j) := by
  pointwise

theorem value : algebraic_Rms1Ideal_Rms1RefIdeal_pre_rms1_finite := by
  intro m g m' g' hpre hagree
  refine ⟨_, _, (θ_run _ _ _).mono (fun r h c => h c) (Cert.Rms1Ideal.Value.run_blocks m g), ?_⟩
  refine (θ_run _ _ _).mono (fun r h c => ?_) (Cert.Rms1RefIdeal.Value.run m' g')
  obtain ⟨h0, h1, h2⟩ := h c
  obtain ⟨a0, a1, a2, a3⟩ := hagree c
  obtain ⟨f0, f1, f2⟩ := hpre c
  refine ⟨h0.trans ?_, h1.trans ?_, h2⟩
  · rw [Cert.Rms1Ideal.Value.array4]
    refine Eq.trans ?_ ((Cert.Rms2RefIdeal.Value.inputs_eq _ _ _
      (shapeCast Cert.Rms1RefIdeal.S1x2048x2048 (m ((c.tc : Thread _ _).loc Cert.Rms1Ideal.main_arg3)) Cert.Rms1RefIdeal.Gen.shapeCasts_S2048x2048_S1x2048x2048)
      (reals_of_bits _ _ f0) (reals_of_bits _ _ f1) (reals_of_bits _ _ f2)).trans ?_)
    · unfold Cert.Rms1RefIdeal.Value.res_main_v42
      rw [a0, a1, a2, a3]
      rfl
    · refine congrArg (Cert.Shared.inputGrad _ _ _) (funext fun i => funext fun j => lead_at _ i j)
  · rw [Cert.Rms1Ideal.Value.array5]
    refine Eq.trans ?_ (Cert.Rms2RefIdeal.Value.gains_eq _ _)
    rw [a0, a1]
    rfl

theorem frame_reference : quiescent_Rms1RefIdeal := fun m ρ _ =>
  (θ_run _ _ _).mono (fun r h => ⟨fun c => (h c).2.2, sem_eq_zero_of_no_sems (by decide) r.2⟩)
    (Cert.Rms1RefIdeal.Value.run m ρ)

end Cert.Rms1Claims

end
-- ==== Proof.Norm.Forward.lean ====
/- The norm of a row of entries, and of all tokens; and what the reference computes for them. -/
module

public import proofs.«01_k».proof.Proof.Rms2.Reference

@[expose] public section

set_option maxRecDepth 16384

noncomputable section

open Idealize.ShloMosaic Idealize.ShloMosaic.TcCoe Idealize.SL.Sem

namespace Cert.Shared

/-- Entry `j` of the row over its root mean square, times the gain. -/
def normed {n : Nat} (x g : Fin n → EReal) (j : Fin n) : EReal := x j * invRms x * g j

/-- The norm of every token. -/
def normedTokens (x : Fin 2048 → Fin 2048 → EReal) (g : Row) : Flat := fun y => normed (x (y 0)) (fun k => g (ix2 0 k)) (y 1)

end Cert.Shared

namespace Cert.Rms2RefIdeal.Value

open Cert.Rms2RefIdeal Cert.Rms2RefIdeal.Gen
open Cert.Shared hiding inputGrad gainGrad

variable (x : FVec Ideal S1x2048x2048 .f32) (g : FVec Ideal S1x2048 .f32)

/-- The norm of an array of tokens, without the batch's unit axis. -/
def norms : FVec Ideal S2048x2048 .bf16 :=
  truncf .bf16 (shapeCast _ (mulf (mulf x (broadcastInDim S1x2048x2048 ![0, 1, 2] bcast_S1x2048x1_S1x2048x2048_0_1_2 (Host.rsqrt (meanSqs x))))
    (broadcastInDim S1x2048x2048 ![0, 1, 2] bcast_S1x1x2048_S1x2048x2048_0_1_2 (broadcastInDim S1x1x2048 ![2] bcast_S2048_S1x1x2048_2
      (shapeCast _ g shapeCasts_S1x2048_S2048)))) shapeCasts_S1x2048x2048_S2048x2048) bitsLt_bf16_f32

theorem norms_eq : norms x g = normedTokens (fun i j => x (ix3 0 i j)) g := by
  funext y
  obtain ⟨i, j, rfl⟩ : ∃ i j : Fin 2048, y = ix2 i j := ⟨y 0, y 1, eq_ix2 y⟩
  refine Eq.trans ?_ (show x (ix3 0 i j) * invRms (fun k => x (ix3 0 i k)) * g (ix2 0 j) = _ from rfl)
  unfold invRms
  rw [← meanSqs_at]
  pointwise [norms]

end Cert.Rms2RefIdeal.Value

end
-- ==== Proof.Norm.Kernel.lean ====
/- The first norm in the kernel: what one block of tokens computes, and what the result array holds. -/
module

public import proofs.«01_k».proof.Proof.Gen.NormIdeal.Value
public import proofs.«01_k».proof.Proof.Norm.Forward

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen Cert.Shared

/-- A block's norm at an entry. -/
theorem pay_at (x : FVec Ideal S256x2048 .f32) (g : FVec Ideal S1x2048 .f32) (i : Fin 256) (j : Fin 2048) :
    k0_pay1 (F := Ideal) x g (ix2 i j) = normed (fun k => x (ix2 i k)) (fun k => g (ix2 0 k)) j := by
  unfold normed invRms meanSq
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The argument arrays, at their shapes. -/
abbrev xOf (c : Dev nD) : FVec Ideal S1x2048x2048 .f32 := m ((c.tc : Thread nD τ).loc main_arg0)
abbrev gOf (c : Dev nD) : FVec Ideal S1x2048 .f32 := m ((c.tc : Thread nD τ).loc main_arg1)

theorem row_lt (t : Fin cfg0.N) (i : Fin 256) : t.val * 256 + i.val < 2048 := by
  have := t.isLt; have : cfg0.N = 8 := N_0; omega

theorem block0 (c : Dev nD) (t : Fin cfg0.N) (i : Fin 256) (j : Fin 2048) :
    iblk m c 0 t (ix2 i j) = xOf m c (ix3 0 ⟨t.val * 256 + i.val, row_lt t i⟩ j) := by
  blk_point [iblk, V, idx t]

theorem block1 (c : Dev nD) (t : Fin cfg0.N) (j : Fin 2048) : iblk m c 1 t (ix2 0 j) = gOf m c (ix2 0 j) := by
  blk_point [iblk, V, idx t]

theorem array2 (c : Dev nD) : (dats m 0 c).arrAt 2 cfg0.N = normedTokens (fun i j => xOf m c (ix3 0 i j)) (gOf m c) := by
  refine (dats m 0 c).arrAt_eq_of_covers 2 _ (by decide +kernel) fun t _ y => ?_
  blk_simp
  rw [after0_2]
  obtain ⟨i, j, rfl⟩ : ∃ (i : Fin 256) (j : Fin 2048), y = ix2 i j := ⟨y 0, y 1, by blk_ext⟩
  have e : ((View.whole main_v1).slice (win0_2.rect t)).emb (ix2 i j) = ix2 ⟨t.val * 256 + i.val, row_lt t i⟩ j := by
    blk_ext [idx t]
  rw [e]
  frame_out
  refine (pay_at _ _ i j).trans ?_
  simp only [block0 m c t, block1 m c t]
  rfl

end Cert.NormIdeal.Value

end
-- ==== Proof.Norm.Claims.lean ====
/- The claims about the first norm. -/
module

public import proofs.«01_k».proof.Defs
public import proofs.«01_k».proof.Proof.Gen.Norm.Frame
public import proofs.«01_k».proof.Proof.Norm.Kernel
public import proofs.«01_k».proof.Proof.Gen.NormRefIdeal.Run

@[expose] public section

set_option maxRecDepth 16384

noncomputable section

open Idealize.ShloMosaic Idealize.ShloMosaic.TcCoe Idealize.SL.Sem

namespace Cert.NormClaims

theorem value : algebraic_NormIdeal_NormRefIdeal := by
  intro m g m' g' _ hagree
  refine ⟨_, (θ_run _ _ _).mono (fun r h c => h c) (Cert.NormIdeal.Value.run_blocks m g), ?_⟩
  refine (θ_run _ _ _).mono (fun r h c => ?_) (Cert.NormRefIdeal.Value.run m' g')
  obtain ⟨h0, h1⟩ := h c
  obtain ⟨a0, a1⟩ := hagree c
  refine ⟨h0.trans ?_, h1⟩
  rw [Cert.NormIdeal.Value.array2]
  refine Eq.trans ?_ (Cert.Rms2RefIdeal.Value.norms_eq (Cert.NormIdeal.Value.xOf m c) (Cert.NormIdeal.Value.gOf m c))
  rw [a0, a1]
  rfl

theorem frame_reference : quiescent_NormRefIdeal := fun m ρ _ =>
  (θ_run _ _ _).mono (fun r h => ⟨fun c => (h c).2, sem_eq_zero_of_no_sems (by decide) r.2⟩)
    (Cert.NormRefIdeal.Value.run m ρ)

end Cert.NormClaims

end
-- ==== Proof.Short.Kernel.lean ====
/- The gated convolution in the kernel: what one block of columns computes, and what the result array holds. -/
module

public import proofs.«01_k».proof.Proof.Gen.ShortIdeal.Value
public import proofs.«01_k».proof.Proof.Conv.Columns

@[expose] public section

set_option maxRecDepth 16384

noncomputable section

open Idealize.ShloMosaic Idealize.ShloMosaic.TcCoe Idealize.SL.Sem
open Idealize.ShloMosaic.Pipeline (Dat)

namespace Cert.Shared

/-- The gated convolution: the gate's column times the convolution of the product of the two factors. -/
def gatedConv (p : Proj) (w : Taps) (b : FVec Ideal ⟨2, ![1, 1024]⟩ .f32) (j : Fin 1024) : Col :=
  fun i => gateCol p j i * convCol (taps w j) (b (ix2 0 j)) (factorCol p j) i

end Cert.Shared

namespace Cert.ShortIdeal.Value

open Cert.ShortIdeal Cert.ShortIdeal.Gen Cert.Shared

/-- What one block computes, at an entry. -/
theorem out_at (ba ca va : FVec Ideal S1x2048x128 .f32) (w : FVec Ideal S3x128 .f32) (b : FVec Ideal S1x128 .f32) (i : Fin 2048) (j : Fin 128) :
    k0_pay1 (F := Ideal) (k0_pay2 ca va b (View.ld w r0_2) (View.ld w r0_3) (View.ld w r0_4)) (k0_pay3 ba) (ix2 i j)
      = ba (ix3 0 i j) * convCol (fun a => w (ix2 a j)) (b (ix2 0 j)) (fun i => ca (ix3 0 i j) * va (ix3 0 i j)) i := by
  unfold convCol
  rw [← later_rotated 1 (by decide), ← later_rotated 2 (by decide)]
  pointwise [k0_pay1, k0_pay2, k0_pay3]
  word_cmp
  simp only [mul_ite, mul_zero]

variable (m : (ℓ : Loc nD τ sig) → Buf (Elt Ideal) ℓ)

theorem idx : ∀ t : Fin cfg0.N, win0_0.index t = ![0, 0, t.val] ∧ win0_1.index t = ![1, 0, t.val] ∧ win0_2.index t = ![2, 0, t.val]
    ∧ win0_3.index t = ![0, t.val] ∧ win0_4.index t = ![0, t.val] ∧ win0_5.index t = ![0, t.val] :=
  (by decide +kernel : ∀ t : Fin grid0.N, _)

/-- The argument arrays, at their shapes. -/
abbrev projOf (c : Dev nD) : Proj := m ((c.tc : Thread nD τ).loc main_arg0)
abbrev tapsOf (c : Dev nD) : Taps := m ((c.tc : Thread nD τ).loc main_arg1)
abbrev biasOf (c : Dev nD) : FVec Ideal S1x1024 .f32 := m ((c.tc : Thread nD τ).loc main_arg2)

/-- What the host lines hand to the kernel, entry by entry. -/
theorem V_v1 (c : Dev nD) (n : Fin 8) (i : Fin 2048) (q : Fin 1024) :
    V m c main_v1 (ix3 n i q) = projOf m c (ix3 0 i ⟨n.val * 1024 + q.val, by omega⟩) := by
  have e : V m c main_v1 = transpose S8x2048x1024 [1, 0, 2] (shapeCast S2048x8x1024 (projOf m c) shapeCasts_S1x2048x8192_S2048x8x1024)
      transposes_S2048x8x1024_S8x2048x1024_1_0_2 := by
    unfold V
    after_results
    rfl
  rw [e]
  pointwise

theorem V_v8 (c : Dev nD) (a : Fin 3) (q : Fin 1024) : V m c main_v8 (ix2 a q) = tapsOf m c (ix3 0 a q) := by
  have e : V m c main_v8 = shapeCast S3x1024 (transpose S3x8x128 [1, 0, 2] (extractStridedSlice S8x3x128 ![0, 0, 0]
      (pad S8x8x128 ![0, 0, 0] ![0, 5, 0] ![0, 0, 0] (transpose S8x3x128 [1, 0, 2] (shapeCast S3x8x128 (shapeCast S3x1024 (tapsOf m c)
        shapeCasts_S1x3x1024_S3x1024) shapeCasts_S3x1024_S3x8x128) transposes_S3x8x128_S8x3x128_1_0_2)
        (sitofp (F := Ideal) .f32 (constantI S_ 32 0#32)) (by decide)) slices_S8x8x128_S8x3x128_0_0_0)
      transposes_S8x3x128_S3x8x128_1_0_2) shapeCasts_S3x8x128_S3x1024 := by
    unfold V
    after_results
    rfl
  rw [e]
  pointwise
  exact dif_pos (by omega)

/-- A column's place in the whole array. -/
theorem col_lt (t : Fin cfg0.N) (j : Fin 128) : t.val * 128 + j.val < 1024 := by
  have := t.isLt; have : cfg0.N = 8 := N_0; omega

section Blocks

variable (c : Dev nD) (t : Fin cfg0.N) (j : Fin 128) (q : Fin 1024) (hq : q.val = t.val * 128 + j.val)

include hq

theorem block0 (i : Fin 2048) : iblk m c 0 t (ix3 0 i j) = gateCol (projOf m c) q i := by
  exact (show _ = V m c main_v1 (ix3 0 i q) by blk_point [iblk, idx t, hq]).trans ((V_v1 m c 0 i q).trans (congrArg _ (by blk_ext)))

theorem block1 (i : Fin 2048) : iblk m c 1 t (ix3 0 i j) = firstCol (projOf m c) q i := by
  exact (show _ = V m c main_v1 (ix3 1 i q) by blk_point [iblk, idx t, hq]).trans ((V_v1 m c 1 i q).trans (congrArg _ (by blk_ext)))

theorem block2 (i : Fin 2048) : iblk m c 2 t (ix3 0 i j) = secondCol (projOf m c) q i := by
  exact (show _ = V m c main_v1 (ix3 2 i q) by blk_point [iblk, idx t, hq]).trans ((V_v1 m c 2 i q).trans (congrArg _ (by blk_ext)))

theorem block3 (a : Fin 3) : iblk m c 3 t (ix2 a j) = tapsOf m c (ix3 0 a q) := by
  exact (show _ = V m c main_v8 (ix2 a q) by blk_point [iblk, idx t, hq]).trans (V_v8 m c a q)

theorem block4 : iblk m c 4 t (ix2 0 j) = biasOf m c (ix2 0 q) := by
  blk_point [iblk, V, idx t, hq]

end Blocks

theorem array5 (c : Dev nD) : (dats m 0 c).arrAt 5 cfg0.N = fun y => gatedConv (projOf m c) (tapsOf m c) (biasOf m c) (y 1) (y 0) := by
  refine (dats m 0 c).arrAt_eq_of_covers 5 _ (by decide +kernel) fun t _ y => ?_
  blk_simp
  rw [after0_5]
  obtain ⟨i, j, rfl⟩ : ∃ (i : Fin 2048) (j : Fin 128), y = ix2 i j := ⟨y 0, y 1, by blk_ext⟩
  have e : ((View.whole main_v9).slice (win0_5.rect t)).emb (ix2 i j) = ix2 i ⟨t.val * 128 + j.val, col_lt t j⟩ := by
    blk_ext [idx t]
  rw [e]
  frame_out
  refine (out_at _ _ _ _ _ i j).trans ?_
  simp only [fun i => block0 m c t j ⟨t.val * 128 + j.val, col_lt t j⟩ rfl i, fun i => block1 m c t j ⟨t.val * 128 + j.val, col_lt t j⟩ rfl i,
    fun i => block2 m c t j ⟨t.val * 128 + j.val, col_lt t j⟩ rfl i, fun a => block3 m c t j ⟨t.val * 128 + j.val, col_lt t j⟩ rfl a,
    block4 m c t j ⟨t.val * 128 + j.val, col_lt t j⟩ rfl]
  rfl

end Cert.ShortIdeal.Value

end
-- ==== Proof.Short.Claims.lean ====
/- The claims about the gated convolution. -/
module

public import proofs.«01_k».proof.Defs
public import proofs.«01_k».proof.Proof.Gen.Short.Frame
public import proofs.«01_k».proof.Proof.Short.Kernel
public import proofs.«01_k».proof.Proof.Gen.ShortRefIdeal.Run
public import proofs.«01_k».proof.Proof.Conv.Reference

@[expose] public section

set_option maxRecDepth 16384

noncomputable section

open Idealize.ShloMosaic Idealize.ShloMosaic.TcCoe Idealize.SL.Sem

namespace Cert.ConvRefIdeal.Value

open Cert.ConvRefIdeal Cert.ConvRefIdeal.Gen Cert.Shared

variable (p : Proj) (w : Taps) (b : FVec Ideal S1x1024 .f32)

/-- The gated convolution as the reference computes it, without the batch's unit axis. -/
def gated : FVec Ideal ⟨2, ![2048, 1024]⟩ .bf16 :=
  truncf .bf16 (shapeCast ⟨2, ![2048, 1024]⟩ (mulf (gates p) (convolved p w b)) (by decide)) bitsLt_bf16_f32

theorem gated_eq : gated p w b = fun y => gatedConv p w b (y 1) (y 0) := by
  funext y
  obtain ⟨i, j, rfl⟩ : ∃ (i : Fin 2048) (j : Fin 1024), y = ix2 i j := ⟨y 0, y 1, eq_ix2 y⟩
  refine Eq.trans ?_ (show gateCol p j i * convCol (taps w j) (b (ix2 0 j)) (factorCol p j) i = _ from rfl)
  rw [← gates_at, ← convolved_at]
  pointwise [gated]

end Cert.ConvRefIdeal.Value

namespace Cert.ShortClaims

open Cert.Shared

set_option maxHeartbeats 2000000 in
theorem value : algebraic_ShortIdeal_ShortRefIdeal := by
  intro m g m' g' _ hagree
  refine ⟨_, (θ_run _ _ _).mono (fun r h c => h c) (Cert.ShortIdeal.Value.run_blocks m g), ?_⟩
  refine (θ_run _ _ _).mono (fun r h c => ?_) (Cert.ShortRefIdeal.Value.run m' g')
  obtain ⟨h0, h1⟩ := h c
  obtain ⟨a0, a1, a2⟩ := hagree c
  refine ⟨h0.trans ?_, h1⟩
  rw [Cert.ShortIdeal.Value.array5]
  refine Eq.trans ?_ (Cert.ConvRefIdeal.Value.gated_eq (Cert.ShortIdeal.Value.projOf m c) (Cert.ShortIdeal.Value.tapsOf m c)
    (Cert.ShortIdeal.Value.biasOf m c))
  rw [a0, a1, a2]
  rfl

theorem frame_reference : quiescent_ShortRefIdeal := fun m ρ _ =>
  (θ_run _ _ _).mono (fun r h => ⟨fun c => (h c).2, sem_eq_zero_of_no_sems (by decide) r.2⟩)
    (Cert.ShortRefIdeal.Value.run m ρ)

end Cert.ShortClaims

end
-- ==== Proof.Trail.Windows.lean ====
/- Sums over the rows that end at a row: how the host's running sums give them, how they double by adding the rows above, and the
   pooling they make up. -/
module

public import proofs.«01_k».proof.Proof.WindowSum

@[expose] public section

noncomputable section

open Idealize.ShloMosaic Idealize.SL.Sem

namespace Cert.Shared

variable {T G L : Nat}

/-- The windows that end at each row: the sum of the rows up to it. -/
theorem sum_upto (x : FVec Ideal ⟨4, ![1, T, G, L]⟩ .f32) (p : Nat) (hp : p + 1 = T)
    (h : (⟨4, ![1, T, G, L]⟩ : Shape).ReduceWindows ![1, T, 1, 1] ![1, 1, 1, 1] ![0, p, 0, 0] ![0, 0, 0, 0] ⟨4, ![1, T, G, L]⟩)
    (t : Fin T) (g : Fin G) (l : Fin L) :
    Ideal.hostReduceWindowAdd ![1, T, 1, 1] ![1, 1, 1, 1] ![0, p, 0, 0] ![0, 0, 0, 0] h x 0 (ix4 0 t g l)
      = window (fun s => x (ix4 0 s g l)) (t.val + 1) 0 := by
  have ht := t.isLt
  refine (window_sums x p 0 h t g l).trans ?_
  refine (Fin.sum_univ_eq_sum_range (fun k => if h : p ≤ t.val + k ∧ t.val + k - p < T then x (ix4 0 ⟨t.val + k - p, h.2⟩ g l) else 0) T).trans ?_
  have e : T = p - t.val + (t.val + 1) := by omega
  refine (congrArg (fun n => ∑ k ∈ Finset.range n, if h : p ≤ t.val + k ∧ t.val + k - p < T then x (ix4 0 ⟨t.val + k - p, h.2⟩ g l) else 0) e).trans ?_
  rw [Finset.sum_range_add, Finset.sum_eq_zero fun k hk => dif_neg (by have := Finset.mem_range.mp hk; omega), zero_add]
  refine Finset.sum_congr rfl fun d hd => ?_
  have hd := Finset.mem_range.mp hd
  rw [dif_pos (show p ≤ t.val + (p - t.val + d) ∧ t.val + (p - t.val + d) - p < T by omega), dif_pos (show 0 + d < T by omega)]
  exact congrArg (fun s => x (ix4 0 s g l)) (Fin.ext (by show t.val + (p - t.val + d) - p = 0 + d; omega))

/-- A window of reals among the extended reals sums to a real. -/
theorem window_real (a : Fin T → EReal) (r : Fin T → ℝ) (ha : ∀ i, a i = (r i : EReal)) (w i : Nat) : ∃ v : ℝ, window a w i = (v : EReal) := by
  refine ⟨∑ d ∈ Finset.range w, if h : i + d < T then r ⟨i + d, h⟩ else 0, ?_⟩
  unfold window
  rw [coe_sum]
  refine Finset.sum_congr rfl fun d _ => ?_
  by_cases h : i + d < T
  · rw [dif_pos h, dif_pos h, ha]
  · rw [dif_neg h, dif_neg h, EReal.coe_zero]

/-- The sum of the `w` rows that end at row `i`, of as many as there are. -/
def trailing (a : Fin T → EReal) (w i : Nat) : EReal := window a (min (i + 1) w) (i + 1 - w)

theorem trailing_one (a : Fin T → EReal) (i : Fin T) : trailing a 1 i.val = a i := by
  unfold trailing
  rw [show min (i.val + 1) 1 = 1 by omega, Nat.add_sub_cancel]
  exact window_one a i

/-- It is the difference of two sums of first rows, when the rows are reals. -/
theorem trailing_of_sums (a : Fin T → EReal) (r : Fin T → ℝ) (ha : ∀ i, a i = (r i : EReal)) (w i : Nat) :
    window a (i + 1) 0 - window a (i + 1 - w) 0 = trailing a w i := by
  have e : window a (i + 1) 0 = window a (i + 1 - w) 0 + trailing a w i := by
    unfold trailing
    rw [show i + 1 = i + 1 - w + min (i + 1) w by omega, window_add, Nat.zero_add]
    congr 2 <;> omega
  obtain ⟨u, hu⟩ := window_real a r ha (i + 1 - w) 0
  obtain ⟨v, hv⟩ : ∃ v : ℝ, trailing a w i = (v : EReal) := window_real a r ha _ _
  rw [e, hu, hv, ← EReal.coe_add, ← EReal.coe_sub, add_sub_cancel_left]

/-- It doubles by adding the sum that ends above it, where there is one. -/
theorem trailing_double (a : Fin T → EReal) (x : Fin T → EReal) (k : Nat) (hx : ∀ i : Fin T, x i = trailing a k i.val) (i : Fin T) :
    (x i + if k ≤ i.val then x ⟨i.val - k, by omega⟩ else 0) = trailing a (k + k) i.val := by
  rw [hx]
  unfold trailing
  by_cases h : k ≤ i.val
  · rw [if_pos h, hx]
    show window a (min (i.val + 1) k) (i.val + 1 - k) + window a (min (i.val - k + 1) k) (i.val - k + 1 - k) = _
    rw [show min (i.val + 1) (k + k) = min (i.val - k + 1) k + k by omega, window_add, add_comm]
    congr 2 <;> omega
  · rw [if_neg h, add_zero, show min (i.val + 1) k = min (i.val + 1) (k + k) by omega, show i.val + 1 - k = i.val + 1 - (k + k) by omega]

/-- The pooling of a column: the mean of the rows that end at the row, less the row. -/
def pooling (w : Nat) (a : Fin T → EReal) (i : Fin T) : EReal := mean w (fun s => trailing a w s.val) i - a i

abbrev Projections := FVec Ideal ⟨3, ![1, 2048, 8192]⟩ .f32

/-- Column `l` of group `g` of the pooling's argument. -/
def pooledCol (p : Projections) (g : Fin 4) (l : Fin 256) : Fin 2048 → EReal :=
  fun i => p (ix3 0 i ⟨3072 + (g.val * 256 + l.val), by omega⟩)

/-- The pooling of all columns. -/
def poolings (p : Projections) : FVec Ideal ⟨2, ![2048, 1024]⟩ .bf16 := fun y =>
  pooling (heights ⟨(y 1).val / 256, by have : (y 1).val < 1024 := (y 1).isLt; omega⟩)
    (pooledCol p ⟨(y 1).val / 256, by have : (y 1).val < 1024 := (y 1).isLt; omega⟩ ⟨(y 1).val % 256, by omega⟩) (y 0)

theorem poolings_at (p : Projections) (g : Fin 4) (i : Fin 2048) (j : Fin 256) (q : Fin 1024) (hq : q.val = g.val * 256 + j.val) :
    poolings p (ix2 i q) = pooling (heights g) (pooledCol p g j) i := by
  obtain ⟨q, hlt⟩ := q
  subst hq
  have e1 : (⟨(g.val * 256 + j.val) / 256, by omega⟩ : Fin 4) = g := Fin.ext (by show (g.val * 256 + j.val) / 256 = g.val; omega)
  have e2 : (⟨(g.val * 256 + j.val) % 256, by omega⟩ : Fin 256) = j := Fin.ext (by show (g.val * 256 + j.val) % 256 = j.val; omega)
  show pooling (heights ⟨(g.val * 256 + j.val) / 256, by omega⟩)
    (pooledCol p ⟨(g.val * 256 + j.val) / 256, by omega⟩ ⟨(g.val * 256 + j.val) % 256, by omega⟩) i = _
  rw [e1, e2]

end Cert.Shared

end
-- ==== Proof.Trail.Kernel.lean ====
/- The pooling's forward kernel: what one block of 256 columns computes, and what the result array holds. -/
module

public import proofs.«01_k».proof.Proof.Gen.TrailIdeal.Value
public import proofs.«01_k».proof.Proof.Trail.Windows
public import proofs.«01_k».proof.Proof.Conv.Columns
public import proofs.«01_k».proof.Proof.Pool.Kernel

@[expose] public section

set_option maxRecDepth 16384

noncomputable section

open Idealize.ShloMosaic Idealize.ShloMosaic.TcCoe Idealize.ShloMosaic.Tactic Idealize.SL.Sem

namespace Cert.TrailIdeal.Value

open Cert.TrailIdeal Cert.TrailIdeal.Gen Cert.Shared
open Cert.PoolIdeal.Value (averaged averaged_at)

/-- A block plus itself rotated, the rows that wrap around left out. -/
def raised (n : BitVec 32) (x : FVec Ideal S2048x256 .f32) : FVec Ideal S2048x256 .f32 :=
  addf x (select (cmpi .sge (iota .tc S2048x256 32 [0] iota_S2048x256_d0_w32) (broadcast S2048x256 n))
    (dynamicRotate 0 n none x rotates_S2048x256_d0) (broadcast S2048x256 (Scalar.ofBits .f32 0x00000000#32)))

theorem raised_at (k : Nat) (hk : k = 1 ∨ k = 2 ∨ k = 4 ∨ k = 8) (x : FVec Ideal S2048x256 .f32) (i : Fin 2048) (j : Fin 256) :
    raised (BitVec.ofNat 32 k) x (ix2 i j) = x (ix2 i j) + later k (fun i => x (ix2 i j)) i := by
  unfold raised
  rcases hk with rfl | rfl | rfl | rfl
  all_goals
    rw [← later_rotated _ (by decide)]
    pointwise
    word_cmp

/-- One doubling: sums of `k` rows become sums of `2 k` rows. -/
theorem raised_sums (k : Nat) (hk : k = 1 ∨ k = 2 ∨ k = 4 ∨ k = 8) (x : FVec Ideal S2048x256 .f32) (j : Fin 256)
    (a : Fin 2048 → EReal) (h : ∀ i : Fin 2048, x (ix2 i j) = trailing a k i.val) (i : Fin 2048) :
    raised (BitVec.ofNat 32 k) x (ix2 i j) = trailing a (k + k) i.val :=
  (raised_at k hk x i j).trans (trailing_double a (fun i => x (ix2 i j)) k h i)

/-- The mean of a block's sums less the block. -/
def ended (w : BitVec 32) (v x : FVec Ideal S2048x256 .f32) : FVec Ideal S2048x256 .bf16 :=
  truncf .bf16 (subf (averaged w x) v) bitsLt_bf16_f32

theorem ended_at (w : Nat) (hw : w ≤ 16) (v x : FVec Ideal S2048x256 .f32) (i : Fin 2048) (j : Fin 256)
    (h : ∀ s : Fin 2048, x (ix2 s j) = trailing (fun s => v (ix2 s j)) w s.val) :
    ended (BitVec.ofNat 32 w) v x (ix2 i j) = pooling w (fun s => v (ix2 s j)) i := by
  refine (show _ = averaged (BitVec.ofNat 32 w) x (ix2 i j) - v (ix2 i j) by pointwise [ended]).trans ?_
  rw [averaged_at w hw]
  simp only [h]
  rfl

section Heights

variable (v : FVec Ideal S2048x256 .f32) (j : Fin 256) (i : Fin 2048)

theorem two_rows : raised 1#32 v (ix2 i j) = trailing (fun s => v (ix2 s j)) 2 i.val :=
  raised_sums 1 (by decide) v j _ (fun i => (trailing_one (fun s => v (ix2 s j)) i).symm) i

theorem four_rows : raised 2#32 (raised 1#32 v) (ix2 i j) = trailing (fun s => v (ix2 s j)) 4 i.val :=
  raised_sums 2 (by decide) _ j _ (two_rows v j) i

theorem eight_rows : raised 4#32 (raised 2#32 (raised 1#32 v)) (ix2 i j) = trailing (fun s => v (ix2 s j)) 8 i.val :=
  raised_sums 4 (by decide) _ j _ (four_rows v j) i

theorem sixteen_rows : raised 8#32 (raised 4#32 (raised 2#32 (raised 1#32 v))) (ix2 i j) = trailing (fun s => v (ix2 s j)) 16 i.val :=
  raised_sums 8 (by decide) _ j _ (eight_rows v j) i

end Heights

section Payload

variable (x : FVec Ideal S1x2048x256 .f32) (i : Fin 2048) (j : Fin 256)

/-- A block without its unit axis. -/
abbrev flat : FVec Ideal S2048x256 .f32 := shapeCast S2048x256 x shapeCasts_S1x2048x256_S2048x256

theorem flat_col : (fun s => flat x (ix2 s j)) = fun s => x (ix3 0 s j) := funext fun s => by pointwise

theorem pay1_at : k0_pay1 (F := Ideal) x (ix2 i j) = pooling 2 (fun s => x (ix3 0 s j)) i :=
  (ended_at 2 (by decide) (flat x) _ i j (two_rows _ j)).trans (congrArg (pooling 2 · i) (flat_col x j))

theorem pay2_at : k0_pay2 (F := Ideal) x (ix2 i j) = pooling 4 (fun s => x (ix3 0 s j)) i :=
  (ended_at 4 (by decide) (flat x) _ i j (four_rows _ j)).trans (congrArg (pooling 4 · i) (flat_col x j))

theorem pay3_at : k0_pay3 (F := Ideal) x (ix2 i j) = pooling 8 (fun s => x (ix3 0 s j)) i :=
  (ended_at 8 (by decide) (flat x) _ i j (eight_rows _ j)).trans (congrArg (pooling 8 · i) (flat_col x j))

theorem pay4_at : k0_pay4 (F := Ideal) x (ix2 i j) = pooling 16 (fun s => x (ix3 0 s j)) i :=
  (ended_at 16 (by decide) (flat x) _ i j (sixteen_rows _ j)).trans (congrArg (pooling 16 · i) (flat_col x j))

end Payload

variable (m : (ℓ : Loc nD τ sig) → Buf (Elt Ideal) ℓ)

/-- What block `t` leaves. -/
theorem outs (c : Dev nD) (t : Fin cfg0.N) (g : Fin 4) (hg : t.val = g.val) (i : Fin 2048) (j : Fin 256) :
    outsAt0 m c t.val t.isLt (ix2 i j) = pooling (heights g) (fun s => iblk m c 0 t (ix3 0 s j)) i := by
  fin_cases g
  · rw [outsAt0_A m c t (by rw [hg]; rfl) (by rw [hg]; decide) (by rw [hg]; decide) (by rw [hg]; decide)]
    unfold out0_A_1
    frame_out
    exact pay1_at _ i j
  · rw [outsAt0_B m c t (by rw [hg]; decide) (by rw [hg]; rfl) (by rw [hg]; decide) (by rw [hg]; decide)]
    unfold out0_B_1
    frame_out
    exact pay2_at _ i j
  · rw [outsAt0_C m c t (by rw [hg]; decide) (by rw [hg]; decide) (by rw [hg]; rfl) (by rw [hg]; decide)]
    unfold out0_C_1
    frame_out
    exact pay3_at _ i j
  · rw [outsAt0_D m c t (by rw [hg]; decide) (by rw [hg]; decide) (by rw [hg]; decide) (by rw [hg]; rfl)]
    unfold out0_D_1
    frame_out
    exact pay4_at _ i j

theorem idx : ∀ t : Fin cfg0.N, win0_0.index t = ![3, 0, t.val] ∧ win0_1.index t = ![0, t.val] :=
  (by decide +kernel : ∀ t : Fin grid0.N, _)

/-- The argument array, at its shape. -/
abbrev projOf (c : Dev nD) : Projections := m ((c.tc : Thread nD τ).loc main_arg0)

/-- What the host lines hand to the kernel, entry by entry. -/
theorem V_v1 (c : Dev nD) (n : Fin 8) (i : Fin 2048) (q : Fin 1024) :
    V m c main_v1 (ix3 n i q) = projOf m c (ix3 0 i ⟨n.val * 1024 + q.val, by omega⟩) := by
  have e : V m c main_v1 = transpose S8x2048x1024 [1, 0, 2] (shapeCast S2048x8x1024 (projOf m c) shapeCasts_S1x2048x8192_S2048x8x1024)
      transposes_S2048x8x1024_S8x2048x1024_1_0_2 := by
    unfold V
    after_results
    rfl
  rw [e]
  pointwise

theorem block (c : Dev nD) (t : Fin cfg0.N) (g : Fin 4) (hg : t.val = g.val) (j : Fin 256) :
    (fun s => iblk m c 0 t (ix3 0 s j)) = pooledCol (projOf m c) g j := by
  funext i
  exact (show _ = V m c main_v1 (ix3 3 i ⟨g.val * 256 + j.val, by omega⟩) by blk_point [iblk, idx t, hg]).trans (V_v1 m c 3 i _)

/-- The array after the kernel. -/
theorem array1 (c : Dev nD) : (dats m 0 c).arrAt 1 cfg0.N = poolings (projOf m c) := by
  refine (dats m 0 c).arrAt_eq_of_covers 1 _ (by decide +kernel) fun t _ y => ?_
  blk_simp
  rw [after0_1]
  have ht : t.val < 4 := lt_of_lt_of_eq t.isLt N_0
  obtain ⟨i, j, rfl⟩ : ∃ (i : Fin 2048) (j : Fin 256), y = ix2 i j := ⟨y 0, y 1, by blk_ext⟩
  have e : (win0_1.blk t).view.emb (ix2 i j) = ix2 i ⟨t.val * 256 + j.val, by omega⟩ := by blk_ext [idx t]
  refine (outs m c t ⟨t.val, ht⟩ rfl i j).trans ((congrArg (pooling _ · i) (block m c t ⟨t.val, ht⟩ rfl j)).trans
    (Eq.trans ?_ (congrArg (poolings (projOf m c)) e.symm)))
  exact (poolings_at (projOf m c) ⟨t.val, ht⟩ i j ⟨t.val * 256 + j.val, by omega⟩ rfl).symm

end Cert.TrailIdeal.Value

end
-- ==== Proof.Trail.Reference.lean ====
/- The pooling's reference: differences of the running sums over the counts, less the values. -/
module

public import proofs.«01_k».proof.Proof.Gen.TrailRefIdeal.Run
public import proofs.«01_k».proof.Proof.Pool.Reference
public import proofs.«01_k».proof.Proof.Trail.Windows

@[expose] public section

set_option maxRecDepth 16384

noncomputable section

open Idealize.ShloMosaic Idealize.ShloMosaic.TcCoe Idealize.ShloMosaic.Tactic Idealize.SL.Sem

namespace Cert.TrailRefIdeal.Value

open Cert.TrailRefIdeal Cert.TrailRefIdeal.Gen Cert.Shared
open Cert.PoolRefIdeal.Value (upTo starts places upTo_at starts_at place0_at place1_at heights_le)

variable (p : FVec Ideal S1x2048x8192 .f32)

/-- The pooling's argument, its columns in groups. -/
def columns : FVec Ideal S1x2048x4x256 .f32 :=
  shapeCast _ (extractStridedSlice S1x2048x1024 ![0, 0, 3072] p slices_S1x2048x8192_S1x2048x1024_0_0_3072) shapeCasts_S1x2048x1024_S1x2048x4x256

/-- The running sums. -/
def running : FVec Ideal S1x2048x4x256 .f32 :=
  Host.reduceWindowAdd ![1, 2048, 1, 1] ![1, 1, 1, 1] ![0, 2047, 0, 0] ![0, 0, 0, 0] (columns p)
    (broadcastInDim S_ ![] bcast_S_S_ (constant S_ .f32 0x00000000#32))
    reduceWindows_S1x2048x4x256_S1x2048x4x256_w1s1p0_0_w2048s1p2047_0_w1s1p0_0_w1s1p0_0 h_S_

/-- … with a row of zeros above. -/
def totals : FVec Ideal S1x2049x4x256 .f32 :=
  concatenate S1x2049x4x256 1 [⟨S1x1x4x256, broadcastInDim S1x1x4x256 ![] bcast_S_S1x1x4x256 (constant S_ .f32 0x00000000#32)⟩,
    ⟨S1x2048x4x256, running p⟩] concatenates_S1x1x4x256_S1x2048x4x256_S1x2049x4x256_d1

/-- The running sums where the windows start. -/
def befores : FVec Ideal S1x2048x4x256 .f32 :=
  Host.gather gather_S1x2049x4x256_S2048x4x2_S1x2048x4x256_03_12_n_n_12_2_111256 (totals p) places

/-- The sums of the windows. -/
def sums : FVec Ideal S1x2048x4x256 .f32 :=
  subf (extractStridedSlice S1x2048x4x256 ![0, 1, 0, 0] (totals p) slices_S1x2049x4x256_S1x2048x4x256_0_1_0_0) (befores p)

/-- The result. -/
def pooled : FVec Ideal S2048x1024 .bf16 :=
  truncf .bf16 (shapeCast _ (subf (Host.divf (sums p) (broadcastInDim S1x2048x4x256 ![0, 1, 2, 3] bcast_S1x2048x4x1_S1x2048x4x256_0_1_2_3
    (broadcastInDim S1x2048x4x1 ![1, 2] bcast_S2048x4_S1x2048x4x1_1_2 (sitofp .f32 (subi upTo starts))))) (columns p))
    shapeCasts_S1x2048x4x256_S2048x1024) bitsLt_bf16_f32

variable (t : Fin 2048) (g : Fin 4) (l : Fin 256)

theorem columns_at : columns p (ix4 0 t g l) = pooledCol p g l t := by
  unfold pooledCol
  pointwise [columns]

theorem running_at : running p (ix4 0 t g l) = window (pooledCol p g l) (t.val + 1) 0 := by
  unfold running Host.reduceWindowAdd
  rw [Ideal.hostReduceWindowAdd_def]
  refine (congrArg (fun v => Ideal.hostReduceWindowAdd _ _ _ _ _ (columns p) v (ix4 0 t g l)) (show _ = (0 : EReal) by pointwise)).trans ?_
  refine (sum_upto (columns p) 2047 rfl _ t g l).trans ?_
  exact congrArg (window · _ _) (funext fun s => columns_at p s g l)

theorem totals_at (n : Fin 2049) : totals p (ix4 0 n g l) = window (pooledCol p g l) n.val 0 := by
  by_cases h : n.val < 1
  · rw [show n.val = 0 by omega]
    refine Eq.trans ?_ (show (0 : EReal) = window _ 0 0 from rfl)
    pointwise [totals]
    rw [dif_pos h]
  · refine Eq.trans ?_ ((running_at p ⟨n.val - 1, by omega⟩ g l).trans (congrArg (window _ · 0) (show n.val - 1 + 1 = n.val by omega)))
    pointwise [totals]
    rw [dif_neg h]

/-- The gather, under a short name. -/
abbrev ga : GatherDims S1x2049x4x256 S2048x4x2 S1x2048x4x256 := gather_S1x2049x4x256_S2048x4x2_S1x2048x4x256_03_12_n_n_12_2_111256

theorem siIdx0 (h) : ga.siIdx (ix4 0 t g l) ⟨0, h⟩ = ix3 t g 0 := by
  funext b
  match b with
  | ⟨0, _⟩ => rfl
  | ⟨1, _⟩ => rfl
  | ⟨2, _⟩ => rfl

theorem siIdx1 (h) : ga.siIdx (ix4 0 t g l) ⟨1, h⟩ = ix3 t g 1 := by
  funext b
  match b with
  | ⟨0, _⟩ => rfl
  | ⟨1, _⟩ => rfl
  | ⟨2, _⟩ => rfl

theorem start1 (x : IVec S2048x4x2 32) : ga.start (ix4 0 t g l) x 1 = min (x (ix3 t g 0)).toInt.toNat 2048 :=
  (dif_pos (by decide)).trans (congrArg (fun i => min (x i).toInt.toNat 2048) (siIdx0 t g l (by decide)))

theorem start2 (x : IVec S2048x4x2 32) : ga.start (ix4 0 t g l) x 2 = min (x (ix3 t g 1)).toInt.toNat 3 :=
  (dif_pos (by decide)).trans (congrArg (fun i => min (x i).toInt.toNat 3) (siIdx1 t g l (by decide)))

/-- The gather reads the row and the group that the index array names. -/
theorem gather_at (y : FVec Ideal S1x2049x4x256 .f32) (x : IVec S2048x4x2 32) (n : Fin 2049) (h0 : x (ix3 t g 0) = BitVec.ofNat 32 n.val)
    (h1 : x (ix3 t g 1) = BitVec.ofNat 32 g.val) : Host.gather ga y x (ix4 0 t g l) = y (ix4 0 n g l) := by
  refine congrArg y (funext fun a => Fin.ext ?_)
  match a with
  | ⟨0, _⟩ => rfl
  | ⟨1, _⟩ =>
    show ga.start (ix4 0 t g l) x 1 + 0 + 0 = n.val
    rw [start1, h0, WordCmp.toInt_ofNat_of_lt (by omega)]
    show min n.val 2048 + 0 + 0 = n.val
    omega
  | ⟨2, _⟩ =>
    show ga.start (ix4 0 t g l) x 2 + 0 + 0 = g.val
    rw [start2, h1, WordCmp.toInt_ofNat_of_lt (by omega)]
    show min g.val 3 + 0 + 0 = g.val
    omega
  | ⟨3, _⟩ =>
    show 0 + 0 + l.val = l.val
    omega

theorem befores_at : befores p (ix4 0 t g l) = window (pooledCol p g l) (t.val + 1 - heights g) 0 :=
  (gather_at t g l (totals p) places ⟨t.val + 1 - heights g, by omega⟩ (place0_at t g) (place1_at t g)).trans (totals_at p g l _)

/-- For a finite argument, the differences are the windows' sums. -/
theorem sums_at (hp : ∀ i, ∃ r : ℝ, p i = (r : EReal)) : sums p (ix4 0 t g l) = trailing (pooledCol p g l) (heights g) t.val := by
  choose r hr using hp
  rw [← trailing_of_sums (pooledCol p g l) (fun i => r (ix3 0 i ⟨3072 + (g.val * 256 + l.val), by omega⟩)) (fun i => hr _),
    ← befores_at, show t.val + 1 = (⟨1 + t.val, by omega⟩ : Fin 2049).val from add_comm _ _, ← totals_at]
  pointwise [sums]

theorem pooled_eq (hp : ∀ i, ∃ r : ℝ, p i = (r : EReal)) : pooled p = poolings p := by
  funext y
  obtain ⟨i, q, rfl⟩ : ∃ (i : Fin 2048) (q : Fin 1024), y = ix2 i q := ⟨y 0, y 1, eq_ix2 y⟩
  obtain ⟨g, l, hq⟩ : ∃ (g : Fin 4) (l : Fin 256), q.val = g.val * 256 + l.val :=
    ⟨⟨q.val / 256, by omega⟩, ⟨q.val % 256, by omega⟩, by show q.val = q.val / 256 * 256 + q.val % 256; omega⟩
  have h := heights_le g
  rw [poolings_at p g i l q hq]
  unfold pooling mean
  show _ = Ideal.div (trailing (pooledCol p g l) (heights g) i.val) _ - _
  rw [← sums_at p i g l hp, ← columns_at, ← real_of_word _ (by omega),
    show min (i.val + 1) (heights g) = i.val + 1 - (i.val + 1 - heights g) by omega,
    ← subi_words _ _ (by omega), ← starts_at i g, ← upTo_at i g]
  have hb : g.val * 256 + l.val < 1024 := lt_of_eq_of_lt hq.symm q.isLt
  rw [show q = ⟨g.val * 256 + l.val, hb⟩ from Fin.ext hq]
  pointwise [pooled]

end Cert.TrailRefIdeal.Value

end
-- ==== Proof.Trail.Claims.lean ====
/- The claims about the pooling. -/
module

public import proofs.«01_k».proof.Defs
public import proofs.«01_k».proof.Proof.Gen.Pre_trail_finite
public import proofs.«01_k».proof.Proof.Gen.Trail.Frame
public import proofs.«01_k».proof.Proof.Trail.Kernel
public import proofs.«01_k».proof.Proof.Trail.Reference

@[expose] public section

set_option maxRecDepth 16384

noncomputable section

open Idealize.ShloMosaic Idealize.ShloMosaic.TcCoe Idealize.SL.Sem

namespace Cert.TrailClaims

open Cert.Shared

set_option maxHeartbeats 2000000 in
theorem value : algebraic_TrailIdeal_TrailRefIdeal_pre_trail_finite := by
  intro m g m' g' hpre hagree
  refine ⟨_, (θ_run _ _ _).mono (fun r h c => h c) (Cert.TrailIdeal.Value.run_blocks m g), ?_⟩
  refine (θ_run _ _ _).mono (fun r h c => ?_) (Cert.TrailRefIdeal.Value.run m' g')
  obtain ⟨h0, h1⟩ := h c
  have a0 := hagree c
  obtain ⟨p, hp⟩ := reals_of_bits _ _ (hpre c)
  refine ⟨h0.trans ?_, h1⟩
  rw [Cert.TrailIdeal.Value.array1]
  refine Eq.trans ?_ (Cert.TrailRefIdeal.Value.pooled_eq (Cert.TrailIdeal.Value.projOf m c) (fun i => ⟨p i, hp i⟩))
  unfold Cert.TrailRefIdeal.Value.res_main_v45
  rw [a0]
  rfl

theorem frame_reference : quiescent_TrailRefIdeal := fun m ρ _ =>
  (θ_run _ _ _).mono (fun r h => ⟨fun c => (h c).2, sem_eq_zero_of_no_sems (by decide) r.2⟩)
    (Cert.TrailRefIdeal.Value.run m ρ)

end Cert.TrailClaims

end
-- ==== Proof.Out.Kernel.lean ====
/- The output product with the second norm in the kernel: what one block of tokens computes, and what the result arrays hold. -/
module

public import proofs.«01_k».proof.Proof.Gen.OutIdeal.Value
public import proofs.«01_k».proof.Proof.Norm.Forward

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen Cert.Shared

/-- The residual stream after the mixer: the merged columns times the weights, added to what came in. -/
def residual (d : FVec Ideal S1x2048x2048 .bf16) (w x : FVec Ideal S1x2048x2048 .f32) : Fin 2048 → Fin 2048 → EReal :=
  fun i j => x (ix3 0 i j) + ∑ k : Fin 2048, d (ix3 0 i k) * w (ix3 0 k j)

section Payload

variable (x : FVec Ideal S256x2048 .f32) (d : FVec Ideal S256x2048 .bf16) (w : FVec Ideal S2048x2048 .bf16) (g : FVec Ideal S1x2048 .f32)
  (i : Fin 256) (j : Fin 2048)

theorem pay1_at : k0_pay1 (F := Ideal) x d w (ix2 i j) = x (ix2 i j) + ∑ k : Fin 2048, d (ix2 i k) * w (ix2 k j) := by
  pointwise [k0_pay1]

theorem pay2_at : k0_pay2 (F := Ideal) x d w g (ix2 i j)
    = normed (fun j => k0_pay1 (F := Ideal) x d w (ix2 i j)) (fun k => g (ix2 0 k)) j := by
  unfold normed invRms meanSq
  generalize h : k0_pay1 (F := Ideal) x d w = y
  pointwise [k0_pay2, h]

end Payload

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The argument arrays, at their shapes. -/
abbrev dOf (c : Dev nD) : FVec Ideal S1x2048x2048 .bf16 := m ((c.tc : Thread nD τ).loc main_arg0)
abbrev wOf (c : Dev nD) : FVec Ideal S1x2048x2048 .f32 := m ((c.tc : Thread nD τ).loc main_arg1)
abbrev xOf (c : Dev nD) : FVec Ideal S1x2048x2048 .f32 := m ((c.tc : Thread nD τ).loc main_arg2)
abbrev gOf (c : Dev nD) : FVec Ideal S1x2048 .f32 := m ((c.tc : Thread nD τ).loc main_arg3)

theorem row_lt (t : Fin cfg0.N) (i : Fin 256) : t.val * 256 + i.val < 2048 := by
  have := t.isLt; have : cfg0.N = 8 := N_0; omega

theorem V_v2 (c : Dev nD) (i j : Fin 2048) : V m c main_v2 (ix2 i j) = wOf m c (ix3 0 i j) := by
  have e : V m c main_v2 = truncf (F := Ideal) .bf16 (shapeCast S2048x2048 (wOf m c) shapeCasts_S1x2048x2048_S2048x2048) bitsLt_bf16_f32 := by
    unfold V
    after_results
    rfl
  rw [e]
  pointwise

section Blocks

variable (c : Dev nD) (t : Fin cfg0.N)

theorem block0 (i : Fin 256) (j : Fin 2048) : iblk m c 0 t (ix2 i j) = dOf m c (ix3 0 ⟨t.val * 256 + i.val, row_lt t i⟩ j) := by
  blk_point [iblk, V, idx t]

theorem block1 (i j : Fin 2048) : iblk m c 1 t (ix2 i j) = wOf m c (ix3 0 i j) :=
  (show _ = V m c main_v2 (ix2 i j) by blk_point [iblk, idx t]).trans (V_v2 m c i j)

theorem block2 (i : Fin 256) (j : Fin 2048) : iblk m c 2 t (ix2 i j) = xOf m c (ix3 0 ⟨t.val * 256 + i.val, row_lt t i⟩ j) := by
  blk_point [iblk, V, idx t]

theorem block3 (j : Fin 2048) : iblk m c 3 t (ix2 0 j) = gOf m c (ix2 0 j) := by
  blk_point [iblk, V, idx t]

theorem residual_point (i : Fin 256) (j : Fin 2048) : k0_pay1 (F := Ideal) (iblk m c 2 t) (iblk m c 0 t) (iblk m c 1 t) (ix2 i j)
    = residual (dOf m c) (wOf m c) (xOf m c) ⟨t.val * 256 + i.val, row_lt t i⟩ j := by
  refine (pay1_at _ _ _ i j).trans ?_
  simp only [block0 m c t, block1 m c t, block2 m c t]
  rfl

end Blocks

theorem array4 (c : Dev nD) : (dats m 0 c).arrAt 4 cfg0.N = fun y => residual (dOf m c) (wOf m c) (xOf m c) (y 0) (y 1) := by
  refine (dats m 0 c).arrAt_eq_of_covers 4 _ (by decide +kernel) fun t _ y => ?_
  blk_simp
  rw [after0_4]
  obtain ⟨i, j, rfl⟩ : ∃ (i : Fin 256) (j : Fin 2048), y = ix2 i j := ⟨y 0, y 1, by blk_ext⟩
  have e : ((View.whole main_v4_0).slice (win0_4.rect t)).emb (ix2 i j) = ix2 ⟨t.val * 256 + i.val, row_lt t i⟩ j := by
    blk_ext [idx t]
  rw [e]
  frame_out
  exact residual_point m c t i j

theorem array5 (c : Dev nD) : (dats m 0 c).arrAt 5 cfg0.N = normedTokens (residual (dOf m c) (wOf m c) (xOf m c)) (gOf m c) := by
  refine (dats m 0 c).arrAt_eq_of_covers 5 _ (by decide +kernel) fun t _ y => ?_
  blk_simp
  rw [after0_5]
  obtain ⟨i, j, rfl⟩ : ∃ (i : Fin 256) (j : Fin 2048), y = ix2 i j := ⟨y 0, y 1, by blk_ext⟩
  have e : ((View.whole main_v4_1).slice (win0_5.rect t)).emb (ix2 i j) = ix2 ⟨t.val * 256 + i.val, row_lt t i⟩ j := by
    blk_ext [idx t]
  rw [e]
  frame_out
  refine (pay2_at _ _ _ _ i j).trans ?_
  simp only [residual_point m c t, block3 m c t]
  rfl

end Cert.OutIdeal.Value

end
-- ==== Proof.Out.Claims.lean ====
/- The claims about the output product with the second norm. -/
module

public import proofs.«01_k».proof.Defs
public import proofs.«01_k».proof.Proof.Gen.Out.Frame
public import proofs.«01_k».proof.Proof.Out.Kernel
public import proofs.«01_k».proof.Proof.Gen.OutRefIdeal.Run

@[expose] public section

set_option maxRecDepth 16384

noncomputable section

open Idealize.ShloMosaic Idealize.ShloMosaic.TcCoe Idealize.SL.Sem

namespace Cert.OutRefIdeal.Value

open Cert.OutRefIdeal Cert.OutRefIdeal.Gen Cert.Shared

variable (d : FVec Ideal S1x2048x2048 .bf16) (w x : FVec Ideal S1x2048x2048 .f32)

/-- The residual stream after the mixer, as the reference computes it. -/
def stream : FVec Ideal S1x2048x2048 .f32 :=
  addf x (Host.dotGeneral dot_S1x2048x2048_S2048x2048_S1x2048x2048_2_0_01_1_n_n none (extf .f32 d bitsLt_bf16_f32)
    (shapeCast _ w shapeCasts_S1x2048x2048_S2048x2048))

theorem stream_at (i j : Fin 2048) : stream d w x (ix3 0 i j) = Cert.OutIdeal.Value.residual d w x i j := by
  unfold Cert.OutIdeal.Value.residual
  pointwise [stream]

theorem stream_eq : shapeCast S2048x2048 (stream d w x) shapeCasts_S1x2048x2048_S2048x2048
    = fun y => Cert.OutIdeal.Value.residual d w x (y 0) (y 1) := by
  funext y
  obtain ⟨i, j, rfl⟩ : ∃ i j : Fin 2048, y = ix2 i j := ⟨y 0, y 1, eq_ix2 y⟩
  refine Eq.trans ?_ (stream_at d w x i j)
  pointwise

end Cert.OutRefIdeal.Value

namespace Cert.OutClaims

open Cert.Shared

theorem value : algebraic_OutIdeal_OutRefIdeal := by
  intro m g m' g' _ hagree
  refine ⟨_, _, (θ_run _ _ _).mono (fun r h c => h c) (Cert.OutIdeal.Value.run_blocks m g), ?_⟩
  refine (θ_run _ _ _).mono (fun r h c => ?_) (Cert.OutRefIdeal.Value.run m' g')
  obtain ⟨h0, h1, h2⟩ := h c
  obtain ⟨a0, a1, a2, a3⟩ := hagree c
  refine ⟨h0.trans ?_, h1.trans ?_, h2⟩
  · rw [Cert.OutIdeal.Value.array4]
    refine Eq.trans ?_ (Cert.OutRefIdeal.Value.stream_eq (Cert.OutIdeal.Value.dOf m c) (Cert.OutIdeal.Value.wOf m c) (Cert.OutIdeal.Value.xOf m c))
    rw [a0, a1, a2]
    rfl
  · rw [Cert.OutIdeal.Value.array5]
    refine Eq.trans ?_ ((Cert.Rms2RefIdeal.Value.norms_eq (Cert.OutRefIdeal.Value.stream (Cert.OutIdeal.Value.dOf m c)
      (Cert.OutIdeal.Value.wOf m c) (Cert.OutIdeal.Value.xOf m c)) (Cert.OutIdeal.Value.gOf m c)).trans ?_)
    · rw [a0, a1, a2, a3]
      rfl
    · exact congrArg (normedTokens · _) (funext fun i => funext fun j => Cert.OutRefIdeal.Value.stream_at _ _ _ i j)

theorem frame_reference : quiescent_OutRefIdeal := fun m ρ _ =>
  (θ_run _ _ _).mono (fun r h => ⟨fun c => (h c).2.2, sem_eq_zero_of_no_sems (by decide) r.2⟩)
    (Cert.OutRefIdeal.Value.run m ρ)

end Cert.OutClaims

end
-- ==== Proof.Proj.Claims.lean ====
/- The input projection: four quarters of the tokens against half of a shard of columns at a time. -/
module

public import Idealize.ShloMosaic.Lib.Pipeline.ValueKit
public import Idealize.ShloMosaic.Lib.Pointwise
public import proofs.«01_k».proof.Defs
public import proofs.«01_k».proof.Proof.Gen.Proj.Frame
public import proofs.«01_k».proof.Proof.Gen.ProjIdeal.Value
public import proofs.«01_k».proof.Proof.Gen.ProjRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.ProjIdeal.Value

open Cert.ProjIdeal Cert.ProjIdeal.Gen

/-- The projection: columns `1024 n …` are part `n`'s. -/
def projected (x : FVec Ideal S1x2048x2048 .bf16) (w : FVec Ideal S1x2048x8192 .f32) (n : Fin 8) (i : Fin 2048) (j : Fin 1024) : EReal :=
  ∑ k : Fin 2048, x (ix3 0 i k) * w (ix3 0 k ⟨n.val * 1024 + j.val, by omega⟩)

section Payload

variable (x : FVec Ideal S512x2048 .bf16) (w : FVec Ideal S1x2048x512 .bf16) (i j : Fin 512)

theorem pay1_at : k0_pay1 (F := Ideal) (k0_pay5 x) w (ix3 0 i j) = ∑ k : Fin 2048, x (ix2 i k) * w (ix3 0 k j) := by
  pointwise [k0_pay1, k0_pay5]

theorem pay2_at : k0_pay2 (F := Ideal) x w (ix3 0 i j) = ∑ k : Fin 2048, x (ix2 i k) * w (ix3 0 k j) := by
  pointwise [k0_pay2]

end Payload

/-- A block of the result: every quarter of the tokens is the same product. -/
theorem out_at (x : FVec Ideal S2048x2048 .bf16) (w : FVec Ideal S1x2048x512 .bf16) (i : Fin 2048) (j : Fin 512) :
    out0_2 (F := Ideal) x w (ix3 0 i j) = ∑ k : Fin 2048, x (ix2 i k) * w (ix3 0 k j) := by
  canon_tiles q h using cover0_2 ..
  all_goals
    obtain ⟨a, b, rfl⟩ : ∃ (a b : Fin 512), q = ix3 0 a b := ⟨q 1, q 2, by blk_ext⟩
    first
      | refine (pay1_at _ _ a b).trans ?_
      | refine (pay2_at _ _ a b).trans ?_
    have hj : j.val = b.val := h2
    first
      | have hi : i.val = 1536 + a.val := h1
      | have hi : i.val = 1024 + a.val := h1
      | have hi : i.val = 512 + a.val := h1
      | have hi : i.val = a.val := h1
    refine Finset.sum_congr rfl fun k _ => congrArg₂ (· * ·) (congrArg x ?_) (congrArg w ?_)
      <;> blk_ext [hi, hj, r0_0, r0_1, r0_3, r0_5, r0_7, Rect.idx_unit_val]

variable (m : (ℓ : Loc nD τ sig) → Buf (Elt Ideal) ℓ)

theorem idx : ∀ t : Fin cfg0.N, win0_0.index t = ![0, 0] ∧ win0_1.index t = ![t.val / 2, 0, t.val % 2] ∧ win0_2.index t = ![t.val / 2, 0, t.val % 2] :=
  (by decide +kernel : ∀ t : Fin grid0.N, _)

/-- The argument arrays, at their shapes. -/
abbrev xOf (c : Dev nD) : FVec Ideal S1x2048x2048 .bf16 := m ((c.tc : Thread nD τ).loc main_arg0)
abbrev wOf (c : Dev nD) : FVec Ideal S1x2048x8192 .f32 := m ((c.tc : Thread nD τ).loc main_arg1)

theorem part_lt (t : Fin cfg0.N) : t.val / 2 < 8 := by
  have := t.isLt; have : cfg0.N = 16 := N_0; omega

theorem col_lt (t : Fin cfg0.N) (j : Fin 512) : t.val % 2 * 512 + j.val < 1024 := by omega

theorem V_v4 (c : Dev nD) (n : Fin 8) (k : Fin 2048) (j : Fin 1024) :
    V m c main_v4 (ix3 n k j) = wOf m c (ix3 0 k ⟨n.val * 1024 + j.val, by omega⟩) := by
  have e : V m c main_v4 = transpose S8x2048x1024 [1, 0, 2] (shapeCast S2048x8x1024 (truncf (F := Ideal) .bf16
      (shapeCast S2048x8192 (wOf m c) shapeCasts_S1x2048x8192_S2048x8192) bitsLt_bf16_f32) shapeCasts_S2048x8192_S2048x8x1024)
      transposes_S2048x8x1024_S8x2048x1024_1_0_2 := by
    unfold V
    after_results
    rfl
  rw [e]
  pointwise

section Blocks

variable (c : Dev nD) (t : Fin cfg0.N)

theorem block0 (i k : Fin 2048) : iblk m c 0 t (ix2 i k) = xOf m c (ix3 0 i k) := by
  blk_point [iblk, V, idx t]

theorem block1 (k : Fin 2048) (j : Fin 512) : iblk m c 1 t (ix3 0 k j)
    = wOf m c (ix3 0 k ⟨t.val / 2 * 1024 + (t.val % 2 * 512 + j.val), by have := part_lt t; omega⟩) :=
  (show _ = V m c main_v4 (ix3 ⟨t.val / 2, part_lt t⟩ k ⟨t.val % 2 * 512 + j.val, col_lt t j⟩) by blk_point [iblk, idx t]).trans (V_v4 m c _ k _)

end Blocks

theorem array (c : Dev nD) : (dats m 0 c).arrAt 2 cfg0.N = fun y => projected (xOf m c) (wOf m c) (y 0) (y 1) (y 2) := by
  refine (dats m 0 c).arrAt_eq_of_covers 2 _ (by decide +kernel) fun t _ y => ?_
  blk_simp
  rw [after0_2]
  obtain ⟨i, j, rfl⟩ : ∃ (i : Fin 2048) (j : Fin 512), y = ix3 0 i j := ⟨y 1, y 2, by blk_ext⟩
  have e : ((View.whole main_v5).slice (win0_2.rect t)).emb (ix3 0 i j) = ix3 ⟨t.val / 2, part_lt t⟩ i ⟨t.val % 2 * 512 + j.val, col_lt t j⟩ := by
    blk_ext [idx t]
  rw [e]
  refine (out_at _ _ i j).trans ?_
  simp only [block0 m c t, block1 m c t]
  rfl

end Cert.ProjIdeal.Value

namespace Cert.ProjRefIdeal.Value

open Cert.ProjRefIdeal Cert.ProjRefIdeal.Gen

variable (x : FVec Ideal S1x2048x2048 .bf16) (w : FVec Ideal S1x2048x8192 .f32)

/-- The projection as the reference computes it: one product, its columns cut into the parts. -/
def result : FVec Ideal S8x2048x1024 .f32 :=
  transpose S8x2048x1024 [1, 0, 2] (shapeCast _ (shapeCast _ (Host.dotGeneral dot_S1x2048x2048_S2048x8192_S1x2048x8192_2_0_01_1_n_n none
    (extf .f32 x bitsLt_bf16_f32) (shapeCast _ w shapeCasts_S1x2048x8192_S2048x8192)) shapeCasts_S1x2048x8192_S2048x8192)
    shapeCasts_S2048x8192_S2048x8x1024) transposes_S2048x8x1024_S8x2048x1024_1_0_2

theorem result_at (n : Fin 8) (i : Fin 2048) (j : Fin 1024) : result x w (ix3 n i j) = Cert.ProjIdeal.Value.projected x w n i j := by
  unfold Cert.ProjIdeal.Value.projected
  pointwise [result]

theorem result_eq : result x w = fun q => Cert.ProjIdeal.Value.projected x w (q 0) (q 1) (q 2) :=
  funext fun q => (congrArg (result x w) (eq_ix3 q)).trans (result_at x w (q 0) (q 1) (q 2))

end Cert.ProjRefIdeal.Value

namespace Cert.ProjClaims

theorem value : algebraic_ProjIdeal_ProjRefIdeal := by
  intro m g m' g' _ hagree
  refine ⟨_, (θ_run _ _ _).mono (fun r h c => h c) (Cert.ProjIdeal.Value.run_blocks m g), ?_⟩
  refine (θ_run _ _ _).mono (fun r h c => ?_) (Cert.ProjRefIdeal.Value.run m' g')
  obtain ⟨h0, h1⟩ := h c
  obtain ⟨a0, a1⟩ := hagree c
  refine ⟨h0.trans ?_, h1⟩
  rw [Cert.ProjIdeal.Value.array]
  refine Eq.trans ?_ (Cert.ProjRefIdeal.Value.result_eq (Cert.ProjIdeal.Value.xOf m c) (Cert.ProjIdeal.Value.wOf m c))
  rw [a0, a1]
  rfl

theorem frame_reference : quiescent_ProjRefIdeal := fun m ρ _ =>
  (θ_run _ _ _).mono (fun r h => ⟨fun c => (h c).2, sem_eq_zero_of_no_sems (by decide) r.2⟩)
    (Cert.ProjRefIdeal.Value.run m ρ)

end Cert.ProjClaims

end
-- ==== Proof.Gate.Claims.lean ====
/- The gate product of the feed-forward part: two chunks of tokens against one shard of columns at a time. -/
module

public import Idealize.ShloMosaic.Lib.Pipeline.ValueKit
public import Idealize.ShloMosaic.Lib.Pointwise
public import proofs.«01_k».proof.Defs
public import proofs.«01_k».proof.Proof.Gen.Gate.Frame
public import proofs.«01_k».proof.Proof.Gen.GateIdeal.Value
public import proofs.«01_k».proof.Proof.Gen.GateRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.GateIdeal.Value

open Cert.GateIdeal Cert.GateIdeal.Gen

/-- The product: columns `704 n …` are shard `n`'s. -/
def gated (x : FVec Ideal S1x2048x2048 .bf16) (w : FVec Ideal S1x2048x5632 .f32) (n : Fin 8) (i : Fin 2048) (j : Fin 704) : EReal :=
  ∑ k : Fin 2048, x (ix3 0 i k) * w (ix3 0 k ⟨n.val * 704 + j.val, by omega⟩)

section Payload

variable (x : FVec Ideal S512x2048 .bf16) (w : FVec Ideal S1x2048x704 .bf16) (i : Fin 512) (j : Fin 704)

theorem pay1_at : k0_pay1 (F := Ideal) x w (ix3 0 i j) = ∑ k : Fin 2048, x (ix2 i k) * w (ix3 0 k j) := by
  pointwise [k0_pay1]

theorem pay2_at : k0_pay2 (F := Ideal) x w (ix3 0 i j) = ∑ k : Fin 2048, x (ix2 i k) * w (ix3 0 k j) := by
  pointwise [k0_pay2]

end Payload

variable (m : (ℓ : Loc nD τ sig) → Buf (Elt Ideal) ℓ)

theorem idx : ∀ t : Fin cfg0.N, win0_0.index t = ![0, 0] ∧ win0_1.index t = ![t.val / 2, 0, 0] ∧ win0_2.index t = ![t.val / 2, t.val % 2, 0]
    ∧ k0_off1 (grid0.coords t) 0#32 = ![t.val % 2 * 1024, 0] ∧ k0_off1 (grid0.coords t) 512#32 = ![t.val % 2 * 1024 + 512, 0] :=
  (by decide +kernel : ∀ t : Fin grid0.N, _)

/-- The argument arrays, at their shapes. -/
abbrev xOf (c : Dev nD) : FVec Ideal S1x2048x2048 .bf16 := m ((c.tc : Thread nD τ).loc main_arg0)
abbrev wOf (c : Dev nD) : FVec Ideal S1x2048x5632 .f32 := m ((c.tc : Thread nD τ).loc main_arg1)

theorem shard_lt (t : Fin cfg0.N) : t.val / 2 < 8 := by
  have := t.isLt; have : cfg0.N = 16 := N_0; omega

theorem row_lt (t : Fin cfg0.N) (i : Fin 1024) : t.val % 2 * 1024 + i.val < 2048 := by omega

theorem V_v4 (c : Dev nD) (n : Fin 8) (k : Fin 2048) (j : Fin 704) :
    V m c main_v4 (ix3 n k j) = wOf m c (ix3 0 k ⟨n.val * 704 + j.val, by omega⟩) := by
  have e : V m c main_v4 = transpose S8x2048x704 [1, 0, 2] (shapeCast S2048x8x704 (truncf (F := Ideal) .bf16
      (shapeCast S2048x5632 (wOf m c) shapeCasts_S1x2048x5632_S2048x5632) bitsLt_bf16_f32) shapeCasts_S2048x5632_S2048x8x704)
      transposes_S2048x8x704_S8x2048x704_1_0_2 := by
    unfold V
    after_results
    rfl
  rw [e]
  pointwise

section Blocks

variable (c : Dev nD) (t : Fin cfg0.N)

theorem block0 (i k : Fin 2048) : iblk m c 0 t (ix2 i k) = xOf m c (ix3 0 i k) := by
  blk_point [iblk, V, idx t]

theorem block1 (k : Fin 2048) (j : Fin 704) : iblk m c 1 t (ix3 0 k j)
    = wOf m c (ix3 0 k ⟨t.val / 2 * 704 + j.val, by have := shard_lt t; omega⟩) :=
  (show _ = V m c main_v4 (ix3 ⟨t.val / 2, shard_lt t⟩ k j) by blk_point [iblk, idx t]).trans (V_v4 m c _ k _)

end Blocks

/-- A block of the result: both chunks of tokens are the same product. -/
theorem out_at (c : Dev nD) (t : Fin cfg0.N) (i : Fin 1024) (j : Fin 704) :
    outsAt0 (F := Ideal) m c t (ix3 0 i j) = gated (xOf m c) (wOf m c) ⟨t.val / 2, shard_lt t⟩ ⟨t.val % 2 * 1024 + i.val, row_lt t i⟩ j := by
  unfold outsAt0
  frame_out
  canon_tiles q h
  all_goals
    obtain ⟨a, b, rfl⟩ : ∃ (a : Fin 512) (b : Fin 704), q = ix3 0 a b := ⟨q 1, q 2, by blk_ext⟩
    obtain rfl : j = b := Fin.ext h2
    first
      | have hi : i.val = 512 + a.val := h1
      | have hi : i.val = a.val := h1
    first
      | refine (pay1_at _ _ a j).trans ?_
      | refine (pay2_at _ _ a j).trans ?_
    refine Finset.sum_congr rfl fun k _ => congrArg₂ (· * ·) ?_ (block1 m c t k j)
    refine Eq.trans (congrArg (iblk m c 0 t) ?_) (block0 m c t ⟨t.val % 2 * 1024 + i.val, row_lt t i⟩ k)
    blk_ext [hi, idx t, Rect.idx_unit_val]

theorem array (c : Dev nD) : (dats m 0 c).arrAt 2 cfg0.N = fun y => gated (xOf m c) (wOf m c) (y 0) (y 1) (y 2) := by
  refine (dats m 0 c).arrAt_eq_of_covers 2 _ (by decide +kernel) fun t _ y => ?_
  blk_simp
  rw [after0_2]
  obtain ⟨i, j, rfl⟩ : ∃ (i : Fin 1024) (j : Fin 704), y = ix3 0 i j := ⟨y 1, y 2, by blk_ext⟩
  have e : ((View.whole main_v5).slice (win0_2.rect t)).emb (ix3 0 i j) = ix3 ⟨t.val / 2, shard_lt t⟩ ⟨t.val % 2 * 1024 + i.val, row_lt t i⟩ j := by
    blk_ext [idx t]
  rw [e]
  exact out_at m c t i j

end Cert.GateIdeal.Value

namespace Cert.GateRefIdeal.Value

open Cert.GateRefIdeal Cert.GateRefIdeal.Gen

variable (x : FVec Ideal S1x2048x2048 .bf16) (w : FVec Ideal S1x2048x5632 .f32)

/-- The gate product as the reference computes it: one product, its columns cut into the shards. -/
def result : FVec Ideal S8x2048x704 .bf16 :=
  truncf .bf16 (transpose S8x2048x704 [1, 0, 2] (shapeCast _ (shapeCast _ (Host.dotGeneral dot_S1x2048x2048_S2048x5632_S1x2048x5632_2_0_01_1_n_n none
    (extf .f32 x bitsLt_bf16_f32) (shapeCast _ w shapeCasts_S1x2048x5632_S2048x5632)) shapeCasts_S1x2048x5632_S2048x5632)
    shapeCasts_S2048x5632_S2048x8x704) transposes_S2048x8x704_S8x2048x704_1_0_2) bitsLt_bf16_f32

theorem result_at (n : Fin 8) (i : Fin 2048) (j : Fin 704) : result x w (ix3 n i j) = Cert.GateIdeal.Value.gated x w n i j := by
  unfold Cert.GateIdeal.Value.gated
  pointwise [result]

theorem result_eq : result x w = fun q => Cert.GateIdeal.Value.gated x w (q 0) (q 1) (q 2) :=
  funext fun q => (congrArg (result x w) (eq_ix3 q)).trans (result_at x w (q 0) (q 1) (q 2))

end Cert.GateRefIdeal.Value

namespace Cert.GateClaims

theorem value : algebraic_GateIdeal_GateRefIdeal := by
  intro m g m' g' _ hagree
  refine ⟨_, (θ_run _ _ _).mono (fun r h c => h c) (Cert.GateIdeal.Value.run_blocks m g), ?_⟩
  refine (θ_run _ _ _).mono (fun r h c => ?_) (Cert.GateRefIdeal.Value.run m' g')
  obtain ⟨h0, h1⟩ := h c
  obtain ⟨a0, a1⟩ := hagree c
  refine ⟨h0.trans ?_, h1⟩
  rw [Cert.GateIdeal.Value.array]
  refine Eq.trans ?_ (Cert.GateRefIdeal.Value.result_eq (Cert.GateIdeal.Value.xOf m c) (Cert.GateIdeal.Value.wOf m c))
  rw [a0, a1]
  rfl

theorem frame_reference : quiescent_GateRefIdeal := fun m ρ _ =>
  (θ_run _ _ _).mono (fun r h => ⟨fun c => (h c).2, sem_eq_zero_of_no_sems (by decide) r.2⟩)
    (Cert.GateRefIdeal.Value.run m ρ)

end Cert.GateClaims

end
-- ==== Proof.Halves.lean ====
/- A block that is written in two halves of its rows: what was there before does not matter. -/
module

public import Idealize.ShloMosaic.Lib.Pipeline.ValueKit
public import Idealize.ShloMosaic.Lib.Pipeline.ReadBack
public import Idealize.ShloMosaic.Lib.Pointwise

@[expose] public section

open Idealize.ShloMosaic

namespace Cert.Shared

variable {Val : EltTy → Type} [∀ e, Nonempty (Val e)] {e : EltTy} {S : Shape}

/-- Two writes that cover the whole block hide every earlier one. -/
theorem canon_of_cover (p q : View.Piece Val S e) (L : List (View.Piece Val S e)) (y : S.Idx) (h : y ∈ p.1.set ∨ y ∈ q.1.set) :
    View.canon (p :: q :: L) y = View.canon [p, q] y := by
  by_cases hp : y ∈ p.1.set
  · obtain ⟨x, rfl⟩ := p.1.exists_idx_of_mem hp
    exact (View.canon_cons_emb _ _ _ x).trans (View.canon_cons_emb _ _ _ x).symm
  · rw [View.canon_cons_of_not_mem _ _ hp, View.canon_cons_of_not_mem _ _ hp]
    obtain ⟨x, rfl⟩ := q.1.exists_idx_of_mem (h.resolve_left hp)
    exact (View.canon_cons_emb _ _ _ x).trans (View.canon_cons_emb _ _ _ x).symm

end Cert.Shared

end
-- ==== Proof.Down.Claims.lean ====
/- The product back out of the feed-forward part: two shards of the contraction at a time, added up in the result block. -/
module

public import Idealize.ShloMosaic.Lib.Pipeline.ValueKit
public import Idealize.ShloMosaic.Lib.Pointwise
public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Halves

@[expose] public section

set_option maxRecDepth 16384

noncomputable section

open Idealize.ShloMosaic Idealize.ShloMosaic.TcCoe Idealize.ShloMosaic.Tactic Idealize.SL.Sem
open Idealize.ShloMosaic.Pipeline (Dat)

namespace Cert.DownIdeal.Value

open Cert.DownIdeal Cert.DownIdeal.Gen Cert.Shared

section Payload

variable (a b : FVec Ideal S1x1024x704 .bf16) (v w : FVec Ideal S1x704x1024 .bf16) (acc : FVec Ideal S1024x1024 .f32) (i j : Fin 1024)

theorem pay3_at : k0_pay3 (F := Ideal) a v b w acc (ix2 i j)
    = acc (ix2 i j) + (∑ k : Fin 704, a (ix3 0 i k) * v (ix3 0 k j) + ∑ k : Fin 704, b (ix3 0 i k) * w (ix3 0 k j)) := by
  pointwise [k0_pay3]

theorem pay1_at : k0_pay1 (F := Ideal) (k0_pay4 a v) (k0_pay5 b) w acc (ix2 i j)
    = acc (ix2 i j) + (∑ k : Fin 704, a (ix3 0 i k) * v (ix3 0 k j) + ∑ k : Fin 704, b (ix3 0 i k) * w (ix3 0 k j)) := by
  pointwise [k0_pay1, k0_pay4, k0_pay5]

end Payload

/-- What one point adds: its two shards' share of the contraction. -/
def share (x : FVec Ideal S2x2048x704 .bf16) (w : FVec Ideal S2x704x1024 .bf16) (i : Fin 2048) (j : Fin 1024) : EReal :=
  ∑ k : Fin 704, x (ix3 0 i k) * w (ix3 0 k j) + ∑ k : Fin 704, x (ix3 1 i k) * w (ix3 1 k j)

/-- The two halves of the tokens, each added to what the result block held. -/
theorem halves_at (x : FVec Ideal S2x2048x704 .bf16) (w : FVec Ideal S2x704x1024 .bf16) (acc : FVec Ideal S2048x1024 .f32) (i : Fin 2048)
    (j : Fin 1024) :
    View.canon (Val := Elt Ideal) (e := .f32) [⟨Rect.unit ![1024, 0] ![1024, 1024] inb_S2048x1024_S1024x1024_1024_0,
        k0_pay1 (F := Ideal) (k0_pay4 (View.ld (Val := Elt Ideal) (e' := .bf16) x (Rect.unit ![0, 1024, 0] ![1, 1024, 704] inb_S2x2048x704_S1x1024x704_0_1024_0))
            (View.ld (Val := Elt Ideal) (e' := .bf16) w (Rect.unit ![0, 0, 0] ![1, 704, 1024] inb_S2x704x1024_S1x704x1024_0_0_0)))
          (k0_pay5 (View.ld (Val := Elt Ideal) (e' := .bf16) x (Rect.unit ![1, 1024, 0] ![1, 1024, 704] inb_S2x2048x704_S1x1024x704_1_1024_0)))
          (View.ld (Val := Elt Ideal) (e' := .bf16) w (Rect.unit ![1, 0, 0] ![1, 704, 1024] inb_S2x704x1024_S1x704x1024_1_0_0))
          (View.ld (Val := Elt Ideal) (e' := .f32) acc (Rect.unit ![1024, 0] ![1024, 1024] inb_S2048x1024_S1024x1024_1024_0))⟩,
      ⟨Rect.unit ![0, 0] ![1024, 1024] inb_S2048x1024_S1024x1024_0_0,
        k0_pay3 (F := Ideal) (View.ld (Val := Elt Ideal) (e' := .bf16) x (Rect.unit ![0, 0, 0] ![1, 1024, 704] inb_S2x2048x704_S1x1024x704_0_0_0))
          (View.ld (Val := Elt Ideal) (e' := .bf16) w (Rect.unit ![0, 0, 0] ![1, 704, 1024] inb_S2x704x1024_S1x704x1024_0_0_0))
          (View.ld (Val := Elt Ideal) (e' := .bf16) x (Rect.unit ![1, 0, 0] ![1, 1024, 704] inb_S2x2048x704_S1x1024x704_1_0_0))
          (View.ld (Val := Elt Ideal) (e' := .bf16) w (Rect.unit ![1, 0, 0] ![1, 704, 1024] inb_S2x704x1024_S1x704x1024_1_0_0))
          (View.ld (Val := Elt Ideal) (e' := .f32) acc (Rect.unit ![0, 0] ![1024, 1024] inb_S2048x1024_S1024x1024_0_0))⟩] (ix2 i j)
      = acc (ix2 i j) + share x w i j := by
  canon_tiles q h
  all_goals
    obtain ⟨a, b, rfl⟩ : ∃ (a b : Fin 1024), q = ix2 a b := ⟨q 0, q 1, by blk_ext⟩
    obtain rfl : j = b := Fin.ext h1
  · have hi : i.val = 1024 + a.val := h0
    refine (pay1_at _ _ _ _ _ a j).trans (congrArg₂ (· + ·) (congrArg acc ?_) (congrArg₂ (· + ·)
      (Finset.sum_congr rfl fun k _ => congrArg₂ (· * ·) (congrArg x ?_) (congrArg w ?_))
      (Finset.sum_congr rfl fun k _ => congrArg₂ (· * ·) (congrArg x ?_) (congrArg w ?_))))
    all_goals blk_ext [hi, Rect.idx_unit_val]
  · have hi : i.val = a.val := h0
    refine (pay3_at _ _ _ _ _ a j).trans (congrArg₂ (· + ·) (congrArg acc ?_) (congrArg₂ (· + ·)
      (Finset.sum_congr rfl fun k _ => congrArg₂ (· * ·) (congrArg x ?_) (congrArg w ?_))
      (Finset.sum_congr rfl fun k _ => congrArg₂ (· * ·) (congrArg x ?_) (congrArg w ?_))))
    all_goals blk_ext [hi, Rect.idx_unit_val]

variable (m : (ℓ : Loc nD τ sig) → Buf (Elt Ideal) ℓ)

theorem out_A (c : Dev nD) (t : Fin cfg0.N) (h : t.val % 4 = 0) (i : Fin 2048) (j : Fin 1024) :
    outsAt0 (F := Ideal) m c t.val t.isLt (ix2 i j) = 0 + share (iblk m c 0 t) (iblk m c 1 t) i j := by
  rw [outsAt0_A m c t h]
  frame_out
  simp (disch := decide) only [View.readCov_skip, View.readCov_fill]
  refine (canon_of_cover _ _ _ _ ?_).trans ((halves_at (iblk m c 0 t) (iblk m c 1 t) k0_pay2 i j).trans (congrArg (· + _) (by pointwise [k0_pay2])))
  simp only [Rect.mem_set_unit]
  rcases lt_or_ge i.val 1024 with hi | hi
  · exact Or.inr fun a => match a with
      | ⟨0, _⟩ => ⟨Nat.zero_le _, hi⟩
      | ⟨1, _⟩ => ⟨Nat.zero_le _, j.isLt⟩
  · exact Or.inl fun a => match a with
      | ⟨0, _⟩ => ⟨hi, i.isLt⟩
      | ⟨1, _⟩ => ⟨Nat.zero_le _, j.isLt⟩

theorem out_B (c : Dev nD) (t : Fin cfg0.N) (h : ¬ t.val % 4 = 0) (i : Fin 2048) (j : Fin 1024) :
    outsAt0 (F := Ideal) m c t.val t.isLt (ix2 i j)
      = outsAt0 m c (t.val - 1) (Nat.lt_of_le_of_lt (Nat.sub_le _ _) t.isLt) (ix2 i j) + share (iblk m c 0 t) (iblk m c 1 t) i j := by
  rw [outsAt0_B m c t h]
  frame_out
  exact halves_at (iblk m c 0 t) (iblk m c 1 t) _ i j

theorem idx : ∀ t : Fin cfg0.N, win0_0.index t = ![t.val, 0, 0] ∧ win0_1.index t = ![t.val, 0, 0] ∧ win0_2.index t = ![0, 0] :=
  (by decide +kernel : ∀ t : Fin grid0.N, _)

/-- The argument arrays, at their shapes. -/
abbrev xOf (c : Dev nD) : FVec Ideal S1x2048x5632 .bf16 := m ((c.tc : Thread nD τ).loc main_arg0)
abbrev wOf (c : Dev nD) : FVec Ideal S1x5632x2048 .f32 := m ((c.tc : Thread nD τ).loc main_arg1)

theorem V_v4 (c : Dev nD) (n : Fin 8) (i : Fin 2048) (k : Fin 704) :
    V m c main_v4 (ix3 n i k) = xOf m c (ix3 0 i ⟨n.val * 704 + k.val, by omega⟩) := by
  have e : V m c main_v4 = transpose S8x2048x704 [1, 0, 2] (shapeCast S2048x8x704 (xOf m c) shapeCasts_S1x2048x5632_S2048x8x704)
      transposes_S2048x8x704_S8x2048x704_1_0_2 := by
    unfold V
    after_results
    rfl
  rw [e]
  pointwise

theorem V_v5 (c : Dev nD) (n : Fin 8) (k : Fin 704) (j : Fin 1024) :
    V m c main_v5 (ix3 n k j) = wOf m c (ix3 0 ⟨n.val * 704 + k.val, by omega⟩ ⟨j.val, by omega⟩) := by
  have e : V m c main_v5 = extractStridedSlice S8x704x1024 ![0, 0, 0] (shapeCast S8x704x2048 (truncf (F := Ideal) .bf16
      (shapeCast S5632x2048 (wOf m c) shapeCasts_S1x5632x2048_S5632x2048) bitsLt_bf16_f32) shapeCasts_S5632x2048_S8x704x2048)
      slices_S8x704x2048_S8x704x1024_0_0_0 := by
    unfold V
    after_results
    rfl
  rw [e]
  pointwise

/-- Shard `n`'s share of the contraction. -/
def part (x : FVec Ideal S1x2048x5632 .bf16) (w : FVec Ideal S1x5632x2048 .f32) (i : Fin 2048) (j : Fin 1024) (n : Fin 8) : EReal :=
  ∑ k : Fin 704, x (ix3 0 i ⟨n.val * 704 + k.val, by omega⟩) * w (ix3 0 ⟨n.val * 704 + k.val, by omega⟩ ⟨j.val, by omega⟩)

theorem shard_lt (t : Fin cfg0.N) (a : Fin 2) : t.val * 2 + a.val < 8 := by
  have := t.isLt; have : cfg0.N = 4 := N_0; omega

section Blocks

variable (c : Dev nD) (t : Fin cfg0.N) (a : Fin 2)

theorem block0 (i : Fin 2048) (k : Fin 704) : iblk m c 0 t (ix3 a i k)
    = xOf m c (ix3 0 i ⟨(t.val * 2 + a.val) * 704 + k.val, by have := shard_lt t a; omega⟩) :=
  (show _ = V m c main_v4 (ix3 ⟨t.val * 2 + a.val, shard_lt t a⟩ i k) by blk_point [iblk, idx t]).trans (V_v4 m c _ i k)

theorem block1 (k : Fin 704) (j : Fin 1024) : iblk m c 1 t (ix3 a k j)
    = wOf m c (ix3 0 ⟨(t.val * 2 + a.val) * 704 + k.val, by have := shard_lt t a; omega⟩ ⟨j.val, by omega⟩) :=
  (show _ = V m c main_v5 (ix3 ⟨t.val * 2 + a.val, shard_lt t a⟩ k j) by blk_point [iblk, idx t]).trans (V_v5 m c _ k j)

theorem share_eq (i : Fin 2048) (j : Fin 1024) : share (iblk m c 0 t) (iblk m c 1 t) i j
    = part (xOf m c) (wOf m c) i j ⟨t.val * 2, by have := shard_lt t 0; omega⟩ + part (xOf m c) (wOf m c) i j ⟨t.val * 2 + 1, shard_lt t 1⟩ := by
  unfold share
  simp only [block0 m c t, block1 m c t]
  rfl

end Blocks

theorem array (c : Dev nD) : (dats m 0 c).arrAt 2 cfg0.N = fun y => ∑ n : Fin 8, part (xOf m c) (wOf m c) (y 0) (y 1) n := by
  refine (dats m 0 c).arrAt_eq_of_after_last 2 t0_3 (by decide +kernel) _ fun y => ?_
  blk_simp
  rw [after0_2]
  obtain ⟨i, j, rfl⟩ : ∃ (i : Fin 2048) (j : Fin 1024), y = ix2 i j := ⟨y 0, y 1, by blk_ext⟩
  rw [Pipeline.eq_sum_fin_of_reset_step_apply_last (fun n h => outsAt0 m c n h) 4 (fun _ => 0)
    (fun p y => share (iblk m c 0 p) (iblk m c 1 p) (y 0) (y 1))
    (fun t h y => by
      obtain ⟨i, j, rfl⟩ : ∃ (i : Fin 2048) (j : Fin 1024), y = ix2 i j := ⟨y 0, y 1, by blk_ext⟩
      exact out_A m c t h i j)
    (fun t h y => by
      obtain ⟨i, j, rfl⟩ : ∃ (i : Fin 2048) (j : Fin 1024), y = ix2 i j := ⟨y 0, y 1, by blk_ext⟩
      exact out_B m c t h i j)
    (le_of_eq N_0) t0_3 rfl (ix2 i j), zero_add]
  refine (Finset.sum_congr rfl fun t _ => share_eq m c t i j).trans ?_
  refine (Fin.sum_univ_four _).trans ?_
  refine Eq.trans ?_ (Fin.sum_univ_eight _).symm
  simp only [add_assoc]
  rfl

end Cert.DownIdeal.Value

namespace Cert.DownRefIdeal.Value

open Cert.DownRefIdeal Cert.DownRefIdeal.Gen

variable (x : FVec Ideal S1x2048x5632 .bf16) (w : FVec Ideal S1x5632x2048 .f32)

/-- The product as the reference computes it, its first half of the columns. -/
def result : FVec Ideal S2048x1024 .f32 :=
  shapeCast _ (extractStridedSlice S1x2048x1024 ![0, 0, 0] (Host.dotGeneral dot_S1x2048x5632_S5632x2048_S1x2048x2048_2_0_01_1_n_n none
    (extf .f32 x bitsLt_bf16_f32) (shapeCast _ w shapeCasts_S1x5632x2048_S5632x2048)) slices_S1x2048x2048_S1x2048x1024_0_0_0)
    shapeCasts_S1x2048x1024_S2048x1024

theorem result_at (i : Fin 2048) (j : Fin 1024) : result x w (ix2 i j) = ∑ k : Fin 5632, x (ix3 0 i k) * w (ix3 0 k ⟨j.val, by omega⟩) := by
  pointwise [result]

theorem result_eq : result x w = fun q => ∑ n : Fin 8, Cert.DownIdeal.Value.part x w (q 0) (q 1) n :=
  funext fun q => (congrArg (result x w) (eq_ix2 q)).trans ((result_at x w (q 0) (q 1)).trans (Fin.sum_mul_add_fin 8 704 _).symm)

end Cert.DownRefIdeal.Value

namespace Cert.DownClaims

theorem value : algebraic_DownIdeal_DownRefIdeal := by
  intro m g m' g' _ hagree
  refine ⟨_, (θ_run _ _ _).mono (fun r h c => h c) (Cert.DownIdeal.Value.run_blocks m g), ?_⟩
  refine (θ_run _ _ _).mono (fun r h c => ?_) (Cert.DownRefIdeal.Value.run m' g')
  obtain ⟨h0, h1⟩ := h c
  obtain ⟨a0, a1⟩ := hagree c
  refine ⟨h0.trans ?_, h1⟩
  rw [Cert.DownIdeal.Value.array]
  refine Eq.trans ?_ (Cert.DownRefIdeal.Value.result_eq (Cert.DownIdeal.Value.xOf m c) (Cert.DownIdeal.Value.wOf m c))
  rw [a0, a1]
  rfl

theorem frame_reference : quiescent_DownRefIdeal := fun m ρ _ =>
  (θ_run _ _ _).mono (fun r h => ⟨fun c => (h c).2, sem_eq_zero_of_no_sems (by decide) r.2⟩)
    (Cert.DownRefIdeal.Value.run m ρ)

end Cert.DownClaims

end
-- ==== Proof.Rowgrad.Claims.lean ====
/- The gradient of a weight whose rows are sharded: tokens contracted, one shard of rows at a time. -/
module

public import Idealize.ShloMosaic.Lib.Pipeline.ValueKit
public import Idealize.ShloMosaic.Lib.Pointwise
public import proofs.«01_k».proof.Defs
public import proofs.«01_k».proof.Proof.Gen.Rowgrad.Frame
public import proofs.«01_k».proof.Proof.Gen.RowgradIdeal.Value
public import proofs.«01_k».proof.Proof.Gen.RowgradRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.RowgradIdeal.Value

open Cert.RowgradIdeal Cert.RowgradIdeal.Gen

/-- The weight gradient: rows `704 n …` are shard `n`'s, the tokens summed over. -/
def grad (x : FVec Ideal S1x2048x5632 .bf16) (y : FVec Ideal S1x2048x2048 .bf16) (n : Fin 8) (i : Fin 704) (j : Fin 2048) : EReal :=
  ∑ s : Fin 2048, x (ix3 0 s ⟨n.val * 704 + i.val, by omega⟩) * y (ix3 0 s j)

theorem pay_at (x : FVec Ideal S1x2048x704 .bf16) (y : FVec Ideal S2048x2048 .bf16) (i : Fin 704) (j : Fin 2048) :
    k0_pay1 (F := Ideal) x y (ix3 0 i j) = ∑ s : Fin 2048, x (ix3 0 s i) * y (ix2 s j) := by
  pointwise [k0_pay1]

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] :=
  (by decide +kernel : ∀ t : Fin grid0.N, _)

/-- The argument arrays, at their shapes. -/
abbrev xOf (c : Dev nD) : FVec Ideal S1x2048x5632 .bf16 := m ((c.tc : Thread nD τ).loc main_arg0)
abbrev yOf (c : Dev nD) : FVec Ideal S1x2048x2048 .bf16 := m ((c.tc : Thread nD τ).loc main_arg1)

theorem shard_lt (t : Fin cfg0.N) : t.val < 8 := lt_of_lt_of_eq t.isLt N_0

theorem V_v1 (c : Dev nD) (n : Fin 8) (s : Fin 2048) (i : Fin 704) :
    V m c main_v1 (ix3 n s i) = xOf m c (ix3 0 s ⟨n.val * 704 + i.val, by omega⟩) := by
  have e : V m c main_v1 = transpose S8x2048x704 [1, 0, 2] (shapeCast S2048x8x704 (xOf m c) shapeCasts_S1x2048x5632_S2048x8x704)
      transposes_S2048x8x704_S8x2048x704_1_0_2 := by
    unfold V
    after_results
    rfl
  rw [e]
  pointwise

section Blocks

variable (c : Dev nD) (t : Fin cfg0.N)

theorem block0 (s : Fin 2048) (i : Fin 704) : iblk m c 0 t (ix3 0 s i) = xOf m c (ix3 0 s ⟨t.val * 704 + i.val, by have := shard_lt t; omega⟩) :=
  (show _ = V m c main_v1 (ix3 ⟨t.val, shard_lt t⟩ s i) by blk_point [iblk, idx t]).trans (V_v1 m c _ s i)

theorem block1 (s j : Fin 2048) : iblk m c 1 t (ix2 s j) = yOf m c (ix3 0 s j) := by
  blk_point [iblk, V, idx t]

end Blocks

theorem array (c : Dev nD) : (dats m 0 c).arrAt 2 cfg0.N = fun y => grad (xOf m c) (yOf m c) (y 0) (y 1) (y 2) := by
  refine (dats m 0 c).arrAt_eq_of_covers 2 _ (by decide +kernel) fun t _ y => ?_
  blk_simp
  rw [after0_2]
  obtain ⟨i, j, rfl⟩ : ∃ (i : Fin 704) (j : Fin 2048), y = ix3 0 i j := ⟨y 1, y 2, by blk_ext⟩
  have e : ((View.whole main_v3).slice (win0_2.rect t)).emb (ix3 0 i j) = ix3 ⟨t.val, shard_lt t⟩ i j := by
    blk_ext [idx t]
  rw [e]
  frame_out
  refine (pay_at _ _ i j).trans ?_
  simp only [block0 m c t, block1 m c t]
  rfl

end Cert.RowgradIdeal.Value

namespace Cert.RowgradRefIdeal.Value

open Cert.RowgradRefIdeal Cert.RowgradRefIdeal.Gen

variable (x : FVec Ideal S1x2048x5632 .bf16) (y : FVec Ideal S1x2048x2048 .bf16)

/-- The gradient as the reference computes it: one product, transposed, its rows cut into the shards. -/
def result : FVec Ideal S8x704x2048 .bf16 :=
  truncf .bf16 (shapeCast _ (transpose S5632x2048 [1, 0] (Host.dotGeneral dot_S1x2048x2048_S1x2048x5632_S2048x5632_01_01_2_2_n_n none
    (extf .f32 y bitsLt_bf16_f32) (extf .f32 x bitsLt_bf16_f32)) transposes_S2048x5632_S5632x2048_1_0)
    shapeCasts_S5632x2048_S8x704x2048) bitsLt_bf16_f32

theorem result_at (n : Fin 8) (i : Fin 704) (j : Fin 2048) : result x y (ix3 n i j) = Cert.RowgradIdeal.Value.grad x y n i j := by
  unfold Cert.RowgradIdeal.Value.grad
  pointwise [result]
  rw [Fin.sum_univ_one]
  exact Finset.sum_congr rfl fun s _ => mul_comm _ _

theorem result_eq : result x y = fun q => Cert.RowgradIdeal.Value.grad x y (q 0) (q 1) (q 2) :=
  funext fun q => (congrArg (result x y) (eq_ix3 q)).trans (result_at x y (q 0) (q 1) (q 2))

end Cert.RowgradRefIdeal.Value

namespace Cert.RowgradClaims

theorem value : algebraic_RowgradIdeal_RowgradRefIdeal := by
  intro m g m' g' _ hagree
  refine ⟨_, (θ_run _ _ _).mono (fun r h c => h c) (Cert.RowgradIdeal.Value.run_blocks m g), ?_⟩
  refine (θ_run _ _ _).mono (fun r h c => ?_) (Cert.RowgradRefIdeal.Value.run m' g')
  obtain ⟨h0, h1⟩ := h c
  obtain ⟨a0, a1⟩ := hagree c
  refine ⟨h0.trans ?_, h1⟩
  rw [Cert.RowgradIdeal.Value.array]
  refine Eq.trans ?_ (Cert.RowgradRefIdeal.Value.result_eq (Cert.RowgradIdeal.Value.xOf m c) (Cert.RowgradIdeal.Value.yOf m c))
  rw [a0, a1]
  rfl

theorem frame_reference : quiescent_RowgradRefIdeal := fun m ρ _ =>
  (θ_run _ _ _).mono (fun r h => ⟨fun c => (h c).2, sem_eq_zero_of_no_sems (by decide) r.2⟩)
    (Cert.RowgradRefIdeal.Value.run m ρ)

end Cert.RowgradClaims

end
-- ==== Proof.Colgrad.Claims.lean ====
/- The gradient of a weight whose columns are sharded: tokens contracted, one shard of columns at a time. -/
module

public import Idealize.ShloMosaic.Lib.Pipeline.ValueKit
public import Idealize.ShloMosaic.Lib.Pointwise
public import proofs.«01_k».proof.Defs
public import proofs.«01_k».proof.Proof.Gen.Colgrad.Frame
public import proofs.«01_k».proof.Proof.Gen.ColgradIdeal.Value
public import proofs.«01_k».proof.Proof.Gen.ColgradRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.ColgradIdeal.Value

open Cert.ColgradIdeal Cert.ColgradIdeal.Gen

/-- The weight gradient: columns `1024 n …` are shard `n`'s, the tokens summed over. -/
def grad (x : FVec Ideal S1x2048x2048 .bf16) (y : FVec Ideal S1x2048x8192 .bf16) (n : Fin 8) (i : Fin 2048) (j : Fin 1024) : EReal :=
  ∑ s : Fin 2048, x (ix3 0 s i) * y (ix3 0 s ⟨n.val * 1024 + j.val, by omega⟩)

theorem pay_at (x : FVec Ideal S2048x2048 .bf16) (y : FVec Ideal S1x2048x1024 .bf16) (i : Fin 2048) (j : Fin 1024) :
    k0_pay1 (F := Ideal) x y (ix3 0 i j) = ∑ s : Fin 2048, x (ix2 s i) * y (ix3 0 s j) := by
  pointwise [k0_pay1]

variable (m : (ℓ : Loc nD τ sig) → Buf (Elt Ideal) ℓ)

theorem idx : ∀ t : Fin cfg0.N, win0_0.index t = ![0, 0] ∧ win0_1.index t = ![t.val, 0, 0] ∧ win0_2.index t = ![t.val, 0, 0] :=
  (by decide +kernel : ∀ t : Fin grid0.N, _)

/-- The argument arrays, at their shapes. -/
abbrev xOf (c : Dev nD) : FVec Ideal S1x2048x2048 .bf16 := m ((c.tc : Thread nD τ).loc main_arg0)
abbrev yOf (c : Dev nD) : FVec Ideal S1x2048x8192 .bf16 := m ((c.tc : Thread nD τ).loc main_arg1)

theorem shard_lt (t : Fin cfg0.N) : t.val < 8 := lt_of_lt_of_eq t.isLt N_0

theorem V_v2 (c : Dev nD) (n : Fin 8) (s : Fin 2048) (j : Fin 1024) :
    V m c main_v2 (ix3 n s j) = yOf m c (ix3 0 s ⟨n.val * 1024 + j.val, by omega⟩) := by
  have e : V m c main_v2 = transpose S8x2048x1024 [1, 0, 2] (shapeCast S2048x8x1024 (yOf m c) shapeCasts_S1x2048x8192_S2048x8x1024)
      transposes_S2048x8x1024_S8x2048x1024_1_0_2 := by
    unfold V
    after_results
    rfl
  rw [e]
  pointwise

section Blocks

variable (c : Dev nD) (t : Fin cfg0.N)

theorem block0 (s i : Fin 2048) : iblk m c 0 t (ix2 s i) = xOf m c (ix3 0 s i) := by
  blk_point [iblk, V, idx t]

theorem block1 (s : Fin 2048) (j : Fin 1024) : iblk m c 1 t (ix3 0 s j) = yOf m c (ix3 0 s ⟨t.val * 1024 + j.val, by have := shard_lt t; omega⟩) :=
  (show _ = V m c main_v2 (ix3 ⟨t.val, shard_lt t⟩ s j) by blk_point [iblk, idx t]).trans (V_v2 m c _ s j)

end Blocks

theorem array (c : Dev nD) : (dats m 0 c).arrAt 2 cfg0.N = fun y => grad (xOf m c) (yOf m c) (y 0) (y 1) (y 2) := by
  refine (dats m 0 c).arrAt_eq_of_covers 2 _ (by decide +kernel) fun t _ y => ?_
  blk_simp
  rw [after0_2]
  obtain ⟨i, j, rfl⟩ : ∃ (i : Fin 2048) (j : Fin 1024), y = ix3 0 i j := ⟨y 1, y 2, by blk_ext⟩
  have e : ((View.whole main_v3).slice (win0_2.rect t)).emb (ix3 0 i j) = ix3 ⟨t.val, shard_lt t⟩ i j := by
    blk_ext [idx t]
  rw [e]
  frame_out
  refine (pay_at _ _ i j).trans ?_
  simp only [block0 m c t, block1 m c t]
  rfl

end Cert.ColgradIdeal.Value

namespace Cert.ColgradRefIdeal.Value

open Cert.ColgradRefIdeal Cert.ColgradRefIdeal.Gen

variable (x : FVec Ideal S1x2048x2048 .bf16) (y : FVec Ideal S1x2048x8192 .bf16)

/-- The gradient as the reference computes it: one product, transposed, its columns cut into the shards. -/
def result : FVec Ideal S8x2048x1024 .bf16 :=
  truncf .bf16 (transpose S8x2048x1024 [1, 0, 2] (shapeCast _ (transpose S2048x8192 [1, 0]
    (Host.dotGeneral dot_S1x2048x8192_S1x2048x2048_S8192x2048_01_01_2_2_n_n none (extf .f32 y bitsLt_bf16_f32) (extf .f32 x bitsLt_bf16_f32))
    transposes_S8192x2048_S2048x8192_1_0) shapeCasts_S2048x8192_S2048x8x1024) transposes_S2048x8x1024_S8x2048x1024_1_0_2) bitsLt_bf16_f32

theorem result_at (n : Fin 8) (i : Fin 2048) (j : Fin 1024) : result x y (ix3 n i j) = Cert.ColgradIdeal.Value.grad x y n i j := by
  unfold Cert.ColgradIdeal.Value.grad
  pointwise [result]
  rw [Fin.sum_univ_one]
  exact Finset.sum_congr rfl fun s _ => mul_comm _ _

theorem result_eq : result x y = fun q => Cert.ColgradIdeal.Value.grad x y (q 0) (q 1) (q 2) :=
  funext fun q => (congrArg (result x y) (eq_ix3 q)).trans (result_at x y (q 0) (q 1) (q 2))

end Cert.ColgradRefIdeal.Value

namespace Cert.ColgradClaims

theorem value : algebraic_ColgradIdeal_ColgradRefIdeal := by
  intro m g m' g' _ hagree
  refine ⟨_, (θ_run _ _ _).mono (fun r h c => h c) (Cert.ColgradIdeal.Value.run_blocks m g), ?_⟩
  refine (θ_run _ _ _).mono (fun r h c => ?_) (Cert.ColgradRefIdeal.Value.run m' g')
  obtain ⟨h0, h1⟩ := h c
  obtain ⟨a0, a1⟩ := hagree c
  refine ⟨h0.trans ?_, h1⟩
  rw [Cert.ColgradIdeal.Value.array]
  refine Eq.trans ?_ (Cert.ColgradRefIdeal.Value.result_eq (Cert.ColgradIdeal.Value.xOf m c) (Cert.ColgradIdeal.Value.yOf m c))
  rw [a0, a1]
  rfl

theorem frame_reference : quiescent_ColgradRefIdeal := fun m ρ _ =>
  (θ_run _ _ _).mono (fun r h => ⟨fun c => (h c).2, sem_eq_zero_of_no_sems (by decide) r.2⟩)
    (Cert.ColgradRefIdeal.Value.run m ρ)

end Cert.ColgradClaims

end
-- ==== Proof.Fullgrad.Claims.lean ====
/- The gradient of a square weight: tokens contracted, a block of rows at a time. -/
module

public import Idealize.ShloMosaic.Lib.Pipeline.ValueKit
public import Idealize.ShloMosaic.Lib.Pointwise
public import proofs.«01_k».proof.Defs
public import proofs.«01_k».proof.Proof.Gen.Fullgrad.Frame
public import proofs.«01_k».proof.Proof.Gen.FullgradIdeal.Value
public import proofs.«01_k».proof.Proof.Gen.FullgradRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.FullgradIdeal.Value

open Cert.FullgradIdeal Cert.FullgradIdeal.Gen

/-- The weight gradient: the left columns against the right columns, summed over the tokens. -/
def grad (x y : FVec Ideal S1x2048x2048 .bf16) : FVec Ideal S2048x2048 .bf16 :=
  fun q => ∑ s : Fin 2048, x (ix3 0 s (q 0)) * y (ix3 0 s (q 1))

theorem pay_at (x : FVec Ideal S2048x512 .bf16) (y : FVec Ideal S2048x2048 .bf16) (i : Fin 512) (j : Fin 2048) :
    k0_pay1 (F := Ideal) x y (ix2 i j) = ∑ s : Fin 2048, x (ix2 s i) * y (ix2 s j) := by
  pointwise [k0_pay1]

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The argument arrays, at their shapes. -/
abbrev xOf (c : Dev nD) : FVec Ideal S1x2048x2048 .bf16 := m ((c.tc : Thread nD τ).loc main_arg0)
abbrev yOf (c : Dev nD) : FVec Ideal S1x2048x2048 .bf16 := m ((c.tc : Thread nD τ).loc main_arg1)

theorem row_lt (t : Fin cfg0.N) (i : Fin 512) : t.val * 512 + i.val < 2048 := by
  have := t.isLt; have : cfg0.N = 4 := N_0; omega

section Blocks

variable (c : Dev nD) (t : Fin cfg0.N)

theorem block0 (s : Fin 2048) (i : Fin 512) : iblk m c 0 t (ix2 s i) = xOf m c (ix3 0 s ⟨t.val * 512 + i.val, row_lt t i⟩) := by
  blk_point [iblk, V, idx t]

theorem block1 (s j : Fin 2048) : iblk m c 1 t (ix2 s j) = yOf m c (ix3 0 s j) := by
  blk_point [iblk, V, idx t]

end Blocks

theorem array (c : Dev nD) : (dats m 0 c).arrAt 2 cfg0.N = grad (xOf m c) (yOf m c) := by
  refine (dats m 0 c).arrAt_eq_of_covers 2 _ (by decide +kernel) fun t _ y => ?_
  blk_simp
  rw [after0_2]
  obtain ⟨i, j, rfl⟩ : ∃ (i : Fin 512) (j : Fin 2048), y = ix2 i j := ⟨y 0, y 1, by blk_ext⟩
  have e : ((View.whole main_v2).slice (win0_2.rect t)).emb (ix2 i j) = ix2 ⟨t.val * 512 + i.val, row_lt t i⟩ j := by
    blk_ext [idx t]
  rw [e]
  frame_out
  refine (pay_at _ _ i j).trans ?_
  simp only [block0 m c t, block1 m c t]
  rfl

end Cert.FullgradIdeal.Value

namespace Cert.FullgradRefIdeal.Value

open Cert.FullgradRefIdeal Cert.FullgradRefIdeal.Gen

variable (x y : FVec Ideal S1x2048x2048 .bf16)

/-- The gradient as the reference computes it: the right columns first, then transposed. -/
def result : FVec Ideal S2048x2048 .bf16 :=
  truncf .bf16 (transpose S2048x2048 [1, 0] (Host.dotGeneral dot_S1x2048x2048_S1x2048x2048_S2048x2048_01_01_2_2_n_n none
    (extf .f32 y bitsLt_bf16_f32) (extf .f32 x bitsLt_bf16_f32)) transposes_S2048x2048_S2048x2048_1_0) bitsLt_bf16_f32

theorem result_at (i j : Fin 2048) : result x y (ix2 i j) = ∑ s : Fin 2048, x (ix3 0 s i) * y (ix3 0 s j) := by
  pointwise [result]
  rw [Fin.sum_univ_one]
  exact Finset.sum_congr rfl fun s _ => mul_comm _ _

theorem result_eq : result x y = Cert.FullgradIdeal.Value.grad x y :=
  funext fun q => (congrArg (result x y) (eq_ix2 q)).trans (result_at x y (q 0) (q 1))

end Cert.FullgradRefIdeal.Value

namespace Cert.FullgradClaims

theorem value : algebraic_FullgradIdeal_FullgradRefIdeal := by
  intro m g m' g' _ hagree
  refine ⟨_, (θ_run _ _ _).mono (fun r h c => h c) (Cert.FullgradIdeal.Value.run_blocks m g), ?_⟩
  refine (θ_run _ _ _).mono (fun r h c => ?_) (Cert.FullgradRefIdeal.Value.run m' g')
  obtain ⟨h0, h1⟩ := h c
  obtain ⟨a0, a1⟩ := hagree c
  refine ⟨h0.trans ?_, h1⟩
  rw [Cert.FullgradIdeal.Value.array]
  refine Eq.trans ?_ (Cert.FullgradRefIdeal.Value.result_eq (Cert.FullgradIdeal.Value.xOf m c) (Cert.FullgradIdeal.Value.yOf m c))
  rw [a0, a1]
  rfl

theorem frame_reference : quiescent_FullgradRefIdeal := fun m ρ _ =>
  (θ_run _ _ _).mono (fun r h => ⟨fun c => (h c).2, sem_eq_zero_of_no_sems (by decide) r.2⟩)
    (Cert.FullgradRefIdeal.Value.run m ρ)

end Cert.FullgradClaims

end
-- ==== Proof.Poolgrad.Claims.lean ====
/- The gradient of the grouped weight: four chunks of tokens added up in a scratch block, one group at a time. -/
module

public import Idealize.ShloMosaic.Lib.Pipeline.ValueKit
public import Idealize.ShloMosaic.Lib.Pipeline.ReadBack
public import Idealize.ShloMosaic.Lib.Pointwise
public import proofs.«01_k».proof.Defs
public import proofs.«01_k».proof.Proof.Gen.Poolgrad.Frame
public import proofs.«01_k».proof.Proof.Gen.PoolgradIdeal.Value
public import proofs.«01_k».proof.Proof.Gen.PoolgradRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.PoolgradIdeal.Value

open Cert.PoolgradIdeal Cert.PoolgradIdeal.Gen

/-- The gradient of group `g`'s weight, the tokens summed over. -/
def grad (x : FVec Ideal S1x2048x1024 .bf16) (y : FVec Ideal S1x2048x2048 .bf16) (g : Fin 4) (i : Fin 256) (j : Fin 512) : EReal :=
  ∑ s : Fin 2048, x (ix3 0 s ⟨g.val * 256 + i.val, by omega⟩) * y (ix3 0 s ⟨g.val * 512 + j.val, by omega⟩)

section Payload

variable (x : FVec Ideal S512x256 .bf16) (y : FVec Ideal S512x512 .bf16) (acc : FVec Ideal S256x512 .f32) (i : Fin 256) (j : Fin 512)

theorem pay1_at : k0_pay1 (F := Ideal) (ix2 i j) = 0 := by
  pointwise [k0_pay1]

theorem pay2_at : k0_pay2 (F := Ideal) acc x y (ix2 i j) = acc (ix2 i j) + ∑ s : Fin 512, x (ix2 s i) * y (ix2 s j) := by
  pointwise [k0_pay2]

theorem pay3_at : k0_pay3 (F := Ideal) acc (ix3 0 i j) = acc (ix2 i j) := by
  pointwise [k0_pay3]

end Payload

variable (m : (ℓ : Loc nD τ sig) → Buf (Elt Ideal) ℓ)

theorem idx : ∀ t : Fin cfg0.N, win0_0.index t = ![t.val % 4, t.val / 4] ∧ win0_1.index t = ![t.val % 4, t.val / 4]
    ∧ win0_2.index t = ![t.val / 4, 0, 0] :=
  (by decide +kernel : ∀ t : Fin grid0.N, _)

/-- The argument arrays, at their shapes. -/
abbrev xOf (c : Dev nD) : FVec Ideal S1x2048x1024 .bf16 := m ((c.tc : Thread nD τ).loc main_arg0)
abbrev yOf (c : Dev nD) : FVec Ideal S1x2048x2048 .bf16 := m ((c.tc : Thread nD τ).loc main_arg1)

theorem group_lt (t : Fin cfg0.N) : t.val / 4 < 4 := by
  have := t.isLt; have : cfg0.N = 16 := N_0; omega

section Blocks

variable (c : Dev nD) (t : Fin cfg0.N)

theorem block0 (s : Fin 512) (i : Fin 256) : iblk m c 0 t (ix2 s i)
    = xOf m c (ix3 0 ⟨t.val % 4 * 512 + s.val, by omega⟩ ⟨t.val / 4 * 256 + i.val, by have := group_lt t; omega⟩) := by
  blk_point [iblk, V, idx t]

theorem block1 (s j : Fin 512) : iblk m c 1 t (ix2 s j)
    = yOf m c (ix3 0 ⟨t.val % 4 * 512 + s.val, by omega⟩ ⟨t.val / 4 * 512 + j.val, by have := group_lt t; omega⟩) := by
  blk_point [iblk, V, idx t]

/-- What one point adds: its chunk of the tokens. -/
def chunk (y : S256x512.Idx) : EReal :=
  ∑ s : Fin 512, xOf m c (ix3 0 ⟨t.val % 4 * 512 + s.val, by omega⟩ ⟨t.val / 4 * 256 + (y 0).val, by have := group_lt t; have : (y 0).val < 256 := (y 0).isLt; omega⟩)
    * yOf m c (ix3 0 ⟨t.val % 4 * 512 + s.val, by omega⟩ ⟨t.val / 4 * 512 + (y 1).val, by have := group_lt t; have : (y 1).val < 512 := (y 1).isLt; omega⟩)

theorem step_at (acc : FVec Ideal S256x512 .f32) (i : Fin 256) (j : Fin 512) :
    k0_pay2 (F := Ideal) acc (iblk m c 0 t) (iblk m c 1 t) (ix2 i j) = acc (ix2 i j) + chunk m c t (ix2 i j) := by
  refine (pay2_at _ _ _ i j).trans ?_
  simp only [block0 m c t, block1 m c t]
  rfl

theorem scratch_first (h : t.val % 4 = 0) (y : S256x512.Idx) : (outsAt0 m c t.val t.isLt).2 y = 0 + chunk m c t y := by
  obtain ⟨i, j, rfl⟩ : ∃ (i : Fin 256) (j : Fin 512), y = ix2 i j := ⟨y 0, y 1, eq_ix2 y⟩
  rw [outsAt0_A m c t h (by omega)]
  frame_out
  exact (step_at m c t _ i j).trans (congrArg (· + _) (pay1_at i j))

theorem scratch_later (h : ¬ t.val % 4 = 0) (y : S256x512.Idx) : (outsAt0 m c t.val t.isLt).2 y
    = (outsAt0 m c (t.val - 1) (Nat.lt_of_le_of_lt (Nat.sub_le _ _) t.isLt)).2 y + chunk m c t y := by
  obtain ⟨i, j, rfl⟩ : ∃ (i : Fin 256) (j : Fin 512), y = ix2 i j := ⟨y 0, y 1, eq_ix2 y⟩
  by_cases h3 : t.val % 4 = 3
  · rw [outsAt0_C m c t h h3]
    frame_out
    simp only [read_unread_whole]
    exact step_at m c t _ i j
  · rw [outsAt0_B m c t h h3]
    frame_out
    simp only [read_unread_whole]
    exact step_at m c t _ i j

/-- The last point of a group writes the scratch block out. -/
theorem written_at (h : t.val % 4 = 3) (i : Fin 256) (j : Fin 512) :
    (outsAt0 m c t.val t.isLt).1 (ix3 0 i j) = (outsAt0 m c t.val t.isLt).2 (ix2 i j) := by
  rw [outsAt0_C m c t (by omega) h]
  frame_out
  exact pay3_at _ i j

end Blocks

theorem array (c : Dev nD) : (dats m 0 c).arrAt 2 cfg0.N = fun y => grad (xOf m c) (yOf m c) (y 0) (y 1) (y 2) := by
  refine (dats m 0 c).arrAt_eq_of_covers 2 _ (by decide +kernel) fun t hf y => ?_
  have hr : t.val % 4 = 3 := (flush0_2 t).mp hf
  blk_simp
  rw [after0_2]
  obtain ⟨i, j, rfl⟩ : ∃ (i : Fin 256) (j : Fin 512), y = ix3 0 i j := ⟨y 1, y 2, by blk_ext⟩
  have e : ((View.whole main_v2).slice (win0_2.rect t)).emb (ix3 0 i j) = ix3 ⟨t.val / 4, group_lt t⟩ i j := by
    blk_ext [idx t]
  rw [e]
  refine (written_at m c t hr i j).trans ?_
  rw [Pipeline.eq_sum_fin_of_reset_step_apply_of_flush (fun n h => (outsAt0 m c n h).2) 4 (fun _ => 0) (chunk m c)
    (scratch_first m c) (scratch_later m c) t hr (ix2 i j), zero_add]
  refine Fin.sum_mul_add_congr (S := 4) (n := 512) fun a s hl => ?_
  refine congrArg₂ (· * ·) (congrArg _ ?_) (congrArg _ ?_) <;> blk_ext

end Cert.PoolgradIdeal.Value

namespace Cert.PoolgradRefIdeal.Value

open Cert.PoolgradRefIdeal Cert.PoolgradRefIdeal.Gen

variable (x : FVec Ideal S1x2048x1024 .bf16) (y : FVec Ideal S1x2048x2048 .bf16)

/-- The gradient as the reference computes it: one product over all groups, transposed. -/
def result : FVec Ideal S4x256x512 .bf16 :=
  truncf .bf16 (transpose S4x256x512 [0, 2, 1] (Host.dotGeneral dot_S4x512x1x2048_S1x2048x4x256_S4x512x256_23_01_1_3_0_2 none
    (transpose S4x512x1x2048 [2, 3, 0, 1] (shapeCast _ (extf .f32 y bitsLt_bf16_f32) shapeCasts_S1x2048x2048_S1x2048x4x512)
      transposes_S1x2048x4x512_S4x512x1x2048_2_3_0_1)
    (shapeCast _ (extf .f32 x bitsLt_bf16_f32) shapeCasts_S1x2048x1024_S1x2048x4x256)) transposes_S4x512x256_S4x256x512_0_2_1) bitsLt_bf16_f32

theorem result_at (g : Fin 4) (i : Fin 256) (j : Fin 512) : result x y (ix3 g i j) = Cert.PoolgradIdeal.Value.grad x y g i j := by
  unfold Cert.PoolgradIdeal.Value.grad
  pointwise [result]
  rw [Fin.sum_univ_one]
  exact Finset.sum_congr rfl fun s _ => mul_comm _ _

theorem result_eq : result x y = fun q => Cert.PoolgradIdeal.Value.grad x y (q 0) (q 1) (q 2) :=
  funext fun q => (congrArg (result x y) (eq_ix3 q)).trans (result_at x y (q 0) (q 1) (q 2))

end Cert.PoolgradRefIdeal.Value

namespace Cert.PoolgradClaims

theorem value : algebraic_PoolgradIdeal_PoolgradRefIdeal := by
  intro m g m' g' _ hagree
  refine ⟨_, (θ_run _ _ _).mono (fun r h c => h c) (Cert.PoolgradIdeal.Value.run_blocks m g), ?_⟩
  refine (θ_run _ _ _).mono (fun r h c => ?_) (Cert.PoolgradRefIdeal.Value.run m' g')
  obtain ⟨h0, h1⟩ := h c
  obtain ⟨a0, a1⟩ := hagree c
  refine ⟨h0.trans ?_, h1⟩
  rw [Cert.PoolgradIdeal.Value.array]
  refine Eq.trans ?_ (Cert.PoolgradRefIdeal.Value.result_eq (Cert.PoolgradIdeal.Value.xOf m c) (Cert.PoolgradIdeal.Value.yOf m c))
  rw [a0, a1]
  rfl

theorem frame_reference : quiescent_PoolgradRefIdeal := fun m ρ _ =>
  (θ_run _ _ _).mono (fun r h => ⟨fun c => (h c).2, sem_eq_zero_of_no_sems (by decide) r.2⟩)
    (Cert.PoolgradRefIdeal.Value.run m ρ)

end Cert.PoolgradClaims

end
-- ==== Proof.Entry.Claims.lean ====
/- The product into the entry gradient: two weights at once, one shard of the contraction at a time, added up in a scratch block. -/
module

public import Idealize.ShloMosaic.Lib.Pipeline.ValueKit
public import Idealize.ShloMosaic.Lib.Pointwise
public import proofs.«01_k».proof.Defs
public import proofs.«01_k».proof.Proof.Gen.Entry.Frame
public import proofs.«01_k».proof.Proof.Gen.EntryIdeal.Value
public import proofs.«01_k».proof.Proof.Gen.EntryRefIdeal.Run
public import proofs.«01_k».proof.Proof.Halves

@[expose] public section

set_option maxRecDepth 16384

noncomputable section

open Idealize.ShloMosaic Idealize.ShloMosaic.TcCoe Idealize.ShloMosaic.Tactic Idealize.SL.Sem
open Idealize.ShloMosaic.Pipeline (Dat)

namespace Cert.EntryIdeal.Value

open Cert.EntryIdeal Cert.EntryIdeal.Gen Cert.Shared

section Payload

variable (a b : FVec Ideal S1x1024x704 .bf16) (v w : FVec Ideal S1x1024x704 .bf16) (acc : FVec Ideal S1024x1024 .f32) (i j : Fin 1024)

theorem pay4_at : k0_pay4 (F := Ideal) a v b w acc (ix2 i j)
    = acc (ix2 i j) + (∑ k : Fin 704, a (ix3 0 i k) * v (ix3 0 j k) + ∑ k : Fin 704, b (ix3 0 i k) * w (ix3 0 j k)) := by
  pointwise [k0_pay4]

theorem pay1_at : k0_pay1 (F := Ideal) (k0_pay5 a v) (k0_pay6 b) w acc (ix2 i j)
    = acc (ix2 i j) + (∑ k : Fin 704, a (ix3 0 i k) * v (ix3 0 j k) + ∑ k : Fin 704, b (ix3 0 i k) * w (ix3 0 j k)) := by
  pointwise [k0_pay1, k0_pay5, k0_pay6]

theorem pay2_at (acc : FVec Ideal S2048x1024 .f32) (i : Fin 2048) (j : Fin 1024) : k0_pay2 (F := Ideal) acc (ix2 i j) = acc (ix2 i j) := by
  pointwise [k0_pay2]

end Payload

/-- What one point adds: its shard's share of the two contractions. -/
def share (x : FVec Ideal S1x2048x704 .bf16) (v : FVec Ideal S1x1024x704 .bf16) (y : FVec Ideal S1x2048x704 .bf16) (w : FVec Ideal S1x1024x704 .bf16)
    (q : S2048x1024.Idx) : EReal :=
  ∑ k : Fin 704, x (ix3 0 (q 0) k) * v (ix3 0 (q 1) k) + ∑ k : Fin 704, y (ix3 0 (q 0) k) * w (ix3 0 (q 1) k)

/-- The two halves of the tokens, each added to what the scratch block held. -/
theorem halves_at (x : FVec Ideal S1x2048x704 .bf16) (v : FVec Ideal S1x1024x704 .bf16) (y : FVec Ideal S1x2048x704 .bf16)
    (w : FVec Ideal S1x1024x704 .bf16) (acc : FVec Ideal S2048x1024 .f32) (i : Fin 2048) (j : Fin 1024) :
    View.canon (Val := Elt Ideal) (e := .f32) [⟨Rect.unit ![1024, 0] ![1024, 1024] inb_S2048x1024_S1024x1024_1024_0,
        k0_pay1 (F := Ideal) (k0_pay5 (View.ld (Val := Elt Ideal) (e' := .bf16) x (Rect.unit ![0, 1024, 0] ![1, 1024, 704] inb_S1x2048x704_S1x1024x704_0_1024_0)) v)
          (k0_pay6 (View.ld (Val := Elt Ideal) (e' := .bf16) y (Rect.unit ![0, 1024, 0] ![1, 1024, 704] inb_S1x2048x704_S1x1024x704_0_1024_0))) w
          (View.ld (Val := Elt Ideal) (e' := .f32) acc (Rect.unit ![1024, 0] ![1024, 1024] inb_S2048x1024_S1024x1024_1024_0))⟩,
      ⟨Rect.unit ![0, 0] ![1024, 1024] inb_S2048x1024_S1024x1024_0_0,
        k0_pay4 (F := Ideal) (View.ld (Val := Elt Ideal) (e' := .bf16) x (Rect.unit ![0, 0, 0] ![1, 1024, 704] inb_S1x2048x704_S1x1024x704_0_0_0)) v
          (View.ld (Val := Elt Ideal) (e' := .bf16) y (Rect.unit ![0, 0, 0] ![1, 1024, 704] inb_S1x2048x704_S1x1024x704_0_0_0)) w
          (View.ld (Val := Elt Ideal) (e' := .f32) acc (Rect.unit ![0, 0] ![1024, 1024] inb_S2048x1024_S1024x1024_0_0))⟩] (ix2 i j)
      = acc (ix2 i j) + share x v y w (ix2 i j) := by
  canon_tiles q h
  all_goals
    obtain ⟨a, b, rfl⟩ : ∃ (a b : Fin 1024), q = ix2 a b := ⟨q 0, q 1, by blk_ext⟩
    obtain rfl : j = b := Fin.ext h1
  · have hi : i.val = 1024 + a.val := h0
    refine (pay1_at _ _ _ _ _ a j).trans (congrArg₂ (· + ·) (congrArg acc ?_) (congrArg₂ (· + ·)
      (Finset.sum_congr rfl fun k _ => congrArg (· * _) (congrArg x ?_))
      (Finset.sum_congr rfl fun k _ => congrArg (· * _) (congrArg y ?_))))
    all_goals blk_ext [hi, Rect.idx_unit_val]
  · have hi : i.val = a.val := h0
    refine (pay4_at _ _ _ _ _ a j).trans (congrArg₂ (· + ·) (congrArg acc ?_) (congrArg₂ (· + ·)
      (Finset.sum_congr rfl fun k _ => congrArg (· * _) (congrArg x ?_))
      (Finset.sum_congr rfl fun k _ => congrArg (· * _) (congrArg y ?_))))
    all_goals blk_ext [hi, Rect.idx_unit_val]

variable (m : (ℓ : Loc nD τ sig) → Buf (Elt Ideal) ℓ)

section Scratch

variable (c : Dev nD) (t : Fin cfg0.N)

/-- The share of a grid point, of its blocks. -/
abbrev shareOf : S2048x1024.Idx → EReal := share (iblk m c 0 t) (iblk m c 1 t) (iblk m c 2 t) (iblk m c 3 t)

theorem scratch_first (h : t.val % 8 = 0) (q : S2048x1024.Idx) : (outsAt0 (F := Ideal) m c t.val t.isLt).2 q = 0 + shareOf m c t q := by
  obtain ⟨i, j, rfl⟩ : ∃ (i : Fin 2048) (j : Fin 1024), q = ix2 i j := ⟨q 0, q 1, eq_ix2 q⟩
  rw [outsAt0_A m c t h (by omega)]
  frame_out
  simp (disch := decide) only [View.readCov_skip, View.readCov_fill]
  refine (canon_of_cover _ _ _ _ ?_).trans ((halves_at (iblk m c 0 t) (iblk m c 1 t) (iblk m c 2 t) (iblk m c 3 t) k0_pay3 i j).trans
    (congrArg (· + _) (by pointwise [k0_pay3])))
  simp only [Rect.mem_set_unit]
  rcases lt_or_ge i.val 1024 with hi | hi
  · exact Or.inr fun a => match a with
      | ⟨0, _⟩ => ⟨Nat.zero_le _, hi⟩
      | ⟨1, _⟩ => ⟨Nat.zero_le _, j.isLt⟩
  · exact Or.inl fun a => match a with
      | ⟨0, _⟩ => ⟨hi, i.isLt⟩
      | ⟨1, _⟩ => ⟨Nat.zero_le _, j.isLt⟩

theorem scratch_later (h : ¬ t.val % 8 = 0) (q : S2048x1024.Idx) : (outsAt0 (F := Ideal) m c t.val t.isLt).2 q
    = (outsAt0 m c (t.val - 1) (Nat.lt_of_le_of_lt (Nat.sub_le _ _) t.isLt)).2 q + shareOf m c t q := by
  obtain ⟨i, j, rfl⟩ : ∃ (i : Fin 2048) (j : Fin 1024), q = ix2 i j := ⟨q 0, q 1, eq_ix2 q⟩
  by_cases h7 : t.val % 8 = 7
  · rw [outsAt0_C m c t h h7]
    frame_out
    simp only [read_unread_whole]
    exact halves_at (iblk m c 0 t) (iblk m c 1 t) (iblk m c 2 t) (iblk m c 3 t) _ i j
  · rw [outsAt0_B m c t h h7]
    frame_out
    simp only [read_unread_whole]
    exact halves_at (iblk m c 0 t) (iblk m c 1 t) (iblk m c 2 t) (iblk m c 3 t) _ i j

/-- The last point of a half of the columns writes the scratch block out. -/
theorem written_at (h : t.val % 8 = 7) (i : Fin 2048) (j : Fin 1024) :
    (outsAt0 (F := Ideal) m c t.val t.isLt).1 (ix2 i j) = (outsAt0 (F := Ideal) m c t.val t.isLt).2 (ix2 i j) := by
  rw [outsAt0_C m c t (by omega) h]
  frame_out
  simp only [View.readCov_eq_canon']
  simp only [read_unread_whole]
  refine (pay2_at _ i j).trans ?_
  exact congrArg (View.canon _) (by blk_ext [Rect.idx_unit_val])

end Scratch

theorem idx : ∀ t : Fin cfg0.N, win0_0.index t = ![t.val % 8, 0, 0] ∧ win0_1.index t = ![t.val % 8, t.val / 8, 0]
    ∧ win0_2.index t = ![t.val % 8, 0, 0] ∧ win0_3.index t = ![t.val % 8, t.val / 8, 0] ∧ win0_4.index t = ![0, t.val / 8] :=
  (by decide +kernel : ∀ t : Fin grid0.N, _)

/-- The argument arrays, at their shapes: the two gradients, and the two weights. -/
abbrev xOf (c : Dev nD) : FVec Ideal S1x2048x5632 .bf16 := m ((c.tc : Thread nD τ).loc main_arg0)
abbrev yOf (c : Dev nD) : FVec Ideal S1x2048x5632 .bf16 := m ((c.tc : Thread nD τ).loc main_arg1)
abbrev vOf (c : Dev nD) : FVec Ideal S1x2048x5632 .f32 := m ((c.tc : Thread nD τ).loc main_arg2)
abbrev wOf (c : Dev nD) : FVec Ideal S1x2048x5632 .f32 := m ((c.tc : Thread nD τ).loc main_arg3)

/-- A gradient, cut into eight shards of its columns. -/
def cut (x : FVec Ideal S1x2048x5632 .bf16) : FVec Ideal S8x2048x704 .bf16 :=
  transpose S8x2048x704 [1, 0, 2] (shapeCast S2048x8x704 (shapeCast S2048x5632 x shapeCasts_S1x2048x5632_S2048x5632)
    shapeCasts_S2048x5632_S2048x8x704) transposes_S2048x8x704_S8x2048x704_1_0_2

theorem cut_at (x : FVec Ideal S1x2048x5632 .bf16) (n : Fin 8) (i : Fin 2048) (k : Fin 704) :
    cut x (ix3 n i k) = x (ix3 0 i ⟨n.val * 704 + k.val, by omega⟩) := by
  pointwise [cut]

/-- A weight, cut the same way. -/
def cutWeight (w : FVec Ideal S1x2048x5632 .f32) : FVec Ideal S8x2048x704 .bf16 :=
  transpose S8x2048x704 [1, 0, 2] (shapeCast S2048x8x704 (truncf (F := Ideal) .bf16 (shapeCast S2048x5632 w shapeCasts_S1x2048x5632_S2048x5632)
    bitsLt_bf16_f32) shapeCasts_S2048x5632_S2048x8x704) transposes_S2048x8x704_S8x2048x704_1_0_2

theorem cutWeight_at (w : FVec Ideal S1x2048x5632 .f32) (n : Fin 8) (j : Fin 2048) (k : Fin 704) :
    cutWeight w (ix3 n j k) = w (ix3 0 j ⟨n.val * 704 + k.val, by omega⟩) := by
  pointwise [cutWeight]

theorem V_host (c : Dev nD) : V m c main_v2 = cut (xOf m c) ∧ V m c main_v6 = cutWeight (vOf m c) ∧ V m c main_v9 = cut (yOf m c)
    ∧ V m c main_v13 = cutWeight (wOf m c) := by
  refine ⟨?_, ?_, ?_, ?_⟩
  all_goals
    unfold V
    after_results
    rfl

/-- Shard `n`'s share of one contraction. -/
def part (x : FVec Ideal S1x2048x5632 .bf16) (w : FVec Ideal S1x2048x5632 .f32) (i j : Fin 2048) (n : Fin 8) : EReal :=
  ∑ k : Fin 704, x (ix3 0 i ⟨n.val * 704 + k.val, by omega⟩) * w (ix3 0 j ⟨n.val * 704 + k.val, by omega⟩)

theorem column_lt (t : Fin cfg0.N) (j : Fin 1024) : t.val / 8 * 1024 + j.val < 2048 := by
  have := t.isLt; have : cfg0.N = 16 := N_0; omega

section Blocks

variable (c : Dev nD) (t : Fin cfg0.N)

/-- The shard of a grid point. -/
abbrev shard : Fin 8 := ⟨t.val % 8, Nat.mod_lt _ (by decide)⟩

theorem block0 (i : Fin 2048) (k : Fin 704) : iblk m c 0 t (ix3 0 i k) = xOf m c (ix3 0 i ⟨t.val % 8 * 704 + k.val, by omega⟩) :=
  (show _ = V m c main_v2 (ix3 (shard t) i k) by blk_point [iblk, idx t]).trans
    ((congrFun (V_host m c).1 _).trans (cut_at _ _ _ _))

theorem block1 (j : Fin 1024) (k : Fin 704) : iblk m c 1 t (ix3 0 j k)
    = vOf m c (ix3 0 ⟨t.val / 8 * 1024 + j.val, column_lt t j⟩ ⟨t.val % 8 * 704 + k.val, by omega⟩) :=
  (show _ = V m c main_v6 (ix3 (shard t) ⟨_, column_lt t j⟩ k) by blk_point [iblk, idx t]).trans
    ((congrFun (V_host m c).2.1 _).trans (cutWeight_at _ _ _ _))

theorem block2 (i : Fin 2048) (k : Fin 704) : iblk m c 2 t (ix3 0 i k) = yOf m c (ix3 0 i ⟨t.val % 8 * 704 + k.val, by omega⟩) :=
  (show _ = V m c main_v9 (ix3 (shard t) i k) by blk_point [iblk, idx t]).trans
    ((congrFun (V_host m c).2.2.1 _).trans (cut_at _ _ _ _))

theorem block3 (j : Fin 1024) (k : Fin 704) : iblk m c 3 t (ix3 0 j k)
    = wOf m c (ix3 0 ⟨t.val / 8 * 1024 + j.val, column_lt t j⟩ ⟨t.val % 8 * 704 + k.val, by omega⟩) :=
  (show _ = V m c main_v13 (ix3 (shard t) ⟨_, column_lt t j⟩ k) by blk_point [iblk, idx t]).trans
    ((congrFun (V_host m c).2.2.2 _).trans (cutWeight_at _ _ _ _))

theorem shareOf_eq (i : Fin 2048) (j : Fin 1024) : shareOf m c t (ix2 i j)
    = part (xOf m c) (vOf m c) i ⟨t.val / 8 * 1024 + j.val, column_lt t j⟩ (shard t)
      + part (yOf m c) (wOf m c) i ⟨t.val / 8 * 1024 + j.val, column_lt t j⟩ (shard t) :=
  congrArg₂ (· + ·)
    (Finset.sum_congr rfl fun k _ => congrArg₂ (· * ·) (block0 m c t i k) (block1 m c t j k))
    (Finset.sum_congr rfl fun k _ => congrArg₂ (· * ·) (block2 m c t i k) (block3 m c t j k))

end Blocks

theorem array (c : Dev nD) : (dats m 0 c).arrAt 4 cfg0.N
    = fun y => ∑ n : Fin 8, (part (xOf m c) (vOf m c) (y 0) (y 1) n + part (yOf m c) (wOf m c) (y 0) (y 1) n) := by
  refine (dats m 0 c).arrAt_eq_of_covers 4 _ (by decide +kernel) fun t hf y => ?_
  have hr : t.val % 8 = 7 := (flush0_4 t).mp hf
  blk_simp
  rw [after0_4]
  obtain ⟨i, j, rfl⟩ : ∃ (i : Fin 2048) (j : Fin 1024), y = ix2 i j := ⟨y 0, y 1, by blk_ext⟩
  have e : ((View.whole main_v14).slice (win0_4.rect t)).emb (ix2 i j) = ix2 i ⟨t.val / 8 * 1024 + j.val, column_lt t j⟩ := by
    blk_ext [idx t]
  rw [e]
  refine (written_at m c t hr i j).trans ?_
  rw [Pipeline.eq_sum_fin_of_reset_step_apply_of_flush (fun n h => (outsAt0 m c n h).2) 8 (fun _ => 0) (shareOf m c)
    (scratch_first m c) (scratch_later m c) t hr (ix2 i j), zero_add]
  refine Finset.sum_congr rfl fun n _ => (shareOf_eq m c _ i j).trans ?_
  refine congrArg₂ (· + ·) ?_ ?_
  all_goals
    refine Finset.sum_congr rfl fun k _ => congrArg₂ (· * ·) (congrArg _ ?_) (congrArg _ ?_) <;> blk_ext

end Cert.EntryIdeal.Value

namespace Cert.EntryRefIdeal.Value

open Cert.EntryRefIdeal Cert.EntryRefIdeal.Gen

variable (x y : FVec Ideal S1x2048x5632 .bf16) (v w : FVec Ideal S1x2048x5632 .f32)

/-- The gradient as the reference computes it: the two products, added. -/
def result : FVec Ideal S2048x2048 .bf16 :=
  truncf .bf16 (shapeCast _ (addf (Host.dotGeneral dot_S1x2048x5632_S2048x5632_S1x2048x2048_2_1_01_0_n_n none (extf .f32 y bitsLt_bf16_f32)
      (shapeCast _ w shapeCasts_S1x2048x5632_S2048x5632))
    (Host.dotGeneral dot_S1x2048x5632_S2048x5632_S1x2048x2048_2_1_01_0_n_n none (extf .f32 x bitsLt_bf16_f32)
      (shapeCast _ v shapeCasts_S1x2048x5632_S2048x5632))) shapeCasts_S1x2048x2048_S2048x2048) bitsLt_bf16_f32

theorem result_at (i j : Fin 2048) : result x y v w (ix2 i j)
    = ∑ k : Fin 5632, y (ix3 0 i k) * w (ix3 0 j k) + ∑ k : Fin 5632, x (ix3 0 i k) * v (ix3 0 j k) := by
  pointwise [result]

theorem result_eq : result x y v w
    = fun q => ∑ n : Fin 8, (Cert.EntryIdeal.Value.part x v (q 0) (q 1) n + Cert.EntryIdeal.Value.part y w (q 0) (q 1) n) :=
  funext fun q => (congrArg (result x y v w) (eq_ix2 q)).trans ((result_at x y v w (q 0) (q 1)).trans ((add_comm _ _).trans
    ((congrArg₂ (· + ·) (Fin.sum_mul_add_fin 8 704 _).symm (Fin.sum_mul_add_fin 8 704 _).symm).trans Finset.sum_add_distrib.symm)))

end Cert.EntryRefIdeal.Value

namespace Cert.EntryClaims

theorem value : algebraic_EntryIdeal_EntryRefIdeal := by
  intro m g m' g' _ hagree
  refine ⟨_, (θ_run _ _ _).mono (fun r h c => h c) (Cert.EntryIdeal.Value.run_blocks m g), ?_⟩
  refine (θ_run _ _ _).mono (fun r h c => ?_) (Cert.EntryRefIdeal.Value.run m' g')
  obtain ⟨h0, h1⟩ := h c
  obtain ⟨a0, a1, a2, a3⟩ := hagree c
  refine ⟨h0.trans ?_, h1⟩
  rw [Cert.EntryIdeal.Value.array]
  refine Eq.trans ?_ (Cert.EntryRefIdeal.Value.result_eq (Cert.EntryIdeal.Value.xOf m c) (Cert.EntryIdeal.Value.yOf m c) (Cert.EntryIdeal.Value.vOf m c) (Cert.EntryIdeal.Value.wOf m c))
  rw [a0, a1, a2, a3]
  rfl

theorem frame_reference : quiescent_EntryRefIdeal := fun m ρ _ =>
  (θ_run _ _ _).mono (fun r h => ⟨fun c => (h c).2, sem_eq_zero_of_no_sems (by decide) r.2⟩)
    (Cert.EntryRefIdeal.Value.run m ρ)

end Cert.EntryClaims

end
-- ==== Proof.Slab.lean ====
/- One matrix picked from a stack of matrices: what the reference's indexed read holds at an entry; and the small words that pick. -/
module

public import Idealize.ShloMosaic.Lib.Pipeline.ValueKit
public import Idealize.ShloMosaic.Lib.ValueIdxCore

@[expose] public section

noncomputable section

open Idealize.ShloMosaic

namespace Cert.Shared

/-- Picking one of `N` matrices of `R` rows and `C` columns by an index. -/
abbrev slabDims (N R C : Nat) (wf : GatherDims.WF ⟨3, ![N, R, C]⟩ ⟨1, ![1]⟩ ⟨2, ![R, C]⟩ [0, 1] [0] [] [0] [] 0 ![1, R, C]) :
    GatherDims ⟨3, ![N, R, C]⟩ ⟨1, ![1]⟩ ⟨2, ![R, C]⟩ where
  offsetDims := [0, 1]
  collapsedSliceDims := [0]
  operandBatchingDims := []
  startIndicesBatchingDims := []
  startIndexMap := [0]
  indexVectorDim := 0
  sliceSizes := ![1, R, C]
  wf := wf

/-- An index in range picks that matrix. -/
theorem slab_apply {α : Type} {N R C : Nat}
    (wf : GatherDims.WF ⟨3, ![N, R, C]⟩ ⟨1, ![1]⟩ ⟨2, ![R, C]⟩ [0, 1] [0] [] [0] [] 0 ![1, R, C])
    (x : (⟨3, ![N, R, C]⟩ : Shape).Idx → α) (k : IVec ⟨1, ![1]⟩ 32) (n : Fin N) (hk : (k (ix1 0)).toInt.toNat = n.val) (i : Fin R) (j : Fin C) :
    Host.gather (slabDims N R C wf) x k (ix2 i j) = x (ix3 n i j) := by
  have first : (slabDims N R C wf).start (ix2 i j) k (0 : Fin 3) = n.val := by
    unfold GatherDims.start
    rw [dif_pos (show (0 : Fin 3) ∈ (slabDims N R C wf).startIndexMap from List.mem_singleton.mpr rfl)]
    have e : (slabDims N R C wf).siIdx (ix2 i j) ⟨List.idxOf (0 : Fin 3) (slabDims N R C wf).startIndexMap,
        List.idxOf_lt_length_iff.2 (List.mem_singleton.mpr rfl)⟩ = ix1 0 := by
      funext b
      obtain rfl : b = 0 := Subsingleton.elim _ _
      exact Subsingleton.elim (α := Fin 1) _ _
    have h := n.isLt
    rw [e, hk]
    show min n.val (N - 1) = n.val
    omega
  unfold Host.gather
  refine congrArg x (funext fun a => Fin.ext ?_)
  show (slabDims N R C wf).start (ix2 i j) k a + (slabDims N R C wf).batchCoord (ix2 i j) a + (slabDims N R C wf).offCoord (ix2 i j) a = _
  rw [GatherDims.batchCoord_eq_zero _ _ _ List.not_mem_nil]
  match a with
  | ⟨0, _⟩ =>
    rw [GatherDims.offCoord_eq_zero _ _ _ fun h => ((GatherDims.mem_sKept _ _).mp h).1 (List.mem_singleton.mpr rfl)]
    exact first
  | ⟨1, _⟩ => exact (Nat.zero_add _).trans rfl
  | ⟨2, _⟩ => exact (Nat.zero_add _).trans rfl

/-- A word that is at least zero and below a small bound, compared with sign, is below it as a natural number. -/
theorem below (v n : BitVec 32) (hn : n.toNat < 16)
    (e : IntOp.andi (IntOp.cmpi .sge v 0#32) (IntOp.cmpi .slt v n) = 1#1) : v.toNat < n.toNat := by
  have hs : BitVec.sle 0#32 v = true ∧ BitVec.slt v n = true := by
    revert e
    show IntOp.andi (BitVec.ofBool (BitVec.sle 0#32 v)) (BitVec.ofBool (BitVec.slt v n)) = 1#1 → _
    cases BitVec.sle 0#32 v <;> cases BitVec.slt v n <;> decide
  have a := BitVec.sle_iff_toInt_le.mp hs.1
  have b := BitVec.slt_iff_toInt_lt.mp hs.2
  rw [BitVec.toInt_eq_toNat_cond, BitVec.toInt_eq_toNat_cond] at a b
  have z : (0#32).toNat = 0 := rfl
  split at a <;> split at b <;> omega

/-- A small word read with sign is itself. -/
theorem signed (v : BitVec 32) (h : v.toNat < 16) : v.toInt.toNat = v.toNat := by
  rw [BitVec.toInt_eq_toNat_cond]
  split <;> omega

/-- Picking one of the two matrices of each of `N` pairs. -/
abbrev pairDims (N R C : Nat) (wf : GatherDims.WF ⟨4, ![N, 2, R, C]⟩ ⟨1, ![1]⟩ ⟨3, ![N, R, C]⟩ [0, 1, 2] [1] [] [1] [] 0 ![N, 1, R, C]) :
    GatherDims ⟨4, ![N, 2, R, C]⟩ ⟨1, ![1]⟩ ⟨3, ![N, R, C]⟩ where
  offsetDims := [0, 1, 2]
  collapsedSliceDims := [1]
  operandBatchingDims := []
  startIndicesBatchingDims := []
  startIndexMap := [1]
  indexVectorDim := 0
  sliceSizes := ![N, 1, R, C]
  wf := wf

/-- An index below two picks that one of every pair. -/
theorem pair_apply {α : Type} {N R C : Nat}
    (wf : GatherDims.WF ⟨4, ![N, 2, R, C]⟩ ⟨1, ![1]⟩ ⟨3, ![N, R, C]⟩ [0, 1, 2] [1] [] [1] [] 0 ![N, 1, R, C])
    (x : (⟨4, ![N, 2, R, C]⟩ : Shape).Idx → α) (k : IVec ⟨1, ![1]⟩ 32) (n : Fin 2) (hk : (k (ix1 0)).toInt.toNat = n.val)
    (s : Fin N) (i : Fin R) (j : Fin C) :
    Host.gather (pairDims N R C wf) x k (ix3 s i j) = x (ix4 s n i j) := by
  have second : (pairDims N R C wf).start (ix3 s i j) k (1 : Fin 4) = n.val := by
    unfold GatherDims.start
    rw [dif_pos (show (1 : Fin 4) ∈ (pairDims N R C wf).startIndexMap from List.mem_singleton.mpr rfl)]
    have e : (pairDims N R C wf).siIdx (ix3 s i j) ⟨List.idxOf (1 : Fin 4) (pairDims N R C wf).startIndexMap,
        List.idxOf_lt_length_iff.2 (List.mem_singleton.mpr rfl)⟩ = ix1 0 := by
      funext b
      obtain rfl : b = 0 := Subsingleton.elim _ _
      exact Subsingleton.elim (α := Fin 1) _ _
    have h := n.isLt
    rw [e, hk]
    show min n.val (2 - 1) = n.val
    omega
  unfold Host.gather
  refine congrArg x (funext fun a => Fin.ext ?_)
  show (pairDims N R C wf).start (ix3 s i j) k a + (pairDims N R C wf).batchCoord (ix3 s i j) a + (pairDims N R C wf).offCoord (ix3 s i j) a = _
  rw [GatherDims.batchCoord_eq_zero _ _ _ List.not_mem_nil]
  match a with
  | ⟨0, _⟩ => exact (Nat.zero_add _).trans rfl
  | ⟨1, _⟩ =>
    rw [GatherDims.offCoord_eq_zero _ _ _ fun h => ((GatherDims.mem_sKept _ _).mp h).1 (List.mem_singleton.mpr rfl)]
    exact second
  | ⟨2, _⟩ => exact (Nat.zero_add _).trans rfl
  | ⟨3, _⟩ => exact (Nat.zero_add _).trans rfl

end Cert.Shared

end
-- ==== Proof.Chipsum.Owned.lean ====
/- What the precondition of the chips' sums says of the other chips and of the core, and that every block the table picks lies in its array. -/
module

public import proofs.«01_k».proof.Proof.Gen.ChipsumIdeal.Frame
public import proofs.«01_k».proof.Proof.Gen.Chipsum.Frame
public import proofs.«01_k».proof.Pre_chipsum_owned
public import proofs.«01_k».proof.Defs
public import proofs.«01_k».proof.Proof.Slab
public import Idealize.ShloMosaic.Lib.Pipeline.ValueKit
public import Idealize.ShloMosaic.Lib.ValueIdxCore

@[expose] public section

noncomputable section

open Idealize.ShloMosaic Idealize.ShloMosaic.TcCoe Idealize.ShloMosaic.Tactic Idealize.SL.Sem

namespace Cert.ChipsumIdeal.Owned

open Cert.ChipsumIdeal Cert.ChipsumIdeal.Gen Cert.Shared

variable {F : FTy → Type} [FloatOps F]

/-- Under the precondition every other chip is below four, and the core below two. -/
theorem lt_of_pre [Cert.Pre_chipsum_owned.Facts] (o : IVec S3 32) (ci : IVec S1 32) (g : FVec F S8x2048x1024 .bf16) (s : FVec F S4x2048x1024 .bf16)
    (h : (Cert.Pre_chipsum_owned.fn o ci g s).1 = (fun _ => 1#1) ∧ (Cert.Pre_chipsum_owned.fn o ci g s).2 = (fun _ => 1#1)) :
    (∀ k : Fin 3, (o (ix1 k)).toNat < 4) ∧ (ci (ix1 0)).toNat < 2 := by
  have e1 (x : S3.Idx) := congrFun h.1 x
  have e2 (x : S1.Idx) := congrFun h.2 x
  simp only [Pre_chipsum_owned.fn, andi, cmpi, broadcastInDim, constantI] at e1 e2
  exact ⟨fun k => below _ 4#32 (by decide) (e1 (ix1 k)), below _ 2#32 (by decide) (e2 (ix1 0))⟩

/-- The word a window reads at place `j` of the table. -/
theorem word_eq (pf : pre0.Contents (Elt F)) (n : Nat) (j : Fin 6) (e : n = j.val) (h : ∀ a, (![n] : Fin 1 → Nat) a + S1.size a ≤ S6.size a) (k : S1.numel = 1) :
    pf.at 0 (Rect.unit (s := S6) ![n] S1.size h) k = (pf 0 : IVec S6 32) (ix1 j) := by
  subst e
  exact congrArg (pf 0) (funext fun a => Fin.ext (by match a with | ⟨0, _⟩ => rfl))

/-- The place in the table of the part of chip `k` that this core's device has. -/
abbrev second (k : Fin 3) : Fin 6 := ⟨3 + k.val, by omega⟩

/-- The place in the table of chip `k`. -/
abbrev first (k : Fin 3) : Fin 6 := ⟨k.val, by omega⟩

theorem second_place (k : Fin 3) : (Scalar.indexCast (Scalar.addi 3#32 (BitVec.ofNat 32 k.val))).toNat = (second k).val := by
  revert k; decide

theorem first_place (k : Fin 3) : (Scalar.indexCast (BitVec.ofNat 32 k.val)).toNat = (first k).val := by
  revert k; decide

theorem half_place (k : Fin 2) : (BitVec.ofNat 32 k.val).toNat = k.val := by
  revert k; decide

/-- The block the first window picks at a point. -/
theorem mine_index (pf : pre0.Contents (Elt F)) (i : grid0.Coords) :
    cc0_transform_0 Facts₀.k0_off1_inb Facts₀.numel1_S1 pf i = ![((pf 0 : IVec S6 32) (ix1 (second (i 0)))).toNat, (i 1).val, 0] :=
  congrArg₂ (fun (a : BitVec 32) (b : Nat) => (![a.toNat, b, 0] : Fin 3 → Nat))
    (word_eq pf _ _ (second_place (i 0)) (Facts₀.k0_off1_inb i) Facts₀.numel1_S1) (half_place (i 1))

/-- The block the second window picks at a point. -/
theorem sibling_index (pf : pre0.Contents (Elt F)) (i : grid0.Coords) :
    cc0_transform_1 Facts₀.k0_off2_inb Facts₀.numel1_S1 pf i = ![((pf 0 : IVec S6 32) (ix1 (first (i 0)))).toNat, (i 1).val, 0] :=
  congrArg₂ (fun (a : BitVec 32) (b : Nat) => (![a.toNat, b, 0] : Fin 3 → Nat))
    (word_eq pf _ _ (first_place (i 0)) (Facts₀.k0_off2_inb i) Facts₀.numel1_S1) (half_place (i 1))

/-- Blocks picked below the stacks' sizes lie in their arrays at every point, and start at even rows. -/
theorem ok (pf : pre0.Contents (Elt F)) (h1 : ∀ k : Fin 3, ((pf 0 : IVec S6 32) (ix1 (second k))).toNat < 8)
    (h0 : ∀ k : Fin 3, ((pf 0 : IVec S6 32) (ix1 (first k))).toNat < 4) : ok0 pf := by
  have inside : ∀ i : grid0.Coords, ∀ a, (cc0_transform_1 Facts₀.k0_off2_inb Facts₀.numel1_S1 pf i a + 1) * S1x1024x1024.size a ≤ S4x2048x1024.size a := by
    intro i
    have b : (i 1).val < 2 := (i 1).isLt
    have d := h0 (i 0)
    rw [sibling_index]
    intro a
    match a with
    | ⟨0, _⟩ => show (((pf 0 : IVec S6 32) (ix1 (first (i 0)))).toNat + 1) * 1 ≤ 4; omega
    | ⟨1, _⟩ => show ((i 1).val + 1) * 1024 ≤ 2048; omega
    | ⟨2, _⟩ => show (0 + 1) * 1024 ≤ 1024; omega
  refine ⟨fun i => ⟨?_, .inr (.inl (.inr ⟨by decide, rfl, .inl ⟨?_, ?_⟩⟩))⟩, fun i => ⟨inside i, .inr (.inl (.inr ⟨by decide, rfl, .inl ⟨?_, ?_⟩⟩))⟩,
    fun i => ⟨inside i, .inr (.inl (.inr ⟨by decide, rfl, .inl ⟨?_, ?_⟩⟩))⟩⟩
  · have b : (i 1).val < 2 := (i 1).isLt
    have d := h1 (i 0)
    rw [mine_index]
    intro a
    match a with
    | ⟨0, _⟩ => show (((pf 0 : IVec S6 32) (ix1 (second (i 0)))).toNat + 1) * 1 ≤ 8; omega
    | ⟨1, _⟩ => show ((i 1).val + 1) * 1024 ≤ 2048; omega
    | ⟨2, _⟩ => show (0 + 1) * 1024 ≤ 1024; omega
  · show 2 ∣ cc0_transform_0 _ _ pf i 1 * 1024; omega
  · show 2 ∣ 1024; omega
  · show 2 ∣ cc0_transform_1 _ _ pf i 1 * 1024; omega
  · show 2 ∣ 1024; omega
  · show 2 ∣ cc0_transform_2 _ _ pf i 1 * 1024; omega
  · show 2 ∣ 1024; omega

variable (m : (ℓ : Loc nD τ sig) → Buf (Elt F) ℓ)

/-- The other chips, and the core. -/
abbrev chipsOf (c : Dev nD) : IVec S3 32 := m ((c.tc : Thread nD τ).loc main_arg0)
abbrev coreOf (c : Dev nD) : IVec S1 32 := m ((c.tc : Thread nD τ).loc main_arg1)

/-- The table: the chips, and after them the devices of this core on them. -/
theorem table_eq (c : Dev nD) : (V m c main_v4 : IVec S6 32) = concatenate S6 0 [⟨S3, chipsOf m c⟩,
    ⟨S3, addi (muli (broadcastInDim S3 ![] Facts₀.bcast_S_S3 (constantI S_ 32 2#32)) (chipsOf m c)) (broadcastInDim S3 ![0] Facts₀.bcast_S1_S3_0 (coreOf m c))⟩]
    Facts₀.concatenates_S3_S3_S6_d0 := by
  show StableHlo.after hostOps0 _ (Proc.devRef .tc main_v4) = _
  after_results

theorem first_word (c : Dev nD) (k : Fin 3) : (V m c main_v4 : IVec S6 32) (ix1 (first k)) = chipsOf m c (ix1 k) := by
  rw [table_eq]
  match k with
  | 0 => pointwise
  | 1 => pointwise
  | 2 => pointwise

theorem second_word (c : Dev nD) (k : Fin 3) : (V m c main_v4 : IVec S6 32) (ix1 (second k)) = 2#32 * chipsOf m c (ix1 k) + coreOf m c (ix1 0) := by
  rw [table_eq]
  match k with
  | 0 => pointwise; rfl
  | 1 => pointwise; rfl
  | 2 => pointwise; rfl

/-- The device of a core on a chip, as a number. -/
theorem device_eq (o ci : BitVec 32) (ho : o.toNat < 4) (hc : ci.toNat < 2) : (2#32 * o + ci).toNat = 2 * o.toNat + ci.toNat := by
  rw [BitVec.toNat_add, BitVec.toNat_mul, show (2#32).toNat = 2 from rfl]
  omega

/-- Every picked block lies in its array, whenever the chips and the core exist. -/
theorem ok_launch (h : (∀ k : Fin 3, (chipsOf m 0 (ix1 k)).toNat < 4) ∧ (coreOf m 0 (ix1 0)).toNat < 2) : Gen.Ok m := by
  refine ok (tbl m) (fun k => ?_) (fun k => ?_)
  · rw [show (tbl m 0 : IVec S6 32) = V m 0 main_v4 from rfl, second_word, device_eq _ _ (h.1 k) h.2]
    have := h.1 k
    have := h.2
    omega
  · rw [show (tbl m 0 : IVec S6 32) = V m 0 main_v4 from rfl, first_word]
    exact h.1 k

end Cert.ChipsumIdeal.Owned

end
-- ==== Proof.Chipsum.Arrays.lean ====
/- The array the chips' sums leave: in the slot of every other chip, the sum of this device's part for it and the sibling's. -/
module

public import proofs.«01_k».proof.Proof.Chipsum.Owned
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.ShloMosaic.Tactic Idealize.SL.Sem
open Idealize.ShloMosaic.Pipeline (Dat)

namespace Cert.ChipsumIdeal

open Cert.ChipsumIdeal.Gen Cert.ChipsumIdeal.Owned Cert.Shared

/-- What one point writes. -/
theorem point_at (c : Dev nD) (k : grid0.Coords) (arg3 : Memref sig .tc .vmem S1x1024x1024 .bf16) (harg3 : arg3.IsWhole)
    (arg4 : Memref sig .tc .vmem S1x1024x1024 .bf16) (harg4 : arg4.IsWhole) (arg5 : Memref sig .tc .vmem S1x1024x1024 .bf16) (harg5 : arg5.IsWhole)
    (a b : Vec Ideal S1x1024x1024 .bf16) (o : TbBuf0 (F := Ideal) c tbM0_0) (i j : Fin 1024) :
    out0_A_2 c k arg3 harg3 arg4 harg4 arg5 harg5 a b o (ix3 0 i j) = a (ix3 0 i j) + b (ix3 0 i j) := by
  frame_out
  pointwise [k0_pay1]

variable (m : (ℓ : Loc nD τ sig) → Buf (Elt Ideal) ℓ) (hO : Gen.Ok m)

/-- The two stacks of partial sums, at their shapes. -/
abbrev mineOf (c : Dev nD) : FVec Ideal S8x2048x1024 .bf16 := m ((c.tc : Thread nD τ).loc main_arg2)
abbrev sibOf (c : Dev nD) : FVec Ideal S4x2048x1024 .bf16 := m ((c.tc : Thread nD τ).loc main_arg3)

/-- The chip and the half of the rows of a point. -/
abbrev chipAt (t : Fin (cfgM m hO).N) : Fin 3 := grid0.coords t 0
abbrev halfAt (t : Fin (cfgM m hO).N) : Fin 2 := grid0.coords t 1

/-- The row of the whole array that row `i` of point `t`'s block is. -/
abbrev row (t : Fin (cfgM m hO).N) (i : Fin 1024) : Fin 2048 := ⟨(halfAt m hO t).val * 1024 + i.val, by omega⟩

/-- The place of the device of core `n` on chip `s` among the eight. -/
abbrev device (n : Fin 2) (s : Fin 4) : Fin 8 := ⟨2 * s.val + n.val, by omega⟩

/-- The sum for a chip: this device's part and its sibling's. -/
def sumFor (c : Dev nD) (n : Fin 2) (s : Fin 4) (i : Fin 2048) (j : Fin 1024) : EReal := mineOf m c (ix3 (device n s) i j) + sibOf m c (ix3 s i j)

/-- The point of chip `k` and half `q`. -/
theorem point_of (k : Fin 3) (q : Fin 2) : ∃ t : Fin (cfgM m hO).N, chipAt m hO t = k ∧ halfAt m hO t = q := by
  obtain ⟨t, h⟩ := (by decide +kernel : ∀ (k : Fin 3) (q : Fin 2), ∃ t : Fin grid0.N, (grid0.coords t 0).val = k.val ∧ (grid0.coords t 1).val = q.val) k q
  exact ⟨t, Fin.ext h.1, Fin.ext h.2⟩

variable (hc : ∀ k : Fin 3, (chipsOf m 0 (ix1 k)).toNat < 4) (n : Fin 2) (hn : (coreOf m 0 (ix1 0)).toNat = n.val)

/-- The slot of chip `k`. -/
abbrev slot (k : Fin 3) : Fin 4 := ⟨(chipsOf m 0 (ix1 k)).toNat, hc k⟩

include hn in
theorem idx0 (t : Fin (cfgM m hO).N) : ((cfgM m hO).win 0).index t = ![(device n (slot m hc (chipAt m hO t))).val, (halfAt m hO t).val, 0] := by
  have e : ((V m 0 main_v4 : IVec S6 32) (ix1 (second (chipAt m hO t)))).toNat = (device n (slot m hc (chipAt m hO t))).val := by
    rw [second_word, device_eq _ _ (hc _) (by omega), hn]
  exact (mine_index (tbl m) (grid0.coords t)).trans (congrArg (fun z : Nat => (![z, (halfAt m hO t).val, 0] : Fin 3 → Nat)) e)

theorem idx1 (t : Fin (cfgM m hO).N) : ((cfgM m hO).win 1).index t = ![(slot m hc (chipAt m hO t)).val, (halfAt m hO t).val, 0] := by
  have e : ((V m 0 main_v4 : IVec S6 32) (ix1 (first (chipAt m hO t)))).toNat = (slot m hc (chipAt m hO t)).val := by
    rw [first_word]
  exact (sibling_index (tbl m) (grid0.coords t)).trans (congrArg (fun z : Nat => (![z, (halfAt m hO t).val, 0] : Fin 3 → Nat)) e)

theorem idx2 (t : Fin (cfgM m hO).N) : ((cfgM m hO).win 2).index t = ![(slot m hc (chipAt m hO t)).val, (halfAt m hO t).val, 0] :=
  idx1 m hO hc t

include hn in
theorem block0 (c : Dev nD) (t : Fin (cfgM m hO).N) (i j : Fin 1024) :
    iblk m hO c 0 t (ix3 0 i j) = mineOf m c (ix3 (device n (slot m hc (chipAt m hO t))) (row m hO t i) j) :=
  (congrArg (V m c main_arg2) (show (((cfgM m hO).win 0).blk t).view.emb (ix3 0 i j)
      = (ix3 (device n (slot m hc (chipAt m hO t))) (row m hO t i) j : S8x2048x1024.Idx) by
    blk_ext [idx0 m hO hc n hn t])).trans (congrFun (V_main_arg2 m c) _)

theorem block1 (c : Dev nD) (t : Fin (cfgM m hO).N) (i j : Fin 1024) :
    iblk m hO c 1 t (ix3 0 i j) = sibOf m c (ix3 (slot m hc (chipAt m hO t)) (row m hO t i) j) :=
  (congrArg (V m c main_arg3) (show (((cfgM m hO).win 1).blk t).view.emb (ix3 0 i j)
      = (ix3 (slot m hc (chipAt m hO t)) (row m hO t i) j : S4x2048x1024.Idx) by
    blk_ext [idx1 m hO hc t])).trans (congrFun (V_main_arg3 m c) _)

include hc hn in
theorem outs_at (c : Dev nD) (t : Fin (cfgM m hO).N) (i j : Fin 1024) :
    outsAt0 m hO c t (ix3 0 i j) = sumFor m c n (slot m hc (chipAt m hO t)) (row m hO t i) j := by
  have e := point_at c (grid0.coords t) (ms0_0 m hO t) (hs0_0 m hO t) (ms0_1 m hO t) (hs0_1 m hO t) (ms0_2 m hO t) (hs0_2 m hO t)
    (iblk m hO c 0 t) (iblk m hO c 1 t) (tbl m 0) i j
  rw [block0 m hO hc n hn c t i j, block1 m hO hc c t i j] at e
  exact e

include hn in
/-- What the region leaves in the slot of chip `k`. -/
theorem array (c : Dev nD) (k : Fin 3) (i : Fin 2048) (j : Fin 1024) :
    (dats m hO 0 c).arrAt 2 (cfgM m hO).N (ix3 (slot m hc k) i j : S4x2048x1024.Idx) = sumFor m c n (slot m hc k) i j := by
  obtain ⟨t, h0, h1⟩ := point_of m hO k ⟨i.val / 1024, by omega⟩
  obtain ⟨u, _, hu, hi⟩ := ((cfgM m hO).win 2).exists_flush_same_index rfl t
  have flushed : ∀ t, ((cfgM m hO).win 2).flush t = true → ∀ y : (((cfgM m hO).win 2).xblock ((cfgM m hO).grid.coords t)).Idx,
      _root_.cast (congrArg (Elt Ideal) (((cfgM m hO).win 2).blk t).view.elt_eq.symm)
        ((dats m hO 0 c).after 2 t (((cfgM m hO).win 2).xinj ((cfgM m hO).grid.coords t) y))
        = (fun y : S4x2048x1024.Idx => sumFor m c n (y 0) (y 1) (y 2)) ((((cfgM m hO).win 2).blk t).view.emb y) := by
    intro t _ y
    obtain ⟨i, j, rfl⟩ : ∃ (i : Fin 1024) (j : Fin 1024), y = (ix3 0 i j : S1x1024x1024.Idx) :=
      ⟨_, _, (eq_ix3 (y : S1x1024x1024.Idx)).trans (congrArg (fun z => ix3 z _ _) (Subsingleton.elim (α := Fin 1) _ _))⟩
    blk_simp
    rw [after0_2]
    have e : (((cfgM m hO).win 2).blk t).view.emb (ix3 0 i j : S1x1024x1024.Idx)
        = (ix3 (slot m hc (chipAt m hO t)) (row m hO t i) j : S4x2048x1024.Idx) := by
      blk_ext [idx2 m hO hc t]
    rw [e]
    exact outs_at m hO hc n hn c t i j
  refine (dats m hO 0 c).arrAt_forall_of_flushed 2 (fun y v => v = (fun y : S4x2048x1024.Idx => sumFor m c n (y 0) (y 1) (y 2)) y)
    flushed (cfgM m hO).N u _ u.isLt hu ?_
  have e := hi
  rw [idx2 m hO hc t, idx2 m hO hc u, h0, h1] at e
  have es : (slot m hc (chipAt m hO u)).val = (slot m hc k).val := congrFun e 0
  have eh : (halfAt m hO u).val = i.val / 1024 := congrFun e 1
  have place : (ix3 (slot m hc k) i j : S4x2048x1024.Idx)
      = (((cfgM m hO).win 2).blk u).view.emb (ix3 0 (⟨i.val % 1024, by omega⟩ : Fin 1024) j : S1x1024x1024.Idx) := by
    refine Eq.trans ?_ (Eq.symm (show (((cfgM m hO).win 2).blk u).view.emb (ix3 0 (⟨i.val % 1024, by omega⟩ : Fin 1024) j : S1x1024x1024.Idx)
      = (ix3 (slot m hc (chipAt m hO u)) (row m hO u ⟨i.val % 1024, by omega⟩) j : S4x2048x1024.Idx) by blk_ext [idx2 m hO hc u]))
    rw [Fin.ext es]
    exact congrArg (fun z => ix3 _ z j) (Fin.ext (by show i.val = (halfAt m hO u).val * 1024 + i.val % 1024; omega))
  rw [place]
  exact View.emb_mem_set _ _

end Cert.ChipsumIdeal

end
-- ==== Proof.Chipsum.Claims.lean ====
/- The claims about the chips' sums. -/
module

public import proofs.«01_k».proof.Defs
public import proofs.«01_k».proof.Proof.Slab
public import proofs.«01_k».proof.Proof.Chipsum.Arrays
public import proofs.«01_k».proof.Proof.Gen.Pre_chipsum_owned
public import proofs.«01_k».proof.Proof.Gen.On_chips_written
public import proofs.«01_k».proof.Proof.Gen.ChipsumRefIdeal.Run

@[expose] public section

set_option maxRecDepth 16384

noncomputable section

open Idealize.ShloMosaic Idealize.ShloMosaic.TcCoe Idealize.ShloMosaic.Tactic Idealize.SL.Sem

namespace Cert.ChipsumRefIdeal

open Cert.ChipsumRefIdeal.Facts₀ Cert.Shared

/-- The part of this core's device on chip `s`: the one of the pair that the core picks. -/
theorem picked (x : FVec Ideal S8x2048x1024 .bf16) (ci : IVec S1 32) (n : Fin 2) (hn : (ci (ix1 0)).toNat = n.val) (s : Fin 4) (i : Fin 2048) (j : Fin 1024) :
    Host.gather gather_S4x2x2048x1024_S1_S4x2048x1024_012_1_n_n_1_0_4120481024 (shapeCast S4x2x2048x1024 x shapeCasts_S8x2048x1024_S4x2x2048x1024)
      (broadcastInDim S1 ![] bcast_S_S1 (shapeCast S_ ci shapeCasts_S1_S_)) (ix3 s i j) = x (ix3 (Cert.ChipsumIdeal.device n s) i j) := by
  refine (pair_apply _ _ _ n (by
    rw [show broadcastInDim S1 ![] bcast_S_S1 (shapeCast S_ ci shapeCasts_S1_S_) (ix1 0) = ci (ix1 0) by pointwise, signed _ (by omega), hn]) s i j).trans ?_
  have spot : s.val * 2 + n.val = (Cert.ChipsumIdeal.device n s).val := by
    show _ = 2 * s.val + n.val
    omega
  pointwise [spot]

end Cert.ChipsumRefIdeal

namespace Cert.ChipsumClaims

open Cert.Shared Cert.ChipsumIdeal.Owned

/-- The mask keeps the slots of the other chips. -/
theorem kept (o : IVec ⟨1, ![3]⟩ 32) (ci : IVec ⟨1, ![1]⟩ 32) (g : FVec Ideal ⟨3, ![8, 2048, 1024]⟩ .bf16) (b : FVec Ideal ⟨3, ![4, 2048, 1024]⟩ .bf16)
    [Cert.On_chips_written.Facts] (s : Fin 4) (i : Fin 2048) (j : Fin 1024)
    (h : Cert.On_chips_written.fn (F := Ideal) o ci g b (ix3 s i j) = 1#1) : ∃ k : Fin 3, (o (ix1 k)).toNat = s.val := by
  have e : Cert.On_chips_written.fn (F := Ideal) o ci g b (ix3 s i j)
      = IntOp.ori (IntOp.ori (IntOp.cmpi .eq (BitVec.ofNat 32 s.val) (o (ix1 0))) (IntOp.cmpi .eq (BitVec.ofNat 32 s.val) (o (ix1 1))))
        (IntOp.cmpi .eq (BitVec.ofNat 32 s.val) (o (ix1 2))) := by
    simp only [On_chips_written.fn]
    pointwise
  rw [e] at h
  have small : (BitVec.ofNat 32 s.val).toNat = s.val := by rw [BitVec.toNat_ofNat, Nat.mod_eq_of_lt (by omega)]
  by_contra none
  have differ (k : Fin 3) : IntOp.cmpi .eq (BitVec.ofNat 32 s.val) (o (ix1 k)) = 0#1 := by
    show BitVec.ofBool (BitVec.ofNat 32 s.val == o (ix1 k)) = 0#1
    rw [beq_eq_false_iff_ne.mpr fun e => none ⟨k, by rw [← e, small]⟩]
    rfl
  rw [differ 0, differ 1, differ 2] at h
  revert h
  decide

theorem owned (m : (ℓ : Loc Cert.ChipsumIdeal.nD Cert.ChipsumIdeal.τ Cert.ChipsumIdeal.sig) → Buf (Elt Ideal) ℓ) (h : Cert.Pre_ChipsumIdeal m) :
    (∀ k : Fin 3, (chipsOf m 0 (ix1 k)).toNat < 4) ∧ (coreOf m 0 (ix1 0)).toNat < 2 :=
  lt_of_pre _ _ _ _ (h 0)

theorem frame : quiescent_Chipsum := fun m ρ h =>
  Cert.Chipsum.Gen.frame m ρ (ok_launch m (lt_of_pre _ _ _ _ (h 0)))

theorem frame_ideal : quiescent_ChipsumIdeal := fun m ρ h =>
  Cert.ChipsumIdeal.Gen.frame m ρ (ok_launch m (owned m h))

theorem frame_reference : quiescent_ChipsumRefIdeal := fun m ρ _ =>
  (θ_run _ _ _).mono (fun r h => ⟨fun c => (h c).2, sem_eq_zero_of_no_sems (by decide) r.2⟩)
    (Cert.ChipsumRefIdeal.Value.run m ρ)

theorem frame_reference_owned : quiescent_ChipsumRefIdeal_pre_chipsum_owned := fun m ρ _ => frame_reference m ρ trivial

theorem value : algebraic_ChipsumIdeal_ChipsumRefIdeal_on_chips_written := by
  intro m g m' g' hpre hagree
  have ho := owned m hpre
  have hO := ok_launch m ho
  have hn : (coreOf m 0 (ix1 0)).toNat = (⟨_, ho.2⟩ : Fin 2).val := rfl
  generalize (⟨_, ho.2⟩ : Fin 2) = n at hn
  refine ⟨fun c => (fun y : Cert.ChipsumIdeal.S4x2048x1024.Idx => Cert.ChipsumIdeal.sumFor m c n (y 0) (y 1) (y 2)),
    (θ_run _ _ _).mono (fun r h c => ⟨fun y hy => ?_, h.2 c⟩)
      (θ_run_and (Cert.ChipsumIdeal.Gen.run_main m g hO) (Cert.ChipsumIdeal.Gen.unchanged m g hO)),
    (θ_run _ _ _).mono (fun r h c => ⟨fun y _ => ?_, (h c).2⟩) (Cert.ChipsumRefIdeal.Value.run m' g')⟩
  · obtain ⟨s, i, j, rfl⟩ : ∃ (s : Fin 4) (i : Fin 2048) (j : Fin 1024), y = ix3 s i j := ⟨y 0, y 1, y 2, eq_ix3 y⟩
    obtain rfl : c = 0 := Subsingleton.elim _ _
    obtain ⟨k, hk⟩ := kept _ _ _ _ s i j hy
    obtain rfl : Cert.ChipsumIdeal.slot m ho.1 k = s := Fin.ext hk
    exact (congrFun ((h.1 0).1 2) _).trans (Cert.ChipsumIdeal.array m hO ho.1 n hn 0 k i j)
  · obtain ⟨a0, a1, a2, a3⟩ := hagree c
    obtain rfl : c = 0 := Subsingleton.elim _ _
    obtain ⟨s, i, j, rfl⟩ : ∃ (s : Fin 4) (i : Fin 2048) (j : Fin 1024), y = ix3 s i j := ⟨y 0, y 1, y 2, eq_ix3 y⟩
    refine (congrFun (h 0).1 _).trans ?_
    rw [a1, a2, a3]
    pointwise [Cert.ChipsumRefIdeal.picked _ _ n hn, Cert.ChipsumIdeal.sumFor]

end Cert.ChipsumClaims

end
-- ==== Proof.Stepin.Owned.lean ====
/- What the precondition of the weight's step says of the two indices, and that every block the indices pick lies in its array. -/
module

public import proofs.«01_k».proof.Proof.Gen.StepinIdeal.Frame
public import proofs.«01_k».proof.Proof.Gen.Stepin.Frame
public import proofs.«01_k».proof.Pre_stepin_owned
public import proofs.«01_k».proof.Defs
public import proofs.«01_k».proof.Proof.Slab
public import Idealize.ShloMosaic.Lib.Pipeline.ValueKit
public import Idealize.ShloMosaic.Lib.ValueIdxCore

@[expose] public section

noncomputable section

open Idealize.ShloMosaic

namespace Cert.StepinIdeal.Owned

open Cert.StepinIdeal Cert.StepinIdeal.Gen Cert.Shared

variable {F : FTy → Type} [FloatOps F]

/-- Under the precondition the first index is below eight and the second below four. -/
theorem lt_of_pre [Cert.Pre_stepin_owned.Facts] (own : IVec S2 32) (w m v : FVec F S1x2048x1024 .f32) (g : FVec F S8x2048x1024 .bf16)
    (s : FVec F S4x2048x1024 .bf16) (p : FVec F S3x2048x1024 .bf16)
    (h : Cert.Pre_stepin_owned.fn own w m v g s p = fun _ => 1#1) : (own (ix1 0)).toNat < 8 ∧ (own (ix1 1)).toNat < 4 := by
  have e (x : S2.Idx) := congrFun h x
  simp only [Pre_stepin_owned.fn, andi, cmpi, broadcastInDim, constantI] at e
  exact ⟨below _ 8#32 (by decide) (e (ix1 0)), below _ 4#32 (by decide) (e (ix1 1))⟩

/-- The word the first picked window reads. -/
theorem first_eq (pf : pre0.Contents (Elt F)) (h : ∀ a, (![0] : Fin 1 → Nat) a + S1.size a ≤ S2.size a) (k : S1.numel = 1) :
    pf.at 0 (Rect.unit (s := S2) ![0] S1.size h) k = (pf 0 : IVec S2 32) (ix1 0) :=
  congrArg (pf 0) (funext fun a => Fin.ext (by match a with | ⟨0, _⟩ => rfl))

/-- The word the second picked window reads. -/
theorem second_eq (pf : pre0.Contents (Elt F)) (h : ∀ a, (![1] : Fin 1 → Nat) a + S1.size a ≤ S2.size a) (k : S1.numel = 1) :
    pf.at 0 (Rect.unit (s := S2) ![1] S1.size h) k = (pf 0 : IVec S2 32) (ix1 1) :=
  congrArg (pf 0) (funext fun a => Fin.ext (by match a with | ⟨0, _⟩ => rfl))

/-- The first picked block's index. -/
theorem first_index (pf : pre0.Contents (Elt F)) (i : grid0.Coords) :
    cc0_transform_3 Facts₀.inb_S2_S1_0 Facts₀.numel1_S1 pf i = ![((pf 0 : IVec S2 32) (ix1 0)).toNat, (i 0).val, 0] := by
  have b : (i 0).val < 4 := (i 0).isLt
  have e : (BitVec.ofNat 32 (i 0).val).toNat = (i 0).val := by rw [BitVec.toNat_ofNat, Nat.mod_eq_of_lt (by omega)]
  unfold cc0_transform_3
  rw [first_eq]
  show ![((pf 0 : IVec S2 32) (ix1 0)).toNat, (BitVec.ofNat 32 (i 0).val).toNat, 0] = _
  rw [e]

/-- The second picked block's index. -/
theorem second_index (pf : pre0.Contents (Elt F)) (i : grid0.Coords) :
    cc0_transform_4 Facts₀.inb_S2_S1_1 Facts₀.numel1_S1 pf i = ![((pf 0 : IVec S2 32) (ix1 1)).toNat, (i 0).val, 0] := by
  have b : (i 0).val < 4 := (i 0).isLt
  have e : (BitVec.ofNat 32 (i 0).val).toNat = (i 0).val := by rw [BitVec.toNat_ofNat, Nat.mod_eq_of_lt (by omega)]
  unfold cc0_transform_4
  rw [second_eq]
  show ![((pf 0 : IVec S2 32) (ix1 1)).toNat, (BitVec.ofNat 32 (i 0).val).toNat, 0] = _
  rw [e]

/-- Then the two picked blocks lie in their arrays at every point, and start at even rows. -/
theorem ok (pf : pre0.Contents (Elt F)) (h0 : ((pf 0 : IVec S2 32) (ix1 0)).toNat < 8) (h1 : ((pf 0 : IVec S2 32) (ix1 1)).toNat < 4) : ok0 pf := by
  refine ⟨fun i => ⟨?_, .inr (.inl (.inr ⟨by decide, rfl, .inl ⟨?_, ?_⟩⟩))⟩, fun i => ⟨?_, .inr (.inl (.inr ⟨by decide, rfl, .inl ⟨?_, ?_⟩⟩))⟩⟩
  · have b : (i 0).val < 4 := (i 0).isLt
    rw [first_index]
    intro a
    match a with
    | ⟨0, _⟩ => show (((pf 0 : IVec S2 32) (ix1 0)).toNat + 1) * 1 ≤ 8; omega
    | ⟨1, _⟩ => show ((i 0).val + 1) * 512 ≤ 2048; omega
    | ⟨2, _⟩ => show (0 + 1) * 1024 ≤ 1024; omega
  · show 2 ∣ cc0_transform_3 _ _ pf i 1 * 512; omega
  · show 2 ∣ 512; omega
  · have b : (i 0).val < 4 := (i 0).isLt
    rw [second_index]
    intro a
    match a with
    | ⟨0, _⟩ => show (((pf 0 : IVec S2 32) (ix1 1)).toNat + 1) * 1 ≤ 4; omega
    | ⟨1, _⟩ => show ((i 0).val + 1) * 512 ≤ 2048; omega
    | ⟨2, _⟩ => show (0 + 1) * 1024 ≤ 1024; omega
  · show 2 ∣ cc0_transform_4 _ _ pf i 1 * 512; omega
  · show 2 ∣ 512; omega

/-- Every picked block lies in its array, whenever the indices do: stated of the launch's contents. -/
theorem ok_launch (m : (ℓ : Loc nD τ sig) → Buf (Elt F) ℓ) (h : ((m ((0 : Dev nD).tc.loc main_arg0) : IVec S2 32) (ix1 0)).toNat < 8 ∧ ((m ((0 : Dev nD).tc.loc main_arg0) : IVec S2 32) (ix1 1)).toNat < 4) : Gen.Ok m :=
  ok (tbl m) (by rw [show tbl m 0 = m ((0 : Dev nD).tc.loc main_arg0) from rfl]; exact h.1) (by rw [show tbl m 0 = m ((0 : Dev nD).tc.loc main_arg0) from rfl]; exact h.2)

end Cert.StepinIdeal.Owned

end
-- ==== Proof.Adam.lean ====
/- One step of the optimiser, for one entry of a weight: what its two moments become, and by how much the entry changes. -/
module

public import Idealize.ShloMosaic.Lib.Pipeline.ValueKit
public import Idealize.ShloMosaic.Lib.Pointwise

@[expose] public section

noncomputable section

open Idealize.ShloMosaic

namespace Cert.Shared

/-- The first moment after the step: nine tenths of it and one tenth of the gradient. -/
def nextM (g m : EReal) : EReal := Ideal.ofBits .f32 0x3F666666#32 * m + Ideal.ofBits .f32 0x3DCCCCCD#32 * g

/-- The second moment after the step: 0.999 of it and 0.001 of the gradient's square. -/
def nextV (g v : EReal) : EReal := Ideal.ofBits .f32 0x3F7FBE77#32 * v + Ideal.ofBits .f32 0x3A83126F#32 * (g * g)

/-- The change of the entry: both moments corrected for the tenth step, their quotient, and the weight's decay. -/
def change (w g m v : EReal) : EReal :=
  Ideal.ofBits .f32 0xBA83126F#32 * (Ideal.div (Ideal.div (nextM g m) (Ideal.ofBits .f32 0x3F26BD02#32))
    (Ideal.sqrt (Ideal.div (nextV g v) (Ideal.ofBits .f32 0x3C231ACC#32)) + Ideal.ofBits .f32 0x322BCC77#32)
    + Ideal.ofBits .f32 0x3C23D70A#32 * w)

end Cert.Shared

end
-- ==== Proof.Stepin.Blocks.lean ====
/- The blocks of the weight's step: what each window holds at a point, and what one point computes. -/
module

public import proofs.«01_k».proof.Proof.Stepin.Owned
public import proofs.«01_k».proof.Proof.Adam
public import Idealize.ShloMosaic.Lib.Pipeline.ReadBack

@[expose] public section

set_option maxRecDepth 16384

noncomputable section

open Idealize.ShloMosaic Idealize.ShloMosaic.TcCoe Idealize.ShloMosaic.Tactic Idealize.SL.Sem
open Idealize.ShloMosaic.Pipeline (Dat)

namespace Cert.StepinIdeal

open Cert.StepinIdeal.Gen Cert.StepinIdeal.Owned Cert.Shared

section Payload

/-- The gradient of an entry: the device's own partial sum, its sibling's, and the three other chips'. -/
def total (a b : FVec Ideal S1x512x1024 .bf16) (p : FVec Ideal S3x512x1024 .bf16) (i : Fin 512) (j : Fin 1024) : EReal :=
  a (ix3 0 i j) + b (ix3 0 i j) + p (ix3 0 i j) + p (ix3 1 i j) + p (ix3 2 i j)

/-- One of the three planes of a stack, cut out. -/
theorem plane_at (p : Vec Ideal S3x512x1024 .bf16) (n : Fin 3) (k : Nat) (hk : k = n.val)
    (h : ∀ a, (![k, 0, 0] : Fin 3 → Nat) a + (![1, 512, 1024] : Fin 3 → Nat) a ≤ S3x512x1024.size a) (i : Fin 512) (j : Fin 1024) :
    View.ld (Val := Elt Ideal) (e' := .bf16) p (Rect.unit (s := S3x512x1024) ![k, 0, 0] ![1, 512, 1024] h) (ix3 0 i j) = p (ix3 n i j) :=
  congrArg p (show (Rect.unit (s := S3x512x1024) ![k, 0, 0] ![1, 512, 1024] h).emb (ix3 0 i j) = ix3 n i j by subst hk; blk_ext)

variable (c : Dev nD) (k : grid0.Coords)
  (arg2 : Memref sig .tc .vmem S512x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S1x512x1024 .bf16) (harg5 : arg5.IsWhole)
  (arg6 : Memref sig .tc .vmem S1x512x1024 .bf16) (harg6 : arg6.IsWhole) (arg7 : Memref sig .tc .vmem S3x512x1024 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S512x1024 .f32) (harg10 : arg10.IsWhole) (arg11 : Memref sig .tc .vmem S512x1024 .f32) (harg11 : arg11.IsWhole)
  (w m v : Vec Ideal S512x1024 .f32) (a b : Vec Ideal S1x512x1024 .bf16) (p : Vec Ideal S3x512x1024 .bf16)
  (own : TbBuf0 (F := Ideal) c tbM0_0) (i : Fin 512) (j : Fin 1024)

/-- What one point writes: the gradient, the change of the weight, and the two moments. -/
theorem point_at :
    out0_A_6 c k arg2 harg2 arg3 harg3 arg4 harg4 arg5 harg5 arg6 harg6 arg7 harg7 arg8 harg8 arg9 harg9 arg10 harg10 arg11 harg11 w m v a b p own (ix2 i j)
      = total a b p i j
    ∧ out0_A_7 c k arg2 harg2 arg3 harg3 arg4 harg4 arg5 harg5 arg6 harg6 arg7 harg7 arg8 harg8 arg9 harg9 arg10 harg10 arg11 harg11 w m v a b p own (ix2 i j)
      = change (w (ix2 i j)) (total a b p i j) (m (ix2 i j)) (v (ix2 i j))
    ∧ out0_A_8 c k arg2 harg2 arg3 harg3 arg4 harg4 arg5 harg5 arg6 harg6 arg7 harg7 arg8 harg8 arg9 harg9 arg10 harg10 arg11 harg11 w m v a b p own (ix2 i j)
      = nextM (total a b p i j) (m (ix2 i j))
    ∧ out0_A_9 c k arg2 harg2 arg3 harg3 arg4 harg4 arg5 harg5 arg6 harg6 arg7 harg7 arg8 harg8 arg9 harg9 arg10 harg10 arg11 harg11 w m v a b p own (ix2 i j)
      = nextV (total a b p i j) (v (ix2 i j)) := by
  refine ⟨?_, ?_, ?_, ?_⟩
  all_goals
    frame_out
    pointwise [k0_pay1, k0_pay2, k0_pay3, k0_pay4, k0_pay5, k0_pay6, k0_pay7, k0_pay8, total, change, nextM, nextV,
      plane_at p 0 0 rfl, plane_at p 1 1 rfl, plane_at p 2 2 rfl]

end Payload

variable (m : (ℓ : Loc nD τ sig) → Buf (Elt Ideal) ℓ) (hO : Gen.Ok m)

/-- The argument arrays, at their shapes. -/
abbrev ownOf (c : Dev nD) : IVec S2 32 := m ((c.tc : Thread nD τ).loc main_arg0)
abbrev wOf (c : Dev nD) : FVec Ideal S1x2048x1024 .f32 := m ((c.tc : Thread nD τ).loc main_arg1)
abbrev mOf (c : Dev nD) : FVec Ideal S1x2048x1024 .f32 := m ((c.tc : Thread nD τ).loc main_arg2)
abbrev vOf (c : Dev nD) : FVec Ideal S1x2048x1024 .f32 := m ((c.tc : Thread nD τ).loc main_arg3)
abbrev mineOf (c : Dev nD) : FVec Ideal S8x2048x1024 .bf16 := m ((c.tc : Thread nD τ).loc main_arg4)
abbrev sibOf (c : Dev nD) : FVec Ideal S4x2048x1024 .bf16 := m ((c.tc : Thread nD τ).loc main_arg5)
abbrev chipsOf (c : Dev nD) : FVec Ideal S3x2048x1024 .bf16 := m ((c.tc : Thread nD τ).loc main_arg6)

theorem idx : ∀ t : Fin (cfgM m hO).N, ((cfgM m hO).win 0).index t = ![t.val, 0] ∧ ((cfgM m hO).win 1).index t = ![t.val, 0]
    ∧ ((cfgM m hO).win 2).index t = ![t.val, 0] ∧ ((cfgM m hO).win 5).index t = ![0, t.val, 0]
    ∧ ((cfgM m hO).win 6).index t = ![t.val, 0] ∧ ((cfgM m hO).win 7).index t = ![t.val, 0]
    ∧ ((cfgM m hO).win 8).index t = ![t.val, 0] ∧ ((cfgM m hO).win 9).index t = ![t.val, 0] :=
  (by decide +kernel : ∀ t : Fin grid0.N, cc0_transform_0 (grid0.coords t) = ![t.val, 0] ∧ cc0_transform_1 (grid0.coords t) = ![t.val, 0]
    ∧ cc0_transform_2 (grid0.coords t) = ![t.val, 0] ∧ cc0_transform_5 (grid0.coords t) = ![0, t.val, 0]
    ∧ cc0_transform_6 (grid0.coords t) = ![t.val, 0] ∧ cc0_transform_7 (grid0.coords t) = ![t.val, 0]
    ∧ cc0_transform_8 (grid0.coords t) = ![t.val, 0] ∧ cc0_transform_9 (grid0.coords t) = ![t.val, 0])

theorem idx3 (t : Fin (cfgM m hO).N) : ((cfgM m hO).win 3).index t = ![(ownOf m 0 (ix1 0)).toNat, t.val, 0] :=
  (first_index (tbl m) (grid0.coords t)).trans (by rw [show ((grid0.coords t) 0).val = t.val from (by decide +kernel : ∀ t : Fin grid0.N, ((grid0.coords t) 0).val = t.val) t]; rfl)

theorem idx4 (t : Fin (cfgM m hO).N) : ((cfgM m hO).win 4).index t = ![(ownOf m 0 (ix1 1)).toNat, t.val, 0] :=
  (second_index (tbl m) (grid0.coords t)).trans (by rw [show ((grid0.coords t) 0).val = t.val from (by decide +kernel : ∀ t : Fin grid0.N, ((grid0.coords t) 0).val = t.val) t]; rfl)

section Blocks

variable (c : Dev nD) (t : Fin (cfgM m hO).N)

theorem row_lt : t.val < 4 := t.2

theorem V_v0 (i : Fin 2048) (j : Fin 1024) : (V m c main_v0 : FVec Ideal S2048x1024 .f32) (ix2 i j) = wOf m c (ix3 0 i j) := by
  have e : V m c main_v0 = shapeCast S2048x1024 (wOf m c) Facts₀.shapeCasts_S1x2048x1024_S2048x1024 := by
    show StableHlo.after hostOps0 _ (Proc.devRef .tc main_v0) = _
    after_results
    rfl
  rw [e]
  pointwise

theorem V_v1 (i : Fin 2048) (j : Fin 1024) : (V m c main_v1 : FVec Ideal S2048x1024 .f32) (ix2 i j) = mOf m c (ix3 0 i j) := by
  have e : V m c main_v1 = shapeCast S2048x1024 (mOf m c) Facts₀.shapeCasts_S1x2048x1024_S2048x1024 := by
    show StableHlo.after hostOps0 _ (Proc.devRef .tc main_v1) = _
    after_results
    rfl
  rw [e]
  pointwise

theorem V_v2 (i : Fin 2048) (j : Fin 1024) : (V m c main_v2 : FVec Ideal S2048x1024 .f32) (ix2 i j) = vOf m c (ix3 0 i j) := by
  have e : V m c main_v2 = shapeCast S2048x1024 (vOf m c) Facts₀.shapeCasts_S1x2048x1024_S2048x1024 := by
    show StableHlo.after hostOps0 _ (Proc.devRef .tc main_v2) = _
    after_results
    rfl
  rw [e]
  pointwise

variable (i : Fin 512) (j : Fin 1024)

/-- The row of the whole array that row `i` of point `t`'s block is. -/
abbrev row : Fin 2048 := ⟨t.val * 512 + i.val, by have := row_lt m hO t; omega⟩

theorem block0 : iblk m hO c 0 t (ix2 i j) = wOf m c (ix3 0 (row m hO t i) j) :=
  (congrArg (V m c main_v0) (show (((cfgM m hO).win 0).blk t).view.emb (ix2 i j) = (ix2 (row m hO t i) j : S2048x1024.Idx) by
    blk_ext [idx m hO t])).trans (V_v0 m c _ j)

theorem block1 : iblk m hO c 1 t (ix2 i j) = mOf m c (ix3 0 (row m hO t i) j) :=
  (congrArg (V m c main_v1) (show (((cfgM m hO).win 1).blk t).view.emb (ix2 i j) = (ix2 (row m hO t i) j : S2048x1024.Idx) by
    blk_ext [idx m hO t])).trans (V_v1 m c _ j)

theorem block2 : iblk m hO c 2 t (ix2 i j) = vOf m c (ix3 0 (row m hO t i) j) :=
  (congrArg (V m c main_v2) (show (((cfgM m hO).win 2).blk t).view.emb (ix2 i j) = (ix2 (row m hO t i) j : S2048x1024.Idx) by
    blk_ext [idx m hO t])).trans (V_v2 m c _ j)

theorem block3 (n : Fin 8) (hn : (ownOf m 0 (ix1 0)).toNat = n.val) :
    iblk m hO c 3 t (ix3 0 i j) = mineOf m c (ix3 n (row m hO t i) j) :=
  (congrArg (V m c main_arg4) (show (((cfgM m hO).win 3).blk t).view.emb (ix3 0 i j) = (ix3 n (row m hO t i) j : S8x2048x1024.Idx) by
    blk_ext [idx3 m hO t, hn])).trans (congrFun (V_main_arg4 m c) _)

theorem block4 (n : Fin 4) (hn : (ownOf m 0 (ix1 1)).toNat = n.val) :
    iblk m hO c 4 t (ix3 0 i j) = sibOf m c (ix3 n (row m hO t i) j) :=
  (congrArg (V m c main_arg5) (show (((cfgM m hO).win 4).blk t).view.emb (ix3 0 i j) = (ix3 n (row m hO t i) j : S4x2048x1024.Idx) by
    blk_ext [idx4 m hO t, hn])).trans (congrFun (V_main_arg5 m c) _)

theorem block5 (n : Fin 3) : iblk m hO c 5 t (ix3 n i j) = chipsOf m c (ix3 n (row m hO t i) j) :=
  (congrArg (V m c main_arg6) (show (((cfgM m hO).win 5).blk t).view.emb (ix3 n i j) = (ix3 n (row m hO t i) j : S3x2048x1024.Idx) by
    blk_ext [idx m hO t])).trans (congrFun (V_main_arg6 m c) _)

end Blocks

end Cert.StepinIdeal

end
-- ==== Proof.Stepin.Arrays.lean ====
/- The four arrays the weight's step leaves: gradient, change and moments, each from the picked partial sums. -/
module

public import proofs.«01_k».proof.Proof.Stepin.Blocks

@[expose] public section

set_option maxRecDepth 16384

noncomputable section

open Idealize.ShloMosaic Idealize.ShloMosaic.TcCoe Idealize.ShloMosaic.Tactic Idealize.SL.Sem
open Idealize.ShloMosaic.Pipeline (Dat)

namespace Cert.StepinIdeal

open Cert.StepinIdeal.Gen Cert.StepinIdeal.Owned Cert.Shared

variable (m : (ℓ : Loc nD τ sig) → Buf (Elt Ideal) ℓ) (hO : Gen.Ok m)

/-- The gradient of an entry, the eighth `n` and the quarter `q` picked. -/
def grad (c : Dev nD) (n : Fin 8) (q : Fin 4) (i : Fin 2048) (j : Fin 1024) : EReal :=
  mineOf m c (ix3 n i j) + sibOf m c (ix3 q i j) + chipsOf m c (ix3 0 i j) + chipsOf m c (ix3 1 i j) + chipsOf m c (ix3 2 i j)

variable (c : Dev nD) (n : Fin 8) (q : Fin 4) (hn : (ownOf m 0 (ix1 0)).toNat = n.val) (hq : (ownOf m 0 (ix1 1)).toNat = q.val)

include hn hq in
theorem total_eq (t : Fin (cfgM m hO).N) (i : Fin 512) (j : Fin 1024) :
    total (iblk m hO c 3 t) (iblk m hO c 4 t) (iblk m hO c 5 t) i j = grad m c n q (row m hO t i) j := by
  unfold total grad
  rw [block3 m hO c t i j n hn, block4 m hO c t i j q hq, block5 m hO c t i j 0, block5 m hO c t i j 1, block5 m hO c t i j 2]

include hn hq in
/-- The blocks point `t` leaves. -/
theorem outs_at (t : Fin (cfgM m hO).N) (i : Fin 512) (j : Fin 1024) :
    (outsAt0 m hO c t).1 (ix2 i j) = grad m c n q (row m hO t i) j
    ∧ (outsAt0 m hO c t).2.1 (ix2 i j) = change (wOf m c (ix3 0 (row m hO t i) j)) (grad m c n q (row m hO t i) j)
        (mOf m c (ix3 0 (row m hO t i) j)) (vOf m c (ix3 0 (row m hO t i) j))
    ∧ (outsAt0 m hO c t).2.2.1 (ix2 i j) = nextM (grad m c n q (row m hO t i) j) (mOf m c (ix3 0 (row m hO t i) j))
    ∧ (outsAt0 m hO c t).2.2.2 (ix2 i j) = nextV (grad m c n q (row m hO t i) j) (vOf m c (ix3 0 (row m hO t i) j)) := by
  have e := point_at c (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t)
    (iblk m hO c 0 t) (iblk m hO c 1 t) (iblk m hO c 2 t) (iblk m hO c 3 t) (iblk m hO c 4 t) (iblk m hO c 5 t) (tbl m 0) i j
  rw [total_eq m hO c n q hn hq t i j, block0 m hO c t i j, block1 m hO c t i j, block2 m hO c t i j] at e
  dsimp only [outsAt0]
  exact ⟨e.1, e.2.1, e.2.2.1, e.2.2.2⟩

/-- The blocks written back cover their arrays. -/
theorem covers : ((cfgM m hO).win 6).Covers ∧ ((cfgM m hO).win 7).Covers ∧ ((cfgM m hO).win 8).Covers ∧ ((cfgM m hO).win 9).Covers := by
  have size : ∀ a : Fin 2, 0 < S512x1024.size a := by decide
  have blocks : (2048 + 512 - 1) / 512 ≤ grid0.N := by decide
  have place (k : Nat) (f : Fin 2 → Nat) (e : f = ![k, 0]) (β : (a : Fin 2) → Fin ((S2048x1024.size a + S512x1024.size a - 1) / S512x1024.size a))
      (h : k = (β 0).val) (a : Fin 2) : f a = (β a).val := by
    have b : (β 1).val < (1024 + 1024 - 1) / 1024 := (β 1).isLt
    subst e
    match a with
    | ⟨0, _⟩ => exact h
    | ⟨1, _⟩ => show 0 = (β 1).val; omega
  refine ⟨⟨size, fun β => ⟨⟨(β (0 : Fin 2)).val, Nat.lt_of_lt_of_le (β (0 : Fin 2)).isLt blocks⟩, flush0_6 _ _, fun a => ⟨place _ _ ?_ β rfl a, .inl rfl⟩⟩⟩,
    ⟨size, fun β => ⟨⟨(β (0 : Fin 2)).val, Nat.lt_of_lt_of_le (β (0 : Fin 2)).isLt blocks⟩, flush0_7 _ _, fun a => ⟨place _ _ ?_ β rfl a, .inl rfl⟩⟩⟩,
    ⟨size, fun β => ⟨⟨(β (0 : Fin 2)).val, Nat.lt_of_lt_of_le (β (0 : Fin 2)).isLt blocks⟩, flush0_8 _ _, fun a => ⟨place _ _ ?_ β rfl a, .inl rfl⟩⟩⟩,
    ⟨size, fun β => ⟨⟨(β (0 : Fin 2)).val, Nat.lt_of_lt_of_le (β (0 : Fin 2)).isLt blocks⟩, flush0_9 _ _, fun a => ⟨place _ _ ?_ β rfl a, .inl rfl⟩⟩⟩⟩
  · exact (idx m hO _).2.2.2.2.1
  · exact (idx m hO _).2.2.2.2.2.1
  · exact (idx m hO _).2.2.2.2.2.2.1
  · exact (idx m hO _).2.2.2.2.2.2.2

include hn hq in
/-- What the region leaves in its four result arrays. -/
theorem arrays :
    (dats m hO 0 c).arrAt 6 (cfgM m hO).N = (fun y : S2048x1024.Idx => grad m c n q (y 0) (y 1))
    ∧ (dats m hO 0 c).arrAt 7 (cfgM m hO).N = (fun y : S2048x1024.Idx => change (wOf m c (ix3 0 (y 0) (y 1)))
        (grad m c n q (y 0) (y 1)) (mOf m c (ix3 0 (y 0) (y 1))) (vOf m c (ix3 0 (y 0) (y 1))))
    ∧ (dats m hO 0 c).arrAt 8 (cfgM m hO).N = (fun y : S2048x1024.Idx => nextM (grad m c n q (y 0) (y 1)) (mOf m c (ix3 0 (y 0) (y 1))))
    ∧ (dats m hO 0 c).arrAt 9 (cfgM m hO).N = (fun y : S2048x1024.Idx => nextV (grad m c n q (y 0) (y 1)) (vOf m c (ix3 0 (y 0) (y 1)))) := by
  refine ⟨(dats m hO 0 c).arrAt_eq_of_covers 6 _ (covers m hO).1 fun t _ y => ?_,
    (dats m hO 0 c).arrAt_eq_of_covers 7 _ (covers m hO).2.1 fun t _ y => ?_,
    (dats m hO 0 c).arrAt_eq_of_covers 8 _ (covers m hO).2.2.1 fun t _ y => ?_,
    (dats m hO 0 c).arrAt_eq_of_covers 9 _ (covers m hO).2.2.2 fun t _ y => ?_⟩
  all_goals
    obtain ⟨i, j, rfl⟩ : ∃ (i : Fin 512) (j : Fin 1024), y = (ix2 i j : S512x1024.Idx) := ⟨_, _, eq_ix2 (y : S512x1024.Idx)⟩
    blk_simp
  · rw [after0_6]
    have e : (((cfgM m hO).win 6).blk t).view.emb (ix2 i j : S512x1024.Idx) = (ix2 (row m hO t i) j : S2048x1024.Idx) := by
      blk_ext [idx m hO t]
    rw [e]
    exact (outs_at m hO c n q hn hq t i j).1
  · rw [after0_7]
    have e : (((cfgM m hO).win 7).blk t).view.emb (ix2 i j : S512x1024.Idx) = (ix2 (row m hO t i) j : S2048x1024.Idx) := by
      blk_ext [idx m hO t]
    rw [e]
    exact (outs_at m hO c n q hn hq t i j).2.1
  · rw [after0_8]
    have e : (((cfgM m hO).win 8).blk t).view.emb (ix2 i j : S512x1024.Idx) = (ix2 (row m hO t i) j : S2048x1024.Idx) := by
      blk_ext [idx m hO t]
    rw [e]
    exact (outs_at m hO c n q hn hq t i j).2.2.1
  · rw [after0_9]
    have e : (((cfgM m hO).win 9).blk t).view.emb (ix2 i j : S512x1024.Idx) = (ix2 (row m hO t i) j : S2048x1024.Idx) := by
      blk_ext [idx m hO t]
    rw [e]
    exact (outs_at m hO c n q hn hq t i j).2.2.2

end Cert.StepinIdeal

end
-- ==== Proof.Stepin.Claims.lean ====
/- The claims about the weight's step. -/
module

public import proofs.«01_k».proof.Defs
public import proofs.«01_k».proof.Proof.Slab
public import proofs.«01_k».proof.Proof.Stepin.Arrays
public import proofs.«01_k».proof.Proof.Gen.Pre_stepin_owned
public import proofs.«01_k».proof.Proof.Gen.StepinRefIdeal.Run

@[expose] public section

set_option maxRecDepth 16384

noncomputable section

open Idealize.ShloMosaic Idealize.ShloMosaic.TcCoe Idealize.ShloMosaic.Tactic Idealize.SL.Sem

namespace Cert.StepinRefIdeal

open Cert.StepinRefIdeal.Facts₀ Cert.Shared Cert.StepinIdeal.Owned

/-- The matrix the first index picks of eight. -/
theorem first_picked (x : FVec Ideal S8x2048x1024 .bf16) (own : IVec S2 32) (n : Fin 8) (hn : (own (ix1 0)).toNat = n.val) (i : Fin 2048) (j : Fin 1024) :
    Host.gather gather_S8x2048x1024_S1_S2048x1024_01_0_n_n_0_0_120481024 x
      (broadcastInDim S1 ![] bcast_S_S1 (shapeCast S_ (extractStridedSlice S1 ![0] own slices_S2_S1_0) shapeCasts_S1_S_)) (ix2 i j) = x (ix3 n i j) :=
  slab_apply _ x _ n (by
    rw [show broadcastInDim S1 ![] bcast_S_S1 (shapeCast S_ (extractStridedSlice S1 ![0] own slices_S2_S1_0) shapeCasts_S1_S_) (ix1 0) = own (ix1 0) by pointwise,
      signed _ (by omega), hn]) i j

/-- The matrix the second index picks of four. -/
theorem second_picked (x : FVec Ideal S4x2048x1024 .bf16) (own : IVec S2 32) (n : Fin 4) (hn : (own (ix1 1)).toNat = n.val) (i : Fin 2048) (j : Fin 1024) :
    Host.gather gather_S4x2048x1024_S1_S2048x1024_01_0_n_n_0_0_120481024 x
      (broadcastInDim S1 ![] bcast_S_S1 (shapeCast S_ (extractStridedSlice S1 ![1] own slices_S2_S1_1) shapeCasts_S1_S_)) (ix2 i j) = x (ix3 n i j) :=
  slab_apply _ x _ n (by
    rw [show broadcastInDim S1 ![] bcast_S_S1 (shapeCast S_ (extractStridedSlice S1 ![1] own slices_S2_S1_1) shapeCasts_S1_S_) (ix1 0) = own (ix1 1) by pointwise,
      signed _ (by omega), hn]) i j

end Cert.StepinRefIdeal

namespace Cert.StepinClaims

open Cert.Shared Cert.StepinIdeal.Owned

/-- The gradient, the three chips' sums added up first. -/
theorem grad_eq (m : (ℓ : Loc Cert.StepinIdeal.nD Cert.StepinIdeal.τ Cert.StepinIdeal.sig) → Buf (Elt Ideal) ℓ) (c : Dev Cert.StepinIdeal.nD)
    (n : Fin 8) (q : Fin 4) (i : Fin 2048) (j : Fin 1024) : Cert.StepinIdeal.grad m c n q i j
      = Cert.StepinIdeal.mineOf m c (ix3 n i j) + Cert.StepinIdeal.sibOf m c (ix3 q i j) + ∑ x : Fin 3, Cert.StepinIdeal.chipsOf m c (ix3 x i j) := by
  rw [Fin.sum_univ_three, ← add_assoc, ← add_assoc]
  rfl

theorem owned (m : (ℓ : Loc Cert.StepinIdeal.nD Cert.StepinIdeal.τ Cert.StepinIdeal.sig) → Buf (Elt Ideal) ℓ) (h : Cert.Pre_StepinIdeal m) :
    (Cert.StepinIdeal.ownOf m 0 (ix1 0)).toNat < 8 ∧ (Cert.StepinIdeal.ownOf m 0 (ix1 1)).toNat < 4 :=
  lt_of_pre _ _ _ _ _ _ _ (h 0)

theorem frame : quiescent_Stepin := fun m ρ h =>
  Cert.Stepin.Gen.frame m ρ (ok_launch m (lt_of_pre _ _ _ _ _ _ _ (h 0)))

theorem frame_ideal : quiescent_StepinIdeal := fun m ρ h =>
  Cert.StepinIdeal.Gen.frame m ρ (ok_launch m (lt_of_pre _ _ _ _ _ _ _ (h 0)))

theorem frame_reference : quiescent_StepinRefIdeal := fun m ρ _ =>
  (θ_run _ _ _).mono (fun r h => ⟨fun c => (h c).2.2.2.2, sem_eq_zero_of_no_sems (by decide) r.2⟩)
    (Cert.StepinRefIdeal.Value.run m ρ)

theorem frame_reference_owned : quiescent_StepinRefIdeal_pre_stepin_owned := fun m ρ _ => frame_reference m ρ trivial

theorem value : algebraic_StepinIdeal_StepinRefIdeal := by
  intro m g m' g' hpre hagree
  have ho := owned m hpre
  have hO := ok_launch m ho
  have hn : (Cert.StepinIdeal.ownOf m 0 (ix1 0)).toNat = (⟨_, ho.1⟩ : Fin 8).val := rfl
  have hq : (Cert.StepinIdeal.ownOf m 0 (ix1 1)).toNat = (⟨_, ho.2⟩ : Fin 4).val := rfl
  generalize (⟨_, ho.1⟩ : Fin 8) = n at hn
  generalize (⟨_, ho.2⟩ : Fin 4) = q at hq
  refine ⟨fun c => (fun y : Cert.StepinIdeal.S2048x1024.Idx => Cert.StepinIdeal.grad m c n q (y 0) (y 1)),
    fun c => (fun y : Cert.StepinIdeal.S2048x1024.Idx => change (Cert.StepinIdeal.wOf m c (ix3 0 (y 0) (y 1)))
      (Cert.StepinIdeal.grad m c n q (y 0) (y 1)) (Cert.StepinIdeal.mOf m c (ix3 0 (y 0) (y 1))) (Cert.StepinIdeal.vOf m c (ix3 0 (y 0) (y 1)))),
    fun c => (fun y : Cert.StepinIdeal.S2048x1024.Idx => nextM (Cert.StepinIdeal.grad m c n q (y 0) (y 1)) (Cert.StepinIdeal.mOf m c (ix3 0 (y 0) (y 1)))),
    fun c => (fun y : Cert.StepinIdeal.S2048x1024.Idx => nextV (Cert.StepinIdeal.grad m c n q (y 0) (y 1)) (Cert.StepinIdeal.vOf m c (ix3 0 (y 0) (y 1)))),
    (θ_run _ _ _).mono (fun r h c => ?_)
    (θ_run_and (Cert.StepinIdeal.Gen.run_main m g hO) (Cert.StepinIdeal.Gen.unchanged m g hO)), ?_⟩
  · exact ⟨((h.1 c).1 6).trans (Cert.StepinIdeal.arrays m hO c n q hn hq).1, ((h.1 c).1 7).trans (Cert.StepinIdeal.arrays m hO c n q hn hq).2.1,
      ((h.1 c).1 8).trans (Cert.StepinIdeal.arrays m hO c n q hn hq).2.2.1, ((h.1 c).1 9).trans (Cert.StepinIdeal.arrays m hO c n q hn hq).2.2.2, h.2 c⟩
  refine (θ_run _ _ _).mono (fun r h c => ?_) (Cert.StepinRefIdeal.Value.run m' g')
  obtain ⟨h0, h1, h2, h3, h4⟩ := h c
  obtain ⟨a0, a1, a2, a3, a4, a5, a6⟩ := hagree c
  obtain rfl : c = 0 := Subsingleton.elim _ _
  refine ⟨h0.trans ?_, h1.trans ?_, h2.trans ?_, h3.trans ?_, h4⟩
  all_goals
    rw [a0, a4, a5, a6]
    try rw [a1]
    try rw [a2]
    try rw [a3]
    funext y
    obtain ⟨i, j, rfl⟩ : ∃ (i : Fin 2048) (j : Fin 1024), y = ix2 i j := ⟨y 0, y 1, eq_ix2 y⟩
    pointwise [Cert.StepinRefIdeal.first_picked _ _ n hn, Cert.StepinRefIdeal.second_picked _ _ q hq, change, nextM, nextV]
    rw [grad_eq]

end Cert.StepinClaims

end
-- ==== Proof.Taps.Claims.lean ====
/- The optimiser's step of the convolution taps: each entry of the moments and of the change is the reference's. -/
module

public import Idealize.ShloMosaic.Lib.Pipeline.ValueKit
public import Idealize.ShloMosaic.Lib.Pointwise
public import proofs.«01_k».proof.Defs
public import proofs.«01_k».proof.Proof.Gen.Taps.Frame
public import proofs.«01_k».proof.Proof.Gen.TapsIdeal.Value
public import proofs.«01_k».proof.Proof.Gen.TapsRefIdeal.Run
public import proofs.«01_k».proof.Proof.Adam

@[expose] public section

set_option maxRecDepth 16384

noncomputable section

open Idealize.ShloMosaic Idealize.ShloMosaic.TcCoe Idealize.ShloMosaic.Tactic Idealize.SL.Sem
open Idealize.ShloMosaic.Pipeline (Dat)

namespace Cert.TapsIdeal.Value

open Cert.TapsIdeal Cert.TapsIdeal.Gen Cert.Shared

section Payload

variable (w g m v : FVec Ideal S3x128 .f32) (i : Fin 3) (j : Fin 128)

theorem pay1_at : k0_pay1 (F := Ideal) g m (ix2 i j) = nextM (g (ix2 i j)) (m (ix2 i j)) := by
  pointwise [k0_pay1]
  rfl

theorem pay2_at : k0_pay2 (F := Ideal) g v (ix2 i j) = nextV (g (ix2 i j)) (v (ix2 i j)) := by
  pointwise [k0_pay2]
  rfl

theorem pay3_at : k0_pay3 (F := Ideal) w g m v (ix2 i j) = change (w (ix2 i j)) (g (ix2 i j)) (m (ix2 i j)) (v (ix2 i j)) := by
  pointwise [k0_pay3]
  rw [pay1_at, pay2_at]
  rfl

end Payload

variable (m : (ℓ : Loc nD τ sig) → Buf (Elt Ideal) ℓ) (c : Dev nD)

/-- The argument arrays, at their shapes: the gradient, the taps and their moments. -/
abbrev gOf : FVec Ideal S3x128 .f32 := m ((c.tc : Thread nD τ).loc main_arg0)
abbrev wOf : FVec Ideal S1x3x128 .f32 := m ((c.tc : Thread nD τ).loc main_arg1)
abbrev mOf : FVec Ideal S1x3x128 .f32 := m ((c.tc : Thread nD τ).loc main_arg2)
abbrev vOf : FVec Ideal S1x3x128 .f32 := m ((c.tc : Thread nD τ).loc main_arg3)

section Blocks

variable (t : Fin cfg0.N) (i : Fin 3) (j : Fin 128)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem block0 : iblk m c 0 t (ix2 i j) = wOf m c (ix3 0 i j) := by
  blk_point [iblk, V, idx t]

theorem block1 : iblk m c 1 t (ix2 i j) = gOf m c (ix2 i j) := by
  blk_point [iblk, V, idx t]

theorem block2 : iblk m c 2 t (ix2 i j) = mOf m c (ix3 0 i j) := by
  blk_point [iblk, V, idx t]

theorem block3 : iblk m c 3 t (ix2 i j) = vOf m c (ix3 0 i j) := by
  blk_point [iblk, V, idx t]

end Blocks

theorem array_m : (dats m 0 c).arrAt 5 cfg0.N = fun y => nextM (gOf m c y) (mOf m c (ix3 0 (y 0) (y 1))) := by
  refine (dats m 0 c).arrAt_eq_of_covers 5 _ (by decide +kernel) fun t _ y => ?_
  blk_simp
  rw [after0_5]
  obtain ⟨i, j, rfl⟩ : ∃ (i : Fin 3) (j : Fin 128), y = ix2 i j := ⟨y 0, y 1, eq_ix2 y⟩
  have e : ((View.whole main_v3_1).slice (win0_5.rect t)).emb (ix2 i j) = ix2 i j := by
    blk_ext [idx t]
  rw [e]
  frame_out
  refine (pay1_at _ _ i j).trans ?_
  simp only [block1 m c t, block2 m c t]
  rfl

theorem array_v : (dats m 0 c).arrAt 6 cfg0.N = fun y => nextV (gOf m c y) (vOf m c (ix3 0 (y 0) (y 1))) := by
  refine (dats m 0 c).arrAt_eq_of_covers 6 _ (by decide +kernel) fun t _ y => ?_
  blk_simp
  rw [after0_6]
  obtain ⟨i, j, rfl⟩ : ∃ (i : Fin 3) (j : Fin 128), y = ix2 i j := ⟨y 0, y 1, eq_ix2 y⟩
  have e : ((View.whole main_v3_2).slice (win0_6.rect t)).emb (ix2 i j) = ix2 i j := by
    blk_ext [idx t]
  rw [e]
  frame_out
  refine (pay2_at _ _ i j).trans ?_
  simp only [block1 m c t, block3 m c t]
  rfl

theorem array_change : (dats m 0 c).arrAt 4 cfg0.N
    = fun y => change (wOf m c (ix3 0 (y 0) (y 1))) (gOf m c y) (mOf m c (ix3 0 (y 0) (y 1))) (vOf m c (ix3 0 (y 0) (y 1))) := by
  refine (dats m 0 c).arrAt_eq_of_covers 4 _ (by decide +kernel) fun t _ y => ?_
  blk_simp
  rw [after0_4]
  obtain ⟨i, j, rfl⟩ : ∃ (i : Fin 3) (j : Fin 128), y = ix2 i j := ⟨y 0, y 1, eq_ix2 y⟩
  have e : ((View.whole main_v3_0).slice (win0_4.rect t)).emb (ix2 i j) = ix2 i j := by
    blk_ext [idx t]
  rw [e]
  frame_out
  refine (pay3_at _ _ _ _ i j).trans ?_
  simp only [block0 m c t, block1 m c t, block2 m c t, block3 m c t]
  rfl

end Cert.TapsIdeal.Value

namespace Cert.TapsClaims

open Cert.Shared

theorem value : algebraic_TapsIdeal_TapsRefIdeal := by
  intro m g m' g' _ hagree
  refine ⟨_, _, _, (θ_run _ _ _).mono (fun r h c => h c) (Cert.TapsIdeal.Value.run_blocks m g), ?_⟩
  refine (θ_run _ _ _).mono (fun r h c => ?_) (Cert.TapsRefIdeal.Value.run m' g')
  obtain ⟨h0, h1, h2, h3⟩ := h c
  obtain ⟨a0, a1, a2, a3⟩ := hagree c
  refine ⟨h0.trans ?_, h1.trans ?_, h2.trans ?_, h3⟩
  · rw [Cert.TapsIdeal.Value.array_change, a0, a1, a2, a3]
    funext y
    obtain ⟨i, j, rfl⟩ : ∃ (i : Fin 3) (j : Fin 128), y = ix2 i j := ⟨y 0, y 1, eq_ix2 y⟩
    pointwise
    rfl
  · rw [Cert.TapsIdeal.Value.array_m, a0, a2]
    funext y
    obtain ⟨i, j, rfl⟩ : ∃ (i : Fin 3) (j : Fin 128), y = ix2 i j := ⟨y 0, y 1, eq_ix2 y⟩
    pointwise
    rfl
  · rw [Cert.TapsIdeal.Value.array_v, a0, a3]
    funext y
    obtain ⟨i, j, rfl⟩ : ∃ (i : Fin 3) (j : Fin 128), y = ix2 i j := ⟨y 0, y 1, eq_ix2 y⟩
    pointwise
    rfl

theorem frame_reference : quiescent_TapsRefIdeal := fun m ρ _ =>
  (θ_run _ _ _).mono (fun r h => ⟨fun c => (h c).2.2.2, sem_eq_zero_of_no_sems (by decide) r.2⟩)
    (Cert.TapsRefIdeal.Value.run m ρ)

end Cert.TapsClaims

end
-- ==== Proof.Cast.Claims.lean ====
/- The rounding of a weight's columns in two halves: without rounding each half is a copy. -/
module

public import Idealize.ShloMosaic.Lib.Pipeline.ValueKit
public import Idealize.ShloMosaic.Lib.Pointwise
public import proofs.«01_k».proof.Defs
public import proofs.«01_k».proof.Proof.Gen.Cast.Frame
public import proofs.«01_k».proof.Proof.Gen.CastIdeal.Value
public import proofs.«01_k».proof.Proof.Gen.CastRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.CastClaims

open Cert.CastRefIdeal

/-- A thousand and twenty-four columns of the weight, from column `o` on. -/
def half (o : Nat) (ho : o ≤ 1024) (w : FVec Ideal S1x704x2048 .f32) : FVec Ideal S704x1024 .bf16 :=
  fun y => w (ix3 0 (y 0) ⟨o + (y 1 : Fin 1024).val, by have h : (y 1 : Fin 1024).val < 1024 := (y 1).2; omega⟩)

/-- The reference's half: the columns cut out of the reshaped weight. -/
theorem cut_eq (o : Nat) (ho : o ≤ 1024) (w : FVec Ideal S1x704x2048 .f32) (hr : S1x704x2048.ShapeCasts S704x2048)
    (hs : S704x2048.Slices ![0, o] S704x1024) (hb : FTy.bits .bf16 < FTy.bits .f32) :
    extractStridedSlice S704x1024 ![0, o] (truncf .bf16 (shapeCast S704x2048 w hr) hb) hs = half o ho w := by
  funext y
  obtain ⟨i, j, rfl⟩ : ∃ (i : Fin 704) (j : Fin 1024), y = ix2 i j := ⟨y 0, y 1, eq_ix2 y⟩
  pointwise
  exact congrArg w (by blk_ext)

end Cert.CastClaims

namespace Cert.CastIdeal.Value

open Cert.CastIdeal Cert.CastIdeal.Gen Cert.CastClaims

variable (m : (ℓ : Loc nD τ sig) → Buf (Elt Ideal) ℓ) (c : Dev nD)

/-- The argument array, at its shape: the weight. -/
abbrev wOf : FVec Ideal S1x704x2048 .f32 := m ((c.tc : Thread nD τ).loc main_arg0)

theorem idx : ∀ t : Fin cfg0.N, win0_0.index t = ![t.val, 0] ∧ win0_1.index t = ![t.val, 0] ∧ win0_2.index t = ![t.val, 0] :=
  (by decide +kernel : ∀ t : Fin grid0.N, _)

/-- The row of the array a block's row is. -/
abbrev row (t : Fin cfg0.N) (i : Fin 176) : Fin 704 := ⟨t.val * 176 + i.val, by have h : t.val < 4 := t.2; omega⟩

section Blocks

variable (t : Fin cfg0.N) (i : Fin 176)

theorem block0 (j : Fin 2048) : iblk m c 0 t (ix2 i j) = wOf m c (ix3 0 (row t i) j) := by
  blk_point [iblk, V, idx t]

/-- What a point writes of a half is that half's rows. -/
theorem half_row (o : Nat) (ho : o ≤ 1024) (j : Fin 1024) :
    iblk m c 0 t (ix2 i ⟨o + j.val, by omega⟩) = half o ho (wOf m c) (ix2 (row t i) j) :=
  block0 m c t i ⟨o + j.val, by omega⟩

end Blocks

theorem left : (dats m 0 c).arrAt 1 cfg0.N = half 0 (by decide) (wOf m c) := by
  refine (dats m 0 c).arrAt_eq_of_covers 1 _ (by decide +kernel) fun t _ y => ?_
  blk_simp
  rw [after0_1]
  obtain ⟨i, j, rfl⟩ : ∃ (i : Fin 176) (j : Fin 1024), y = ix2 i j := ⟨y 0, y 1, eq_ix2 y⟩
  have e : ((View.whole main_v1_0).slice (win0_1.rect t)).emb (ix2 i j) = ix2 (row t i) j := by
    blk_ext [idx t]
  rw [e]
  frame_out
  pointwise [k0_pay1]
  exact (congrArg (iblk m c 0 t) (by blk_ext [Rect.idx_unit_val])).trans (half_row m c t i 0 _ j)

theorem right : (dats m 0 c).arrAt 2 cfg0.N = half 1024 (by decide) (wOf m c) := by
  refine (dats m 0 c).arrAt_eq_of_covers 2 _ (by decide +kernel) fun t _ y => ?_
  blk_simp
  rw [after0_2]
  obtain ⟨i, j, rfl⟩ : ∃ (i : Fin 176) (j : Fin 1024), y = ix2 i j := ⟨y 0, y 1, eq_ix2 y⟩
  have e : ((View.whole main_v1_1).slice (win0_2.rect t)).emb (ix2 i j) = ix2 (row t i) j := by
    blk_ext [idx t]
  rw [e]
  frame_out
  pointwise [k0_pay2]
  exact (congrArg (iblk m c 0 t) (by blk_ext [Rect.idx_unit_val])).trans (half_row m c t i 1024 _ j)

end Cert.CastIdeal.Value

namespace Cert.CastClaims

theorem value : algebraic_CastIdeal_CastRefIdeal := by
  intro m g m' g' _ hagree
  refine ⟨_, _, (θ_run _ _ _).mono (fun r h c => h c) (Cert.CastIdeal.Value.run_blocks m g), ?_⟩
  refine (θ_run _ _ _).mono (fun r h c => ?_) (Cert.CastRefIdeal.Value.run m' g')
  obtain ⟨h0, h1, h2⟩ := h c
  refine ⟨h0.trans ?_, h1.trans ?_, h2⟩
  · rw [Cert.CastIdeal.Value.left, hagree c]
    exact cut_eq 0 (by decide) _ _ _ _
  · rw [Cert.CastIdeal.Value.right, hagree c]
    exact cut_eq 1024 (by decide) _ _ _ _

theorem frame_reference : quiescent_CastRefIdeal := fun m ρ _ =>
  (θ_run _ _ _).mono (fun r h => ⟨fun c => (h c).2.2, sem_eq_zero_of_no_sems (by decide) r.2⟩)
    (Cert.CastRefIdeal.Value.run m ρ)

end Cert.CastClaims

end
-- ==== Proof.lean ====
/- The claims, assembled: for each pair of programs the frames, the idealization, and that the kernel's results are the
   reference's. -/
module

public import proofs.«01_k».proof.Defs
public import proofs.«01_k».proof.Proof.Gen.Rms2
public import proofs.«01_k».proof.Proof.Gen.Rms2.Skeleton
public import proofs.«01_k».proof.Proof.Gen.Rms2.Launch
public import proofs.«01_k».proof.Proof.Gen.Rms2.Points
public import proofs.«01_k».proof.Proof.Gen.Rms2.Frame
public import proofs.«01_k».proof.Proof.Gen.Rms2Ideal
public import proofs.«01_k».proof.Proof.Gen.Rms2Ideal.Skeleton
public import proofs.«01_k».proof.Proof.Gen.Rms2Ideal.Launch
public import proofs.«01_k».proof.Proof.Gen.Rms2Ideal.Points
public import proofs.«01_k».proof.Proof.Gen.Rms2Ideal.Frame
public import proofs.«01_k».proof.Proof.Gen.Rms2RefIdeal
public import proofs.«01_k».proof.Proof.Gen.Rms2RefIdeal.Run
public import proofs.«01_k».proof.Proof.Gen.Rms2Ideal.Value
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossIdeal.Value
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolRefIdeal.Run
public import proofs.«01_k».proof.Proof.Gen.PoolIdeal.Value
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Rms1
public import proofs.«01_k».proof.Proof.Gen.Rms1.Skeleton
public import proofs.«01_k».proof.Proof.Gen.Rms1.Launch
public import proofs.«01_k».proof.Proof.Gen.Rms1.Points
public import proofs.«01_k».proof.Proof.Gen.Rms1.Frame
public import proofs.«01_k».proof.Proof.Gen.Rms1Ideal
public import proofs.«01_k».proof.Proof.Gen.Rms1Ideal.Skeleton
public import proofs.«01_k».proof.Proof.Gen.Rms1Ideal.Launch
public import proofs.«01_k».proof.Proof.Gen.Rms1Ideal.Points
public import proofs.«01_k».proof.Proof.Gen.Rms1Ideal.Frame
public import proofs.«01_k».proof.Proof.Gen.Rms1RefIdeal
public import proofs.«01_k».proof.Proof.Gen.Rms1RefIdeal.Run
public import proofs.«01_k».proof.Proof.Gen.Rms1Ideal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.NormIdeal.Value
public import proofs.«01_k».proof.Proof.Gen.Short
public import proofs.«01_k».proof.Proof.Gen.Short.Skeleton
public import proofs.«01_k».proof.Proof.Gen.Short.Launch
public import proofs.«01_k».proof.Proof.Gen.Short.Points
public import proofs.«01_k».proof.Proof.Gen.Short.Frame
public import proofs.«01_k».proof.Proof.Gen.ShortIdeal
public import proofs.«01_k».proof.Proof.Gen.ShortIdeal.Skeleton
public import proofs.«01_k».proof.Proof.Gen.ShortIdeal.Launch
public import proofs.«01_k».proof.Proof.Gen.ShortIdeal.Points
public import proofs.«01_k».proof.Proof.Gen.ShortIdeal.Frame
public import proofs.«01_k».proof.Proof.Gen.ShortRefIdeal
public import proofs.«01_k».proof.Proof.Gen.ShortRefIdeal.Run
public import proofs.«01_k».proof.Proof.Gen.ShortIdeal.Value
public import proofs.«01_k».proof.Proof.Gen.Trail
public import proofs.«01_k».proof.Proof.Gen.Trail.Skeleton
public import proofs.«01_k».proof.Proof.Gen.Trail.Launch
public import proofs.«01_k».proof.Proof.Gen.Trail.Points
public import proofs.«01_k».proof.Proof.Gen.Trail.Frame
public import proofs.«01_k».proof.Proof.Gen.TrailIdeal
public import proofs.«01_k».proof.Proof.Gen.TrailIdeal.Skeleton
public import proofs.«01_k».proof.Proof.Gen.TrailIdeal.Launch
public import proofs.«01_k».proof.Proof.Gen.TrailIdeal.Points
public import proofs.«01_k».proof.Proof.Gen.TrailIdeal.Frame
public import proofs.«01_k».proof.Proof.Gen.TrailRefIdeal
public import proofs.«01_k».proof.Proof.Gen.TrailRefIdeal.Run
public import proofs.«01_k».proof.Proof.Gen.TrailIdeal.Value
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutIdeal.Value
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjIdeal.Value
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.GateIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.DownIdeal.Value
public import proofs.«01_k».proof.Proof.Gen.Rowgrad
public import proofs.«01_k».proof.Proof.Gen.Rowgrad.Skeleton
public import proofs.«01_k».proof.Proof.Gen.Rowgrad.Launch
public import proofs.«01_k».proof.Proof.Gen.Rowgrad.Points
public import proofs.«01_k».proof.Proof.Gen.Rowgrad.Frame
public import proofs.«01_k».proof.Proof.Gen.RowgradIdeal
public import proofs.«01_k».proof.Proof.Gen.RowgradIdeal.Skeleton
public import proofs.«01_k».proof.Proof.Gen.RowgradIdeal.Launch
public import proofs.«01_k».proof.Proof.Gen.RowgradIdeal.Points
public import proofs.«01_k».proof.Proof.Gen.RowgradIdeal.Frame
public import proofs.«01_k».proof.Proof.Gen.RowgradRefIdeal
public import proofs.«01_k».proof.Proof.Gen.RowgradRefIdeal.Run
public import proofs.«01_k».proof.Proof.Gen.RowgradIdeal.Value
public import proofs.«01_k».proof.Proof.Gen.Colgrad
public import proofs.«01_k».proof.Proof.Gen.Colgrad.Skeleton
public import proofs.«01_k».proof.Proof.Gen.Colgrad.Launch
public import proofs.«01_k».proof.Proof.Gen.Colgrad.Points
public import proofs.«01_k».proof.Proof.Gen.Colgrad.Frame
public import proofs.«01_k».proof.Proof.Gen.ColgradIdeal
public import proofs.«01_k».proof.Proof.Gen.ColgradIdeal.Skeleton
public import proofs.«01_k».proof.Proof.Gen.ColgradIdeal.Launch
public import proofs.«01_k».proof.Proof.Gen.ColgradIdeal.Points
public import proofs.«01_k».proof.Proof.Gen.ColgradIdeal.Frame
public import proofs.«01_k».proof.Proof.Gen.ColgradRefIdeal
public import proofs.«01_k».proof.Proof.Gen.ColgradRefIdeal.Run
public import proofs.«01_k».proof.Proof.Gen.ColgradIdeal.Value
public import proofs.«01_k».proof.Proof.Gen.Fullgrad
public import proofs.«01_k».proof.Proof.Gen.Fullgrad.Skeleton
public import proofs.«01_k».proof.Proof.Gen.Fullgrad.Launch
public import proofs.«01_k».proof.Proof.Gen.Fullgrad.Points
public import proofs.«01_k».proof.Proof.Gen.Fullgrad.Frame
public import proofs.«01_k».proof.Proof.Gen.FullgradIdeal
public import proofs.«01_k».proof.Proof.Gen.FullgradIdeal.Skeleton
public import proofs.«01_k».proof.Proof.Gen.FullgradIdeal.Launch
public import proofs.«01_k».proof.Proof.Gen.FullgradIdeal.Points
public import proofs.«01_k».proof.Proof.Gen.FullgradIdeal.Frame
public import proofs.«01_k».proof.Proof.Gen.FullgradRefIdeal
public import proofs.«01_k».proof.Proof.Gen.FullgradRefIdeal.Run
public import proofs.«01_k».proof.Proof.Gen.FullgradIdeal.Value
public import proofs.«01_k».proof.Proof.Gen.Poolgrad
public import proofs.«01_k».proof.Proof.Gen.Poolgrad.Skeleton
public import proofs.«01_k».proof.Proof.Gen.Poolgrad.Launch
public import proofs.«01_k».proof.Proof.Gen.Poolgrad.Points
public import proofs.«01_k».proof.Proof.Gen.Poolgrad.Frame
public import proofs.«01_k».proof.Proof.Gen.PoolgradIdeal
public import proofs.«01_k».proof.Proof.Gen.PoolgradIdeal.Skeleton
public import proofs.«01_k».proof.Proof.Gen.PoolgradIdeal.Launch
public import proofs.«01_k».proof.Proof.Gen.PoolgradIdeal.Points
public import proofs.«01_k».proof.Proof.Gen.PoolgradIdeal.Frame
public import proofs.«01_k».proof.Proof.Gen.PoolgradRefIdeal
public import proofs.«01_k».proof.Proof.Gen.PoolgradRefIdeal.Run
public import proofs.«01_k».proof.Proof.Gen.PoolgradIdeal.Value
public import proofs.«01_k».proof.Proof.Gen.Entry
public import proofs.«01_k».proof.Proof.Gen.Entry.Skeleton
public import proofs.«01_k».proof.Proof.Gen.Entry.Launch
public import proofs.«01_k».proof.Proof.Gen.Entry.Points
public import proofs.«01_k».proof.Proof.Gen.Entry.Frame
public import proofs.«01_k».proof.Proof.Gen.EntryIdeal
public import proofs.«01_k».proof.Proof.Gen.EntryIdeal.Skeleton
public import proofs.«01_k».proof.Proof.Gen.EntryIdeal.Launch
public import proofs.«01_k».proof.Proof.Gen.EntryIdeal.Points
public import proofs.«01_k».proof.Proof.Gen.EntryIdeal.Frame
public import proofs.«01_k».proof.Proof.Gen.EntryRefIdeal
public import proofs.«01_k».proof.Proof.Gen.EntryRefIdeal.Run
public import proofs.«01_k».proof.Proof.Gen.EntryIdeal.Value
public import proofs.«01_k».proof.Proof.Gen.Chipsum
public import proofs.«01_k».proof.Proof.Gen.Chipsum.Skeleton
public import proofs.«01_k».proof.Proof.Gen.Chipsum.Launch
public import proofs.«01_k».proof.Proof.Gen.Chipsum.Points
public import proofs.«01_k».proof.Proof.Gen.Chipsum.Frame
public import proofs.«01_k».proof.Proof.Gen.ChipsumIdeal
public import proofs.«01_k».proof.Proof.Gen.ChipsumIdeal.Skeleton
public import proofs.«01_k».proof.Proof.Gen.ChipsumIdeal.Launch
public import proofs.«01_k».proof.Proof.Gen.ChipsumIdeal.Points
public import proofs.«01_k».proof.Proof.Gen.ChipsumIdeal.Frame
public import proofs.«01_k».proof.Proof.Gen.ChipsumRefIdeal
public import proofs.«01_k».proof.Proof.Gen.ChipsumRefIdeal.Run
public import proofs.«01_k».proof.Proof.Gen.Stepin
public import proofs.«01_k».proof.Proof.Gen.Stepin.Skeleton
public import proofs.«01_k».proof.Proof.Gen.Stepin.Launch
public import proofs.«01_k».proof.Proof.Gen.Stepin.Points
public import proofs.«01_k».proof.Proof.Gen.Stepin.Frame
public import proofs.«01_k».proof.Proof.Gen.StepinIdeal
public import proofs.«01_k».proof.Proof.Gen.StepinIdeal.Skeleton
public import proofs.«01_k».proof.Proof.Gen.StepinIdeal.Launch
public import proofs.«01_k».proof.Proof.Gen.StepinIdeal.Points
public import proofs.«01_k».proof.Proof.Gen.StepinIdeal.Frame
public import proofs.«01_k».proof.Proof.Gen.StepinRefIdeal
public import proofs.«01_k».proof.Proof.Gen.StepinRefIdeal.Run
public import proofs.«01_k».proof.Proof.Gen.Taps
public import proofs.«01_k».proof.Proof.Gen.Taps.Skeleton
public import proofs.«01_k».proof.Proof.Gen.Taps.Launch
public import proofs.«01_k».proof.Proof.Gen.Taps.Points
public import proofs.«01_k».proof.Proof.Gen.Taps.Frame
public import proofs.«01_k».proof.Proof.Gen.TapsIdeal
public import proofs.«01_k».proof.Proof.Gen.TapsIdeal.Skeleton
public import proofs.«01_k».proof.Proof.Gen.TapsIdeal.Launch
public import proofs.«01_k».proof.Proof.Gen.TapsIdeal.Points
public import proofs.«01_k».proof.Proof.Gen.TapsIdeal.Frame
public import proofs.«01_k».proof.Proof.Gen.TapsRefIdeal
public import proofs.«01_k».proof.Proof.Gen.TapsRefIdeal.Run
public import proofs.«01_k».proof.Proof.Gen.TapsIdeal.Value
public import proofs.«01_k».proof.Proof.Gen.Cast
public import proofs.«01_k».proof.Proof.Gen.Cast.Skeleton
public import proofs.«01_k».proof.Proof.Gen.Cast.Launch
public import proofs.«01_k».proof.Proof.Gen.Cast.Points
public import proofs.«01_k».proof.Proof.Gen.Cast.Frame
public import proofs.«01_k».proof.Proof.Gen.CastIdeal
public import proofs.«01_k».proof.Proof.Gen.CastIdeal.Skeleton
public import proofs.«01_k».proof.Proof.Gen.CastIdeal.Launch
public import proofs.«01_k».proof.Proof.Gen.CastIdeal.Points
public import proofs.«01_k».proof.Proof.Gen.CastIdeal.Frame
public import proofs.«01_k».proof.Proof.Gen.CastRefIdeal
public import proofs.«01_k».proof.Proof.Gen.CastRefIdeal.Run
public import proofs.«01_k».proof.Proof.Gen.CastIdeal.Value
public import proofs.«01_k».proof.Proof.Gen.Pre_rms2_finite
public import proofs.«01_k».proof.Proof.Gen.Pre_loss_finite
public import proofs.«01_k».proof.Proof.Gen.Pre_pool_finite
public import proofs.«01_k».proof.Proof.Gen.Pre_ffn_finite
public import proofs.«01_k».proof.Proof.Gen.Pre_rms1_finite
public import proofs.«01_k».proof.Proof.Gen.Pre_trail_finite
public import proofs.«01_k».proof.Proof.Gen.Pre_chipsum_owned
public import proofs.«01_k».proof.Proof.Gen.Pre_stepin_owned
public import proofs.«01_k».proof.Proof.Gen.On_gates_written
public import proofs.«01_k».proof.Proof.Gen.On_chips_written
public import proofs.«01_k».proof.Proof.Rms2.Claims
public import proofs.«01_k».proof.Proof.Loss.Claims
public import proofs.«01_k».proof.Proof.Pool.Claims
public import proofs.«01_k».proof.Proof.Conv.Claims
public import proofs.«01_k».proof.Proof.Merge.Claims
public import proofs.«01_k».proof.Proof.Ffn.Claims
public import proofs.«01_k».proof.Proof.Rms1.Claims
public import proofs.«01_k».proof.Proof.Norm.Claims
public import proofs.«01_k».proof.Proof.Short.Claims
public import proofs.«01_k».proof.Proof.Trail.Claims
public import proofs.«01_k».proof.Proof.Out.Claims
public import proofs.«01_k».proof.Proof.Proj.Claims
public import proofs.«01_k».proof.Proof.Gate.Claims
public import proofs.«01_k».proof.Proof.Down.Claims
public import proofs.«01_k».proof.Proof.Rowgrad.Claims
public import proofs.«01_k».proof.Proof.Colgrad.Claims
public import proofs.«01_k».proof.Proof.Fullgrad.Claims
public import proofs.«01_k».proof.Proof.Poolgrad.Claims
public import proofs.«01_k».proof.Proof.Entry.Claims
public import proofs.«01_k».proof.Proof.Chipsum.Claims
public import proofs.«01_k».proof.Proof.Stepin.Claims
public import proofs.«01_k».proof.Proof.Taps.Claims
public import proofs.«01_k».proof.Proof.Cast.Claims
public import Idealize.ShloMosaic.Adequacy
public import Idealize.ShloMosaic.Init

@[expose] public section

noncomputable section

namespace Cert.Proof

open Idealize.ShloMosaic Idealize.SL.Sem

theorem claim : Cert.Claim := ⟨Cert.Rms2.Gen.facts, Cert.Rms2Ideal.Gen.facts, Cert.Rms2RefIdeal.Gen.facts,
  Cert.Loss.Gen.facts, Cert.LossIdeal.Gen.facts, Cert.LossRefIdeal.Gen.facts,
  Cert.Pool.Gen.facts, Cert.PoolIdeal.Gen.facts, Cert.PoolRefIdeal.Gen.facts,
  Cert.Conv.Gen.facts, Cert.ConvIdeal.Gen.facts, Cert.ConvRefIdeal.Gen.facts,
  Cert.Merge.Gen.facts, Cert.MergeIdeal.Gen.facts, Cert.MergeRefIdeal.Gen.facts,
  Cert.Ffn.Gen.facts, Cert.FfnIdeal.Gen.facts, Cert.FfnRefIdeal.Gen.facts,
  Cert.Rms1.Gen.facts, Cert.Rms1Ideal.Gen.facts, Cert.Rms1RefIdeal.Gen.facts,
  Cert.Norm.Gen.facts, Cert.NormIdeal.Gen.facts, Cert.NormRefIdeal.Gen.facts,
  Cert.Short.Gen.facts, Cert.ShortIdeal.Gen.facts, Cert.ShortRefIdeal.Gen.facts,
  Cert.Trail.Gen.facts, Cert.TrailIdeal.Gen.facts, Cert.TrailRefIdeal.Gen.facts,
  Cert.Out.Gen.facts, Cert.OutIdeal.Gen.facts, Cert.OutRefIdeal.Gen.facts,
  Cert.Proj.Gen.facts, Cert.ProjIdeal.Gen.facts, Cert.ProjRefIdeal.Gen.facts,
  Cert.Gate.Gen.facts, Cert.GateIdeal.Gen.facts, Cert.GateRefIdeal.Gen.facts,
  Cert.Down.Gen.facts, Cert.DownIdeal.Gen.facts, Cert.DownRefIdeal.Gen.facts,
  Cert.Rowgrad.Gen.facts, Cert.RowgradIdeal.Gen.facts, Cert.RowgradRefIdeal.Gen.facts,
  Cert.Colgrad.Gen.facts, Cert.ColgradIdeal.Gen.facts, Cert.ColgradRefIdeal.Gen.facts,
  Cert.Fullgrad.Gen.facts, Cert.FullgradIdeal.Gen.facts, Cert.FullgradRefIdeal.Gen.facts,
  Cert.Poolgrad.Gen.facts, Cert.PoolgradIdeal.Gen.facts, Cert.PoolgradRefIdeal.Gen.facts,
  Cert.Entry.Gen.facts, Cert.EntryIdeal.Gen.facts, Cert.EntryRefIdeal.Gen.facts,
  Cert.Chipsum.Gen.facts, Cert.ChipsumIdeal.Gen.facts, Cert.ChipsumRefIdeal.Gen.facts,
  Cert.Stepin.Gen.facts, Cert.StepinIdeal.Gen.facts, Cert.StepinRefIdeal.Gen.facts,
  Cert.Taps.Gen.facts, Cert.TapsIdeal.Gen.facts, Cert.TapsRefIdeal.Gen.facts,
  Cert.Cast.Gen.facts, Cert.CastIdeal.Gen.facts, Cert.CastRefIdeal.Gen.facts,
  Cert.Pre_rms2_finite.Gen.facts, Cert.Pre_loss_finite.Gen.facts, Cert.Pre_pool_finite.Gen.facts,
  Cert.Pre_ffn_finite.Gen.facts, Cert.Pre_rms1_finite.Gen.facts, Cert.Pre_trail_finite.Gen.facts,
  Cert.Pre_chipsum_owned.Gen.facts, Cert.Pre_stepin_owned.Gen.facts, Cert.On_gates_written.Gen.facts,
  Cert.On_chips_written.Gen.facts,
  fun m ρ _ => Cert.Rms2.Gen.frame m ρ,
  fun m ρ _ => Cert.Rms2Ideal.Gen.frame m ρ,
  fun m ρ _ => Cert.Rms2Ideal.Gen.frame m ρ,
  fun m ρ _ => Cert.Rms2Claims.frame_reference m ρ trivial,
  fun m ρ _ => Cert.Rms2Claims.frame_reference m ρ trivial,
  fun m ρ _ => Cert.Loss.Gen.frame m ρ,
  fun m ρ _ => Cert.LossIdeal.Gen.frame m ρ,
  fun m ρ _ => Cert.LossIdeal.Gen.frame m ρ,
  fun m ρ _ => Cert.LossClaims.frame_reference m ρ trivial,
  fun m ρ _ => Cert.LossClaims.frame_reference m ρ trivial,
  fun m ρ _ => Cert.Pool.Gen.frame m ρ,
  fun m ρ _ => Cert.PoolIdeal.Gen.frame m ρ,
  fun m ρ _ => Cert.PoolIdeal.Gen.frame m ρ,
  fun m ρ _ => Cert.PoolClaims.frame_reference m ρ trivial,
  fun m ρ _ => Cert.PoolClaims.frame_reference m ρ trivial,
  fun m ρ _ => Cert.Conv.Gen.frame m ρ,
  fun m ρ _ => Cert.ConvIdeal.Gen.frame m ρ,
  fun m ρ _ => Cert.ConvClaims.frame_reference m ρ trivial,
  fun m ρ _ => Cert.Merge.Gen.frame m ρ,
  fun m ρ _ => Cert.MergeIdeal.Gen.frame m ρ,
  fun m ρ _ => Cert.MergeClaims.frame_reference m ρ trivial,
  fun m ρ _ => Cert.Ffn.Gen.frame m ρ,
  fun m ρ _ => Cert.FfnIdeal.Gen.frame m ρ,
  fun m ρ _ => Cert.FfnIdeal.Gen.frame m ρ,
  fun m ρ _ => Cert.FfnClaims.frame_reference m ρ trivial,
  fun m ρ _ => Cert.FfnClaims.frame_reference m ρ trivial,
  fun m ρ _ => Cert.Rms1.Gen.frame m ρ,
  fun m ρ _ => Cert.Rms1Ideal.Gen.frame m ρ,
  fun m ρ _ => Cert.Rms1Ideal.Gen.frame m ρ,
  fun m ρ _ => Cert.Rms1Claims.frame_reference m ρ trivial,
  fun m ρ _ => Cert.Rms1Claims.frame_reference m ρ trivial,
  fun m ρ _ => Cert.Norm.Gen.frame m ρ,
  fun m ρ _ => Cert.NormIdeal.Gen.frame m ρ,
  fun m ρ _ => Cert.NormClaims.frame_reference m ρ trivial,
  fun m ρ _ => Cert.Short.Gen.frame m ρ,
  fun m ρ _ => Cert.ShortIdeal.Gen.frame m ρ,
  fun m ρ _ => Cert.ShortClaims.frame_reference m ρ trivial,
  fun m ρ _ => Cert.Trail.Gen.frame m ρ,
  fun m ρ _ => Cert.TrailIdeal.Gen.frame m ρ,
  fun m ρ _ => Cert.TrailIdeal.Gen.frame m ρ,
  fun m ρ _ => Cert.TrailClaims.frame_reference m ρ trivial,
  fun m ρ _ => Cert.TrailClaims.frame_reference m ρ trivial,
  fun m ρ _ => Cert.Out.Gen.frame m ρ,
  fun m ρ _ => Cert.OutIdeal.Gen.frame m ρ,
  fun m ρ _ => Cert.OutClaims.frame_reference m ρ trivial,
  fun m ρ _ => Cert.Proj.Gen.frame m ρ,
  fun m ρ _ => Cert.ProjIdeal.Gen.frame m ρ,
  fun m ρ _ => Cert.ProjClaims.frame_reference m ρ trivial,
  fun m ρ _ => Cert.Gate.Gen.frame m ρ,
  fun m ρ _ => Cert.GateIdeal.Gen.frame m ρ,
  fun m ρ _ => Cert.GateClaims.frame_reference m ρ trivial,
  fun m ρ _ => Cert.Down.Gen.frame m ρ,
  fun m ρ _ => Cert.DownIdeal.Gen.frame m ρ,
  fun m ρ _ => Cert.DownClaims.frame_reference m ρ trivial,
  fun m ρ _ => Cert.Rowgrad.Gen.frame m ρ,
  fun m ρ _ => Cert.RowgradIdeal.Gen.frame m ρ,
  fun m ρ _ => Cert.RowgradClaims.frame_reference m ρ trivial,
  fun m ρ _ => Cert.Colgrad.Gen.frame m ρ,
  fun m ρ _ => Cert.ColgradIdeal.Gen.frame m ρ,
  fun m ρ _ => Cert.ColgradClaims.frame_reference m ρ trivial,
  fun m ρ _ => Cert.Fullgrad.Gen.frame m ρ,
  fun m ρ _ => Cert.FullgradIdeal.Gen.frame m ρ,
  fun m ρ _ => Cert.FullgradClaims.frame_reference m ρ trivial,
  fun m ρ _ => Cert.Poolgrad.Gen.frame m ρ,
  fun m ρ _ => Cert.PoolgradIdeal.Gen.frame m ρ,
  fun m ρ _ => Cert.PoolgradClaims.frame_reference m ρ trivial,
  fun m ρ _ => Cert.Entry.Gen.frame m ρ,
  fun m ρ _ => Cert.EntryIdeal.Gen.frame m ρ,
  fun m ρ _ => Cert.EntryClaims.frame_reference m ρ trivial,
  fun m ρ h => Cert.ChipsumClaims.frame m ρ h,
  fun m ρ h => Cert.ChipsumClaims.frame_ideal m ρ h,
  fun m ρ h => Cert.ChipsumClaims.frame_reference m ρ h,
  fun m ρ h => Cert.ChipsumClaims.frame_reference_owned m ρ h,
  fun m ρ h => Cert.StepinClaims.frame m ρ h,
  fun m ρ h => Cert.StepinClaims.frame_ideal m ρ h,
  fun m ρ h => Cert.StepinClaims.frame_reference m ρ h,
  fun m ρ h => Cert.StepinClaims.frame_reference_owned m ρ h,
  fun m ρ _ => Cert.Taps.Gen.frame m ρ,
  fun m ρ _ => Cert.TapsIdeal.Gen.frame m ρ,
  fun m ρ _ => Cert.TapsClaims.frame_reference m ρ trivial,
  fun m ρ _ => Cert.Cast.Gen.frame m ρ,
  fun m ρ _ => Cert.CastIdeal.Gen.frame m ρ,
  fun m ρ _ => Cert.CastClaims.frame_reference m ρ trivial,
  trivial,
  Cert.Rms2Claims.value,
  trivial,
  Cert.LossClaims.value,
  trivial,
  Cert.PoolClaims.value,
  trivial,
  Cert.ConvClaims.value,
  trivial,
  Cert.MergeClaims.value,
  trivial,
  Cert.FfnClaims.value,
  trivial,
  Cert.Rms1Claims.value,
  trivial,
  Cert.NormClaims.value,
  trivial,
  Cert.ShortClaims.value,
  trivial,
  Cert.TrailClaims.value,
  trivial,
  Cert.OutClaims.value,
  trivial,
  Cert.ProjClaims.value,
  trivial,
  Cert.GateClaims.value,
  trivial,
  Cert.DownClaims.value,
  trivial,
  Cert.RowgradClaims.value,
  trivial,
  Cert.ColgradClaims.value,
  trivial,
  Cert.FullgradClaims.value,
  trivial,
  Cert.PoolgradClaims.value,
  trivial,
  Cert.EntryClaims.value,
  trivial,
  Cert.ChipsumClaims.value,
  trivial,
  Cert.StepinClaims.value,
  trivial,
  Cert.TapsClaims.value,
  trivial,
  Cert.CastClaims.value⟩

end Cert.Proof

end
